-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_HeadNorm (m : (ℓ : Loc Cert.HeadNorm.nD Cert.HeadNorm.τ Cert.HeadNorm.sig) → Buf (Elt Bits) ℓ) : Prop :=
  True

def Pre_HeadNormIdeal (m : (ℓ : Loc Cert.HeadNormIdeal.nD Cert.HeadNormIdeal.τ Cert.HeadNormIdeal.sig) → Buf (Elt Ideal) ℓ) : Prop :=
  True

def Pre_HeadNormReferenceIdeal (m : (ℓ : Loc Cert.HeadNormReferenceIdeal.nD Cert.HeadNormReferenceIdeal.τ Cert.HeadNormReferenceIdeal.sig) → Buf (Elt Ideal) ℓ) : Prop :=
  True

def Pre_HeadNormSample (m : (ℓ : Loc Cert.HeadNormSample.nD Cert.HeadNormSample.τ Cert.HeadNormSample.sig) → Buf (Elt Bits) ℓ) : Prop :=
  True

def Pre_HeadNormSampleIdeal (m : (ℓ : Loc Cert.HeadNormSampleIdeal.nD Cert.HeadNormSampleIdeal.τ Cert.HeadNormSampleIdeal.sig) → Buf (Elt Ideal) ℓ) : Prop :=
  True

def Pre_HeadNormSampleReferenceIdeal (m : (ℓ : Loc Cert.HeadNormSampleReferenceIdeal.nD Cert.HeadNormSampleReferenceIdeal.τ Cert.HeadNormSampleReferenceIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleReferenceIdeal (m : (ℓ : Loc Cert.InProjSampleReferenceIdeal.nD Cert.InProjSampleReferenceIdeal.τ Cert.InProjSampleReferenceIdeal.sig) → Buf (Elt Ideal) ℓ) : Prop :=
  True

def Pre_FfnUpSample (m : (ℓ : Loc Cert.FfnUpSample.nD Cert.FfnUpSample.τ Cert.FfnUpSample.sig) → Buf (Elt Bits) ℓ) : Prop :=
  True

def Pre_FfnUpSampleIdeal (m : (ℓ : Loc Cert.FfnUpSampleIdeal.nD Cert.FfnUpSampleIdeal.τ Cert.FfnUpSampleIdeal.sig) → Buf (Elt Ideal) ℓ) : Prop :=
  True

def Pre_FfnUpSampleReferenceIdeal (m : (ℓ : Loc Cert.FfnUpSampleReferenceIdeal.nD Cert.FfnUpSampleReferenceIdeal.τ Cert.FfnUpSampleReferenceIdeal.sig) → Buf (Elt Ideal) ℓ) : Prop :=
  True

def Pre_FfnDownSample (m : (ℓ : Loc Cert.FfnDownSample.nD Cert.FfnDownSample.τ Cert.FfnDownSample.sig) → Buf (Elt Bits) ℓ) : Prop :=
  True

def Pre_FfnDownSampleIdeal (m : (ℓ : Loc Cert.FfnDownSampleIdeal.nD Cert.FfnDownSampleIdeal.τ Cert.FfnDownSampleIdeal.sig) → Buf (Elt Ideal) ℓ) : Prop :=
  True

def Pre_FfnDownSampleReferenceIdeal (m : (ℓ : Loc Cert.FfnDownSampleReferenceIdeal.nD Cert.FfnDownSampleReferenceIdeal.τ Cert.FfnDownSampleReferenceIdeal.sig) → Buf (Elt Ideal) ℓ) : Prop :=
  True

def Pre_ScanPrompt (m : (ℓ : Loc Cert.ScanPrompt.nD Cert.ScanPrompt.τ Cert.ScanPrompt.sig) → Buf (Elt Bits) ℓ) : Prop :=
  True

def Pre_ScanPromptIdeal (m : (ℓ : Loc Cert.ScanPromptIdeal.nD Cert.ScanPromptIdeal.τ Cert.ScanPromptIdeal.sig) → Buf (Elt Ideal) ℓ) : Prop :=
  True

def Pre_ScanPromptIdeal_finite_prompt [hPre_finite_prompt : Cert.Pre_finite_prompt.Facts] (m : (ℓ : Loc Cert.ScanPromptIdeal.nD Cert.ScanPromptIdeal.τ Cert.ScanPromptIdeal.sig) → Buf (Elt Ideal) ℓ) : Prop :=
  ∀ c : Dev Cert.ScanPromptIdeal.nD,
    (Cert.Pre_finite_prompt.fn (F := Ideal) (m ((c.tc : Thread Cert.ScanPromptIdeal.nD Cert.ScanPromptIdeal.τ).loc Cert.ScanPromptIdeal.main_arg0)) (m ((c.tc : Thread Cert.ScanPromptIdeal.nD Cert.ScanPromptIdeal.τ).loc Cert.ScanPromptIdeal.main_arg1)) (m ((c.tc : Thread Cert.ScanPromptIdeal.nD Cert.ScanPromptIdeal.τ).loc Cert.ScanPromptIdeal.main_arg2)) (m ((c.tc : Thread Cert.ScanPromptIdeal.nD Cert.ScanPromptIdeal.τ).loc Cert.ScanPromptIdeal.main_arg3)) (m ((c.tc : Thread Cert.ScanPromptIdeal.nD Cert.ScanPromptIdeal.τ).loc Cert.ScanPromptIdeal.main_arg4)) (m ((c.tc : Thread Cert.ScanPromptIdeal.nD Cert.ScanPromptIdeal.τ).loc Cert.ScanPromptIdeal.main_arg5)) (m ((c.tc : Thread Cert.ScanPromptIdeal.nD Cert.ScanPromptIdeal.τ).loc Cert.ScanPromptIdeal.main_arg6)) (m ((c.tc : Thread Cert.ScanPromptIdeal.nD Cert.ScanPromptIdeal.τ).loc Cert.ScanPromptIdeal.main_arg7)) (m ((c.tc : Thread Cert.ScanPromptIdeal.nD Cert.ScanPromptIdeal.τ).loc Cert.ScanPromptIdeal.main_arg8)) (m ((c.tc : Thread Cert.ScanPromptIdeal.nD Cert.ScanPromptIdeal.τ).loc Cert.ScanPromptIdeal.main_arg9)) (m ((c.tc : Thread Cert.ScanPromptIdeal.nD Cert.ScanPromptIdeal.τ).loc Cert.ScanPromptIdeal.main_arg10))) = (fun _ => 1#1)

def Pre_ScanPromptReferenceIdeal (m : (ℓ : Loc Cert.ScanPromptReferenceIdeal.nD Cert.ScanPromptReferenceIdeal.τ Cert.ScanPromptReferenceIdeal.sig) → Buf (Elt Ideal) ℓ) : Prop :=
  True

def Pre_ScanPromptReferenceIdeal_finite_prompt [hPre_finite_prompt : Cert.Pre_finite_prompt.Facts] (m : (ℓ : Loc Cert.ScanPromptReferenceIdeal.nD Cert.ScanPromptReferenceIdeal.τ Cert.ScanPromptReferenceIdeal.sig) → Buf (Elt Ideal) ℓ) : Prop :=
  ∀ c : Dev Cert.ScanPromptReferenceIdeal.nD,
    (Cert.Pre_finite_prompt.fn (F := Ideal) (m ((c.tc : Thread Cert.ScanPromptReferenceIdeal.nD Cert.ScanPromptReferenceIdeal.τ).loc Cert.ScanPromptReferenceIdeal.main_arg0)) (m ((c.tc : Thread Cert.ScanPromptReferenceIdeal.nD Cert.ScanPromptReferenceIdeal.τ).loc Cert.ScanPromptReferenceIdeal.main_arg1)) (m ((c.tc : Thread Cert.ScanPromptReferenceIdeal.nD Cert.ScanPromptReferenceIdeal.τ).loc Cert.ScanPromptReferenceIdeal.main_arg2)) (m ((c.tc : Thread Cert.ScanPromptReferenceIdeal.nD Cert.ScanPromptReferenceIdeal.τ).loc Cert.ScanPromptReferenceIdeal.main_arg3)) (m ((c.tc : Thread Cert.ScanPromptReferenceIdeal.nD Cert.ScanPromptReferenceIdeal.τ).loc Cert.ScanPromptReferenceIdeal.main_arg4)) (m ((c.tc : Thread Cert.ScanPromptReferenceIdeal.nD Cert.ScanPromptReferenceIdeal.τ).loc Cert.ScanPromptReferenceIdeal.main_arg5)) (m ((c.tc : Thread Cert.ScanPromptReferenceIdeal.nD Cert.ScanPromptReferenceIdeal.τ).loc Cert.ScanPromptReferenceIdeal.main_arg6)) (m ((c.tc : Thread Cert.ScanPromptReferenceIdeal.nD Cert.ScanPromptReferenceIdeal.τ).loc Cert.ScanPromptReferenceIdeal.main_arg7)) (m ((c.tc : Thread Cert.ScanPromptReferenceIdeal.nD Cert.ScanPromptReferenceIdeal.τ).loc Cert.ScanPromptReferenceIdeal.main_arg8)) (m ((c.tc : Thread Cert.ScanPromptReferenceIdeal.nD Cert.ScanPromptReferenceIdeal.τ).loc Cert.ScanPromptReferenceIdeal.main_arg9)) (m ((c.tc : Thread Cert.ScanPromptReferenceIdeal.nD Cert.ScanPromptReferenceIdeal.τ).loc Cert.ScanPromptReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_HeadNorm [hHeadNorm : Cert.HeadNorm.Facts] : Prop :=
  ∀ (m : (ℓ : Loc Cert.HeadNorm.nD Cert.HeadNorm.τ Cert.HeadNorm.sig) → Buf (Elt Bits) ℓ) (g : Dev Cert.HeadNorm.nD → PrngReg), Pre_HeadNorm m →
    θ_run (Cert.HeadNorm.defs (F := Bits)) (onTc (τ := Cert.HeadNorm.τ) (Cert.HeadNorm.main (F := Bits))) ⟨m, fun _ => 0, g⟩ (fun r => (∀ c : Dev Cert.HeadNorm.nD,
      r.2.mem ((c.tc : Thread Cert.HeadNorm.nD Cert.HeadNorm.τ).loc Cert.HeadNorm.main_arg0) = m ((c.tc : Thread Cert.HeadNorm.nD Cert.HeadNorm.τ).loc Cert.HeadNorm.main_arg0)
      ∧ r.2.mem ((c.tc : Thread Cert.HeadNorm.nD Cert.HeadNorm.τ).loc Cert.HeadNorm.main_arg1) = m ((c.tc : Thread Cert.HeadNorm.nD Cert.HeadNorm.τ).loc Cert.HeadNorm.main_arg1)
      ∧ r.2.mem ((c.tc : Thread Cert.HeadNorm.nD Cert.HeadNorm.τ).loc Cert.HeadNorm.main_arg2) = m ((c.tc : Thread Cert.HeadNorm.nD Cert.HeadNorm.τ).loc Cert.HeadNorm.main_arg2))
      ∧ r.2.sem = fun _ => 0)

def quiescent_HeadNormIdeal [hHeadNormIdeal : Cert.HeadNormIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg), Pre_HeadNormIdeal m →
    θ_run (Cert.HeadNormIdeal.defs (F := Ideal)) (onTc (τ := Cert.HeadNormIdeal.τ) (Cert.HeadNormIdeal.main (F := Ideal))) ⟨m, fun _ => 0, g⟩ (fun r => (∀ c : Dev Cert.HeadNormIdeal.nD,
      r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
      ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
      ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2))
      ∧ r.2.sem = fun _ => 0)

def quiescent_HeadNormReferenceIdeal [hHeadNormReferenceIdeal : Cert.HeadNormReferenceIdeal.Facts] : Prop :=
  ∀ (m : (ℓ : Loc Cert.HeadNormReferenceIdeal.nD Cert.HeadNormReferenceIdeal.τ Cert.HeadNormReferenceIdeal.sig) → Buf (Elt Ideal) ℓ) (g : Dev Cert.HeadNormReferenceIdeal.nD → PrngReg), Pre_HeadNormReferenceIdeal m →
    θ_run (Cert.HeadNormReferenceIdeal.defs (F := Ideal)) (onTc (τ := Cert.HeadNormReferenceIdeal.τ) (Cert.HeadNormReferenceIdeal.main (F := Ideal))) ⟨m, fun _ => 0, g⟩ (fun r => (∀ c : Dev Cert.HeadNormReferenceIdeal.nD,
      r.2.mem ((c.tc : Thread Cert.HeadNormReferenceIdeal.nD Cert.HeadNormReferenceIdeal.τ).loc Cert.HeadNormReferenceIdeal.main_arg0) = m ((c.tc : Thread Cert.HeadNormReferenceIdeal.nD Cert.HeadNormReferenceIdeal.τ).loc Cert.HeadNormReferenceIdeal.main_arg0)
      ∧ r.2.mem ((c.tc : Thread Cert.HeadNormReferenceIdeal.nD Cert.HeadNormReferenceIdeal.τ).loc Cert.HeadNormReferenceIdeal.main_arg1) = m ((c.tc : Thread Cert.HeadNormReferenceIdeal.nD Cert.HeadNormReferenceIdeal.τ).loc Cert.HeadNormReferenceIdeal.main_arg1)
      ∧ r.2.mem ((c.tc : Thread Cert.HeadNormReferenceIdeal.nD Cert.HeadNormReferenceIdeal.τ).loc Cert.HeadNormReferenceIdeal.main_arg2) = m ((c.tc : Thread Cert.HeadNormReferenceIdeal.nD Cert.HeadNormReferenceIdeal.τ).loc Cert.HeadNormReferenceIdeal.main_arg2))
      ∧ r.2.sem = fun _ => 0)

def quiescent_HeadNormSample [hHeadNormSample : Cert.HeadNormSample.Facts] : Prop :=
  ∀ (m : (ℓ : Loc Cert.HeadNormSample.nD Cert.HeadNormSample.τ Cert.HeadNormSample.sig) → Buf (Elt Bits) ℓ) (g : Dev Cert.HeadNormSample.nD → PrngReg), Pre_HeadNormSample m →
    θ_run (Cert.HeadNormSample.defs (F := Bits)) (onTc (τ := Cert.HeadNormSample.τ) (Cert.HeadNormSample.main (F := Bits))) ⟨m, fun _ => 0, g⟩ (fun r => (∀ c : Dev Cert.HeadNormSample.nD,
      r.2.mem ((c.tc : Thread Cert.HeadNormSample.nD Cert.HeadNormSample.τ).loc Cert.HeadNormSample.main_arg0) = m ((c.tc : Thread Cert.HeadNormSample.nD Cert.HeadNormSample.τ).loc Cert.HeadNormSample.main_arg0)
      ∧ r.2.mem ((c.tc : Thread Cert.HeadNormSample.nD Cert.HeadNormSample.τ).loc Cert.HeadNormSample.main_arg1) = m ((c.tc : Thread Cert.HeadNormSample.nD Cert.HeadNormSample.τ).loc Cert.HeadNormSample.main_arg1)
      ∧ r.2.mem ((c.tc : Thread Cert.HeadNormSample.nD Cert.HeadNormSample.τ).loc Cert.HeadNormSample.main_arg2) = m ((c.tc : Thread Cert.HeadNormSample.nD Cert.HeadNormSample.τ).loc Cert.HeadNormSample.main_arg2))
      ∧ r.2.sem = fun _ => 0)

def quiescent_HeadNormSampleIdeal [hHeadNormSampleIdeal : Cert.HeadNormSampleIdeal.Facts] : Prop :=
  ∀ (m : (ℓ : Loc Cert.HeadNormSampleIdeal.nD Cert.HeadNormSampleIdeal.τ Cert.HeadNormSampleIdeal.sig) → Buf (Elt Ideal) ℓ) (g : Dev Cert.HeadNormSampleIdeal.nD → PrngReg), Pre_HeadNormSampleIdeal m →
    θ_run (Cert.HeadNormSampleIdeal.defs (F := Ideal)) (onTc (τ := Cert.HeadNormSampleIdeal.τ) (Cert.HeadNormSampleIdeal.main (F := Ideal))) ⟨m, fun _ => 0, g⟩ (fun r => (∀ c : Dev Cert.HeadNormSampleIdeal.nD,
      r.2.mem ((c.tc : Thread Cert.HeadNormSampleIdeal.nD Cert.HeadNormSampleIdeal.τ).loc Cert.HeadNormSampleIdeal.main_arg0) = m ((c.tc : Thread Cert.HeadNormSampleIdeal.nD Cert.HeadNormSampleIdeal.τ).loc Cert.HeadNormSampleIdeal.main_arg0)
      ∧ r.2.mem ((c.tc : Thread Cert.HeadNormSampleIdeal.nD Cert.HeadNormSampleIdeal.τ).loc Cert.HeadNormSampleIdeal.main_arg1) = m ((c.tc : Thread Cert.HeadNormSampleIdeal.nD Cert.HeadNormSampleIdeal.τ).loc Cert.HeadNormSampleIdeal.main_arg1)
      ∧ r.2.mem ((c.tc : Thread Cert.HeadNormSampleIdeal.nD Cert.HeadNormSampleIdeal.τ).loc Cert.HeadNormSampleIdeal.main_arg2) = m ((c.tc : Thread Cert.HeadNormSampleIdeal.nD Cert.HeadNormSampleIdeal.τ).loc Cert.HeadNormSampleIdeal.main_arg2))
      ∧ r.2.sem = fun _ => 0)

def quiescent_HeadNormSampleReferenceIdeal [hHeadNormSampleReferenceIdeal : Cert.HeadNormSampleReferenceIdeal.Facts] : Prop :=
  ∀ (m : (ℓ : Loc Cert.HeadNormSampleReferenceIdeal.nD Cert.HeadNormSampleReferenceIdeal.τ Cert.HeadNormSampleReferenceIdeal.sig) → Buf (Elt Ideal) ℓ) (g : Dev Cert.HeadNormSampleReferenceIdeal.nD → PrngReg), Pre_HeadNormSampleReferenceIdeal m →
    θ_run (Cert.HeadNormSampleReferenceIdeal.defs (F := Ideal)) (onTc (τ := Cert.HeadNormSampleReferenceIdeal.τ) (Cert.HeadNormSampleReferenceIdeal.main (F := Ideal))) ⟨m, fun _ => 0, g⟩ (fun r => (∀ c : Dev Cert.HeadNormSampleReferenceIdeal.nD,
      r.2.mem ((c.tc : Thread Cert.HeadNormSampleReferenceIdeal.nD Cert.HeadNormSampleReferenceIdeal.τ).loc Cert.HeadNormSampleReferenceIdeal.main_arg0) = m ((c.tc : Thread Cert.HeadNormSampleReferenceIdeal.nD Cert.HeadNormSampleReferenceIdeal.τ).loc Cert.HeadNormSampleReferenceIdeal.main_arg0)
      ∧ r.2.mem ((c.tc : Thread Cert.HeadNormSampleReferenceIdeal.nD Cert.HeadNormSampleReferenceIdeal.τ).loc Cert.HeadNormSampleReferenceIdeal.main_arg1) = m ((c.tc : Thread Cert.HeadNormSampleReferenceIdeal.nD Cert.HeadNormSampleReferenceIdeal.τ).loc Cert.HeadNormSampleReferenceIdeal.main_arg1)
      ∧ r.2.mem ((c.tc : Thread Cert.HeadNormSampleReferenceIdeal.nD Cert.HeadNormSampleReferenceIdeal.τ).loc Cert.HeadNormSampleReferenceIdeal.main_arg2) = m ((c.tc : Thread Cert.HeadNormSampleReferenceIdeal.nD Cert.HeadNormSampleReferenceIdeal.τ).loc Cert.HeadNormSampleReferenceIdeal.main_arg2))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ r.2.sem = fun _ => 0)

def quiescent_InProjSampleReferenceIdeal [hInProjSampleReferenceIdeal : Cert.InProjSampleReferenceIdeal.Facts] : Prop :=
  ∀ (m : (ℓ : Loc Cert.InProjSampleReferenceIdeal.nD Cert.InProjSampleReferenceIdeal.τ Cert.InProjSampleReferenceIdeal.sig) → Buf (Elt Ideal) ℓ) (g : Dev Cert.InProjSampleReferenceIdeal.nD → PrngReg), Pre_InProjSampleReferenceIdeal m →
    θ_run (Cert.InProjSampleReferenceIdeal.defs (F := Ideal)) (onTc (τ := Cert.InProjSampleReferenceIdeal.τ) (Cert.InProjSampleReferenceIdeal.main (F := Ideal))) ⟨m, fun _ => 0, g⟩ (fun r => (∀ c : Dev Cert.InProjSampleReferenceIdeal.nD,
      r.2.mem ((c.tc : Thread Cert.InProjSampleReferenceIdeal.nD Cert.InProjSampleReferenceIdeal.τ).loc Cert.InProjSampleReferenceIdeal.main_arg0) = m ((c.tc : Thread Cert.InProjSampleReferenceIdeal.nD Cert.InProjSampleReferenceIdeal.τ).loc Cert.InProjSampleReferenceIdeal.main_arg0)
      ∧ r.2.mem ((c.tc : Thread Cert.InProjSampleReferenceIdeal.nD Cert.InProjSampleReferenceIdeal.τ).loc Cert.InProjSampleReferenceIdeal.main_arg1) = m ((c.tc : Thread Cert.InProjSampleReferenceIdeal.nD Cert.InProjSampleReferenceIdeal.τ).loc Cert.InProjSampleReferenceIdeal.main_arg1))
      ∧ r.2.sem = fun _ => 0)

def quiescent_FfnUpSample [hFfnUpSample : Cert.FfnUpSample.Facts] : Prop :=
  ∀ (m : (ℓ : Loc Cert.FfnUpSample.nD Cert.FfnUpSample.τ Cert.FfnUpSample.sig) → Buf (Elt Bits) ℓ) (g : Dev Cert.FfnUpSample.nD → PrngReg), Pre_FfnUpSample m →
    θ_run (Cert.FfnUpSample.defs (F := Bits)) (onTc (τ := Cert.FfnUpSample.τ) (Cert.FfnUpSample.main (F := Bits))) ⟨m, fun _ => 0, g⟩ (fun r => (∀ c : Dev Cert.FfnUpSample.nD,
      r.2.mem ((c.tc : Thread Cert.FfnUpSample.nD Cert.FfnUpSample.τ).loc Cert.FfnUpSample.main_arg0) = m ((c.tc : Thread Cert.FfnUpSample.nD Cert.FfnUpSample.τ).loc Cert.FfnUpSample.main_arg0)
      ∧ r.2.mem ((c.tc : Thread Cert.FfnUpSample.nD Cert.FfnUpSample.τ).loc Cert.FfnUpSample.main_arg1) = m ((c.tc : Thread Cert.FfnUpSample.nD Cert.FfnUpSample.τ).loc Cert.FfnUpSample.main_arg1)
      ∧ r.2.mem ((c.tc : Thread Cert.FfnUpSample.nD Cert.FfnUpSample.τ).loc Cert.FfnUpSample.main_arg2) = m ((c.tc : Thread Cert.FfnUpSample.nD Cert.FfnUpSample.τ).loc Cert.FfnUpSample.main_arg2))
      ∧ r.2.sem = fun _ => 0)

def quiescent_FfnUpSampleIdeal [hFfnUpSampleIdeal : Cert.FfnUpSampleIdeal.Facts] : Prop :=
  ∀ (m : (ℓ : Loc Cert.FfnUpSampleIdeal.nD Cert.FfnUpSampleIdeal.τ Cert.FfnUpSampleIdeal.sig) → Buf (Elt Ideal) ℓ) (g : Dev Cert.FfnUpSampleIdeal.nD → PrngReg), Pre_FfnUpSampleIdeal m →
    θ_run (Cert.FfnUpSampleIdeal.defs (F := Ideal)) (onTc (τ := Cert.FfnUpSampleIdeal.τ) (Cert.FfnUpSampleIdeal.main (F := Ideal))) ⟨m, fun _ => 0, g⟩ (fun r => (∀ c : Dev Cert.FfnUpSampleIdeal.nD,
      r.2.mem ((c.tc : Thread Cert.FfnUpSampleIdeal.nD Cert.FfnUpSampleIdeal.τ).loc Cert.FfnUpSampleIdeal.main_arg0) = m ((c.tc : Thread Cert.FfnUpSampleIdeal.nD Cert.FfnUpSampleIdeal.τ).loc Cert.FfnUpSampleIdeal.main_arg0)
      ∧ r.2.mem ((c.tc : Thread Cert.FfnUpSampleIdeal.nD Cert.FfnUpSampleIdeal.τ).loc Cert.FfnUpSampleIdeal.main_arg1) = m ((c.tc : Thread Cert.FfnUpSampleIdeal.nD Cert.FfnUpSampleIdeal.τ).loc Cert.FfnUpSampleIdeal.main_arg1)
      ∧ r.2.mem ((c.tc : Thread Cert.FfnUpSampleIdeal.nD Cert.FfnUpSampleIdeal.τ).loc Cert.FfnUpSampleIdeal.main_arg2) = m ((c.tc : Thread Cert.FfnUpSampleIdeal.nD Cert.FfnUpSampleIdeal.τ).loc Cert.FfnUpSampleIdeal.main_arg2))
      ∧ r.2.sem = fun _ => 0)

def quiescent_FfnUpSampleReferenceIdeal [hFfnUpSampleReferenceIdeal : Cert.FfnUpSampleReferenceIdeal.Facts] : Prop :=
  ∀ (m : (ℓ : Loc Cert.FfnUpSampleReferenceIdeal.nD Cert.FfnUpSampleReferenceIdeal.τ Cert.FfnUpSampleReferenceIdeal.sig) → Buf (Elt Ideal) ℓ) (g : Dev Cert.FfnUpSampleReferenceIdeal.nD → PrngReg), Pre_FfnUpSampleReferenceIdeal m →
    θ_run (Cert.FfnUpSampleReferenceIdeal.defs (F := Ideal)) (onTc (τ := Cert.FfnUpSampleReferenceIdeal.τ) (Cert.FfnUpSampleReferenceIdeal.main (F := Ideal))) ⟨m, fun _ => 0, g⟩ (fun r => (∀ c : Dev Cert.FfnUpSampleReferenceIdeal.nD,
      r.2.mem ((c.tc : Thread Cert.FfnUpSampleReferenceIdeal.nD Cert.FfnUpSampleReferenceIdeal.τ).loc Cert.FfnUpSampleReferenceIdeal.main_arg0) = m ((c.tc : Thread Cert.FfnUpSampleReferenceIdeal.nD Cert.FfnUpSampleReferenceIdeal.τ).loc Cert.FfnUpSampleReferenceIdeal.main_arg0)
      ∧ r.2.mem ((c.tc : Thread Cert.FfnUpSampleReferenceIdeal.nD Cert.FfnUpSampleReferenceIdeal.τ).loc Cert.FfnUpSampleReferenceIdeal.main_arg1) = m ((c.tc : Thread Cert.FfnUpSampleReferenceIdeal.nD Cert.FfnUpSampleReferenceIdeal.τ).loc Cert.FfnUpSampleReferenceIdeal.main_arg1)
      ∧ r.2.mem ((c.tc : Thread Cert.FfnUpSampleReferenceIdeal.nD Cert.FfnUpSampleReferenceIdeal.τ).loc Cert.FfnUpSampleReferenceIdeal.main_arg2) = m ((c.tc : Thread Cert.FfnUpSampleReferenceIdeal.nD Cert.FfnUpSampleReferenceIdeal.τ).loc Cert.FfnUpSampleReferenceIdeal.main_arg2))
      ∧ r.2.sem = fun _ => 0)

def quiescent_FfnDownSample [hFfnDownSample : Cert.FfnDownSample.Facts] : Prop :=
  ∀ (m : (ℓ : Loc Cert.FfnDownSample.nD Cert.FfnDownSample.τ Cert.FfnDownSample.sig) → Buf (Elt Bits) ℓ) (g : Dev Cert.FfnDownSample.nD → PrngReg), Pre_FfnDownSample m →
    θ_run (Cert.FfnDownSample.defs (F := Bits)) (onTc (τ := Cert.FfnDownSample.τ) (Cert.FfnDownSample.main (F := Bits))) ⟨m, fun _ => 0, g⟩ (fun r => (∀ c : Dev Cert.FfnDownSample.nD,
      r.2.mem ((c.tc : Thread Cert.FfnDownSample.nD Cert.FfnDownSample.τ).loc Cert.FfnDownSample.main_arg0) = m ((c.tc : Thread Cert.FfnDownSample.nD Cert.FfnDownSample.τ).loc Cert.FfnDownSample.main_arg0)
      ∧ r.2.mem ((c.tc : Thread Cert.FfnDownSample.nD Cert.FfnDownSample.τ).loc Cert.FfnDownSample.main_arg1) = m ((c.tc : Thread Cert.FfnDownSample.nD Cert.FfnDownSample.τ).loc Cert.FfnDownSample.main_arg1)
      ∧ r.2.mem ((c.tc : Thread Cert.FfnDownSample.nD Cert.FfnDownSample.τ).loc Cert.FfnDownSample.main_arg2) = m ((c.tc : Thread Cert.FfnDownSample.nD Cert.FfnDownSample.τ).loc Cert.FfnDownSample.main_arg2)
      ∧ r.2.mem ((c.tc : Thread Cert.FfnDownSample.nD Cert.FfnDownSample.τ).loc Cert.FfnDownSample.main_arg3) = m ((c.tc : Thread Cert.FfnDownSample.nD Cert.FfnDownSample.τ).loc Cert.FfnDownSample.main_arg3))
      ∧ r.2.sem = fun _ => 0)

def quiescent_FfnDownSampleIdeal [hFfnDownSampleIdeal : Cert.FfnDownSampleIdeal.Facts] : Prop :=
  ∀ (m : (ℓ : Loc Cert.FfnDownSampleIdeal.nD Cert.FfnDownSampleIdeal.τ Cert.FfnDownSampleIdeal.sig) → Buf (Elt Ideal) ℓ) (g : Dev Cert.FfnDownSampleIdeal.nD → PrngReg), Pre_FfnDownSampleIdeal m →
    θ_run (Cert.FfnDownSampleIdeal.defs (F := Ideal)) (onTc (τ := Cert.FfnDownSampleIdeal.τ) (Cert.FfnDownSampleIdeal.main (F := Ideal))) ⟨m, fun _ => 0, g⟩ (fun r => (∀ c : Dev Cert.FfnDownSampleIdeal.nD,
      r.2.mem ((c.tc : Thread Cert.FfnDownSampleIdeal.nD Cert.FfnDownSampleIdeal.τ).loc Cert.FfnDownSampleIdeal.main_arg0) = m ((c.tc : Thread Cert.FfnDownSampleIdeal.nD Cert.FfnDownSampleIdeal.τ).loc Cert.FfnDownSampleIdeal.main_arg0)
      ∧ r.2.mem ((c.tc : Thread Cert.FfnDownSampleIdeal.nD Cert.FfnDownSampleIdeal.τ).loc Cert.FfnDownSampleIdeal.main_arg1) = m ((c.tc : Thread Cert.FfnDownSampleIdeal.nD Cert.FfnDownSampleIdeal.τ).loc Cert.FfnDownSampleIdeal.main_arg1)
      ∧ r.2.mem ((c.tc : Thread Cert.FfnDownSampleIdeal.nD Cert.FfnDownSampleIdeal.τ).loc Cert.FfnDownSampleIdeal.main_arg2) = m ((c.tc : Thread Cert.FfnDownSampleIdeal.nD Cert.FfnDownSampleIdeal.τ).loc Cert.FfnDownSampleIdeal.main_arg2)
      ∧ r.2.mem ((c.tc : Thread Cert.FfnDownSampleIdeal.nD Cert.FfnDownSampleIdeal.τ).loc Cert.FfnDownSampleIdeal.main_arg3) = m ((c.tc : Thread Cert.FfnDownSampleIdeal.nD Cert.FfnDownSampleIdeal.τ).loc Cert.FfnDownSampleIdeal.main_arg3))
      ∧ r.2.sem = fun _ => 0)

def quiescent_FfnDownSampleReferenceIdeal [hFfnDownSampleReferenceIdeal : Cert.FfnDownSampleReferenceIdeal.Facts] : Prop :=
  ∀ (m : (ℓ : Loc Cert.FfnDownSampleReferenceIdeal.nD Cert.FfnDownSampleReferenceIdeal.τ Cert.FfnDownSampleReferenceIdeal.sig) → Buf (Elt Ideal) ℓ) (g : Dev Cert.FfnDownSampleReferenceIdeal.nD → PrngReg), Pre_FfnDownSampleReferenceIdeal m →
    θ_run (Cert.FfnDownSampleReferenceIdeal.defs (F := Ideal)) (onTc (τ := Cert.FfnDownSampleReferenceIdeal.τ) (Cert.FfnDownSampleReferenceIdeal.main (F := Ideal))) ⟨m, fun _ => 0, g⟩ (fun r => (∀ c : Dev Cert.FfnDownSampleReferenceIdeal.nD,
      r.2.mem ((c.tc : Thread Cert.FfnDownSampleReferenceIdeal.nD Cert.FfnDownSampleReferenceIdeal.τ).loc Cert.FfnDownSampleReferenceIdeal.main_arg0) = m ((c.tc : Thread Cert.FfnDownSampleReferenceIdeal.nD Cert.FfnDownSampleReferenceIdeal.τ).loc Cert.FfnDownSampleReferenceIdeal.main_arg0)
      ∧ r.2.mem ((c.tc : Thread Cert.FfnDownSampleReferenceIdeal.nD Cert.FfnDownSampleReferenceIdeal.τ).loc Cert.FfnDownSampleReferenceIdeal.main_arg1) = m ((c.tc : Thread Cert.FfnDownSampleReferenceIdeal.nD Cert.FfnDownSampleReferenceIdeal.τ).loc Cert.FfnDownSampleReferenceIdeal.main_arg1)
      ∧ r.2.mem ((c.tc : Thread Cert.FfnDownSampleReferenceIdeal.nD Cert.FfnDownSampleReferenceIdeal.τ).loc Cert.FfnDownSampleReferenceIdeal.main_arg2) = m ((c.tc : Thread Cert.FfnDownSampleReferenceIdeal.nD Cert.FfnDownSampleReferenceIdeal.τ).loc Cert.FfnDownSampleReferenceIdeal.main_arg2)
      ∧ r.2.mem ((c.tc : Thread Cert.FfnDownSampleReferenceIdeal.nD Cert.FfnDownSampleReferenceIdeal.τ).loc Cert.FfnDownSampleReferenceIdeal.main_arg3) = m ((c.tc : Thread Cert.FfnDownSampleReferenceIdeal.nD Cert.FfnDownSampleReferenceIdeal.τ).loc Cert.FfnDownSampleReferenceIdeal.main_arg3))
      ∧ r.2.sem = fun _ => 0)

def quiescent_ScanPrompt [hScanPrompt : Cert.ScanPrompt.Facts] : Prop :=
  ∀ (m : (ℓ : Loc Cert.ScanPrompt.nD Cert.ScanPrompt.τ Cert.ScanPrompt.sig) → Buf (Elt Bits) ℓ) (g : Dev Cert.ScanPrompt.nD → PrngReg), Pre_ScanPrompt m →
    θ_run (Cert.ScanPrompt.defs (F := Bits)) (onTc (τ := Cert.ScanPrompt.τ) (Cert.ScanPrompt.main (F := Bits))) ⟨m, fun _ => 0, g⟩ (fun r => (∀ c : Dev Cert.ScanPrompt.nD,
      r.2.mem ((c.tc : Thread Cert.ScanPrompt.nD Cert.ScanPrompt.τ).loc Cert.ScanPrompt.main_arg0) = m ((c.tc : Thread Cert.ScanPrompt.nD Cert.ScanPrompt.τ).loc Cert.ScanPrompt.main_arg0)
      ∧ r.2.mem ((c.tc : Thread Cert.ScanPrompt.nD Cert.ScanPrompt.τ).loc Cert.ScanPrompt.main_arg1) = m ((c.tc : Thread Cert.ScanPrompt.nD Cert.ScanPrompt.τ).loc Cert.ScanPrompt.main_arg1)
      ∧ r.2.mem ((c.tc : Thread Cert.ScanPrompt.nD Cert.ScanPrompt.τ).loc Cert.ScanPrompt.main_arg2) = m ((c.tc : Thread Cert.ScanPrompt.nD Cert.ScanPrompt.τ).loc Cert.ScanPrompt.main_arg2)
      ∧ r.2.mem ((c.tc : Thread Cert.ScanPrompt.nD Cert.ScanPrompt.τ).loc Cert.ScanPrompt.main_arg3) = m ((c.tc : Thread Cert.ScanPrompt.nD Cert.ScanPrompt.τ).loc Cert.ScanPrompt.main_arg3)
      ∧ r.2.mem ((c.tc : Thread Cert.ScanPrompt.nD Cert.ScanPrompt.τ).loc Cert.ScanPrompt.main_arg4) = m ((c.tc : Thread Cert.ScanPrompt.nD Cert.ScanPrompt.τ).loc Cert.ScanPrompt.main_arg4)
      ∧ r.2.mem ((c.tc : Thread Cert.ScanPrompt.nD Cert.ScanPrompt.τ).loc Cert.ScanPrompt.main_arg5) = m ((c.tc : Thread Cert.ScanPrompt.nD Cert.ScanPrompt.τ).loc Cert.ScanPrompt.main_arg5)
      ∧ r.2.mem ((c.tc : Thread Cert.ScanPrompt.nD Cert.ScanPrompt.τ).loc Cert.ScanPrompt.main_arg6) = m ((c.tc : Thread Cert.ScanPrompt.nD Cert.ScanPrompt.τ).loc Cert.ScanPrompt.main_arg6)
      ∧ r.2.mem ((c.tc : Thread Cert.ScanPrompt.nD Cert.ScanPrompt.τ).loc Cert.ScanPrompt.main_arg7) = m ((c.tc : Thread Cert.ScanPrompt.nD Cert.ScanPrompt.τ).loc Cert.ScanPrompt.main_arg7)
      ∧ r.2.mem ((c.tc : Thread Cert.ScanPrompt.nD Cert.ScanPrompt.τ).loc Cert.ScanPrompt.main_arg8) = m ((c.tc : Thread Cert.ScanPrompt.nD Cert.ScanPrompt.τ).loc Cert.ScanPrompt.main_arg8)
      ∧ r.2.mem ((c.tc : Thread Cert.ScanPrompt.nD Cert.ScanPrompt.τ).loc Cert.ScanPrompt.main_arg9) = m ((c.tc : Thread Cert.ScanPrompt.nD Cert.ScanPrompt.τ).loc Cert.ScanPrompt.main_arg9)
      ∧ r.2.mem ((c.tc : Thread Cert.ScanPrompt.nD Cert.ScanPrompt.τ).loc Cert.ScanPrompt.main_arg10) = m ((c.tc : Thread Cert.ScanPrompt.nD Cert.ScanPrompt.τ).loc Cert.ScanPrompt.main_arg10))
      ∧ r.2.sem = fun _ => 0)

def quiescent_ScanPromptIdeal [hScanPromptIdeal : Cert.ScanPromptIdeal.Facts] : Prop :=
  ∀ (m : (ℓ : Loc Cert.ScanPromptIdeal.nD Cert.ScanPromptIdeal.τ Cert.ScanPromptIdeal.sig) → Buf (Elt Ideal) ℓ) (g : Dev Cert.ScanPromptIdeal.nD → PrngReg), Pre_ScanPromptIdeal m →
    θ_run (Cert.ScanPromptIdeal.defs (F := Ideal)) (onTc (τ := Cert.ScanPromptIdeal.τ) (Cert.ScanPromptIdeal.main (F := Ideal))) ⟨m, fun _ => 0, g⟩ (fun r => (∀ c : Dev Cert.ScanPromptIdeal.nD,
      r.2.mem ((c.tc : Thread Cert.ScanPromptIdeal.nD Cert.ScanPromptIdeal.τ).loc Cert.ScanPromptIdeal.main_arg0) = m ((c.tc : Thread Cert.ScanPromptIdeal.nD Cert.ScanPromptIdeal.τ).loc Cert.ScanPromptIdeal.main_arg0)
      ∧ r.2.mem ((c.tc : Thread Cert.ScanPromptIdeal.nD Cert.ScanPromptIdeal.τ).loc Cert.ScanPromptIdeal.main_arg1) = m ((c.tc : Thread Cert.ScanPromptIdeal.nD Cert.ScanPromptIdeal.τ).loc Cert.ScanPromptIdeal.main_arg1)
      ∧ r.2.mem ((c.tc : Thread Cert.ScanPromptIdeal.nD Cert.ScanPromptIdeal.τ).loc Cert.ScanPromptIdeal.main_arg2) = m ((c.tc : Thread Cert.ScanPromptIdeal.nD Cert.ScanPromptIdeal.τ).loc Cert.ScanPromptIdeal.main_arg2)
      ∧ r.2.mem ((c.tc : Thread Cert.ScanPromptIdeal.nD Cert.ScanPromptIdeal.τ).loc Cert.ScanPromptIdeal.main_arg3) = m ((c.tc : Thread Cert.ScanPromptIdeal.nD Cert.ScanPromptIdeal.τ).loc Cert.ScanPromptIdeal.main_arg3)
      ∧ r.2.mem ((c.tc : Thread Cert.ScanPromptIdeal.nD Cert.ScanPromptIdeal.τ).loc Cert.ScanPromptIdeal.main_arg4) = m ((c.tc : Thread Cert.ScanPromptIdeal.nD Cert.ScanPromptIdeal.τ).loc Cert.ScanPromptIdeal.main_arg4)
      ∧ r.2.mem ((c.tc : Thread Cert.ScanPromptIdeal.nD Cert.ScanPromptIdeal.τ).loc Cert.ScanPromptIdeal.main_arg5) = m ((c.tc : Thread Cert.ScanPromptIdeal.nD Cert.ScanPromptIdeal.τ).loc Cert.ScanPromptIdeal.main_arg5)
      ∧ r.2.mem ((c.tc : Thread Cert.ScanPromptIdeal.nD Cert.ScanPromptIdeal.τ).loc Cert.ScanPromptIdeal.main_arg6) = m ((c.tc : Thread Cert.ScanPromptIdeal.nD Cert.ScanPromptIdeal.τ).loc Cert.ScanPromptIdeal.main_arg6)
      ∧ r.2.mem ((c.tc : Thread Cert.ScanPromptIdeal.nD Cert.ScanPromptIdeal.τ).loc Cert.ScanPromptIdeal.main_arg7) = m ((c.tc : Thread Cert.ScanPromptIdeal.nD Cert.ScanPromptIdeal.τ).loc Cert.ScanPromptIdeal.main_arg7)
      ∧ r.2.mem ((c.tc : Thread Cert.ScanPromptIdeal.nD Cert.ScanPromptIdeal.τ).loc Cert.ScanPromptIdeal.main_arg8) = m ((c.tc : Thread Cert.ScanPromptIdeal.nD Cert.ScanPromptIdeal.τ).loc Cert.ScanPromptIdeal.main_arg8)
      ∧ r.2.mem ((c.tc : Thread Cert.ScanPromptIdeal.nD Cert.ScanPromptIdeal.τ).loc Cert.ScanPromptIdeal.main_arg9) = m ((c.tc : Thread Cert.ScanPromptIdeal.nD Cert.ScanPromptIdeal.τ).loc Cert.ScanPromptIdeal.main_arg9)
      ∧ r.2.mem ((c.tc : Thread Cert.ScanPromptIdeal.nD Cert.ScanPromptIdeal.τ).loc Cert.ScanPromptIdeal.main_arg10) = m ((c.tc : Thread Cert.ScanPromptIdeal.nD Cert.ScanPromptIdeal.τ).loc Cert.ScanPromptIdeal.main_arg10))
      ∧ r.2.sem = fun _ => 0)

def quiescent_ScanPromptIdeal_pre_finite_prompt [hScanPromptIdeal : Cert.ScanPromptIdeal.Facts] [hPre_finite_prompt : Cert.Pre_finite_prompt.Facts] : Prop :=
  ∀ (m : (ℓ : Loc Cert.ScanPromptIdeal.nD Cert.ScanPromptIdeal.τ Cert.ScanPromptIdeal.sig) → Buf (Elt Ideal) ℓ) (g : Dev Cert.ScanPromptIdeal.nD → PrngReg), Pre_ScanPromptIdeal_finite_prompt m →
    θ_run (Cert.ScanPromptIdeal.defs (F := Ideal)) (onTc (τ := Cert.ScanPromptIdeal.τ) (Cert.ScanPromptIdeal.main (F := Ideal))) ⟨m, fun _ => 0, g⟩ (fun r => (∀ c : Dev Cert.ScanPromptIdeal.nD,
      r.2.mem ((c.tc : Thread Cert.ScanPromptIdeal.nD Cert.ScanPromptIdeal.τ).loc Cert.ScanPromptIdeal.main_arg0) = m ((c.tc : Thread Cert.ScanPromptIdeal.nD Cert.ScanPromptIdeal.τ).loc Cert.ScanPromptIdeal.main_arg0)
      ∧ r.2.mem ((c.tc : Thread Cert.ScanPromptIdeal.nD Cert.ScanPromptIdeal.τ).loc Cert.ScanPromptIdeal.main_arg1) = m ((c.tc : Thread Cert.ScanPromptIdeal.nD Cert.ScanPromptIdeal.τ).loc Cert.ScanPromptIdeal.main_arg1)
      ∧ r.2.mem ((c.tc : Thread Cert.ScanPromptIdeal.nD Cert.ScanPromptIdeal.τ).loc Cert.ScanPromptIdeal.main_arg2) = m ((c.tc : Thread Cert.ScanPromptIdeal.nD Cert.ScanPromptIdeal.τ).loc Cert.ScanPromptIdeal.main_arg2)
      ∧ r.2.mem ((c.tc : Thread Cert.ScanPromptIdeal.nD Cert.ScanPromptIdeal.τ).loc Cert.ScanPromptIdeal.main_arg3) = m ((c.tc : Thread Cert.ScanPromptIdeal.nD Cert.ScanPromptIdeal.τ).loc Cert.ScanPromptIdeal.main_arg3)
      ∧ r.2.mem ((c.tc : Thread Cert.ScanPromptIdeal.nD Cert.ScanPromptIdeal.τ).loc Cert.ScanPromptIdeal.main_arg4) = m ((c.tc : Thread Cert.ScanPromptIdeal.nD Cert.ScanPromptIdeal.τ).loc Cert.ScanPromptIdeal.main_arg4)
      ∧ r.2.mem ((c.tc : Thread Cert.ScanPromptIdeal.nD Cert.ScanPromptIdeal.τ).loc Cert.ScanPromptIdeal.main_arg5) = m ((c.tc : Thread Cert.ScanPromptIdeal.nD Cert.ScanPromptIdeal.τ).loc Cert.ScanPromptIdeal.main_arg5)
      ∧ r.2.mem ((c.tc : Thread Cert.ScanPromptIdeal.nD Cert.ScanPromptIdeal.τ).loc Cert.ScanPromptIdeal.main_arg6) = m ((c.tc : Thread Cert.ScanPromptIdeal.nD Cert.ScanPromptIdeal.τ).loc Cert.ScanPromptIdeal.main_arg6)
      ∧ r.2.mem ((c.tc : Thread Cert.ScanPromptIdeal.nD Cert.ScanPromptIdeal.τ).loc Cert.ScanPromptIdeal.main_arg7) = m ((c.tc : Thread Cert.ScanPromptIdeal.nD Cert.ScanPromptIdeal.τ).loc Cert.ScanPromptIdeal.main_arg7)
      ∧ r.2.mem ((c.tc : Thread Cert.ScanPromptIdeal.nD Cert.ScanPromptIdeal.τ).loc Cert.ScanPromptIdeal.main_arg8) = m ((c.tc : Thread Cert.ScanPromptIdeal.nD Cert.ScanPromptIdeal.τ).loc Cert.ScanPromptIdeal.main_arg8)
      ∧ r.2.mem ((c.tc : Thread Cert.ScanPromptIdeal.nD Cert.ScanPromptIdeal.τ).loc Cert.ScanPromptIdeal.main_arg9) = m ((c.tc : Thread Cert.ScanPromptIdeal.nD Cert.ScanPromptIdeal.τ).loc Cert.ScanPromptIdeal.main_arg9)
      ∧ r.2.mem ((c.tc : Thread Cert.ScanPromptIdeal.nD Cert.ScanPromptIdeal.τ).loc Cert.ScanPromptIdeal.main_arg10) = m ((c.tc : Thread Cert.ScanPromptIdeal.nD Cert.ScanPromptIdeal.τ).loc Cert.ScanPromptIdeal.main_arg10))
      ∧ r.2.sem = fun _ => 0)

def quiescent_ScanPromptReferenceIdeal [hScanPromptReferenceIdeal : Cert.ScanPromptReferenceIdeal.Facts] : Prop :=
  ∀ (m : (ℓ : Loc Cert.ScanPromptReferenceIdeal.nD Cert.ScanPromptReferenceIdeal.τ Cert.ScanPromptReferenceIdeal.sig) → Buf (Elt Ideal) ℓ) (g : Dev Cert.ScanPromptReferenceIdeal.nD → PrngReg), Pre_ScanPromptReferenceIdeal m →
    θ_run (Cert.ScanPromptReferenceIdeal.defs (F := Ideal)) (onTc (τ := Cert.ScanPromptReferenceIdeal.τ) (Cert.ScanPromptReferenceIdeal.main (F := Ideal))) ⟨m, fun _ => 0, g⟩ (fun r => (∀ c : Dev Cert.ScanPromptReferenceIdeal.nD,
      r.2.mem ((c.tc : Thread Cert.ScanPromptReferenceIdeal.nD Cert.ScanPromptReferenceIdeal.τ).loc Cert.ScanPromptReferenceIdeal.main_arg0) = m ((c.tc : Thread Cert.ScanPromptReferenceIdeal.nD Cert.ScanPromptReferenceIdeal.τ).loc Cert.ScanPromptReferenceIdeal.main_arg0)
      ∧ r.2.mem ((c.tc : Thread Cert.ScanPromptReferenceIdeal.nD Cert.ScanPromptReferenceIdeal.τ).loc Cert.ScanPromptReferenceIdeal.main_arg1) = m ((c.tc : Thread Cert.ScanPromptReferenceIdeal.nD Cert.ScanPromptReferenceIdeal.τ).loc Cert.ScanPromptReferenceIdeal.main_arg1)
      ∧ r.2.mem ((c.tc : Thread Cert.ScanPromptReferenceIdeal.nD Cert.ScanPromptReferenceIdeal.τ).loc Cert.ScanPromptReferenceIdeal.main_arg2) = m ((c.tc : Thread Cert.ScanPromptReferenceIdeal.nD Cert.ScanPromptReferenceIdeal.τ).loc Cert.ScanPromptReferenceIdeal.main_arg2)
      ∧ r.2.mem ((c.tc : Thread Cert.ScanPromptReferenceIdeal.nD Cert.ScanPromptReferenceIdeal.τ).loc Cert.ScanPromptReferenceIdeal.main_arg3) = m ((c.tc : Thread Cert.ScanPromptReferenceIdeal.nD Cert.ScanPromptReferenceIdeal.τ).loc Cert.ScanPromptReferenceIdeal.main_arg3)
      ∧ r.2.mem ((c.tc : Thread Cert.ScanPromptReferenceIdeal.nD Cert.ScanPromptReferenceIdeal.τ).loc Cert.ScanPromptReferenceIdeal.main_arg4) = m ((c.tc : Thread Cert.ScanPromptReferenceIdeal.nD Cert.ScanPromptReferenceIdeal.τ).loc Cert.ScanPromptReferenceIdeal.main_arg4)
      ∧ r.2.mem ((c.tc : Thread Cert.ScanPromptReferenceIdeal.nD Cert.ScanPromptReferenceIdeal.τ).loc Cert.ScanPromptReferenceIdeal.main_arg5) = m ((c.tc : Thread Cert.ScanPromptReferenceIdeal.nD Cert.ScanPromptReferenceIdeal.τ).loc Cert.ScanPromptReferenceIdeal.main_arg5)
      ∧ r.2.mem ((c.tc : Thread Cert.ScanPromptReferenceIdeal.nD Cert.ScanPromptReferenceIdeal.τ).loc Cert.ScanPromptReferenceIdeal.main_arg6) = m ((c.tc : Thread Cert.ScanPromptReferenceIdeal.nD Cert.ScanPromptReferenceIdeal.τ).loc Cert.ScanPromptReferenceIdeal.main_arg6)
      ∧ r.2.mem ((c.tc : Thread Cert.ScanPromptReferenceIdeal.nD Cert.ScanPromptReferenceIdeal.τ).loc Cert.ScanPromptReferenceIdeal.main_arg7) = m ((c.tc : Thread Cert.ScanPromptReferenceIdeal.nD Cert.ScanPromptReferenceIdeal.τ).loc Cert.ScanPromptReferenceIdeal.main_arg7)
      ∧ r.2.mem ((c.tc : Thread Cert.ScanPromptReferenceIdeal.nD Cert.ScanPromptReferenceIdeal.τ).loc Cert.ScanPromptReferenceIdeal.main_arg8) = m ((c.tc : Thread Cert.ScanPromptReferenceIdeal.nD Cert.ScanPromptReferenceIdeal.τ).loc Cert.ScanPromptReferenceIdeal.main_arg8)
      ∧ r.2.mem ((c.tc : Thread Cert.ScanPromptReferenceIdeal.nD Cert.ScanPromptReferenceIdeal.τ).loc Cert.ScanPromptReferenceIdeal.main_arg9) = m ((c.tc : Thread Cert.ScanPromptReferenceIdeal.nD Cert.ScanPromptReferenceIdeal.τ).loc Cert.ScanPromptReferenceIdeal.main_arg9)
      ∧ r.2.mem ((c.tc : Thread Cert.ScanPromptReferenceIdeal.nD Cert.ScanPromptReferenceIdeal.τ).loc Cert.ScanPromptReferenceIdeal.main_arg10) = m ((c.tc : Thread Cert.ScanPromptReferenceIdeal.nD Cert.ScanPromptReferenceIdeal.τ).loc Cert.ScanPromptReferenceIdeal.main_arg10))
      ∧ r.2.sem = fun _ => 0)

def quiescent_ScanPromptReferenceIdeal_pre_finite_prompt [hScanPromptReferenceIdeal : Cert.ScanPromptReferenceIdeal.Facts] [hPre_finite_prompt : Cert.Pre_finite_prompt.Facts] : Prop :=
  ∀ (m : (ℓ : Loc Cert.ScanPromptReferenceIdeal.nD Cert.ScanPromptReferenceIdeal.τ Cert.ScanPromptReferenceIdeal.sig) → Buf (Elt Ideal) ℓ) (g : Dev Cert.ScanPromptReferenceIdeal.nD → PrngReg), Pre_ScanPromptReferenceIdeal_finite_prompt m →
    θ_run (Cert.ScanPromptReferenceIdeal.defs (F := Ideal)) (onTc (τ := Cert.ScanPromptReferenceIdeal.τ) (Cert.ScanPromptReferenceIdeal.main (F := Ideal))) ⟨m, fun _ => 0, g⟩ (fun r => (∀ c : Dev Cert.ScanPromptReferenceIdeal.nD,
      r.2.mem ((c.tc : Thread Cert.ScanPromptReferenceIdeal.nD Cert.ScanPromptReferenceIdeal.τ).loc Cert.ScanPromptReferenceIdeal.main_arg0) = m ((c.tc : Thread Cert.ScanPromptReferenceIdeal.nD Cert.ScanPromptReferenceIdeal.τ).loc Cert.ScanPromptReferenceIdeal.main_arg0)
      ∧ r.2.mem ((c.tc : Thread Cert.ScanPromptReferenceIdeal.nD Cert.ScanPromptReferenceIdeal.τ).loc Cert.ScanPromptReferenceIdeal.main_arg1) = m ((c.tc : Thread Cert.ScanPromptReferenceIdeal.nD Cert.ScanPromptReferenceIdeal.τ).loc Cert.ScanPromptReferenceIdeal.main_arg1)
      ∧ r.2.mem ((c.tc : Thread Cert.ScanPromptReferenceIdeal.nD Cert.ScanPromptReferenceIdeal.τ).loc Cert.ScanPromptReferenceIdeal.main_arg2) = m ((c.tc : Thread Cert.ScanPromptReferenceIdeal.nD Cert.ScanPromptReferenceIdeal.τ).loc Cert.ScanPromptReferenceIdeal.main_arg2)
      ∧ r.2.mem ((c.tc : Thread Cert.ScanPromptReferenceIdeal.nD Cert.ScanPromptReferenceIdeal.τ).loc Cert.ScanPromptReferenceIdeal.main_arg3) = m ((c.tc : Thread Cert.ScanPromptReferenceIdeal.nD Cert.ScanPromptReferenceIdeal.τ).loc Cert.ScanPromptReferenceIdeal.main_arg3)
      ∧ r.2.mem ((c.tc : Thread Cert.ScanPromptReferenceIdeal.nD Cert.ScanPromptReferenceIdeal.τ).loc Cert.ScanPromptReferenceIdeal.main_arg4) = m ((c.tc : Thread Cert.ScanPromptReferenceIdeal.nD Cert.ScanPromptReferenceIdeal.τ).loc Cert.ScanPromptReferenceIdeal.main_arg4)
      ∧ r.2.mem ((c.tc : Thread Cert.ScanPromptReferenceIdeal.nD Cert.ScanPromptReferenceIdeal.τ).loc Cert.ScanPromptReferenceIdeal.main_arg5) = m ((c.tc : Thread Cert.ScanPromptReferenceIdeal.nD Cert.ScanPromptReferenceIdeal.τ).loc Cert.ScanPromptReferenceIdeal.main_arg5)
      ∧ r.2.mem ((c.tc : Thread Cert.ScanPromptReferenceIdeal.nD Cert.ScanPromptReferenceIdeal.τ).loc Cert.ScanPromptReferenceIdeal.main_arg6) = m ((c.tc : Thread Cert.ScanPromptReferenceIdeal.nD Cert.ScanPromptReferenceIdeal.τ).loc Cert.ScanPromptReferenceIdeal.main_arg6)
      ∧ r.2.mem ((c.tc : Thread Cert.ScanPromptReferenceIdeal.nD Cert.ScanPromptReferenceIdeal.τ).loc Cert.ScanPromptReferenceIdeal.main_arg7) = m ((c.tc : Thread Cert.ScanPromptReferenceIdeal.nD Cert.ScanPromptReferenceIdeal.τ).loc Cert.ScanPromptReferenceIdeal.main_arg7)
      ∧ r.2.mem ((c.tc : Thread Cert.ScanPromptReferenceIdeal.nD Cert.ScanPromptReferenceIdeal.τ).loc Cert.ScanPromptReferenceIdeal.main_arg8) = m ((c.tc : Thread Cert.ScanPromptReferenceIdeal.nD Cert.ScanPromptReferenceIdeal.τ).loc Cert.ScanPromptReferenceIdeal.main_arg8)
      ∧ r.2.mem ((c.tc : Thread Cert.ScanPromptReferenceIdeal.nD Cert.ScanPromptReferenceIdeal.τ).loc Cert.ScanPromptReferenceIdeal.main_arg9) = m ((c.tc : Thread Cert.ScanPromptReferenceIdeal.nD Cert.ScanPromptReferenceIdeal.τ).loc Cert.ScanPromptReferenceIdeal.main_arg9)
      ∧ r.2.mem ((c.tc : Thread Cert.ScanPromptReferenceIdeal.nD Cert.ScanPromptReferenceIdeal.τ).loc Cert.ScanPromptReferenceIdeal.main_arg10) = m ((c.tc : Thread Cert.ScanPromptReferenceIdeal.nD Cert.ScanPromptReferenceIdeal.τ).loc Cert.ScanPromptReferenceIdeal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v23)) (v1 : (c : Dev Cert.InProjIdeal.nD) → Buf (Elt Ideal) ((c.tc : Thread Cert.InProjIdeal.nD Cert.InProjIdeal.τ).loc Cert.InProjIdeal.main_v33)) (v2 : (c : Dev Cert.InProjIdeal.nD) → Buf (Elt Ideal) ((c.tc : Thread Cert.InProjIdeal.nD Cert.InProjIdeal.τ).loc Cert.InProjIdeal.main_v34)) (v3 : (c : Dev Cert.InProjIdeal.nD) → Buf (Elt Ideal) ((c.tc : Thread Cert.InProjIdeal.nD Cert.InProjIdeal.τ).loc Cert.InProjIdeal.main_v32)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v23) = v0 c
          ∧ r.2.mem ((c.tc : Thread Cert.InProjIdeal.nD Cert.InProjIdeal.τ).loc Cert.InProjIdeal.main_v33) = v1 c
          ∧ r.2.mem ((c.tc : Thread Cert.InProjIdeal.nD Cert.InProjIdeal.τ).loc Cert.InProjIdeal.main_v34) = v2 c
          ∧ r.2.mem ((c.tc : Thread Cert.InProjIdeal.nD Cert.InProjIdeal.τ).loc Cert.InProjIdeal.main_v32) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v21) = v0 c
          ∧ r.2.mem ((c.tc : Thread Cert.InProjReferenceIdeal.nD Cert.InProjReferenceIdeal.τ).loc Cert.InProjReferenceIdeal.main_v7) = v1 c
          ∧ r.2.mem ((c.tc : Thread Cert.InProjReferenceIdeal.nD Cert.InProjReferenceIdeal.τ).loc Cert.InProjReferenceIdeal.main_v9) = v2 c
          ∧ r.2.mem ((c.tc : Thread Cert.InProjReferenceIdeal.nD Cert.InProjReferenceIdeal.τ).loc Cert.InProjReferenceIdeal.main_v13) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v2)) (v1 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_v4) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v7) = v0 c
          ∧ r.2.mem ((c.tc : Thread Cert.FfnUpReferenceIdeal.nD Cert.FfnUpReferenceIdeal.τ).loc Cert.FfnUpReferenceIdeal.main_v8) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v10) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v16) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v10) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_HeadNorm_HeadNormIdeal : Prop :=
  True

def algebraic_HeadNormIdeal_HeadNormReferenceIdeal [hHeadNormIdeal : Cert.HeadNormIdeal.Facts] [hHeadNormReferenceIdeal : Cert.HeadNormReferenceIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg)
    (m' : (ℓ : Loc Cert.HeadNormReferenceIdeal.nD Cert.HeadNormReferenceIdeal.τ Cert.HeadNormReferenceIdeal.sig) → Buf (Elt Ideal) ℓ) (g' : Dev Cert.HeadNormReferenceIdeal.nD → PrngReg), Pre_HeadNormIdeal m →
    (∀ c : Dev Cert.HeadNormIdeal.nD,
      m' ((c.tc : Thread Cert.HeadNormReferenceIdeal.nD Cert.HeadNormReferenceIdeal.τ).loc Cert.HeadNormReferenceIdeal.main_arg0) = m ((c.tc : Thread Cert.HeadNormIdeal.nD Cert.HeadNormIdeal.τ).loc Cert.HeadNormIdeal.main_arg0)
      ∧ m' ((c.tc : Thread Cert.HeadNormReferenceIdeal.nD Cert.HeadNormReferenceIdeal.τ).loc Cert.HeadNormReferenceIdeal.main_arg1) = m ((c.tc : Thread Cert.HeadNormIdeal.nD Cert.HeadNormIdeal.τ).loc Cert.HeadNormIdeal.main_arg1)
      ∧ m' ((c.tc : Thread Cert.HeadNormReferenceIdeal.nD Cert.HeadNormReferenceIdeal.τ).loc Cert.HeadNormReferenceIdeal.main_arg2) = m ((c.tc : Thread Cert.HeadNormIdeal.nD Cert.HeadNormIdeal.τ).loc Cert.HeadNormIdeal.main_arg2)) →
    ∃ (v0 : (c : Dev Cert.HeadNormIdeal.nD) → Buf (Elt Ideal) ((c.tc : Thread Cert.HeadNormIdeal.nD Cert.HeadNormIdeal.τ).loc Cert.HeadNormIdeal.main_v4_0)) (v1 : (c : Dev Cert.HeadNormIdeal.nD) → Buf (Elt Ideal) ((c.tc : Thread Cert.HeadNormIdeal.nD Cert.HeadNormIdeal.τ).loc Cert.HeadNormIdeal.main_v4_1)) (v2 : (c : Dev Cert.HeadNormIdeal.nD) → Buf (Elt Ideal) ((c.tc : Thread Cert.HeadNormIdeal.nD Cert.HeadNormIdeal.τ).loc Cert.HeadNormIdeal.main_v4_2)),
      θ_run (Cert.HeadNormIdeal.defs (F := Ideal)) (onTc (τ := Cert.HeadNormIdeal.τ) (Cert.HeadNormIdeal.main (F := Ideal))) ⟨m, fun _ => 0, g⟩ (fun r => ∀ c : Dev Cert.HeadNormIdeal.nD,
          r.2.mem ((c.tc : Thread Cert.HeadNormIdeal.nD Cert.HeadNormIdeal.τ).loc Cert.HeadNormIdeal.main_v4_0) = v0 c
          ∧ r.2.mem ((c.tc : Thread Cert.HeadNormIdeal.nD Cert.HeadNormIdeal.τ).loc Cert.HeadNormIdeal.main_v4_1) = v1 c
          ∧ r.2.mem ((c.tc : Thread Cert.HeadNormIdeal.nD Cert.HeadNormIdeal.τ).loc Cert.HeadNormIdeal.main_v4_2) = v2 c
          ∧ r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
          ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
          ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2))
      ∧ θ_run (Cert.HeadNormReferenceIdeal.defs (F := Ideal)) (onTc (τ := Cert.HeadNormReferenceIdeal.τ) (Cert.HeadNormReferenceIdeal.main (F := Ideal))) ⟨m', fun _ => 0, g'⟩ (fun r => ∀ c : Dev Cert.HeadNormReferenceIdeal.nD,
          r.2.mem ((c.tc : Thread Cert.HeadNormReferenceIdeal.nD Cert.HeadNormReferenceIdeal.τ).loc Cert.HeadNormReferenceIdeal.main_v36) = v0 c
          ∧ r.2.mem ((c.tc : Thread Cert.HeadNormReferenceIdeal.nD Cert.HeadNormReferenceIdeal.τ).loc Cert.HeadNormReferenceIdeal.main_v33) = v1 c
          ∧ r.2.mem ((c.tc : Thread Cert.HeadNormReferenceIdeal.nD Cert.HeadNormReferenceIdeal.τ).loc Cert.HeadNormReferenceIdeal.main_v37) = v2 c
          ∧ r.2.mem ((c.tc : Thread Cert.HeadNormReferenceIdeal.nD Cert.HeadNormReferenceIdeal.τ).loc Cert.HeadNormReferenceIdeal.main_arg0) = m' ((c.tc : Thread Cert.HeadNormReferenceIdeal.nD Cert.HeadNormReferenceIdeal.τ).loc Cert.HeadNormReferenceIdeal.main_arg0)
          ∧ r.2.mem ((c.tc : Thread Cert.HeadNormReferenceIdeal.nD Cert.HeadNormReferenceIdeal.τ).loc Cert.HeadNormReferenceIdeal.main_arg1) = m' ((c.tc : Thread Cert.HeadNormReferenceIdeal.nD Cert.HeadNormReferenceIdeal.τ).loc Cert.HeadNormReferenceIdeal.main_arg1)
          ∧ r.2.mem ((c.tc : Thread Cert.HeadNormReferenceIdeal.nD Cert.HeadNormReferenceIdeal.τ).loc Cert.HeadNormReferenceIdeal.main_arg2) = m' ((c.tc : Thread Cert.HeadNormReferenceIdeal.nD Cert.HeadNormReferenceIdeal.τ).loc Cert.HeadNormReferenceIdeal.main_arg2))

def preserves_HeadNormSample_HeadNormSampleIdeal : Prop :=
  True

def algebraic_HeadNormSampleIdeal_HeadNormSampleReferenceIdeal [hHeadNormSampleIdeal : Cert.HeadNormSampleIdeal.Facts] [hHeadNormSampleReferenceIdeal : Cert.HeadNormSampleReferenceIdeal.Facts] : Prop :=
  ∀ (m : (ℓ : Loc Cert.HeadNormSampleIdeal.nD Cert.HeadNormSampleIdeal.τ Cert.HeadNormSampleIdeal.sig) → Buf (Elt Ideal) ℓ) (g : Dev Cert.HeadNormSampleIdeal.nD → PrngReg)
    (m' : (ℓ : Loc Cert.HeadNormSampleReferenceIdeal.nD Cert.HeadNormSampleReferenceIdeal.τ Cert.HeadNormSampleReferenceIdeal.sig) → Buf (Elt Ideal) ℓ) (g' : Dev Cert.HeadNormSampleReferenceIdeal.nD → PrngReg), Pre_HeadNormSampleIdeal m →
    (∀ c : Dev Cert.HeadNormSampleIdeal.nD,
      m' ((c.tc : Thread Cert.HeadNormSampleReferenceIdeal.nD Cert.HeadNormSampleReferenceIdeal.τ).loc Cert.HeadNormSampleReferenceIdeal.main_arg0) = m ((c.tc : Thread Cert.HeadNormSampleIdeal.nD Cert.HeadNormSampleIdeal.τ).loc Cert.HeadNormSampleIdeal.main_arg0)
      ∧ m' ((c.tc : Thread Cert.HeadNormSampleReferenceIdeal.nD Cert.HeadNormSampleReferenceIdeal.τ).loc Cert.HeadNormSampleReferenceIdeal.main_arg1) = m ((c.tc : Thread Cert.HeadNormSampleIdeal.nD Cert.HeadNormSampleIdeal.τ).loc Cert.HeadNormSampleIdeal.main_arg1)
      ∧ m' ((c.tc : Thread Cert.HeadNormSampleReferenceIdeal.nD Cert.HeadNormSampleReferenceIdeal.τ).loc Cert.HeadNormSampleReferenceIdeal.main_arg2) = m ((c.tc : Thread Cert.HeadNormSampleIdeal.nD Cert.HeadNormSampleIdeal.τ).loc Cert.HeadNormSampleIdeal.main_arg2)) →
    ∃ (v0 : (c : Dev Cert.HeadNormSampleIdeal.nD) → Buf (Elt Ideal) ((c.tc : Thread Cert.HeadNormSampleIdeal.nD Cert.HeadNormSampleIdeal.τ).loc Cert.HeadNormSampleIdeal.main_v4_0)) (v1 : (c : Dev Cert.HeadNormSampleIdeal.nD) → Buf (Elt Ideal) ((c.tc : Thread Cert.HeadNormSampleIdeal.nD Cert.HeadNormSampleIdeal.τ).loc Cert.HeadNormSampleIdeal.main_v4_1)) (v2 : (c : Dev Cert.HeadNormSampleIdeal.nD) → Buf (Elt Ideal) ((c.tc : Thread Cert.HeadNormSampleIdeal.nD Cert.HeadNormSampleIdeal.τ).loc Cert.HeadNormSampleIdeal.main_v4_2)),
      θ_run (Cert.HeadNormSampleIdeal.defs (F := Ideal)) (onTc (τ := Cert.HeadNormSampleIdeal.τ) (Cert.HeadNormSampleIdeal.main (F := Ideal))) ⟨m, fun _ => 0, g⟩ (fun r => ∀ c : Dev Cert.HeadNormSampleIdeal.nD,
          r.2.mem ((c.tc : Thread Cert.HeadNormSampleIdeal.nD Cert.HeadNormSampleIdeal.τ).loc Cert.HeadNormSampleIdeal.main_v4_0) = v0 c
          ∧ r.2.mem ((c.tc : Thread Cert.HeadNormSampleIdeal.nD Cert.HeadNormSampleIdeal.τ).loc Cert.HeadNormSampleIdeal.main_v4_1) = v1 c
          ∧ r.2.mem ((c.tc : Thread Cert.HeadNormSampleIdeal.nD Cert.HeadNormSampleIdeal.τ).loc Cert.HeadNormSampleIdeal.main_v4_2) = v2 c
          ∧ r.2.mem ((c.tc : Thread Cert.HeadNormSampleIdeal.nD Cert.HeadNormSampleIdeal.τ).loc Cert.HeadNormSampleIdeal.main_arg0) = m ((c.tc : Thread Cert.HeadNormSampleIdeal.nD Cert.HeadNormSampleIdeal.τ).loc Cert.HeadNormSampleIdeal.main_arg0)
          ∧ r.2.mem ((c.tc : Thread Cert.HeadNormSampleIdeal.nD Cert.HeadNormSampleIdeal.τ).loc Cert.HeadNormSampleIdeal.main_arg1) = m ((c.tc : Thread Cert.HeadNormSampleIdeal.nD Cert.HeadNormSampleIdeal.τ).loc Cert.HeadNormSampleIdeal.main_arg1)
          ∧ r.2.mem ((c.tc : Thread Cert.HeadNormSampleIdeal.nD Cert.HeadNormSampleIdeal.τ).loc Cert.HeadNormSampleIdeal.main_arg2) = m ((c.tc : Thread Cert.HeadNormSampleIdeal.nD Cert.HeadNormSampleIdeal.τ).loc Cert.HeadNormSampleIdeal.main_arg2))
      ∧ θ_run (Cert.HeadNormSampleReferenceIdeal.defs (F := Ideal)) (onTc (τ := Cert.HeadNormSampleReferenceIdeal.τ) (Cert.HeadNormSampleReferenceIdeal.main (F := Ideal))) ⟨m', fun _ => 0, g'⟩ (fun r => ∀ c : Dev Cert.HeadNormSampleReferenceIdeal.nD,
          r.2.mem ((c.tc : Thread Cert.HeadNormSampleReferenceIdeal.nD Cert.HeadNormSampleReferenceIdeal.τ).loc Cert.HeadNormSampleReferenceIdeal.main_v36) = v0 c
          ∧ r.2.mem ((c.tc : Thread Cert.HeadNormSampleReferenceIdeal.nD Cert.HeadNormSampleReferenceIdeal.τ).loc Cert.HeadNormSampleReferenceIdeal.main_v33) = v1 c
          ∧ r.2.mem ((c.tc : Thread Cert.HeadNormSampleReferenceIdeal.nD Cert.HeadNormSampleReferenceIdeal.τ).loc Cert.HeadNormSampleReferenceIdeal.main_v37) = v2 c
          ∧ r.2.mem ((c.tc : Thread Cert.HeadNormSampleReferenceIdeal.nD Cert.HeadNormSampleReferenceIdeal.τ).loc Cert.HeadNormSampleReferenceIdeal.main_arg0) = m' ((c.tc : Thread Cert.HeadNormSampleReferenceIdeal.nD Cert.HeadNormSampleReferenceIdeal.τ).loc Cert.HeadNormSampleReferenceIdeal.main_arg0)
          ∧ r.2.mem ((c.tc : Thread Cert.HeadNormSampleReferenceIdeal.nD Cert.HeadNormSampleReferenceIdeal.τ).loc Cert.HeadNormSampleReferenceIdeal.main_arg1) = m' ((c.tc : Thread Cert.HeadNormSampleReferenceIdeal.nD Cert.HeadNormSampleReferenceIdeal.τ).loc Cert.HeadNormSampleReferenceIdeal.main_arg1)
          ∧ r.2.mem ((c.tc : Thread Cert.HeadNormSampleReferenceIdeal.nD Cert.HeadNormSampleReferenceIdeal.τ).loc Cert.HeadNormSampleReferenceIdeal.main_arg2) = m' ((c.tc : Thread Cert.HeadNormSampleReferenceIdeal.nD Cert.HeadNormSampleReferenceIdeal.τ).loc Cert.HeadNormSampleReferenceIdeal.main_arg2))

def preserves_InProjSample_InProjSampleIdeal : Prop :=
  True

def algebraic_InProjSampleIdeal_InProjSampleReferenceIdeal [hInProjSampleIdeal : Cert.InProjSampleIdeal.Facts] [hInProjSampleReferenceIdeal : Cert.InProjSampleReferenceIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleReferenceIdeal.nD Cert.InProjSampleReferenceIdeal.τ Cert.InProjSampleReferenceIdeal.sig) → Buf (Elt Ideal) ℓ) (g' : Dev Cert.InProjSampleReferenceIdeal.nD → PrngReg), Pre_InProjSampleIdeal m →
    (∀ c : Dev Cert.InProjSampleIdeal.nD,
      m' ((c.tc : Thread Cert.InProjSampleReferenceIdeal.nD Cert.InProjSampleReferenceIdeal.τ).loc Cert.InProjSampleReferenceIdeal.main_arg0) = m ((c.tc : Thread Cert.InProjSampleIdeal.nD Cert.InProjSampleIdeal.τ).loc Cert.InProjSampleIdeal.main_arg0)
      ∧ m' ((c.tc : Thread Cert.InProjSampleReferenceIdeal.nD Cert.InProjSampleReferenceIdeal.τ).loc Cert.InProjSampleReferenceIdeal.main_arg1) = m ((c.tc : Thread Cert.InProjSampleIdeal.nD Cert.InProjSampleIdeal.τ).loc Cert.InProjSampleIdeal.main_arg1)) →
    ∃ (v0 : (c : Dev Cert.InProjSampleIdeal.nD) → Buf (Elt Ideal) ((c.tc : Thread Cert.InProjSampleIdeal.nD Cert.InProjSampleIdeal.τ).loc Cert.InProjSampleIdeal.main_v23)) (v1 : (c : Dev Cert.InProjSampleIdeal.nD) → Buf (Elt Ideal) ((c.tc : Thread Cert.InProjSampleIdeal.nD Cert.InProjSampleIdeal.τ).loc Cert.InProjSampleIdeal.main_v33)) (v2 : (c : Dev Cert.InProjSampleIdeal.nD) → Buf (Elt Ideal) ((c.tc : Thread Cert.InProjSampleIdeal.nD Cert.InProjSampleIdeal.τ).loc Cert.InProjSampleIdeal.main_v34)) (v3 : (c : Dev Cert.InProjSampleIdeal.nD) → Buf (Elt Ideal) ((c.tc : Thread Cert.InProjSampleIdeal.nD Cert.InProjSampleIdeal.τ).loc Cert.InProjSampleIdeal.main_v32)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v23) = v0 c
          ∧ r.2.mem ((c.tc : Thread Cert.InProjSampleIdeal.nD Cert.InProjSampleIdeal.τ).loc Cert.InProjSampleIdeal.main_v33) = v1 c
          ∧ r.2.mem ((c.tc : Thread Cert.InProjSampleIdeal.nD Cert.InProjSampleIdeal.τ).loc Cert.InProjSampleIdeal.main_v34) = v2 c
          ∧ r.2.mem ((c.tc : Thread Cert.InProjSampleIdeal.nD Cert.InProjSampleIdeal.τ).loc Cert.InProjSampleIdeal.main_v32) = v3 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ θ_run (Cert.InProjSampleReferenceIdeal.defs (F := Ideal)) (onTc (τ := Cert.InProjSampleReferenceIdeal.τ) (Cert.InProjSampleReferenceIdeal.main (F := Ideal))) ⟨m', fun _ => 0, g'⟩ (fun r => ∀ c : Dev Cert.InProjSampleReferenceIdeal.nD,
          r.2.mem ((c.tc : Thread Cert.InProjSampleReferenceIdeal.nD Cert.InProjSampleReferenceIdeal.τ).loc Cert.InProjSampleReferenceIdeal.main_v21) = v0 c
          ∧ r.2.mem ((c.tc : Thread Cert.InProjSampleReferenceIdeal.nD Cert.InProjSampleReferenceIdeal.τ).loc Cert.InProjSampleReferenceIdeal.main_v7) = v1 c
          ∧ r.2.mem ((c.tc : Thread Cert.InProjSampleReferenceIdeal.nD Cert.InProjSampleReferenceIdeal.τ).loc Cert.InProjSampleReferenceIdeal.main_v9) = v2 c
          ∧ r.2.mem ((c.tc : Thread Cert.InProjSampleReferenceIdeal.nD Cert.InProjSampleReferenceIdeal.τ).loc Cert.InProjSampleReferenceIdeal.main_v13) = v3 c
          ∧ r.2.mem ((c.tc : Thread Cert.InProjSampleReferenceIdeal.nD Cert.InProjSampleReferenceIdeal.τ).loc Cert.InProjSampleReferenceIdeal.main_arg0) = m' ((c.tc : Thread Cert.InProjSampleReferenceIdeal.nD Cert.InProjSampleReferenceIdeal.τ).loc Cert.InProjSampleReferenceIdeal.main_arg0)
          ∧ r.2.mem ((c.tc : Thread Cert.InProjSampleReferenceIdeal.nD Cert.InProjSampleReferenceIdeal.τ).loc Cert.InProjSampleReferenceIdeal.main_arg1) = m' ((c.tc : Thread Cert.InProjSampleReferenceIdeal.nD Cert.InProjSampleReferenceIdeal.τ).loc Cert.InProjSampleReferenceIdeal.main_arg1))

def preserves_FfnUpSample_FfnUpSampleIdeal : Prop :=
  True

def algebraic_FfnUpSampleIdeal_FfnUpSampleReferenceIdeal [hFfnUpSampleIdeal : Cert.FfnUpSampleIdeal.Facts] [hFfnUpSampleReferenceIdeal : Cert.FfnUpSampleReferenceIdeal.Facts] : Prop :=
  ∀ (m : (ℓ : Loc Cert.FfnUpSampleIdeal.nD Cert.FfnUpSampleIdeal.τ Cert.FfnUpSampleIdeal.sig) → Buf (Elt Ideal) ℓ) (g : Dev Cert.FfnUpSampleIdeal.nD → PrngReg)
    (m' : (ℓ : Loc Cert.FfnUpSampleReferenceIdeal.nD Cert.FfnUpSampleReferenceIdeal.τ Cert.FfnUpSampleReferenceIdeal.sig) → Buf (Elt Ideal) ℓ) (g' : Dev Cert.FfnUpSampleReferenceIdeal.nD → PrngReg), Pre_FfnUpSampleIdeal m →
    (∀ c : Dev Cert.FfnUpSampleIdeal.nD,
      m' ((c.tc : Thread Cert.FfnUpSampleReferenceIdeal.nD Cert.FfnUpSampleReferenceIdeal.τ).loc Cert.FfnUpSampleReferenceIdeal.main_arg0) = m ((c.tc : Thread Cert.FfnUpSampleIdeal.nD Cert.FfnUpSampleIdeal.τ).loc Cert.FfnUpSampleIdeal.main_arg0)
      ∧ m' ((c.tc : Thread Cert.FfnUpSampleReferenceIdeal.nD Cert.FfnUpSampleReferenceIdeal.τ).loc Cert.FfnUpSampleReferenceIdeal.main_arg1) = m ((c.tc : Thread Cert.FfnUpSampleIdeal.nD Cert.FfnUpSampleIdeal.τ).loc Cert.FfnUpSampleIdeal.main_arg1)
      ∧ m' ((c.tc : Thread Cert.FfnUpSampleReferenceIdeal.nD Cert.FfnUpSampleReferenceIdeal.τ).loc Cert.FfnUpSampleReferenceIdeal.main_arg2) = m ((c.tc : Thread Cert.FfnUpSampleIdeal.nD Cert.FfnUpSampleIdeal.τ).loc Cert.FfnUpSampleIdeal.main_arg2)) →
    ∃ (v0 : (c : Dev Cert.FfnUpSampleIdeal.nD) → Buf (Elt Ideal) ((c.tc : Thread Cert.FfnUpSampleIdeal.nD Cert.FfnUpSampleIdeal.τ).loc Cert.FfnUpSampleIdeal.main_v2)) (v1 : (c : Dev Cert.FfnUpSampleIdeal.nD) → Buf (Elt Ideal) ((c.tc : Thread Cert.FfnUpSampleIdeal.nD Cert.FfnUpSampleIdeal.τ).loc Cert.FfnUpSampleIdeal.main_v4)),
      θ_run (Cert.FfnUpSampleIdeal.defs (F := Ideal)) (onTc (τ := Cert.FfnUpSampleIdeal.τ) (Cert.FfnUpSampleIdeal.main (F := Ideal))) ⟨m, fun _ => 0, g⟩ (fun r => ∀ c : Dev Cert.FfnUpSampleIdeal.nD,
          r.2.mem ((c.tc : Thread Cert.FfnUpSampleIdeal.nD Cert.FfnUpSampleIdeal.τ).loc Cert.FfnUpSampleIdeal.main_v2) = v0 c
          ∧ r.2.mem ((c.tc : Thread Cert.FfnUpSampleIdeal.nD Cert.FfnUpSampleIdeal.τ).loc Cert.FfnUpSampleIdeal.main_v4) = v1 c
          ∧ r.2.mem ((c.tc : Thread Cert.FfnUpSampleIdeal.nD Cert.FfnUpSampleIdeal.τ).loc Cert.FfnUpSampleIdeal.main_arg0) = m ((c.tc : Thread Cert.FfnUpSampleIdeal.nD Cert.FfnUpSampleIdeal.τ).loc Cert.FfnUpSampleIdeal.main_arg0)
          ∧ r.2.mem ((c.tc : Thread Cert.FfnUpSampleIdeal.nD Cert.FfnUpSampleIdeal.τ).loc Cert.FfnUpSampleIdeal.main_arg1) = m ((c.tc : Thread Cert.FfnUpSampleIdeal.nD Cert.FfnUpSampleIdeal.τ).loc Cert.FfnUpSampleIdeal.main_arg1)
          ∧ r.2.mem ((c.tc : Thread Cert.FfnUpSampleIdeal.nD Cert.FfnUpSampleIdeal.τ).loc Cert.FfnUpSampleIdeal.main_arg2) = m ((c.tc : Thread Cert.FfnUpSampleIdeal.nD Cert.FfnUpSampleIdeal.τ).loc Cert.FfnUpSampleIdeal.main_arg2))
      ∧ θ_run (Cert.FfnUpSampleReferenceIdeal.defs (F := Ideal)) (onTc (τ := Cert.FfnUpSampleReferenceIdeal.τ) (Cert.FfnUpSampleReferenceIdeal.main (F := Ideal))) ⟨m', fun _ => 0, g'⟩ (fun r => ∀ c : Dev Cert.FfnUpSampleReferenceIdeal.nD,
          r.2.mem ((c.tc : Thread Cert.FfnUpSampleReferenceIdeal.nD Cert.FfnUpSampleReferenceIdeal.τ).loc Cert.FfnUpSampleReferenceIdeal.main_v7) = v0 c
          ∧ r.2.mem ((c.tc : Thread Cert.FfnUpSampleReferenceIdeal.nD Cert.FfnUpSampleReferenceIdeal.τ).loc Cert.FfnUpSampleReferenceIdeal.main_v8) = v1 c
          ∧ r.2.mem ((c.tc : Thread Cert.FfnUpSampleReferenceIdeal.nD Cert.FfnUpSampleReferenceIdeal.τ).loc Cert.FfnUpSampleReferenceIdeal.main_arg0) = m' ((c.tc : Thread Cert.FfnUpSampleReferenceIdeal.nD Cert.FfnUpSampleReferenceIdeal.τ).loc Cert.FfnUpSampleReferenceIdeal.main_arg0)
          ∧ r.2.mem ((c.tc : Thread Cert.FfnUpSampleReferenceIdeal.nD Cert.FfnUpSampleReferenceIdeal.τ).loc Cert.FfnUpSampleReferenceIdeal.main_arg1) = m' ((c.tc : Thread Cert.FfnUpSampleReferenceIdeal.nD Cert.FfnUpSampleReferenceIdeal.τ).loc Cert.FfnUpSampleReferenceIdeal.main_arg1)
          ∧ r.2.mem ((c.tc : Thread Cert.FfnUpSampleReferenceIdeal.nD Cert.FfnUpSampleReferenceIdeal.τ).loc Cert.FfnUpSampleReferenceIdeal.main_arg2) = m' ((c.tc : Thread Cert.FfnUpSampleReferenceIdeal.nD Cert.FfnUpSampleReferenceIdeal.τ).loc Cert.FfnUpSampleReferenceIdeal.main_arg2))

def preserves_FfnDownSample_FfnDownSampleIdeal : Prop :=
  True

def algebraic_FfnDownSampleIdeal_FfnDownSampleReferenceIdeal [hFfnDownSampleIdeal : Cert.FfnDownSampleIdeal.Facts] [hFfnDownSampleReferenceIdeal : Cert.FfnDownSampleReferenceIdeal.Facts] : Prop :=
  ∀ (m : (ℓ : Loc Cert.FfnDownSampleIdeal.nD Cert.FfnDownSampleIdeal.τ Cert.FfnDownSampleIdeal.sig) → Buf (Elt Ideal) ℓ) (g : Dev Cert.FfnDownSampleIdeal.nD → PrngReg)
    (m' : (ℓ : Loc Cert.FfnDownSampleReferenceIdeal.nD Cert.FfnDownSampleReferenceIdeal.τ Cert.FfnDownSampleReferenceIdeal.sig) → Buf (Elt Ideal) ℓ) (g' : Dev Cert.FfnDownSampleReferenceIdeal.nD → PrngReg), Pre_FfnDownSampleIdeal m →
    (∀ c : Dev Cert.FfnDownSampleIdeal.nD,
      m' ((c.tc : Thread Cert.FfnDownSampleReferenceIdeal.nD Cert.FfnDownSampleReferenceIdeal.τ).loc Cert.FfnDownSampleReferenceIdeal.main_arg0) = m ((c.tc : Thread Cert.FfnDownSampleIdeal.nD Cert.FfnDownSampleIdeal.τ).loc Cert.FfnDownSampleIdeal.main_arg0)
      ∧ m' ((c.tc : Thread Cert.FfnDownSampleReferenceIdeal.nD Cert.FfnDownSampleReferenceIdeal.τ).loc Cert.FfnDownSampleReferenceIdeal.main_arg1) = m ((c.tc : Thread Cert.FfnDownSampleIdeal.nD Cert.FfnDownSampleIdeal.τ).loc Cert.FfnDownSampleIdeal.main_arg1)
      ∧ m' ((c.tc : Thread Cert.FfnDownSampleReferenceIdeal.nD Cert.FfnDownSampleReferenceIdeal.τ).loc Cert.FfnDownSampleReferenceIdeal.main_arg2) = m ((c.tc : Thread Cert.FfnDownSampleIdeal.nD Cert.FfnDownSampleIdeal.τ).loc Cert.FfnDownSampleIdeal.main_arg2)
      ∧ m' ((c.tc : Thread Cert.FfnDownSampleReferenceIdeal.nD Cert.FfnDownSampleReferenceIdeal.τ).loc Cert.FfnDownSampleReferenceIdeal.main_arg3) = m ((c.tc : Thread Cert.FfnDownSampleIdeal.nD Cert.FfnDownSampleIdeal.τ).loc Cert.FfnDownSampleIdeal.main_arg3)) →
    ∃ (v0 : (c : Dev Cert.FfnDownSampleIdeal.nD) → Buf (Elt Ideal) ((c.tc : Thread Cert.FfnDownSampleIdeal.nD Cert.FfnDownSampleIdeal.τ).loc Cert.FfnDownSampleIdeal.main_v2)),
      θ_run (Cert.FfnDownSampleIdeal.defs (F := Ideal)) (onTc (τ := Cert.FfnDownSampleIdeal.τ) (Cert.FfnDownSampleIdeal.main (F := Ideal))) ⟨m, fun _ => 0, g⟩ (fun r => ∀ c : Dev Cert.FfnDownSampleIdeal.nD,
          r.2.mem ((c.tc : Thread Cert.FfnDownSampleIdeal.nD Cert.FfnDownSampleIdeal.τ).loc Cert.FfnDownSampleIdeal.main_v2) = v0 c
          ∧ r.2.mem ((c.tc : Thread Cert.FfnDownSampleIdeal.nD Cert.FfnDownSampleIdeal.τ).loc Cert.FfnDownSampleIdeal.main_arg0) = m ((c.tc : Thread Cert.FfnDownSampleIdeal.nD Cert.FfnDownSampleIdeal.τ).loc Cert.FfnDownSampleIdeal.main_arg0)
          ∧ r.2.mem ((c.tc : Thread Cert.FfnDownSampleIdeal.nD Cert.FfnDownSampleIdeal.τ).loc Cert.FfnDownSampleIdeal.main_arg1) = m ((c.tc : Thread Cert.FfnDownSampleIdeal.nD Cert.FfnDownSampleIdeal.τ).loc Cert.FfnDownSampleIdeal.main_arg1)
          ∧ r.2.mem ((c.tc : Thread Cert.FfnDownSampleIdeal.nD Cert.FfnDownSampleIdeal.τ).loc Cert.FfnDownSampleIdeal.main_arg2) = m ((c.tc : Thread Cert.FfnDownSampleIdeal.nD Cert.FfnDownSampleIdeal.τ).loc Cert.FfnDownSampleIdeal.main_arg2)
          ∧ r.2.mem ((c.tc : Thread Cert.FfnDownSampleIdeal.nD Cert.FfnDownSampleIdeal.τ).loc Cert.FfnDownSampleIdeal.main_arg3) = m ((c.tc : Thread Cert.FfnDownSampleIdeal.nD Cert.FfnDownSampleIdeal.τ).loc Cert.FfnDownSampleIdeal.main_arg3))
      ∧ θ_run (Cert.FfnDownSampleReferenceIdeal.defs (F := Ideal)) (onTc (τ := Cert.FfnDownSampleReferenceIdeal.τ) (Cert.FfnDownSampleReferenceIdeal.main (F := Ideal))) ⟨m', fun _ => 0, g'⟩ (fun r => ∀ c : Dev Cert.FfnDownSampleReferenceIdeal.nD,
          r.2.mem ((c.tc : Thread Cert.FfnDownSampleReferenceIdeal.nD Cert.FfnDownSampleReferenceIdeal.τ).loc Cert.FfnDownSampleReferenceIdeal.main_v19) = v0 c
          ∧ r.2.mem ((c.tc : Thread Cert.FfnDownSampleReferenceIdeal.nD Cert.FfnDownSampleReferenceIdeal.τ).loc Cert.FfnDownSampleReferenceIdeal.main_arg0) = m' ((c.tc : Thread Cert.FfnDownSampleReferenceIdeal.nD Cert.FfnDownSampleReferenceIdeal.τ).loc Cert.FfnDownSampleReferenceIdeal.main_arg0)
          ∧ r.2.mem ((c.tc : Thread Cert.FfnDownSampleReferenceIdeal.nD Cert.FfnDownSampleReferenceIdeal.τ).loc Cert.FfnDownSampleReferenceIdeal.main_arg1) = m' ((c.tc : Thread Cert.FfnDownSampleReferenceIdeal.nD Cert.FfnDownSampleReferenceIdeal.τ).loc Cert.FfnDownSampleReferenceIdeal.main_arg1)
          ∧ r.2.mem ((c.tc : Thread Cert.FfnDownSampleReferenceIdeal.nD Cert.FfnDownSampleReferenceIdeal.τ).loc Cert.FfnDownSampleReferenceIdeal.main_arg2) = m' ((c.tc : Thread Cert.FfnDownSampleReferenceIdeal.nD Cert.FfnDownSampleReferenceIdeal.τ).loc Cert.FfnDownSampleReferenceIdeal.main_arg2)
          ∧ r.2.mem ((c.tc : Thread Cert.FfnDownSampleReferenceIdeal.nD Cert.FfnDownSampleReferenceIdeal.τ).loc Cert.FfnDownSampleReferenceIdeal.main_arg3) = m' ((c.tc : Thread Cert.FfnDownSampleReferenceIdeal.nD Cert.FfnDownSampleReferenceIdeal.τ).loc Cert.FfnDownSampleReferenceIdeal.main_arg3))

def preserves_ScanPrompt_ScanPromptIdeal : Prop :=
  True

def algebraic_ScanPromptIdeal_ScanPromptReferenceIdeal_pre_finite_prompt [hScanPromptIdeal : Cert.ScanPromptIdeal.Facts] [hScanPromptReferenceIdeal : Cert.ScanPromptReferenceIdeal.Facts] [hPre_finite_prompt : Cert.Pre_finite_prompt.Facts] : Prop :=
  ∀ (m : (ℓ : Loc Cert.ScanPromptIdeal.nD Cert.ScanPromptIdeal.τ Cert.ScanPromptIdeal.sig) → Buf (Elt Ideal) ℓ) (g : Dev Cert.ScanPromptIdeal.nD → PrngReg)
    (m' : (ℓ : Loc Cert.ScanPromptReferenceIdeal.nD Cert.ScanPromptReferenceIdeal.τ Cert.ScanPromptReferenceIdeal.sig) → Buf (Elt Ideal) ℓ) (g' : Dev Cert.ScanPromptReferenceIdeal.nD → PrngReg), Pre_ScanPromptIdeal_finite_prompt m →
    (∀ c : Dev Cert.ScanPromptIdeal.nD,
      m' ((c.tc : Thread Cert.ScanPromptReferenceIdeal.nD Cert.ScanPromptReferenceIdeal.τ).loc Cert.ScanPromptReferenceIdeal.main_arg0) = m ((c.tc : Thread Cert.ScanPromptIdeal.nD Cert.ScanPromptIdeal.τ).loc Cert.ScanPromptIdeal.main_arg0)
      ∧ m' ((c.tc : Thread Cert.ScanPromptReferenceIdeal.nD Cert.ScanPromptReferenceIdeal.τ).loc Cert.ScanPromptReferenceIdeal.main_arg1) = m ((c.tc : Thread Cert.ScanPromptIdeal.nD Cert.ScanPromptIdeal.τ).loc Cert.ScanPromptIdeal.main_arg1)
      ∧ m' ((c.tc : Thread Cert.ScanPromptReferenceIdeal.nD Cert.ScanPromptReferenceIdeal.τ).loc Cert.ScanPromptReferenceIdeal.main_arg2) = m ((c.tc : Thread Cert.ScanPromptIdeal.nD Cert.ScanPromptIdeal.τ).loc Cert.ScanPromptIdeal.main_arg2)
      ∧ m' ((c.tc : Thread Cert.ScanPromptReferenceIdeal.nD Cert.ScanPromptReferenceIdeal.τ).loc Cert.ScanPromptReferenceIdeal.main_arg3) = m ((c.tc : Thread Cert.ScanPromptIdeal.nD Cert.ScanPromptIdeal.τ).loc Cert.ScanPromptIdeal.main_arg3)
      ∧ m' ((c.tc : Thread Cert.ScanPromptReferenceIdeal.nD Cert.ScanPromptReferenceIdeal.τ).loc Cert.ScanPromptReferenceIdeal.main_arg4) = m ((c.tc : Thread Cert.ScanPromptIdeal.nD Cert.ScanPromptIdeal.τ).loc Cert.ScanPromptIdeal.main_arg4)
      ∧ m' ((c.tc : Thread Cert.ScanPromptReferenceIdeal.nD Cert.ScanPromptReferenceIdeal.τ).loc Cert.ScanPromptReferenceIdeal.main_arg5) = m ((c.tc : Thread Cert.ScanPromptIdeal.nD Cert.ScanPromptIdeal.τ).loc Cert.ScanPromptIdeal.main_arg5)
      ∧ m' ((c.tc : Thread Cert.ScanPromptReferenceIdeal.nD Cert.ScanPromptReferenceIdeal.τ).loc Cert.ScanPromptReferenceIdeal.main_arg6) = m ((c.tc : Thread Cert.ScanPromptIdeal.nD Cert.ScanPromptIdeal.τ).loc Cert.ScanPromptIdeal.main_arg6)
      ∧ m' ((c.tc : Thread Cert.ScanPromptReferenceIdeal.nD Cert.ScanPromptReferenceIdeal.τ).loc Cert.ScanPromptReferenceIdeal.main_arg7) = m ((c.tc : Thread Cert.ScanPromptIdeal.nD Cert.ScanPromptIdeal.τ).loc Cert.ScanPromptIdeal.main_arg7)
      ∧ m' ((c.tc : Thread Cert.ScanPromptReferenceIdeal.nD Cert.ScanPromptReferenceIdeal.τ).loc Cert.ScanPromptReferenceIdeal.main_arg8) = m ((c.tc : Thread Cert.ScanPromptIdeal.nD Cert.ScanPromptIdeal.τ).loc Cert.ScanPromptIdeal.main_arg8)
      ∧ m' ((c.tc : Thread Cert.ScanPromptReferenceIdeal.nD Cert.ScanPromptReferenceIdeal.τ).loc Cert.ScanPromptReferenceIdeal.main_arg9) = m ((c.tc : Thread Cert.ScanPromptIdeal.nD Cert.ScanPromptIdeal.τ).loc Cert.ScanPromptIdeal.main_arg9)
      ∧ m' ((c.tc : Thread Cert.ScanPromptReferenceIdeal.nD Cert.ScanPromptReferenceIdeal.τ).loc Cert.ScanPromptReferenceIdeal.main_arg10) = m ((c.tc : Thread Cert.ScanPromptIdeal.nD Cert.ScanPromptIdeal.τ).loc Cert.ScanPromptIdeal.main_arg10)) →
    ∃ (v0 : (c : Dev Cert.ScanPromptIdeal.nD) → Buf (Elt Ideal) ((c.tc : Thread Cert.ScanPromptIdeal.nD Cert.ScanPromptIdeal.τ).loc Cert.ScanPromptIdeal.main_v16)),
      θ_run (Cert.ScanPromptIdeal.defs (F := Ideal)) (onTc (τ := Cert.ScanPromptIdeal.τ) (Cert.ScanPromptIdeal.main (F := Ideal))) ⟨m, fun _ => 0, g⟩ (fun r => ∀ c : Dev Cert.ScanPromptIdeal.nD,
          r.2.mem ((c.tc : Thread Cert.ScanPromptIdeal.nD Cert.ScanPromptIdeal.τ).loc Cert.ScanPromptIdeal.main_v16) = v0 c
          ∧ r.2.mem ((c.tc : Thread Cert.ScanPromptIdeal.nD Cert.ScanPromptIdeal.τ).loc Cert.ScanPromptIdeal.main_arg0) = m ((c.tc : Thread Cert.ScanPromptIdeal.nD Cert.ScanPromptIdeal.τ).loc Cert.ScanPromptIdeal.main_arg0)
          ∧ r.2.mem ((c.tc : Thread Cert.ScanPromptIdeal.nD Cert.ScanPromptIdeal.τ).loc Cert.ScanPromptIdeal.main_arg1) = m ((c.tc : Thread Cert.ScanPromptIdeal.nD Cert.ScanPromptIdeal.τ).loc Cert.ScanPromptIdeal.main_arg1)
          ∧ r.2.mem ((c.tc : Thread Cert.ScanPromptIdeal.nD Cert.ScanPromptIdeal.τ).loc Cert.ScanPromptIdeal.main_arg2) = m ((c.tc : Thread Cert.ScanPromptIdeal.nD Cert.ScanPromptIdeal.τ).loc Cert.ScanPromptIdeal.main_arg2)
          ∧ r.2.mem ((c.tc : Thread Cert.ScanPromptIdeal.nD Cert.ScanPromptIdeal.τ).loc Cert.ScanPromptIdeal.main_arg3) = m ((c.tc : Thread Cert.ScanPromptIdeal.nD Cert.ScanPromptIdeal.τ).loc Cert.ScanPromptIdeal.main_arg3)
          ∧ r.2.mem ((c.tc : Thread Cert.ScanPromptIdeal.nD Cert.ScanPromptIdeal.τ).loc Cert.ScanPromptIdeal.main_arg4) = m ((c.tc : Thread Cert.ScanPromptIdeal.nD Cert.ScanPromptIdeal.τ).loc Cert.ScanPromptIdeal.main_arg4)
          ∧ r.2.mem ((c.tc : Thread Cert.ScanPromptIdeal.nD Cert.ScanPromptIdeal.τ).loc Cert.ScanPromptIdeal.main_arg5) = m ((c.tc : Thread Cert.ScanPromptIdeal.nD Cert.ScanPromptIdeal.τ).loc Cert.ScanPromptIdeal.main_arg5)
          ∧ r.2.mem ((c.tc : Thread Cert.ScanPromptIdeal.nD Cert.ScanPromptIdeal.τ).loc Cert.ScanPromptIdeal.main_arg6) = m ((c.tc : Thread Cert.ScanPromptIdeal.nD Cert.ScanPromptIdeal.τ).loc Cert.ScanPromptIdeal.main_arg6)
          ∧ r.2.mem ((c.tc : Thread Cert.ScanPromptIdeal.nD Cert.ScanPromptIdeal.τ).loc Cert.ScanPromptIdeal.main_arg7) = m ((c.tc : Thread Cert.ScanPromptIdeal.nD Cert.ScanPromptIdeal.τ).loc Cert.ScanPromptIdeal.main_arg7)
          ∧ r.2.mem ((c.tc : Thread Cert.ScanPromptIdeal.nD Cert.ScanPromptIdeal.τ).loc Cert.ScanPromptIdeal.main_arg8) = m ((c.tc : Thread Cert.ScanPromptIdeal.nD Cert.ScanPromptIdeal.τ).loc Cert.ScanPromptIdeal.main_arg8)
          ∧ r.2.mem ((c.tc : Thread Cert.ScanPromptIdeal.nD Cert.ScanPromptIdeal.τ).loc Cert.ScanPromptIdeal.main_arg9) = m ((c.tc : Thread Cert.ScanPromptIdeal.nD Cert.ScanPromptIdeal.τ).loc Cert.ScanPromptIdeal.main_arg9)
          ∧ r.2.mem ((c.tc : Thread Cert.ScanPromptIdeal.nD Cert.ScanPromptIdeal.τ).loc Cert.ScanPromptIdeal.main_arg10) = m ((c.tc : Thread Cert.ScanPromptIdeal.nD Cert.ScanPromptIdeal.τ).loc Cert.ScanPromptIdeal.main_arg10))
      ∧ θ_run (Cert.ScanPromptReferenceIdeal.defs (F := Ideal)) (onTc (τ := Cert.ScanPromptReferenceIdeal.τ) (Cert.ScanPromptReferenceIdeal.main (F := Ideal))) ⟨m', fun _ => 0, g'⟩ (fun r => ∀ c : Dev Cert.ScanPromptReferenceIdeal.nD,
          r.2.mem ((c.tc : Thread Cert.ScanPromptReferenceIdeal.nD Cert.ScanPromptReferenceIdeal.τ).loc Cert.ScanPromptReferenceIdeal.main_v46) = v0 c
          ∧ r.2.mem ((c.tc : Thread Cert.ScanPromptReferenceIdeal.nD Cert.ScanPromptReferenceIdeal.τ).loc Cert.ScanPromptReferenceIdeal.main_arg0) = m' ((c.tc : Thread Cert.ScanPromptReferenceIdeal.nD Cert.ScanPromptReferenceIdeal.τ).loc Cert.ScanPromptReferenceIdeal.main_arg0)
          ∧ r.2.mem ((c.tc : Thread Cert.ScanPromptReferenceIdeal.nD Cert.ScanPromptReferenceIdeal.τ).loc Cert.ScanPromptReferenceIdeal.main_arg1) = m' ((c.tc : Thread Cert.ScanPromptReferenceIdeal.nD Cert.ScanPromptReferenceIdeal.τ).loc Cert.ScanPromptReferenceIdeal.main_arg1)
          ∧ r.2.mem ((c.tc : Thread Cert.ScanPromptReferenceIdeal.nD Cert.ScanPromptReferenceIdeal.τ).loc Cert.ScanPromptReferenceIdeal.main_arg2) = m' ((c.tc : Thread Cert.ScanPromptReferenceIdeal.nD Cert.ScanPromptReferenceIdeal.τ).loc Cert.ScanPromptReferenceIdeal.main_arg2)
          ∧ r.2.mem ((c.tc : Thread Cert.ScanPromptReferenceIdeal.nD Cert.ScanPromptReferenceIdeal.τ).loc Cert.ScanPromptReferenceIdeal.main_arg3) = m' ((c.tc : Thread Cert.ScanPromptReferenceIdeal.nD Cert.ScanPromptReferenceIdeal.τ).loc Cert.ScanPromptReferenceIdeal.main_arg3)
          ∧ r.2.mem ((c.tc : Thread Cert.ScanPromptReferenceIdeal.nD Cert.ScanPromptReferenceIdeal.τ).loc Cert.ScanPromptReferenceIdeal.main_arg4) = m' ((c.tc : Thread Cert.ScanPromptReferenceIdeal.nD Cert.ScanPromptReferenceIdeal.τ).loc Cert.ScanPromptReferenceIdeal.main_arg4)
          ∧ r.2.mem ((c.tc : Thread Cert.ScanPromptReferenceIdeal.nD Cert.ScanPromptReferenceIdeal.τ).loc Cert.ScanPromptReferenceIdeal.main_arg5) = m' ((c.tc : Thread Cert.ScanPromptReferenceIdeal.nD Cert.ScanPromptReferenceIdeal.τ).loc Cert.ScanPromptReferenceIdeal.main_arg5)
          ∧ r.2.mem ((c.tc : Thread Cert.ScanPromptReferenceIdeal.nD Cert.ScanPromptReferenceIdeal.τ).loc Cert.ScanPromptReferenceIdeal.main_arg6) = m' ((c.tc : Thread Cert.ScanPromptReferenceIdeal.nD Cert.ScanPromptReferenceIdeal.τ).loc Cert.ScanPromptReferenceIdeal.main_arg6)
          ∧ r.2.mem ((c.tc : Thread Cert.ScanPromptReferenceIdeal.nD Cert.ScanPromptReferenceIdeal.τ).loc Cert.ScanPromptReferenceIdeal.main_arg7) = m' ((c.tc : Thread Cert.ScanPromptReferenceIdeal.nD Cert.ScanPromptReferenceIdeal.τ).loc Cert.ScanPromptReferenceIdeal.main_arg7)
          ∧ r.2.mem ((c.tc : Thread Cert.ScanPromptReferenceIdeal.nD Cert.ScanPromptReferenceIdeal.τ).loc Cert.ScanPromptReferenceIdeal.main_arg8) = m' ((c.tc : Thread Cert.ScanPromptReferenceIdeal.nD Cert.ScanPromptReferenceIdeal.τ).loc Cert.ScanPromptReferenceIdeal.main_arg8)
          ∧ r.2.mem ((c.tc : Thread Cert.ScanPromptReferenceIdeal.nD Cert.ScanPromptReferenceIdeal.τ).loc Cert.ScanPromptReferenceIdeal.main_arg9) = m' ((c.tc : Thread Cert.ScanPromptReferenceIdeal.nD Cert.ScanPromptReferenceIdeal.τ).loc Cert.ScanPromptReferenceIdeal.main_arg9)
          ∧ r.2.mem ((c.tc : Thread Cert.ScanPromptReferenceIdeal.nD Cert.ScanPromptReferenceIdeal.τ).loc Cert.ScanPromptReferenceIdeal.main_arg10) = m' ((c.tc : Thread Cert.ScanPromptReferenceIdeal.nD Cert.ScanPromptReferenceIdeal.τ).loc Cert.ScanPromptReferenceIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hMix : Cert.Mix.Facts) (hMixIdeal : Cert.MixIdeal.Facts) (hMixReferenceIdeal : Cert.MixReferenceIdeal.Facts) (hOutProj : Cert.OutProj.Facts) (hOutProjIdeal : Cert.OutProjIdeal.Facts) (hOutProjReferenceIdeal : Cert.OutProjReferenceIdeal.Facts) (hHeadNorm : Cert.HeadNorm.Facts) (hHeadNormIdeal : Cert.HeadNormIdeal.Facts) (hHeadNormReferenceIdeal : Cert.HeadNormReferenceIdeal.Facts) (hHeadNormSample : Cert.HeadNormSample.Facts) (hHeadNormSampleIdeal : Cert.HeadNormSampleIdeal.Facts) (hHeadNormSampleReferenceIdeal : Cert.HeadNormSampleReferenceIdeal.Facts) (hInProjSample : Cert.InProjSample.Facts) (hInProjSampleIdeal : Cert.InProjSampleIdeal.Facts) (hInProjSampleReferenceIdeal : Cert.InProjSampleReferenceIdeal.Facts) (hFfnUpSample : Cert.FfnUpSample.Facts) (hFfnUpSampleIdeal : Cert.FfnUpSampleIdeal.Facts) (hFfnUpSampleReferenceIdeal : Cert.FfnUpSampleReferenceIdeal.Facts) (hFfnDownSample : Cert.FfnDownSample.Facts) (hFfnDownSampleIdeal : Cert.FfnDownSampleIdeal.Facts) (hFfnDownSampleReferenceIdeal : Cert.FfnDownSampleReferenceIdeal.Facts) (hScanPrompt : Cert.ScanPrompt.Facts) (hScanPromptIdeal : Cert.ScanPromptIdeal.Facts) (hScanPromptReferenceIdeal : Cert.ScanPromptReferenceIdeal.Facts) (hPre_finite_inputs : Cert.Pre_finite_inputs.Facts) (hPre_finite_prompt : Cert.Pre_finite_prompt.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_InProj (hInProj := hInProj)
    ∧ quiescent_InProjIdeal (hInProjIdeal := hInProjIdeal)
    ∧ quiescent_InProjReferenceIdeal (hInProjReferenceIdeal := hInProjReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Mix (hMix := hMix)
    ∧ quiescent_MixIdeal (hMixIdeal := hMixIdeal)
    ∧ quiescent_MixReferenceIdeal (hMixReferenceIdeal := hMixReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_HeadNorm (hHeadNorm := hHeadNorm)
    ∧ quiescent_HeadNormIdeal (hHeadNormIdeal := hHeadNormIdeal)
    ∧ quiescent_HeadNormReferenceIdeal (hHeadNormReferenceIdeal := hHeadNormReferenceIdeal)
    ∧ quiescent_HeadNormSample (hHeadNormSample := hHeadNormSample)
    ∧ quiescent_HeadNormSampleIdeal (hHeadNormSampleIdeal := hHeadNormSampleIdeal)
    ∧ quiescent_HeadNormSampleReferenceIdeal (hHeadNormSampleReferenceIdeal := hHeadNormSampleReferenceIdeal)
    ∧ quiescent_InProjSample (hInProjSample := hInProjSample)
    ∧ quiescent_InProjSampleIdeal (hInProjSampleIdeal := hInProjSampleIdeal)
    ∧ quiescent_InProjSampleReferenceIdeal (hInProjSampleReferenceIdeal := hInProjSampleReferenceIdeal)
    ∧ quiescent_FfnUpSample (hFfnUpSample := hFfnUpSample)
    ∧ quiescent_FfnUpSampleIdeal (hFfnUpSampleIdeal := hFfnUpSampleIdeal)
    ∧ quiescent_FfnUpSampleReferenceIdeal (hFfnUpSampleReferenceIdeal := hFfnUpSampleReferenceIdeal)
    ∧ quiescent_FfnDownSample (hFfnDownSample := hFfnDownSample)
    ∧ quiescent_FfnDownSampleIdeal (hFfnDownSampleIdeal := hFfnDownSampleIdeal)
    ∧ quiescent_FfnDownSampleReferenceIdeal (hFfnDownSampleReferenceIdeal := hFfnDownSampleReferenceIdeal)
    ∧ quiescent_ScanPrompt (hScanPrompt := hScanPrompt)
    ∧ quiescent_ScanPromptIdeal (hScanPromptIdeal := hScanPromptIdeal)
    ∧ quiescent_ScanPromptIdeal_pre_finite_prompt (hScanPromptIdeal := hScanPromptIdeal) (hPre_finite_prompt := hPre_finite_prompt)
    ∧ quiescent_ScanPromptReferenceIdeal (hScanPromptReferenceIdeal := hScanPromptReferenceIdeal)
    ∧ quiescent_ScanPromptReferenceIdeal_pre_finite_prompt (hScanPromptReferenceIdeal := hScanPromptReferenceIdeal) (hPre_finite_prompt := hPre_finite_prompt)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_InProj_InProjIdeal
    ∧ algebraic_InProjIdeal_InProjReferenceIdeal (hInProjIdeal := hInProjIdeal) (hInProjReferenceIdeal := hInProjReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Mix_MixIdeal
    ∧ algebraic_MixIdeal_MixReferenceIdeal (hMixIdeal := hMixIdeal) (hMixReferenceIdeal := hMixReferenceIdeal)
    ∧ preserves_OutProj_OutProjIdeal
    ∧ algebraic_OutProjIdeal_OutProjReferenceIdeal (hOutProjIdeal := hOutProjIdeal) (hOutProjReferenceIdeal := hOutProjReferenceIdeal)
    ∧ preserves_HeadNorm_HeadNormIdeal
    ∧ algebraic_HeadNormIdeal_HeadNormReferenceIdeal (hHeadNormIdeal := hHeadNormIdeal) (hHeadNormReferenceIdeal := hHeadNormReferenceIdeal)
    ∧ preserves_HeadNormSample_HeadNormSampleIdeal
    ∧ algebraic_HeadNormSampleIdeal_HeadNormSampleReferenceIdeal (hHeadNormSampleIdeal := hHeadNormSampleIdeal) (hHeadNormSampleReferenceIdeal := hHeadNormSampleReferenceIdeal)
    ∧ preserves_InProjSample_InProjSampleIdeal
    ∧ algebraic_InProjSampleIdeal_InProjSampleReferenceIdeal (hInProjSampleIdeal := hInProjSampleIdeal) (hInProjSampleReferenceIdeal := hInProjSampleReferenceIdeal)
    ∧ preserves_FfnUpSample_FfnUpSampleIdeal
    ∧ algebraic_FfnUpSampleIdeal_FfnUpSampleReferenceIdeal (hFfnUpSampleIdeal := hFfnUpSampleIdeal) (hFfnUpSampleReferenceIdeal := hFfnUpSampleReferenceIdeal)
    ∧ preserves_FfnDownSample_FfnDownSampleIdeal
    ∧ algebraic_FfnDownSampleIdeal_FfnDownSampleReferenceIdeal (hFfnDownSampleIdeal := hFfnDownSampleIdeal) (hFfnDownSampleReferenceIdeal := hFfnDownSampleReferenceIdeal)
    ∧ preserves_ScanPrompt_ScanPromptIdeal
    ∧ algebraic_ScanPromptIdeal_ScanPromptReferenceIdeal_pre_finite_prompt (hScanPromptIdeal := hScanPromptIdeal) (hScanPromptReferenceIdeal := hScanPromptReferenceIdeal) (hPre_finite_prompt := hPre_finite_prompt)
-- ==== Pre_finite_inputs.lean ====
abbrev S1024x2048 : Shape := ⟨2, ![1024, 2048]⟩
abbrev S1x128x32x64x64 : Shape := ⟨5, ![1, 128, 32, 64, 64]⟩
abbrev S1x2048 : Shape := ⟨2, ![1, 2048]⟩
abbrev S1x32x64 : Shape := ⟨3, ![1, 32, 64]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1x128x32x64x64 : S_.BroadcastsInDim S1x128x32x64x64 (![] : Fin 0 → Fin S1x128x32x64x64.rank)
  reducesTo_S1x128x32x64x64_S_d0_1_2_3_4 : S1x128x32x64x64.ReducesTo [0, 1, 2, 3, 4] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg8 : FVec F S1x2048 .f32) (main_v29 : IVec S_ 1) (main_v32 : IVec S1x2048 1) (main_c_12 : IVec S_ 1) : IVec S_ 1 :=
  let main_v33 : IVec S_ 1 := (fun x v => Host.reduce IntOp.andi x v reducesTo_S1x2048_S_d0_1 h_S_) main_v32 main_c_12
  let main_v34 : IVec S_ 1 := andi main_v29 main_v33
  let main_v35 : FVec F S1x2048 .f32 := Host.absf main_arg8
  let main_cst_13 : FVec F S_ .f32 := constant S_ .f32 0x7F800000#32
  let main_v36 : FVec F S1x2048 .f32 := broadcastInDim S1x2048 ![] bcast_S_S1x2048 main_cst_13
  let main_v37 : IVec S1x2048 1 := cmpf .olt main_v35 main_v36
  let main_c_14 : IVec S_ 1 := constantI S_ 1 1#1
  let main_v38 : IVec S_ 1 := (fun x v => Host.reduce IntOp.andi x v reducesTo_S1x2048_S_d0_1 h_S_) main_v37 main_c_14
  let main_v39 : IVec S_ 1 := andi main_v34 main_v38
  main_v39

def fn_part1 {F : FTy → Type} [FloatOps F] (main_arg4 : FVec F S1024x2048 .f32) (main_arg6 : FVec F S1x128x32x64x64 .f32) (main_arg7 : FVec F S1x2048 .f32) (main_arg8 : FVec F S1x2048 .f32) (main_v14 : IVec S_ 1) (main_v15 : FVec F S1024x2048 .f32) (main_cst_5 : FVec F S_ .f32) : IVec S_ 1 :=
  let main_v16 : FVec F S1024x2048 .f32 := broadcastInDim S1024x2048 ![] bcast_S_S1024x2048 main_cst_5
  let main_v17 : IVec S1024x2048 1 := cmpf .olt main_v15 main_v16
  let main_c_6 : IVec S_ 1 := constantI S_ 1 1#1
  let main_v18 : IVec S_ 1 := (fun x v => Host.reduce IntOp.andi x v reducesTo_S1024x2048_S_d0_1 h_S_) main_v17 main_c_6
  let main_v19 : IVec S_ 1 := andi main_v14 main_v18
  let main_v20 : FVec F S1024x2048 .f32 := Host.absf main_arg4
  let main_cst_7 : FVec F S_ .f32 := constant S_ .f32 0x7F800000#32
  let main_v21 : FVec F S1024x2048 .f32 := broadcastInDim S1024x2048 ![] bcast_S_S1024x2048 main_cst_7
  let main_v22 : IVec S1024x2048 1 := cmpf .olt main_v20 main_v21
  let main_c_8 : IVec S_ 1 := constantI S_ 1 1#1
  let main_v23 : IVec S_ 1 := (fun x v => Host.reduce IntOp.andi x v reducesTo_S1024x2048_S_d0_1 h_S_) main_v22 main_c_8
  let main_v24 : IVec S_ 1 := andi main_v19 main_v23
  let main_v25 : FVec F S1x128x32x64x64 .f32 := Host.absf main_arg6
  let main_cst_9 : FVec F S_ .f32 := constant S_ .f32 0x7F800000#32
  let main_v26 : FVec F S1x128x32x64x64 .f32 := broadcastInDim S1x128x32x64x64 ![] bcast_S_S1x128x32x64x64 main_cst_9
  let main_v27 : IVec S1x128x32x64x64 1 := cmpf .olt main_v25 main_v26
  let main_c_10 : IVec S_ 1 := constantI S_ 1 1#1
  let main_v28 : IVec S_ 1 := (fun x v => Host.reduce IntOp.andi x v reducesTo_S1x128x32x64x64_S_d0_1_2_3_4 h_S_) main_v27 main_c_10
  let main_v29 : IVec S_ 1 := andi main_v24 main_v28
  let main_v30 : FVec F S1x2048 .f32 := Host.absf main_arg7
  let main_cst_11 : FVec F S_ .f32 := constant S_ .f32 0x7F800000#32
  let main_v31 : FVec F S1x2048 .f32 := broadcastInDim S1x2048 ![] bcast_S_S1x2048 main_cst_11
  let main_v32 : IVec S1x2048 1 := cmpf .olt main_v30 main_v31
  let main_c_12 : IVec S_ 1 := constantI S_ 1 1#1
  fn_part2 (F := F) main_arg8 main_v29 main_v32 main_c_12

def fn {F : FTy → Type} [FloatOps F] (main_arg0 : FVec F S1024x2048 .f32) (main_arg1 : FVec F S1024x2048 .f32) (main_arg2 : FVec F S1024x2048 .f32) (main_arg3 : FVec F S1024x2048 .f32) (main_arg4 : FVec F S1024x2048 .f32) (main_arg5 : FVec F S1024x2048 .f32) (main_arg6 : FVec F S1x128x32x64x64 .f32) (main_arg7 : FVec F S1x2048 .f32) (main_arg8 : FVec F S1x2048 .f32) (main_arg9 : FVec F S1x32x64 .f32) (main_arg10 : FVec F S1x2048 .f32) (main_arg11 : FVec F S1x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_c_0 : IVec S_ 1 := constantI S_ 1 1#1
  let main_v4 : IVec S_ 1 := andi main_c_0 main_v3
  let main_v5 : FVec F S1024x2048 .f32 := Host.absf main_arg1
  let main_cst_1 : FVec F S_ .f32 := constant S_ .f32 0x7F800000#32
  let main_v6 : FVec F S1024x2048 .f32 := broadcastInDim S1024x2048 ![] bcast_S_S1024x2048 main_cst_1
  let main_v7 : IVec S1024x2048 1 := cmpf .olt main_v5 main_v6
  let main_c_2 : IVec S_ 1 := constantI S_ 1 1#1
  let main_v8 : IVec S_ 1 := (fun x v => Host.reduce IntOp.andi x v reducesTo_S1024x2048_S_d0_1 h_S_) main_v7 main_c_2
  let main_v9 : IVec S_ 1 := andi main_v4 main_v8
  let main_v10 : FVec F S1024x2048 .f32 := Host.absf main_arg2
  let main_cst_3 : FVec F S_ .f32 := constant S_ .f32 0x7F800000#32
  let main_v11 : FVec F S1024x2048 .f32 := broadcastInDim S1024x2048 ![] bcast_S_S1024x2048 main_cst_3
  let main_v12 : IVec S1024x2048 1 := cmpf .olt main_v10 main_v11
  let main_c_4 : IVec S_ 1 := constantI S_ 1 1#1
  let main_v13 : IVec S_ 1 := (fun x v => Host.reduce IntOp.andi x v reducesTo_S1024x2048_S_d0_1 h_S_) main_v12 main_c_4
  let main_v14 : IVec S_ 1 := andi main_v9 main_v13
  let main_v15 : FVec F S1024x2048 .f32 := Host.absf main_arg3
  let main_cst_5 : FVec F S_ .f32 := constant S_ .f32 0x7F800000#32
  fn_part1 (F := F) main_arg4 main_arg6 main_arg7 main_arg8 main_v14 main_v15 main_cst_5
-- ==== Pre_finite_prompt.lean ====
abbrev S8192x2048 : Shape := ⟨2, ![8192, 2048]⟩
abbrev S1x2048 : Shape := ⟨2, ![1, 2048]⟩
abbrev S1x32x64 : Shape := ⟨3, ![1, 32, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg6 : FVec F S1x2048 .f32) (main_arg7 : FVec F S1x2048 .f32) (main_v14 : IVec S_ 1) (main_v15 : FVec F S8192x2048 .f32) (main_cst_5 : FVec F S_ .f32) : IVec S_ 1 :=
  let main_v16 : FVec F S8192x2048 .f32 := broadcastInDim S8192x2048 ![] bcast_S_S8192x2048 main_cst_5
  let main_v17 : IVec S8192x2048 1 := cmpf .olt main_v15 main_v16
  let main_c_6 : IVec S_ 1 := constantI S_ 1 1#1
  let main_v18 : IVec S_ 1 := (fun x v => Host.reduce IntOp.andi x v reducesTo_S8192x2048_S_d0_1 h_S_) main_v17 main_c_6
  let main_v19 : IVec S_ 1 := andi main_v14 main_v18
  let main_v20 : FVec F S1x2048 .f32 := Host.absf main_arg6
  let main_cst_7 : FVec F S_ .f32 := constant S_ .f32 0x7F800000#32
  let main_v21 : FVec F S1x2048 .f32 := broadcastInDim S1x2048 ![] bcast_S_S1x2048 main_cst_7
  let main_v22 : IVec S1x2048 1 := cmpf .olt main_v20 main_v21
  let main_c_8 : IVec S_ 1 := constantI S_ 1 1#1
  let main_v23 : IVec S_ 1 := (fun x v => Host.reduce IntOp.andi x v reducesTo_S1x2048_S_d0_1 h_S_) main_v22 main_c_8
  let main_v24 : IVec S_ 1 := andi main_v19 main_v23
  let main_v25 : FVec F S1x2048 .f32 := Host.absf main_arg7
  let main_cst_9 : FVec F S_ .f32 := constant S_ .f32 0x7F800000#32
  let main_v26 : FVec F S1x2048 .f32 := broadcastInDim S1x2048 ![] bcast_S_S1x2048 main_cst_9
  let main_v27 : IVec S1x2048 1 := cmpf .olt main_v25 main_v26
  let main_c_10 : IVec S_ 1 := constantI S_ 1 1#1
  let main_v28 : IVec S_ 1 := (fun x v => Host.reduce IntOp.andi x v reducesTo_S1x2048_S_d0_1 h_S_) main_v27 main_c_10
  let main_v29 : IVec S_ 1 := andi main_v24 main_v28
  main_v29

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S8192x2048 .f32) (main_arg6 : FVec F S1x2048 .f32) (main_arg7 : FVec F S1x2048 .f32) (main_arg8 : FVec F S1x32x64 .f32) (main_arg9 : FVec F S1x2048 .f32) (main_arg10 : FVec F S1x2048 .f32) : IVec S_ 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 1 := constantI S_ 1 1#1
  let main_v4 : IVec S_ 1 := andi main_c_0 main_v3
  let main_v5 : FVec F S8192x2048 .f32 := Host.absf main_arg2
  let main_cst_1 : FVec F S_ .f32 := constant S_ .f32 0x7F800000#32
  let main_v6 : FVec F S8192x2048 .f32 := broadcastInDim S8192x2048 ![] bcast_S_S8192x2048 main_cst_1
  let main_v7 : IVec S8192x2048 1 := cmpf .olt main_v5 main_v6
  let main_c_2 : IVec S_ 1 := constantI S_ 1 1#1
  let main_v8 : IVec S_ 1 := (fun x v => Host.reduce IntOp.andi x v reducesTo_S8192x2048_S_d0_1 h_S_) main_v7 main_c_2
  let main_v9 : IVec S_ 1 := andi main_v4 main_v8
  let main_v10 : FVec F S8192x2048 .f32 := Host.absf main_arg3
  let main_cst_3 : FVec F S_ .f32 := constant S_ .f32 0x7F800000#32
  let main_v11 : FVec F S8192x2048 .f32 := broadcastInDim S8192x2048 ![] bcast_S_S8192x2048 main_cst_3
  let main_v12 : IVec S8192x2048 1 := cmpf .olt main_v10 main_v11
  let main_c_4 : IVec S_ 1 := constantI S_ 1 1#1
  let main_v13 : IVec S_ 1 := (fun x v => Host.reduce IntOp.andi x v reducesTo_S8192x2048_S_d0_1 h_S_) main_v12 main_c_4
  let main_v14 : IVec S_ 1 := andi main_v9 main_v13
  let main_v15 : FVec F S8192x2048 .f32 := Host.absf main_arg4
  let main_cst_5 : FVec F S_ .f32 := constant S_ .f32 0x7F800000#32
  fn_part1 (F := F) main_arg6 main_arg7 main_v14 main_v15 main_cst_5
-- ==== Kernel.lean ====
abbrev S1024x2048 : Shape := ⟨2, ![1024, 2048]⟩
abbrev S1x128x32x64x64 : Shape := ⟨5, ![1, 128, 32, 64, 64]⟩
abbrev S1x2048 : Shape := ⟨2, ![1, 2048]⟩
abbrev S1x32x64 : Shape := ⟨3, ![1, 32, 64]⟩
abbrev S2048 : Shape := ⟨1, ![2048]⟩
abbrev S32x1x64 : Shape := ⟨3, ![32, 1, 64]⟩
abbrev S32x64 : Shape := ⟨2, ![32, 64]⟩
abbrev S128x8x32x64 : Shape := ⟨4, ![128, 8, 32, 64]⟩
abbrev S128x32x8x64 : Shape := ⟨4, ![128, 32, 8, 64]⟩
abbrev S4096x8x64 : Shape := ⟨3, ![4096, 8, 64]⟩
abbrev S128x32x64x64 : Shape := ⟨4, ![128, 32, 64, 64]⟩
abbrev S4096x64x64 : Shape := ⟨3, ![4096, 64, 64]⟩
abbrev S32x8x64 : Shape := ⟨3, ![32, 8, 64]⟩
abbrev S32x64x64 : Shape := ⟨3, ![32, 64, 64]⟩
abbrev S256x64 : Shape := ⟨2, ![256, 64]⟩
abbrev S256 : Shape := ⟨1, ![256]⟩
abbrev S256x1 : Shape := ⟨2, ![256, 1]⟩
abbrev S256x256 : Shape := ⟨2, ![256, 256]⟩
abbrev S512x64 : Shape := ⟨2, ![512, 64]⟩
abbrev S512x512 : Shape := ⟨2, ![512, 512]⟩
abbrev S1x64x64 : Shape := ⟨3, ![1, 64, 64]⟩
abbrev S64x64 : Shape := ⟨2, ![64, 64]⟩
abbrev S8x64 : Shape := ⟨2, ![8, 64]⟩
abbrev S16x64 : Shape := ⟨2, ![16, 64]⟩
abbrev S1x64 : Shape := ⟨2, ![1, 64]⟩

abbrev nBuf : Space → Nat
  | .hbm => 44
  | .vmem => 23
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1x128x32x64x64, .f32⟩
  | .hbm, ⟨7, _⟩ => ⟨S1x2048, .f32⟩
  | .hbm, ⟨8, _⟩ => ⟨S1x2048, .f32⟩
  | .hbm, ⟨9, _⟩ => ⟨S1x32x64, .f32⟩
  | .hbm, ⟨10, _⟩ => ⟨S1x2048, .f32⟩
  | .hbm, ⟨11, _⟩ => ⟨S1x2048, .f32⟩
  | .hbm, ⟨12, _⟩ => ⟨S2048, .f32⟩
  | .hbm, ⟨13, _⟩ => ⟨S32x1x64, .f32⟩
  | .hbm, ⟨14, _⟩ => ⟨S2048, .f32⟩
  | .hbm, ⟨15, _⟩ => ⟨S32x1x64, .f32⟩
  | .hbm, ⟨16, _⟩ => ⟨S32x64, .f32⟩
  | .hbm, ⟨17, _⟩ => ⟨S32x1x64, .f32⟩
  | .hbm, ⟨18, _⟩ => ⟨S2048, .f32⟩
  | .hbm, ⟨19, _⟩ => ⟨S32x1x64, .f32⟩
  | .hbm, ⟨20, _⟩ => ⟨S2048, .f32⟩
  | .hbm, ⟨21, _⟩ => ⟨S32x1x64, .f32⟩
  | .hbm, ⟨22, _⟩ => ⟨S128x8x32x64, .f32⟩
  | .hbm, ⟨23, _⟩ => ⟨S128x32x8x64, .f32⟩
  | .hbm, ⟨24, _⟩ => ⟨S4096x8x64, .f32⟩
  | .hbm, ⟨25, _⟩ => ⟨S128x8x32x64, .f32⟩
  | .hbm, ⟨26, _⟩ => ⟨S128x32x8x64, .f32⟩
  | .hbm, ⟨27, _⟩ => ⟨S4096x8x64, .f32⟩
  | .hbm, ⟨28, _⟩ => ⟨S128x8x32x64, .f32⟩
  | .hbm, ⟨29, _⟩ => ⟨S128x32x8x64, .f32⟩
  | .hbm, ⟨30, _⟩ => ⟨S4096x8x64, .f32⟩
  | .hbm, ⟨31, _⟩ => ⟨S128x8x32x64, .f32⟩
  | .hbm, ⟨32, _⟩ => ⟨S128x32x8x64, .f32⟩
  | .hbm, ⟨33, _⟩ => ⟨S4096x8x64, .f32⟩
  | .hbm, ⟨34, _⟩ => ⟨S128x8x32x64, .f32⟩
  | .hbm, ⟨35, _⟩ => ⟨S128x32x8x64, .f32⟩
  | .hbm, ⟨36, _⟩ => ⟨S4096x8x64, .f32⟩
  | .hbm, ⟨37, _⟩ => ⟨S128x8x32x64, .f32⟩
  | .hbm, ⟨38, _⟩ => ⟨S128x32x8x64, .f32⟩
  | .hbm, ⟨39, _⟩ => ⟨S4096x8x64, .f32⟩
  | .hbm, ⟨40, _⟩ => ⟨S128x32x64x64, .f32⟩
  | .hbm, ⟨41, _⟩ => ⟨S4096x64x64, .f32⟩
  | .hbm, ⟨42, _⟩ => ⟨S4096x8x64, .f32⟩
  | .hbm, ⟨43, _⟩ => ⟨S4096x64x64, .f32⟩
  | .local _ .vmem, ⟨0, _⟩ => ⟨S32x8x64, .f32⟩
  | .local _ .vmem, ⟨1, _⟩ => ⟨S32x8x64, .f32⟩
  | .local _ .vmem, ⟨2, _⟩ => ⟨S32x8x64, .f32⟩
  | .local _ .vmem, ⟨3, _⟩ => ⟨S32x8x64, .f32⟩
  | .local _ .vmem, ⟨4, _⟩ => ⟨S32x8x64, .f32⟩
  | .local _ .vmem, ⟨5, _⟩ => ⟨S32x8x64, .f32⟩
  | .local _ .vmem, ⟨6, _⟩ => ⟨S32x8x64, .f32⟩
  | .local _ .vmem, ⟨7, _⟩ => ⟨S32x8x64, .f32⟩
  | .local _ .vmem, ⟨8, _⟩ => ⟨S32x8x64, .f32⟩
  | .local _ .vmem, ⟨9, _⟩ => ⟨S32x8x64, .f32⟩
  | .local _ .vmem, ⟨10, _⟩ => ⟨S32x8x64, .f32⟩
  | .local _ .vmem, ⟨11, _⟩ => ⟨S32x8x64, .f32⟩
  | .local _ .vmem, ⟨12, _⟩ => ⟨S32x64x64, .f32⟩
  | .local _ .vmem, ⟨13, _⟩ => ⟨S32x64x64, .f32⟩
  | .local _ .vmem, ⟨14, _⟩ => ⟨S32x1x64, .f32⟩
  | .local _ .vmem, ⟨15, _⟩ => ⟨S32x1x64, .f32⟩
  | .local _ .vmem, ⟨16, _⟩ => ⟨S32x1x64, .f32⟩
  | .local _ .vmem, ⟨17, _⟩ => ⟨S32x1x64, .f32⟩
  | .local _ .vmem, ⟨18, _⟩ => ⟨S32x1x64, .f32⟩
  | .local _ .vmem, ⟨19, _⟩ => ⟨S32x8x64, .f32⟩
  | .local _ .vmem, ⟨20, _⟩ => ⟨S32x8x64, .f32⟩
  | .local _ .vmem, ⟨21, _⟩ => ⟨S32x64x64, .f32⟩
  | .local _ .vmem, ⟨22, _⟩ => ⟨S32x64x64, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x8x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S1024x2048 : Shape := ⟨2, ![1024, 2048]⟩
abbrev S1x128x32x64x64 : Shape := ⟨5, ![1, 128, 32, 64, 64]⟩
abbrev S1x2048 : Shape := ⟨2, ![1, 2048]⟩
abbrev S1x32x64 : Shape := ⟨3, ![1, 32, 64]⟩
abbrev S128x8x2048 : Shape := ⟨3, ![128, 8, 2048]⟩
abbrev S2048 : Shape := ⟨1, ![2048]⟩
abbrev S1x1x2048 : Shape := ⟨3, ![1, 1, 2048]⟩
abbrev S128x8x32x64 : Shape := ⟨4, ![128, 8, 32, 64]⟩
abbrev S_ : Shape := ⟨0, ![]⟩
abbrev S128x8x32 : Shape := ⟨3, ![128, 8, 32]⟩
abbrev S128x8x32x1 : Shape := ⟨4, ![128, 8, 32, 1]⟩
abbrev S128x32x64x64 : Shape := ⟨4, ![128, 32, 64, 64]⟩
abbrev S8x128x32x64 : Shape := ⟨4, ![8, 128, 32, 64]⟩
abbrev S1x128x32x64 : Shape := ⟨4, ![1, 128, 32, 64]⟩
abbrev S128x32x64 : Shape := ⟨3, ![128, 32, 64]⟩
abbrev S128x32x1x64 : Shape := ⟨4, ![128, 32, 1, 64]⟩
abbrev S128x32x64x1 : Shape := ⟨4, ![128, 32, 64, 1]⟩
abbrev S32x64 : Shape := ⟨2, ![32, 64]⟩
abbrev S1x1x32x64 : Shape := ⟨4, ![1, 1, 32, 64]⟩
abbrev S128x32x8x64 : Shape := ⟨4, ![128, 32, 8, 64]⟩
abbrev S4096x8x64 : Shape := ⟨3, ![4096, 8, 64]⟩
abbrev S4096x64x64 : Shape := ⟨3, ![4096, 64, 64]⟩

abbrev nBuf : Space → Nat
  | .hbm => 177
  | .vmem => 0
  | .smem => 0
  | _ => 0

abbrev hbmTy0_0 (i : Nat) : BufTy := match i % 128 with
  | 0 => ⟨S1024x2048, .f32⟩
  | 1 => ⟨S1024x2048, .f32⟩
  | 2 => ⟨S1024x2048, .f32⟩
  | 3 => ⟨S1024x2048, .f32⟩
  | 4 => ⟨S1024x2048, .f32⟩
  | 5 => ⟨S1024x2048, .f32⟩
  | 6 => ⟨S1x128x32x64x64, .f32⟩
  | 7 => ⟨S1x2048, .f32⟩
  | 8 => ⟨S1x2048, .f32⟩
  | 9 => ⟨S1x32x64, .f32⟩
  | 10 => ⟨S1x2048, .f32⟩
  | 11 => ⟨S1x2048, .f32⟩
  | 12 => ⟨S128x8x2048, .f32⟩
  | 13 => ⟨S128x8x2048, .f32⟩
  | 14 => ⟨S128x8x2048, .f32⟩
  | 15 => ⟨S128x8x2048, .f32⟩
  | 16 => ⟨S128x8x2048, .f32⟩
  | 17 => ⟨S128x8x2048, .f32⟩
  | 18 => ⟨S128x8x2048, .f32⟩
  | 19 => ⟨S2048, .f32⟩
  | 20 => ⟨S1x1x2048, .f32⟩
  | 21 => ⟨S128x8x2048, .f32⟩
  | 22 => ⟨S128x8x2048, .f32⟩
  | 23 => ⟨S128x8x32x64, .f32⟩
  | 24 => ⟨S128x8x32x64, .f32⟩
  | 25 => ⟨S_, .f32⟩
  | 26 => ⟨S128x8x32, .f32⟩
  | 27 => ⟨S128x8x32x1, .f32⟩
  | 28 => ⟨S128x8x32x1, .f32⟩
  | 29 => ⟨S_, .f32⟩
  | 30 => ⟨S128x8x32x1, .f32⟩
  | 31 => ⟨S128x8x32x1, .f32⟩
  | 32 => ⟨S128x8x32x64, .f32⟩
  | 33 => ⟨S128x8x32x64, .f32⟩
  | 34 => ⟨S_, .f32⟩
  | 35 => ⟨S128x8x2048, .f32⟩
  | 36 => ⟨S128x8x2048, .f32⟩
  | 37 => ⟨S2048, .f32⟩
  | 38 => ⟨S1x1x2048, .f32⟩
  | 39 => ⟨S128x8x2048, .f32⟩
  | 40 => ⟨S128x8x2048, .f32⟩
  | 41 => ⟨S_, .f32⟩
  | 42 => ⟨S128x8x2048, .f32⟩
  | 43 => ⟨S128x8x2048, .f32⟩
  | 44 => ⟨S128x8x2048, .f32⟩
  | 45 => ⟨S128x8x32x64, .f32⟩
  | 46 => ⟨S128x8x32x64, .f32⟩
  | 47 => ⟨S128x8x32x64, .f32⟩
  | 48 => ⟨S128x8x32x64, .f32⟩
  | 49 => ⟨S128x32x64x64, .f32⟩
  | 50 => ⟨S128x8x32x64, .f32⟩
  | 51 => ⟨S128x8x32x64, .f32⟩
  | 52 => ⟨S128x8x32x64, .f32⟩
  | 53 => ⟨S8x128x32x64, .f32⟩
  | 54 => ⟨S8x128x32x64, .f32⟩
  | 55 => ⟨S8x128x32x64, .f32⟩
  | 56 => ⟨S8x128x32x64, .f32⟩
  | 57 => ⟨S8x128x32x64, .f32⟩
  | 58 => ⟨S8x128x32x64, .f32⟩
  | 59 => ⟨S_, .f32⟩
  | 60 => ⟨S8x128x32x64, .f32⟩
  | 61 => ⟨S_, .i32⟩
  | 62 => ⟨S8x128x32x64, .f32⟩
  | 63 => ⟨S8x128x32x64, .f32⟩
  | 64 => ⟨S8x128x32x64, .f32⟩
  | 65 => ⟨S8x128x32x64, .f32⟩
  | 66 => ⟨S8x128x32x64, .f32⟩
  | 67 => ⟨S8x128x32x64, .f32⟩
  | 68 => ⟨S_, .i32⟩
  | 69 => ⟨S128x32x64x64, .f32⟩
  | 70 => ⟨S8x128x32x64, .f32⟩
  | 71 => ⟨S_, .i32⟩
  | 72 => ⟨S_, .i1⟩
  | 73 => ⟨S_, .i32⟩
  | 74 => ⟨S_, .i32⟩
  | 75 => ⟨S_, .i32⟩
  | 76 => ⟨S1x128x32x64, .f32⟩
  | 77 => ⟨S128x32x64, .f32⟩
  | 78 => ⟨S_, .i32⟩
  | 79 => ⟨S_, .i32⟩
  | 80 => ⟨S_, .i32⟩
  | 81 => ⟨S1x128x32x64, .f32⟩
  | 82 => ⟨S128x32x64, .f32⟩
  | 83 => ⟨S_, .i32⟩
  | 84 => ⟨S_, .i32⟩
  | 85 => ⟨S_, .i32⟩
  | 86 => ⟨S1x128x32x64, .f32⟩
  | 87 => ⟨S128x32x64, .f32⟩
  | 88 => ⟨S_, .i32⟩
  | 89 => ⟨S_, .i32⟩
  | 90 => ⟨S_, .i32⟩
  | 91 => ⟨S1x128x32x64, .f32⟩
  | 92 => ⟨S128x32x64, .f32⟩
  | 93 => ⟨S_, .i32⟩
  | 94 => ⟨S_, .i32⟩
  | 95 => ⟨S_, .i32⟩
  | 96 => ⟨S1x128x32x64, .f32⟩
  | 97 => ⟨S128x32x64, .f32⟩
  | 98 => ⟨S_, .i32⟩
  | 99 => ⟨S_, .i32⟩
  | 100 => ⟨S_, .i32⟩
  | 101 => ⟨S1x128x32x64, .f32⟩
  | 102 => ⟨S128x32x64, .f32⟩
  | 103 => ⟨S128x32x64, .f32⟩
  | 104 => ⟨S128x32x1x64, .f32⟩
  | 105 => ⟨S128x32x64x64, .f32⟩
  | 106 => ⟨S128x32x64x64, .f32⟩
  | 107 => ⟨S128x32x64x1, .f32⟩
  | 108 => ⟨S128x32x1x64, .f32⟩
  | 109 => ⟨S128x32x64x64, .f32⟩
  | 110 => ⟨S128x32x64x64, .f32⟩
  | 111 => ⟨S128x32x64x64, .f32⟩
  | 112 => ⟨S128x32x64x64, .f32⟩
  | 113 => ⟨S128x32x64x1, .f32⟩
  | 114 => ⟨S128x32x1x64, .f32⟩
  | 115 => ⟨S128x32x64x64, .f32⟩
  | 116 => ⟨S128x32x64x64, .f32⟩
  | 117 => ⟨S128x32x64x64, .f32⟩
  | 118 => ⟨S128x32x64x64, .f32⟩
  | 119 => ⟨S128x32x64, .f32⟩
  | 120 => ⟨S1x128x32x64, .f32⟩
  | 121 => ⟨S_, .i32⟩
  | 122 => ⟨S_, .i32⟩
  | 123 => ⟨S_, .i32⟩
  | 124 => ⟨S8x128x32x64, .f32⟩
  | 125 => ⟨S_, .i32⟩
  | 126 => ⟨S_, .i32⟩
  | 127 => ⟨S128x8x32x64, .f32⟩
  | _ => ⟨S1024x2048, .f32⟩

abbrev hbmTy0_1 (i : Nat) : BufTy := match i % 128 with
  | 0 => ⟨S_, .f32⟩
  | 1 => ⟨S128x8x32, .f32⟩
  | 2 => ⟨S128x8x32x1, .f32⟩
  | 3 => ⟨S_, .f32⟩
  | 4 => ⟨S128x8x32x1, .f32⟩
  | 5 => ⟨S128x8x32x1, .f32⟩
  | 6 => ⟨S128x8x32x64, .f32⟩
  | 7 => ⟨S128x8x32x64, .f32⟩
  | 8 => ⟨S128x8x32x64, .f32⟩
  | 9 => ⟨S_, .f32⟩
  | 10 => ⟨S128x8x32, .f32⟩
  | 11 => ⟨S128x8x32x1, .f32⟩
  | 12 => ⟨S_, .f32⟩
  | 13 => ⟨S128x8x32x1, .f32⟩
  | 14 => ⟨S128x8x32x1, .f32⟩
  | 15 => ⟨S128x8x32x64, .f32⟩
  | 16 => ⟨S128x8x32x64, .f32⟩
  | 17 => ⟨S_, .f32⟩
  | 18 => ⟨S128x8x32x1, .f32⟩
  | 19 => ⟨S128x8x32x1, .f32⟩
  | 20 => ⟨S128x8x32x1, .f32⟩
  | 21 => ⟨S128x8x32x64, .f32⟩
  | 22 => ⟨S128x8x32x64, .f32⟩
  | 23 => ⟨S128x8x2048, .f32⟩
  | 24 => ⟨S2048, .f32⟩
  | 25 => ⟨S1x1x2048, .f32⟩
  | 26 => ⟨S128x8x2048, .f32⟩
  | 27 => ⟨S128x8x2048, .f32⟩
  | 28 => ⟨S2048, .f32⟩
  | 29 => ⟨S1x1x2048, .f32⟩
  | 30 => ⟨S128x8x2048, .f32⟩
  | 31 => ⟨S128x8x2048, .f32⟩
  | 32 => ⟨S128x8x32x64, .f32⟩
  | 33 => ⟨S32x64, .f32⟩
  | 34 => ⟨S1x1x32x64, .f32⟩
  | 35 => ⟨S128x8x32x64, .f32⟩
  | 36 => ⟨S128x8x32x64, .f32⟩
  | 37 => ⟨S_, .f32⟩
  | 38 => ⟨S128x8x32, .f32⟩
  | 39 => ⟨S128x8x32x1, .f32⟩
  | 40 => ⟨S128x8x32x64, .f32⟩
  | 41 => ⟨S128x8x32x64, .f32⟩
  | 42 => ⟨S128x8x2048, .f32⟩
  | 43 => ⟨S128x8x2048, .f32⟩
  | 44 => ⟨S128x8x2048, .f32⟩
  | 45 => ⟨S128x8x32x64, .f32⟩
  | 46 => ⟨S128x32x8x64, .f32⟩
  | 47 => ⟨S4096x8x64, .f32⟩
  | 48 => ⟨S4096x64x64, .f32⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_c : Ref sig .tc := ⟨.hbm, 61, rfl⟩
abbrev main_v44_0 : Ref sig .tc := ⟨.hbm, 62, rfl⟩
abbrev main_v44_1 : Ref sig .tc := ⟨.hbm, 63, rfl⟩
abbrev main_v44_2 : Ref sig .tc := ⟨.hbm, 64, rfl⟩
abbrev main_v44_3 : Ref sig .tc := ⟨.hbm, 65, rfl⟩
abbrev main_v44_4 : Ref sig .tc := ⟨.hbm, 66, rfl⟩
abbrev main_v44_5 : Ref sig .tc := ⟨.hbm, 67, rfl⟩
abbrev main_v44_6 : Ref sig .tc := ⟨.hbm, 68, rfl⟩
abbrev main_v44_7 : Ref sig .tc := ⟨.hbm, 69, rfl⟩
abbrev main_v44_8 : Ref sig .tc := ⟨.hbm, 70, rfl⟩
abbrev main_while0c_c_18 : Ref sig .tc := ⟨.hbm, 71, rfl⟩
abbrev main_while0c_v89 : Ref sig .tc := ⟨.hbm, 72, rfl⟩
abbrev main_while0b_call0_c : Ref sig .tc := ⟨.hbm, 73, rfl⟩
abbrev main_while0b_call0_c_0 : Ref sig .tc := ⟨.hbm, 74, rfl⟩
abbrev main_while0b_call0_c_1 : Ref sig .tc := ⟨.hbm, 75, rfl⟩
abbrev main_while0b_call0_v0 : Ref sig .tc := ⟨.hbm, 76, rfl⟩
abbrev main_while0b_v89 : Ref sig .tc := ⟨.hbm, 77, rfl⟩
abbrev main_while0b_call1_c : Ref sig .tc := ⟨.hbm, 78, rfl⟩
abbrev main_while0b_call1_c_0 : Ref sig .tc := ⟨.hbm, 79, rfl⟩
abbrev main_while0b_call1_c_1 : Ref sig .tc := ⟨.hbm, 80, rfl⟩
abbrev main_while0b_call1_v0 : Ref sig .tc := ⟨.hbm, 81, rfl⟩
abbrev main_while0b_v90 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_v0 : Ref sig .tc := ⟨.hbm, 86, rfl⟩
abbrev main_while0b_v91 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_v0 : Ref sig .tc := ⟨.hbm, 91, rfl⟩
abbrev main_while0b_v92 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_v0 : Ref sig .tc := ⟨.hbm, 96, rfl⟩
abbrev main_while0b_v93 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_c_1 : Ref sig .tc := ⟨.hbm, 100, rfl⟩
abbrev main_while0b_call5_v0 : Ref sig .tc := ⟨.hbm, 101, rfl⟩
abbrev main_while0b_v94 : Ref sig .tc := ⟨.hbm, 102, rfl⟩
abbrev main_while0b_v95 : Ref sig .tc := ⟨.hbm, 103, rfl⟩
abbrev main_while0b_v96 : Ref sig .tc := ⟨.hbm, 104, rfl⟩
abbrev main_while0b_v97 : Ref sig .tc := ⟨.hbm, 105, rfl⟩
abbrev main_while0b_v98 : Ref sig .tc := ⟨.hbm, 106, rfl⟩
abbrev main_while0b_v99 : Ref sig .tc := ⟨.hbm, 107, rfl⟩
abbrev main_while0b_v100 : Ref sig .tc := ⟨.hbm, 108, rfl⟩
abbrev main_while0b_v101 : Ref sig .tc := ⟨.hbm, 109, rfl⟩
abbrev main_while0b_v102 : Ref sig .tc := ⟨.hbm, 110, rfl⟩
abbrev main_while0b_v103 : Ref sig .tc := ⟨.hbm, 111, rfl⟩
abbrev main_while0b_v104 : Ref sig .tc := ⟨.hbm, 112, rfl⟩
abbrev main_while0b_v105 : Ref sig .tc := ⟨.hbm, 113, rfl⟩
abbrev main_while0b_v106 : Ref sig .tc := ⟨.hbm, 114, rfl⟩
abbrev main_while0b_v107 : Ref sig .tc := ⟨.hbm, 115, rfl⟩
abbrev main_while0b_v108 : Ref sig .tc := ⟨.hbm, 116, rfl⟩
abbrev main_while0b_v109 : Ref sig .tc := ⟨.hbm, 117, rfl⟩
abbrev main_while0b_v110 : Ref sig .tc := ⟨.hbm, 118, rfl⟩
abbrev main_while0b_v111 : Ref sig .tc := ⟨.hbm, 119, rfl⟩
abbrev main_while0b_call6_v0 : Ref sig .tc := ⟨.hbm, 120, rfl⟩
abbrev main_while0b_call6_c : Ref sig .tc := ⟨.hbm, 121, rfl⟩
abbrev main_while0b_call6_c_0 : Ref sig .tc := ⟨.hbm, 122, rfl⟩
abbrev main_while0b_call6_c_1 : Ref sig .tc := ⟨.hbm, 123, rfl⟩
abbrev main_while0b_v112 : Ref sig .tc := ⟨.hbm, 124, rfl⟩
abbrev main_while0b_c_18 : Ref sig .tc := ⟨.hbm, 125, rfl⟩
abbrev main_while0b_v113 : Ref sig .tc := ⟨.hbm, 126, rfl⟩
abbrev main_v45 : Ref sig .tc := ⟨.hbm, 127, rfl⟩
abbrev main_cst_4 : Ref sig .tc := ⟨.hbm, 128, rfl⟩
abbrev main_v46 : Ref sig .tc := ⟨.hbm, 129, rfl⟩
abbrev main_v47 : Ref sig .tc := ⟨.hbm, 130, rfl⟩
abbrev main_cst_5 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_cst_6 : Ref sig .tc := ⟨.hbm, 137, rfl⟩
abbrev main_v53 : Ref sig .tc := ⟨.hbm, 138, rfl⟩
abbrev main_v54 : Ref sig .tc := ⟨.hbm, 139, rfl⟩
abbrev main_cst_7 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_cst_8 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_cst_9 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩

abbrev nD : Nat := 1
abbrev τ : Topo := Topo.v7x

variable {F : FTy → Type} [FloatOps F]

abbrev main_while0_count : Scf.Loop 32 := ⟨0#32, 8#32, 1#32⟩
-- ==== InProj.lean ====
abbrev S8192x2048 : Shape := ⟨2, ![8192, 2048]⟩
abbrev S1x2048x14864 : Shape := ⟨3, ![1, 2048, 14864]⟩
abbrev S2048x14864 : Shape := ⟨2, ![2048, 14864]⟩
abbrev S2048x2048 : Shape := ⟨2, ![2048, 2048]⟩
abbrev S2048x96 : Shape := ⟨2, ![2048, 96]⟩
abbrev S2048x256 : Shape := ⟨2, ![2048, 256]⟩
abbrev S2048x512 : Shape := ⟨2, ![2048, 512]⟩
abbrev S2048x1024 : Shape := ⟨2, ![2048, 1024]⟩
abbrev S2048x64 : Shape := ⟨2, ![2048, 64]⟩
abbrev S2048x16 : Shape := ⟨2, ![2048, 16]⟩
abbrev S_ : Shape := ⟨0, ![]⟩
abbrev S2048x32 : Shape := ⟨2, ![2048, 32]⟩
abbrev S2048x112 : Shape := ⟨2, ![2048, 112]⟩
abbrev S2048x14976 : Shape := ⟨2, ![2048, 14976]⟩
abbrev S2048x384 : Shape := ⟨2, ![2048, 384]⟩
abbrev S2048x15360 : Shape := ⟨2, ![2048, 15360]⟩
abbrev S8192x15360 : Shape := ⟨2, ![8192, 15360]⟩
abbrev S1024x2048 : Shape := ⟨2, ![1024, 2048]⟩
abbrev S1024x1024 : Shape := ⟨2, ![1024, 1024]⟩
abbrev S1x8192x15360 : Shape := ⟨3, ![1, 8192, 15360]⟩
abbrev S1x1x15360 : Shape := ⟨3, ![1, 1, 15360]⟩
abbrev S1x15360 : Shape := ⟨2, ![1, 15360]⟩
abbrev S1x512 : Shape := ⟨2, ![1, 512]⟩
abbrev S1x6144 : Shape := ⟨2, ![1, 6144]⟩
abbrev S1x96 : Shape := ⟨2, ![1, 96]⟩
abbrev S1x256 : Shape := ⟨2, ![1, 256]⟩
abbrev S1x6592 : Shape := ⟨2, ![1, 6592]⟩
abbrev S8192x512 : Shape := ⟨2, ![8192, 512]⟩
abbrev S8192x64 : Shape := ⟨2, ![8192, 64]⟩

abbrev nBuf : Space → Nat
  | .hbm => 41
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048x14864, .f32⟩
  | .hbm, ⟨2, _⟩ => ⟨S8192x2048, .bf16⟩
  | .hbm, ⟨3, _⟩ => ⟨S2048x14864, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x96, .f32⟩
  | .hbm, ⟨8, _⟩ => ⟨S2048x96, .f32⟩
  | .hbm, ⟨9, _⟩ => ⟨S2048x256, .f32⟩
  | .hbm, ⟨10, _⟩ => ⟨S2048x2048, .f32⟩
  | .hbm, ⟨11, _⟩ => ⟨S2048x512, .f32⟩
  | .hbm, ⟨12, _⟩ => ⟨S2048x512, .f32⟩
  | .hbm, ⟨13, _⟩ => ⟨S2048x1024, .f32⟩
  | .hbm, ⟨14, _⟩ => ⟨S2048x64, .f32⟩
  | .hbm, ⟨15, _⟩ => ⟨S2048x16, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x32, .f32⟩
  | .hbm, ⟨20, _⟩ => ⟨S_, .f32⟩
  | .hbm, ⟨21, _⟩ => ⟨S2048x32, .f32⟩
  | .hbm, ⟨22, _⟩ => ⟨S_, .f32⟩
  | .hbm, ⟨23, _⟩ => ⟨S2048x112, .f32⟩
  | .hbm, ⟨24, _⟩ => ⟨S_, .f32⟩
  | .hbm, ⟨25, _⟩ => ⟨S2048x256, .f32⟩
  | .hbm, ⟨26, _⟩ => ⟨S2048x14976, .f32⟩
  | .hbm, ⟨27, _⟩ => ⟨S2048x384, .f32⟩
  | .hbm, ⟨28, _⟩ => ⟨S2048x15360, .f32⟩
  | .hbm, ⟨29, _⟩ => ⟨S8192x15360, .f32⟩
  | .hbm, ⟨30, _⟩ => ⟨S1x8192x15360, .f32⟩
  | .hbm, ⟨31, _⟩ => ⟨S1x1x15360, .f32⟩
  | .hbm, ⟨32, _⟩ => ⟨S1x15360, .f32⟩
  | .hbm, ⟨33, _⟩ => ⟨S1x512, .f32⟩
  | .hbm, ⟨34, _⟩ => ⟨S1x6144, .f32⟩
  | .hbm, ⟨35, _⟩ => ⟨S1x96, .f32⟩
  | .hbm, ⟨36, _⟩ => ⟨S1x96, .f32⟩
  | .hbm, ⟨37, _⟩ => ⟨S1x256, .f32⟩
  | .hbm, ⟨38, _⟩ => ⟨S1x6592, .f32⟩
  | .hbm, ⟨39, _⟩ => ⟨S8192x512, .f32⟩
  | .hbm, ⟨40, _⟩ => ⟨S8192x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![15, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S8192x2048 : Shape := ⟨2, ![8192, 2048]⟩
abbrev S1x2048x14864 : Shape := ⟨3, ![1, 2048, 14864]⟩
abbrev S2048x14864 : Shape := ⟨2, ![2048, 14864]⟩
abbrev S8192x14864 : Shape := ⟨2, ![8192, 14864]⟩
abbrev S8192x6592 : Shape := ⟨2, ![8192, 6592]⟩
abbrev S8192x4176 : Shape := ⟨2, ![8192, 4176]⟩
abbrev S8192x4096 : Shape := ⟨2, ![8192, 4096]⟩
abbrev S8192x512 : Shape := ⟨2, ![8192, 512]⟩
abbrev S8192x1024 : Shape := ⟨2, ![8192, 1024]⟩
abbrev S8192x64 : Shape := ⟨2, ![8192, 64]⟩
abbrev S8192x16 : Shape := ⟨2, ![8192, 16]⟩
abbrev S1x8192x6592 : Shape := ⟨3, ![1, 8192, 6592]⟩
abbrev S1x1x6592 : Shape := ⟨3, ![1, 1, 6592]⟩
abbrev S1x6592 : Shape := ⟨2, ![1, 6592]⟩
abbrev S8192x6144 : Shape := ⟨2, ![8192, 6144]⟩
abbrev S8192x96 : Shape := ⟨2, ![8192, 96]⟩
abbrev S8192x256 : Shape := ⟨2, ![8192, 256]⟩
abbrev S_ : Shape := ⟨0, ![]⟩
abbrev S8192x32 : Shape := ⟨2, ![8192, 32]⟩
abbrev S8192x368 : Shape := ⟨2, ![8192, 368]⟩
abbrev S8192x15360 : Shape := ⟨2, ![8192, 15360]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x14864, .f32⟩
  | .hbm, ⟨2, _⟩ => ⟨S2048x14864, .f32⟩
  | .hbm, ⟨3, _⟩ => ⟨S8192x14864, .f32⟩
  | .hbm, ⟨4, _⟩ => ⟨S8192x6592, .f32⟩
  | .hbm, ⟨5, _⟩ => ⟨S8192x4176, .f32⟩
  | .hbm, ⟨6, _⟩ => ⟨S8192x4096, .f32⟩
  | .hbm, ⟨7, _⟩ => ⟨S8192x2048, .f32⟩
  | .hbm, ⟨8, _⟩ => ⟨S8192x512, .f32⟩
  | .hbm, ⟨9, _⟩ => ⟨S8192x512, .f32⟩
  | .hbm, ⟨10, _⟩ => ⟨S8192x1024, .f32⟩
  | .hbm, ⟨11, _⟩ => ⟨S8192x64, .f32⟩
  | .hbm, ⟨12, _⟩ => ⟨S8192x16, .f32⟩
  | .hbm, ⟨13, _⟩ => ⟨S1x8192x6592, .f32⟩
  | .hbm, ⟨14, _⟩ => ⟨S1x1x6592, .f32⟩
  | .hbm, ⟨15, _⟩ => ⟨S1x6592, .f32⟩
  | .hbm, ⟨16, _⟩ => ⟨S8192x6144, .f32⟩
  | .hbm, ⟨17, _⟩ => ⟨S8192x96, .f32⟩
  | .hbm, ⟨18, _⟩ => ⟨S8192x96, .f32⟩
  | .hbm, ⟨19, _⟩ => ⟨S8192x256, .f32⟩
  | .hbm, ⟨20, _⟩ => ⟨S_, .f32⟩
  | .hbm, ⟨21, _⟩ => ⟨S8192x32, .f32⟩
  | .hbm, ⟨22, _⟩ => ⟨S_, .f32⟩
  | .hbm, ⟨23, _⟩ => ⟨S8192x32, .f32⟩
  | .hbm, ⟨24, _⟩ => ⟨S_, .f32⟩
  | .hbm, ⟨25, _⟩ => ⟨S8192x368, .f32⟩
  | .hbm, ⟨26, _⟩ => ⟨S8192x15360, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== FfnUp.lean ====
abbrev S8192x2048 : Shape := ⟨2, ![8192, 2048]⟩
abbrev S1x2048x11264 : Shape := ⟨3, ![1, 2048, 11264]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩
abbrev S1x8192x11264 : Shape := ⟨3, ![1, 8192, 11264]⟩
abbrev S1x2x5632 : Shape := ⟨3, ![1, 2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048x11264, .f32⟩
  | .hbm, ⟨2, _⟩ => ⟨S8192x2048, .bf16⟩
  | .hbm, ⟨3, _⟩ => ⟨S2048x11264, .f32⟩
  | .hbm, ⟨4, _⟩ => ⟨S8192x11264, .f32⟩
  | .hbm, ⟨5, _⟩ => ⟨S1x8192x11264, .f32⟩
  | .hbm, ⟨6, _⟩ => ⟨S1x2x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpReferenceIdeal.lean ====
abbrev S8192x2048 : Shape := ⟨2, ![8192, 2048]⟩
abbrev S1x2048x11264 : Shape := ⟨3, ![1, 2048, 11264]⟩
abbrev S2048x11264 : Shape := ⟨2, ![2048, 11264]⟩
abbrev S8192x11264 : Shape := ⟨2, ![8192, 11264]⟩
abbrev S1x8192x11264 : Shape := ⟨3, ![1, 8192, 11264]⟩
abbrev S1x8192x5632 : Shape := ⟨3, ![1, 8192, 5632]⟩
abbrev S_ : Shape := ⟨0, ![]⟩
abbrev S1x2x5632 : Shape := ⟨3, ![1, 2, 5632]⟩
abbrev S1x8194x5632 : Shape := ⟨3, ![1, 8194, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x11264, .f32⟩
  | .hbm, ⟨2, _⟩ => ⟨S2048x11264, .f32⟩
  | .hbm, ⟨3, _⟩ => ⟨S8192x11264, .f32⟩
  | .hbm, ⟨4, _⟩ => ⟨S1x8192x11264, .f32⟩
  | .hbm, ⟨5, _⟩ => ⟨S1x8192x5632, .f32⟩
  | .hbm, ⟨6, _⟩ => ⟨S1x8192x5632, .f32⟩
  | .hbm, ⟨7, _⟩ => ⟨S_, .f32⟩
  | .hbm, ⟨8, _⟩ => ⟨S1x2x5632, .f32⟩
  | .hbm, ⟨9, _⟩ => ⟨S1x8194x5632, .f32⟩
  | .hbm, ⟨10, _⟩ => ⟨S8192x11264, .f32⟩
  | .hbm, ⟨11, _⟩ => ⟨S1x2x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnDown.lean ====
abbrev S8192x5632 : Shape := ⟨2, ![8192, 5632]⟩
abbrev S1x5632x2048 : Shape := ⟨3, ![1, 5632, 2048]⟩
abbrev S8192x2048 : Shape := ⟨2, ![8192, 2048]⟩
abbrev S1x12288 : Shape := ⟨2, ![1, 12288]⟩
abbrev S5632x2048 : Shape := ⟨2, ![5632, 2048]⟩
abbrev S512x5632 : Shape := ⟨2, ![512, 5632]⟩
abbrev S5632x512 : Shape := ⟨2, ![5632, 512]⟩
abbrev S512x512 : Shape := ⟨2, ![512, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .f32⟩
  | .hbm, ⟨1, _⟩ => ⟨S1x5632x2048, .f32⟩
  | .hbm, ⟨2, _⟩ => ⟨S8192x2048, .f32⟩
  | .hbm, ⟨3, _⟩ => ⟨S1x12288, .f32⟩
  | .hbm, ⟨4, _⟩ => ⟨S8192x5632, .bf16⟩
  | .hbm, ⟨5, _⟩ => ⟨S5632x2048, .f32⟩
  | .hbm, ⟨6, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c20_i32 : BitVec 32 := 20#32
  let v18 : BitVec 32 := Scalar.addi c20_i32 arg0
  let c0_i32_4 : BitVec 32 := 0#32
  ![v17.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDownReferenceIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S1x12288 : Shape := ⟨2, ![1, 12288]⟩
abbrev S1x2048 : Shape := ⟨2, ![1, 2048]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1x5632x2048, .f32⟩
  | .hbm, ⟨2, _⟩ => ⟨S8192x2048, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S5632x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Mix.lean ====
abbrev S8192x2048 : Shape := ⟨2, ![8192, 2048]⟩
abbrev S1x2048x2048 : Shape := ⟨3, ![1, 2048, 2048]⟩
abbrev S8192x15360 : Shape := ⟨2, ![8192, 15360]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048x2048, .f32⟩
  | .hbm, ⟨3, _⟩ => ⟨S1x2048x2048, .f32⟩
  | .hbm, ⟨4, _⟩ => ⟨S8192x15360, .f32⟩
  | .hbm, ⟨5, _⟩ => ⟨S8192x2048, .bf16⟩
  | .hbm, ⟨6, _⟩ => ⟨S8192x2048, .bf16⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixReferenceIdeal.lean ====
abbrev S8192x2048 : Shape := ⟨2, ![8192, 2048]⟩
abbrev S1x2048x2048 : Shape := ⟨3, ![1, 2048, 2048]⟩
abbrev S8192x15360 : Shape := ⟨2, ![8192, 15360]⟩
abbrev S8192x4096 : Shape := ⟨2, ![8192, 4096]⟩
abbrev S_ : Shape := ⟨0, ![]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048x2048, .f32⟩
  | .hbm, ⟨3, _⟩ => ⟨S1x2048x2048, .f32⟩
  | .hbm, ⟨4, _⟩ => ⟨S8192x15360, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x2048, .f32⟩
  | .hbm, ⟨15, _⟩ => ⟨S8192x2048, .f32⟩
  | .hbm, ⟨16, _⟩ => ⟨S2048x2048, .f32⟩
  | .hbm, ⟨17, _⟩ => ⟨S8192x2048, .f32⟩
  | .hbm, ⟨18, _⟩ => ⟨S8192x2048, .f32⟩
  | .hbm, ⟨19, _⟩ => ⟨S2048x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutProj.lean ====
abbrev S8192x2048 : Shape := ⟨2, ![8192, 2048]⟩
abbrev S1x2048x2048 : Shape := ⟨3, ![1, 2048, 2048]⟩
abbrev S1x12288 : Shape := ⟨2, ![1, 12288]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .f32⟩
  | .hbm, ⟨3, _⟩ => ⟨S1x12288, .f32⟩
  | .hbm, ⟨4, _⟩ => ⟨S8192x2048, .bf16⟩
  | .hbm, ⟨5, _⟩ => ⟨S2048x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.addi c8_i32 arg0
  let c0_i32_4 : BitVec 32 := 0#32
  ![v17.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjReferenceIdeal.lean ====
abbrev S8192x2048 : Shape := ⟨2, ![8192, 2048]⟩
abbrev S1x2048x2048 : Shape := ⟨3, ![1, 2048, 2048]⟩
abbrev S1x12288 : Shape := ⟨2, ![1, 12288]⟩
abbrev S1x2048 : Shape := ⟨2, ![1, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== HeadNorm.lean ====
abbrev S8192x15360 : Shape := ⟨2, ![8192, 15360]⟩
abbrev S1x128 : Shape := ⟨2, ![1, 128]⟩
abbrev S128 : Shape := ⟨1, ![128]⟩
abbrev S8192x2048 : Shape := ⟨2, ![8192, 2048]⟩
abbrev S8192x512 : Shape := ⟨2, ![8192, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x15360, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S8192x2048, .bf16⟩
  | .hbm, ⟨8, _⟩ => ⟨S8192x512, .f32⟩
  | .hbm, ⟨9, _⟩ => ⟨S8192x512, .bf16⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S1x128, .f32⟩
  | .local _ .vmem, ⟨6, _⟩ => ⟨S256x2048, .bf16⟩
  | .local _ .vmem, ⟨7, _⟩ => ⟨S256x2048, .bf16⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | _, _ => ⟨S8192x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HeadNormIdeal.lean ====
abbrev S8192x15360 : Shape := ⟨2, ![8192, 15360]⟩
abbrev S1x128 : Shape := ⟨2, ![1, 128]⟩
abbrev S128 : Shape := ⟨1, ![128]⟩
abbrev S8192x2048 : Shape := ⟨2, ![8192, 2048]⟩
abbrev S8192x512 : Shape := ⟨2, ![8192, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x15360, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S8192x2048, .bf16⟩
  | .hbm, ⟨8, _⟩ => ⟨S8192x512, .f32⟩
  | .hbm, ⟨9, _⟩ => ⟨S8192x512, .bf16⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S1x128, .f32⟩
  | .local _ .vmem, ⟨6, _⟩ => ⟨S256x2048, .bf16⟩
  | .local _ .vmem, ⟨7, _⟩ => ⟨S256x2048, .bf16⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | _, _ => ⟨S8192x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HeadNormReferenceIdeal.lean ====
abbrev S8192x15360 : Shape := ⟨2, ![8192, 15360]⟩
abbrev S1x128 : Shape := ⟨2, ![1, 128]⟩
abbrev S8192x2048 : Shape := ⟨2, ![8192, 2048]⟩
abbrev S8192x512 : Shape := ⟨2, ![8192, 512]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S8192x4x128 : Shape := ⟨3, ![8192, 4, 128]⟩
abbrev S8192x4 : Shape := ⟨2, ![8192, 4]⟩
abbrev S8192x4x1 : Shape := ⟨3, ![8192, 4, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x15360, .f32⟩
  | .hbm, ⟨1, _⟩ => ⟨S1x128, .f32⟩
  | .hbm, ⟨2, _⟩ => ⟨S1x128, .f32⟩
  | .hbm, ⟨3, _⟩ => ⟨S8192x2048, .f32⟩
  | .hbm, ⟨4, _⟩ => ⟨S8192x512, .f32⟩
  | .hbm, ⟨5, _⟩ => ⟨S8192x16x128, .f32⟩
  | .hbm, ⟨6, _⟩ => ⟨S128, .f32⟩
  | .hbm, ⟨7, _⟩ => ⟨S8192x16x128, .f32⟩
  | .hbm, ⟨8, _⟩ => ⟨S_, .f32⟩
  | .hbm, ⟨9, _⟩ => ⟨S8192x16, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S8192x16x128, .f32⟩
  | .hbm, ⟨19, _⟩ => ⟨S8192x16x128, .f32⟩
  | .hbm, ⟨20, _⟩ => ⟨S1x1x128, .f32⟩
  | .hbm, ⟨21, _⟩ => ⟨S8192x16x128, .f32⟩
  | .hbm, ⟨22, _⟩ => ⟨S8192x16x128, .f32⟩
  | .hbm, ⟨23, _⟩ => ⟨S8192x2048, .f32⟩
  | .hbm, ⟨24, _⟩ => ⟨S8192x4x128, .f32⟩
  | .hbm, ⟨25, _⟩ => ⟨S128, .f32⟩
  | .hbm, ⟨26, _⟩ => ⟨S8192x4x128, .f32⟩
  | .hbm, ⟨27, _⟩ => ⟨S_, .f32⟩
  | .hbm, ⟨28, _⟩ => ⟨S8192x4, .f32⟩
  | .hbm, ⟨29, _⟩ => ⟨S8192x4x1, .f32⟩
  | .hbm, ⟨30, _⟩ => ⟨S_, .f32⟩
  | .hbm, ⟨31, _⟩ => ⟨S8192x4x1, .f32⟩
  | .hbm, ⟨32, _⟩ => ⟨S8192x4x1, .f32⟩
  | .hbm, ⟨33, _⟩ => ⟨S_, .f32⟩
  | .hbm, ⟨34, _⟩ => ⟨S8192x4x1, .f32⟩
  | .hbm, ⟨35, _⟩ => ⟨S8192x4x1, .f32⟩
  | .hbm, ⟨36, _⟩ => ⟨S8192x4x1, .f32⟩
  | .hbm, ⟨37, _⟩ => ⟨S8192x4x128, .f32⟩
  | .hbm, ⟨38, _⟩ => ⟨S8192x4x128, .f32⟩
  | .hbm, ⟨39, _⟩ => ⟨S1x1x128, .f32⟩
  | .hbm, ⟨40, _⟩ => ⟨S8192x4x128, .f32⟩
  | .hbm, ⟨41, _⟩ => ⟨S8192x4x128, .f32⟩
  | .hbm, ⟨42, _⟩ => ⟨S8192x512, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .bf16⟩
  | .hbm, ⟨47, _⟩ => ⟨S8192x512, .bf16⟩
  | _, _ => ⟨S8192x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== HeadNormSample.lean ====
abbrev S1024x15360 : Shape := ⟨2, ![1024, 15360]⟩
abbrev S1x128 : Shape := ⟨2, ![1, 128]⟩
abbrev S128 : Shape := ⟨1, ![128]⟩
abbrev S1024x2048 : Shape := ⟨2, ![1024, 2048]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S1024x15360, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S1024x2048, .bf16⟩
  | .hbm, ⟨8, _⟩ => ⟨S1024x512, .f32⟩
  | .hbm, ⟨9, _⟩ => ⟨S1024x512, .bf16⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S1x128, .f32⟩
  | .local _ .vmem, ⟨6, _⟩ => ⟨S256x2048, .bf16⟩
  | .local _ .vmem, ⟨7, _⟩ => ⟨S256x2048, .bf16⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | _, _ => ⟨S1024x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HeadNormSampleReferenceIdeal.lean ====
abbrev S1024x15360 : Shape := ⟨2, ![1024, 15360]⟩
abbrev S1x128 : Shape := ⟨2, ![1, 128]⟩
abbrev S1024x2048 : Shape := ⟨2, ![1024, 2048]⟩
abbrev S1024x512 : Shape := ⟨2, ![1024, 512]⟩
abbrev S1024x16x128 : Shape := ⟨3, ![1024, 16, 128]⟩
abbrev S128 : Shape := ⟨1, ![128]⟩
abbrev S_ : Shape := ⟨0, ![]⟩
abbrev S1024x16 : Shape := ⟨2, ![1024, 16]⟩
abbrev S1024x16x1 : Shape := ⟨3, ![1024, 16, 1]⟩
abbrev S1x1x128 : Shape := ⟨3, ![1, 1, 128]⟩
abbrev S1024x4x128 : Shape := ⟨3, ![1024, 4, 128]⟩
abbrev S1024x4 : Shape := ⟨2, ![1024, 4]⟩
abbrev S1024x4x1 : Shape := ⟨3, ![1024, 4, 1]⟩

abbrev nBuf : Space → Nat
  | .hbm => 48
  | .vmem => 0
  | .smem => 0
  | _ => 0

abbrev bufTy : (tb : Table) → Fin (tcTables nBuf tb) → BufTy
  | .hbm, ⟨0, _⟩ => ⟨S1024x15360, .f32⟩
  | .hbm, ⟨1, _⟩ => ⟨S1x128, .f32⟩
  | .hbm, ⟨2, _⟩ => ⟨S1x128, .f32⟩
  | .hbm, ⟨3, _⟩ => ⟨S1024x2048, .f32⟩
  | .hbm, ⟨4, _⟩ => ⟨S1024x512, .f32⟩
  | .hbm, ⟨5, _⟩ => ⟨S1024x16x128, .f32⟩
  | .hbm, ⟨6, _⟩ => ⟨S128, .f32⟩
  | .hbm, ⟨7, _⟩ => ⟨S1024x16x128, .f32⟩
  | .hbm, ⟨8, _⟩ => ⟨S_, .f32⟩
  | .hbm, ⟨9, _⟩ => ⟨S1024x16, .f32⟩
  | .hbm, ⟨10, _⟩ => ⟨S1024x16x1, .f32⟩
  | .hbm, ⟨11, _⟩ => ⟨S_, .f32⟩
  | .hbm, ⟨12, _⟩ => ⟨S1024x16x1, .f32⟩
  | .hbm, ⟨13, _⟩ => ⟨S1024x16x1, .f32⟩
  | .hbm, ⟨14, _⟩ => ⟨S_, .f32⟩
  | .hbm, ⟨15, _⟩ => ⟨S1024x16x1, .f32⟩
  | .hbm, ⟨16, _⟩ => ⟨S1024x16x1, .f32⟩
  | .hbm, ⟨17, _⟩ => ⟨S1024x16x1, .f32⟩
  | .hbm, ⟨18, _⟩ => ⟨S1024x16x128, .f32⟩
  | .hbm, ⟨19, _⟩ => ⟨S1024x16x128, .f32⟩
  | .hbm, ⟨20, _⟩ => ⟨S1x1x128, .f32⟩
  | .hbm, ⟨21, _⟩ => ⟨S1024x16x128, .f32⟩
  | .hbm, ⟨22, _⟩ => ⟨S1024x16x128, .f32⟩
  | .hbm, ⟨23, _⟩ => ⟨S1024x2048, .f32⟩
  | .hbm, ⟨24, _⟩ => ⟨S1024x4x128, .f32⟩
  | .hbm, ⟨25, _⟩ => ⟨S128, .f32⟩
  | .hbm, ⟨26, _⟩ => ⟨S1024x4x128, .f32⟩
  | .hbm, ⟨27, _⟩ => ⟨S_, .f32⟩
  | .hbm, ⟨28, _⟩ => ⟨S1024x4, .f32⟩
  | .hbm, ⟨29, _⟩ => ⟨S1024x4x1, .f32⟩
  | .hbm, ⟨30, _⟩ => ⟨S_, .f32⟩
  | .hbm, ⟨31, _⟩ => ⟨S1024x4x1, .f32⟩
  | .hbm, ⟨32, _⟩ => ⟨S1024x4x1, .f32⟩
  | .hbm, ⟨33, _⟩ => ⟨S_, .f32⟩
  | .hbm, ⟨34, _⟩ => ⟨S1024x4x1, .f32⟩
  | .hbm, ⟨35, _⟩ => ⟨S1024x4x1, .f32⟩
  | .hbm, ⟨36, _⟩ => ⟨S1024x4x1, .f32⟩
  | .hbm, ⟨37, _⟩ => ⟨S1024x4x128, .f32⟩
  | .hbm, ⟨38, _⟩ => ⟨S1024x4x128, .f32⟩
  | .hbm, ⟨39, _⟩ => ⟨S1x1x128, .f32⟩
  | .hbm, ⟨40, _⟩ => ⟨S1024x4x128, .f32⟩
  | .hbm, ⟨41, _⟩ => ⟨S1024x4x128, .f32⟩
  | .hbm, ⟨42, _⟩ => ⟨S1024x512, .f32⟩
  | .hbm, ⟨43, _⟩ => ⟨S_, .f32⟩
  | .hbm, ⟨44, _⟩ => ⟨S1024x2048, .f32⟩
  | .hbm, ⟨45, _⟩ => ⟨S1024x2048, .f32⟩
  | .hbm, ⟨46, _⟩ => ⟨S1024x2048, .bf16⟩
  | .hbm, ⟨47, _⟩ => ⟨S1024x512, .bf16⟩
  | _, _ => ⟨S1024x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== InProjSample.lean ====
abbrev S1024x2048 : Shape := ⟨2, ![1024, 2048]⟩
abbrev S1x2048x14864 : Shape := ⟨3, ![1, 2048, 14864]⟩
abbrev S2048x14864 : Shape := ⟨2, ![2048, 14864]⟩
abbrev S2048x2048 : Shape := ⟨2, ![2048, 2048]⟩
abbrev S2048x96 : Shape := ⟨2, ![2048, 96]⟩
abbrev S2048x256 : Shape := ⟨2, ![2048, 256]⟩
abbrev S2048x512 : Shape := ⟨2, ![2048, 512]⟩
abbrev S2048x1024 : Shape := ⟨2, ![2048, 1024]⟩
abbrev S2048x64 : Shape := ⟨2, ![2048, 64]⟩
abbrev S2048x16 : Shape := ⟨2, ![2048, 16]⟩
abbrev S_ : Shape := ⟨0, ![]⟩
abbrev S2048x32 : Shape := ⟨2, ![2048, 32]⟩
abbrev S2048x112 : Shape := ⟨2, ![2048, 112]⟩
abbrev S2048x14976 : Shape := ⟨2, ![2048, 14976]⟩
abbrev S2048x384 : Shape := ⟨2, ![2048, 384]⟩
abbrev S2048x15360 : Shape := ⟨2, ![2048, 15360]⟩
abbrev S1024x15360 : Shape := ⟨2, ![1024, 15360]⟩
abbrev S1024x1024 : Shape := ⟨2, ![1024, 1024]⟩
abbrev S128x8x15360 : Shape := ⟨3, ![128, 8, 15360]⟩
abbrev S128x1x15360 : Shape := ⟨3, ![128, 1, 15360]⟩
abbrev S128x15360 : Shape := ⟨2, ![128, 15360]⟩
abbrev S128x512 : Shape := ⟨2, ![128, 512]⟩
abbrev S128x6144 : Shape := ⟨2, ![128, 6144]⟩
abbrev S128x96 : Shape := ⟨2, ![128, 96]⟩
abbrev S128x256 : Shape := ⟨2, ![128, 256]⟩
abbrev S128x6592 : Shape := ⟨2, ![128, 6592]⟩
abbrev S1024x512 : Shape := ⟨2, ![1024, 512]⟩
abbrev S1024x64 : Shape := ⟨2, ![1024, 64]⟩

abbrev nBuf : Space → Nat
  | .hbm => 41
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1x2048x14864, .f32⟩
  | .hbm, ⟨2, _⟩ => ⟨S1024x2048, .bf16⟩
  | .hbm, ⟨3, _⟩ => ⟨S2048x14864, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x96, .f32⟩
  | .hbm, ⟨8, _⟩ => ⟨S2048x96, .f32⟩
  | .hbm, ⟨9, _⟩ => ⟨S2048x256, .f32⟩
  | .hbm, ⟨10, _⟩ => ⟨S2048x2048, .f32⟩
  | .hbm, ⟨11, _⟩ => ⟨S2048x512, .f32⟩
  | .hbm, ⟨12, _⟩ => ⟨S2048x512, .f32⟩
  | .hbm, ⟨13, _⟩ => ⟨S2048x1024, .f32⟩
  | .hbm, ⟨14, _⟩ => ⟨S2048x64, .f32⟩
  | .hbm, ⟨15, _⟩ => ⟨S2048x16, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x32, .f32⟩
  | .hbm, ⟨20, _⟩ => ⟨S_, .f32⟩
  | .hbm, ⟨21, _⟩ => ⟨S2048x32, .f32⟩
  | .hbm, ⟨22, _⟩ => ⟨S_, .f32⟩
  | .hbm, ⟨23, _⟩ => ⟨S2048x112, .f32⟩
  | .hbm, ⟨24, _⟩ => ⟨S_, .f32⟩
  | .hbm, ⟨25, _⟩ => ⟨S2048x256, .f32⟩
  | .hbm, ⟨26, _⟩ => ⟨S2048x14976, .f32⟩
  | .hbm, ⟨27, _⟩ => ⟨S2048x384, .f32⟩
  | .hbm, ⟨28, _⟩ => ⟨S2048x15360, .f32⟩
  | .hbm, ⟨29, _⟩ => ⟨S1024x15360, .f32⟩
  | .hbm, ⟨30, _⟩ => ⟨S128x8x15360, .f32⟩
  | .hbm, ⟨31, _⟩ => ⟨S128x1x15360, .f32⟩
  | .hbm, ⟨32, _⟩ => ⟨S128x15360, .f32⟩
  | .hbm, ⟨33, _⟩ => ⟨S128x512, .f32⟩
  | .hbm, ⟨34, _⟩ => ⟨S128x6144, .f32⟩
  | .hbm, ⟨35, _⟩ => ⟨S128x96, .f32⟩
  | .hbm, ⟨36, _⟩ => ⟨S128x96, .f32⟩
  | .hbm, ⟨37, _⟩ => ⟨S128x256, .f32⟩
  | .hbm, ⟨38, _⟩ => ⟨S128x6592, .f32⟩
  | .hbm, ⟨39, _⟩ => ⟨S1024x512, .f32⟩
  | .hbm, ⟨40, _⟩ => ⟨S1024x64, .f32⟩
  | .local _ .vmem, ⟨0, _⟩ => ⟨S1024x2048, .bf16⟩
  | .local _ .vmem, ⟨1, _⟩ => ⟨S2048x1024, .f32⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![15, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjSampleReferenceIdeal.lean ====
abbrev S1024x2048 : Shape := ⟨2, ![1024, 2048]⟩
abbrev S1x2048x14864 : Shape := ⟨3, ![1, 2048, 14864]⟩
abbrev S2048x14864 : Shape := ⟨2, ![2048, 14864]⟩
abbrev S1024x14864 : Shape := ⟨2, ![1024, 14864]⟩
abbrev S1024x6592 : Shape := ⟨2, ![1024, 6592]⟩
abbrev S1024x4176 : Shape := ⟨2, ![1024, 4176]⟩
abbrev S1024x4096 : Shape := ⟨2, ![1024, 4096]⟩
abbrev S1024x512 : Shape := ⟨2, ![1024, 512]⟩
abbrev S1024x1024 : Shape := ⟨2, ![1024, 1024]⟩
abbrev S1024x64 : Shape := ⟨2, ![1024, 64]⟩
abbrev S1024x16 : Shape := ⟨2, ![1024, 16]⟩
abbrev S128x8x6592 : Shape := ⟨3, ![128, 8, 6592]⟩
abbrev S128x1x6592 : Shape := ⟨3, ![128, 1, 6592]⟩
abbrev S128x6592 : Shape := ⟨2, ![128, 6592]⟩
abbrev S1024x6144 : Shape := ⟨2, ![1024, 6144]⟩
abbrev S1024x96 : Shape := ⟨2, ![1024, 96]⟩
abbrev S1024x256 : Shape := ⟨2, ![1024, 256]⟩
abbrev S_ : Shape := ⟨0, ![]⟩
abbrev S1024x32 : Shape := ⟨2, ![1024, 32]⟩
abbrev S1024x368 : Shape := ⟨2, ![1024, 368]⟩
abbrev S1024x15360 : Shape := ⟨2, ![1024, 15360]⟩

abbrev nBuf : Space → Nat
  | .hbm => 27
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048x14864, .f32⟩
  | .hbm, ⟨2, _⟩ => ⟨S2048x14864, .f32⟩
  | .hbm, ⟨3, _⟩ => ⟨S1024x14864, .f32⟩
  | .hbm, ⟨4, _⟩ => ⟨S1024x6592, .f32⟩
  | .hbm, ⟨5, _⟩ => ⟨S1024x4176, .f32⟩
  | .hbm, ⟨6, _⟩ => ⟨S1024x4096, .f32⟩
  | .hbm, ⟨7, _⟩ => ⟨S1024x2048, .f32⟩
  | .hbm, ⟨8, _⟩ => ⟨S1024x512, .f32⟩
  | .hbm, ⟨9, _⟩ => ⟨S1024x512, .f32⟩
  | .hbm, ⟨10, _⟩ => ⟨S1024x1024, .f32⟩
  | .hbm, ⟨11, _⟩ => ⟨S1024x64, .f32⟩
  | .hbm, ⟨12, _⟩ => ⟨S1024x16, .f32⟩
  | .hbm, ⟨13, _⟩ => ⟨S128x8x6592, .f32⟩
  | .hbm, ⟨14, _⟩ => ⟨S128x1x6592, .f32⟩
  | .hbm, ⟨15, _⟩ => ⟨S128x6592, .f32⟩
  | .hbm, ⟨16, _⟩ => ⟨S1024x6144, .f32⟩
  | .hbm, ⟨17, _⟩ => ⟨S1024x96, .f32⟩
  | .hbm, ⟨18, _⟩ => ⟨S1024x96, .f32⟩
  | .hbm, ⟨19, _⟩ => ⟨S1024x256, .f32⟩
  | .hbm, ⟨20, _⟩ => ⟨S_, .f32⟩
  | .hbm, ⟨21, _⟩ => ⟨S1024x32, .f32⟩
  | .hbm, ⟨22, _⟩ => ⟨S_, .f32⟩
  | .hbm, ⟨23, _⟩ => ⟨S1024x32, .f32⟩
  | .hbm, ⟨24, _⟩ => ⟨S_, .f32⟩
  | .hbm, ⟨25, _⟩ => ⟨S1024x368, .f32⟩
  | .hbm, ⟨26, _⟩ => ⟨S1024x15360, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== FfnUpSample.lean ====
abbrev S1024x2048 : Shape := ⟨2, ![1024, 2048]⟩
abbrev S1x2048x11264 : Shape := ⟨3, ![1, 2048, 11264]⟩
abbrev S1x128x2x5632 : Shape := ⟨4, ![1, 128, 2, 5632]⟩
abbrev S2048x11264 : Shape := ⟨2, ![2048, 11264]⟩
abbrev S1024x11264 : Shape := ⟨2, ![1024, 11264]⟩
abbrev S2048x1024 : Shape := ⟨2, ![2048, 1024]⟩
abbrev S1024x1024 : Shape := ⟨2, ![1024, 1024]⟩
abbrev S128x8x11264 : Shape := ⟨3, ![128, 8, 11264]⟩
abbrev S128x2x5632 : Shape := ⟨3, ![128, 2, 5632]⟩

abbrev nBuf : Space → Nat
  | .hbm => 8
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1x2048x11264, .f32⟩
  | .hbm, ⟨2, _⟩ => ⟨S1x128x2x5632, .f32⟩
  | .hbm, ⟨3, _⟩ => ⟨S1024x2048, .bf16⟩
  | .hbm, ⟨4, _⟩ => ⟨S2048x11264, .f32⟩
  | .hbm, ⟨5, _⟩ => ⟨S1024x11264, .f32⟩
  | .hbm, ⟨6, _⟩ => ⟨S128x8x11264, .f32⟩
  | .hbm, ⟨7, _⟩ => ⟨S128x2x5632, .f32⟩
  | .local _ .vmem, ⟨0, _⟩ => ⟨S1024x2048, .bf16⟩
  | .local _ .vmem, ⟨1, _⟩ => ⟨S2048x1024, .f32⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpSampleReferenceIdeal.lean ====
abbrev S1024x2048 : Shape := ⟨2, ![1024, 2048]⟩
abbrev S1x2048x11264 : Shape := ⟨3, ![1, 2048, 11264]⟩
abbrev S1x128x2x5632 : Shape := ⟨4, ![1, 128, 2, 5632]⟩
abbrev S2048x11264 : Shape := ⟨2, ![2048, 11264]⟩
abbrev S1024x11264 : Shape := ⟨2, ![1024, 11264]⟩
abbrev S128x8x11264 : Shape := ⟨3, ![128, 8, 11264]⟩
abbrev S128x8x5632 : Shape := ⟨3, ![128, 8, 5632]⟩
abbrev S128x2x5632 : Shape := ⟨3, ![128, 2, 5632]⟩
abbrev S128x10x5632 : Shape := ⟨3, ![128, 10, 5632]⟩

abbrev nBuf : Space → Nat
  | .hbm => 12
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048x11264, .f32⟩
  | .hbm, ⟨2, _⟩ => ⟨S1x128x2x5632, .f32⟩
  | .hbm, ⟨3, _⟩ => ⟨S2048x11264, .f32⟩
  | .hbm, ⟨4, _⟩ => ⟨S1024x11264, .f32⟩
  | .hbm, ⟨5, _⟩ => ⟨S128x8x11264, .f32⟩
  | .hbm, ⟨6, _⟩ => ⟨S128x8x5632, .f32⟩
  | .hbm, ⟨7, _⟩ => ⟨S128x8x5632, .f32⟩
  | .hbm, ⟨8, _⟩ => ⟨S128x2x5632, .f32⟩
  | .hbm, ⟨9, _⟩ => ⟨S128x10x5632, .f32⟩
  | .hbm, ⟨10, _⟩ => ⟨S1024x11264, .f32⟩
  | .hbm, ⟨11, _⟩ => ⟨S128x2x5632, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnDownSample.lean ====
abbrev S1024x5632 : Shape := ⟨2, ![1024, 5632]⟩
abbrev S1x5632x2048 : Shape := ⟨3, ![1, 5632, 2048]⟩
abbrev S1024x2048 : Shape := ⟨2, ![1024, 2048]⟩
abbrev S128x12288 : Shape := ⟨2, ![128, 12288]⟩
abbrev S5632x2048 : Shape := ⟨2, ![5632, 2048]⟩
abbrev S512x5632 : Shape := ⟨2, ![512, 5632]⟩
abbrev S5632x512 : Shape := ⟨2, ![5632, 512]⟩
abbrev S512x512 : Shape := ⟨2, ![512, 512]⟩
abbrev S64x512 : Shape := ⟨2, ![64, 512]⟩
abbrev S64x1x512 : Shape := ⟨3, ![64, 1, 512]⟩
abbrev S64x8x512 : Shape := ⟨3, ![64, 8, 512]⟩

abbrev nBuf : Space → Nat
  | .hbm => 7
  | .vmem => 11
  | .smem => 0
  | _ => 0

abbrev bufTy : (tb : Table) → Fin (tcTables nBuf tb) → BufTy
  | .hbm, ⟨0, _⟩ => ⟨S1024x5632, .f32⟩
  | .hbm, ⟨1, _⟩ => ⟨S1x5632x2048, .f32⟩
  | .hbm, ⟨2, _⟩ => ⟨S1024x2048, .f32⟩
  | .hbm, ⟨3, _⟩ => ⟨S128x12288, .f32⟩
  | .hbm, ⟨4, _⟩ => ⟨S1024x5632, .bf16⟩
  | .hbm, ⟨5, _⟩ => ⟨S5632x2048, .f32⟩
  | .hbm, ⟨6, _⟩ => ⟨S1024x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S64x512, .f32⟩
  | .local _ .vmem, ⟨7, _⟩ => ⟨S64x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDownSampleReferenceIdeal.lean ====
abbrev S1024x5632 : Shape := ⟨2, ![1024, 5632]⟩
abbrev S1x5632x2048 : Shape := ⟨3, ![1, 5632, 2048]⟩
abbrev S1024x2048 : Shape := ⟨2, ![1024, 2048]⟩
abbrev S128x12288 : Shape := ⟨2, ![128, 12288]⟩
abbrev S128x2048 : Shape := ⟨2, ![128, 2048]⟩
abbrev S128x1x2048 : Shape := ⟨3, ![128, 1, 2048]⟩
abbrev S128x8x2048 : Shape := ⟨3, ![128, 8, 2048]⟩
abbrev S5632x2048 : Shape := ⟨2, ![5632, 2048]⟩

abbrev nBuf : Space → Nat
  | .hbm => 24
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S1x5632x2048, .f32⟩
  | .hbm, ⟨2, _⟩ => ⟨S1024x2048, .f32⟩
  | .hbm, ⟨3, _⟩ => ⟨S128x12288, .f32⟩
  | .hbm, ⟨4, _⟩ => ⟨S128x2048, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S128x2048, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S128x1x2048, .f32⟩
  | .hbm, ⟨14, _⟩ => ⟨S128x1x2048, .f32⟩
  | .hbm, ⟨15, _⟩ => ⟨S128x1x2048, .f32⟩
  | .hbm, ⟨16, _⟩ => ⟨S128x8x2048, .f32⟩
  | .hbm, ⟨17, _⟩ => ⟨S5632x2048, .f32⟩
  | .hbm, ⟨18, _⟩ => ⟨S1024x2048, .f32⟩
  | .hbm, ⟨19, _⟩ => ⟨S128x8x2048, .f32⟩
  | .hbm, ⟨20, _⟩ => ⟨S128x8x2048, .f32⟩
  | .hbm, ⟨21, _⟩ => ⟨S128x8x2048, .f32⟩
  | .hbm, ⟨22, _⟩ => ⟨S128x8x2048, .f32⟩
  | .hbm, ⟨23, _⟩ => ⟨S1024x2048, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== ScanPrompt.lean ====
abbrev S8192x2048 : Shape := ⟨2, ![8192, 2048]⟩
abbrev S1x2048 : Shape := ⟨2, ![1, 2048]⟩
abbrev S1x32x64 : Shape := ⟨3, ![1, 32, 64]⟩
abbrev S2048 : Shape := ⟨1, ![2048]⟩
abbrev S32x64 : Shape := ⟨2, ![32, 64]⟩
abbrev S16x128x128 : Shape := ⟨3, ![16, 128, 128]⟩
abbrev S512x256 : Shape := ⟨2, ![512, 256]⟩
abbrev S1x256 : Shape := ⟨2, ![1, 256]⟩
abbrev S2x128x128 : Shape := ⟨3, ![2, 128, 128]⟩
abbrev S1x128 : Shape := ⟨2, ![1, 128]⟩
abbrev S64x1 : Shape := ⟨2, ![64, 1]⟩
abbrev S128x128 : Shape := ⟨2, ![128, 128]⟩
abbrev S64x128 : Shape := ⟨2, ![64, 128]⟩
abbrev S64 : Shape := ⟨1, ![64]⟩
abbrev S256x128 : Shape := ⟨2, ![256, 128]⟩
abbrev S256x256 : Shape := ⟨2, ![256, 256]⟩
abbrev S1x128x128 : Shape := ⟨3, ![1, 128, 128]⟩
abbrev S512x128 : Shape := ⟨2, ![512, 128]⟩
abbrev S512 : Shape := ⟨1, ![512]⟩
abbrev S512x1 : Shape := ⟨2, ![512, 1]⟩
abbrev S16x64x64 : Shape := ⟨3, ![16, 64, 64]⟩
abbrev S16x1x64x64 : Shape := ⟨4, ![16, 1, 64, 64]⟩
abbrev S16x2x64x64 : Shape := ⟨4, ![16, 2, 64, 64]⟩
abbrev S32x64x64 : Shape := ⟨3, ![32, 64, 64]⟩

abbrev nBuf : Space → Nat
  | .hbm => 29
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x32x64, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S2048, .f32⟩
  | .hbm, ⟨13, _⟩ => ⟨S32x64, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S8192x2048, .bf16⟩
  | .hbm, ⟨22, _⟩ => ⟨S16x128x128, .f32⟩
  | .hbm, ⟨23, _⟩ => ⟨S16x64x64, .f32⟩
  | .hbm, ⟨24, _⟩ => ⟨S16x64x64, .f32⟩
  | .hbm, ⟨25, _⟩ => ⟨S16x1x64x64, .f32⟩
  | .hbm, ⟨26, _⟩ => ⟨S16x1x64x64, .f32⟩
  | .hbm, ⟨27, _⟩ => ⟨S16x2x64x64, .f32⟩
  | .hbm, ⟨28, _⟩ => ⟨S32x64x64, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S512x256, .bf16⟩
  | .local _ .vmem, ⟨23, _⟩ => ⟨S512x256, .bf16⟩
  | .local _ .vmem, ⟨24, _⟩ => ⟨S2x128x128, .f32⟩
  | .local _ .vmem, ⟨25, _⟩ => ⟨S2x128x128, .f32⟩
  | .local _ .vmem, ⟨26, _⟩ => ⟨S2x128x128, .f32⟩
  | .local _ .vmem, ⟨27, _⟩ => ⟨S512x256, .f32⟩
  | .local _ .vmem, ⟨28, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ScanPromptReferenceIdeal.lean ====
abbrev S8192x2048 : Shape := ⟨2, ![8192, 2048]⟩
abbrev S1x2048 : Shape := ⟨2, ![1, 2048]⟩
abbrev S1x32x64 : Shape := ⟨3, ![1, 32, 64]⟩
abbrev S1x8192x2048 : Shape := ⟨3, ![1, 8192, 2048]⟩
abbrev S2048 : Shape := ⟨1, ![2048]⟩
abbrev S1x1x2048 : Shape := ⟨3, ![1, 1, 2048]⟩
abbrev S1x8192x32x64 : Shape := ⟨4, ![1, 8192, 32, 64]⟩
abbrev S_ : Shape := ⟨0, ![]⟩
abbrev S1x8192x32 : Shape := ⟨3, ![1, 8192, 32]⟩
abbrev S1x8192x32x1 : Shape := ⟨4, ![1, 8192, 32, 1]⟩
abbrev S1x32x64x64 : Shape := ⟨4, ![1, 32, 64, 64]⟩
abbrev S8192x1x32x64 : Shape := ⟨4, ![8192, 1, 32, 64]⟩
abbrev S1x1x32x64 : Shape := ⟨4, ![1, 1, 32, 64]⟩
abbrev S1x32x1x64 : Shape := ⟨4, ![1, 32, 1, 64]⟩
abbrev S1x32x64x1 : Shape := ⟨4, ![1, 32, 64, 1]⟩
abbrev S32x64x64 : Shape := ⟨3, ![32, 64, 64]⟩

abbrev nBuf : Space → Nat
  | .hbm => 129
  | .vmem => 0
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x2048, .f32⟩
  | 5 => ⟨S8192x2048, .f32⟩
  | 6 => ⟨S1x2048, .f32⟩
  | 7 => ⟨S1x2048, .f32⟩
  | 8 => ⟨S1x32x64, .f32⟩
  | 9 => ⟨S1x2048, .f32⟩
  | 10 => ⟨S1x2048, .f32⟩
  | 11 => ⟨S1x8192x2048, .f32⟩
  | 12 => ⟨S1x8192x2048, .f32⟩
  | 13 => ⟨S1x8192x2048, .f32⟩
  | 14 => ⟨S1x8192x2048, .f32⟩
  | 15 => ⟨S1x8192x2048, .f32⟩
  | 16 => ⟨S1x8192x2048, .f32⟩
  | 17 => ⟨S1x8192x2048, .f32⟩
  | 18 => ⟨S2048, .f32⟩
  | 19 => ⟨S1x1x2048, .f32⟩
  | 20 => ⟨S1x8192x2048, .f32⟩
  | 21 => ⟨S1x8192x2048, .f32⟩
  | 22 => ⟨S1x8192x32x64, .f32⟩
  | 23 => ⟨S1x8192x32x64, .f32⟩
  | 24 => ⟨S_, .f32⟩
  | 25 => ⟨S1x8192x32, .f32⟩
  | 26 => ⟨S1x8192x32x1, .f32⟩
  | 27 => ⟨S1x8192x32x1, .f32⟩
  | 28 => ⟨S_, .f32⟩
  | 29 => ⟨S1x8192x32x1, .f32⟩
  | 30 => ⟨S1x8192x32x1, .f32⟩
  | 31 => ⟨S1x8192x32x64, .f32⟩
  | 32 => ⟨S1x8192x32x64, .f32⟩
  | 33 => ⟨S_, .f32⟩
  | 34 => ⟨S1x8192x2048, .f32⟩
  | 35 => ⟨S1x8192x2048, .f32⟩
  | 36 => ⟨S2048, .f32⟩
  | 37 => ⟨S1x1x2048, .f32⟩
  | 38 => ⟨S1x8192x2048, .f32⟩
  | 39 => ⟨S1x8192x2048, .f32⟩
  | 40 => ⟨S_, .f32⟩
  | 41 => ⟨S1x8192x2048, .f32⟩
  | 42 => ⟨S1x8192x2048, .f32⟩
  | 43 => ⟨S1x8192x2048, .f32⟩
  | 44 => ⟨S1x8192x32x64, .f32⟩
  | 45 => ⟨S1x8192x32x64, .f32⟩
  | 46 => ⟨S1x8192x32x64, .f32⟩
  | 47 => ⟨S1x8192x32x64, .f32⟩
  | 48 => ⟨S_, .f32⟩
  | 49 => ⟨S1x32x64x64, .f32⟩
  | 50 => ⟨S1x8192x32x64, .f32⟩
  | 51 => ⟨S1x8192x32x64, .f32⟩
  | 52 => ⟨S1x8192x32x64, .f32⟩
  | 53 => ⟨S8192x1x32x64, .f32⟩
  | 54 => ⟨S8192x1x32x64, .f32⟩
  | 55 => ⟨S8192x1x32x64, .f32⟩
  | 56 => ⟨S8192x1x32x64, .f32⟩
  | 57 => ⟨S8192x1x32x64, .f32⟩
  | 58 => ⟨S8192x1x32x64, .f32⟩
  | 59 => ⟨S_, .f32⟩
  | 60 => ⟨S8192x1x32x64, .f32⟩
  | 61 => ⟨S_, .i32⟩
  | 62 => ⟨S8192x1x32x64, .f32⟩
  | 63 => ⟨S8192x1x32x64, .f32⟩
  | 64 => ⟨S8192x1x32x64, .f32⟩
  | 65 => ⟨S8192x1x32x64, .f32⟩
  | 66 => ⟨S8192x1x32x64, .f32⟩
  | 67 => ⟨S8192x1x32x64, .f32⟩
  | 68 => ⟨S_, .i32⟩
  | 69 => ⟨S1x32x64x64, .f32⟩
  | 70 => ⟨S8192x1x32x64, .f32⟩
  | 71 => ⟨S_, .i32⟩
  | 72 => ⟨S_, .i1⟩
  | 73 => ⟨S_, .i32⟩
  | 74 => ⟨S_, .i32⟩
  | 75 => ⟨S_, .i32⟩
  | 76 => ⟨S1x1x32x64, .f32⟩
  | 77 => ⟨S1x32x64, .f32⟩
  | 78 => ⟨S_, .i32⟩
  | 79 => ⟨S_, .i32⟩
  | 80 => ⟨S_, .i32⟩
  | 81 => ⟨S1x1x32x64, .f32⟩
  | 82 => ⟨S1x32x64, .f32⟩
  | 83 => ⟨S_, .i32⟩
  | 84 => ⟨S_, .i32⟩
  | 85 => ⟨S_, .i32⟩
  | 86 => ⟨S1x1x32x64, .f32⟩
  | 87 => ⟨S1x32x64, .f32⟩
  | 88 => ⟨S_, .i32⟩
  | 89 => ⟨S_, .i32⟩
  | 90 => ⟨S_, .i32⟩
  | 91 => ⟨S1x1x32x64, .f32⟩
  | 92 => ⟨S1x32x64, .f32⟩
  | 93 => ⟨S_, .i32⟩
  | 94 => ⟨S_, .i32⟩
  | 95 => ⟨S_, .i32⟩
  | 96 => ⟨S1x1x32x64, .f32⟩
  | 97 => ⟨S1x32x64, .f32⟩
  | 98 => ⟨S_, .i32⟩
  | 99 => ⟨S_, .i32⟩
  | 100 => ⟨S_, .i32⟩
  | 101 => ⟨S1x1x32x64, .f32⟩
  | 102 => ⟨S1x32x64, .f32⟩
  | 103 => ⟨S1x32x64, .f32⟩
  | 104 => ⟨S1x32x1x64, .f32⟩
  | 105 => ⟨S1x32x64x64, .f32⟩
  | 106 => ⟨S1x32x64x64, .f32⟩
  | 107 => ⟨S1x32x64x1, .f32⟩
  | 108 => ⟨S1x32x1x64, .f32⟩
  | 109 => ⟨S1x32x64x64, .f32⟩
  | 110 => ⟨S1x32x64x64, .f32⟩
  | 111 => ⟨S1x32x64x64, .f32⟩
  | 112 => ⟨S1x32x64x64, .f32⟩
  | 113 => ⟨S1x32x64x1, .f32⟩
  | 114 => ⟨S1x32x1x64, .f32⟩
  | 115 => ⟨S1x32x64x64, .f32⟩
  | 116 => ⟨S1x32x64x64, .f32⟩
  | 117 => ⟨S1x32x64x64, .f32⟩
  | 118 => ⟨S1x32x64x64, .f32⟩
  | 119 => ⟨S1x32x64, .f32⟩
  | 120 => ⟨S1x1x32x64, .f32⟩
  | 121 => ⟨S_, .i32⟩
  | 122 => ⟨S_, .i32⟩
  | 123 => ⟨S_, .i32⟩
  | 124 => ⟨S8192x1x32x64, .f32⟩
  | 125 => ⟨S_, .i32⟩
  | 126 => ⟨S_, .i32⟩
  | 127 => ⟨S1x8192x32x64, .f32⟩
  | _ => ⟨S8192x2048, .f32⟩

abbrev hbmTy0_1 (i : Nat) : BufTy := match i % 128 with
  | 0 => ⟨S32x64x64, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_c : Ref sig .tc := ⟨.hbm, 61, rfl⟩
abbrev main_v44_0 : Ref sig .tc := ⟨.hbm, 62, rfl⟩
abbrev main_v44_1 : Ref sig .tc := ⟨.hbm, 63, rfl⟩
abbrev main_v44_2 : Ref sig .tc := ⟨.hbm, 64, rfl⟩
abbrev main_v44_3 : Ref sig .tc := ⟨.hbm, 65, rfl⟩
abbrev main_v44_4 : Ref sig .tc := ⟨.hbm, 66, rfl⟩
abbrev main_v44_5 : Ref sig .tc := ⟨.hbm, 67, rfl⟩
abbrev main_v44_6 : Ref sig .tc := ⟨.hbm, 68, rfl⟩
abbrev main_v44_7 : Ref sig .tc := ⟨.hbm, 69, rfl⟩
abbrev main_v44_8 : Ref sig .tc := ⟨.hbm, 70, rfl⟩
abbrev main_while0c_c_13 : Ref sig .tc := ⟨.hbm, 71, rfl⟩
abbrev main_while0c_v47 : Ref sig .tc := ⟨.hbm, 72, rfl⟩
abbrev main_while0b_call0_c : Ref sig .tc := ⟨.hbm, 73, rfl⟩
abbrev main_while0b_call0_c_0 : Ref sig .tc := ⟨.hbm, 74, rfl⟩
abbrev main_while0b_call0_c_1 : Ref sig .tc := ⟨.hbm, 75, rfl⟩
abbrev main_while0b_call0_v0 : Ref sig .tc := ⟨.hbm, 76, rfl⟩
abbrev main_while0b_v47 : Ref sig .tc := ⟨.hbm, 77, rfl⟩
abbrev main_while0b_call1_c : Ref sig .tc := ⟨.hbm, 78, rfl⟩
abbrev main_while0b_call1_c_0 : Ref sig .tc := ⟨.hbm, 79, rfl⟩
abbrev main_while0b_call1_c_1 : Ref sig .tc := ⟨.hbm, 80, rfl⟩
abbrev main_while0b_call1_v0 : Ref sig .tc := ⟨.hbm, 81, rfl⟩
abbrev main_while0b_v48 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_v0 : Ref sig .tc := ⟨.hbm, 86, rfl⟩
abbrev main_while0b_v49 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_v0 : Ref sig .tc := ⟨.hbm, 91, rfl⟩
abbrev main_while0b_v50 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_v0 : Ref sig .tc := ⟨.hbm, 96, rfl⟩
abbrev main_while0b_v51 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_c_1 : Ref sig .tc := ⟨.hbm, 100, rfl⟩
abbrev main_while0b_call5_v0 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_call6_v0 : Ref sig .tc := ⟨.hbm, 120, rfl⟩
abbrev main_while0b_call6_c : Ref sig .tc := ⟨.hbm, 121, rfl⟩
abbrev main_while0b_call6_c_0 : Ref sig .tc := ⟨.hbm, 122, rfl⟩
abbrev main_while0b_call6_c_1 : Ref sig .tc := ⟨.hbm, 123, rfl⟩
abbrev main_while0b_v70 : Ref sig .tc := ⟨.hbm, 124, rfl⟩
abbrev main_while0b_c_13 : Ref sig .tc := ⟨.hbm, 125, rfl⟩
abbrev main_while0b_v71 : Ref sig .tc := ⟨.hbm, 126, rfl⟩
abbrev main_v45 : Ref sig .tc := ⟨.hbm, 127, rfl⟩
abbrev main_v46 : Ref sig .tc := ⟨.hbm, 128, rfl⟩

abbrev nD : Nat := 1
abbrev τ : Topo := Topo.v7x

variable {F : FTy → Type} [FloatOps F]

abbrev main_while0_count : Scf.Loop 32 := ⟨0#32, 8192#32, 1#32⟩
-- ==== Proof.Chunk.lean ====
/-
  Real arithmetic behind the chunked form of the delta-rule recurrence

      S_{t+1} = S_t · diag(exp w_t) + (S_t a_t) b_tᵀ + v_t k_tᵀ,        o_t = S_{t+1} r_t .

  With `c_t = w_0 + … + w_t` and every vector scaled by `exp (± c_t)`, the recurrence becomes a sum of rank-one terms, and
  the vectors `u_t = S_t a_t` solve a strictly lower triangular system (`state_eq`, `read_eq`). That system, over the rows
  of several groups of eight tokens at once, is solved by a product form of `(1 - A)⁻¹` which is exact because
  `A ^ 8 = 0` (`solve_eq`). Nothing here mentions a program.
-/
module

public import Mathlib.Analysis.SpecialFunctions.Exp
public import Mathlib.Data.Matrix.Mul
public import Mathlib.Algebra.BigOperators.Fin
public import Mathlib.Tactic.Ring
public import Mathlib.Tactic.NoncommRing

@[expose] public section

noncomputable section

namespace Cert.Proof.Chunk

open Finset

variable {α β : Type} [Fintype β]

/-- The sum of the log decays of the tokens up to and with `t`. -/
def cum (w : ℕ → β → ℝ) (t : ℕ) (n : β) : ℝ := ∑ s ∈ range (t + 1), w s n

/-- The state before token `t`: the recurrence. -/
def state (S0 : α → β → ℝ) (w a b k : ℕ → β → ℝ) (v : ℕ → α → ℝ) : ℕ → α → β → ℝ
  | 0 => S0
  | t + 1 => fun x n => state S0 w a b k v t x n * Real.exp (w t n)
      + (∑ m, state S0 w a b k v t x m * a t m) * b t n + v t x * k t n

/-- The rank-one terms that the tokens before `t` leave in the rescaled state. -/
def terms (w b k : ℕ → β → ℝ) (v U : ℕ → α → ℝ) (t : ℕ) (x : α) (n : β) : ℝ :=
  ∑ s ∈ range t, (U s x * (b s n * Real.exp (-cum w s n)) + v s x * (k s n * Real.exp (-cum w s n)))

/-- Reading the rescaled state with a vector `y` distributes over its rank-one terms. -/
theorem sum_terms (S0 : α → β → ℝ) (w b k : ℕ → β → ℝ) (v U : ℕ → α → ℝ) (t : ℕ) (x : α) (y : β → ℝ) :
    ∑ n, (S0 x n + terms w b k v U t x n) * y n
      = ∑ n, y n * S0 x n
        + (∑ s ∈ range t, (∑ n, y n * (k s n * Real.exp (-cum w s n))) * v s x)
        + ∑ s ∈ range t, (∑ n, y n * (b s n * Real.exp (-cum w s n))) * U s x := by
  have h : ∀ n, (S0 x n + terms w b k v U t x n) * y n = y n * S0 x n
      + (∑ s ∈ range t, y n * (k s n * Real.exp (-cum w s n)) * v s x)
      + ∑ s ∈ range t, y n * (b s n * Real.exp (-cum w s n)) * U s x := by
    intro n
    rw [terms, add_assoc, ← sum_add_distrib, add_mul, sum_mul, mul_comm (S0 x n)]
    congr 1
    exact sum_congr rfl fun s _ => by ring
  rw [sum_congr rfl fun n _ => h n, sum_add_distrib, sum_add_distrib, sum_comm (s := univ) (t := range t),
    sum_comm (s := univ) (t := range t)]
  simp only [sum_mul]

/-- If the `u_t` solve the triangular system, the state of the recurrence is the rescaled sum of rank-one terms. -/
theorem state_eq (S0 : α → β → ℝ) (w a b k : ℕ → β → ℝ) (v U : ℕ → α → ℝ) (T : ℕ)
    (hU : ∀ t < T, ∀ x, U t x = ∑ n, (a t n * Real.exp (cum w t n - w t n)) * S0 x n
        + (∑ s ∈ range t, (∑ n, (a t n * Real.exp (cum w t n - w t n)) * (k s n * Real.exp (-cum w s n))) * v s x)
        + ∑ s ∈ range t, (∑ n, (a t n * Real.exp (cum w t n - w t n)) * (b s n * Real.exp (-cum w s n))) * U s x) :
    ∀ t ≤ T, ∀ x n, state S0 w a b k v t x n
      = (S0 x n + terms w b k v U t x n) * Real.exp (∑ s ∈ range t, w s n) := by
  intro t
  induction t with
  | zero => intro _ x n; simp [state, terms]
  | succ t ih =>
    intro ht x n
    have hu : ∑ m, state S0 w a b k v t x m * a t m = U t x := by
      rw [hU t (by omega) x, ← sum_terms S0 w b k v U t x]
      refine sum_congr rfl fun m _ => ?_
      rw [ih (by omega) x m, cum, sum_range_succ, add_sub_cancel_right]
      ring
    show state S0 w a b k v t x n * Real.exp (w t n) + (∑ m, state S0 w a b k v t x m * a t m) * b t n + v t x * k t n = _
    rw [hu, ih (by omega) x n]
    have hc : Real.exp (-cum w t n) * Real.exp (∑ s ∈ range (t + 1), w s n) = 1 := by
      rw [← Real.exp_add, cum, neg_add_cancel, Real.exp_zero]
    rw [terms, terms, sum_range_succ (n := t) (f := fun s => U s x * _ + _)]
    have he : Real.exp (∑ s ∈ range (t + 1), w s n) = Real.exp (∑ s ∈ range t, w s n) * Real.exp (w t n) := by
      rw [sum_range_succ, Real.exp_add]
    have e1 : U t x * b t n = U t x * (b t n * Real.exp (-cum w t n)) * Real.exp (∑ s ∈ range (t + 1), w s n) := by
      rw [show U t x * (b t n * Real.exp (-cum w t n)) * Real.exp (∑ s ∈ range (t + 1), w s n)
        = U t x * b t n * (Real.exp (-cum w t n) * Real.exp (∑ s ∈ range (t + 1), w s n)) by ring, hc, mul_one]
    have e2 : v t x * k t n = v t x * (k t n * Real.exp (-cum w t n)) * Real.exp (∑ s ∈ range (t + 1), w s n) := by
      rw [show v t x * (k t n * Real.exp (-cum w t n)) * Real.exp (∑ s ∈ range (t + 1), w s n)
        = v t x * k t n * (Real.exp (-cum w t n) * Real.exp (∑ s ∈ range (t + 1), w s n)) by ring, hc, mul_one]
    rw [e1, e2, he]
    ring

/-- The output of token `t`: the state after it read by `r_t`, in the rescaled form. -/
theorem read_eq (S0 : α → β → ℝ) (w a b k r : ℕ → β → ℝ) (v U : ℕ → α → ℝ) (T : ℕ)
    (hS : ∀ t ≤ T, ∀ x n, state S0 w a b k v t x n
      = (S0 x n + terms w b k v U t x n) * Real.exp (∑ s ∈ range t, w s n)) (t : ℕ) (ht : t < T) (x : α) :
    ∑ n, state S0 w a b k v (t + 1) x n * r t n
      = ∑ n, (r t n * Real.exp (cum w t n)) * S0 x n
        + (∑ s ∈ range (t + 1), (∑ n, (r t n * Real.exp (cum w t n)) * (k s n * Real.exp (-cum w s n))) * v s x)
        + ∑ s ∈ range (t + 1), (∑ n, (r t n * Real.exp (cum w t n)) * (b s n * Real.exp (-cum w s n))) * U s x := by
  rw [← sum_terms S0 w b k v U (t + 1) x]
  refine sum_congr rfl fun n _ => ?_
  rw [hS (t + 1) (by omega) x n, cum]
  ring

/-! ## The triangular system over all rows at once -/

/-- Entries between rows of one group of eight, the column strictly before the row. -/
def before (i j : ℕ) : Prop := i / 8 = j / 8 ∧ j < i

/-- Entries between rows of one group of eight, the column not after the row. -/
def upTo (i j : ℕ) : Prop := i / 8 = j / 8 ∧ j ≤ i

instance (i j : ℕ) : Decidable (before i j) := inferInstanceAs (Decidable (_ ∧ _))
instance (i j : ℕ) : Decidable (upTo i j) := inferInstanceAs (Decidable (_ ∧ _))

/-- A matrix whose entries are zero but between rows of one group, column before row, has its eighth power zero. -/
theorem pow_eight {N : ℕ} (A : Matrix (Fin N) (Fin N) ℝ) (hA : ∀ i j : Fin N, ¬ before i.val j.val → A i j = 0) : A ^ 8 = 0 := by
  have key : ∀ k : ℕ, ∀ i j : Fin N, ¬ (i.val / 8 = j.val / 8 ∧ j.val + k ≤ i.val) → (A ^ k) i j = 0 := by
    intro k
    induction k with
    | zero =>
      intro i j h
      rw [pow_zero, Matrix.one_apply_ne]
      rintro rfl
      exact h ⟨rfl, le_refl _⟩
    | succ k ih =>
      intro i j h
      rw [pow_succ, Matrix.mul_apply]
      refine sum_eq_zero fun l _ => ?_
      by_cases hl : i.val / 8 = l.val / 8 ∧ l.val + k ≤ i.val
      · rw [hA l j (fun hb => h ⟨hl.1.trans hb.1, by have := hb.2; omega⟩), mul_zero]
      · rw [ih i l hl, zero_mul]
  ext i j
  rw [key 8 i j (by omega), Matrix.zero_apply]

/-- `A + A² + A³ + A⁴ + (A + A² + A³) A⁴`: the powers of `A` from the first to the seventh, by doubling. -/
def powers {N : ℕ} (A : Matrix (Fin N) (Fin N) ℝ) : Matrix (Fin N) (Fin N) ℝ :=
  A + A * A + A * (A * A) + (A * A) * (A * A) + (A + A * A + A * (A * A)) * ((A * A) * (A * A))

/-- `U = Y + powers A · Y` solves `U = Y + A · U`. -/
theorem solve_eq {N : ℕ} {γ : Type} (A : Matrix (Fin N) (Fin N) ℝ) (hA : ∀ i j : Fin N, ¬ before i.val j.val → A i j = 0)
    (Y U : Fin N → γ → ℝ) (hU : ∀ i x, U i x = Y i x + ∑ j, powers A i j * Y j x) (i : Fin N) (x : γ) :
    U i x = Y i x + ∑ j, A i j * U j x := by
  have h8 : A * powers A = powers A - A := by
    have h : A * powers A = powers A - A + A ^ 8 := by rw [powers]; noncomm_ring
    rw [h, pow_eight A hA, add_zero]
  have e : A.mulVec (fun j => U j x) = (powers A).mulVec (fun j => Y j x) := by
    have hu : (fun j => U j x) = (fun j => Y j x) + (powers A).mulVec (fun j => Y j x) := by
      funext j; exact hU j x
    rw [hu, Matrix.mulVec_add, Matrix.mulVec_mulVec, h8, Matrix.sub_mulVec]
    abel
  rw [hU]
  congr 1
  exact (congrFun e i).symm

/-- A sum over all rows of the entries before row `8 g + t` is a sum over the tokens before `t` of group `g`. -/
theorem sum_before (g t : ℕ) (hg : g < 32) (ht : t < 8) (f : ℕ → ℝ) :
    ∑ j : Fin 256, (if before (8 * g + t) j.val then f j.val else 0) = ∑ s ∈ range t, f (8 * g + s) := by
  rw [Fin.sum_univ_eq_sum_range (fun j => if before (8 * g + t) j then f j else 0) 256, ← sum_filter]
  refine (sum_nbij' (fun s => 8 * g + s) (fun j => j - 8 * g) ?_ ?_ ?_ ?_ ?_).symm
  · intro s hs
    rw [mem_range] at hs
    exact mem_filter.2 ⟨mem_range.2 (by omega), by show _ / 8 = (8 * g + s) / 8; omega, by show 8 * g + s < _; omega⟩
  · intro j hj
    obtain ⟨h0, h1, h2⟩ := mem_filter.1 hj
    rw [mem_range] at h0 ⊢
    show j - 8 * g < _
    omega
  · intro s hs; show 8 * g + s - 8 * g = s; omega
  · intro j hj
    obtain ⟨h0, h1, h2⟩ := mem_filter.1 hj
    rw [mem_range] at h0
    show 8 * g + (j - 8 * g) = j
    omega
  · intro s hs; rfl

/-- A sum over all rows of the entries up to row `8 g + t` is a sum over the tokens up to `t` of group `g`. -/
theorem sum_upTo (g t : ℕ) (hg : g < 32) (ht : t < 8) (f : ℕ → ℝ) :
    ∑ j : Fin 256, (if upTo (8 * g + t) j.val then f j.val else 0) = ∑ s ∈ range (t + 1), f (8 * g + s) := by
  rw [Fin.sum_univ_eq_sum_range (fun j => if upTo (8 * g + t) j then f j else 0) 256, ← sum_filter]
  refine (sum_nbij' (fun s => 8 * g + s) (fun j => j - 8 * g) ?_ ?_ ?_ ?_ ?_).symm
  · intro s hs
    rw [mem_range] at hs
    exact mem_filter.2 ⟨mem_range.2 (by omega), by show _ / 8 = (8 * g + s) / 8; omega, by show 8 * g + s ≤ _; omega⟩
  · intro j hj
    obtain ⟨h0, h1, h2⟩ := mem_filter.1 hj
    rw [mem_range] at h0 ⊢
    show j - 8 * g < _
    omega
  · intro s hs; show 8 * g + s - 8 * g = s; omega
  · intro j hj
    obtain ⟨h0, h1, h2⟩ := mem_filter.1 hj
    rw [mem_range] at h0
    show 8 * g + (j - 8 * g) = j
    omega
  · intro s hs; rfl

end Cert.Proof.Chunk

end
-- ==== Proof.Scalars.lean ====
/-
  Extended-real values that are real: sums of reals, the exponential, and the normalisation of a row by its length
  (bounded below by a small positive constant).
-/
module

public import Idealize.ShloMosaic.Lib.Pointwise
public import Mathlib.Data.EReal.Operations

@[expose] public section

noncomputable section

namespace Cert.Proof.Scalars

open Idealize.ShloMosaic

/-- A finite sum of reals, read as extended reals. -/
theorem coe_sum {ι : Type*} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- The lower bound of the row length. -/
def eps : ℝ := 1 * ((2 ^ 23 + 834764 : ℕ) : ℝ) * (2 : ℝ) ^ ((87 : ℤ) - 127 - 23)

theorem eps_pos : 0 < eps := by unfold eps; positivity

theorem ofBits_eps : Ideal.ofBits .f32 0x2B8CBCCC#32 = (eps : EReal) := by
  simp [Ideal.ofBits, Ideal.ieee, eps]

/-- A row divided by its length. -/
def unit (f : Fin 64 → ℝ) (n : Fin 64) : ℝ := f n * (1 / max (Real.sqrt (∑ x, f x * f x)) eps)

theorem unit_at (f : Fin 64 → ℝ) (n : Fin 64) :
    Ideal.div (f n : EReal) (max (Ideal.sqrt (∑ x, (f x : EReal) * (f x : EReal))) (eps : EReal)) = (unit f n : EReal) := by
  have h : (∑ x, (f x : EReal) * (f x : EReal)) = ((∑ x, f x * f x : ℝ) : EReal) := by
    rw [coe_sum]; rfl
  have h0 : ¬ (∑ x, f x * f x) < 0 := not_lt.2 (Finset.sum_nonneg fun x _ => mul_self_nonneg _)
  rw [h, Ideal.sqrt_coe, if_neg h0, ← EReal.coe_strictMono.monotone.map_max, Ideal.div_coe, ← EReal.coe_mul, unit]
  exact (lt_max_of_lt_right eps_pos).ne'

end Cert.Proof.Scalars

end
-- ==== Proof.Data.lean ====
/-
  The call's inputs as reals, and what both programs compute from them for each sequence and head.
-/
module

public import proofs.«01_k».proof.Proof.Chunk
public import proofs.«01_k».proof.Proof.Scalars

@[expose] public section

noncomputable section

namespace Cert.Proof

open Idealize.ShloMosaic
open Cert.Proof.Scalars

/-- The output of a token from its recurrence's output `o`, its receptance `r`, replacement key `key`, bonus weights `c`,
    value `v`, the normalisation's weight `lw` and bias `lb`, and the gate `g`. -/
def finish (o r key c v : Fin 64 → EReal) (lw lb g : EReal) (n : Fin 64) : EReal :=
  ((((o n - Ideal.div (∑ m, o m) (Ideal.ofBits .f32 0x42800000#32))
    * Ideal.rsqrt (Ideal.div (∑ x, (o x - Ideal.div (∑ m, o m) (Ideal.ofBits .f32 0x42800000#32))
        * (o x - Ideal.div (∑ m, o m) (Ideal.ofBits .f32 0x42800000#32))) (Ideal.ofBits .f32 0x42800000#32)
      + Ideal.ofBits .f32 0x3A27C5AC#32)) * lw + lb) + (∑ x, r x * key x * c x) * v n) * g

theorem finish_congr (o r key v : Fin 64 → EReal) {c c' : Fin 64 → EReal} {lw lw' lb lb' g g' : EReal} (hc : ∀ x, c x = c' x)
    (hw : lw = lw') (hb : lb = lb') (hg : g = g') (n : Fin 64) : finish o r key c v lw lb g n = finish o r key c' v lw' lb' g' n := by
  rw [funext hc, hw, hb, hg]

/-- The real inputs: rows of tokens and columns of head dimensions, the states, and two rows of weights. -/
structure Data where
  r : ℕ → ℕ → ℝ
  w : ℕ → ℕ → ℝ
  k : ℕ → ℕ → ℝ
  v : ℕ → ℕ → ℝ
  a : ℕ → ℕ → ℝ
  s0 : ℕ → ℕ → Fin 64 → Fin 64 → ℝ
  kk : ℕ → ℝ
  ka : ℕ → ℝ

namespace Data

variable (D : Data)

/-- The removal key of token `t` of sequence `q` at head `h`. -/
def dir (q h t : ℕ) (n : Fin 64) : ℝ := unit (fun x => D.k (q * 8 + t) (h * 64 + x) * D.kk (h * 64 + x)) n

/-- The replacement key. -/
def key (q h t : ℕ) (n : Fin 64) : ℝ :=
  D.k (q * 8 + t) (h * 64 + n) * (1 + (D.a (q * 8 + t) (h * 64 + n) - 1) * D.ka (h * 64 + n))

/-- The state of a sequence's head after `t` tokens. -/
def st (q h : ℕ) : ℕ → Fin 64 → Fin 64 → ℝ :=
  Chunk.state (D.s0 q h) (fun t n => D.w (q * 8 + t) (h * 64 + n)) (fun t n => -D.dir q h t n)
    (fun t n => D.dir q h t n * D.a (q * 8 + t) (h * 64 + n)) (fun t n => D.key q h t n)
    (fun t n => D.v (q * 8 + t) (h * 64 + n))

/-- The output of token `t`, before its normalisation. -/
def out (q h t : ℕ) (x : Fin 64) : ℝ := ∑ n, D.st q h (t + 1) x n * D.r (q * 8 + t) (h * 64 + n)

end Data

/-- The argument arrays hold the real inputs. -/
structure Data.Held (D : Data) (a0 a1 a2 a3 a4 : FVec Ideal ⟨2, ![1024, 2048]⟩ .f32) (a6 : FVec Ideal ⟨5, ![1, 128, 32, 64, 64]⟩ .f32)
    (a7 a8 : FVec Ideal ⟨2, ![1, 2048]⟩ .f32) : Prop where
  r : ∀ i j, a0 (ix2 i j) = ((D.r i j : ℝ) : EReal)
  w : ∀ i j, a1 (ix2 i j) = ((D.w i j : ℝ) : EReal)
  k : ∀ i j, a2 (ix2 i j) = ((D.k i j : ℝ) : EReal)
  v : ∀ i j, a3 (ix2 i j) = ((D.v i j : ℝ) : EReal)
  a : ∀ i j, a4 (ix2 i j) = ((D.a i j : ℝ) : EReal)
  s0 : ∀ (q : Fin 128) (h : Fin 32) x n, a6 (ix5 0 q h x n) = ((D.s0 q h x n : ℝ) : EReal)
  kk : ∀ j, a7 (ix2 0 j) = ((D.kk j : ℝ) : EReal)
  ka : ∀ j, a8 (ix2 0 j) = ((D.ka j : ℝ) : EReal)

/-- The recurrence depends on the tokens read so far only. -/
theorem Chunk.state_congr {α β : Type} [Fintype β] (S : α → β → ℝ) {w w' a a' b b' k k' : ℕ → β → ℝ} {v v' : ℕ → α → ℝ} (T : ℕ)
    (hw : ∀ t < T, w t = w' t) (ha : ∀ t < T, a t = a' t) (hb : ∀ t < T, b t = b' t) (hk : ∀ t < T, k t = k' t)
    (hv : ∀ t < T, v t = v' t) : ∀ t ≤ T, Chunk.state S w a b k v t = Chunk.state S w' a' b' k' v' t
  | 0, _ => rfl
  | t + 1, h => by
    funext x n
    have e := Chunk.state_congr S T hw ha hb hk hv t (by omega)
    rw [Chunk.state, Chunk.state, e, hw t h, ha t h, hb t h, hk t h, hv t h]

end Cert.Proof

end
-- ==== Proof.Finite.lean ====
/- The precondition read back: the arguments it names hold reals. -/
module

public import proofs.«01_k».proof.Pre_finite_inputs
public import proofs.«01_k».proof.Proof.Data
public import Idealize.ShloMosaic.Lib.ReduceAll
public import Idealize.ShloMosaic.Lib.Pointwise

@[expose] public section

set_option maxRecDepth 16384

noncomputable section

namespace Cert.Proof.Finite

open Idealize.ShloMosaic Cert.Pre_finite_inputs

/-- The precondition's side conditions. -/
theorem facts : Cert.Pre_finite_inputs.Facts where
  bcast_S_S1024x2048 := by decide
  reducesTo_S1024x2048_S_d0_1 := by decide
  h_S_ := by decide
  bcast_S_S1x128x32x64x64 := by decide
  reducesTo_S1x128x32x64x64_S_d0_1_2_3_4 := by decide
  bcast_S_S1x2048 := by decide
  reducesTo_S1x2048_S_d0_1 := by decide

theorem ofBits_inf : Ideal.ofBits .f32 0x7F800000#32 = ⊤ := by
  simp [Ideal.ofBits, Ideal.ieee]

/-- An extended real whose magnitude is below `⊤` is a real. -/
theorem real_of_abs_lt (x : EReal) (h : Ideal.cmp .olt (max x (-x)) ⊤ = 1#1) : x = ((x.toReal : ℝ) : EReal) := by
  have hlt : max x (-x) < ⊤ := by
    by_contra hn
    simp [Ideal.cmp, hn] at h
  refine (EReal.coe_toReal (fun e => ?_) fun e => ?_).symm
  · subst e; simp at hlt
  · subst e; simp at hlt

/-- An array whose magnitudes are all below `⊤` holds reals. -/
theorem all_real {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) (i : s.Idx) : a i = (((a i).toReal : ℝ) : EReal) := by
  have : Subsingleton S_.Idx := ⟨fun x y => funext fun k => k.elim0⟩
  have h := Host.reduce_andi_all _ _ hr hu j e i
  exact real_of_abs_lt _ (by rw [← ofBits_inf]; exact h)

variable (a0 a1 a2 a3 a4 a5 : FVec Ideal S1024x2048 .f32) (a6 : FVec Ideal S1x128x32x64x64 .f32) (a7 a8 : FVec Ideal S1x2048 .f32)
  (a9 : FVec Ideal S1x32x64 .f32) (a10 a11 : FVec Ideal S1x2048 .f32)

/-- The real inputs under the arrays. -/
def dataOf : Data where
  r i j := (a0 (ix2 (Fin.ofNat 1024 i) (Fin.ofNat 2048 j))).toReal
  w i j := (a1 (ix2 (Fin.ofNat 1024 i) (Fin.ofNat 2048 j))).toReal
  k i j := (a2 (ix2 (Fin.ofNat 1024 i) (Fin.ofNat 2048 j))).toReal
  v i j := (a3 (ix2 (Fin.ofNat 1024 i) (Fin.ofNat 2048 j))).toReal
  a i j := (a4 (ix2 (Fin.ofNat 1024 i) (Fin.ofNat 2048 j))).toReal
  s0 q h x n := (a6 (ix5 0 (Fin.ofNat 128 q) (Fin.ofNat 32 h) x n)).toReal
  kk j := (a7 (ix2 0 (Fin.ofNat 2048 j))).toReal
  ka j := (a8 (ix2 0 (Fin.ofNat 2048 j))).toReal

/-- Arrays that satisfy the precondition hold real inputs. -/
theorem held [Cert.Pre_finite_inputs.Facts]
    (h : fn (F := Ideal) a0 a1 a2 a3 a4 a5 a6 a7 a8 a9 a10 a11 = fun _ => 1#1) :
    (dataOf a0 a1 a2 a3 a4 a6 a7 a8).Held a0 a1 a2 a3 a4 a6 a7 a8 := by
  have h0 := congrFun h ix0
  simp only [fn, fn_part1, fn_part2] at h0
  have split : ∀ {x y : IVec S_ 1}, andi x y ix0 = 1#1 → x ix0 = 1#1 ∧ y ix0 = 1#1 := fun e => IntOp.andi_eq_one.1 e
  obtain ⟨h0, e8⟩ := split h0
  obtain ⟨h0, e7⟩ := split h0
  obtain ⟨h0, e6⟩ := split h0
  obtain ⟨h0, e4⟩ := split h0
  obtain ⟨h0, e3⟩ := split h0
  obtain ⟨h0, e2⟩ := split h0
  obtain ⟨h0, e1⟩ := split h0
  obtain ⟨-, e0⟩ := split h0
  constructor
  · intro i j; simpa [dataOf] using all_real a0 _ _ _ _ e0 (ix2 i j)
  · intro i j; simpa [dataOf] using all_real a1 _ _ _ _ e1 (ix2 i j)
  · intro i j; simpa [dataOf] using all_real a2 _ _ _ _ e2 (ix2 i j)
  · intro i j; simpa [dataOf] using all_real a3 _ _ _ _ e3 (ix2 i j)
  · intro i j; simpa [dataOf] using all_real a4 _ _ _ _ e4 (ix2 i j)
  · intro q g x n; simpa [dataOf] using all_real a6 _ _ _ _ e6 (ix5 0 q g x n)
  · intro j; simpa [dataOf] using all_real a7 _ _ _ _ e7 (ix2 0 j)
  · intro j; simpa [dataOf] using all_real a8 _ _ _ _ e8 (ix2 0 j)

end Cert.Proof.Finite

end
-- ==== Proof.Pieces.lean ====
/-
  One block of the kernel (one sequence, its 32 groups of 8 tokens) written with FAMILIES over the group: the piece that
  the body computes for group `g` as one definition over `g`, and the body's two results as the 32 pieces put together.
-/
module

public import proofs.«01_k».proof.Proof.Gen.KernelIdeal.Frame

@[expose] public section

noncomputable section

namespace Cert.KernelIdeal.Block

open Cert.KernelIdeal Cert.KernelIdeal.Gen Idealize.ShloMosaic

variable {F : FTy → Type} [FloatOps F]

/-- Thirty-two values as a list. -/
def tiles {α : Type*} (f : Fin 32 → α) : List α :=
  [f 0, f 1, f 2, f 3, f 4, f 5, f 6, f 7, f 8, f 9, f 10, f 11, f 12, f 13, f 14, f 15, f 16, f 17, f 18, f 19, f 20,
    f 21, f 22, f 23, f 24, f 25, f 26, f 27, f 28, f 29, f 30, f 31]

theorem tiles_eq {α : Type*} (f : Fin 32 → α) : tiles f = List.ofFn f := by
  simp [tiles, List.ofFn_succ, Fin.succ_mk]
  try rfl

theorem inb_state (g : Fin 32) : ∀ a, (![g.val, 0, 0] : Fin 3 → Nat) a + S1x64x64.size a ≤ S32x64x64.size a := by
  revert g; decide

theorem slices_rows (g : Fin 32) : S256x64.Slices ![8 * g.val, 0] S8x64 := by
  revert g; decide

theorem slices_last (g : Fin 32) : S256x64.Slices ![8 * g.val + 7, 0] S1x64 := by
  revert g; decide

/-- The rectangle of group `g`'s state in the block of states. -/
abbrev stateRect (g : Fin 32) : Rect S32x64x64 :=
  Rect.unit (s := S32x64x64) ![g.val, 0, 0] S1x64x64.size (inb_state g)

/-- Group `g`'s state. -/
def stateOf (x6 : Vec F S32x64x64 .f32) (g : Fin 32) : FVec F S64x64 .f32 :=
  shapeCast S64x64 (View.ld x6 (stateRect g)) shapeCasts_S1x64x64_S64x64

/-- Group `g`'s eight rows. -/
def rowsOf (g : Fin 32) (x : FVec F S256x64 .f32) : FVec F S8x64 .f32 :=
  extractStridedSlice S8x64 ![8 * g.val, 0] x (slices_rows g)

/-- Two groups of eight rows, one above the other. -/
def pair (x y : FVec F S8x64 .f32) : FVec F S16x64 .f32 :=
  concatenate S16x64 0 [⟨S8x64, x⟩, ⟨S8x64, y⟩] concatenates_S8x64_S8x64_S16x64_d0

/-- The rows of `x` times the rows of `s`, each operand in two bf16 parts, the product of the two small parts left out. -/
def read3 (x : FVec F S16x64 .f32) (s : FVec F S64x64 .f32) : FVec F S16x64 .f32 :=
  addf (matmul dot_S16x64_S64x64_S16x64_1_1_0_0_n_n none (truncf .bf16 x bitsLt_bf16_f32) (truncf .bf16 s bitsLt_bf16_f32)
      (constant S16x64 .f32 0x00000000#32))
    (addf
      (matmul dot_S16x64_S64x64_S16x64_1_1_0_0_n_n none (truncf .bf16 x bitsLt_bf16_f32)
        (truncf .bf16 (subf s (extf .f32 (truncf .bf16 s bitsLt_bf16_f32) bitsLt_bf16_f32)) bitsLt_bf16_f32)
        (constant S16x64 .f32 0x00000000#32))
      (matmul dot_S16x64_S64x64_S16x64_1_1_0_0_n_n none
        (truncf .bf16 (subf x (extf .f32 (truncf .bf16 x bitsLt_bf16_f32) bitsLt_bf16_f32)) bitsLt_bf16_f32)
        (truncf .bf16 s bitsLt_bf16_f32) (constant S16x64 .f32 0x00000000#32)))

/-- The columns of `x` times the columns of `y`, summed over the sixteen rows, in the same two parts. -/
def outer3 (x y : FVec F S16x64 .f32) : FVec F S64x64 .f32 :=
  addf (matmul dot_S16x64_S16x64_S64x64_0_0_1_1_n_n none (truncf .bf16 x bitsLt_bf16_f32) (truncf .bf16 y bitsLt_bf16_f32)
      (constant S64x64 .f32 0x00000000#32))
    (addf
      (matmul dot_S16x64_S16x64_S64x64_0_0_1_1_n_n none (truncf .bf16 x bitsLt_bf16_f32)
        (truncf .bf16 (subf y (extf .f32 (truncf .bf16 y bitsLt_bf16_f32) bitsLt_bf16_f32)) bitsLt_bf16_f32)
        (constant S64x64 .f32 0x00000000#32))
      (matmul dot_S16x64_S16x64_S64x64_0_0_1_1_n_n none
        (truncf .bf16 (subf x (extf .f32 (truncf .bf16 x bitsLt_bf16_f32) bitsLt_bf16_f32)) bitsLt_bf16_f32)
        (truncf .bf16 y bitsLt_bf16_f32) (constant S64x64 .f32 0x00000000#32)))

/-- Group `g`'s state read by its rows of `a` (the first eight rows) and of `r` (the last eight). -/
def readPiece (a r : FVec F S256x64 .f32) (x6 : Vec F S32x64x64 .f32) (g : Fin 32) : FVec F S16x64 .f32 :=
  read3 (pair (rowsOf g a) (rowsOf g r)) (stateOf x6 g)

/-- Thirty-two groups of eight rows, one above the other. -/
def stack (f : Fin 32 → FVec F S8x64 .f32) : FVec F S256x64 .f32 :=
  concatenate S256x64 0 (tiles fun g => (⟨S8x64, f g⟩ : (s : Shape) × (s.Idx → F .f32)))
    concatenates_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S256x64_d0

/-- The states read by the rows of `a`. -/
def readA (a r : FVec F S256x64 .f32) (x6 : Vec F S32x64x64 .f32) : FVec F S256x64 .f32 :=
  stack fun g => extractStridedSlice S8x64 ![0, 0] (readPiece a r x6 g) slices_S16x64_o0_0_S8x64

/-- The states read by the rows of `r`. -/
def readR (a r : FVec F S256x64 .f32) (x6 : Vec F S32x64x64 .f32) : FVec F S256x64 .f32 :=
  stack fun g => extractStridedSlice S8x64 ![8, 0] (readPiece a r x6 g) slices_S16x64_o8_0_S8x64

/-- What the body stores for group `g`'s state. -/
def storePiece (u v b k p : FVec F S256x64 .f32) (x6 : Vec F S32x64x64 .f32) (g : Fin 32) : FVec F S1x64x64 .f32 :=
  shapeCast S1x64x64
    (mulf (addf (stateOf x6 g) (outer3 (pair (rowsOf g u) (rowsOf g v)) (pair (rowsOf g b) (rowsOf g k))))
      (broadcastTo S64x64 (extractStridedSlice S1x64 ![8 * g.val + 7, 0] p (slices_last g)) broadcasts_S1x64_S64x64))
    shapeCasts_S64x64_S1x64x64

variable (x0 : Vec F S32x8x64 .f32) (x1 : Vec F S32x8x64 .f32) (x2 : Vec F S32x8x64 .f32) (x3 : Vec F S32x8x64 .f32) (x4 : Vec F S32x8x64 .f32) (x5 : Vec F S32x8x64 .f32) (x6 : Vec F S32x64x64 .f32) (x7 : Vec F S32x1x64 .f32) (x8 : Vec F S32x1x64 .f32) (x9 : Vec F S32x1x64 .f32) (x10 : Vec F S32x1x64 .f32) (x11 : Vec F S32x1x64 .f32)

/-- The body's `u` over families. -/
theorem u_eq : k0_pay408 x0 x1 x2 x3 x4 x5 x6 x7 x8 x9 x10 x11
    = addf (addf (readA (k0_pay307 x0 x1 x2 x3 x4 x5 x6 x7 x8 x9 x10 x11) (k0_pay308 x0 x1 x2 x3 x4 x5 x6 x7 x8 x9 x10 x11) x6) (k0_pay317 x0 x1 x2 x3 x4 x5 x6 x7 x8 x9 x10 x11))
      (matmul dot_S256x256_S256x64_S256x64_1_0_0_1_n_n none (truncf .bf16 (k0_pay316 x0 x1 x2 x3 x4 x5 x6 x7 x8 x9 x10 x11) bitsLt_bf16_f32)
        (truncf .bf16 (addf (readA (k0_pay307 x0 x1 x2 x3 x4 x5 x6 x7 x8 x9 x10 x11) (k0_pay308 x0 x1 x2 x3 x4 x5 x6 x7 x8 x9 x10 x11) x6) (k0_pay317 x0 x1 x2 x3 x4 x5 x6 x7 x8 x9 x10 x11)) bitsLt_bf16_f32)
        (constant S256x64 .f32 0x00000000#32)) := by
  rfl

/-- The body's outputs before their normalisation, over families. -/
theorem o_eq : k0_pay409 x0 x1 x2 x3 x4 x5 x6 x7 x8 x9 x10 x11
    = addf (addf (readR (k0_pay307 x0 x1 x2 x3 x4 x5 x6 x7 x8 x9 x10 x11) (k0_pay308 x0 x1 x2 x3 x4 x5 x6 x7 x8 x9 x10 x11) x6)
        (matmul dot_S256x256_S256x64_S256x64_1_0_0_1_n_n none
          (truncf .bf16 (k0_pay33 (k0_pay307 x0 x1 x2 x3 x4 x5 x6 x7 x8 x9 x10 x11) (k0_pay308 x0 x1 x2 x3 x4 x5 x6 x7 x8 x9 x10 x11) (k0_pay309 x0 x1 x2 x3 x4 x5 x6 x7 x8 x9 x10 x11) (k0_pay310 x0 x1 x2 x3 x4 x5 x6 x7 x8 x9 x10 x11)
            (k0_pay305 x0 x1 x2 x3 x4 x5 x6 x7 x8 x9 x10 x11) (k0_pay306 x0 x1 x2 x3 x4 x5 x6 x7 x8 x9 x10 x11) (k0_pay312 x0 x1 x2 x3 x4 x5 x6 x7 x8 x9 x10 x11) 8#32 (k0_pay313 x0 x1 x2 x3 x4 x5 x6 x7 x8 x9 x10 x11) (k0_pay314 x0 x1 x2 x3 x4 x5 x6 x7 x8 x9 x10 x11) (k0_pay315 x0 x1 x2 x3 x4 x5 x6 x7 x8 x9 x10 x11)) bitsLt_bf16_f32)
          (truncf .bf16 (k0_pay408 x0 x1 x2 x3 x4 x5 x6 x7 x8 x9 x10 x11) bitsLt_bf16_f32) (constant S256x64 .f32 0x00000000#32)))
      (k0_pay41 (k0_pay298 x0 x1 x2 x3 x4 x5 x6 x7 x8 x9 x10 x11) (k0_pay34 (k0_pay307 x0 x1 x2 x3 x4 x5 x6 x7 x8 x9 x10 x11) (k0_pay308 x0 x1 x2 x3 x4 x5 x6 x7 x8 x9 x10 x11) (k0_pay309 x0 x1 x2 x3 x4 x5 x6 x7 x8 x9 x10 x11) (k0_pay310 x0 x1 x2 x3 x4 x5 x6 x7 x8 x9 x10 x11)
            (k0_pay305 x0 x1 x2 x3 x4 x5 x6 x7 x8 x9 x10 x11) (k0_pay306 x0 x1 x2 x3 x4 x5 x6 x7 x8 x9 x10 x11) (k0_pay312 x0 x1 x2 x3 x4 x5 x6 x7 x8 x9 x10 x11) 8#32 (k0_pay313 x0 x1 x2 x3 x4 x5 x6 x7 x8 x9 x10 x11) (k0_pay314 x0 x1 x2 x3 x4 x5 x6 x7 x8 x9 x10 x11) (k0_pay315 x0 x1 x2 x3 x4 x5 x6 x7 x8 x9 x10 x11))) := by
  rfl

/-- The body's stores of the new states, over families. -/
theorem out13_eq : out0_13 x0 x1 x2 x3 x4 x5 x6 x7 x8 x9 x10 x11
    = View.canon (tiles fun g => (⟨stateRect g.rev, storePiece (k0_pay408 x0 x1 x2 x3 x4 x5 x6 x7 x8 x9 x10 x11) (k0_pay298 x0 x1 x2 x3 x4 x5 x6 x7 x8 x9 x10 x11)
        (k0_pay309 x0 x1 x2 x3 x4 x5 x6 x7 x8 x9 x10 x11) (k0_pay310 x0 x1 x2 x3 x4 x5 x6 x7 x8 x9 x10 x11) (k0_pay311 x0 x1 x2 x3 x4 x5 x6 x7 x8 x9 x10 x11) x6 g.rev⟩ : View.Piece (Elt F) S32x64x64 .f32)) := by
  rfl

end Cert.KernelIdeal.Block

end
-- ==== Proof.Reads.lean ====
/-
  The values of one block of the kernel at an index: the layout of its rows, its masks, and the 32 pieces put together.
-/
module

public import proofs.«01_k».proof.Proof.Pieces
public import proofs.«01_k».proof.Proof.Chunk
public import Idealize.ShloMosaic.Lib.Pipeline.ValueKit.Tiles
public import Idealize.ShloMosaic.Lib.Pointwise

@[expose] public section

set_option maxRecDepth 16384

noncomputable section

namespace Cert.KernelIdeal.Block

open Cert.KernelIdeal Cert.KernelIdeal.Gen Idealize.ShloMosaic
open Cert.Proof.Chunk (before upTo)
open Idealize.ShloMosaic.WordCmp

/-- The row of token `t` of group `g`. -/
abbrev row (g : Fin 32) (t : Fin 8) : Fin 256 := ⟨8 * g.val + t.val, by omega⟩

theorem rowsOf_at (g : Fin 32) (x : FVec Ideal S256x64 .f32) (t : Fin 8) (n : Fin 64) :
    rowsOf g x (ix2 t n) = x (ix2 (row g t) n) := by
  pointwise [rowsOf]

theorem cast_state (y : FVec Ideal S1x64x64 .f32) (i n : Fin 64) :
    shapeCast S64x64 y shapeCasts_S1x64x64_S64x64 (ix2 i n) = y (ix3 0 i n) := by
  pointwise

/-- Group `g`'s state at an entry. -/
theorem stateOf_at (g : Fin 32) (x : FVec Ideal S32x64x64 .f32) (i n : Fin 64) :
    stateOf x g (ix2 i n) = x (ix3 g i n) := by
  rw [stateOf, cast_state]
  show x _ = x _
  congr 1
  funext a
  apply Fin.ext
  fin_cases a
  · show g.val + 1 * 0 = g.val; omega
  · show 0 + 1 * i.val = i.val; omega
  · show 0 + 1 * n.val = n.val; omega

/-- Thirty-two pieces of eight rows put together, at row `8 g + t`: the piece `g` at its row `t`. -/
theorem concat_at (f : Fin 32 → FVec Ideal S8x64 .f32)
    (h : Shape.Concatenates ((tiles fun g => (⟨S8x64, f g⟩ : (s : Shape) × (s.Idx → Ideal .f32))).map (·.1)) S256x64 0)
    (g : Fin 32) (t : Fin 8) (n : Fin 64) :
    concatenate S256x64 0 (tiles fun g => (⟨S8x64, f g⟩ : (s : Shape) × (s.Idx → Ideal .f32))) h (ix2 (row g t) n)
      = f g (ix2 t n) := by
  revert h
  rw [tiles_eq]
  intro h
  refine concatenate_ofFn_apply (s₁ := S8x64) (t := S256x64) 0 f h rfl 8 rfl _ g ?_ _ ?_ ?_
  · show (8 * g.val + t.val) / 8 = g.val; omega
  · show t.val = (8 * g.val + t.val) % 8; omega
  · intro b hb
    fin_cases b
    · exact absurd rfl hb
    · rfl

theorem pair_left (x y : FVec Ideal S8x64 .f32) (t : Fin 8) (n : Fin 64) :
    pair x y (ix2 ⟨t.val, by omega⟩ n) = x (ix2 t n) := by
  have h : t.val < 8 := t.isLt
  pointwise [pair]

theorem pair_right (x y : FVec Ideal S8x64 .f32) (t : Fin 8) (n : Fin 64) :
    pair x y (ix2 ⟨8 + t.val, by omega⟩ n) = y (ix2 t n) := by
  have h : ¬ 8 + t.val < 8 := by omega
  pointwise [pair]

theorem read3_at (x : FVec Ideal S16x64 .f32) (s : FVec Ideal S64x64 .f32) (i : Fin 16) (v : Fin 64) :
    read3 x s (ix2 i v) = ∑ n, x (ix2 i n) * s (ix2 v n)
      + (∑ n, x (ix2 i n) * (s (ix2 v n) - s (ix2 v n)) + ∑ n, (x (ix2 i n) - x (ix2 i n)) * s (ix2 v n)) := by
  pointwise [read3]

theorem upper_at (x : FVec Ideal S16x64 .f32) (t : Fin 8) (n : Fin 64) :
    extractStridedSlice S8x64 ![0, 0] x slices_S16x64_o0_0_S8x64 (ix2 t n) = x (ix2 ⟨t.val, by omega⟩ n) := by
  pointwise

theorem lower_at (x : FVec Ideal S16x64 .f32) (t : Fin 8) (n : Fin 64) :
    extractStridedSlice S8x64 ![8, 0] x slices_S16x64_o8_0_S8x64 (ix2 t n) = x (ix2 ⟨8 + t.val, by omega⟩ n) := by
  pointwise

theorem stack_at (f : Fin 32 → FVec Ideal S8x64 .f32) (g : Fin 32) (t : Fin 8) (n : Fin 64) :
    stack f (ix2 (row g t) n) = f g (ix2 t n) := concat_at f _ g t n

theorem readA_at (a r : FVec Ideal S256x64 .f32) (x6 : FVec Ideal S32x64x64 .f32) (g : Fin 32) (t : Fin 8) (v : Fin 64) :
    readA a r x6 (ix2 (row g t) v)
      = ∑ n, a (ix2 (row g t) n) * x6 (ix3 g v n)
        + (∑ n, a (ix2 (row g t) n) * (x6 (ix3 g v n) - x6 (ix3 g v n))
          + ∑ n, (a (ix2 (row g t) n) - a (ix2 (row g t) n)) * x6 (ix3 g v n)) := by
  rw [readA, stack_at, upper_at, readPiece, read3_at]
  simp only [pair_left, rowsOf_at, stateOf_at]

theorem readR_at (a r : FVec Ideal S256x64 .f32) (x6 : FVec Ideal S32x64x64 .f32) (g : Fin 32) (t : Fin 8) (v : Fin 64) :
    readR a r x6 (ix2 (row g t) v)
      = ∑ n, r (ix2 (row g t) n) * x6 (ix3 g v n)
        + (∑ n, r (ix2 (row g t) n) * (x6 (ix3 g v n) - x6 (ix3 g v n))
          + ∑ n, (r (ix2 (row g t) n) - r (ix2 (row g t) n)) * x6 (ix3 g v n)) := by
  rw [readR, stack_at, lower_at, readPiece, read3_at]
  simp only [pair_right, rowsOf_at, stateOf_at]

theorem outer3_at (x y u v : FVec Ideal S8x64 .f32) (i n : Fin 64) :
    outer3 (pair x y) (pair u v) (ix2 i n)
      = ∑ t, x (ix2 t i) * u (ix2 t n) + ∑ t, y (ix2 t i) * v (ix2 t n) +
      (∑ t, x (ix2 t i) * (u (ix2 t n) - u (ix2 t n)) + ∑ t, y (ix2 t i) * (v (ix2 t n) - v (ix2 t n)) +
        (∑ t, (x (ix2 t i) - x (ix2 t i)) * u (ix2 t n) + ∑ t, (y (ix2 t i) - y (ix2 t i)) * v (ix2 t n))) := by
  pointwise [outer3, pair]

theorem last_at (g : Fin 32) (p : FVec Ideal S256x64 .f32) (i n : Fin 64) :
    broadcastTo S64x64 (extractStridedSlice S1x64 ![8 * g.val + 7, 0] p (slices_last g)) broadcasts_S1x64_S64x64 (ix2 i n)
      = p (ix2 (row g 7) n) := by
  pointwise
  rfl

theorem storePiece_at (u v b k p : FVec Ideal S256x64 .f32) (x6 : FVec Ideal S32x64x64 .f32) (g : Fin 32) (i n : Fin 64) :
    storePiece u v b k p x6 g (ix3 0 i n)
      = (x6 (ix3 g i n) + outer3 (pair (rowsOf g u) (rowsOf g v)) (pair (rowsOf g b) (rowsOf g k)) (ix2 i n))
        * p (ix2 (row g 7) n) := by
  have h : ∀ y : FVec Ideal S64x64 .f32, shapeCast S1x64x64 y shapeCasts_S64x64_S1x64x64 (ix3 0 i n) = y (ix2 i n) := by
    intro y; pointwise
  rw [storePiece, h]
  pointwise [stateOf_at, last_at]

/-- Thirty-two stores of one state each, at an entry: the piece of the entry's group. -/
theorem canon_at (f : Fin 32 → FVec Ideal S1x64x64 .f32) (g : Fin 32) (i n : Fin 64) :
    View.canon (tiles fun g => (⟨stateRect g.rev, f g.rev⟩ : View.Piece (Elt Ideal) S32x64x64 .f32)) (ix3 g i n)
      = f g (ix3 0 i n) := by
  rw [tiles_eq]
  refine View.canon_ofFn_unit_eq_of_forall (Val := Elt Ideal) (S := S32x64x64) (e := .f32) (fun k : Fin 32 => ![k.rev.val, 0, 0]) S1x64x64.size (fun k => inb_state k.rev)
    (fun k => f k.rev) (ix3 g i n) _ ?_ ?_
  · refine ⟨g.rev, ?_⟩
    intro a
    fin_cases a
    · show g.rev.rev.val ≤ g.val ∧ g.val < g.rev.rev.val + 1
      rw [Fin.rev_rev]; omega
    · show 0 ≤ i.val ∧ i.val < 0 + 64; omega
    · show 0 ≤ n.val ∧ n.val < 0 + 64; omega
  · intro k x h
    have h0 : g.val = k.rev.val + (x 0).val := h 0
    have h1 : i.val = 0 + (x 1).val := h 1
    have h2 : n.val = 0 + (x 2).val := h 2
    have l0 : (x 0).val < 1 := (x 0).isLt
    have hk : k.rev = g := Fin.ext (by omega)
    show f k.rev x = _
    rw [hk]
    congr 1
    funext a
    apply Fin.ext
    fin_cases a
    · show (x 0).val = 0; omega
    · show (x 1).val = i.val; omega
    · show (x 2).val = n.val; omega

/-! ## The masks -/

theorem pos_at (i : Fin 256) : k0_pay11 (ix2 i 0) = BitVec.ofNat 32 (i.val % 8) := by
  pointwise [k0_pay11]
  revert i
  decide +kernel

theorem group_row_at (i j : Fin 256) : k0_pay23 (ix2 i j) = BitVec.ofNat 32 (i.val / 8) := by
  pointwise [k0_pay23]
  clear j
  revert i
  decide +kernel

/-- Whether two rows are of one group, as a bit. -/
theorem same_at (i j : Fin 256) :
    k0_pay27 (iota .tc S256x256 32 [1] iota_S256x256_d1_w32) k0_pay23 8#32 k0_pay24 k0_pay25 k0_pay26 (ix2 i j)
      = IntOp.cmpi .eq (BitVec.ofNat 32 (i.val / 8)) (BitVec.ofNat 32 (j.val / 8)) := by
  pointwise [k0_pay27, group_row_at, k0_pay24, k0_pay25, k0_pay26]
  congr 1
  clear i
  revert j
  decide +kernel

theorem select_ofBool {α : Type} (p : Prop) [Decidable p] (x y : α) :
    Scalar.select (BitVec.ofBool (decide p)) x y = if p then x else y := by
  by_cases h : p <;> simp [h, Scalar.select]

/-- A choice by the mask of the strictly earlier rows of the same group. -/
theorem strict_at {α : Type} (i j : Fin 256) (x y : α) :
    Scalar.select (k0_pay28 (iota .tc S256x256 32 [0] iota_S256x256_d0_w32) (iota .tc S256x256 32 [1] iota_S256x256_d1_w32)
      k0_pay23 8#32 k0_pay24 k0_pay25 k0_pay26 (ix2 i j)) x y = if before i.val j.val then x else y := by
  pointwise [k0_pay28]
  rw [same_at, cmpi_eq_ofNat (by omega) (by omega), cmpi_slt_ofNat (by omega) (by omega)]
  by_cases h1 : i.val / 8 = j.val / 8 <;> by_cases h2 : j.val < i.val <;>
    simp [h1, h2, before, Scalar.select, IntOp.andi]

/-- A choice by the mask of the rows of the same group that are not later. -/
theorem incl_at {α : Type} (i j : Fin 256) (x y : α) :
    Scalar.select (k0_pay29 (iota .tc S256x256 32 [0] iota_S256x256_d0_w32) (iota .tc S256x256 32 [1] iota_S256x256_d1_w32)
      k0_pay23 8#32 k0_pay24 k0_pay25 k0_pay26 (ix2 i j)) x y = if upTo i.val j.val then x else y := by
  pointwise [k0_pay29]
  rw [same_at, cmpi_eq_ofNat (by omega) (by omega), cmpi_sle_ofNat (by omega) (by omega)]
  by_cases h1 : i.val / 8 = j.val / 8 <;> by_cases h2 : j.val ≤ i.val <;>
    simp [h1, h2, upTo, Scalar.select, IntOp.andi]

end Cert.KernelIdeal.Block

end
-- ==== Proof.BlockReal.lean ====
/-
  One block of the kernel at real inputs: its two results are the delta-rule recurrence of each group, from the group's
  state, and the normalised output of each token.
-/
module

public import proofs.«01_k».proof.Proof.Reads
public import proofs.«01_k».proof.Proof.Scalars

@[expose] public section

set_option maxRecDepth 16384

noncomputable section

namespace Cert.Proof

open Idealize.ShloMosaic
open Cert.Proof.Scalars

/-- The real inputs of one block: rows `8 g + t` for token `t` of group `g`, and per group its state and two rows of
    weights. -/
structure Rows where
  r : ℕ → Fin 64 → ℝ
  w : ℕ → Fin 64 → ℝ
  k : ℕ → Fin 64 → ℝ
  v : ℕ → Fin 64 → ℝ
  a : ℕ → Fin 64 → ℝ
  s0 : ℕ → Fin 64 → Fin 64 → ℝ
  kk : ℕ → Fin 64 → ℝ
  ka : ℕ → Fin 64 → ℝ

namespace Rows

variable (X : Rows)

/-- The removal key: the weighted key divided by its length. -/
def dir (i : ℕ) (n : Fin 64) : ℝ := unit (fun x => X.k i x * X.kk (i / 8) x) n

/-- The replacement key. -/
def key (i : ℕ) (n : Fin 64) : ℝ := X.k i n * (1 + (X.a i n - 1) * X.ka (i / 8) n)

/-- The sum of the log decays of the row's group up to the row. -/
def cum (i : ℕ) (n : Fin 64) : ℝ := ∑ s ∈ Finset.range (i % 8 + 1), X.w (8 * (i / 8) + s) n

def at' (i : ℕ) (n : Fin 64) : ℝ := -X.dir i n * Real.exp (X.cum i n - X.w i n)
def rt (i : ℕ) (n : Fin 64) : ℝ := X.r i n * Real.exp (X.cum i n)
def bt (i : ℕ) (n : Fin 64) : ℝ := X.dir i n * X.a i n * Real.exp (-X.cum i n)
def kt (i : ℕ) (n : Fin 64) : ℝ := X.key i n * Real.exp (-X.cum i n)

/-- The state of group `g` after `t` tokens. -/
def st (g : ℕ) : ℕ → Fin 64 → Fin 64 → ℝ :=
  Chunk.state (X.s0 g) (fun t => X.w (8 * g + t)) (fun t n => -X.dir (8 * g + t) n)
    (fun t n => X.dir (8 * g + t) n * X.a (8 * g + t) n) (fun t => X.key (8 * g + t)) (fun t => X.v (8 * g + t))

/-- The output of token `t` of group `g`, before its normalisation. -/
def out (g t : ℕ) (x : Fin 64) : ℝ := ∑ n, X.st g (t + 1) x n * X.r (8 * g + t) n

/-! ### The kernel's matrices over all rows of a block -/

def Aab : Matrix (Fin 256) (Fin 256) ℝ := fun i j => if Chunk.before i.val j.val then ∑ n, X.at' i n * X.bt j n else 0
def Aak : Matrix (Fin 256) (Fin 256) ℝ := fun i j => if Chunk.before i.val j.val then ∑ n, X.at' i n * X.kt j n else 0
def Arb : Matrix (Fin 256) (Fin 256) ℝ := fun i j => if Chunk.upTo i.val j.val then ∑ n, X.rt i n * X.bt j n else 0
def Ark : Matrix (Fin 256) (Fin 256) ℝ := fun i j => if Chunk.upTo i.val j.val then ∑ n, X.rt i n * X.kt j n else 0

def Y (i : Fin 256) (x : Fin 64) : ℝ := ∑ n, X.at' i n * X.s0 (i.val / 8) x n + ∑ j : Fin 256, X.Aak i j * X.v j x
def U (i : Fin 256) (x : Fin 64) : ℝ := X.Y i x + ∑ j, Chunk.powers X.Aab i j * X.Y j x
def O (i : Fin 256) (x : Fin 64) : ℝ :=
  ∑ n, X.rt i n * X.s0 (i.val / 8) x n + ∑ j, X.Arb i j * X.U j x + ∑ j : Fin 256, X.Ark i j * X.v j x

/-- `U` at a row number. -/
def UN (i : ℕ) (x : Fin 64) : ℝ := X.U ⟨i % 256, Nat.mod_lt _ (by norm_num)⟩ x

theorem UN_val (j : Fin 256) (x : Fin 64) : X.UN j.val x = X.U j x := by
  have : (⟨j.val % 256, Nat.mod_lt _ (by norm_num)⟩ : Fin 256) = j := Fin.ext (Nat.mod_eq_of_lt j.isLt)
  rw [UN, this]

theorem ite_mul_zero' (p : Prop) [Decidable p] (x y : ℝ) : (if p then x else 0) * y = if p then x * y else 0 := by
  by_cases h : p <;> simp [h]

theorem cum_row (g t : ℕ) (ht : t < 8) (n : Fin 64) : X.cum (8 * g + t) n = Chunk.cum (fun t => X.w (8 * g + t)) t n := by
  have h1 : (8 * g + t) / 8 = g := by omega
  have h2 : (8 * g + t) % 8 = t := by omega
  rw [cum, h1, h2, Chunk.cum]

/-- The rows of `U` of group `g` solve the group's triangular system. -/
theorem U_row (g : ℕ) (hg : g < 32) (t : ℕ) (ht : t < 8) (x : Fin 64) :
    X.UN (8 * g + t) x = ∑ n, X.at' (8 * g + t) n * X.s0 g x n
      + (∑ s ∈ Finset.range t, (∑ n, X.at' (8 * g + t) n * X.kt (8 * g + s) n) * X.v (8 * g + s) x)
      + ∑ s ∈ Finset.range t, (∑ n, X.at' (8 * g + t) n * X.bt (8 * g + s) n) * X.UN (8 * g + s) x := by
  have hi : 8 * g + t < 256 := by omega
  have h1 : (8 * g + t) / 8 = g := by omega
  have e := Chunk.solve_eq X.Aab (fun i j h => if_neg h) X.Y X.U (fun _ _ => rfl) ⟨8 * g + t, hi⟩ x
  rw [show X.UN (8 * g + t) x = X.U ⟨8 * g + t, hi⟩ x from X.UN_val ⟨8 * g + t, hi⟩ x, e, Y]
  congr 1
  · rw [h1]
    congr 1
    rw [← Chunk.sum_before g t hg ht fun j => (∑ n, X.at' (8 * g + t) n * X.kt j n) * X.v j x]
    exact Finset.sum_congr rfl fun j _ => ite_mul_zero' _ _ _
  · rw [← Chunk.sum_before g t hg ht fun j => (∑ n, X.at' (8 * g + t) n * X.bt j n) * X.UN j x]
    refine Finset.sum_congr rfl fun j _ => ?_
    rw [UN_val]
    exact ite_mul_zero' _ _ _

/-- The state of the recurrence is the rescaled sum of rank-one terms. -/
theorem st_eq (g : ℕ) (hg : g < 32) : ∀ t ≤ 8, ∀ x n, X.st g t x n
    = (X.s0 g x n + Chunk.terms (fun t => X.w (8 * g + t)) (fun t n => X.dir (8 * g + t) n * X.a (8 * g + t) n)
        (fun t => X.key (8 * g + t)) (fun t => X.v (8 * g + t)) (fun t => X.UN (8 * g + t)) t x n)
      * Real.exp (∑ s ∈ Finset.range t, X.w (8 * g + s) n) := by
  refine Chunk.state_eq _ _ _ _ _ _ _ 8 fun t ht x => ?_
  rw [X.U_row g hg t ht x]
  have e : ∀ s, s ≤ t → ∀ n, X.cum (8 * g + s) n = Chunk.cum (fun t => X.w (8 * g + t)) s n :=
    fun s hs n => X.cum_row g s (by omega) n
  congr 1
  · congr 1
    · simp only [at', e t le_rfl]
    · refine Finset.sum_congr rfl fun s hs => ?_
      simp only [at', kt, e t le_rfl, e s (Finset.mem_range.1 hs).le]
  · refine Finset.sum_congr rfl fun s hs => ?_
    simp only [at', bt, e t le_rfl, e s (Finset.mem_range.1 hs).le]

/-- The kernel's new state is the recurrence's. -/
theorem new_state (g : ℕ) (hg : g < 32) (x n : Fin 64) :
    (X.s0 g x n + (∑ t : Fin 8, X.UN (8 * g + t) x * X.bt (8 * g + t) n + ∑ t : Fin 8, X.v (8 * g + t) x * X.kt (8 * g + t) n))
      * Real.exp (X.cum (8 * g + 7) n) = X.st g 8 x n := by
  rw [X.st_eq g hg 8 le_rfl, X.cum_row g 7 (by omega), Chunk.cum, Chunk.terms, ← Finset.sum_add_distrib,
    Fin.sum_univ_eq_sum_range (fun t => X.UN (8 * g + t) x * X.bt (8 * g + t) n + X.v (8 * g + t) x * X.kt (8 * g + t) n) 8]
  congr 2
  refine Finset.sum_congr rfl fun s hs => ?_
  rw [bt, kt, X.cum_row g s (Finset.mem_range.1 hs)]

/-- The kernel's output is the recurrence's. -/
theorem O_row (g t : ℕ) (hg : g < 32) (ht : t < 8) (hi : 8 * g + t < 256) (x : Fin 64) : X.O ⟨8 * g + t, hi⟩ x = X.out g t x := by
  have h1 : (8 * g + t) / 8 = g := by omega
  have e : ∀ s, s ≤ t → ∀ n, X.cum (8 * g + s) n = Chunk.cum (fun t => X.w (8 * g + t)) s n :=
    fun s hs n => X.cum_row g s (by omega) n
  have q0 := Chunk.read_eq (X.s0 g) _ _ _ _ (fun t => X.r (8 * g + t)) _ (fun t => X.UN (8 * g + t)) 8 (X.st_eq g hg) t ht x
  rw [show X.out g t x = _ from q0, O, add_right_comm, h1]
  congr 1
  · congr 1
    · simp only [rt, e t le_rfl]
    · have q := Chunk.sum_upTo g t hg ht fun j => (∑ n, X.rt (8 * g + t) n * X.kt j n) * X.v j x
      refine Eq.trans (Finset.sum_congr rfl fun j _ => ite_mul_zero' _ _ _) (q.trans ?_)
      refine Finset.sum_congr rfl fun s hs => ?_
      simp only [rt, kt, e t le_rfl, e s (Nat.lt_succ_iff.1 (Finset.mem_range.1 hs))]
  · have q := Chunk.sum_upTo g t hg ht fun j => (∑ n, X.rt (8 * g + t) n * X.bt j n) * X.UN j x
    refine Eq.trans (Finset.sum_congr rfl fun j _ => ?_) (q.trans ?_)
    · rw [UN_val]; exact ite_mul_zero' _ _ _
    · refine Finset.sum_congr rfl fun s hs => ?_
      simp only [rt, bt, e t le_rfl, e s (Nat.lt_succ_iff.1 (Finset.mem_range.1 hs))]

end Rows

end Cert.Proof

end
-- ==== Proof.Decay.lean ====
/-
  The running sum of the log decays over the tokens of each group: three steps, each adding the row 1, 2 and 4 above where
  that row is of the same group.
-/
module

public import proofs.«01_k».proof.Proof.Reads
public import proofs.«01_k».proof.Proof.Scalars

@[expose] public section

set_option maxRecDepth 16384

noncomputable section

namespace Cert.KernelIdeal.Block

open Cert.KernelIdeal Cert.KernelIdeal.Gen Idealize.ShloMosaic Idealize.ShloMosaic.WordCmp

/-- One step: each row plus the row `s` above it, where that is of the same group. -/
def shiftAdd {F : FTy → Type} [FloatOps F] (s : BitVec 32) (x : FVec F S256x64 .f32) : FVec F S256x64 .f32 :=
  addf x (select
    (broadcastTo S256x64 (shapeCast S256x1 (cmpi .sge k0_pay11 (broadcast S256x1 s)) shapeCasts_S256x1_S256x1)
      broadcasts_S256x1_S256x64)
    (dynamicRotate 0 s none x rotates_S256x64_d0) (broadcast S256x64 (Scalar.ofBits .f32 0x00000000#32)))

theorem cum_steps {F : FTy → Type} [FloatOps F] (x : FVec F S256x64 .f32) :
    k0_pay16 (k0_pay12 x) (k0_pay13 x) k0_pay14 k0_pay15 = shiftAdd 4#32 (shiftAdd 2#32 (shiftAdd 1#32 x)) := rfl

/-- One step at a row. -/
theorem shiftAdd_at (s : ℕ) (hs : s = 1 ∨ s = 2 ∨ s = 4) (x : FVec Ideal S256x64 .f32) (V : ℕ → Fin 64 → ℝ)
    (hx : ∀ (i : Fin 256) n, x (ix2 i n) = ((V i n : ℝ) : EReal)) (i : Fin 256) (n : Fin 64) :
    shiftAdd (BitVec.ofNat 32 s) x (ix2 i n) = ((V i n + if s ≤ i.val % 8 then V (i.val - s) n else 0 : ℝ) : EReal) := by
  rcases hs with rfl | rfl | rfl <;>
  · pointwise [shiftAdd, pos_at]
    rw [cmpi_sge_ofNat (by omega) (by omega), select_ofBool, hx, hx, EReal.coe_add]
    congr 1
    split
    · congr 2
      show (i.val + 256 - _) % 256 = _
      omega
    · rfl

theorem doubling (W : ℕ → ℝ) (V1 V2 : ℕ → ℝ) (h1 : ∀ i, V1 i = W i + if 1 ≤ i % 8 then W (i - 1) else 0)
    (h2 : ∀ i, V2 i = V1 i + if 2 ≤ i % 8 then V1 (i - 2) else 0) (i : ℕ) :
    V2 i + (if 4 ≤ i % 8 then V2 (i - 4) else 0) = ∑ s ∈ Finset.range (i % 8 + 1), W (8 * (i / 8) + s) := by
  obtain ⟨g, t, ht, rfl⟩ : ∃ g t, t < 8 ∧ i = 8 * g + t := ⟨i / 8, i % 8, by omega, by omega⟩
  have e1 : (8 * g + t) % 8 = t := by omega
  have e2 : (8 * g + t) / 8 = g := by omega
  rw [e1, e2]
  have m : ∀ s, s < 8 → (8 * g + s) % 8 = s := fun s hs => by omega
  have a1 : ∀ s, s < 8 → V1 (8 * g + s) = W (8 * g + s) + if 1 ≤ s then W (8 * g + (s - 1)) else 0 := by
    intro s hs
    rw [h1, m s hs]
    split
    · rw [Nat.add_sub_assoc ‹_›]
    · rfl
  have a2 : ∀ s, s < 8 → V2 (8 * g + s) = V1 (8 * g + s) + if 2 ≤ s then V1 (8 * g + (s - 2)) else 0 := by
    intro s hs
    rw [h2, m s hs]
    split
    · rw [Nat.add_sub_assoc ‹_›]
    · rfl
  have a3 : (if 4 ≤ t then V2 (8 * g + t - 4) else 0) = if 4 ≤ t then V2 (8 * g + (t - 4)) else 0 := by
    split
    · rw [Nat.add_sub_assoc ‹_›]
    · rfl
  rw [a3]
  have z1 : V1 (8 * g) = W (8 * g) := by simpa using a1 0 (by omega)
  have z2 : V2 (8 * g) = V1 (8 * g) := by simpa using a2 0 (by omega)
  interval_cases t <;>
  · simp [a1, a2, z1, z2, Finset.sum_range_succ]
    try ring

/-- The kernel's running sum at a row: the sum over the row's group up to the row. -/
theorem cum_at (x : FVec Ideal S256x64 .f32) (W : ℕ → Fin 64 → ℝ)
    (hx : ∀ (i : Fin 256) n, x (ix2 i n) = ((W i n : ℝ) : EReal)) (i : Fin 256) (n : Fin 64) :
    k0_pay16 (k0_pay12 x) (k0_pay13 x) k0_pay14 k0_pay15 (ix2 i n)
      = ((∑ s ∈ Finset.range (i.val % 8 + 1), W (8 * (i.val / 8) + s) n : ℝ) : EReal) := by
  rw [cum_steps]
  have s1 := shiftAdd_at 1 (.inl rfl) x W hx
  have s2 := shiftAdd_at 2 (.inr (.inl rfl)) _ (fun i n => W i n + if 1 ≤ i % 8 then W (i - 1) n else 0) s1
  have s3 := shiftAdd_at 4 (.inr (.inr rfl)) _ (fun i n => (W i n + if 1 ≤ i % 8 then W (i - 1) n else 0)
    + if 2 ≤ i % 8 then (W (i - 2) n + if 1 ≤ (i - 2) % 8 then W (i - 2 - 1) n else 0) else 0) s2
  refine (s3 i n).trans ?_
  rw [← doubling (fun j => W j n) (fun i => W i n + if 1 ≤ i % 8 then W (i - 1) n else 0)
    (fun i => (W i n + if 1 ≤ i % 8 then W (i - 1) n else 0)
    + if 2 ≤ i % 8 then (W (i - 2) n + if 1 ≤ (i - 2) % 8 then W (i - 2 - 1) n else 0) else 0) (fun _ => rfl) (fun _ => rfl) i.val]

end Cert.KernelIdeal.Block

end
-- ==== Proof.BlockRows.lean ====
/-
  The vectors a block of the kernel forms from real inputs: the inputs as 256 rows, the removal and replacement keys, the
  decayed rows, and the matrices between the rows.
-/
module

public import proofs.«01_k».proof.Proof.BlockReal
public import proofs.«01_k».proof.Proof.Decay

@[expose] public section

set_option maxRecDepth 16384

noncomputable section

namespace Cert.KernelIdeal.Block

open Cert.KernelIdeal Cert.KernelIdeal.Gen Idealize.ShloMosaic
open Cert.Proof Cert.Proof.Scalars

/-- The vector holds the real rows `f`. -/
def Holds (x : FVec Ideal S256x64 .f32) (f : ℕ → Fin 64 → ℝ) : Prop :=
  ∀ (i : Fin 256) n, x (ix2 i n) = ((f i n : ℝ) : EReal)

/-- The block of rows of 32 groups holds the real rows `f`. -/
def HoldsRows (x : FVec Ideal S32x8x64 .f32) (f : ℕ → Fin 64 → ℝ) : Prop :=
  ∀ (g : Fin 32) (t : Fin 8) n, x (ix3 g t n) = ((f (8 * g + t) n : ℝ) : EReal)

/-- A load of the whole block of rows. -/
theorem ld_rows (x : Vec Ideal S32x8x64 .f32) (g : Fin 32) (t : Fin 8) (n : Fin 64) :
    View.ld x r0_0 (ix3 g t n) = x (ix3 g t n) := by
  show x _ = x _
  congr 1
  funext a
  fin_cases a <;> exact Fin.ext (by simp [r0_0, Rect.unit, Rect.emb])

/-- A load of the whole block of one row per group. -/
theorem ld_one (x : Vec Ideal S32x1x64 .f32) (g : Fin 32) (n : Fin 64) :
    View.ld x r0_1 (ix3 g 0 n) = x (ix3 g 0 n) := by
  show x _ = x _
  congr 1
  funext a
  fin_cases a <;> exact Fin.ext (by simp [r0_1, Rect.unit, Rect.emb])

/-- The block of one row per group holds the real rows `f`. -/
def HoldsOne (x : FVec Ideal S32x1x64 .f32) (f : ℕ → Fin 64 → ℝ) : Prop :=
  ∀ (g : Fin 32) n, x (ix3 g 0 n) = ((f g n : ℝ) : EReal)

theorem HoldsRows.ld {x : Vec Ideal S32x8x64 .f32} {f : ℕ → Fin 64 → ℝ} (h : HoldsRows x f) :
    HoldsRows (View.ld x r0_0) f := fun g t n => (ld_rows x g t n).trans (h g t n)

theorem HoldsOne.ld {x : Vec Ideal S32x1x64 .f32} {f : ℕ → Fin 64 → ℝ} (h : HoldsOne x f) :
    HoldsOne (View.ld x r0_1) f := fun g n => (ld_one x g n).trans (h g n)

theorem flat_row {x : FVec Ideal S32x8x64 .f32} {f : ℕ → Fin 64 → ℝ} (h : HoldsRows x f) (i : Fin 256) (n : Fin 64) :
    x (ix3 ⟨i.val / 8, by omega⟩ ⟨i.val % 8, by omega⟩ n) = ((f i n : ℝ) : EReal) := by
  rw [h]
  have e : 8 * (i.val / 8) + i.val % 8 = i.val := by omega
  show ((f (8 * (i.val / 8) + i.val % 8) n : ℝ) : EReal) = _
  rw [e]

theorem r_holds {x : FVec Ideal S32x8x64 .f32} {f : ℕ → Fin 64 → ℝ} (h : HoldsRows x f) : Holds (k0_pay2 x) f := by
  intro i n
  pointwise [k0_pay2]
  exact flat_row h i n

theorem w_holds {x : FVec Ideal S32x8x64 .f32} {f : ℕ → Fin 64 → ℝ} (h : HoldsRows x f) : Holds (k0_pay3 x) f := by
  intro i n
  pointwise [k0_pay3]
  exact flat_row h i n

theorem k_holds {x : FVec Ideal S32x8x64 .f32} {f : ℕ → Fin 64 → ℝ} (h : HoldsRows x f) : Holds (k0_pay4 x) f := by
  intro i n
  pointwise [k0_pay4]
  exact flat_row h i n

theorem v_holds {x : FVec Ideal S32x8x64 .f32} {f : ℕ → Fin 64 → ℝ} (h : HoldsRows x f) : Holds (k0_pay5 x) f := by
  intro i n
  pointwise [k0_pay5]
  exact flat_row h i n

theorem a_holds {x : FVec Ideal S32x8x64 .f32} {f : ℕ → Fin 64 → ℝ} (h : HoldsRows x f) : Holds (k0_pay6 x) f := by
  intro i n
  pointwise [k0_pay6]
  exact flat_row h i n

/-- The kernel's removal key. -/
theorem dir_holds (X : Rows) {x : FVec Ideal S32x8x64 .f32} {y : FVec Ideal S32x1x64 .f32} (hx : HoldsRows x X.k)
    (hy : HoldsOne y X.kk) : Holds (k0_pay7 x y) X.dir := by
  intro i n
  have e : ∀ m, y (ix3 ⟨i.val / 8, by omega⟩ 0 m) = ((X.kk (i.val / 8) m : ℝ) : EReal) := fun m => hy _ m
  pointwise [k0_pay7]
  simp only [k_holds hx i, e, ← EReal.coe_mul]
  rw [show Ideal.ofBits .f32 730643660#32 = _ from ofBits_eps]
  exact unit_at (fun m => X.k i m * X.kk (i / 8) m) n

/-- The kernel's replacement key. -/
theorem key_holds (X : Rows) {x z : FVec Ideal S32x8x64 .f32} {y : FVec Ideal S32x1x64 .f32} (hx : HoldsRows x X.k)
    (hz : HoldsRows z X.a) (hy : HoldsOne y X.ka) : Holds (k0_pay10 (k0_pay4 x) (k0_pay8 z) (k0_pay9 y)) X.key := by
  intro i n
  have e : ∀ m, y (ix3 ⟨i.val / 8, by omega⟩ 0 m) = ((X.ka (i.val / 8) m : ℝ) : EReal) := fun m => hy _ m
  pointwise [k0_pay10, k0_pay8, k0_pay9]
  rw [k_holds hx i, a_holds hz i, e]
  norm_cast

section Decayed

variable (X : Rows) {w a r k d : FVec Ideal S256x64 .f32} (hw : Holds w X.w)

include hw

theorem cum_holds : Holds (k0_pay16 (k0_pay12 w) (k0_pay13 w) k0_pay14 k0_pay15) X.cum := fun i n => cum_at w X.w hw i n

theorem at_holds (hd : Holds d X.dir) : Holds (k0_pay18 w d (k0_pay12 w) (k0_pay13 w) k0_pay14 k0_pay15) X.at' := by
  intro i n
  pointwise [k0_pay18]
  rw [cum_holds X hw i n, hw, hd, ← EReal.coe_sub, Ideal.exp_coe, zero_sub]
  norm_cast

theorem rt_holds (hr : Holds r X.r) : Holds (k0_pay19 r (k0_pay12 w) (k0_pay13 w) k0_pay14 k0_pay15) X.rt := by
  intro i n
  pointwise [k0_pay19]
  rw [cum_holds X hw i n, hr, Ideal.exp_coe]
  norm_cast

theorem undo_at (i : Fin 256) (n : Fin 64) : k0_pay17 (k0_pay12 w) (k0_pay13 w) k0_pay14 k0_pay15 (ix2 i n)
    = ((Real.exp (-X.cum i n) : ℝ) : EReal) := by
  pointwise [k0_pay17]
  rw [cum_holds X hw i n, zero_sub, ← EReal.coe_neg, Ideal.exp_coe]

theorem bt_holds (hd : Holds d X.dir) (ha : Holds a X.a) :
    Holds (k0_pay20 a d (k0_pay12 w) (k0_pay13 w) k0_pay14 k0_pay15) X.bt := by
  intro i n
  pointwise [k0_pay20]
  rw [undo_at X hw, hd, ha]
  norm_cast

theorem kt_holds (hk : Holds k X.key) : Holds (k0_pay21 k (k0_pay12 w) (k0_pay13 w) k0_pay14 k0_pay15) X.kt := by
  intro i n
  pointwise [k0_pay21]
  rw [undo_at X hw, hk]
  norm_cast

theorem decay_holds : Holds (k0_pay22 (k0_pay12 w) (k0_pay13 w) k0_pay14 k0_pay15) (fun i n => Real.exp (X.cum i n)) := by
  intro i n
  pointwise [k0_pay22]
  rw [cum_holds X hw i n, Ideal.exp_coe]

end Decayed

/-! ### The matrices between the rows -/

/-- The matrix holds the real matrix `f`. -/
def HoldsMat (x : FVec Ideal S256x256 .f32) (f : Matrix (Fin 256) (Fin 256) ℝ) : Prop :=
  ∀ i j, x (ix2 i j) = ((f i j : ℝ) : EReal)

theorem ite_coe (p : Prop) [Decidable p] (x : ℝ) : (if p then (x : EReal) else 0) = ((if p then x else 0 : ℝ) : EReal) := by
  split <;> rfl

section Products

variable (X : Rows) {a r b k : FVec Ideal S256x64 .f32} (ha : Holds a X.at') (hr : Holds r X.rt) (hb : Holds b X.bt)
  (hk : Holds k X.kt)

include ha hb in
theorem Aab_holds : HoldsMat (k0_pay31 a r b k (iota .tc S256x256 32 [0] iota_S256x256_d0_w32)
    (iota .tc S256x256 32 [1] iota_S256x256_d1_w32) k0_pay23 8#32 k0_pay24 k0_pay25 k0_pay26) X.Aab := by
  intro i j
  pointwise [k0_pay31, k0_pay30]
  rw [strict_at]
  simp only [ha i, hb j, ← EReal.coe_mul, ← coe_sum, ite_coe]
  rfl

include ha hk in
theorem Aak_holds : HoldsMat (k0_pay32 a r b k (iota .tc S256x256 32 [0] iota_S256x256_d0_w32)
    (iota .tc S256x256 32 [1] iota_S256x256_d1_w32) k0_pay23 8#32 k0_pay24 k0_pay25 k0_pay26) X.Aak := by
  intro i j
  pointwise [k0_pay32, k0_pay30]
  rw [strict_at]
  simp only [ha i, hk j, ← EReal.coe_mul, ← coe_sum, ite_coe]
  rfl

include hr hb in
theorem Arb_holds : HoldsMat (k0_pay33 a r b k (iota .tc S256x256 32 [0] iota_S256x256_d0_w32)
    (iota .tc S256x256 32 [1] iota_S256x256_d1_w32) k0_pay23 8#32 k0_pay24 k0_pay25 k0_pay26) X.Arb := by
  intro i j
  pointwise [k0_pay33, k0_pay30]
  rw [incl_at]
  simp only [hr i, hb j, ← EReal.coe_mul, ← coe_sum, ite_coe]
  rfl

include hr hk in
theorem Ark_holds : HoldsMat (k0_pay34 a r b k (iota .tc S256x256 32 [0] iota_S256x256_d0_w32)
    (iota .tc S256x256 32 [1] iota_S256x256_d1_w32) k0_pay23 8#32 k0_pay24 k0_pay25 k0_pay26) X.Ark := by
  intro i j
  pointwise [k0_pay34, k0_pay30]
  rw [incl_at]
  simp only [hr i, hk j, ← EReal.coe_mul, ← coe_sum, ite_coe]
  rfl

end Products

/-- A product of two real matrices. -/
theorem mul_coe (A B : Matrix (Fin 256) (Fin 256) ℝ) (i j : Fin 256) :
    ∑ m, (A i m : EReal) * (B m j : EReal) = (((A * B) i j : ℝ) : EReal) := by
  rw [Matrix.mul_apply, coe_sum]
  simp only [EReal.coe_mul]

/-- The sum of powers the kernel multiplies out. -/
theorem powers_holds (a r b k : FVec Ideal S256x64 .f32) (d e g : IVec S256x256 32) (c : BitVec 32)
    (p q s : IVec S256x256 32) (A : Matrix (Fin 256) (Fin 256) ℝ) (h : HoldsMat (k0_pay31 a r b k d e g c p q s) A) :
    HoldsMat (k0_pay38 (k0_pay36 a r b k d e g c p q s) (k0_pay37 a r b k d e g c p q s)
      (constant S256x256 .f32 0x00000000#32)) (Chunk.powers A) := by
  have h2 : HoldsMat (k0_pay35 a r b k d e g c p q s) (A * A) := by
    intro i j
    pointwise [k0_pay35]
    simp only [h i, h _ j, mul_coe]
  have h3 : HoldsMat (k0_pay36 a r b k d e g c p q s) (A + A * A + A * (A * A)) := by
    intro i j
    pointwise [k0_pay36]
    simp only [h i, h2 _ j, h2 i j, mul_coe]
    norm_cast
  intro i j
  pointwise [k0_pay38, k0_pay37]
  simp only [h3 i, h2 _ j, h2 _ _, mul_coe]
  norm_cast

end Cert.KernelIdeal.Block

end
-- ==== Proof.BlockValue.lean ====
/-
  What one block of the kernel writes, at real inputs: the state of each group after its eight tokens, and the
  normalised, gated output of each token.
-/
module

public import proofs.«01_k».proof.Proof.BlockRows
public import proofs.«01_k».proof.Proof.Data

@[expose] public section

set_option maxRecDepth 16384

noncomputable section

namespace Cert.KernelIdeal.Block

open Cert.KernelIdeal Cert.KernelIdeal.Gen Idealize.ShloMosaic
open Cert.Proof Cert.Proof.Scalars

variable (X : Rows) {x0 x1 x2 x3 x4 x5 : Vec Ideal S32x8x64 .f32} {x6 : Vec Ideal S32x64x64 .f32}
  {x7 x8 x9 x10 x11 : Vec Ideal S32x1x64 .f32}
  (h0 : HoldsRows x0 X.r) (h1 : HoldsRows x1 X.w) (h2 : HoldsRows x2 X.k) (h3 : HoldsRows x3 X.v) (h4 : HoldsRows x4 X.a)
  (h6 : ∀ (g : Fin 32) v n, x6 (ix3 g v n) = ((X.s0 g v n : ℝ) : EReal))
  (h7 : HoldsOne x7 X.kk) (h8 : HoldsOne x8 X.ka)

theorem sub_self_coe (x : ℝ) : (x : EReal) - (x : EReal) = 0 := by
  rw [← EReal.coe_sub, sub_self]; rfl

include h6 in
theorem readA_holds {a r : FVec Ideal S256x64 .f32} {f : ℕ → Fin 64 → ℝ} (ha : Holds a f) :
    Holds (readA a r x6) (fun i x => ∑ n, f i n * X.s0 (i / 8) x n) := by
  intro i x
  obtain ⟨g, t, rfl⟩ : ∃ g t, i = row g t := ⟨⟨i.val / 8, by omega⟩, ⟨i.val % 8, by omega⟩, Fin.ext (by show _ = 8 * (i.val / 8) + i.val % 8; omega)⟩
  have e : (row g t).val / 8 = g.val := by show (8 * g.val + t.val) / 8 = _; omega
  rw [readA_at]
  simp only [ha (row g t), h6, sub_self_coe, mul_zero, zero_mul, Finset.sum_const_zero, add_zero, e, coe_sum, EReal.coe_mul]

include h6 in
theorem readR_holds {a r : FVec Ideal S256x64 .f32} {f : ℕ → Fin 64 → ℝ} (hr : Holds r f) :
    Holds (readR a r x6) (fun i x => ∑ n, f i n * X.s0 (i / 8) x n) := by
  intro i x
  obtain ⟨g, t, rfl⟩ : ∃ g t, i = row g t := ⟨⟨i.val / 8, by omega⟩, ⟨i.val % 8, by omega⟩, Fin.ext (by show _ = 8 * (i.val / 8) + i.val % 8; omega)⟩
  have e : (row g t).val / 8 = g.val := by show (8 * g.val + t.val) / 8 = _; omega
  rw [readR_at]
  simp only [hr (row g t), h6, sub_self_coe, mul_zero, zero_mul, Finset.sum_const_zero, add_zero, e, coe_sum, EReal.coe_mul]

include h1 h2 h7 in
theorem at_value : Holds (k0_pay307 x0 x1 x2 x3 x4 x5 x6 x7 x8 x9 x10 x11) X.at' :=
  at_holds X (w_holds h1.ld) (dir_holds X h2.ld h7.ld)

include h0 h1 in
theorem rt_value : Holds (k0_pay308 x0 x1 x2 x3 x4 x5 x6 x7 x8 x9 x10 x11) X.rt := rt_holds X (w_holds h1.ld) (r_holds h0.ld)

include h1 h2 h4 h7 in
theorem bt_value : Holds (k0_pay309 x0 x1 x2 x3 x4 x5 x6 x7 x8 x9 x10 x11) X.bt :=
  bt_holds X (w_holds h1.ld) (dir_holds X h2.ld h7.ld) (a_holds h4.ld)

include h1 h2 h4 h8 in
theorem kt_value : Holds (k0_pay310 x0 x1 x2 x3 x4 x5 x6 x7 x8 x9 x10 x11) X.kt :=
  kt_holds X (w_holds h1.ld) (key_holds X h2.ld h4.ld h8.ld)

include h1 h2 h4 h7 in
theorem powers_value : HoldsMat (k0_pay316 x0 x1 x2 x3 x4 x5 x6 x7 x8 x9 x10 x11) (Chunk.powers X.Aab) :=
  powers_holds _ _ _ _ _ _ _ _ _ _ _ _ (Aab_holds X (at_value X h1 h2 h7) (bt_value X h1 h2 h4 h7))

include h1 h2 h3 h4 h7 h8 in
theorem Av_value (i : Fin 256) (x : Fin 64) : k0_pay317 x0 x1 x2 x3 x4 x5 x6 x7 x8 x9 x10 x11 (ix2 i x)
    = ((∑ j : Fin 256, X.Aak i j * X.v j x : ℝ) : EReal) := by
  have hm := Aak_holds X (r := k0_pay308 x0 x1 x2 x3 x4 x5 x6 x7 x8 x9 x10 x11) (b := k0_pay309 x0 x1 x2 x3 x4 x5 x6 x7 x8 x9 x10 x11)
    (at_value X (x0 := x0) (x3 := x3) (x4 := x4) (x5 := x5) (x6 := x6) (x8 := x8) (x9 := x9) (x10 := x10) (x11 := x11) h1 h2 h7)
    (kt_value X (x0 := x0) (x3 := x3) (x5 := x5) (x6 := x6) (x7 := x7) (x9 := x9) (x10 := x10) (x11 := x11) h1 h2 h4 h8)
  show k0_pay40 (k0_pay5 (View.ld x3 r0_0)) (k0_pay32 (k0_pay307 x0 x1 x2 x3 x4 x5 x6 x7 x8 x9 x10 x11)
    (k0_pay308 x0 x1 x2 x3 x4 x5 x6 x7 x8 x9 x10 x11) (k0_pay309 x0 x1 x2 x3 x4 x5 x6 x7 x8 x9 x10 x11)
    (k0_pay310 x0 x1 x2 x3 x4 x5 x6 x7 x8 x9 x10 x11) (iota .tc S256x256 32 [0] iota_S256x256_d0_w32)
    (iota .tc S256x256 32 [1] iota_S256x256_d1_w32) k0_pay23 8#32 k0_pay24 k0_pay25 k0_pay26) (ix2 i x) = _
  pointwise [k0_pay40, k0_pay39]
  simp only [hm i, v_holds h3.ld _ x, coe_sum, EReal.coe_mul]

include h1 h2 h3 h4 h6 h7 h8 in
theorem Y_value (i : Fin 256) (x : Fin 64) :
    addf (readA (k0_pay307 x0 x1 x2 x3 x4 x5 x6 x7 x8 x9 x10 x11) (k0_pay308 x0 x1 x2 x3 x4 x5 x6 x7 x8 x9 x10 x11) x6)
      (k0_pay317 x0 x1 x2 x3 x4 x5 x6 x7 x8 x9 x10 x11) (ix2 i x) = ((X.Y i x : ℝ) : EReal) := by
  pointwise
  rw [readA_holds X h6 (at_value X h1 h2 h7) i x, Av_value X h1 h2 h3 h4 h7 h8 i x, ← EReal.coe_add]
  rfl

include h1 h2 h3 h4 h6 h7 h8 in
theorem U_value : Holds (k0_pay408 x0 x1 x2 x3 x4 x5 x6 x7 x8 x9 x10 x11) X.UN := by
  intro i x
  rw [u_eq, X.UN_val i x]
  have hy := Y_value X (x0 := x0) (x5 := x5) (x9 := x9) (x10 := x10) (x11 := x11) h1 h2 h3 h4 h6 h7 h8
  have hp := powers_value X (x0 := x0) (x3 := x3) (x5 := x5) (x6 := x6) (x8 := x8) (x9 := x9) (x10 := x10) (x11 := x11) h1 h2 h4 h7
  generalize addf (F := Ideal) (readA _ _ _) _ = y at hy ⊢
  pointwise
  simp only [hy, hp i, ← EReal.coe_mul, ← coe_sum, ← EReal.coe_add]
  rfl

include h0 h1 h2 h3 h4 h6 h7 h8 in
/-- The kernel's outputs before their normalisation. -/
theorem out_value (g : Fin 32) (t : Fin 8) (x : Fin 64) :
    k0_pay409 x0 x1 x2 x3 x4 x5 x6 x7 x8 x9 x10 x11 (ix2 (row g t) x) = ((X.out g t x : ℝ) : EReal) := by
  rw [← X.O_row g t g.isLt t.isLt (row g t).isLt x, o_eq]
  have hA := at_value X (x0 := x0) (x3 := x3) (x4 := x4) (x5 := x5) (x6 := x6) (x8 := x8) (x9 := x9) (x10 := x10) (x11 := x11) h1 h2 h7
  have hR := rt_value X (x2 := x2) (x3 := x3) (x4 := x4) (x5 := x5) (x6 := x6) (x7 := x7) (x8 := x8) (x9 := x9) (x10 := x10) (x11 := x11) h0 h1
  have hB := bt_value X (x0 := x0) (x3 := x3) (x5 := x5) (x6 := x6) (x8 := x8) (x9 := x9) (x10 := x10) (x11 := x11) h1 h2 h4 h7
  have hK := kt_value X (x0 := x0) (x3 := x3) (x5 := x5) (x6 := x6) (x7 := x7) (x9 := x9) (x10 := x10) (x11 := x11) h1 h2 h4 h8
  have hU := U_value X (x0 := x0) (x5 := x5) (x9 := x9) (x10 := x10) (x11 := x11) h1 h2 h3 h4 h6 h7 h8
  have hS : Holds _ _ := readR_holds X (a := k0_pay307 x0 x1 x2 x3 x4 x5 x6 x7 x8 x9 x10 x11) h6 hR
  have m1 := Arb_holds X (a := k0_pay307 x0 x1 x2 x3 x4 x5 x6 x7 x8 x9 x10 x11) (k := k0_pay310 x0 x1 x2 x3 x4 x5 x6 x7 x8 x9 x10 x11) hR hB
  have m2 := Ark_holds X (a := k0_pay307 x0 x1 x2 x3 x4 x5 x6 x7 x8 x9 x10 x11) (b := k0_pay309 x0 x1 x2 x3 x4 x5 x6 x7 x8 x9 x10 x11) hR hK
  change HoldsMat (k0_pay33 (F := Ideal) _ _ _ _ (k0_pay305 x0 x1 x2 x3 x4 x5 x6 x7 x8 x9 x10 x11) (k0_pay306 x0 x1 x2 x3 x4 x5 x6 x7 x8 x9 x10 x11)
    (k0_pay312 x0 x1 x2 x3 x4 x5 x6 x7 x8 x9 x10 x11) 8#32 (k0_pay313 x0 x1 x2 x3 x4 x5 x6 x7 x8 x9 x10 x11)
    (k0_pay314 x0 x1 x2 x3 x4 x5 x6 x7 x8 x9 x10 x11) (k0_pay315 x0 x1 x2 x3 x4 x5 x6 x7 x8 x9 x10 x11)) _ at m1
  change HoldsMat (k0_pay34 (F := Ideal) _ _ _ _ (k0_pay305 x0 x1 x2 x3 x4 x5 x6 x7 x8 x9 x10 x11) (k0_pay306 x0 x1 x2 x3 x4 x5 x6 x7 x8 x9 x10 x11)
    (k0_pay312 x0 x1 x2 x3 x4 x5 x6 x7 x8 x9 x10 x11) 8#32 (k0_pay313 x0 x1 x2 x3 x4 x5 x6 x7 x8 x9 x10 x11)
    (k0_pay314 x0 x1 x2 x3 x4 x5 x6 x7 x8 x9 x10 x11) (k0_pay315 x0 x1 x2 x3 x4 x5 x6 x7 x8 x9 x10 x11)) _ at m2
  have hV : Holds (k0_pay298 x0 x1 x2 x3 x4 x5 x6 x7 x8 x9 x10 x11) X.v := v_holds h3.ld
  generalize k0_pay33 (F := Ideal) _ _ _ _ _ _ _ _ _ _ _ = M1 at m1 ⊢
  generalize k0_pay34 (F := Ideal) _ _ _ _ _ _ _ _ _ _ _ = M2 at m2 ⊢
  generalize readR (F := Ideal) _ _ _ = S at hS ⊢
  generalize k0_pay408 (F := Ideal) _ _ _ _ _ _ _ _ _ _ _ _ = U at hU ⊢
  generalize k0_pay298 (F := Ideal) _ _ _ _ _ _ _ _ _ _ _ _ = V at hV ⊢
  change _ = ((X.O (row g t) x : ℝ) : EReal)
  generalize row g t = i
  pointwise [k0_pay41, k0_pay39]
  simp only [m1 i, m2 i, hU _ x, hV _ x, hS i x, X.UN_val, ← EReal.coe_mul, ← coe_sum, ← EReal.coe_add]
  rfl

include h1 h2 h3 h4 h6 h7 h8 in
/-- The state the kernel writes for a group. -/
theorem state_value (g : Fin 32) (x n : Fin 64) :
    out0_13 x0 x1 x2 x3 x4 x5 x6 x7 x8 x9 x10 x11 (ix3 g x n) = ((X.st g 8 x n : ℝ) : EReal) := by
  have hB := bt_value X (x0 := x0) (x3 := x3) (x5 := x5) (x6 := x6) (x8 := x8) (x9 := x9) (x10 := x10) (x11 := x11) h1 h2 h4 h7
  have hK := kt_value X (x0 := x0) (x3 := x3) (x5 := x5) (x6 := x6) (x7 := x7) (x9 := x9) (x10 := x10) (x11 := x11) h1 h2 h4 h8
  have hU := U_value X (x0 := x0) (x5 := x5) (x9 := x9) (x10 := x10) (x11 := x11) h1 h2 h3 h4 h6 h7 h8
  have hV : Holds (k0_pay298 x0 x1 x2 x3 x4 x5 x6 x7 x8 x9 x10 x11) X.v := v_holds h3.ld
  have hP : Holds (k0_pay311 x0 x1 x2 x3 x4 x5 x6 x7 x8 x9 x10 x11) (fun i n => Real.exp (X.cum i n)) := decay_holds X (w_holds h1.ld)
  rw [out13_eq, ← X.new_state g g.isLt x n]
  refine (canon_at (fun g => storePiece (k0_pay408 x0 x1 x2 x3 x4 x5 x6 x7 x8 x9 x10 x11) (k0_pay298 x0 x1 x2 x3 x4 x5 x6 x7 x8 x9 x10 x11)
    (k0_pay309 x0 x1 x2 x3 x4 x5 x6 x7 x8 x9 x10 x11) (k0_pay310 x0 x1 x2 x3 x4 x5 x6 x7 x8 x9 x10 x11)
    (k0_pay311 x0 x1 x2 x3 x4 x5 x6 x7 x8 x9 x10 x11) x6 g) g x n).trans ?_
  rw [storePiece_at, outer3_at]
  simp only [rowsOf_at, hB _ n, hK _ n, hU _ x, hV _ x, hP _ n, h6, sub_self_coe, mul_zero, zero_mul, Finset.sum_const_zero, add_zero]
  simp only [← EReal.coe_mul, ← coe_sum, ← EReal.coe_add]
  rfl

/-- Row `8 g + t` as token `t` of group `g`. -/
theorem rows_at (y : FVec Ideal S256x64 .f32) (g : Fin 32) (t : Fin 8) (n : Fin 64) :
    k0_pay1 y (ix3 g t n) = y (ix2 (row g t) n) := by
  pointwise [k0_pay1]
  congr 2
  exact Fin.ext (by show g.val * 8 + t.val = 8 * g.val + t.val; omega)

include h0 h1 h2 h3 h4 h6 h7 h8 in
/-- The output the kernel writes for a token of a group. -/
theorem token_value (g : Fin 32) (t : Fin 8) (n : Fin 64) :
    out0_12 x0 x1 x2 x3 x4 x5 x6 x7 x8 x9 x10 x11 (ix3 g t n)
      = finish (fun x => ((X.out g t x : ℝ) : EReal)) (fun x => ((X.r (8 * g + t) x : ℝ) : EReal))
          (fun x => ((X.key (8 * g + t) x : ℝ) : EReal)) (fun x => x9 (ix3 g 0 x)) (fun x => ((X.v (8 * g + t) x : ℝ) : EReal))
          (x10 (ix3 g 0 n)) (x11 (ix3 g 0 n)) (x5 (ix3 g t n)) n := by
  have hO : ∀ x, k0_pay409 x0 x1 x2 x3 x4 x5 x6 x7 x8 x9 x10 x11 (ix2 (row g t) x) = ((X.out g t x : ℝ) : EReal) :=
    fun x => out_value X h0 h1 h2 h3 h4 h6 h7 h8 g t x
  have hK : Holds (k0_pay300 x0 x1 x2 x3 x4 x5 x6 x7 x8 x9 x10 x11) X.key := key_holds X h2.ld h4.ld h8.ld
  have hV : Holds (k0_pay298 x0 x1 x2 x3 x4 x5 x6 x7 x8 x9 x10 x11) X.v := v_holds h3.ld
  have hR : Holds (k0_pay296 x0 x1 x2 x3 x4 x5 x6 x7 x8 x9 x10 x11) X.r := r_holds h0.ld
  have e1 : (⟨(row g t).val / 8, by omega⟩ : Fin 32) = g := Fin.ext (by show (8 * g.val + t.val) / 8 = _; omega)
  have e2 : (⟨(row g t).val % 8, by omega⟩ : Fin 8) = t := Fin.ext (by show (8 * g.val + t.val) % 8 = _; omega)
  rw [out0_12]
  refine (congrFun (View.canon_cons_unit_lit _ _ _ fun a => by fin_cases a <;> rfl) _).trans ?_
  rw [rows_at]
  generalize k0_pay409 (F := Ideal) _ _ _ _ _ _ _ _ _ _ _ _ = O at hO ⊢
  generalize k0_pay300 (F := Ideal) _ _ _ _ _ _ _ _ _ _ _ _ = K at hK ⊢
  generalize k0_pay298 (F := Ideal) _ _ _ _ _ _ _ _ _ _ _ _ = V at hV ⊢
  generalize k0_pay296 (F := Ideal) _ _ _ _ _ _ _ _ _ _ _ _ = R at hR ⊢
  pointwise [k0_pay295, k0_pay294]
  simp only [e1, e2, ld_rows, ld_one, hO, hK (row g t), hV (row g t), hR (row g t)]
  rfl

end Cert.KernelIdeal.Block

end
-- ==== Proof.Layout.lean ====
/- Where the kernel's blocks come from: block `t` of every tiled window is sequence `t`, one group to a head, read off the
   argument arrays through the host's reshapes and transposes. -/
module

public import proofs.«01_k».proof.Proof.Gen.KernelIdeal.Value
public import proofs.«01_k».proof.Proof.BlockValue
public import proofs.«01_k».proof.Proof.Data
public import Idealize.ShloMosaic.Lib.Pointwise
public import Idealize.ShloMosaic.Lib.Tactic.CleanTypes
public import Idealize.ShloMosaic.Lib.StableHlo.RunRead

@[expose] public section

set_option maxRecDepth 16384

noncomputable section

namespace Cert.KernelIdeal.Layout

open Cert.KernelIdeal Cert.KernelIdeal.Gen Cert.KernelIdeal.Block Cert.Proof Idealize.ShloMosaic Idealize.ShloMosaic.TcCoe StableHlo

variable (m : (ℓ : Loc nD τ sig) → Buf (Elt Ideal) ℓ) (c : Dev nD)

/-- Argument array `b` of device `c`. -/
abbrev arg (b : Ref sig .tc) : Buf (Elt Ideal) ((c : Thread nD τ).loc b) := m ((c : Thread nD τ).loc b)

/-! ## The host's layout operations -/

section Host

variable (q : Fin 128) (h : Fin 32) (s : Fin 8) (n : Fin 64)

theorem host0 : (V m c main_v12 : FVec Ideal S4096x8x64 .f32) (ix3 ⟨q * 32 + h, by omega⟩ s n)
    = (arg m c main_arg0 : FVec Ideal S1024x2048 .f32) (ix2 ⟨q * 8 + s, by omega⟩ ⟨h * 64 + n, by omega⟩) := by
  dsimp only [V]; after_reads_simp; clean_types; pointwise

theorem host1 : (V m c main_v15 : FVec Ideal S4096x8x64 .f32) (ix3 ⟨q * 32 + h, by omega⟩ s n)
    = (arg m c main_arg1 : FVec Ideal S1024x2048 .f32) (ix2 ⟨q * 8 + s, by omega⟩ ⟨h * 64 + n, by omega⟩) := by
  dsimp only [V]; after_reads_simp; clean_types; pointwise

theorem host2 : (V m c main_v18 : FVec Ideal S4096x8x64 .f32) (ix3 ⟨q * 32 + h, by omega⟩ s n)
    = (arg m c main_arg2 : FVec Ideal S1024x2048 .f32) (ix2 ⟨q * 8 + s, by omega⟩ ⟨h * 64 + n, by omega⟩) := by
  dsimp only [V]; after_reads_simp; clean_types; pointwise

theorem host3 : (V m c main_v21 : FVec Ideal S4096x8x64 .f32) (ix3 ⟨q * 32 + h, by omega⟩ s n)
    = (arg m c main_arg3 : FVec Ideal S1024x2048 .f32) (ix2 ⟨q * 8 + s, by omega⟩ ⟨h * 64 + n, by omega⟩) := by
  dsimp only [V]; after_reads_simp; clean_types; pointwise

theorem host4 : (V m c main_v24 : FVec Ideal S4096x8x64 .f32) (ix3 ⟨q * 32 + h, by omega⟩ s n)
    = (arg m c main_arg4 : FVec Ideal S1024x2048 .f32) (ix2 ⟨q * 8 + s, by omega⟩ ⟨h * 64 + n, by omega⟩) := by
  dsimp only [V]; after_reads_simp; clean_types; pointwise

theorem host5 : (V m c main_v27 : FVec Ideal S4096x8x64 .f32) (ix3 ⟨q * 32 + h, by omega⟩ s n)
    = (arg m c main_arg5 : FVec Ideal S1024x2048 .f32) (ix2 ⟨q * 8 + s, by omega⟩ ⟨h * 64 + n, by omega⟩) := by
  dsimp only [V]; after_reads_simp; clean_types; pointwise

theorem host6 (x : Fin 64) : (V m c main_v29 : FVec Ideal S4096x64x64 .f32) (ix3 ⟨q * 32 + h, by omega⟩ x n)
    = (arg m c main_arg6 : FVec Ideal S1x128x32x64x64 .f32) (ix5 0 q h x n) := by
  dsimp only [V]; after_reads_simp; clean_types; pointwise

theorem host7 : (V m c main_v1 : FVec Ideal S32x1x64 .f32) (ix3 h 0 n)
    = (arg m c main_arg7 : FVec Ideal S1x2048 .f32) (ix2 0 ⟨h * 64 + n, by omega⟩) := by
  dsimp only [V]; after_reads_simp; clean_types; pointwise

theorem host8 : (V m c main_v3 : FVec Ideal S32x1x64 .f32) (ix3 h 0 n)
    = (arg m c main_arg8 : FVec Ideal S1x2048 .f32) (ix2 0 ⟨h * 64 + n, by omega⟩) := by
  dsimp only [V]; after_reads_simp; clean_types; pointwise

theorem host9 : (V m c main_v5 : FVec Ideal S32x1x64 .f32) (ix3 h 0 n)
    = (arg m c main_arg9 : FVec Ideal S1x32x64 .f32) (ix3 0 h n) := by
  dsimp only [V]; after_reads_simp; clean_types; pointwise

theorem host10 : (V m c main_v7 : FVec Ideal S32x1x64 .f32) (ix3 h 0 n)
    = (arg m c main_arg10 : FVec Ideal S1x2048 .f32) (ix2 0 ⟨h * 64 + n, by omega⟩) := by
  dsimp only [V]; after_reads_simp; clean_types; pointwise

theorem host11 : (V m c main_v9 : FVec Ideal S32x1x64 .f32) (ix3 h 0 n)
    = (arg m c main_arg11 : FVec Ideal S1x2048 .f32) (ix2 0 ⟨h * 64 + n, by omega⟩) := by
  dsimp only [V]; after_reads_simp; clean_types; pointwise

end Host

/-! ## The windows' blocks -/

/-- An index map that follows the grid on the first axis. -/
abbrev Tiled (f : Fin grid0.N → Fin 3 → ℕ) : Prop := ∀ t, f t 0 = t.val ∧ f t 1 = 0 ∧ f t 2 = 0

/-- An index map that stays at the first block. -/
abbrev Fixed (f : Fin grid0.N → Fin 3 → ℕ) : Prop := ∀ t, f t 0 = 0 ∧ f t 1 = 0 ∧ f t 2 = 0

theorem index0 : Tiled win0_0.index := by decide +kernel
theorem index1 : Tiled win0_1.index := by decide +kernel
theorem index2 : Tiled win0_2.index := by decide +kernel
theorem index3 : Tiled win0_3.index := by decide +kernel
theorem index4 : Tiled win0_4.index := by decide +kernel
theorem index5 : Tiled win0_5.index := by decide +kernel
theorem index6 : Tiled win0_6.index := by decide +kernel
theorem index12 : Tiled win0_12.index := by decide +kernel
theorem index13 : Tiled win0_13.index := by decide +kernel
theorem index7 : Fixed win0_7.index := by decide +kernel
theorem index8 : Fixed win0_8.index := by decide +kernel
theorem index9 : Fixed win0_9.index := by decide +kernel
theorem index10 : Fixed win0_10.index := by decide +kernel
theorem index11 : Fixed win0_11.index := by decide +kernel

theorem lt_N (t : Fin cfg0.N) : t.val < 128 := t.isLt

theorem block0 (t : Fin cfg0.N) (g : Fin 32) (s : Fin 8) (n : Fin 64) :
    (iblk m c 0 t : FVec Ideal S32x8x64 .f32) (ix3 g s n)
      = (V m c main_v12 : FVec Ideal S4096x8x64 .f32) (ix3 ⟨t.val * 32 + g, by have := lt_N t; omega⟩ s n) := by
  unfold iblk
  rw [View.read_apply]
  refine congrArg (V m c main_v12 : FVec Ideal S4096x8x64 .f32) (funext fun a => Fin.ext ?_)
  refine (win0_0.rect_emb_val t _ a).trans ?_
  have e := index0 t
  match a with
  | ⟨0, _⟩ => exact congrArg (· * 32 + g.val) e.1
  | ⟨1, _⟩ => show win0_0.index t 1 * 8 + s.val = s.val; rw [e.2.1]; omega
  | ⟨2, _⟩ => show win0_0.index t 2 * 64 + n.val = n.val; rw [e.2.2]; omega

theorem block1 (t : Fin cfg0.N) (g : Fin 32) (s : Fin 8) (n : Fin 64) :
    (iblk m c 1 t : FVec Ideal S32x8x64 .f32) (ix3 g s n)
      = (V m c main_v15 : FVec Ideal S4096x8x64 .f32) (ix3 ⟨t.val * 32 + g, by have := lt_N t; omega⟩ s n) := by
  unfold iblk
  rw [View.read_apply]
  refine congrArg (V m c main_v15 : FVec Ideal S4096x8x64 .f32) (funext fun a => Fin.ext ?_)
  refine (win0_1.rect_emb_val t _ a).trans ?_
  have e := index1 t
  match a with
  | ⟨0, _⟩ => exact congrArg (· * 32 + g.val) e.1
  | ⟨1, _⟩ => show win0_1.index t 1 * 8 + s.val = s.val; rw [e.2.1]; omega
  | ⟨2, _⟩ => show win0_1.index t 2 * 64 + n.val = n.val; rw [e.2.2]; omega

theorem block2 (t : Fin cfg0.N) (g : Fin 32) (s : Fin 8) (n : Fin 64) :
    (iblk m c 2 t : FVec Ideal S32x8x64 .f32) (ix3 g s n)
      = (V m c main_v18 : FVec Ideal S4096x8x64 .f32) (ix3 ⟨t.val * 32 + g, by have := lt_N t; omega⟩ s n) := by
  unfold iblk
  rw [View.read_apply]
  refine congrArg (V m c main_v18 : FVec Ideal S4096x8x64 .f32) (funext fun a => Fin.ext ?_)
  refine (win0_2.rect_emb_val t _ a).trans ?_
  have e := index2 t
  match a with
  | ⟨0, _⟩ => exact congrArg (· * 32 + g.val) e.1
  | ⟨1, _⟩ => show win0_2.index t 1 * 8 + s.val = s.val; rw [e.2.1]; omega
  | ⟨2, _⟩ => show win0_2.index t 2 * 64 + n.val = n.val; rw [e.2.2]; omega

theorem block3 (t : Fin cfg0.N) (g : Fin 32) (s : Fin 8) (n : Fin 64) :
    (iblk m c 3 t : FVec Ideal S32x8x64 .f32) (ix3 g s n)
      = (V m c main_v21 : FVec Ideal S4096x8x64 .f32) (ix3 ⟨t.val * 32 + g, by have := lt_N t; omega⟩ s n) := by
  unfold iblk
  rw [View.read_apply]
  refine congrArg (V m c main_v21 : FVec Ideal S4096x8x64 .f32) (funext fun a => Fin.ext ?_)
  refine (win0_3.rect_emb_val t _ a).trans ?_
  have e := index3 t
  match a with
  | ⟨0, _⟩ => exact congrArg (· * 32 + g.val) e.1
  | ⟨1, _⟩ => show win0_3.index t 1 * 8 + s.val = s.val; rw [e.2.1]; omega
  | ⟨2, _⟩ => show win0_3.index t 2 * 64 + n.val = n.val; rw [e.2.2]; omega

theorem block4 (t : Fin cfg0.N) (g : Fin 32) (s : Fin 8) (n : Fin 64) :
    (iblk m c 4 t : FVec Ideal S32x8x64 .f32) (ix3 g s n)
      = (V m c main_v24 : FVec Ideal S4096x8x64 .f32) (ix3 ⟨t.val * 32 + g, by have := lt_N t; omega⟩ s n) := by
  unfold iblk
  rw [View.read_apply]
  refine congrArg (V m c main_v24 : FVec Ideal S4096x8x64 .f32) (funext fun a => Fin.ext ?_)
  refine (win0_4.rect_emb_val t _ a).trans ?_
  have e := index4 t
  match a with
  | ⟨0, _⟩ => exact congrArg (· * 32 + g.val) e.1
  | ⟨1, _⟩ => show win0_4.index t 1 * 8 + s.val = s.val; rw [e.2.1]; omega
  | ⟨2, _⟩ => show win0_4.index t 2 * 64 + n.val = n.val; rw [e.2.2]; omega

theorem block5 (t : Fin cfg0.N) (g : Fin 32) (s : Fin 8) (n : Fin 64) :
    (iblk m c 5 t : FVec Ideal S32x8x64 .f32) (ix3 g s n)
      = (V m c main_v27 : FVec Ideal S4096x8x64 .f32) (ix3 ⟨t.val * 32 + g, by have := lt_N t; omega⟩ s n) := by
  unfold iblk
  rw [View.read_apply]
  refine congrArg (V m c main_v27 : FVec Ideal S4096x8x64 .f32) (funext fun a => Fin.ext ?_)
  refine (win0_5.rect_emb_val t _ a).trans ?_
  have e := index5 t
  match a with
  | ⟨0, _⟩ => exact congrArg (· * 32 + g.val) e.1
  | ⟨1, _⟩ => show win0_5.index t 1 * 8 + s.val = s.val; rw [e.2.1]; omega
  | ⟨2, _⟩ => show win0_5.index t 2 * 64 + n.val = n.val; rw [e.2.2]; omega

theorem block6 (t : Fin cfg0.N) (g : Fin 32) (s : Fin 64) (n : Fin 64) :
    (iblk m c 6 t : FVec Ideal S32x64x64 .f32) (ix3 g s n)
      = (V m c main_v29 : FVec Ideal S4096x64x64 .f32) (ix3 ⟨t.val * 32 + g, by have := lt_N t; omega⟩ s n) := by
  unfold iblk
  rw [View.read_apply]
  refine congrArg (V m c main_v29 : FVec Ideal S4096x64x64 .f32) (funext fun a => Fin.ext ?_)
  refine (win0_6.rect_emb_val t _ a).trans ?_
  have e := index6 t
  match a with
  | ⟨0, _⟩ => exact congrArg (· * 32 + g.val) e.1
  | ⟨1, _⟩ => show win0_6.index t 1 * 64 + s.val = s.val; rw [e.2.1]; omega
  | ⟨2, _⟩ => show win0_6.index t 2 * 64 + n.val = n.val; rw [e.2.2]; omega

theorem block7 (t : Fin cfg0.N) (g : Fin 32) (s : Fin 1) (n : Fin 64) :
    (iblk m c 7 t : FVec Ideal S32x1x64 .f32) (ix3 g s n)
      = (V m c main_v1 : FVec Ideal S32x1x64 .f32) (ix3 g s n) := by
  unfold iblk
  rw [View.read_apply]
  refine congrArg (V m c main_v1 : FVec Ideal S32x1x64 .f32) (funext fun a => Fin.ext ?_)
  refine (win0_7.rect_emb_val t _ a).trans ?_
  have e := index7 t
  match a with
  | ⟨0, _⟩ => show win0_7.index t 0 * 32 + g.val = g.val; rw [e.1]; omega
  | ⟨1, _⟩ => show win0_7.index t 1 * 1 + s.val = s.val; rw [e.2.1]; omega
  | ⟨2, _⟩ => show win0_7.index t 2 * 64 + n.val = n.val; rw [e.2.2]; omega

theorem block8 (t : Fin cfg0.N) (g : Fin 32) (s : Fin 1) (n : Fin 64) :
    (iblk m c 8 t : FVec Ideal S32x1x64 .f32) (ix3 g s n)
      = (V m c main_v3 : FVec Ideal S32x1x64 .f32) (ix3 g s n) := by
  unfold iblk
  rw [View.read_apply]
  refine congrArg (V m c main_v3 : FVec Ideal S32x1x64 .f32) (funext fun a => Fin.ext ?_)
  refine (win0_8.rect_emb_val t _ a).trans ?_
  have e := index8 t
  match a with
  | ⟨0, _⟩ => show win0_8.index t 0 * 32 + g.val = g.val; rw [e.1]; omega
  | ⟨1, _⟩ => show win0_8.index t 1 * 1 + s.val = s.val; rw [e.2.1]; omega
  | ⟨2, _⟩ => show win0_8.index t 2 * 64 + n.val = n.val; rw [e.2.2]; omega

theorem block9 (t : Fin cfg0.N) (g : Fin 32) (s : Fin 1) (n : Fin 64) :
    (iblk m c 9 t : FVec Ideal S32x1x64 .f32) (ix3 g s n)
      = (V m c main_v5 : FVec Ideal S32x1x64 .f32) (ix3 g s n) := by
  unfold iblk
  rw [View.read_apply]
  refine congrArg (V m c main_v5 : FVec Ideal S32x1x64 .f32) (funext fun a => Fin.ext ?_)
  refine (win0_9.rect_emb_val t _ a).trans ?_
  have e := index9 t
  match a with
  | ⟨0, _⟩ => show win0_9.index t 0 * 32 + g.val = g.val; rw [e.1]; omega
  | ⟨1, _⟩ => show win0_9.index t 1 * 1 + s.val = s.val; rw [e.2.1]; omega
  | ⟨2, _⟩ => show win0_9.index t 2 * 64 + n.val = n.val; rw [e.2.2]; omega

theorem block10 (t : Fin cfg0.N) (g : Fin 32) (s : Fin 1) (n : Fin 64) :
    (iblk m c 10 t : FVec Ideal S32x1x64 .f32) (ix3 g s n)
      = (V m c main_v7 : FVec Ideal S32x1x64 .f32) (ix3 g s n) := by
  unfold iblk
  rw [View.read_apply]
  refine congrArg (V m c main_v7 : FVec Ideal S32x1x64 .f32) (funext fun a => Fin.ext ?_)
  refine (win0_10.rect_emb_val t _ a).trans ?_
  have e := index10 t
  match a with
  | ⟨0, _⟩ => show win0_10.index t 0 * 32 + g.val = g.val; rw [e.1]; omega
  | ⟨1, _⟩ => show win0_10.index t 1 * 1 + s.val = s.val; rw [e.2.1]; omega
  | ⟨2, _⟩ => show win0_10.index t 2 * 64 + n.val = n.val; rw [e.2.2]; omega

theorem block11 (t : Fin cfg0.N) (g : Fin 32) (s : Fin 1) (n : Fin 64) :
    (iblk m c 11 t : FVec Ideal S32x1x64 .f32) (ix3 g s n)
      = (V m c main_v9 : FVec Ideal S32x1x64 .f32) (ix3 g s n) := by
  unfold iblk
  rw [View.read_apply]
  refine congrArg (V m c main_v9 : FVec Ideal S32x1x64 .f32) (funext fun a => Fin.ext ?_)
  refine (win0_11.rect_emb_val t _ a).trans ?_
  have e := index11 t
  match a with
  | ⟨0, _⟩ => show win0_11.index t 0 * 32 + g.val = g.val; rw [e.1]; omega
  | ⟨1, _⟩ => show win0_11.index t 1 * 1 + s.val = s.val; rw [e.2.1]; omega
  | ⟨2, _⟩ => show win0_11.index t 2 * 64 + n.val = n.val; rw [e.2.2]; omega

/-! ## The two result arrays -/

theorem final12 (t : Fin cfg0.N) (g : Fin 32) (s : Fin 8) (n : Fin 64) :
    ((dats m 0 c).arrAt 12 cfg0.N : FVec Ideal S4096x8x64 .f32) (ix3 ⟨t.val * 32 + g, by have := lt_N t; omega⟩ s n)
      = (out0_12 (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) : FVec Ideal S32x8x64 .f32) (ix3 g s n) := by
  have hb := congrFun ((Value.blocks12 m c t (flush0_12 t)).trans (Value.flushed12 m c t)) (ix3 g s n)
  rw [View.read_apply] at hb
  refine Eq.trans ?_ hb
  refine congrArg ((dats m 0 c).arrAt 12 cfg0.N : FVec Ideal S4096x8x64 .f32) (funext fun a => Fin.ext ?_)
  refine Eq.symm ((win0_12.rect_emb_val t _ a).trans ?_)
  have e := index12 t
  match a with
  | ⟨0, _⟩ => exact congrArg (· * 32 + g.val) e.1
  | ⟨1, _⟩ => show win0_12.index t 1 * 8 + s.val = s.val; rw [e.2.1]; omega
  | ⟨2, _⟩ => show win0_12.index t 2 * 64 + n.val = n.val; rw [e.2.2]; omega

theorem final13 (t : Fin cfg0.N) (g : Fin 32) (s : Fin 64) (n : Fin 64) :
    ((dats m 0 c).arrAt 13 cfg0.N : FVec Ideal S4096x64x64 .f32) (ix3 ⟨t.val * 32 + g, by have := lt_N t; omega⟩ s n)
      = (out0_13 (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) : FVec Ideal S32x64x64 .f32) (ix3 g s n) := by
  have hb := congrFun ((Value.blocks13 m c t (flush0_13 t)).trans (Value.flushed13 m c t)) (ix3 g s n)
  rw [View.read_apply] at hb
  refine Eq.trans ?_ hb
  refine congrArg ((dats m 0 c).arrAt 13 cfg0.N : FVec Ideal S4096x64x64 .f32) (funext fun a => Fin.ext ?_)
  refine Eq.symm ((win0_13.rect_emb_val t _ a).trans ?_)
  have e := index13 t
  match a with
  | ⟨0, _⟩ => exact congrArg (· * 32 + g.val) e.1
  | ⟨1, _⟩ => show win0_13.index t 1 * 64 + s.val = s.val; rw [e.2.1]; omega
  | ⟨2, _⟩ => show win0_13.index t 2 * 64 + n.val = n.val; rw [e.2.2]; omega

end Cert.KernelIdeal.Layout
end
-- ==== Proof.KernelValue.lean ====
/- What the kernel computes at real inputs: its two results, entry by entry. -/
module

public import proofs.«01_k».proof.Proof.Layout

@[expose] public section

set_option maxRecDepth 16384

noncomputable section

namespace Cert.KernelIdeal.Layout

open Cert.KernelIdeal Cert.KernelIdeal.Gen Cert.KernelIdeal.Block Cert.Proof Idealize.ShloMosaic Idealize.ShloMosaic.TcCoe StableHlo

/-- The real rows of sequence `q`'s block: group `g` is head `g`, row `8 g + t` its token `t`. -/
def rowsOfSeq (D : Data) (q : ℕ) : Rows where
  r i n := D.r (q * 8 + i % 8) (i / 8 * 64 + n)
  w i n := D.w (q * 8 + i % 8) (i / 8 * 64 + n)
  k i n := D.k (q * 8 + i % 8) (i / 8 * 64 + n)
  v i n := D.v (q * 8 + i % 8) (i / 8 * 64 + n)
  a i n := D.a (q * 8 + i % 8) (i / 8 * 64 + n)
  s0 g := D.s0 q g
  kk g n := D.kk (g * 64 + n)
  ka g n := D.ka (g * 64 + n)

section

variable (D : Data) (q g t : ℕ) (ht : t < 8)

include ht

theorem div8 : (8 * g + t) / 8 = g := by omega

theorem mod8 : (8 * g + t) % 8 = t := by omega

theorem rows_key : (rowsOfSeq D q).key (8 * g + t) = D.key q g t := by
  funext n
  simp only [Rows.key, Data.key, rowsOfSeq, div8 g t ht, mod8 g t ht]

theorem rows_dir : (rowsOfSeq D q).dir (8 * g + t) = D.dir q g t := by
  funext n
  simp only [Rows.dir, Data.dir, rowsOfSeq, div8 g t ht, mod8 g t ht]

theorem rows_r : (rowsOfSeq D q).r (8 * g + t) = fun n : Fin 64 => D.r (q * 8 + t) (g * 64 + n) := by
  simp only [rowsOfSeq, div8 g t ht, mod8 g t ht]

theorem rows_w : (rowsOfSeq D q).w (8 * g + t) = fun n : Fin 64 => D.w (q * 8 + t) (g * 64 + n) := by
  simp only [rowsOfSeq, div8 g t ht, mod8 g t ht]

theorem rows_v : (rowsOfSeq D q).v (8 * g + t) = fun n : Fin 64 => D.v (q * 8 + t) (g * 64 + n) := by
  simp only [rowsOfSeq, div8 g t ht, mod8 g t ht]

theorem rows_a : (rowsOfSeq D q).a (8 * g + t) = fun n : Fin 64 => D.a (q * 8 + t) (g * 64 + n) := by
  simp only [rowsOfSeq, div8 g t ht, mod8 g t ht]

end

/-- The block's recurrence is the sequence's. -/
theorem rows_st (D : Data) (q g : ℕ) (t : ℕ) (ht : t ≤ 8) : (rowsOfSeq D q).st g t = D.st q g t := by
  refine Chunk.state_congr _ 8 (fun t h => rows_w D q g t h) (fun t h => ?_) (fun t h => ?_) (fun t h => rows_key D q g t h)
    (fun t h => rows_v D q g t h) t ht
  · simp only [rows_dir D q g t h]
  · simp only [rows_dir D q g t h, rows_a D q g t h]

theorem rows_out (D : Data) (q g : ℕ) (t : ℕ) (ht : t < 8) (x : Fin 64) : (rowsOfSeq D q).out g t x = D.out q g t x := by
  simp only [Rows.out, Data.out, rows_st D q g (t + 1) (by omega), rows_r D q g t ht]

variable (m : (ℓ : Loc nD τ sig) → Buf (Elt Ideal) ℓ) (c : Dev nD)

/-- The arguments of device `c` hold the real inputs. -/
abbrev HeldArgs (D : Data) : Prop :=
  D.Held (arg m c main_arg0) (arg m c main_arg1) (arg m c main_arg2) (arg m c main_arg3) (arg m c main_arg4) (arg m c main_arg6)
    (arg m c main_arg7) (arg m c main_arg8)

variable {m c} {D : Data} (A : HeldArgs m c D) (t : Fin cfg0.N)
include A

theorem hold0 : HoldsRows (iblk m c 0 t) (rowsOfSeq D t).r := fun g s n => by
  rw [rows_r D t g s s.isLt]
  exact ((block0 m c t g s n).trans (host0 m c t g s n)).trans (A.r _ _)

theorem hold1 : HoldsRows (iblk m c 1 t) (rowsOfSeq D t).w := fun g s n => by
  rw [rows_w D t g s s.isLt]
  exact ((block1 m c t g s n).trans (host1 m c t g s n)).trans (A.w _ _)

theorem hold2 : HoldsRows (iblk m c 2 t) (rowsOfSeq D t).k := fun g s n => by
  simp only [rowsOfSeq, div8 g.val s.val s.isLt, mod8 g.val s.val s.isLt]
  exact ((block2 m c t g s n).trans (host2 m c t g s n)).trans (A.k _ _)

theorem hold3 : HoldsRows (iblk m c 3 t) (rowsOfSeq D t).v := fun g s n => by
  rw [rows_v D t g s s.isLt]
  exact ((block3 m c t g s n).trans (host3 m c t g s n)).trans (A.v _ _)

theorem hold4 : HoldsRows (iblk m c 4 t) (rowsOfSeq D t).a := fun g s n => by
  rw [rows_a D t g s s.isLt]
  exact ((block4 m c t g s n).trans (host4 m c t g s n)).trans (A.a _ _)

theorem hold6 (g : Fin 32) (x n : Fin 64) :
    (iblk m c 6 t : FVec Ideal S32x64x64 .f32) (ix3 g x n) = (((rowsOfSeq D t).s0 g x n : ℝ) : EReal) :=
  ((block6 m c t g x n).trans (host6 m c t g n x)).trans (A.s0 _ _ _ _)

theorem hold7 : HoldsOne (iblk m c 7 t) (rowsOfSeq D t).kk := fun g n =>
  ((block7 m c t g 0 n).trans (host7 m c g n)).trans (A.kk _)

theorem hold8 : HoldsOne (iblk m c 8 t) (rowsOfSeq D t).ka := fun g n =>
  ((block8 m c t g 0 n).trans (host8 m c g n)).trans (A.ka _)

/-- The states the kernel ends with. -/
theorem kernel_state (g : Fin 32) (x n : Fin 64) :
    ((dats m 0 c).arrAt 13 cfg0.N : FVec Ideal S4096x64x64 .f32) (ix3 ⟨t.val * 32 + g, by have := lt_N t; omega⟩ x n)
      = ((D.st t g 8 x n : ℝ) : EReal) := by
  refine (final13 m c t g x n).trans ((state_value (rowsOfSeq D t) (hold1 A t) (hold2 A t) (hold3 A t) (hold4 A t) (hold6 A t)
    (hold7 A t) (hold8 A t) g x n).trans ?_)
  rw [rows_st D t g 8 le_rfl]

/-- The token outputs the kernel ends with. -/
theorem kernel_token (g : Fin 32) (s : Fin 8) (n : Fin 64) :
    ((dats m 0 c).arrAt 12 cfg0.N : FVec Ideal S4096x8x64 .f32) (ix3 ⟨t.val * 32 + g, by have := lt_N t; omega⟩ s n)
      = finish (fun x => ((D.out t g s x : ℝ) : EReal)) (fun x => ((D.r (t.val * 8 + s) (g * 64 + x) : ℝ) : EReal))
          (fun x => ((D.key t g s x : ℝ) : EReal))
          (fun x => (arg m c main_arg9 : FVec Ideal S1x32x64 .f32) (ix3 0 g x))
          (fun x => ((D.v (t.val * 8 + s) (g * 64 + x) : ℝ) : EReal))
          ((arg m c main_arg10 : FVec Ideal S1x2048 .f32) (ix2 0 ⟨g * 64 + n, by omega⟩))
          ((arg m c main_arg11 : FVec Ideal S1x2048 .f32) (ix2 0 ⟨g * 64 + n, by omega⟩))
          ((arg m c main_arg5 : FVec Ideal S1024x2048 .f32) (ix2 ⟨t.val * 8 + s, by have := lt_N t; omega⟩ ⟨g * 64 + n, by omega⟩)) n := by
  refine (final12 m c t g s n).trans ((token_value (rowsOfSeq D t) (hold0 A t) (hold1 A t) (hold2 A t) (hold3 A t) (hold4 A t)
    (hold6 A t) (hold7 A t) (hold8 A t) g s n).trans ?_)
  rw [rows_r D t g s s.isLt, rows_key D t g s s.isLt, rows_v D t g s s.isLt]
  simp only [rows_out D t g s s.isLt]
  have e9 : ∀ x, (iblk m c 9 t : FVec Ideal S32x1x64 .f32) (ix3 g 0 x) = (arg m c main_arg9 : FVec Ideal S1x32x64 .f32) (ix3 0 g x) :=
    fun x => (block9 m c t g 0 x).trans (host9 m c g x)
  have e10 := (block10 m c t g 0 n).trans (host10 m c g n)
  have e11 := (block11 m c t g 0 n).trans (host11 m c g n)
  have e5 := (block5 m c t g s n).trans (host5 m c t g s n)
  congr 1
  exact funext e9

end Cert.KernelIdeal.Layout
end
-- ==== Proof.RefLoop.lean ====
/-
  The reference's loop at real inputs: after `k` trips its state is the delta-rule recurrence's after `k` tokens, and the
  rows of its outputs below `k` are the states read by the receptances.
-/
module

public import proofs.«01_k».proof.Proof.Gen.ReferenceIdeal.Run
public import proofs.«01_k».proof.Proof.Chunk
public import proofs.«01_k».proof.Proof.Scalars
public import Idealize.ShloMosaic.Lib.Pointwise
public import Idealize.ShloMosaic.Lib.DynamicIndex
public import Idealize.ShloMosaic.Lib.Pipeline.Value

@[expose] public section

set_option maxRecDepth 16384

noncomputable section

namespace Cert.ReferenceIdeal.Loop

open Cert.ReferenceIdeal Cert.ReferenceIdeal.Gen Cert.ReferenceIdeal.Value Idealize.ShloMosaic
open Cert.Proof Cert.Proof.Scalars

/-- The start of the loop's slices at the counter `c`. -/
def start (c : IVec S_ 32) : Fin 4 → Int := fun k =>
  ((![c, constantI S_ 32 0#32, constantI S_ 32 0#32, constantI S_ 32 0#32] : Fin 4 → IVec S_ 32) k (Shape.Idx.first h_S_)).toInt

/-- The counter at trip `k`. -/
def ctr (k : ℕ) : IVec S_ 32 := fun _ => Scf.iv 0#32 1#32 k

theorem start_ctr (k : ℕ) (hk : k < 8) (a : Fin 4) : start (ctr k) a = ((![k, 0, 0, 0] : Fin 4 → ℕ) a : ℤ) := by
  interval_cases k <;> fin_cases a <;> rfl

/-- Token `c`'s rows of an array over all tokens. -/
def rowsAt (x : FVec Ideal S8x128x32x64 .f32) (c : IVec S_ 32) : FVec Ideal S128x32x64 .f32 :=
  shapeCast S128x32x64 (Host.dynamicSlice S1x128x32x64 x (start c) sliceFits_S8x128x32x64_S1x128x32x64)
    shapeCasts_S1x128x32x64_S128x32x64

theorem rowsAt_at (x : FVec Ideal S8x128x32x64 .f32) (k : ℕ) (hk : k < 8) (q : Fin 128) (h : Fin 32) (n : Fin 64) :
    rowsAt x (ctr k) (ix3 q h n) = x (ix4 ⟨k, hk⟩ q h n) := by
  have hs : S8x128x32x64.Slices ![k, 0, 0, 0] S1x128x32x64 := ⟨rfl, fun a => by fin_cases a <;> simp <;> omega⟩
  rw [rowsAt, Host.dynamicSlice_eq_extractStridedSlice S1x128x32x64 x (start (ctr k)) ![k, 0, 0, 0] _ hs (start_ctr k hk)]
  pointwise

/-- The outputs with token `c`'s rows replaced by `u`. -/
def setRows (x : FVec Ideal S8x128x32x64 .f32) (u : FVec Ideal S128x32x64 .f32) (c : IVec S_ 32) : FVec Ideal S8x128x32x64 .f32 :=
  Host.dynamicUpdateSlice x (broadcastInDim S1x128x32x64 ![1, 2, 3] bcast_S128x32x64_S1x128x32x64_1_2_3 u) (start c)
    updateFits_S8x128x32x64_S1x128x32x64

theorem setRows_at (x : FVec Ideal S8x128x32x64 .f32) (u : FVec Ideal S128x32x64 .f32) (k : ℕ) (hk : k < 8) (t : Fin 8)
    (q : Fin 128) (h : Fin 32) (n : Fin 64) :
    setRows x u (ctr k) (ix4 t q h n) = if t.val = k then u (ix3 q h n) else x (ix4 t q h n) := by
  have hs : S8x128x32x64.Slices ![k, 0, 0, 0] S1x128x32x64 := ⟨rfl, fun a => by fin_cases a <;> simp <;> omega⟩
  rw [setRows, Host.dynamicUpdateSlice_eq_updateSlice _ _ _ _ ![k, 0, 0, 0] (fun a => by
    rw [start_ctr k hk]; fin_cases a <;> simp <;> omega) hs]
  by_cases e : t.val = k
  · subst e
    rw [if_pos rfl]
    pointwise
    exact dif_pos ⟨le_rfl, Nat.lt_succ_self _⟩
  · rw [if_neg e]
    pointwise
    exact dif_neg fun hc => e (by omega)

/-- One step of the state. -/
def stepState (s : FVec Ideal S128x32x64x64 .f32) (w a b v k : FVec Ideal S128x32x64 .f32) : FVec Ideal S128x32x64x64 .f32 :=
  addf (addf (mulf s (broadcastInDim S128x32x64x64 ![0, 1, 2, 3] bcast_S128x32x1x64_S128x32x64x64_0_1_2_3
      (broadcastInDim S128x32x1x64 ![0, 1, 3] bcast_S128x32x64_S128x32x1x64_0_1_3 w)))
    (mulf (broadcastInDim S128x32x64x64 ![0, 1, 2, 3] bcast_S128x32x64x1_S128x32x64x64_0_1_2_3
        (broadcastInDim S128x32x64x1 ![0, 1, 2] bcast_S128x32x64_S128x32x64x1_0_1_2
          (Host.dotGeneral dot_S128x32x64x64_S128x32x64_S128x32x64_3_2_2_n_01_01 none s a)))
      (broadcastInDim S128x32x64x64 ![0, 1, 2, 3] bcast_S128x32x1x64_S128x32x64x64_0_1_2_3
        (broadcastInDim S128x32x1x64 ![0, 1, 3] bcast_S128x32x64_S128x32x1x64_0_1_3 b))))
    (mulf (broadcastInDim S128x32x64x64 ![0, 1, 2, 3] bcast_S128x32x64x1_S128x32x64x64_0_1_2_3
        (broadcastInDim S128x32x64x1 ![0, 1, 2] bcast_S128x32x64_S128x32x64x1_0_1_2 v))
      (broadcastInDim S128x32x64x64 ![0, 1, 2, 3] bcast_S128x32x1x64_S128x32x64x64_0_1_2_3
        (broadcastInDim S128x32x1x64 ![0, 1, 3] bcast_S128x32x64_S128x32x1x64_0_1_3 k)))

theorem stepState_at (s : FVec Ideal S128x32x64x64 .f32) (w a b v k : FVec Ideal S128x32x64 .f32) (q : Fin 128) (h : Fin 32)
    (x n : Fin 64) : stepState s w a b v k (ix4 q h x n)
      = s (ix4 q h x n) * w (ix3 q h n) + (∑ m, s (ix4 q h x m) * a (ix3 q h m)) * b (ix3 q h n) + v (ix3 q h x) * k (ix3 q h n) := by
  pointwise [stepState]

/-- The state read by the rows `r`. -/
def readRows (s : FVec Ideal S128x32x64x64 .f32) (r : FVec Ideal S128x32x64 .f32) : FVec Ideal S128x32x64 .f32 :=
  Host.dotGeneral dot_S128x32x64x64_S128x32x64_S128x32x64_3_2_2_n_01_01 none s r

theorem read_at (s : FVec Ideal S128x32x64x64 .f32) (r : FVec Ideal S128x32x64 .f32) (q : Fin 128) (h : Fin 32) (x : Fin 64) :
    readRows s r (ix3 q h x)
      = ∑ m, s (ix4 q h x m) * r (ix3 q h m) := by
  pointwise [readRows]

theorem step_state (V : Valuation τ sig (Elt Ideal)) : step_main_v44_7 V
    = stepState (V (Proc.devRef .tc main_v44_7)) (rowsAt (V (Proc.devRef .tc main_v44_1)) (V (Proc.devRef .tc main_v44_6)))
        (rowsAt (V (Proc.devRef .tc main_v44_4)) (V (Proc.devRef .tc main_v44_6)))
        (rowsAt (V (Proc.devRef .tc main_v44_5)) (V (Proc.devRef .tc main_v44_6)))
        (rowsAt (V (Proc.devRef .tc main_v44_3)) (V (Proc.devRef .tc main_v44_6)))
        (rowsAt (V (Proc.devRef .tc main_v44_2)) (V (Proc.devRef .tc main_v44_6))) := rfl

theorem step_out (V : Valuation τ sig (Elt Ideal)) : step_main_v44_8 V
    = setRows (V (Proc.devRef .tc main_v44_8)) (readRows (step_main_v44_7 V)
        (rowsAt (V (Proc.devRef .tc main_v44_0)) (V (Proc.devRef .tc main_v44_6)))) (V (Proc.devRef .tc main_v44_6)) := by
  unfold step_main_v44_8 step_main_v44_7 setRows readRows rowsAt start
  simp only [id]
  generalize res_main_while0b_v110 V = z
  congr 1

/-- The loop's inputs as reals: per sequence and head, and per token. -/
structure Seqs where
  r : Fin 128 → Fin 32 → ℕ → Fin 64 → ℝ
  w : Fin 128 → Fin 32 → ℕ → Fin 64 → ℝ
  k : Fin 128 → Fin 32 → ℕ → Fin 64 → ℝ
  v : Fin 128 → Fin 32 → ℕ → Fin 64 → ℝ
  a : Fin 128 → Fin 32 → ℕ → Fin 64 → ℝ
  b : Fin 128 → Fin 32 → ℕ → Fin 64 → ℝ
  s0 : Fin 128 → Fin 32 → Fin 64 → Fin 64 → ℝ

/-- The recurrence's state after `k` tokens. -/
def Seqs.st (Z : Seqs) (q : Fin 128) (h : Fin 32) : ℕ → Fin 64 → Fin 64 → ℝ :=
  Chunk.state (Z.s0 q h) (Z.w q h) (Z.a q h) (Z.b q h) (Z.k q h) (Z.v q h)

/-- The recurrence's output at token `t`. -/
def Seqs.out (Z : Seqs) (q : Fin 128) (h : Fin 32) (t : ℕ) (x : Fin 64) : ℝ := ∑ n, Z.st q h (t + 1) x n * Z.r q h t n

/-- An array over tokens, sequences and heads holds the reals `f`. -/
def HoldsTok (x : FVec Ideal S8x128x32x64 .f32) (f : Fin 128 → Fin 32 → ℕ → Fin 64 → ℝ) : Prop :=
  ∀ (t : Fin 8) q h n, x (ix4 t q h n) = ((f q h t n : ℝ) : EReal)

/-- The carried buffers before trip `k`. -/
structure Inv (V : Valuation τ sig (Elt Ideal)) (Z : Seqs) (i : ℕ) : Prop where
  r : HoldsTok (V (Proc.devRef .tc main_v44_0)) Z.r
  w : HoldsTok (V (Proc.devRef .tc main_v44_1)) (fun q h t n => Real.exp (Z.w q h t n))
  k : HoldsTok (V (Proc.devRef .tc main_v44_2)) Z.k
  v : HoldsTok (V (Proc.devRef .tc main_v44_3)) Z.v
  a : HoldsTok (V (Proc.devRef .tc main_v44_4)) Z.a
  b : HoldsTok (V (Proc.devRef .tc main_v44_5)) Z.b
  c : V (Proc.devRef .tc main_v44_6) = ctr i
  s : ∀ q h x n, (V (Proc.devRef .tc main_v44_7) : FVec Ideal S128x32x64x64 .f32) (ix4 q h x n) = ((Z.st q h i x n : ℝ) : EReal)
  o : ∀ (t : Fin 8) q h x, t.val < i → (V (Proc.devRef .tc main_v44_8) : FVec Ideal S8x128x32x64 .f32) (ix4 t q h x) = ((Z.out q h t x : ℝ) : EReal)

theorem new_state {V : Valuation τ sig (Elt Ideal)} {Z : Seqs} {k : ℕ} (I : Inv V Z k) (hk : k < 8) (q : Fin 128) (h : Fin 32)
    (x n : Fin 64) : (step_main_v44_7 V : FVec Ideal S128x32x64x64 .f32) (ix4 q h x n) = ((Z.st q h (k + 1) x n : ℝ) : EReal) := by
  rw [step_state, stepState_at, I.c]
  simp only [rowsAt_at _ k hk, I.s, I.w _ _ _ _, I.k _ _ _ _, I.v _ _ _ _, I.a _ _ _ _, I.b _ _ _ _]
  simp only [← EReal.coe_mul, ← coe_sum, ← EReal.coe_add]
  rfl

/-- One trip. -/
theorem step_inv {V : Valuation τ sig (Elt Ideal)} {Z : Seqs} {k : ℕ} (I : Inv V Z k) (hk : k < 8) : Inv (STEP V) Z (k + 1) where
  r := by rw [STEP_main_v44_0]; exact I.r
  w := by rw [STEP_main_v44_1]; exact I.w
  k := by rw [STEP_main_v44_2]; exact I.k
  v := by rw [STEP_main_v44_3]; exact I.v
  a := by rw [STEP_main_v44_4]; exact I.a
  b := by rw [STEP_main_v44_5]; exact I.b
  c := by
    rw [STEP_main_v44_6, step_main_v44_6, I.c]
    funext i
    show Scf.iv 0#32 1#32 k + 1#32 = Scf.iv 0#32 1#32 (k + 1)
    rw [Scf.iv_succ]
  s := fun q h x n => by rw [STEP_main_v44_7]; exact new_state I hk q h x n
  o := fun t q h x ht => by
    rw [STEP_main_v44_8, step_out, I.c]
    refine (setRows_at _ _ k hk t q h x).trans ?_
    split
    · next e =>
      subst e
      rw [read_at]
      simp only [new_state I hk, rowsAt_at _ _ hk, I.r _ _ _ _]
      simp only [← EReal.coe_mul, ← coe_sum]
      rfl
    · next e => exact I.o t q h x (by omega)

theorem inv_iterate {V : Valuation τ sig (Elt Ideal)} {Z : Seqs} (I : Inv V Z 0) : ∀ k ≤ 8, Inv (STEP^[k] V) Z k
  | 0, _ => I
  | k + 1, hk => by
    rw [Function.iterate_succ_apply']
    exact step_inv (inv_iterate I k (by omega)) (by omega)

end Cert.ReferenceIdeal.Loop

end
-- ==== Proof.RefValue.lean ====
/-
  What the reference computes at real inputs: its two results, entry by entry.
-/
module

public import proofs.«01_k».proof.Proof.RefLoop
public import proofs.«01_k».proof.Proof.Data
public import Idealize.ShloMosaic.Lib.Tactic.CleanTypes

@[expose] public section

set_option maxRecDepth 16384

noncomputable section

namespace Cert.ReferenceIdeal.Loop

open Cert.ReferenceIdeal Cert.ReferenceIdeal.Gen Cert.ReferenceIdeal.Value
open Idealize.ShloMosaic Idealize.ShloMosaic.TcCoe Idealize.ShloMosaic.StableHlo
open Cert.Proof Cert.Proof.Scalars
open Idealize.SL.Sem

variable (m : (ℓ : Loc nD τ sig) → Buf (Elt Ideal) ℓ) (c : Dev nD)

/-- The reference's arguments hold the real inputs `D`. -/
structure HoldsArgs (D : Data) : Prop where
  r : ∀ i j, (launchContents m c (Proc.devRef .tc main_arg0) : FVec Ideal S1024x2048 .f32) (ix2 i j) = ((D.r i j : ℝ) : EReal)
  w : ∀ i j, (launchContents m c (Proc.devRef .tc main_arg1) : FVec Ideal S1024x2048 .f32) (ix2 i j) = ((D.w i j : ℝ) : EReal)
  k : ∀ i j, (launchContents m c (Proc.devRef .tc main_arg2) : FVec Ideal S1024x2048 .f32) (ix2 i j) = ((D.k i j : ℝ) : EReal)
  v : ∀ i j, (launchContents m c (Proc.devRef .tc main_arg3) : FVec Ideal S1024x2048 .f32) (ix2 i j) = ((D.v i j : ℝ) : EReal)
  a : ∀ i j, (launchContents m c (Proc.devRef .tc main_arg4) : FVec Ideal S1024x2048 .f32) (ix2 i j) = ((D.a i j : ℝ) : EReal)
  s0 : ∀ q h x n, (launchContents m c (Proc.devRef .tc main_arg6) : FVec Ideal S1x128x32x64x64 .f32) (ix5 0 q h x n)
    = ((D.s0 q h x n : ℝ) : EReal)
  kk : ∀ j, (launchContents m c (Proc.devRef .tc main_arg7) : FVec Ideal S1x2048 .f32) (ix2 0 j) = ((D.kk j : ℝ) : EReal)
  ka : ∀ j, (launchContents m c (Proc.devRef .tc main_arg8) : FVec Ideal S1x2048 .f32) (ix2 0 j) = ((D.ka j : ℝ) : EReal)

/-- The loop's inputs from the real inputs. -/
def seqs (D : Data) : Seqs where
  r q h t n := D.r (q * 8 + t) (h * 64 + n)
  w q h t n := D.w (q * 8 + t) (h * 64 + n)
  k q h t n := D.key q h t n
  v q h t n := D.v (q * 8 + t) (h * 64 + n)
  a q h t n := -D.dir q h t n
  b q h t n := D.dir q h t n * D.a (q * 8 + t) (h * 64 + n)
  s0 q h := D.s0 q h

variable {m c} {D : Data} (A : HoldsArgs m c D)

/-- The removal key from its two arrays. -/
theorem dir_value {f : FVec Ideal S1024x2048 .f32} {g : FVec Ideal S1x2048 .f32} (hf : ∀ i j, f (ix2 i j) = ((D.k i j : ℝ) : EReal))
    (hg : ∀ j, g (ix2 0 j) = ((D.kk j : ℝ) : EReal)) (t : Fin 8) (q : Fin 128) (h : Fin 32) (n : Fin 64) :
    Ideal.div (f (ix2 ⟨q * 8 + t, by omega⟩ ⟨h * 64 + n, by omega⟩) * g (ix2 0 ⟨h * 64 + n, by omega⟩))
      (max (Ideal.sqrt (∑ x : Fin 64, f (ix2 ⟨q * 8 + t, by omega⟩ ⟨h * 64 + x, by omega⟩) * g (ix2 0 ⟨h * 64 + x, by omega⟩)
        * (f (ix2 ⟨q * 8 + t, by omega⟩ ⟨h * 64 + x, by omega⟩) * g (ix2 0 ⟨h * 64 + x, by omega⟩)))) (Ideal.ofBits .f32 730643660#32))
      = ((D.dir q h t n : ℝ) : EReal) := by
  simp only [hf, hg, ← EReal.coe_mul]
  rw [show Ideal.ofBits .f32 730643660#32 = _ from ofBits_eps]
  exact unit_at (fun x : Fin 64 => D.k (q * 8 + t) (h * 64 + x) * D.kk (h * 64 + x)) n

/-- The replacement key from its three arrays. -/
theorem key_value {f a : FVec Ideal S1024x2048 .f32} {g : FVec Ideal S1x2048 .f32} (hf : ∀ i j, f (ix2 i j) = ((D.k i j : ℝ) : EReal))
    (ha : ∀ i j, a (ix2 i j) = ((D.a i j : ℝ) : EReal))
    (hg : ∀ j, g (ix2 0 j) = ((D.ka j : ℝ) : EReal)) (t : Fin 8) (q : Fin 128) (h : Fin 32) (n : Fin 64) :
    f (ix2 ⟨q * 8 + t, by omega⟩ ⟨h * 64 + n, by omega⟩)
      * (1 + (a (ix2 ⟨q * 8 + t, by omega⟩ ⟨h * 64 + n, by omega⟩) - 1) * g (ix2 0 ⟨h * 64 + n, by omega⟩))
      = ((D.key q h t n : ℝ) : EReal) := by
  rw [hf, ha, hg]
  norm_cast

include A in
theorem entry_r : HoldsTok (entryContents preI m c (Proc.devRef .tc main_v44_0)) (seqs D).r := by
  intro t q h n
  simp only [entryContents, afterL_cons, afterL_nil]
  after_reads_simp
  clean_types
  simp only [id]
  pointwise
  exact A.r _ _

include A in
theorem entry_w : HoldsTok (entryContents preI m c (Proc.devRef .tc main_v44_1)) (fun q h t n => Real.exp ((seqs D).w q h t n)) := by
  intro t q h n
  simp only [entryContents, afterL_cons, afterL_nil]
  after_reads_simp
  clean_types
  simp only [id]
  pointwise
  exact (congrArg Ideal.exp (A.w _ _)).trans (Ideal.exp_coe _)

include A in
theorem entry_k : HoldsTok (entryContents preI m c (Proc.devRef .tc main_v44_2)) (seqs D).k := by
  intro t q h n
  simp only [entryContents, afterL_cons, afterL_nil]
  after_reads_simp
  clean_types
  simp only [id]
  pointwise
  exact key_value A.k A.a A.ka t q h n

include A in
theorem entry_v : HoldsTok (entryContents preI m c (Proc.devRef .tc main_v44_3)) (seqs D).v := by
  intro t q h n
  simp only [entryContents, afterL_cons, afterL_nil]
  after_reads_simp
  clean_types
  simp only [id]
  pointwise
  exact A.v _ _

include A in
theorem entry_a : HoldsTok (entryContents preI m c (Proc.devRef .tc main_v44_4)) (seqs D).a := by
  intro t q h n
  simp only [entryContents, afterL_cons, afterL_nil]
  after_reads_simp
  clean_types
  simp only [id]
  pointwise
  exact (congrArg Neg.neg (dir_value A.k A.kk t q h n)).trans (EReal.coe_neg _).symm

include A in
theorem entry_b : HoldsTok (entryContents preI m c (Proc.devRef .tc main_v44_5)) (seqs D).b := by
  intro t q h n
  simp only [entryContents, afterL_cons, afterL_nil]
  after_reads_simp
  clean_types
  simp only [id]
  pointwise
  exact (congrArg₂ (· * ·) (dir_value A.k A.kk t q h n) (A.a _ _)).trans (EReal.coe_mul _ _).symm

include A in
theorem entry_s (q : Fin 128) (h : Fin 32) (x n : Fin 64) :
    (entryContents preI m c (Proc.devRef .tc main_v44_7) : FVec Ideal S128x32x64x64 .f32) (ix4 q h x n)
      = ((D.s0 q h x n : ℝ) : EReal) := by
  simp only [entryContents, afterL_cons, afterL_nil]
  after_reads_simp
  clean_types
  simp only [id]
  pointwise
  exact A.s0 _ _ _ _

theorem entry_c : entryContents preI m c (Proc.devRef .tc main_v44_6) = ctr 0 := by
  rw [ctr_entry]
  funext i
  exact (Scf.iv_zero _ _).symm

include A in
/-- The loop begins with the real inputs. -/
theorem entry : Inv (entryContents preI m c) (seqs D) 0 where
  r := entry_r A
  w := entry_w A
  k := entry_k A
  v := entry_v A
  a := entry_a A
  b := entry_b A
  c := entry_c
  s := entry_s A
  o := fun t q h x ht => absurd ht (by omega)

/-! ### What the operations after the loop read -/

include A in
theorem entry_rh (q : Fin 128) (t : Fin 8) (h : Fin 32) (n : Fin 64) :
    (entryContents preI m c (Proc.devRef .tc main_v29) : FVec Ideal S128x8x32x64 .f32) (ix4 q t h n)
      = ((D.r (q * 8 + t) (h * 64 + n) : ℝ) : EReal) := by
  simp only [entryContents, afterL_cons, afterL_nil]
  after_reads_simp
  clean_types
  pointwise
  exact A.r _ _

include A in
theorem entry_kh (q : Fin 128) (t : Fin 8) (h : Fin 32) (n : Fin 64) :
    (entryContents preI m c (Proc.devRef .tc main_v30) : FVec Ideal S128x8x32x64 .f32) (ix4 q t h n)
      = ((D.key q h t n : ℝ) : EReal) := by
  simp only [entryContents, afterL_cons, afterL_nil]
  after_reads_simp
  clean_types
  pointwise
  exact key_value A.k A.a A.ka t q h n

include A in
theorem entry_vh (q : Fin 128) (t : Fin 8) (h : Fin 32) (n : Fin 64) :
    (entryContents preI m c (Proc.devRef .tc main_v31) : FVec Ideal S128x8x32x64 .f32) (ix4 q t h n)
      = ((D.v (q * 8 + t) (h * 64 + n) : ℝ) : EReal) := by
  simp only [entryContents, afterL_cons, afterL_nil]
  after_reads_simp
  clean_types
  pointwise
  exact A.v _ _

theorem entry_gate (q : Fin 128) (t : Fin 8) (j : Fin 2048) :
    (entryContents preI m c (Proc.devRef .tc main_v5) : FVec Ideal S128x8x2048 .f32) (ix3 q t j)
      = (launchContents m c (Proc.devRef .tc main_arg5) : FVec Ideal S1024x2048 .f32) (ix2 ⟨q * 8 + t, by omega⟩ j) := by
  simp only [entryContents, afterL_cons, afterL_nil]
  after_reads_simp
  clean_types
  pointwise

/-- The buffers the loop writes. -/
abbrev loopWrites : List (List (Ref sig .tc)) := [condOps_W, while0Ops0_W, while0Ops0_1_W, while0Ops0_2_W, while0Ops0_3_W,
  while0Ops0_4_W, while0Ops0_5_W, while0Ops0_6_W, while0Ops0_7_W, while0Ops0_8_W]

/-- A buffer the loop does not write holds at every trip what it held at the entry. -/
theorem loop_keeps (b : Ref sig .tc) (hb : ∀ W ∈ loopWrites, b ∉ W) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub _ _ while0Ops0_8_writes (hb _ (by simp)), after_of_writes_sub _ _ while0Ops0_7_writes (hb _ (by simp)),
      after_of_writes_sub _ _ while0Ops0_6_writes (hb _ (by simp)), after_of_writes_sub _ _ while0Ops0_5_writes (hb _ (by simp)),
      after_of_writes_sub _ _ while0Ops0_4_writes (hb _ (by simp)), after_of_writes_sub _ _ while0Ops0_3_writes (hb _ (by simp)),
      after_of_writes_sub _ _ while0Ops0_2_writes (hb _ (by simp)), after_of_writes_sub _ _ while0Ops0_1_writes (hb _ (by simp)),
      after_of_writes_sub _ _ while0Ops0_writes (hb _ (by simp)), after_of_writes_sub _ _ condOps_writes (hb _ (by simp))]
    exact loop_keeps b hb k

/-- Likewise after the loop. -/
theorem end_keeps (b : Ref sig .tc) (hb : ∀ W ∈ loopWrites, b ∉ W) :
    after condOps (atK m 8 c) (Proc.devRef .tc b) = entryContents preI m c (Proc.devRef .tc b) := by
  rw [after_of_writes_sub _ _ condOps_writes (hb _ (by simp))]
  exact loop_keeps b hb 8

/-- A buffer carried round the loop, after it. -/
theorem end_carried (b : Ref sig .tc) (hb : b ∈ carriedRefs) :
    after condOps (atK m 8 c) (Proc.devRef .tc b) = STEP^[8] (entryContents preI m c) (Proc.devRef .tc b) :=
  (cond_keeps _ b hb).trans (atK_agree m c 8 b hb)

/-- The arguments are not written before the loop. -/
theorem entry_arg (b : Ref sig .tc) (hb : b ∉ hostOps0_W) :
    entryContents preI m c (Proc.devRef .tc b) = launchContents m c (Proc.devRef .tc b) :=
  after_of_writes_sub _ _ hostOps0_writes hb

/-- The reference's token outputs after the operations that follow the loop, of the contents before them. -/
theorem post_token (V : Valuation τ sig (Elt Ideal)) (q : Fin 128) (h : Fin 32) (t : Fin 8) (n : Fin 64) :
    (after hostOps0_1 V (Proc.devRef .tc main_v87) : FVec Ideal S4096x8x64 .f32) (ix3 ⟨q * 32 + h, by omega⟩ t n)
      = finish (fun x => (V (Proc.devRef .tc main_v44_8) : FVec Ideal S8x128x32x64 .f32) (ix4 t q h x))
          (fun x => (V (Proc.devRef .tc main_v29) : FVec Ideal S128x8x32x64 .f32) (ix4 q t h x))
          (fun x => (V (Proc.devRef .tc main_v30) : FVec Ideal S128x8x32x64 .f32) (ix4 q t h x))
          (fun x => (V (Proc.devRef .tc main_arg9) : FVec Ideal S1x32x64 .f32) (ix3 0 h x))
          (fun x => (V (Proc.devRef .tc main_v31) : FVec Ideal S128x8x32x64 .f32) (ix4 q t h x))
          ((V (Proc.devRef .tc main_arg10) : FVec Ideal S1x2048 .f32) (ix2 0 ⟨h * 64 + n, by omega⟩))
          ((V (Proc.devRef .tc main_arg11) : FVec Ideal S1x2048 .f32) (ix2 0 ⟨h * 64 + n, by omega⟩))
          ((V (Proc.devRef .tc main_v5) : FVec Ideal S128x8x2048 .f32) (ix3 q t ⟨h * 64 + n, by omega⟩)) n := by
  have e1 : ∀ hh, (⟨(h.val * 64 + n.val) / 64, hh⟩ : Fin 32) = h := fun hh => Fin.ext (by show (h.val * 64 + n.val) / 64 = _; omega)
  have e2 : ∀ hh, (⟨(h.val * 64 + n.val) % 64, hh⟩ : Fin 64) = n := fun hh => Fin.ext (by show (h.val * 64 + n.val) % 64 = _; omega)
  after_reads_simp
  clean_types
  pointwise
  simp only [e1, e2]
  rfl

/-- The reference's states after the operations that follow the loop. -/
theorem post_state (V : Valuation τ sig (Elt Ideal)) (q : Fin 128) (h : Fin 32) (x n : Fin 64) :
    (after hostOps0_1 V (Proc.devRef .tc main_v88) : FVec Ideal S4096x64x64 .f32) (ix3 ⟨q * 32 + h, by omega⟩ x n)
      = (V (Proc.devRef .tc main_v44_7) : FVec Ideal S128x32x64x64 .f32) (ix4 q h x n) := by
  after_reads_simp
  clean_types
  pointwise

theorem seqs_st (q : Fin 128) (h : Fin 32) : (seqs D).st q h = D.st q h := rfl

theorem seqs_out (q : Fin 128) (h : Fin 32) (t : ℕ) (x : Fin 64) : (seqs D).out q h t x = D.out q h t x := rfl

include A in
/-- The states the reference ends with. -/
theorem final_state (q : Fin 128) (h : Fin 32) (x n : Fin 64) :
    (finalContents condOps preI bodyI postI 8 m c (Proc.devRef .tc main_v88) : FVec Ideal S4096x64x64 .f32)
      (ix3 ⟨q * 32 + h, by omega⟩ x n) = ((D.st q h 8 x n : ℝ) : EReal) := by
  rw [finalContents, afterL_cons, afterL_nil, post_state, end_carried main_v44_7 (by decide),
    (inv_iterate (entry A) 8 le_rfl).s, seqs_st]

include A in
/-- The token outputs the reference ends with. -/
theorem final_token (q : Fin 128) (h : Fin 32) (t : Fin 8) (n : Fin 64) :
    (finalContents condOps preI bodyI postI 8 m c (Proc.devRef .tc main_v87) : FVec Ideal S4096x8x64 .f32)
      (ix3 ⟨q * 32 + h, by omega⟩ t n)
      = finish (fun x => ((D.out q h t x : ℝ) : EReal)) (fun x => ((D.r (q * 8 + t) (h * 64 + x) : ℝ) : EReal))
          (fun x => ((D.key q h t x : ℝ) : EReal))
          (fun x => (launchContents m c (Proc.devRef .tc main_arg9) : FVec Ideal S1x32x64 .f32) (ix3 0 h x))
          (fun x => ((D.v (q * 8 + t) (h * 64 + x) : ℝ) : EReal))
          ((launchContents m c (Proc.devRef .tc main_arg10) : FVec Ideal S1x2048 .f32) (ix2 0 ⟨h * 64 + n, by omega⟩))
          ((launchContents m c (Proc.devRef .tc main_arg11) : FVec Ideal S1x2048 .f32) (ix2 0 ⟨h * 64 + n, by omega⟩))
          ((launchContents m c (Proc.devRef .tc main_arg5) : FVec Ideal S1024x2048 .f32) (ix2 ⟨q * 8 + t, by omega⟩ ⟨h * 64 + n, by omega⟩)) n := by
  rw [finalContents, afterL_cons, afterL_nil, post_token, end_carried main_v44_8 (by decide),
    end_keeps main_v29 (by decide), end_keeps main_v30 (by decide), end_keeps main_v31 (by decide), end_keeps main_v5 (by decide),
    end_keeps main_arg9 (by decide), end_keeps main_arg10 (by decide), end_keeps main_arg11 (by decide),
    entry_arg main_arg9 (by decide), entry_arg main_arg10 (by decide), entry_arg main_arg11 (by decide), entry_gate]
  simp only [entry_rh A, entry_kh A, entry_vh A, (inv_iterate (entry A) 8 le_rfl).o t q h _ t.isLt, seqs_out]

/-- The argument arrays. -/
abbrev argRefs : List (Ref sig .tc) := [main_arg0, main_arg1, main_arg2, main_arg3, main_arg4, main_arg5, main_arg6, main_arg7, main_arg8,
  main_arg9, main_arg10, main_arg11]

/-- The buffers written after the loop, in order. -/
abbrev postWrites : List (Ref sig .tc) := [main_v45, main_cst_4, main_v46, main_v47, main_cst_5, main_v48, main_v49, main_v50, main_v51,
  main_v52, main_cst_6, main_v53, main_v54, main_cst_7, main_v55, main_v56, main_v57, main_v58, main_cst_8, main_v59, main_v60, main_v61,
  main_v62, main_v63, main_v64, main_v65, main_v66, main_v67, main_v68, main_v69, main_v70, main_v71, main_v72, main_v73, main_v74,
  main_v75, main_v76, main_v77, main_cst_9, main_v78, main_v79, main_v80, main_v81, main_v82, main_v83, main_v84, main_v85, main_v86,
  main_v87, main_v88]

theorem post_writes : (hostOps0_1 : List (HloOp τ sig (Elt Ideal))).Forall fun op =>
    op.writes ⊆ (postWrites.map (Proc.devRef (τ := τ) .tc)).toFinset :=
  StableHlo.forall_writes_sub_of_map rfl

/-- The arguments end as they were launched. -/
theorem final_arg (b : Ref sig .tc) (hb : b ∈ argRefs) :
    finalContents condOps preI bodyI postI 8 m c (Proc.devRef .tc b) = launchContents m c (Proc.devRef .tc b) := by
  have h1 : b ∉ postWrites := by revert b; decide
  have h2 : ∀ W ∈ loopWrites, b ∉ W := by revert b; decide
  have h3 : b ∉ hostOps0_W := by revert b; decide
  rw [finalContents, afterL_cons, afterL_nil, after_of_writes_sub _ _ post_writes h1, end_keeps b h2, entry_arg b h3]

end Cert.ReferenceIdeal.Loop
end
-- ==== Proof.ScanPrompt.Items.lean ====
/-
  One block of the chunked scan (512 tokens, two pairs of heads): a chunk of 64 tokens of one pair as ONE function of the
  chunk's rows and the pair's state, and the block's new states as that function applied to its eight chunks in turn.
-/
module

public import proofs.«01_k».proof.Proof.Gen.ScanPromptIdeal.Frame

@[expose] public section

set_option maxRecDepth 65536

noncomputable section

namespace Cert.ScanPromptIdeal.Items

open Cert.ScanPromptIdeal Cert.ScanPromptIdeal.Gen Idealize.ShloMosaic Idealize.ShloMosaic.TcCoe

variable {F : FTy → Type} [FloatOps F]

/-- The token's number in its chunk. -/
abbrev tok : IVec S64x1 32 := iota .tc S64x1 32 [0] iota_S64x1_d0_w32

/-- The zero of the chunk's masks. -/
abbrev zero : F .f32 := Scalar.ofBits .f32 0x00000000#32

/-- The summed log decays of the chunk's tokens. -/
def cumOf (w : Vec F S64x128 .f32) : FVec F S64x128 .f32 := k0_pay15 tok (k0_pay12 tok w) (k0_pay13 tok) (k0_pay14 tok w) zero

/-- The removal keys. -/
def dirOf (k : Vec F S64x128 .f32) (kk : Vec F S1x128 .f32) : FVec F S64x128 .f32 := k0_pay8 k0_pay3 k kk

/-- The replacement keys. -/
def keyOf (k a : Vec F S64x128 .f32) (ka : Vec F S1x128 .f32) : FVec F S64x128 .f32 := k0_pay10 k (k0_pay9 a ka)

/-- The decayed removal keys over the decayed receptances, unrounded. -/
def arOf (r w k : Vec F S64x128 .f32) (kk : Vec F S1x128 .f32) : FVec F S256x128 .f32 :=
  k0_pay19 k0_pay3 tok r w (dirOf k kk) (k0_pay12 tok w) (k0_pay13 tok) (k0_pay14 tok w) zero

def arHi (r w k : Vec F S64x128 .f32) (kk : Vec F S1x128 .f32) : FVec F S256x128 .bf16 :=
  k0_pay20 k0_pay3 tok r w (dirOf k kk) (k0_pay12 tok w) (k0_pay13 tok) (k0_pay14 tok w) zero

def arLo (r w k : Vec F S64x128 .f32) (kk : Vec F S1x128 .f32) : FVec F S256x128 .bf16 :=
  k0_pay21 k0_pay3 tok r w (dirOf k kk) (k0_pay12 tok w) (k0_pay13 tok) (k0_pay14 tok w) zero

/-- The rescaled `b` rows. -/
def btOf (w k a : Vec F S64x128 .f32) (kk : Vec F S1x128 .f32) : FVec F S64x128 .f32 :=
  k0_pay17 tok a (dirOf k kk) (k0_pay12 tok w) (k0_pay13 tok) (k0_pay14 tok w) zero

/-- The rescaled `k` rows. -/
def ktOf (w k a : Vec F S64x128 .f32) (ka : Vec F S1x128 .f32) : FVec F S64x128 .f32 :=
  k0_pay18 tok (keyOf k a ka) (k0_pay12 tok w) (k0_pay13 tok) (k0_pay14 tok w) zero

/-- The strictly lower triangular system's matrix. -/
def aabOf (r w k a : Vec F S64x128 .f32) (kk ka : Vec F S1x128 .f32) : FVec F S128x128 .f32 :=
  k0_pay28 k0_pay3 k0_pay6 (btOf w k a kk) (ktOf w k a ka) (arHi r w k kk) zero (k0_pay22 k0_pay3)

/-- `A + … + A ^ 63` by doubling. -/
def powersOf (A : FVec F S128x128 .f32) : FVec F S128x128 .f32 :=
  k0_pay640 (k0_pay603 (k0_pay568 (k0_pay531 (k0_pay478 A) (k0_pay495 A (k0_pay478 A))) (k0_pay551 (k0_pay515 (k0_pay478 A))))
    (k0_pay586 (k0_pay551 (k0_pay515 (k0_pay478 A))))) (k0_pay623 (k0_pay586 (k0_pay551 (k0_pay515 (k0_pay478 A)))))

/-- The values read by the strictly lower triangular matrix of the replacement keys. -/
def akvOf (r w k v a : Vec F S64x128 .f32) (kk ka : Vec F S1x128 .f32) : FVec F S128x128 .f32 :=
  k0_pay34 (k0_pay30 k0_pay3 v)
    (k0_pay33 k0_pay3 k0_pay6 (btOf w k a kk) (ktOf w k a ka) (arHi r w k kk) zero (k0_pay22 k0_pay3))

/-- The pair's state after the chunk. -/
def step (r w k v a : Vec F S64x128 .f32) (kk ka : Vec F S1x128 .f32) (s : FVec F S128x128 .f32) : FVec F S128x128 .f32 :=
  k0_pay673 (arHi r w k kk) (arLo r w k kk)
    (k0_pay24 k0_pay3 (btOf w k a kk) (ktOf w k a ka) zero (k0_pay22 k0_pay3))
    (k0_pay25 k0_pay3 (btOf w k a kk) (ktOf w k a ka) zero (k0_pay22 k0_pay3))
    (k0_pay30 k0_pay3 v) (k0_pay31 k0_pay3 v) (akvOf r w k v a kk ka) (k0_pay36 (cumOf w))
    (k0_pay651 (powersOf (aabOf r w k a kk ka))) s

theorem inb_chunk (q : Fin 8) (p : Fin 2) : ∀ a, (![64 * q.val, 128 * p.val] : Fin 2 → Nat) a + S64x128.size a ≤ S512x256.size a := by
  revert q p; decide

theorem inb_row (p : Fin 2) : ∀ a, (![0, 128 * p.val] : Fin 2 → Nat) a + S1x128.size a ≤ S1x256.size a := by
  revert p; decide

theorem inb_pair (p : Fin 2) : ∀ a, (![p.val, 0, 0] : Fin 3 → Nat) a + S1x128x128.size a ≤ S2x128x128.size a := by
  revert p; decide

/-- Chunk `q` of pair `p` in a block of rows. -/
abbrev chunkRect (q : Fin 8) (p : Fin 2) : Rect S512x256 :=
  Rect.unit (s := S512x256) ![64 * q.val, 128 * p.val] S64x128.size (inb_chunk q p)

/-- Pair `p` in a block's row of weights. -/
abbrev rowRect (p : Fin 2) : Rect S1x256 := Rect.unit (s := S1x256) ![0, 128 * p.val] S1x128.size (inb_row p)

/-- Pair `p`'s state in the two states. -/
abbrev pairRect (p : Fin 2) : Rect S2x128x128 := Rect.unit (s := S2x128x128) ![p.val, 0, 0] S1x128x128.size (inb_pair p)

/-- The function `f` of a chunk's number and a state, applied for the eight chunks in turn. -/
def eight {α : Type} (f : Fin 8 → α → α) (s : α) : α := f 7 (f 6 (f 5 (f 4 (f 3 (f 2 (f 1 (f 0 s)))))))

section Block

variable (c : Dev nD) (arg2 : Memref sig .tc .vmem S512x256 .f32) (harg2 : arg2.IsWhole) (arg3 : Memref sig .tc .vmem S512x256 .f32) (harg3 : arg3.IsWhole)
  (arg4 : Memref sig .tc .vmem S512x256 .f32) (harg4 : arg4.IsWhole) (arg5 : Memref sig .tc .vmem S512x256 .f32) (harg5 : arg5.IsWhole)
  (arg6 : Memref sig .tc .vmem S512x256 .f32) (harg6 : arg6.IsWhole) (arg8 : Memref sig .tc .vmem S1x256 .f32) (harg8 : arg8.IsWhole)
  (arg9 : Memref sig .tc .vmem S1x256 .f32) (harg9 : arg9.IsWhole) (arg15 : Memref sig .tc .vmem S2x128x128 .f32) (harg15 : arg15.IsWhole)
  (x0 x1 x2 x3 x4 : Vec F S512x256 .f32) (x6 x7 : Vec F S1x256 .f32) (xs0 : Vec F S2x128x128 .f32)

/-- The step of chunk `q` of pair `p` from the block's memrefs. -/
def stepAt (p : Fin 2) (q : Fin 8) (s : FVec F S128x128 .f32) : FVec F S128x128 .f32 :=
  step (View.readAt (Elt F) arg2.view (chunkRect q p).toLoadRect (harg2.unread x0))
    (View.readAt (Elt F) arg3.view (chunkRect q p).toLoadRect (harg3.unread x1))
    (View.readAt (Elt F) arg4.view (chunkRect q p).toLoadRect (harg4.unread x2))
    (View.readAt (Elt F) arg5.view (chunkRect q p).toLoadRect (harg5.unread x3))
    (View.readAt (Elt F) arg6.view (chunkRect q p).toLoadRect (harg6.unread x4))
    (View.readAt (Elt F) arg8.view (rowRect p).toLoadRect (harg8.unread x6))
    (View.readAt (Elt F) arg9.view (rowRect p).toLoadRect (harg9.unread x7)) s

/-- The piece of pair `p`'s new state. -/
def statePiece (p : Fin 2) (s : FVec F S128x128 .f32) : View.Piece (Elt F) S2x128x128 .f32 :=
  ⟨pairRect p, shapeCast S1x128x128 (eight (stepAt arg2 harg2 arg3 harg3 arg4 harg4 arg5 harg5 arg6 harg6 arg8 harg8 arg9 harg9 x0 x1 x2 x3 x4 x6 x7 p) s) shapeCasts_S128x128_S1x128x128⟩

/-- Pair `p`'s state as the block finds it. -/
def stateAt (p : Fin 2) : FVec F S128x128 .f32 :=
  shapeCast S128x128 (View.readAt (Elt F) arg15.view (pairRect p).toLoadRect (harg15.unread xs0)) shapeCasts_S1x128x128_S128x128

end Block

end Cert.ScanPromptIdeal.Items

end
-- ==== Proof.ScanPrompt.Outputs.lean ====
/-
  The states that one block of the chunked scan stores, for the first block of a pair (which starts from zero states) and for
  a later one.
-/
module

public import proofs.«01_k».proof.Proof.ScanPrompt.Items

@[expose] public section

set_option maxRecDepth 65536

noncomputable section

namespace Cert.ScanPromptIdeal.Items

open Cert.ScanPromptIdeal Cert.ScanPromptIdeal.Gen Idealize.ShloMosaic Idealize.ShloMosaic.TcCoe

variable {F : FTy → Type} [FloatOps F]

/-- The state before chunk `n`. -/
def chain {α : Type} (f : Fin 8 → α → α) (s : α) : ℕ → α
  | 0 => s
  | n + 1 => f (Fin.ofNat 8 n) (chain f s n)

theorem eight_eq {α : Type} (f : Fin 8 → α → α) (s : α) : eight f s = chain f s 8 := rfl

section Block

variable (c : Dev nD)
  (arg2 : Memref sig .tc .vmem S512x256 .f32) (harg2 : arg2.IsWhole)
  (arg3 : Memref sig .tc .vmem S512x256 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S512x256 .bf16) (harg13 : arg13.IsWhole)
  (arg14 : Memref sig .tc .vmem S2x128x128 .f32) (harg14 : arg14.IsWhole)
  (arg15 : Memref sig .tc .vmem S2x128x128 .f32) (harg15 : arg15.IsWhole)
  (arg16 : Memref sig .tc .vmem S512x256 .f32) (harg16 : arg16.IsWhole)
  (arg17 : Memref sig .tc .vmem S512x256 .f32) (harg17 : arg17.IsWhole)
  (x0 x1 x2 x3 x4 x5 : Vec F S512x256 .f32) (x6 x7 x8 x9 x10 : Vec F S1x256 .f32) (xs0 : Vec F S2x128x128 .f32)

theorem inb_states : ∀ a, (![0, 0, 0] : Fin 3 → Nat) a + S2x128x128.size a ≤ S2x128x128.size a := by decide

/-- Pair `p`'s state as the first block of a pair finds it, over the zeros stored. -/
def zeroAt (p : Fin 2) : FVec F S128x128 .f32 :=
  shapeCast S128x128 (View.readCov (Val := Elt F) arg15.view [⟨Rect.unit (s := S2x128x128) ![0, 0, 0] S2x128x128.size inb_states, k0_pay2⟩] (pairRect p).toLoadRect)
    shapeCasts_S1x128x128_S128x128

variable (i : grid0.Coords)

/-- The carried states a first block stores. -/
theorem carried_A (hc : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.1
    = [statePiece arg2 harg2 arg3 harg3 arg4 harg4 arg5 harg5 arg6 harg6 arg8 harg8 arg9 harg9 x0 x1 x2 x3 x4 x6 x7 1 (zeroAt arg15 1), statePiece arg2 harg2 arg3 harg3 arg4 harg4 arg5 harg5 arg6 harg6 arg8 harg8 arg9 harg9 x0 x1 x2 x3 x4 x6 x7 0 (zeroAt arg15 0)] ++ [⟨Rect.unit (s := S2x128x128) ![0, 0, 0] S2x128x128.size inb_states, k0_pay2⟩] := rfl

/-- The states a first block writes out. -/
theorem written_A (hc : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.1
    = [statePiece arg2 harg2 arg3 harg3 arg4 harg4 arg5 harg5 arg6 harg6 arg8 harg8 arg9 harg9 x0 x1 x2 x3 x4 x6 x7 1 (zeroAt arg15 1), statePiece arg2 harg2 arg3 harg3 arg4 harg4 arg5 harg5 arg6 harg6 arg8 harg8 arg9 harg9 x0 x1 x2 x3 x4 x6 x7 0 (zeroAt arg15 0)] := rfl

/-- The carried states a later block stores. -/
theorem carried_B (hc : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xs0).2.2.1
    = [statePiece arg2 harg2 arg3 harg3 arg4 harg4 arg5 harg5 arg6 harg6 arg8 harg8 arg9 harg9 x0 x1 x2 x3 x4 x6 x7 1 (stateAt arg15 harg15 xs0 1), statePiece arg2 harg2 arg3 harg3 arg4 harg4 arg5 harg5 arg6 harg6 arg8 harg8 arg9 harg9 x0 x1 x2 x3 x4 x6 x7 0 (stateAt arg15 harg15 xs0 0)] := rfl

/-- The states a later block writes out. -/
theorem written_B (hc : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xs0).2.1
    = [statePiece arg2 harg2 arg3 harg3 arg4 harg4 arg5 harg5 arg6 harg6 arg8 harg8 arg9 harg9 x0 x1 x2 x3 x4 x6 x7 1 (stateAt arg15 harg15 xs0 1), statePiece arg2 harg2 arg3 harg3 arg4 harg4 arg5 harg5 arg6 harg6 arg8 harg8 arg9 harg9 x0 x1 x2 x3 x4 x6 x7 0 (stateAt arg15 harg15 xs0 0)] := rfl

end Block

end Cert.ScanPromptIdeal.Items

end
-- ==== Proof.ScanPrompt.Chunk64.lean ====
/-
  The strictly lower triangular systems of several groups of sixty-four rows at once, solved by a product form of
  `(1 - A)⁻¹` which is exact because `A ^ 64 = 0` (`solve_eq`), and sums over the rows of one group. Nothing here mentions a
  program.
-/
module

public import proofs.«01_k».proof.Proof.Chunk

@[expose] public section

noncomputable section

namespace Cert.Proof.Chunk64

open Finset

/-- Entries between rows of one group of sixty-four, the column strictly before the row. -/
def before (i j : ℕ) : Prop := i / 64 = j / 64 ∧ j < i

/-- Entries between rows of one group of sixty-four, the column not after the row. -/
def upTo (i j : ℕ) : Prop := i / 64 = j / 64 ∧ j ≤ i

instance (i j : ℕ) : Decidable (before i j) := inferInstanceAs (Decidable (_ ∧ _))
instance (i j : ℕ) : Decidable (upTo i j) := inferInstanceAs (Decidable (_ ∧ _))

/-- A matrix whose entries are zero but between rows of one group, column before row, has its sixty-fourth power zero. -/
theorem pow_zero_of {N : ℕ} (A : Matrix (Fin N) (Fin N) ℝ) (hA : ∀ i j : Fin N, ¬ before i.val j.val → A i j = 0) : A ^ 64 = 0 := by
  have key : ∀ k : ℕ, ∀ i j : Fin N, ¬ (i.val / 64 = j.val / 64 ∧ j.val + k ≤ i.val) → (A ^ k) i j = 0 := by
    intro k
    induction k with
    | zero =>
      intro i j h
      rw [pow_zero, Matrix.one_apply_ne]
      rintro rfl
      exact h ⟨rfl, le_refl _⟩
    | succ k ih =>
      intro i j h
      rw [pow_succ, Matrix.mul_apply]
      refine sum_eq_zero fun l _ => ?_
      by_cases hl : i.val / 64 = l.val / 64 ∧ l.val + k ≤ i.val
      · rw [hA l j (fun hb => h ⟨hl.1.trans hb.1, by have := hb.2; omega⟩), mul_zero]
      · rw [ih i l hl, zero_mul]
  ext i j
  rw [key 64 i j (by omega), Matrix.zero_apply]

/-- One doubling: `P` holds the powers of `A` below `s` and `M` is `A ^ s`; the result holds those below `2 s`. -/
def double {N : ℕ} (P M : Matrix (Fin N) (Fin N) ℝ) : Matrix (Fin N) (Fin N) ℝ := P + M + P * M

theorem double_eq {N : ℕ} (A P M : Matrix (Fin N) (Fin N) ℝ) (h : A * P = P - A + M) :
    A * double P M = double P M - A + M * M := by
  have e : A * double P M = A * P + A * M + (A * P) * M := by rw [double]; noncomm_ring
  rw [e, h, double]
  noncomm_ring

/-- The powers of `A` from the first to the sixty-third, by doubling. -/
def powers {N : ℕ} (A : Matrix (Fin N) (Fin N) ℝ) : Matrix (Fin N) (Fin N) ℝ :=
  double (double (double (double (double A (A ^ 2)) (A ^ 4)) (A ^ 8)) (A ^ 16)) (A ^ 32)

theorem powers_eq {N : ℕ} (A : Matrix (Fin N) (Fin N) ℝ) : A * powers A = powers A - A + A ^ 64 := by
  have h2 : A * A = A - A + A ^ 2 := by rw [sub_self, zero_add, pow_two]
  have h4 := double_eq A _ _ h2
  rw [← pow_add] at h4
  have h8 := double_eq A _ _ h4
  rw [← pow_add] at h8
  have h16 := double_eq A _ _ h8
  rw [← pow_add] at h16
  have h32 := double_eq A _ _ h16
  rw [← pow_add] at h32
  have h64 := double_eq A _ _ h32
  rw [← pow_add] at h64
  exact h64

/-- `U = Y + powers A · Y` solves `U = Y + A · U`. -/
theorem solve_eq {N : ℕ} {γ : Type} (A : Matrix (Fin N) (Fin N) ℝ) (hA : ∀ i j : Fin N, ¬ before i.val j.val → A i j = 0)
    (Y U : Fin N → γ → ℝ) (hU : ∀ i x, U i x = Y i x + ∑ j, powers A i j * Y j x) (i : Fin N) (x : γ) :
    U i x = Y i x + ∑ j, A i j * U j x := by
  have h0 : A * powers A = powers A - A := by
    rw [powers_eq, pow_zero_of A hA, add_zero]
  have e : A.mulVec (fun j => U j x) = (powers A).mulVec (fun j => Y j x) := by
    have hu : (fun j => U j x) = (fun j => Y j x) + (powers A).mulVec (fun j => Y j x) := by
      funext j; exact hU j x
    rw [hu, Matrix.mulVec_add, Matrix.mulVec_mulVec, h0, Matrix.sub_mulVec]
    abel
  rw [hU]
  congr 1
  exact (congrFun e i).symm

/-- A sum over all rows of the entries before row `64 g + t` is a sum over the tokens before `t` of group `g`. -/
theorem sum_before (g t : ℕ) (hg : g < 2) (ht : t < 64) (f : ℕ → ℝ) :
    ∑ j : Fin 128, (if before (64 * g + t) j.val then f j.val else 0) = ∑ s ∈ range t, f (64 * g + s) := by
  rw [Fin.sum_univ_eq_sum_range (fun j => if before (64 * g + t) j then f j else 0) 128, ← sum_filter]
  refine (sum_nbij' (fun s => 64 * g + s) (fun j => j - 64 * g) ?_ ?_ ?_ ?_ ?_).symm
  · intro s hs
    rw [mem_range] at hs
    exact mem_filter.2 ⟨mem_range.2 (by omega), by show _ / 64 = (64 * g + s) / 64; omega, by show 64 * g + s < _; omega⟩
  · intro j hj
    obtain ⟨h0, h1, h2⟩ := mem_filter.1 hj
    rw [mem_range] at h0 ⊢
    show j - 64 * g < _
    omega
  · intro s hs; show 64 * g + s - 64 * g = s; omega
  · intro j hj
    obtain ⟨h0, h1, h2⟩ := mem_filter.1 hj
    rw [mem_range] at h0
    show 64 * g + (j - 64 * g) = j
    omega
  · intro s hs; rfl

/-- A sum over all rows of the entries up to row `64 g + t` is a sum over the tokens up to `t` of group `g`. -/
theorem sum_upTo (g t : ℕ) (hg : g < 2) (ht : t < 64) (f : ℕ → ℝ) :
    ∑ j : Fin 128, (if upTo (64 * g + t) j.val then f j.val else 0) = ∑ s ∈ range (t + 1), f (64 * g + s) := by
  rw [Fin.sum_univ_eq_sum_range (fun j => if upTo (64 * g + t) j then f j else 0) 128, ← sum_filter]
  refine (sum_nbij' (fun s => 64 * g + s) (fun j => j - 64 * g) ?_ ?_ ?_ ?_ ?_).symm
  · intro s hs
    rw [mem_range] at hs
    exact mem_filter.2 ⟨mem_range.2 (by omega), by show _ / 64 = (64 * g + s) / 64; omega, by show 64 * g + s ≤ _; omega⟩
  · intro j hj
    obtain ⟨h0, h1, h2⟩ := mem_filter.1 hj
    rw [mem_range] at h0 ⊢
    show j - 64 * g < _
    omega
  · intro s hs; show 64 * g + s - 64 * g = s; omega
  · intro j hj
    obtain ⟨h0, h1, h2⟩ := mem_filter.1 hj
    rw [mem_range] at h0
    show 64 * g + (j - 64 * g) = j
    omega
  · intro s hs; rfl

end Cert.Proof.Chunk64

end
-- ==== Proof.ScanPrompt.Real.lean ====
/-
  One chunk of a pair of heads at real inputs: 64 tokens of either head, as 128 rows of which row `64 g + t` is token `t`
  of head `g`. The solution of the pair's triangular system gives the delta-rule recurrence of each head.
-/
module

public import proofs.«01_k».proof.Proof.ScanPrompt.Chunk64
public import proofs.«01_k».proof.Proof.Scalars

@[expose] public section

set_option maxRecDepth 16384

noncomputable section

namespace Cert.Proof.Pair

open Idealize.ShloMosaic
open Cert.Proof Cert.Proof.Scalars

/-- The real inputs of one chunk: rows `64 g + t` for token `t` of head `g`, and per head its state and two rows of
    weights. -/
structure Rows where
  r : ℕ → Fin 64 → ℝ
  w : ℕ → Fin 64 → ℝ
  k : ℕ → Fin 64 → ℝ
  v : ℕ → Fin 64 → ℝ
  a : ℕ → Fin 64 → ℝ
  s0 : ℕ → Fin 64 → Fin 64 → ℝ
  kk : ℕ → Fin 64 → ℝ
  ka : ℕ → Fin 64 → ℝ

namespace Rows

variable (X : Rows)

/-- The removal key: the weighted key divided by its length. -/
def dir (i : ℕ) (n : Fin 64) : ℝ := unit (fun x => X.k i x * X.kk (i / 64) x) n

/-- The replacement key. -/
def key (i : ℕ) (n : Fin 64) : ℝ := X.k i n * (1 + (X.a i n - 1) * X.ka (i / 64) n)

/-- The sum of the log decays of the row's group up to the row. -/
def cum (i : ℕ) (n : Fin 64) : ℝ := ∑ s ∈ Finset.range (i % 64 + 1), X.w (64 * (i / 64) + s) n

def at' (i : ℕ) (n : Fin 64) : ℝ := -X.dir i n * Real.exp (X.cum i n - X.w i n)
def rt (i : ℕ) (n : Fin 64) : ℝ := X.r i n * Real.exp (X.cum i n)
def bt (i : ℕ) (n : Fin 64) : ℝ := X.dir i n * X.a i n * Real.exp (-X.cum i n)
def kt (i : ℕ) (n : Fin 64) : ℝ := X.key i n * Real.exp (-X.cum i n)

/-- The state of group `g` after `t` tokens. -/
def st (g : ℕ) : ℕ → Fin 64 → Fin 64 → ℝ :=
  Chunk.state (X.s0 g) (fun t => X.w (64 * g + t)) (fun t n => -X.dir (64 * g + t) n)
    (fun t n => X.dir (64 * g + t) n * X.a (64 * g + t) n) (fun t => X.key (64 * g + t)) (fun t => X.v (64 * g + t))

/-- The output of token `t` of head `g`, before its normalisation. -/
def out (g t : ℕ) (x : Fin 64) : ℝ := ∑ n, X.st g (t + 1) x n * X.r (64 * g + t) n

/-! ### The kernel's matrices over all rows of a chunk -/

def Aab : Matrix (Fin 128) (Fin 128) ℝ := fun i j => if Chunk64.before i.val j.val then ∑ n, X.at' i n * X.bt j n else 0
def Aak : Matrix (Fin 128) (Fin 128) ℝ := fun i j => if Chunk64.before i.val j.val then ∑ n, X.at' i n * X.kt j n else 0
def Arb : Matrix (Fin 128) (Fin 128) ℝ := fun i j => if Chunk64.upTo i.val j.val then ∑ n, X.rt i n * X.bt j n else 0
def Ark : Matrix (Fin 128) (Fin 128) ℝ := fun i j => if Chunk64.upTo i.val j.val then ∑ n, X.rt i n * X.kt j n else 0

def Y (i : Fin 128) (x : Fin 64) : ℝ := ∑ n, X.at' i n * X.s0 (i.val / 64) x n + ∑ j : Fin 128, X.Aak i j * X.v j x
def U (i : Fin 128) (x : Fin 64) : ℝ := X.Y i x + ∑ j, Chunk64.powers X.Aab i j * X.Y j x
def O (i : Fin 128) (x : Fin 64) : ℝ :=
  ∑ n, X.rt i n * X.s0 (i.val / 64) x n + ∑ j, X.Arb i j * X.U j x + ∑ j : Fin 128, X.Ark i j * X.v j x

/-- `U` at a row number. -/
def UN (i : ℕ) (x : Fin 64) : ℝ := X.U ⟨i % 128, Nat.mod_lt _ (by norm_num)⟩ x

theorem UN_val (j : Fin 128) (x : Fin 64) : X.UN j.val x = X.U j x := by
  have : (⟨j.val % 128, Nat.mod_lt _ (by norm_num)⟩ : Fin 128) = j := Fin.ext (Nat.mod_eq_of_lt j.isLt)
  rw [UN, this]

theorem ite_mul_zero' (p : Prop) [Decidable p] (x y : ℝ) : (if p then x else 0) * y = if p then x * y else 0 := by
  by_cases h : p <;> simp [h]

theorem cum_row (g t : ℕ) (ht : t < 64) (n : Fin 64) : X.cum (64 * g + t) n = Chunk.cum (fun t => X.w (64 * g + t)) t n := by
  have h1 : (64 * g + t) / 64 = g := by omega
  have h2 : (64 * g + t) % 64 = t := by omega
  rw [cum, h1, h2, Chunk.cum]

/-- The rows of `U` of group `g` solve the group's triangular system. -/
theorem U_row (g : ℕ) (hg : g < 2) (t : ℕ) (ht : t < 64) (x : Fin 64) :
    X.UN (64 * g + t) x = ∑ n, X.at' (64 * g + t) n * X.s0 g x n
      + (∑ s ∈ Finset.range t, (∑ n, X.at' (64 * g + t) n * X.kt (64 * g + s) n) * X.v (64 * g + s) x)
      + ∑ s ∈ Finset.range t, (∑ n, X.at' (64 * g + t) n * X.bt (64 * g + s) n) * X.UN (64 * g + s) x := by
  have hi : 64 * g + t < 128 := by omega
  have h1 : (64 * g + t) / 64 = g := by omega
  have e := Chunk64.solve_eq X.Aab (fun i j h => if_neg h) X.Y X.U (fun _ _ => rfl) ⟨64 * g + t, hi⟩ x
  rw [show X.UN (64 * g + t) x = X.U ⟨64 * g + t, hi⟩ x from X.UN_val ⟨64 * g + t, hi⟩ x, e, Y]
  congr 1
  · rw [h1]
    congr 1
    rw [← Chunk64.sum_before g t hg ht fun j => (∑ n, X.at' (64 * g + t) n * X.kt j n) * X.v j x]
    exact Finset.sum_congr rfl fun j _ => ite_mul_zero' _ _ _
  · rw [← Chunk64.sum_before g t hg ht fun j => (∑ n, X.at' (64 * g + t) n * X.bt j n) * X.UN j x]
    refine Finset.sum_congr rfl fun j _ => ?_
    rw [UN_val]
    exact ite_mul_zero' _ _ _

/-- The state of the recurrence is the rescaled sum of rank-one terms. -/
theorem st_eq (g : ℕ) (hg : g < 2) : ∀ t ≤ 64, ∀ x n, X.st g t x n
    = (X.s0 g x n + Chunk.terms (fun t => X.w (64 * g + t)) (fun t n => X.dir (64 * g + t) n * X.a (64 * g + t) n)
        (fun t => X.key (64 * g + t)) (fun t => X.v (64 * g + t)) (fun t => X.UN (64 * g + t)) t x n)
      * Real.exp (∑ s ∈ Finset.range t, X.w (64 * g + s) n) := by
  refine Chunk.state_eq _ _ _ _ _ _ _ 64 fun t ht x => ?_
  rw [X.U_row g hg t ht x]
  have e : ∀ s, s ≤ t → ∀ n, X.cum (64 * g + s) n = Chunk.cum (fun t => X.w (64 * g + t)) s n :=
    fun s hs n => X.cum_row g s (by omega) n
  congr 1
  · congr 1
    · simp only [at', e t le_rfl]
    · refine Finset.sum_congr rfl fun s hs => ?_
      simp only [at', kt, e t le_rfl, e s (Finset.mem_range.1 hs).le]
  · refine Finset.sum_congr rfl fun s hs => ?_
    simp only [at', bt, e t le_rfl, e s (Finset.mem_range.1 hs).le]

/-- The kernel's new state is the recurrence's. -/
theorem new_state (g : ℕ) (hg : g < 2) (x n : Fin 64) :
    (X.s0 g x n + (∑ t : Fin 64, X.UN (64 * g + t) x * X.bt (64 * g + t) n + ∑ t : Fin 64, X.v (64 * g + t) x * X.kt (64 * g + t) n))
      * Real.exp (X.cum (64 * g + 63) n) = X.st g 64 x n := by
  rw [X.st_eq g hg 64 le_rfl, X.cum_row g 63 (by omega), Chunk.cum, Chunk.terms, ← Finset.sum_add_distrib,
    Fin.sum_univ_eq_sum_range (fun t => X.UN (64 * g + t) x * X.bt (64 * g + t) n + X.v (64 * g + t) x * X.kt (64 * g + t) n) 64]
  congr 2
  refine Finset.sum_congr rfl fun s hs => ?_
  rw [bt, kt, X.cum_row g s (Finset.mem_range.1 hs)]

/-- The kernel's output is the recurrence's. -/
theorem O_row (g t : ℕ) (hg : g < 2) (ht : t < 64) (hi : 64 * g + t < 128) (x : Fin 64) : X.O ⟨64 * g + t, hi⟩ x = X.out g t x := by
  have h1 : (64 * g + t) / 64 = g := by omega
  have e : ∀ s, s ≤ t → ∀ n, X.cum (64 * g + s) n = Chunk.cum (fun t => X.w (64 * g + t)) s n :=
    fun s hs n => X.cum_row g s (by omega) n
  have q0 := Chunk.read_eq (X.s0 g) _ _ _ _ (fun t => X.r (64 * g + t)) _ (fun t => X.UN (64 * g + t)) 64 (X.st_eq g hg) t ht x
  rw [show X.out g t x = _ from q0, O, add_right_comm, h1]
  congr 1
  · congr 1
    · simp only [rt, e t le_rfl]
    · have q := Chunk64.sum_upTo g t hg ht fun j => (∑ n, X.rt (64 * g + t) n * X.kt j n) * X.v j x
      refine Eq.trans (Finset.sum_congr rfl fun j _ => ite_mul_zero' _ _ _) (q.trans ?_)
      refine Finset.sum_congr rfl fun s hs => ?_
      simp only [rt, kt, e t le_rfl, e s (Nat.lt_succ_iff.1 (Finset.mem_range.1 hs))]
  · have q := Chunk64.sum_upTo g t hg ht fun j => (∑ n, X.rt (64 * g + t) n * X.bt j n) * X.UN j x
    refine Eq.trans (Finset.sum_congr rfl fun j _ => ?_) (q.trans ?_)
    · rw [UN_val]; exact ite_mul_zero' _ _ _
    · refine Finset.sum_congr rfl fun s hs => ?_
      simp only [rt, bt, e t le_rfl, e s (Nat.lt_succ_iff.1 (Finset.mem_range.1 hs))]

end Rows

end Cert.Proof.Pair

end
-- ==== Proof.ScanPrompt.Stacked.lean ====
/-
  Rows of the two heads of a pair, put on the diagonal of a 128 × 128 matrix: rows of head `g` fill its lanes
  `64 g … 64 g + 63` and are zero elsewhere, so that products of such matrices act head by head.
-/
module

public import proofs.«01_k».proof.Proof.ScanPrompt.Real

@[expose] public section

noncomputable section

namespace Cert.Proof.Pair

open Finset

/-- The lane's place in its head. -/
abbrev lane (l : ℕ) : Fin 64 := ⟨l % 64, Nat.mod_lt _ (by norm_num)⟩

/-- The rows on the diagonal. -/
def stk (f : ℕ → Fin 64 → ℝ) : Matrix (Fin 128) (Fin 128) ℝ := fun i l => if l.val / 64 = i.val / 64 then f i (lane l) else 0

/-- The pair's states as rows. -/
def stateRows (s : ℕ → Fin 64 → Fin 64 → ℝ) (i : ℕ) (n : Fin 64) : ℝ := s (i / 64) (lane i) n

/-- A sum over the lanes of one head. -/
theorem sum_head (F : Fin 128 → ℝ) (g : ℕ) (hg : g < 2) :
    ∑ l : Fin 128, (if l.val / 64 = g then F l else 0) = ∑ t : Fin 64, F ⟨64 * g + t.val, by omega⟩ := by
  have e := Fin.sum_univ_add (a := 64) (b := 64) (fun l : Fin 128 => if l.val / 64 = g then F l else 0)
  refine e.trans ?_
  have d1 : ∀ t : Fin 64, (Fin.castAdd 64 t : Fin 128).val / 64 = 0 := fun t => by
    rw [Fin.val_castAdd]; omega
  have d2 : ∀ t : Fin 64, (Fin.natAdd 64 t : Fin 128).val / 64 = 1 := fun t => by
    rw [Fin.val_natAdd]; omega
  simp only [d1, d2]
  obtain rfl | rfl : g = 0 ∨ g = 1 := by omega
  · simp only [if_true, zero_ne_one, one_ne_zero, if_false, sum_const_zero, add_zero]
    exact sum_congr rfl fun t _ => congrArg F (Fin.ext (by simp [add_comm]))
  · simp only [if_true, zero_ne_one, one_ne_zero, if_false, sum_const_zero, zero_add]
    exact sum_congr rfl fun t _ => congrArg F (Fin.ext (by simp [add_comm]))

theorem lane_row (g : ℕ) (t : Fin 64) : lane (64 * g + t.val) = t := Fin.ext (by show (64 * g + t.val) % 64 = t.val; omega)

/-- Products of stacked rows over the lanes. -/
theorem stk_mul_transpose (f g : ℕ → Fin 64 → ℝ) (i j : Fin 128) :
    ∑ l, stk f i l * stk g j l = if j.val / 64 = i.val / 64 then ∑ n, f i n * g j n else 0 := by
  by_cases h : j.val / 64 = i.val / 64
  · rw [if_pos h]
    have := sum_head (fun l => f i (lane l) * g j (lane l)) (i.val / 64) (by omega)
    simp only [lane_row] at this
    rw [← this]
    refine sum_congr rfl fun l _ => ?_
    by_cases hl : l.val / 64 = i.val / 64
    · simp only [stk, h, if_pos hl]
    · simp only [stk, h, if_neg hl, zero_mul]
  · rw [if_neg h]
    refine sum_eq_zero fun l _ => ?_
    by_cases hl : l.val / 64 = i.val / 64
    · have : ¬ l.val / 64 = j.val / 64 := by omega
      simp only [stk, if_neg this, mul_zero]
    · simp only [stk, if_neg hl, zero_mul]

/-- Products of stacked rows over the rows. -/
theorem stk_transpose_mul (f g : ℕ → Fin 64 → ℝ) (x n : Fin 128) :
    ∑ i, stk f i x * stk g i n
      = if n.val / 64 = x.val / 64 then ∑ t : Fin 64, f (64 * (x.val / 64) + t.val) (lane x) * g (64 * (x.val / 64) + t.val) (lane n) else 0 := by
  by_cases h : n.val / 64 = x.val / 64
  · rw [if_pos h]
    rw [← sum_head (fun i => f i (lane x) * g i (lane n)) (x.val / 64) (by omega)]
    refine sum_congr rfl fun i _ => ?_
    by_cases hl : i.val / 64 = x.val / 64
    · have hx : x.val / 64 = i.val / 64 := hl.symm
      simp only [stk, h, if_pos hl, if_pos hx]
    · have hx : ¬ x.val / 64 = i.val / 64 := fun e => hl e.symm
      simp only [stk, if_neg hl, if_neg hx, zero_mul]
  · rw [if_neg h]
    refine sum_eq_zero fun i _ => ?_
    by_cases hl : x.val / 64 = i.val / 64
    · have : ¬ n.val / 64 = i.val / 64 := by omega
      simp only [stk, if_neg this, mul_zero]
    · simp only [stk, if_neg hl, zero_mul]

/-- A matrix between rows of one head, times stacked rows. -/
theorem mul_stk (A : Matrix (Fin 128) (Fin 128) ℝ) (hA : ∀ i j : Fin 128, ¬ i.val / 64 = j.val / 64 → A i j = 0)
    (f : ℕ → Fin 64 → ℝ) (y : ℕ → Fin 64 → ℝ) (i l : Fin 128) (hy : y i (lane l) = ∑ j, A i j * f j (lane l)) :
    ∑ j, A i j * stk f j l = stk y i l := by
  by_cases h : l.val / 64 = i.val / 64
  · rw [stk, if_pos h, hy]
    refine sum_congr rfl fun j _ => ?_
    by_cases hj : i.val / 64 = j.val / 64
    · rw [stk, if_pos (h.trans hj)]
    · rw [hA i j hj, zero_mul, zero_mul]
  · rw [stk, if_neg h]
    refine sum_eq_zero fun j _ => ?_
    by_cases hj : i.val / 64 = j.val / 64
    · rw [stk, if_neg (by omega), mul_zero]
    · rw [hA i j hj, zero_mul]

namespace Rows

variable (X : Rows)

/-- `Y` at a row number. -/
def YN (i : ℕ) (x : Fin 64) : ℝ := X.Y ⟨i % 128, Nat.mod_lt _ (by norm_num)⟩ x

theorem YN_val (j : Fin 128) (x : Fin 64) : X.YN j.val x = X.Y j x := by
  have : (⟨j.val % 128, Nat.mod_lt _ (by norm_num)⟩ : Fin 128) = j := Fin.ext (Nat.mod_eq_of_lt j.isLt)
  rw [YN, this]

/-- The state read by stacked rows. -/
theorem stk_state (f : ℕ → Fin 64 → ℝ) (i x : Fin 128) :
    ∑ l, stk f i l * stk (stateRows X.s0) x l = stk (fun i x => ∑ n, f i n * X.s0 (i / 64) x n) i x := by
  rw [stk_mul_transpose]
  by_cases h : x.val / 64 = i.val / 64
  · rw [if_pos h, stk, if_pos h]
    simp only [stateRows, h]
  · rw [if_neg h, stk, if_neg h]

theorem Aab_off (i j : Fin 128) (h : ¬ i.val / 64 = j.val / 64) : X.Aab i j = 0 := if_neg fun q => h q.1
theorem Aak_off (i j : Fin 128) (h : ¬ i.val / 64 = j.val / 64) : X.Aak i j = 0 := if_neg fun q => h q.1
theorem Arb_off (i j : Fin 128) (h : ¬ i.val / 64 = j.val / 64) : X.Arb i j = 0 := if_neg fun q => h q.1
theorem Ark_off (i j : Fin 128) (h : ¬ i.val / 64 = j.val / 64) : X.Ark i j = 0 := if_neg fun q => h q.1

/-- `Y` stacked. -/
theorem Y_stk (i x : Fin 128) :
    ∑ l, stk X.at' i l * stk (stateRows X.s0) x l + ∑ j, X.Aak i j * stk X.v j x = stk X.YN i x := by
  rw [stk_state, mul_stk X.Aak X.Aak_off X.v (fun i x => ∑ j : Fin 128, X.Aak ⟨i % 128, Nat.mod_lt _ (by norm_num)⟩ j * X.v j x) i x
    (by simp only [Nat.mod_eq_of_lt i.isLt])]
  by_cases h : x.val / 64 = i.val / 64
  · simp only [stk, if_pos h, YN, Y, Nat.mod_eq_of_lt i.isLt]
  · simp only [stk, if_neg h, add_zero]

/-- `U` stacked; a sum of powers of the system's matrix keeps the heads apart. -/
theorem U_stk (hP : ∀ i j : Fin 128, ¬ i.val / 64 = j.val / 64 → Chunk64.powers X.Aab i j = 0) (i x : Fin 128) :
    stk X.YN i x + ∑ j, Chunk64.powers X.Aab i j * stk X.YN j x = stk X.UN i x := by
  rw [mul_stk _ hP X.YN (fun i x => ∑ j : Fin 128, Chunk64.powers X.Aab ⟨i % 128, Nat.mod_lt _ (by norm_num)⟩ j * X.YN j x) i x
    (by simp only [Nat.mod_eq_of_lt i.isLt])]
  by_cases h : x.val / 64 = i.val / 64
  · simp only [stk, if_pos h, UN_val, U, YN_val, Nat.mod_eq_of_lt i.isLt]
  · simp only [stk, if_neg h, add_zero]

/-- Matrices that keep the heads apart. -/
def Apart (A : Matrix (Fin 128) (Fin 128) ℝ) : Prop := ∀ i j : Fin 128, ¬ i.val / 64 = j.val / 64 → A i j = 0

theorem Apart.add {A B : Matrix (Fin 128) (Fin 128) ℝ} (ha : Apart A) (hb : Apart B) : Apart (A + B) := fun i j h => by
  rw [Matrix.add_apply, ha i j h, hb i j h, add_zero]

theorem Apart.mul {A B : Matrix (Fin 128) (Fin 128) ℝ} (ha : Apart A) (hb : Apart B) : Apart (A * B) := fun i j h => by
  rw [Matrix.mul_apply]
  refine sum_eq_zero fun m _ => ?_
  by_cases hm : i.val / 64 = m.val / 64
  · rw [hb m j (fun e => h (hm.trans e)), mul_zero]
  · rw [ha i m hm, zero_mul]

theorem Apart.pow {A : Matrix (Fin 128) (Fin 128) ℝ} (ha : Apart A) : ∀ n, Apart (A ^ (n + 1))
  | 0 => by rw [zero_add, pow_one]; exact ha
  | n + 1 => by rw [pow_succ]; exact (Apart.pow ha n).mul ha

theorem Apart.double {A B : Matrix (Fin 128) (Fin 128) ℝ} (ha : Apart A) (hb : Apart B) : Apart (Chunk64.double A B) :=
  (ha.add hb).add (ha.mul hb)

theorem powers_off : Apart (Chunk64.powers X.Aab) :=
  have h : Apart X.Aab := X.Aab_off
  ((((h.double (h.pow 1)).double (h.pow 3)).double (h.pow 7)).double (h.pow 15)).double (h.pow 31)

/-- The new states stacked. -/
theorem state_stk (x n : Fin 128) :
    (stk (stateRows X.s0) x n + (∑ i, stk X.UN i x * stk X.bt i n + ∑ i, stk X.v i x * stk X.kt i n))
        * Real.exp (X.cum (64 * (n.val / 64) + 63) (lane n))
      = stk (stateRows fun g => X.st g 64) x n := by
  rw [stk_transpose_mul, stk_transpose_mul]
  by_cases h : n.val / 64 = x.val / 64
  · simp only [stk, if_pos h, stateRows]
    rw [h]
    exact X.new_state (x.val / 64) (by omega) (lane x) (lane n)
  · simp only [stk, if_neg h, add_zero, zero_mul]

end Rows

end Cert.Proof.Pair

end
-- ==== Proof.ScanPrompt.Vectors.lean ====
/-
  The vectors the chunked scan forms from one chunk of a pair of heads at real inputs: the running sums of the log decays,
  the removal and replacement keys, the decayed rows, and those rows put on the diagonal.
-/
module

public import proofs.«01_k».proof.Proof.ScanPrompt.Items
public import proofs.«01_k».proof.Proof.ScanPrompt.Stacked
public import Idealize.ShloMosaic.Lib.Pointwise

@[expose] public section

set_option maxRecDepth 16384

noncomputable section

namespace Cert.ScanPromptIdeal.Items

open Cert.ScanPromptIdeal Cert.ScanPromptIdeal.Gen Idealize.ShloMosaic Idealize.ShloMosaic.TcCoe Idealize.ShloMosaic.WordCmp
open Cert.Proof Cert.Proof.Scalars Cert.Proof.Pair

/-- The matrix holds the real matrix `f`. -/
def HoldsMat (x : FVec Ideal S128x128 .f32) (f : Matrix (Fin 128) (Fin 128) ℝ) : Prop := ∀ i j, x (ix2 i j) = ((f i j : ℝ) : EReal)

/-- The chunk's 64 rows of two heads hold the real rows `f`. -/
def Raw (x : FVec Ideal S64x128 .f32) (f : ℕ → Fin 64 → ℝ) : Prop :=
  ∀ (t : Fin 64) (l : Fin 128), x (ix2 t l) = ((f (64 * (l.val / 64) + t.val) (lane l) : ℝ) : EReal)

/-- A row of weights of two heads holds the real rows `f`. -/
def RawRow (x : FVec Ideal S1x128 .f32) (f : ℕ → Fin 64 → ℝ) : Prop :=
  ∀ l : Fin 128, x (ix2 0 l) = ((f (l.val / 64) (lane l) : ℝ) : EReal)

theorem sub_self_coe (x : ℝ) : (x : EReal) - (x : EReal) = 0 := by
  rw [← EReal.coe_sub, sub_self]; rfl

/-! ### The running sums -/

/-- One step: each row plus the row `s` above it. -/
def shiftAdd {F : FTy → Type} [FloatOps F] (s : BitVec 32) (x : FVec F S64x128 .f32) : FVec F S64x128 .f32 :=
  addf x (select
    (broadcastTo S64x128 (shapeCast S64x1 (cmpi .sge tok (broadcast S64x1 s)) shapeCasts_S64x1_S64x1) broadcasts_S64x1_S64x128)
    (dynamicRotate 0 s none x rotates_S64x128_d0) (broadcast S64x128 (Scalar.ofBits .f32 0x00000000#32)))

theorem cum_steps {F : FTy → Type} [FloatOps F] (w : FVec F S64x128 .f32) :
    cumOf w = shiftAdd 32#32 (shiftAdd 16#32 (shiftAdd 8#32 (shiftAdd 4#32 (shiftAdd 2#32 (shiftAdd 1#32 w))))) := rfl

/-- The sum of the last `s` entries up to `t`. -/
def win (W : ℕ → ℝ) (s t : ℕ) : ℝ := ∑ j ∈ Finset.range (min s (t + 1)), W (t - j)

theorem win_double (W : ℕ → ℝ) (s t : ℕ) : win W s t + (if s ≤ t then win W s (t - s) else 0) = win W (2 * s) t := by
  by_cases h : s ≤ t
  · rw [if_pos h, win, win, win, show min (2 * s) (t + 1) = s + min s (t - s + 1) by omega, Finset.sum_range_add,
      show min s (t + 1) = s by omega]
    congr 1
    exact Finset.sum_congr rfl fun j _ => congrArg W (by omega)
  · rw [if_neg h, win, win, add_zero, show min (2 * s) (t + 1) = min s (t + 1) by omega]

theorem win_all (W : ℕ → ℝ) (t : ℕ) (ht : t < 64) : win W 64 t = ∑ s ∈ Finset.range (t + 1), W s := by
  rw [win, show min 64 (t + 1) = t + 1 by omega, ← Finset.sum_range_reflect (fun j => W j) (t + 1)]
  exact Finset.sum_congr rfl fun j _ => congrArg W (by omega)

theorem step_at (V : ℕ → Fin 128 → ℝ) (s : ℕ) (hs : 0 < s) (hs' : s ≤ 64) (t : Fin 64) (l : Fin 128) :
    (if decide (s ≤ t.val) = true then ((V ((t.val + 64 - s) % 64) l : ℝ) : EReal) else 0)
      = ((if s ≤ t.val then V (t.val - s) l else 0 : ℝ) : EReal) := by
  by_cases h : s ≤ t.val
  · rw [if_pos (decide_eq_true h), if_pos h, show (t.val + 64 - s) % 64 = t.val - s by omega]
  · rw [if_neg (by simpa using h), if_neg h]
    rfl

theorem shiftAdd_at (s : ℕ) (hs : s = 1 ∨ s = 2 ∨ s = 4 ∨ s = 8 ∨ s = 16 ∨ s = 32) (x : FVec Ideal S64x128 .f32) (V : ℕ → Fin 128 → ℝ)
    (hx : ∀ (t : Fin 64) l, x (ix2 t l) = ((V t l : ℝ) : EReal)) (t : Fin 64) (l : Fin 128) :
    shiftAdd (BitVec.ofNat 32 s) x (ix2 t l) = ((V t l + if s ≤ t.val then V (t.val - s) l else 0 : ℝ) : EReal) := by
  rcases hs with rfl | rfl | rfl | rfl | rfl | rfl <;>
  · pointwise [shiftAdd]
    rw [cmpi_sge_ofNat (by omega) (by omega), select_ofBool, hx, hx, EReal.coe_add]
    congr 1
    exact step_at V _ (by omega) (by omega) t l

theorem shiftAdd_win (s : ℕ) (hs : s = 1 ∨ s = 2 ∨ s = 4 ∨ s = 8 ∨ s = 16 ∨ s = 32) (x : FVec Ideal S64x128 .f32) (W : ℕ → Fin 128 → ℝ)
    (hx : ∀ (t : Fin 64) l, x (ix2 t l) = ((win (fun t => W t l) s t : ℝ) : EReal)) (t : Fin 64) (l : Fin 128) :
    shiftAdd (BitVec.ofNat 32 s) x (ix2 t l) = ((win (fun t => W t l) (2 * s) t : ℝ) : EReal) := by
  rw [shiftAdd_at s hs x (fun t l => win (fun t => W t l) s t) hx, win_double]

section Chunk

variable (X : Rows) {r w k v a : Vec Ideal S64x128 .f32} {kk ka : Vec Ideal S1x128 .f32}
  (hr : Raw r X.r) (hw : Raw w X.w) (hk : Raw k X.k) (hv : Raw v X.v) (ha : Raw a X.a) (hkk : RawRow kk X.kk) (hka : RawRow ka X.ka)

include hw in
theorem cum_raw : Raw (cumOf w) X.cum := by
  intro t l
  have h0 : ∀ (t : Fin 64) (l : Fin 128), w (ix2 t l) = ((win (fun t => X.w (64 * (l.val / 64) + t) (lane l)) 1 t.val : ℝ) : EReal) := by
    intro t l
    rw [hw, win, show min 1 (t.val + 1) = 1 by omega, Finset.sum_range_one, Nat.sub_zero]
  have h1 := shiftAdd_win 1 (by simp) w (fun t l => X.w (64 * (l.val / 64) + t) (lane l)) h0
  have h2 := shiftAdd_win 2 (by simp) _ (fun t l => X.w (64 * (l.val / 64) + t) (lane l)) h1
  have h3 := shiftAdd_win 4 (by simp) _ (fun t l => X.w (64 * (l.val / 64) + t) (lane l)) h2
  have h4 := shiftAdd_win 8 (by simp) _ (fun t l => X.w (64 * (l.val / 64) + t) (lane l)) h3
  have h5 := shiftAdd_win 16 (by simp) _ (fun t l => X.w (64 * (l.val / 64) + t) (lane l)) h4
  have h6 := shiftAdd_win 32 (by simp) _ (fun t l => X.w (64 * (l.val / 64) + t) (lane l)) h5
  rw [cum_steps]
  refine (h6 t l).trans ?_
  rw [win_all _ t.val t.isLt, Rows.cum, show (64 * (l.val / 64) + t.val) % 64 = t.val by omega,
    show (64 * (l.val / 64) + t.val) / 64 = l.val / 64 by omega]

/-! ### The keys -/

/-- A choice by the mask of the first head's lanes. -/
theorem head_at {α : Type} (l : Fin 128) (x y : α) : Scalar.select (k0_pay3 (ix2 0 l)) x y = if l.val / 64 = 0 then x else y := by
  pointwise [k0_pay3]
  rw [cmpi_slt_ofNat (by omega) (by omega), select_ofBool]
  have : l.val < 64 ↔ l.val / 64 = 0 := by omega
  simp only [this, decide_eq_true_eq]

theorem ite_coe (p : Prop) [Decidable p] (x : ℝ) : (if p then (x : EReal) else 0) = ((if p then x else 0 : ℝ) : EReal) := by
  split <;> rfl

theorem ite_coe' (p : Prop) [Decidable p] (x : ℝ) : (if p then 0 else (x : EReal)) = ((if p then 0 else x : ℝ) : EReal) := by
  split <;> rfl

/-- A sum over the first head's lanes. -/
theorem sum_first (f : Fin 128 → ℝ) : ∑ l : Fin 128, (if l.val / 64 = 0 then (f l : EReal) else 0) = ((∑ n : Fin 64, f ⟨n.val, by omega⟩ : ℝ) : EReal) := by
  simp only [ite_coe, ← coe_sum]
  rw [sum_head f 0 (by omega)]
  congr 2
  funext n
  exact congrArg f (Fin.ext (by simp))

/-- A sum over the second head's lanes. -/
theorem sum_second (f : Fin 128 → ℝ) : ∑ l : Fin 128, (if l.val / 64 = 0 then 0 else (f l : EReal)) = ((∑ n : Fin 64, f ⟨64 + n.val, by omega⟩ : ℝ) : EReal) := by
  have e : ∀ l : Fin 128, (if l.val / 64 = 0 then 0 else (f l : EReal)) = if l.val / 64 = 1 then (f l : EReal) else 0 := fun l => by
    by_cases h : l.val / 64 = 0
    · rw [if_pos h, if_neg (by omega)]
    · rw [if_neg h, if_pos (by omega)]
  simp only [e, ite_coe, ← coe_sum]
  rw [sum_head f 1 (by omega)]

include hk hkk in
theorem dir_raw : Raw (dirOf k kk) X.dir := by
  intro t l
  pointwise [dirOf, k0_pay8]
  simp only [head_at, hk t, hkk _, ← EReal.coe_mul, sum_first, sum_second]
  rw [show Ideal.ofBits .f32 730643660#32 = _ from ofBits_eps]
  have e : (if l.val / 64 = 0 then ((∑ x : Fin 64, X.k (64 * (x.val / 64) + t.val) (lane x) * X.kk (x.val / 64) (lane x)
        * (X.k (64 * (x.val / 64) + t.val) (lane x) * X.kk (x.val / 64) (lane x)) : ℝ) : EReal)
      else ((∑ x : Fin 64, X.k (64 * ((64 + x.val) / 64) + t.val) (lane (64 + x.val)) * X.kk ((64 + x.val) / 64) (lane (64 + x.val))
        * (X.k (64 * ((64 + x.val) / 64) + t.val) (lane (64 + x.val)) * X.kk ((64 + x.val) / 64) (lane (64 + x.val))) : ℝ) : EReal))
      = ∑ x : Fin 64, ((X.k (64 * (l.val / 64) + t.val) x * X.kk (l.val / 64) x : ℝ) : EReal)
        * ((X.k (64 * (l.val / 64) + t.val) x * X.kk (l.val / 64) x : ℝ) : EReal) := by
    simp only [← EReal.coe_mul, ← coe_sum]
    by_cases h : l.val / 64 = 0
    · rw [if_pos h, h]
      congr 1
    · rw [if_neg h, show l.val / 64 = 1 by omega]
      congr 1
  rw [e]
  refine (unit_at (fun n => X.k (64 * (l.val / 64) + t.val) n * X.kk (l.val / 64) n) (lane l)).trans ?_
  rw [Rows.dir, show (64 * (l.val / 64) + t.val) / 64 = l.val / 64 by omega]

include ha hka hk in
theorem key_raw : Raw (keyOf k a ka) X.key := by
  intro t l
  pointwise [keyOf, k0_pay10, k0_pay9]
  rw [hk, ha, hka, Rows.key, show (64 * (l.val / 64) + t.val) / 64 = l.val / 64 by omega]
  norm_cast

/-! ### The decayed rows -/

/-- The decayed removal keys. -/
def atOf {F : FTy → Type} [FloatOps F] (w k : Vec F S64x128 .f32) (kk : Vec F S1x128 .f32) : FVec F S64x128 .f32 :=
  mulf (subf (broadcast S64x128 (Scalar.ofBits .f32 0x00000000#32)) (dirOf k kk)) (exp (subf (cumOf w) w))

/-- The decayed receptances. -/
def rtOf {F : FTy → Type} [FloatOps F] (r w : Vec F S64x128 .f32) : FVec F S64x128 .f32 := mulf r (exp (cumOf w))

include hw hk hkk in
theorem at_raw : Raw (atOf w k kk) X.at' := by
  intro t l
  pointwise [atOf]
  rw [cum_raw X hw t l, hw, dir_raw X hk hkk t l, ← EReal.coe_sub, Ideal.exp_coe, zero_sub]
  norm_cast

include hr hw in
theorem rt_raw : Raw (rtOf r w) X.rt := by
  intro t l
  pointwise [rtOf]
  rw [cum_raw X hw t l, hr, Ideal.exp_coe]
  norm_cast

/-- The inverse of the decays. -/
def undoOf {F : FTy → Type} [FloatOps F] (w : FVec F S64x128 .f32) : FVec F S64x128 .f32 :=
  exp (subf (broadcast S64x128 (Scalar.ofBits .f32 0x00000000#32)) (cumOf w))

theorem bt_eq {F : FTy → Type} [FloatOps F] (w k a : FVec F S64x128 .f32) (kk : FVec F S1x128 .f32) :
    btOf w k a kk = mulf (mulf (dirOf k kk) a) (undoOf w) := rfl

theorem kt_eq {F : FTy → Type} [FloatOps F] (w k a : FVec F S64x128 .f32) (ka : FVec F S1x128 .f32) :
    ktOf w k a ka = mulf (keyOf k a ka) (undoOf w) := rfl

include hw in
theorem undo_at (t : Fin 64) (l : Fin 128) : undoOf (F := Ideal) w (ix2 t l)
    = ((Real.exp (-X.cum (64 * (l.val / 64) + t.val) (lane l)) : ℝ) : EReal) := by
  pointwise [undoOf]
  rw [cum_raw X hw t l, zero_sub, ← EReal.coe_neg, Ideal.exp_coe]

include hw hk hkk ha in
theorem bt_raw : Raw (btOf w k a kk) X.bt := by
  intro t l
  rw [bt_eq]
  pointwise
  rw [undo_at X hw, dir_raw X hk hkk t l, ha]
  norm_cast

include hw hk ha hka in
theorem kt_raw : Raw (ktOf w k a ka) X.kt := by
  intro t l
  rw [kt_eq]
  pointwise
  rw [undo_at X hw, key_raw X hk ha hka t l]
  norm_cast

include hw in
theorem end_at (l : Fin 128) : k0_pay36 (cumOf w) (ix2 0 l) = ((Real.exp (X.cum (64 * (l.val / 64) + 63) (lane l)) : ℝ) : EReal) := by
  have h := cum_raw X hw 63 l
  pointwise [k0_pay36]
  rw [show (63 : Fin 64).val = 63 from rfl] at h
  rw [← Ideal.exp_coe, ← h]

end Chunk

end Cert.ScanPromptIdeal.Items

end
-- ==== Proof.ScanPrompt.Step.lean ====
/-
  One chunk of the chunked scan at real inputs: its new states are the delta-rule recurrence's after 64 tokens.
-/
module

public import proofs.«01_k».proof.Proof.ScanPrompt.Vectors

@[expose] public section

set_option maxRecDepth 16384

noncomputable section

namespace Cert.ScanPromptIdeal.Items

open Cert.ScanPromptIdeal Cert.ScanPromptIdeal.Gen Idealize.ShloMosaic Idealize.ShloMosaic.TcCoe Idealize.ShloMosaic.WordCmp
open Cert.Proof Cert.Proof.Scalars Cert.Proof.Pair

/-! ### Rows on the diagonal -/

section Generic

variable {F : FTy → Type} [FloatOps F]

/-- The rows of the two heads on the diagonal. -/
def stackOf (x : FVec F S64x128 .f32) : FVec F S128x128 .f32 :=
  concatenate S128x128 0
    [⟨S64x128, select (broadcastTo S64x128 (shapeCast S1x128 k0_pay3 shapeCasts_S1x128_S1x128) broadcasts_S1x128_S64x128) x
      (broadcast S64x128 (Scalar.ofBits .f32 0x00000000#32))⟩,
     ⟨S64x128, select (broadcastTo S64x128 (shapeCast S1x128 k0_pay3 shapeCasts_S1x128_S1x128) broadcasts_S1x128_S64x128)
      (broadcast S64x128 (Scalar.ofBits .f32 0x00000000#32)) x⟩] concatenates_S64x128_S64x128_S128x128_d0

/-- One matrix over another. -/
def over {α : Type} (x y : S128x128.Idx → α) : S256x128.Idx → α :=
  concatenate S256x128 0 [⟨S128x128, x⟩, ⟨S128x128, y⟩] concatenates_S128x128_S128x128_S256x128_d0

theorem ar_eq (r w k : Vec F S64x128 .f32) (kk : Vec F S1x128 .f32) : arOf r w k kk = over (stackOf (atOf w k kk)) (stackOf (rtOf r w)) := rfl

theorem arHi_eq (r w k : Vec F S64x128 .f32) (kk : Vec F S1x128 .f32) : arHi r w k kk = truncf .bf16 (arOf r w k kk) bitsLt_bf16_f32 := rfl

theorem arLo_eq (r w k : Vec F S64x128 .f32) (kk : Vec F S1x128 .f32) :
    arLo r w k kk = truncf .bf16 (subf (arOf r w k kk) (extf .f32 (arHi r w k kk) bitsLt_bf16_f32)) bitsLt_bf16_f32 := rfl

/-- The rescaled rows over each other, rounded. -/
def bkHi (w k a : Vec F S64x128 .f32) (kk ka : Vec F S1x128 .f32) : FVec F S256x128 .bf16 :=
  k0_pay24 k0_pay3 (btOf w k a kk) (ktOf w k a ka) zero (k0_pay22 k0_pay3)

/-- What the rounding of the rescaled rows loses. -/
def bkLo (w k a : Vec F S64x128 .f32) (kk ka : Vec F S1x128 .f32) : FVec F S256x128 .bf16 :=
  k0_pay25 k0_pay3 (btOf w k a kk) (ktOf w k a ka) zero (k0_pay22 k0_pay3)

/-- The rescaled rows over each other. -/
def bkOf (w k a : Vec F S64x128 .f32) (kk ka : Vec F S1x128 .f32) : FVec F S256x128 .f32 :=
  over (stackOf (btOf w k a kk)) (stackOf (ktOf w k a ka))

theorem bkHi_eq (w k a : Vec F S64x128 .f32) (kk ka : Vec F S1x128 .f32) : bkHi w k a kk ka = truncf .bf16 (bkOf w k a kk ka) bitsLt_bf16_f32 := rfl

theorem bkLo_eq (w k a : Vec F S64x128 .f32) (kk ka : Vec F S1x128 .f32) :
    bkLo w k a kk ka = truncf .bf16 (subf (bkOf w k a kk ka) (extf .f32 (bkHi w k a kk ka) bitsLt_bf16_f32)) bitsLt_bf16_f32 := rfl

theorem v_eq (v : Vec F S64x128 .f32) : k0_pay30 k0_pay3 v = truncf .bf16 (stackOf v) bitsLt_bf16_f32 := rfl

theorem vLo_eq (v : Vec F S64x128 .f32) :
    k0_pay31 k0_pay3 v = truncf .bf16 (subf (stackOf v) (extf .f32 (k0_pay30 k0_pay3 v) bitsLt_bf16_f32)) bitsLt_bf16_f32 := rfl

/-- All products of the decayed rows with the rescaled rows. -/
def products (x y : FVec F S256x128 .bf16) : FVec F S256x256 .f32 :=
  matmul dot_S256x128_S256x128_S256x256_1_1_0_0_n_n none x y (constant S256x256 .f32 0x00000000#32)

/-- The entries strictly before. -/
def strict (x : FVec F S128x128 .f32) : FVec F S128x128 .f32 :=
  select k0_pay6 x (broadcast S128x128 (Scalar.ofBits .f32 0x00000000#32))

/-- A product of two rounded matrices. -/
def mm (x y : FVec F S128x128 .bf16) : FVec F S128x128 .f32 :=
  matmul dot_S128x128_S128x128_S128x128_1_0_0_1_n_n none x y (constant S128x128 .f32 0x00000000#32)

def rnd (x : FVec F S128x128 .f32) : FVec F S128x128 .bf16 := truncf .bf16 x bitsLt_bf16_f32

theorem aab_eq (r w k a : Vec F S64x128 .f32) (kk ka : Vec F S1x128 .f32) : aabOf r w k a kk ka
    = strict (extractStridedSlice S128x128 ![0, 0] (products (arHi r w k kk) (bkHi w k a kk ka)) slices_S256x256_o0_0_S128x128) := rfl

/-- The matrix of the replacement keys. -/
def aakOf (r w k a : Vec F S64x128 .f32) (kk ka : Vec F S1x128 .f32) : FVec F S128x128 .f32 :=
  strict (extractStridedSlice S128x128 ![0, 128] (products (arHi r w k kk) (bkHi w k a kk ka)) slices_S256x256_o0_128_S128x128)

theorem akv_eq (r w k v a : Vec F S64x128 .f32) (kk ka : Vec F S1x128 .f32) :
    akvOf r w k v a kk ka = mm (rnd (aakOf r w k a kk ka)) (k0_pay30 k0_pay3 v) := rfl

/-- One doubling. -/
def dbl (P M : FVec F S128x128 .f32) : FVec F S128x128 .f32 := addf (addf P M) (mm (rnd P) (rnd M))

/-- A square. -/
def sq (M : FVec F S128x128 .f32) : FVec F S128x128 .f32 := mm (rnd M) (rnd M)

theorem powers_steps (A : FVec F S128x128 .f32) : powersOf A
    = dbl (dbl (dbl (dbl (dbl A (sq A)) (sq (sq A))) (sq (sq (sq A)))) (sq (sq (sq (sq A))))) (sq (sq (sq (sq (sq A))))) := rfl

/-- The states read by the decayed rows. -/
def readOf (hi lo : FVec F S256x128 .bf16) (s : FVec F S128x128 .f32) : FVec F S256x128 .f32 := k0_pay669 hi lo s

/-- The right hand side of the triangular system. -/
def yOf (x : FVec F S256x128 .f32) (akv : FVec F S128x128 .f32) : FVec F S128x128 .f32 :=
  addf (extractStridedSlice S128x128 ![0, 0] x slices_S256x128_o0_0_S128x128) akv

/-- Its solution. -/
def uOf (P : FVec F S128x128 .f32) (y : FVec F S128x128 .f32) : FVec F S128x128 .f32 := addf y (mm (rnd P) (rnd y))

/-- The rows of two matrices over each other, summed over the rows. -/
def outer (x y : FVec F S256x128 .bf16) : FVec F S128x128 .f32 :=
  matmul dot_S256x128_S256x128_S128x128_0_0_1_1_n_n none x y (constant S128x128 .f32 0x00000000#32)

/-- The new states from the solution. -/
def stateOf (u v : FVec F S128x128 .f32) (bk : FVec F S256x128 .f32) (e : FVec F S1x128 .f32) (s : FVec F S128x128 .f32) : FVec F S128x128 .f32 :=
  mulf (addf s (addf (outer (over (rnd u) (rnd v)) (truncf .bf16 bk bitsLt_bf16_f32))
    (addf (outer (over (rnd u) (rnd v)) (truncf .bf16 (subf bk (extf .f32 (truncf .bf16 bk bitsLt_bf16_f32) bitsLt_bf16_f32)) bitsLt_bf16_f32))
      (outer (over (rnd (subf u (extf .f32 (rnd u) bitsLt_bf16_f32))) (rnd (subf v (extf .f32 (rnd v) bitsLt_bf16_f32))))
        (truncf .bf16 bk bitsLt_bf16_f32)))))
    (broadcastTo S128x128 e broadcasts_S1x128_S128x128)

theorem step_eq (r w k v a : Vec F S64x128 .f32) (kk ka : Vec F S1x128 .f32) (s : FVec F S128x128 .f32) : step r w k v a kk ka s
    = stateOf (uOf (powersOf (aabOf r w k a kk ka)) (yOf (readOf (arHi r w k kk) (arLo r w k kk) s) (akvOf r w k v a kk ka))) (stackOf v)
        (bkOf w k a kk ka) (k0_pay36 (cumOf w)) s := rfl

end Generic

/-! ### At real inputs -/

theorem stack_holds {x : FVec Ideal S64x128 .f32} {f : ℕ → Fin 64 → ℝ} (hx : Raw x f) : HoldsMat (stackOf x) (stk f) := by
  intro i l
  by_cases h : i.val < 64
  · have hi : i.val / 64 = 0 := by omega
    pointwise [stackOf]
    refine (dif_pos h).trans ((head_at l _ _).trans ?_)
    rw [stk, hi]
    by_cases hl : l.val / 64 = 0
    · rw [if_pos hl, if_pos hl, hx, hl]
      congr 3
      show 64 * 0 + i.val = i.val
      omega
    · rw [if_neg hl, if_neg hl]
      rfl
  · have hi : i.val / 64 = 1 := by omega
    pointwise [stackOf]
    refine (dif_neg h).trans ((head_at l _ _).trans ?_)
    rw [stk, hi]
    by_cases hl : l.val / 64 = 0
    · rw [if_pos hl, if_neg (by omega)]
      rfl
    · have h1 : l.val / 64 = 1 := by omega
      rw [if_neg hl, if_pos h1, hx, h1]
      congr 3
      show 64 * 1 + (i.val - 64) = i.val
      omega

theorem over_top {α : Type} (x y : S128x128.Idx → α) (i l : Fin 128) : over x y (ix2 ⟨i.val, by omega⟩ l) = x (ix2 i l) := by
  have h : i.val < 128 := i.isLt
  pointwise [over]

theorem over_bottom {α : Type} (x y : S128x128.Idx → α) (i l : Fin 128) : over x y (ix2 ⟨128 + i.val, by omega⟩ l) = y (ix2 i l) := by
  have h : ¬ 128 + i.val < 128 := by omega
  pointwise [over]

theorem pos_row (i j : Fin 128) : k0_pay4 (ix2 i j) = BitVec.ofNat 32 (i.val % 64) := by
  pointwise [k0_pay4]
  clear j
  revert i
  decide +kernel

theorem pos_col (i j : Fin 128) : k0_pay5 (ix2 i j) = BitVec.ofNat 32 (j.val % 64) := by
  pointwise [k0_pay5]
  clear i
  revert j
  decide +kernel

theorem strict_at (x : FVec Ideal S128x128 .f32) (i j : Fin 128) : strict x (ix2 i j) = if j.val % 64 < i.val % 64 then x (ix2 i j) else 0 := by
  pointwise [strict, k0_pay6]
  rw [pos_row, pos_col, cmpi_slt_ofNat (by omega) (by omega), select_ofBool]
  simp only [decide_eq_true_eq]

theorem mm_holds {x y : FVec Ideal S128x128 .f32} {A B : Matrix (Fin 128) (Fin 128) ℝ} (hx : HoldsMat x A) (hy : HoldsMat y B) :
    HoldsMat (mm (rnd x) (rnd y)) (A * B) := by
  intro i j
  pointwise [mm, rnd]
  simp only [hx i, hy _ j, Matrix.mul_apply, coe_sum, EReal.coe_mul]

theorem sq_holds {x : FVec Ideal S128x128 .f32} {A : Matrix (Fin 128) (Fin 128) ℝ} (hx : HoldsMat x A) : HoldsMat (sq x) (A * A) := mm_holds hx hx

theorem dbl_holds {x y : FVec Ideal S128x128 .f32} {A B : Matrix (Fin 128) (Fin 128) ℝ} (hx : HoldsMat x A) (hy : HoldsMat y B) :
    HoldsMat (dbl x y) (Chunk64.double A B) := by
  intro i j
  pointwise [dbl]
  rw [mm_holds hx hy i j, hx, hy]
  norm_cast

theorem powers_holds {x : FVec Ideal S128x128 .f32} {A : Matrix (Fin 128) (Fin 128) ℝ} (h : HoldsMat x A) :
    HoldsMat (powersOf x) (Chunk64.powers A) := by
  rw [powers_steps]
  have e : ∀ m n, n = m + m → ∀ {y : FVec Ideal S128x128 .f32}, HoldsMat y (A ^ m) → HoldsMat (sq y) (A ^ n) := by
    rintro m n rfl y hy
    rw [pow_add]
    exact sq_holds hy
  have h1 : HoldsMat x (A ^ 1) := by rw [pow_one]; exact h
  have h2 := e 1 2 rfl h1
  have h4 := e 2 4 rfl h2
  have h8 := e 4 8 rfl h4
  have h16 := e 8 16 rfl h8
  have h32 := e 16 32 rfl h16
  exact dbl_holds (dbl_holds (dbl_holds (dbl_holds (dbl_holds h h2) h4) h8) h16) h32

/-- The states read by rows, at real rows. -/
theorem read_at (x : FVec Ideal S256x128 .f32) (s : FVec Ideal S128x128 .f32) (i : Fin 256) (n : Fin 128) (f g : Fin 128 → ℝ)
    (hx : ∀ l, x (ix2 i l) = ((f l : ℝ) : EReal)) (hs : ∀ l, s (ix2 n l) = ((g l : ℝ) : EReal)) :
    readOf (truncf .bf16 x bitsLt_bf16_f32)
      (truncf .bf16 (subf x (extf .f32 (truncf .bf16 x bitsLt_bf16_f32) bitsLt_bf16_f32)) bitsLt_bf16_f32) s (ix2 i n)
      = ((∑ l, f l * g l : ℝ) : EReal) := by
  pointwise [readOf, k0_pay669]
  simp only [hx, hs, sub_self_coe, mul_zero, zero_mul, Finset.sum_const_zero, add_zero, coe_sum, EReal.coe_mul]

section Chunk

variable (X : Rows) {r w k v a : Vec Ideal S64x128 .f32} {kk ka : Vec Ideal S1x128 .f32} {s : FVec Ideal S128x128 .f32}
  (hr : Raw r X.r) (hw : Raw w X.w) (hk : Raw k X.k) (hv : Raw v X.v) (ha : Raw a X.a) (hkk : RawRow kk X.kk) (hka : RawRow ka X.ka)
  (hs : HoldsMat s (stk (stateRows X.s0)))

include hw hk hkk in
theorem ar_top (i l : Fin 128) : arOf r w k kk (ix2 ⟨i.val, by omega⟩ l) = ((stk X.at' i l : ℝ) : EReal) := by
  rw [ar_eq, over_top]
  exact stack_holds (at_raw X hw hk hkk) i l

include hr hw in
theorem ar_bottom (i l : Fin 128) : arOf r w k kk (ix2 ⟨128 + i.val, by omega⟩ l) = ((stk X.rt i l : ℝ) : EReal) := by
  rw [ar_eq, over_bottom]
  exact stack_holds (rt_raw X hr hw) i l

include hw hk ha hkk in
theorem bk_top (i l : Fin 128) : bkOf w k a kk ka (ix2 ⟨i.val, by omega⟩ l) = ((stk X.bt i l : ℝ) : EReal) := by
  rw [bkOf, over_top]
  exact stack_holds (bt_raw X hw hk ha hkk) i l

include hw hk ha hka in
theorem bk_bottom (i l : Fin 128) : bkOf w k a kk ka (ix2 ⟨128 + i.val, by omega⟩ l) = ((stk X.kt i l : ℝ) : EReal) := by
  rw [bkOf, over_bottom]
  exact stack_holds (kt_raw X hw hk ha hka) i l

theorem before_iff (i j : Fin 128) (x : ℝ) :
    (if j.val % 64 < i.val % 64 then (((if j.val / 64 = i.val / 64 then x else 0 : ℝ)) : EReal) else 0)
      = ((if Chunk64.before i.val j.val then x else 0 : ℝ) : EReal) := by
  rw [ite_coe]
  congr 1
  by_cases h1 : j.val / 64 = i.val / 64 <;> by_cases h2 : j.val % 64 < i.val % 64
  · rw [if_pos h2, if_pos h1, if_pos ⟨h1.symm, by omega⟩]
  · rw [if_neg h2, if_neg fun q => h2 (by have := q.2; omega)]
  · rw [if_pos h2, if_neg h1, if_neg fun q => h1 q.1.symm]
  · rw [if_neg h2, if_neg fun q => h1 q.1.symm]

include hw hk ha hkk in
theorem aab_holds : HoldsMat (aabOf r w k a kk ka) X.Aab := by
  intro i j
  rw [aab_eq, strict_at, arHi_eq, bkHi_eq]
  pointwise [products]
  simp only [ar_top X hw hk hkk i, bk_top X hw hk ha hkk j, ← EReal.coe_mul, ← coe_sum, stk_mul_transpose]
  exact before_iff i j _

include hw hk ha hkk hka in
theorem aak_holds : HoldsMat (aakOf r w k a kk ka) X.Aak := by
  intro i j
  rw [aakOf, strict_at, arHi_eq, bkHi_eq]
  pointwise [products]
  simp only [ar_top X hw hk hkk i, bk_bottom X hw hk ha hka j, ← EReal.coe_mul, ← coe_sum, stk_mul_transpose]
  exact before_iff i j _

include hw hk hv ha hkk hka in
theorem akv_holds : HoldsMat (akvOf r w k v a kk ka) (X.Aak * stk X.v) := by
  rw [akv_eq, v_eq]
  exact mm_holds (aak_holds X hw hk ha hkk hka) (stack_holds hv)

include hw hk hv ha hkk hka hs in
theorem y_holds : HoldsMat (yOf (readOf (arHi r w k kk) (arLo r w k kk) s) (akvOf r w k v a kk ka)) (stk X.YN) := by
  intro i x
  rw [← X.Y_stk i x, arLo_eq, arHi_eq]
  pointwise [yOf]
  have e := read_at (arOf r w k kk) s ⟨i.val, by omega⟩ x (stk X.at' i) (stk (stateRows X.s0) x) (ar_top X hw hk hkk i) (hs x)
  rw [e, akv_holds X hw hk hv ha hkk hka i x, Matrix.mul_apply, ← EReal.coe_add]

include hw hk hv ha hkk hka hs in
theorem u_holds : HoldsMat (uOf (powersOf (aabOf r w k a kk ka)) (yOf (readOf (arHi r w k kk) (arLo r w k kk) s) (akvOf r w k v a kk ka)))
    (stk X.UN) := by
  intro i x
  have hy := y_holds X hw hk hv ha hkk hka hs (r := r)
  have hp := powers_holds (aab_holds X (r := r) (ka := ka) hw hk ha hkk)
  generalize yOf (F := Ideal) _ _ = y at hy ⊢
  generalize powersOf (F := Ideal) _ = P at hp ⊢
  rw [← X.U_stk X.powers_off i x]
  pointwise [uOf]
  rw [mm_holds hp hy i x, hy i x, Matrix.mul_apply, ← EReal.coe_add]

/-- The sums over rows of two real matrices over each other. -/
theorem outer_at (x y : S128x128.Idx → EReal) (z : S256x128.Idx → EReal) (i n : Fin 128) :
    outer (F := Ideal) (over x y) z (ix2 i n)
      = ∑ m : Fin 128, x (ix2 m i) * z (ix2 ⟨m.val, by omega⟩ n) + ∑ m : Fin 128, y (ix2 m i) * z (ix2 ⟨128 + m.val, by omega⟩ n) := by
  pointwise [outer]
  refine (Fin.sum_univ_add (a := 128) (b := 128) _).trans ?_
  refine congrArg₂ _ (Finset.sum_congr rfl fun m _ => ?_) (Finset.sum_congr rfl fun m _ => ?_)
  · exact congrArg (· * _) (over_top x y m i)
  · exact congrArg (· * _) (over_bottom x y m i)

include hw hk hv ha hkk hka hs in
/-- The new states of a chunk. -/
theorem step_holds : HoldsMat (step r w k v a kk ka s) (stk (stateRows fun g => X.st g 64)) := by
  intro x n
  have hu := u_holds X hw hk hv ha hkk hka hs (r := r)
  have hb := bk_top X (ka := ka) hw hk ha hkk
  have hc := bk_bottom X (kk := kk) hw hk ha hka
  have hV := stack_holds hv
  rw [step_eq]
  generalize uOf (F := Ideal) _ _ = u at hu ⊢
  generalize bkOf (F := Ideal) w k a kk ka = bk at hb hc ⊢
  generalize stackOf (F := Ideal) v = V at hV ⊢
  rw [← X.state_stk x n]
  pointwise [stateOf]
  rw [end_at X hw n, hs x n, outer_at, outer_at, outer_at]
  pointwise [rnd]
  simp only [hu _ x, hV _ x, hb _ n, hc _ n, sub_self_coe, mul_zero, zero_mul, Finset.sum_const_zero, add_zero]
  simp only [← EReal.coe_mul, ← coe_sum, ← EReal.coe_add]

end Chunk

end Cert.ScanPromptIdeal.Items

end
-- ==== Proof.ScanPrompt.Prompt.lean ====
/-
  The prompt's inputs to the scan as reals, the state of every head after each token, and the rows of one chunk of a pair of
  heads, whose recurrence continues the prompt's.
-/
module

public import proofs.«01_k».proof.Proof.Data
public import proofs.«01_k».proof.Proof.ScanPrompt.Real

@[expose] public section

noncomputable section

namespace Cert.Proof

open Idealize.ShloMosaic
open Cert.Proof.Scalars

/-- The real inputs: rows of tokens and columns of head dimensions, and two rows of weights. -/
structure Prompt where
  w : ℕ → ℕ → ℝ
  k : ℕ → ℕ → ℝ
  v : ℕ → ℕ → ℝ
  a : ℕ → ℕ → ℝ
  kk : ℕ → ℝ
  ka : ℕ → ℝ

namespace Prompt

variable (D : Prompt)

/-- The removal key of token `t` at head `h`. -/
def dir (h t : ℕ) (n : Fin 64) : ℝ := unit (fun x => D.k t (h * 64 + x) * D.kk (h * 64 + x)) n

/-- The replacement key. -/
def key (h t : ℕ) (n : Fin 64) : ℝ := D.k t (h * 64 + n) * (1 + (D.a t (h * 64 + n) - 1) * D.ka (h * 64 + n))

/-- The state of head `h` after `t` tokens. -/
def st (h : ℕ) : ℕ → Fin 64 → Fin 64 → ℝ :=
  Chunk.state (fun _ _ => 0) (fun t n => D.w t (h * 64 + n)) (fun t n => -D.dir h t n)
    (fun t n => D.dir h t n * D.a t (h * 64 + n)) (fun t n => D.key h t n) (fun t n => D.v t (h * 64 + n))

end Prompt

/-- The argument arrays hold the real inputs. -/
structure Prompt.Held (D : Prompt) (a1 a2 a3 a4 : FVec Ideal ⟨2, ![8192, 2048]⟩ .f32) (a6 a7 : FVec Ideal ⟨2, ![1, 2048]⟩ .f32) :
    Prop where
  w : ∀ i j, a1 (ix2 i j) = ((D.w i j : ℝ) : EReal)
  k : ∀ i j, a2 (ix2 i j) = ((D.k i j : ℝ) : EReal)
  v : ∀ i j, a3 (ix2 i j) = ((D.v i j : ℝ) : EReal)
  a : ∀ i j, a4 (ix2 i j) = ((D.a i j : ℝ) : EReal)
  kk : ∀ j, a6 (ix2 0 j) = ((D.kk j : ℝ) : EReal)
  ka : ∀ j, a7 (ix2 0 j) = ((D.ka j : ℝ) : EReal)

/-- The recurrence from a state it has reached goes on as if it had not stopped. -/
theorem Chunk.state_shift {α β : Type} [Fintype β] (S : α → β → ℝ) (w a b k : ℕ → β → ℝ) (v : ℕ → α → ℝ) (T : ℕ) : ∀ t,
    Chunk.state (Chunk.state S w a b k v T) (fun t => w (T + t)) (fun t => a (T + t)) (fun t => b (T + t)) (fun t => k (T + t))
      (fun t => v (T + t)) t = Chunk.state S w a b k v (T + t)
  | 0 => rfl
  | t + 1 => by
    funext x n
    have e := Chunk.state_shift S w a b k v T t
    rw [Chunk.state, e]
    rfl

namespace Pair

/-- The chunk of 64 tokens from token `T` on of heads `2 j` and `2 j + 1`; the states do not read `r`. -/
def rowsOf (D : Prompt) (j T : ℕ) : Rows where
  r _ _ := 0
  w i n := D.w (T + i % 64) ((2 * j + i / 64) * 64 + n)
  k i n := D.k (T + i % 64) ((2 * j + i / 64) * 64 + n)
  v i n := D.v (T + i % 64) ((2 * j + i / 64) * 64 + n)
  a i n := D.a (T + i % 64) ((2 * j + i / 64) * 64 + n)
  s0 g := D.st (2 * j + g) T
  kk g n := D.kk ((2 * j + g) * 64 + n)
  ka g n := D.ka ((2 * j + g) * 64 + n)

section

variable (g t : ℕ) (ht : t < 64)

include ht

theorem div64 : (64 * g + t) / 64 = g := by omega

theorem mod64 : (64 * g + t) % 64 = t := by omega

end

/-- The chunk's recurrence is the prompt's. -/
theorem rowsOf_st (D : Prompt) (j T g : ℕ) (t : ℕ) (ht : t ≤ 64) : (rowsOf D j T).st g t = D.st (2 * j + g) (T + t) := by
  refine Eq.trans ?_ (Chunk.state_shift (fun _ _ => 0) _ _ _ _ _ T t)
  have hd : ∀ t < 64, (rowsOf D j T).dir (64 * g + t) = D.dir (2 * j + g) (T + t) := fun t h => by
    funext n
    simp only [Rows.dir, Prompt.dir, rowsOf, div64 g t h, mod64 g t h]
  have hk : ∀ t < 64, (rowsOf D j T).key (64 * g + t) = D.key (2 * j + g) (T + t) := fun t h => by
    funext n
    simp only [Rows.key, Prompt.key, rowsOf, div64 g t h, mod64 g t h]
  refine Chunk.state_congr _ 64 (fun t h => ?_) (fun t h => ?_) (fun t h => ?_) (fun t h => hk t h) (fun t h => ?_) t ht
  · simp only [rowsOf, div64 g t h, mod64 g t h]
  · simp only [hd t h]
  · funext n
    rw [hd t h]
    simp only [rowsOf, div64 g t h, mod64 g t h]
  · simp only [rowsOf, div64 g t h, mod64 g t h]

end Pair

end Cert.Proof

end
-- ==== Proof.ScanPrompt.Block.lean ====
/-
  One block of the chunked scan at real inputs: the states it stores, for a first block and for a later one, are the
  prompt's states 512 tokens on.
-/
module

public import proofs.«01_k».proof.Proof.ScanPrompt.Outputs
public import proofs.«01_k».proof.Proof.ScanPrompt.Step
public import proofs.«01_k».proof.Proof.ScanPrompt.Prompt
public import Idealize.ShloMosaic.Lib.Pipeline.CanonAppend
public import Idealize.ShloMosaic.Lib.Pipeline.ReadBack
public import Idealize.ShloMosaic.Lib.Pipeline.ValueKit.Tiles
public import Idealize.ShloMosaic.Lib.Pointwise

@[expose] public section

set_option maxRecDepth 16384

noncomputable section

namespace Cert.ScanPromptIdeal.Items

open Cert.ScanPromptIdeal Cert.ScanPromptIdeal.Gen Cert.Proof Cert.Proof.Pair Idealize.ShloMosaic Idealize.ShloMosaic.TcCoe

/-- The states of heads `2 j` and `2 j + 1` after `T` tokens, one below the other on the diagonal. -/
def pairSt (D : Prompt) (j T : ℕ) : Matrix (Fin 128) (Fin 128) ℝ := stk (stateRows fun g => D.st (2 * j + g) T)

theorem pairSt_zero (D : Prompt) (j : ℕ) (x n : Fin 128) : pairSt D j 0 x n = 0 := by
  simp only [pairSt, stk, stateRows, Prompt.st, Chunk.state, ite_self]

/-- The rows of 512 tokens from `T` on of the heads `4 hp` to `4 hp + 3`. -/
def BlkHolds (x : FVec Ideal S512x256 .f32) (f : ℕ → ℕ → ℝ) (hp T : ℕ) : Prop :=
  ∀ (i : Fin 512) (l : Fin 256), x (ix2 i l) = ((f (T + i) (hp * 256 + l) : ℝ) : EReal)

/-- The weights of the heads `4 hp` to `4 hp + 3`. -/
def RowHolds (x : FVec Ideal S1x256 .f32) (f : ℕ → ℝ) (hp : ℕ) : Prop :=
  ∀ l : Fin 256, x (ix2 0 l) = ((f (hp * 256 + l) : ℝ) : EReal)

/-- Chunk `q` of pair `p` in a block. -/
abbrev ldChunk (x : FVec Ideal S512x256 .f32) (q : Fin 8) (p : Fin 2) : FVec Ideal S64x128 .f32 :=
  View.ld (Val := Elt Ideal) (e' := .f32) x (chunkRect q p)

/-- Pair `p`'s weights in a row. -/
abbrev ldRow (x : FVec Ideal S1x256 .f32) (p : Fin 2) : FVec Ideal S1x128 .f32 := View.ld (Val := Elt Ideal) (e' := .f32) x (rowRect p)

/-- Pair `p`'s state in an array of two. -/
abbrev ldPair (x : FVec Ideal S2x128x128 .f32) (p : Fin 2) : FVec Ideal S1x128x128 .f32 :=
  View.ld (Val := Elt Ideal) (e' := .f32) x (pairRect p)

theorem chunk_at (x : FVec Ideal S512x256 .f32) (q : Fin 8) (p : Fin 2) (t : Fin 64) (l : Fin 128) :
    ldChunk x q p (ix2 t l) = x (ix2 ⟨64 * q.val + t.val, by omega⟩ ⟨128 * p.val + l.val, by omega⟩) :=
  congrArg x (funext fun a => Fin.ext ((Rect.idx_unit_val _ _ _ _ a).trans (by match a with | ⟨0, _⟩ => rfl | ⟨1, _⟩ => rfl)))

theorem row_at (x : FVec Ideal S1x256 .f32) (p : Fin 2) (l : Fin 128) :
    ldRow x p (ix2 0 l) = x (ix2 0 ⟨128 * p.val + l.val, by omega⟩) :=
  congrArg x (funext fun a => Fin.ext ((Rect.idx_unit_val _ _ _ _ a).trans (by match a with | ⟨0, _⟩ => rfl | ⟨1, _⟩ => rfl)))

theorem pair_at (x : FVec Ideal S2x128x128 .f32) (p : Fin 2) (i j : Fin 128) :
    ldPair x p (ix3 0 i j) = x (ix3 p i j) :=
  congrArg x (funext fun a => Fin.ext ((Rect.idx_unit_val _ _ _ _ a).trans (by
    match a with
    | ⟨0, _⟩ => rfl
    | ⟨1, _⟩ => exact Nat.zero_add _
    | ⟨2, _⟩ => exact Nat.zero_add _)))

variable {D : Prompt} {hp T : ℕ}

theorem chunk_raw {x : FVec Ideal S512x256 .f32} {f : ℕ → ℕ → ℝ} (h : BlkHolds x f hp T) (q : Fin 8) (p : Fin 2) :
    Raw (ldChunk x q p)
      (fun i n => f (T + 64 * q.val + i % 64) ((2 * (2 * hp + p.val) + i / 64) * 64 + n)) := fun t l => by
  have e1 : (64 * (l.val / 64) + t.val) % 64 = t.val := by omega
  have e2 : (64 * (l.val / 64) + t.val) / 64 = l.val / 64 := by omega
  have e3 : (2 * (2 * hp + p.val) + l.val / 64) * 64 + (lane l.val).val = hp * 256 + (128 * p.val + l.val) := by
    simp only [lane]; omega
  rw [chunk_at, h]
  dsimp only
  rw [e1, e2, e3, Nat.add_assoc]

theorem row_raw {x : FVec Ideal S1x256 .f32} {f : ℕ → ℝ} (h : RowHolds x f hp) (p : Fin 2) :
    RawRow (ldRow x p) (fun g n => f ((2 * (2 * hp + p.val) + g) * 64 + n)) := fun l => by
  have e3 : (2 * (2 * hp + p.val) + l.val / 64) * 64 + (lane l.val).val = hp * 256 + (128 * p.val + l.val) := by
    simp only [lane]; omega
  rw [row_at, h]
  dsimp only
  rw [e3]

/-- A block's inputs hold the prompt's. -/
structure BlockHolds (D : Prompt) (hp T : ℕ) (x1 x2 x3 x4 : FVec Ideal S512x256 .f32) (x6 x7 : FVec Ideal S1x256 .f32) : Prop where
  w : BlkHolds x1 D.w hp T
  k : BlkHolds x2 D.k hp T
  v : BlkHolds x3 D.v hp T
  a : BlkHolds x4 D.a hp T
  kk : RowHolds x6 D.kk hp
  ka : RowHolds x7 D.ka hp

section

variable (arg2 : Memref sig .tc .vmem S512x256 .f32) (harg2 : arg2.IsWhole) (arg3 : Memref sig .tc .vmem S512x256 .f32) (harg3 : arg3.IsWhole)
  (arg4 : Memref sig .tc .vmem S512x256 .f32) (harg4 : arg4.IsWhole) (arg5 : Memref sig .tc .vmem S512x256 .f32) (harg5 : arg5.IsWhole)
  (arg6 : Memref sig .tc .vmem S512x256 .f32) (harg6 : arg6.IsWhole) (arg8 : Memref sig .tc .vmem S1x256 .f32) (harg8 : arg8.IsWhole)
  (arg9 : Memref sig .tc .vmem S1x256 .f32) (harg9 : arg9.IsWhole) (arg15 : Memref sig .tc .vmem S2x128x128 .f32) (harg15 : arg15.IsWhole)
  {x0 x1 x2 x3 x4 : FVec Ideal S512x256 .f32} {x6 x7 : FVec Ideal S1x256 .f32} (B : BlockHolds D hp T x1 x2 x3 x4 x6 x7)

include B in
/-- One chunk of a block. -/
theorem stepAt_holds (p : Fin 2) (q : Fin 8) {s : FVec Ideal S128x128 .f32} (hs : HoldsMat s (pairSt D (2 * hp + p) (T + 64 * q))) :
    HoldsMat (stepAt (F := Ideal) arg2 harg2 arg3 harg3 arg4 harg4 arg5 harg5 arg6 harg6 arg8 harg8 arg9 harg9 x0 x1 x2 x3 x4 x6 x7 p q s)
      (pairSt D (2 * hp + p) (T + 64 * q + 64)) := by
  simp only [stepAt, View.readAt_eq_ld, harg2.read_unread, harg3.read_unread, harg4.read_unread, harg5.read_unread, harg6.read_unread,
    harg8.read_unread, harg9.read_unread]
  have e := step_holds (rowsOf D (2 * hp + p) (T + 64 * q)) (r := ldChunk x0 q p) (chunk_raw B.w q p)
    (chunk_raw B.k q p) (chunk_raw B.v q p) (chunk_raw B.a q p) (row_raw B.kk p) (row_raw B.ka p) hs
  simp only [rowsOf_st _ _ _ _ 64 le_rfl] at e
  exact e

include B in
theorem chain_holds (p : Fin 2) {s : FVec Ideal S128x128 .f32} (hs : HoldsMat s (pairSt D (2 * hp + p) T)) : ∀ n ≤ 8,
    HoldsMat (chain (stepAt (F := Ideal) arg2 harg2 arg3 harg3 arg4 harg4 arg5 harg5 arg6 harg6 arg8 harg8 arg9 harg9 x0 x1 x2 x3 x4 x6 x7 p) s n)
      (pairSt D (2 * hp + p) (T + 64 * n))
  | 0, _ => hs
  | n + 1, h => by
    have e : (Fin.ofNat 8 n).val = n := Nat.mod_eq_of_lt (by omega)
    have h1 := chain_holds p hs n (by omega)
    have h2 := stepAt_holds arg2 harg2 arg3 harg3 arg4 harg4 arg5 harg5 arg6 harg6 arg8 harg8 arg9 harg9 (x0 := x0) B p (Fin.ofNat 8 n)
      (s := chain (stepAt (F := Ideal) arg2 harg2 arg3 harg3 arg4 harg4 arg5 harg5 arg6 harg6 arg8 harg8 arg9 harg9 x0 x1 x2 x3 x4 x6 x7 p) s n)
      (by rw [e]; exact h1)
    rw [e] at h2
    exact h2

/-- The two pairs' states hold the prompt's after `T` tokens. -/
def StatesHold (s : FVec Ideal S2x128x128 .f32) (D : Prompt) (hp T : ℕ) : Prop :=
  ∀ (p : Fin 2) (i j : Fin 128), s (ix3 p i j) = ((pairSt D (2 * hp + p) T i j : ℝ) : EReal)

include B in
/-- The states that a block's two stores leave. -/
theorem canon_holds (S : Fin 2 → FVec Ideal S128x128 .f32) (hS : ∀ p, HoldsMat (S p) (pairSt D (2 * hp + p) T))
    (L : List (View.Piece (Elt Ideal) S2x128x128 .f32)) :
    StatesHold (View.canon ([statePiece arg2 harg2 arg3 harg3 arg4 harg4 arg5 harg5 arg6 harg6 arg8 harg8 arg9 harg9 x0 x1 x2 x3 x4 x6 x7 1 (S 1),
      statePiece arg2 harg2 arg3 harg3 arg4 harg4 arg5 harg5 arg6 harg6 arg8 harg8 arg9 harg9 x0 x1 x2 x3 x4 x6 x7 0 (S 0)] ++ L)) D hp (T + 512) := by
  intro p i j
  have hemb : ∀ (p : Fin 2) (i j : Fin 128), (pairRect p).emb (ix3 0 i j) = (ix3 p i j : S2x128x128.Idx) := fun p i j =>
    funext fun a => Fin.ext ((Rect.idx_unit_val _ _ _ _ a).trans (by
      match a with
      | ⟨0, _⟩ => rfl
      | ⟨1, _⟩ => exact Nat.zero_add _
      | ⟨2, _⟩ => exact Nat.zero_add _))
  have hpay0 : ∀ (p : Fin 2) (i j : Fin 128), shapeCast S1x128x128 (eight (stepAt (F := Ideal) arg2 harg2 arg3 harg3 arg4 harg4 arg5 harg5 arg6
      harg6 arg8 harg8 arg9 harg9 x0 x1 x2 x3 x4 x6 x7 p) (S p)) shapeCasts_S128x128_S1x128x128 (ix3 0 i j)
      = ((pairSt D (2 * hp + p) (T + 512) i j : ℝ) : EReal) := fun p i j => by
    have h8 := chain_holds arg2 harg2 arg3 harg3 arg4 harg4 arg5 harg5 arg6 harg6 arg8 harg8 arg9 harg9 (x0 := x0) B p (hS p) 8 le_rfl
    rw [← eight_eq] at h8
    generalize eight _ (S p) = u at h8 ⊢
    pointwise
    exact h8 _ _
  have hpay : ∀ (p : Fin 2) (x : S1x128x128.Idx),
      (statePiece arg2 harg2 arg3 harg3 arg4 harg4 arg5 harg5 arg6 harg6 arg8 harg8 arg9 harg9 x0 x1 x2 x3 x4 x6 x7 p (S p)).2 x
        = (fun y : S2x128x128.Idx => ((pairSt D (2 * hp + (y 0 : Fin 2)) (T + 512) (y 1) (y 2) : ℝ) : EReal)) ((pairRect p).emb x) := fun p x => by
    have ex : x = ix3 (0 : Fin 1) (x 1 : Fin 128) (x 2 : Fin 128) := funext fun a => by
      match a with
      | ⟨0, _⟩ => exact Subsingleton.elim (α := Fin 1) _ _
      | ⟨1, _⟩ => rfl
      | ⟨2, _⟩ => rfl
    rw [ex]
    exact (hpay0 p _ _).trans (congrArg (fun y : S2x128x128.Idx =>
      ((pairSt D (2 * hp + (y 0 : Fin 2)) (T + 512) (y 1) (y 2) : ℝ) : EReal)) (hemb p _ _)).symm
  refine View.canon_append_of_pieces (Val := Elt Ideal)
    (fun y : S2x128x128.Idx => ((pairSt D (2 * hp + (y 0 : Fin 2)) (T + 512) (y 1) (y 2) : ℝ) : EReal)) L _ ?_ (ix3 p i j) ?_
  · intro P hP x
    rcases List.mem_cons.mp hP with rfl | hP
    · exact hpay 1 x
    · rcases List.mem_singleton.mp hP with rfl
      exact hpay 0 x
  · have hm : ∀ p : Fin 2, (ix3 p i j : S2x128x128.Idx) ∈ (pairRect p).set := fun p => by
      rw [← hemb p]; exact (pairRect p).idx_mem _
    fin_cases p
    · exact ⟨_, List.mem_cons_of_mem _ (List.mem_singleton_self _), hm 0⟩
    · exact ⟨_, List.mem_cons_self, hm 1⟩

/-- The zeros a first block starts from. -/
theorem zeroAt_holds (D : Prompt) (j : ℕ) (p : Fin 2) : HoldsMat (zeroAt (F := Ideal) arg15 p) (pairSt D j 0) := fun x n => by
  rw [pairSt_zero]
  unfold zeroAt
  rw [View.readCov_eq_canon', View.canon_unit_zero (funext fun a => by fin_cases a <;> rfl)]
  pointwise [k0_pay2]
  exact EReal.coe_zero.symm

theorem cast_pair (u : FVec Ideal S1x128x128 .f32) (x n : Fin 128) :
    shapeCast S128x128 u shapeCasts_S1x128x128_S128x128 (ix2 x n) = u (ix3 0 x n) := by
  pointwise

theorem stateAt_eq (s : FVec Ideal S2x128x128 .f32) (p : Fin 2) : stateAt (F := Ideal) arg15 harg15 s p
    = shapeCast S128x128 (ldPair s p) shapeCasts_S1x128x128_S128x128 := by
  unfold stateAt
  rw [View.readAt_eq_ld, harg15.read_unread]

/-- The states a later block starts from. -/
theorem stateAt_holds {s : FVec Ideal S2x128x128 .f32} (hs : StatesHold s D hp T) (p : Fin 2) :
    HoldsMat (stateAt (F := Ideal) arg15 harg15 s p) (pairSt D (2 * hp + p) T) := fun x n => by
  rw [stateAt_eq, cast_pair, pair_at]
  exact hs p x n

end

end Cert.ScanPromptIdeal.Items

end
-- ==== Proof.ScanPrompt.Points.lean ====
/-
  The chunked scan's grid: point `16 hp + ti` is the block of tokens from `512 ti` on of the heads `4 hp` to `4 hp + 3`. The
  carried states go from point to point, and the last block of a pair writes back the prompt's final states.
-/
module

public import proofs.«01_k».proof.Proof.ScanPrompt.Block
public import Idealize.ShloMosaic.Lib.Pipeline.Value
public import Idealize.ShloMosaic.Lib.Pointwise
public import Idealize.ShloMosaic.Lib.Tactic.CleanTypes
public import Idealize.ShloMosaic.Lib.StableHlo.RunRead

@[expose] public section

set_option maxRecDepth 16384

noncomputable section

namespace Cert.ScanPromptIdeal.Points

open Cert.ScanPromptIdeal Cert.ScanPromptIdeal.Gen Cert.ScanPromptIdeal.Items Cert.Proof Cert.Proof.Pair
open Idealize.ShloMosaic Idealize.ShloMosaic.TcCoe Idealize.ShloMosaic.StableHlo Idealize.SL.Sem

/-! ## What a block leaves -/

section

variable (c : Dev nD) (i : grid0.Coords) (arg2 : Memref sig .tc .vmem S512x256 .f32) (harg2 : arg2.IsWhole) (arg3 : Memref sig .tc .vmem S512x256 .f32) (harg3 : arg3.IsWhole)
  (arg4 : Memref sig .tc .vmem S512x256 .f32) (harg4 : arg4.IsWhole) (arg5 : Memref sig .tc .vmem S512x256 .f32) (harg5 : arg5.IsWhole)
  (arg6 : Memref sig .tc .vmem S512x256 .f32) (harg6 : arg6.IsWhole) (arg7 : Memref sig .tc .vmem S512x256 .f32) (harg7 : arg7.IsWhole)
  (arg8 : Memref sig .tc .vmem S1x256 .f32) (harg8 : arg8.IsWhole) (arg9 : Memref sig .tc .vmem S1x256 .f32) (harg9 : arg9.IsWhole)
  (arg10 : Memref sig .tc .vmem S1x256 .f32) (harg10 : arg10.IsWhole) (arg11 : Memref sig .tc .vmem S1x256 .f32) (harg11 : arg11.IsWhole)
  (arg12 : Memref sig .tc .vmem S1x256 .f32) (harg12 : arg12.IsWhole) (arg13 : Memref sig .tc .vmem S512x256 .bf16) (harg13 : arg13.IsWhole)
  (arg14 : Memref sig .tc .vmem S2x128x128 .f32) (harg14 : arg14.IsWhole) (arg15 : Memref sig .tc .vmem S2x128x128 .f32) (harg15 : arg15.IsWhole)
  (arg16 : Memref sig .tc .vmem S512x256 .f32) (harg16 : arg16.IsWhole) (arg17 : Memref sig .tc .vmem S512x256 .f32) (harg17 : arg17.IsWhole)
  {x0 x1 x2 x3 x4 x5 : FVec Ideal S512x256 .f32} {x6 x7 x8 x9 x10 : FVec Ideal S1x256 .f32} {D : Prompt} {hp T : ℕ}

theorem written_first (hc : cond0_0 i) (B : BlockHolds D hp 0 x1 x2 x3 x4 x6 x7) :
    StatesHold (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10) D hp 512 := by
  unfold out0_A_12
  rw [View.read_writes_junk_eq_canon, written_A]
  have e := canon_holds arg2 harg2 arg3 harg3 arg4 harg4 arg5 harg5 arg6 harg6 arg8 harg8 arg9 harg9 (x0 := x0) B (zeroAt (F := Ideal) arg15)
    (fun p => zeroAt_holds arg15 D _ p) []
  rw [List.append_nil, Nat.zero_add] at e
  exact e

theorem carried_first (hc : cond0_0 i) (B : BlockHolds D hp 0 x1 x2 x3 x4 x6 x7) :
    StatesHold (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10) D hp 512 := by
  unfold sout0_A_0
  rw [View.read_writes_junk_eq_canon, carried_A]
  have e := canon_holds arg2 harg2 arg3 harg3 arg4 harg4 arg5 harg5 arg6 harg6 arg8 harg8 arg9 harg9 (x0 := x0) B (zeroAt (F := Ideal) arg15)
    (fun p => zeroAt_holds arg15 D _ p) [⟨Rect.unit (s := S2x128x128) ![0, 0, 0] S2x128x128.size inb_states, k0_pay2 (F := Ideal)⟩]
  rw [Nat.zero_add] at e
  exact e

theorem written_later (hc : ¬cond0_0 i) (B : BlockHolds D hp T x1 x2 x3 x4 x6 x7)
    {xs0 : FVec Ideal S2x128x128 .f32} (hs : StatesHold xs0 D hp T) :
    StatesHold (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xs0) D hp (T + 512) := by
  unfold out0_B_12
  rw [View.read_writes_junk_eq_canon, written_B]
  have e := canon_holds arg2 harg2 arg3 harg3 arg4 harg4 arg5 harg5 arg6 harg6 arg8 harg8 arg9 harg9 (x0 := x0) B (stateAt (F := Ideal) arg15 harg15 xs0)
    (stateAt_holds arg15 harg15 hs) []
  rw [List.append_nil] at e
  exact e

theorem carried_later (hc : ¬cond0_0 i) (B : BlockHolds D hp T x1 x2 x3 x4 x6 x7)
    {xs0 : FVec Ideal S2x128x128 .f32} (hs : StatesHold xs0 D hp T) :
    StatesHold (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xs0) D hp (T + 512) := by
  unfold sout0_B_0
  rw [View.read_writes_junk_eq_canon, carried_B]
  have e := canon_holds arg2 harg2 arg3 harg3 arg4 harg4 arg5 harg5 arg6 harg6 arg8 harg8 arg9 harg9 (x0 := x0) B (stateAt (F := Ideal) arg15 harg15 xs0)
    (stateAt_holds arg15 harg15 hs) []
  rw [List.append_nil] at e
  exact e

end

variable (m : (ℓ : Loc nD τ sig) → Buf (Elt Ideal) ℓ) (ρ : Dev nD → PrngReg) (c : Dev nD)

/-- Argument array `b` of device `c`. -/
abbrev arg (b : Ref sig .tc) : Buf (Elt Ideal) ((c : Thread nD τ).loc b) := m ((c : Thread nD τ).loc b)

/-- The arguments of device `c` hold the real inputs. -/
abbrev HeldArgs (D : Prompt) : Prop :=
  D.Held (arg m c main_arg1) (arg m c main_arg2) (arg m c main_arg3) (arg m c main_arg4) (arg m c main_arg6)
    (arg m c main_arg7)

theorem host6 (j : Fin 2048) : (V m c main_v5 : FVec Ideal S1x2048 .f32) (ix2 0 j)
    = (arg m c main_arg6 : FVec Ideal S1x2048 .f32) (ix2 0 j) := by
  dsimp only [V]; after_reads_simp; clean_types; pointwise

theorem host7 (j : Fin 2048) : (V m c main_v6 : FVec Ideal S1x2048 .f32) (ix2 0 j)
    = (arg m c main_arg7 : FVec Ideal S1x2048 .f32) (ix2 0 j) := by
  dsimp only [V]; after_reads_simp; clean_types; pointwise

/-! ## The windows' blocks -/

/-- An index map with the tokens on the rows and the heads on the columns. -/
abbrev Tiled (f : Fin grid0.N → Fin 2 → ℕ) : Prop := ∀ t, f t 0 = t.val % 16 ∧ f t 1 = t.val / 16

/-- An index map with the heads on the columns. -/
abbrev Row (f : Fin grid0.N → Fin 2 → ℕ) : Prop := ∀ t, f t 0 = 0 ∧ f t 1 = t.val / 16

theorem index1 : Tiled win0_1.index := by decide +kernel
theorem index2 : Tiled win0_2.index := by decide +kernel
theorem index3 : Tiled win0_3.index := by decide +kernel
theorem index4 : Tiled win0_4.index := by decide +kernel
theorem index6 : Row win0_6.index := by decide +kernel
theorem index7 : Row win0_7.index := by decide +kernel
theorem index12 : ∀ t : Fin grid0.N, win0_12.index t 0 = t.val / 16 ∧ win0_12.index t 1 = 0 ∧ win0_12.index t 2 = 0 := by decide +kernel

theorem lt_N (t : Fin cfg0.N) : t.val < 128 := t.isLt

section

variable (t : Fin cfg0.N) (i : Fin 512) (l : Fin 256)

theorem block1 : (iblk m c 1 t : FVec Ideal S512x256 .f32) (ix2 i l)
    = (arg m c main_arg1 : FVec Ideal S8192x2048 .f32) (ix2 ⟨512 * (t.val % 16) + i, by omega⟩ ⟨t.val / 16 * 256 + l, by have := lt_N t; omega⟩) := by
  unfold iblk
  rw [View.read_apply]
  refine (congrArg (V m c main_arg1 : FVec Ideal S8192x2048 .f32) (funext fun a => Fin.ext ?_)).trans (congrFun (V_main_arg1 m c) _)
  refine (win0_1.rect_emb_val t _ a).trans ?_
  have e := index1 t
  match a with
  | ⟨0, _⟩ => show win0_1.index t 0 * 512 + i.val = 512 * (t.val % 16) + i.val; rw [e.1, Nat.mul_comm]
  | ⟨1, _⟩ => exact congrArg (· * 256 + l.val) e.2

theorem block2 : (iblk m c 2 t : FVec Ideal S512x256 .f32) (ix2 i l)
    = (arg m c main_arg2 : FVec Ideal S8192x2048 .f32) (ix2 ⟨512 * (t.val % 16) + i, by omega⟩ ⟨t.val / 16 * 256 + l, by have := lt_N t; omega⟩) := by
  unfold iblk
  rw [View.read_apply]
  refine (congrArg (V m c main_arg2 : FVec Ideal S8192x2048 .f32) (funext fun a => Fin.ext ?_)).trans (congrFun (V_main_arg2 m c) _)
  refine (win0_2.rect_emb_val t _ a).trans ?_
  have e := index2 t
  match a with
  | ⟨0, _⟩ => show win0_2.index t 0 * 512 + i.val = 512 * (t.val % 16) + i.val; rw [e.1, Nat.mul_comm]
  | ⟨1, _⟩ => exact congrArg (· * 256 + l.val) e.2

theorem block3 : (iblk m c 3 t : FVec Ideal S512x256 .f32) (ix2 i l)
    = (arg m c main_arg3 : FVec Ideal S8192x2048 .f32) (ix2 ⟨512 * (t.val % 16) + i, by omega⟩ ⟨t.val / 16 * 256 + l, by have := lt_N t; omega⟩) := by
  unfold iblk
  rw [View.read_apply]
  refine (congrArg (V m c main_arg3 : FVec Ideal S8192x2048 .f32) (funext fun a => Fin.ext ?_)).trans (congrFun (V_main_arg3 m c) _)
  refine (win0_3.rect_emb_val t _ a).trans ?_
  have e := index3 t
  match a with
  | ⟨0, _⟩ => show win0_3.index t 0 * 512 + i.val = 512 * (t.val % 16) + i.val; rw [e.1, Nat.mul_comm]
  | ⟨1, _⟩ => exact congrArg (· * 256 + l.val) e.2

theorem block4 : (iblk m c 4 t : FVec Ideal S512x256 .f32) (ix2 i l)
    = (arg m c main_arg4 : FVec Ideal S8192x2048 .f32) (ix2 ⟨512 * (t.val % 16) + i, by omega⟩ ⟨t.val / 16 * 256 + l, by have := lt_N t; omega⟩) := by
  unfold iblk
  rw [View.read_apply]
  refine (congrArg (V m c main_arg4 : FVec Ideal S8192x2048 .f32) (funext fun a => Fin.ext ?_)).trans (congrFun (V_main_arg4 m c) _)
  refine (win0_4.rect_emb_val t _ a).trans ?_
  have e := index4 t
  match a with
  | ⟨0, _⟩ => show win0_4.index t 0 * 512 + i.val = 512 * (t.val % 16) + i.val; rw [e.1, Nat.mul_comm]
  | ⟨1, _⟩ => exact congrArg (· * 256 + l.val) e.2

theorem block6 : (iblk m c 6 t : FVec Ideal S1x256 .f32) (ix2 0 l)
    = (arg m c main_arg6 : FVec Ideal S1x2048 .f32) (ix2 0 ⟨t.val / 16 * 256 + l, by have := lt_N t; omega⟩) := by
  unfold iblk
  rw [View.read_apply]
  refine (congrArg (V m c main_v5 : FVec Ideal S1x2048 .f32) (funext fun a => Fin.ext ?_)).trans (host6 m c _)
  refine (win0_6.rect_emb_val t _ a).trans ?_
  have e := index6 t
  match a with
  | ⟨0, _⟩ => show win0_6.index t 0 * 1 + 0 = 0; rw [e.1]
  | ⟨1, _⟩ => exact congrArg (· * 256 + l.val) e.2

theorem block7 : (iblk m c 7 t : FVec Ideal S1x256 .f32) (ix2 0 l)
    = (arg m c main_arg7 : FVec Ideal S1x2048 .f32) (ix2 0 ⟨t.val / 16 * 256 + l, by have := lt_N t; omega⟩) := by
  unfold iblk
  rw [View.read_apply]
  refine (congrArg (V m c main_v6 : FVec Ideal S1x2048 .f32) (funext fun a => Fin.ext ?_)).trans (host7 m c _)
  refine (win0_7.rect_emb_val t _ a).trans ?_
  have e := index7 t
  match a with
  | ⟨0, _⟩ => show win0_7.index t 0 * 1 + 0 = 0; rw [e.1]
  | ⟨1, _⟩ => exact congrArg (· * 256 + l.val) e.2

end

variable {m c} {D : Prompt} (A : HeldArgs m c D)
include A

/-- The blocks of a point hold the prompt's inputs. -/
theorem blocks_hold (t : Fin cfg0.N) : BlockHolds D (t.val / 16) (512 * (t.val % 16)) (iblk m c 1 t) (iblk m c 2 t)
    (iblk m c 3 t) (iblk m c 4 t) (iblk m c 6 t) (iblk m c 7 t) where
  w i l := (block1 m c t i l).trans (A.w _ _)
  k i l := (block2 m c t i l).trans (A.k _ _)
  v i l := (block3 m c t i l).trans (A.v _ _)
  a i l := (block4 m c t i l).trans (A.a _ _)
  kk l := (block6 m c t l).trans (A.kk _)
  ka l := (block7 m c t l).trans (A.ka _)

omit A in
theorem both {x : Vec Ideal S512x256 .bf16} {y z : Vec Ideal S2x128x128 .f32}
    {w : Vec Ideal S512x256 .bf16 × Vec Ideal S2x128x128 .f32 × Vec Ideal S2x128x128 .f32} {hp T : ℕ} (e : w = (x, y, z))
    (hy : StatesHold y D hp T) (hz : StatesHold z D hp T) : StatesHold w.2.1 D hp T ∧ StatesHold w.2.2 D hp T := by
  subst e
  exact ⟨hy, hz⟩

/-- What a first block leaves: the states after its 512 tokens, carried and written. -/
theorem first_block (t : Fin cfg0.N) (h0 : t.val % 16 = 0) :
    StatesHold (outsAt0 m c t.val t.isLt).2.1 D (t.val / 16) 512 ∧ StatesHold (outsAt0 m c t.val t.isLt).2.2 D (t.val / 16) 512 := by
  have B := blocks_hold A t
  rw [h0] at B
  exact both (outsAt0_A m c t h0) (written_first _ _ _ _ _ _ _ _ _ _ _ _ _ _ _ _ _ _ _ _ _ _ _ _ _ _ _ _ _ _ _ _ _ _ _ B) (carried_first _ _ _ _ _ _ _ _ _ _ _ _ _ _ _ _ _ _ _ _ _ _ _ _ _ _ _ _ _ _ _ _ _ _ _ B)

/-- What a later block leaves, over the states the point before left. -/
theorem later_block (t : Fin cfg0.N) (h0 : ¬t.val % 16 = 0)
    (hs : StatesHold (outsAt0 m c (t.val - 1) (Nat.lt_of_le_of_lt (Nat.sub_le _ _) t.isLt)).2.2 D (t.val / 16) (512 * (t.val % 16))) :
    StatesHold (outsAt0 m c t.val t.isLt).2.1 D (t.val / 16) (512 * (t.val % 16) + 512)
      ∧ StatesHold (outsAt0 m c t.val t.isLt).2.2 D (t.val / 16) (512 * (t.val % 16) + 512) := by
  have B := blocks_hold A t
  exact both (outsAt0_B m c t h0) (written_later _ _ _ _ _ _ _ _ _ _ _ _ _ _ _ _ _ _ _ _ _ _ _ _ _ _ _ _ _ _ _ _ _ _ _ B hs) (carried_later _ _ _ _ _ _ _ _ _ _ _ _ _ _ _ _ _ _ _ _ _ _ _ _ _ _ _ _ _ _ _ _ _ _ _ B hs)

/-- After every point the carried and the written states are the prompt's after the point's tokens. -/
theorem point_states : ∀ (n : ℕ) (hn : n < cfg0.N), StatesHold (outsAt0 m c n hn).2.1 D (n / 16) (512 * (n % 16) + 512)
    ∧ StatesHold (outsAt0 m c n hn).2.2 D (n / 16) (512 * (n % 16) + 512)
  | 0, hn => first_block A ⟨0, hn⟩ rfl
  | n + 1, hn => by
    by_cases h0 : (n + 1) % 16 = 0
    · have e := first_block A ⟨n + 1, hn⟩ h0
      rw [h0]
      exact e
    · have hp := (point_states n (by omega)).2
      have e1 : (n + 1) / 16 = n / 16 := by omega
      have e2 : 512 * ((n + 1) % 16) = 512 * (n % 16) + 512 := by omega
      exact later_block A ⟨n + 1, hn⟩ h0 (by dsimp only; rw [e1, e2]; exact hp)

/-! ## The written states -/

omit A in
theorem idx_inj12 : ∀ t t' : Fin cfg0.N, t.val % 16 = 15 → t'.val % 16 = 15 → win0_12.index t = win0_12.index t' → t = t' := fun t t' h h' e => by
  have e0 := congrFun e 0
  rw [(index12 t).1, (index12 t').1] at e0
  exact Fin.ext (by omega)

omit A in
theorem final_block (t : Fin cfg0.N) (ht : t.val % 16 = 15) (p : Fin 2) (i j : Fin 128) :
    ((dats m 0 c).arrAt 12 cfg0.N : FVec Ideal S16x128x128 .f32) (ix3 ⟨t.val / 16 * 2 + p, by have := lt_N t; omega⟩ i j)
      = ((outsAt0 m c t.val t.isLt).2.1 : FVec Ideal S2x128x128 .f32) (ix3 p i j) := by
  have hd : ∀ t t' : Fin cfg0.N, (cfg0.win 12).flush t = true → (cfg0.win 12).flush t' = true → t ≠ t' →
      Disjoint ((cfg0.win 12).blk t).view.set ((cfg0.win 12).blk t').view.set := fun t t' f f' hne =>
    (cfg0.win 12).disjoint_blk fun h => hne (idx_inj12 t t' ((flush0_12 t).1 f) ((flush0_12 t').1 f') h)
  have hfl : (dats m 0 c).flushed 12 t = (cfg0.win 12).cut (grid0.coords t) (outsAt0 m c t.val t.isLt).2.1 := by
    show (cfg0.win 12).cut (grid0.coords t) ((dats m 0 c).after 12 t) = _
    rw [after0_12]
  have hb := congrFun (((dats m 0 c).read_blk_arrAt_eq_flushed 12 hd cfg0.N t t.isLt ((flush0_12 t).2 ht)).trans hfl) (ix3 p i j)
  rw [View.read_apply] at hb
  refine Eq.trans ?_ hb
  refine congrArg ((dats m 0 c).arrAt 12 cfg0.N : FVec Ideal S16x128x128 .f32) (funext fun a => Fin.ext ?_)
  refine Eq.symm ((win0_12.rect_emb_val t _ a).trans ?_)
  have e := index12 t
  match a with
  | ⟨0, _⟩ => exact congrArg (· * 2 + p.val) e.1
  | ⟨1, _⟩ => show win0_12.index t 1 * 128 + i.val = i.val; rw [e.2.1]; omega
  | ⟨2, _⟩ => show win0_12.index t 2 * 128 + j.val = j.val; rw [e.2.2]; omega

/-- The array of pairs of states. -/
theorem pairs_at (q : Fin 16) (i j : Fin 128) :
    ((dats m 0 c).arrAt 12 cfg0.N : FVec Ideal S16x128x128 .f32) (ix3 q i j) = ((pairSt D q 8192 i j : ℝ) : EReal) := by
  have hq := q.isLt
  let t : Fin cfg0.N := ⟨q.val / 2 * 16 + 15, by show _ < 128; omega⟩
  have ht : t.val % 16 = 15 := by show (q.val / 2 * 16 + 15) % 16 = 15; omega
  have hd : t.val / 16 = q.val / 2 := by show (q.val / 2 * 16 + 15) / 16 = _; omega
  have e := (final_block (m := m) (c := c) t ht ⟨q.val % 2, by omega⟩ i j).trans ((point_states A t.val t.isLt).1 _ i j)
  have eq : (⟨t.val / 16 * 2 + (⟨q.val % 2, by omega⟩ : Fin 2), by have := lt_N t; dsimp only; omega⟩ : Fin 16) = q :=
    Fin.ext (by show t.val / 16 * 2 + q.val % 2 = q.val; rw [hd]; omega)
  have e2 : 2 * (q.val / 2) + q.val % 2 = q.val := by omega
  rw [eq, ht, hd] at e
  dsimp only at e
  rw [e2] at e
  exact e

/-- What the host operations after the grid make of the arrays. -/
abbrev tail (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

omit A in
theorem array_eq : Pipeline.withArrays spec0 c (V0 m c) (fun w => (dats m 0 c).arrAt w cfg0.N) (Proc.devRef .tc main_v10_1)
    = (dats m 0 c).arrAt 12 cfg0.N := Pipeline.withArrays_arr spec0 (by decide) c _ _ 12

/-- The heads' states off the pairs' diagonals. -/
def unpair (z : FVec Ideal S16x128x128 .f32) : FVec Ideal S32x64x64 .f32 :=
  shapeCast S32x64x64 (concatenate S16x2x64x64 1
    [⟨S16x1x64x64, broadcastInDim S16x1x64x64 ![0, 2, 3] bcast_S16x64x64_S16x1x64x64_0_2_3
      (extractStridedSlice S16x64x64 ![0, 0, 0] z slices_S16x128x128_S16x64x64_0_0_0)⟩,
     ⟨S16x1x64x64, broadcastInDim S16x1x64x64 ![0, 2, 3] bcast_S16x64x64_S16x1x64x64_0_2_3
      (extractStridedSlice S16x64x64 ![0, 64, 64] z slices_S16x128x128_S16x64x64_0_64_64)⟩]
    concatenates_S16x1x64x64_S16x1x64x64_S16x2x64x64_d1) shapeCasts_S16x2x64x64_S32x64x64

omit A in
theorem tail_states : tail m c main_v16 = unpair ((dats m 0 c).arrAt 12 cfg0.N : FVec Ideal S16x128x128 .f32) := by
  rw [← array_eq]
  dsimp only [tail, Pipeline.afterTail₀]
  after_reads_simp
  rfl

omit A in
theorem unpair_at (z : FVec Ideal S16x128x128 .f32) (h : Fin 32) (x n : Fin 64) : unpair z (ix3 h x n)
    = z (ix3 ⟨h.val / 2, by omega⟩ ⟨h.val % 2 * 64 + x, by omega⟩ ⟨h.val % 2 * 64 + n, by omega⟩) := by
  obtain hh | hh : h.val % 2 = 0 ∨ h.val % 2 = 1 := by omega
  · pointwise [unpair, hh]
  · pointwise [unpair, hh]

/-- The kernel's states. -/
theorem state_at (h : Fin 32) (x n : Fin 64) : (tail m c main_v16 : FVec Ideal S32x64x64 .f32) (ix3 h x n)
    = ((D.st h 8192 x n : ℝ) : EReal) := by
  rw [tail_states, unpair_at, pairs_at A]
  have e1 : (h.val % 2 * 64 + n.val) / 64 = (h.val % 2 * 64 + x.val) / 64 := by omega
  have e2 : 2 * (h.val / 2) + (h.val % 2 * 64 + x.val) / 64 = h.val := by omega
  have e3 : ∀ y : Fin 64, lane (h.val % 2 * 64 + y.val) = y := fun y => Fin.ext (by simp only [lane]; omega)
  simp only [pairSt, stk, stateRows, e1, if_true, e2, e3]

end Cert.ScanPromptIdeal.Points

end
-- ==== Proof.ScanPrompt.Finite.lean ====
/- The prompt's precondition read back: the arguments it names hold reals. -/
module

public import proofs.«01_k».proof.Pre_finite_prompt
public import proofs.«01_k».proof.Proof.Finite
public import proofs.«01_k».proof.Proof.ScanPrompt.Prompt

@[expose] public section

set_option maxRecDepth 16384

noncomputable section

namespace Cert.Proof.FinitePrompt

open Idealize.ShloMosaic Cert.Pre_finite_prompt

/-- The precondition's side conditions. -/
theorem facts : Cert.Pre_finite_prompt.Facts where
  bcast_S_S8192x2048 := by decide
  reducesTo_S8192x2048_S_d0_1 := by decide
  h_S_ := by decide
  bcast_S_S1x2048 := by decide
  reducesTo_S1x2048_S_d0_1 := by decide

variable (a0 a1 a2 a3 a4 a5 : FVec Ideal S8192x2048 .f32) (a6 a7 : FVec Ideal S1x2048 .f32) (a8 : FVec Ideal S1x32x64 .f32)
  (a9 a10 : FVec Ideal S1x2048 .f32)

/-- The real inputs under the arrays. -/
def promptOf : Prompt where
  w i j := (a1 (ix2 (Fin.ofNat 8192 i) (Fin.ofNat 2048 j))).toReal
  k i j := (a2 (ix2 (Fin.ofNat 8192 i) (Fin.ofNat 2048 j))).toReal
  v i j := (a3 (ix2 (Fin.ofNat 8192 i) (Fin.ofNat 2048 j))).toReal
  a i j := (a4 (ix2 (Fin.ofNat 8192 i) (Fin.ofNat 2048 j))).toReal
  kk j := (a6 (ix2 0 (Fin.ofNat 2048 j))).toReal
  ka j := (a7 (ix2 0 (Fin.ofNat 2048 j))).toReal

/-- Arrays that satisfy the precondition hold real inputs. -/
theorem held [Cert.Pre_finite_prompt.Facts] (h : fn (F := Ideal) a0 a1 a2 a3 a4 a5 a6 a7 a8 a9 a10 = fun _ => 1#1) :
    (promptOf a1 a2 a3 a4 a6 a7).Held a1 a2 a3 a4 a6 a7 := by
  have h0 := congrFun h ix0
  simp only [fn, fn_part1] at h0
  have split : ∀ {x y : IVec S_ 1}, andi x y ix0 = 1#1 → x ix0 = 1#1 ∧ y ix0 = 1#1 := fun e => IntOp.andi_eq_one.1 e
  obtain ⟨h0, e7⟩ := split h0
  obtain ⟨h0, e6⟩ := split h0
  obtain ⟨h0, e4⟩ := split h0
  obtain ⟨h0, e3⟩ := split h0
  obtain ⟨h0, e2⟩ := split h0
  obtain ⟨-, e1⟩ := split h0
  constructor
  · intro i j; simpa [promptOf] using Finite.all_real a1 _ _ _ _ e1 (ix2 i j)
  · intro i j; simpa [promptOf] using Finite.all_real a2 _ _ _ _ e2 (ix2 i j)
  · intro i j; simpa [promptOf] using Finite.all_real a3 _ _ _ _ e3 (ix2 i j)
  · intro i j; simpa [promptOf] using Finite.all_real a4 _ _ _ _ e4 (ix2 i j)
  · intro j; simpa [promptOf] using Finite.all_real a6 _ _ _ _ e6 (ix2 0 j)
  · intro j; simpa [promptOf] using Finite.all_real a7 _ _ _ _ e7 (ix2 0 j)

end Cert.Proof.FinitePrompt

end
-- ==== Proof.ScanPrompt.RefLoop.lean ====
/-
  The reference's loop at real inputs: after `k` trips its state is the delta-rule recurrence's after `k` tokens.
-/
module

public import proofs.«01_k».proof.Proof.Gen.ScanPromptReferenceIdeal.Run
public import proofs.«01_k».proof.Proof.Chunk
public import proofs.«01_k».proof.Proof.Scalars
public import Idealize.ShloMosaic.Lib.Pointwise
public import Idealize.ShloMosaic.Lib.DynamicIndex
public import Idealize.ShloMosaic.Lib.Pipeline.Value

@[expose] public section

set_option maxRecDepth 16384

noncomputable section

namespace Cert.ScanPromptReferenceIdeal.Loop

open Cert.ScanPromptReferenceIdeal Cert.ScanPromptReferenceIdeal.Gen Cert.ScanPromptReferenceIdeal.Value Idealize.ShloMosaic
open Cert.Proof Cert.Proof.Scalars

/-- The start of the loop's slices at the counter `c`. -/
def start (c : IVec S_ 32) : Fin 4 → Int := fun k =>
  ((![c, constantI S_ 32 0#32, constantI S_ 32 0#32, constantI S_ 32 0#32] : Fin 4 → IVec S_ 32) k (Shape.Idx.first h_S_)).toInt

/-- The counter at trip `k`. -/
def ctr (k : ℕ) : IVec S_ 32 := fun _ => Scf.iv 0#32 1#32 k

theorem iv_toInt (k : ℕ) (hk : k < 8192) : (Scf.iv 0#32 1#32 k).toInt = (k : ℤ) := by
  rw [Scf.iv_eq_ofInt, BitVec.toInt_ofInt_eq_self (by norm_num)] <;> simp <;> omega

theorem start_ctr (k : ℕ) (hk : k < 8192) (a : Fin 4) : start (ctr k) a = ((![k, 0, 0, 0] : Fin 4 → ℕ) a : ℤ) := by
  fin_cases a
  · exact iv_toInt k hk
  all_goals rfl

/-- Token `c`'s rows of an array over all tokens. -/
def rowsAt (x : FVec Ideal S8192x1x32x64 .f32) (c : IVec S_ 32) : FVec Ideal S1x32x64 .f32 :=
  shapeCast S1x32x64 (Host.dynamicSlice S1x1x32x64 x (start c) sliceFits_S8192x1x32x64_S1x1x32x64)
    shapeCasts_S1x1x32x64_S1x32x64

theorem rowsAt_at (x : FVec Ideal S8192x1x32x64 .f32) (k : ℕ) (hk : k < 8192) (q : Fin 1) (h : Fin 32) (n : Fin 64) :
    rowsAt x (ctr k) (ix3 q h n) = x (ix4 ⟨k, hk⟩ q h n) := by
  have hs : S8192x1x32x64.Slices ![k, 0, 0, 0] S1x1x32x64 := ⟨rfl, fun a => by fin_cases a <;> simp <;> omega⟩
  rw [rowsAt, Host.dynamicSlice_eq_extractStridedSlice S1x1x32x64 x (start (ctr k)) ![k, 0, 0, 0] _ hs (start_ctr k hk)]
  obtain rfl : q = 0 := Subsingleton.elim _ _
  pointwise

/-- One step of the state. -/
def stepState (s : FVec Ideal S1x32x64x64 .f32) (w a b v k : FVec Ideal S1x32x64 .f32) : FVec Ideal S1x32x64x64 .f32 :=
  addf (addf (mulf s (broadcastInDim S1x32x64x64 ![0, 1, 2, 3] bcast_S1x32x1x64_S1x32x64x64_0_1_2_3
      (broadcastInDim S1x32x1x64 ![0, 1, 3] bcast_S1x32x64_S1x32x1x64_0_1_3 w)))
    (mulf (broadcastInDim S1x32x64x64 ![0, 1, 2, 3] bcast_S1x32x64x1_S1x32x64x64_0_1_2_3
        (broadcastInDim S1x32x64x1 ![0, 1, 2] bcast_S1x32x64_S1x32x64x1_0_1_2
          (Host.dotGeneral dot_S1x32x64x64_S1x32x64_S1x32x64_3_2_2_n_01_01 none s a)))
      (broadcastInDim S1x32x64x64 ![0, 1, 2, 3] bcast_S1x32x1x64_S1x32x64x64_0_1_2_3
        (broadcastInDim S1x32x1x64 ![0, 1, 3] bcast_S1x32x64_S1x32x1x64_0_1_3 b))))
    (mulf (broadcastInDim S1x32x64x64 ![0, 1, 2, 3] bcast_S1x32x64x1_S1x32x64x64_0_1_2_3
        (broadcastInDim S1x32x64x1 ![0, 1, 2] bcast_S1x32x64_S1x32x64x1_0_1_2 v))
      (broadcastInDim S1x32x64x64 ![0, 1, 2, 3] bcast_S1x32x1x64_S1x32x64x64_0_1_2_3
        (broadcastInDim S1x32x1x64 ![0, 1, 3] bcast_S1x32x64_S1x32x1x64_0_1_3 k)))

theorem stepState_at (s : FVec Ideal S1x32x64x64 .f32) (w a b v k : FVec Ideal S1x32x64 .f32) (q : Fin 1) (h : Fin 32)
    (x n : Fin 64) : stepState s w a b v k (ix4 q h x n)
      = s (ix4 q h x n) * w (ix3 q h n) + (∑ m, s (ix4 q h x m) * a (ix3 q h m)) * b (ix3 q h n) + v (ix3 q h x) * k (ix3 q h n) := by
  obtain rfl : q = 0 := Subsingleton.elim _ _
  pointwise [stepState]

theorem step_state (V : Valuation τ sig (Elt Ideal)) : step_main_v44_7 V
    = stepState (V (Proc.devRef .tc main_v44_7)) (rowsAt (V (Proc.devRef .tc main_v44_1)) (V (Proc.devRef .tc main_v44_6)))
        (rowsAt (V (Proc.devRef .tc main_v44_4)) (V (Proc.devRef .tc main_v44_6)))
        (rowsAt (V (Proc.devRef .tc main_v44_5)) (V (Proc.devRef .tc main_v44_6)))
        (rowsAt (V (Proc.devRef .tc main_v44_3)) (V (Proc.devRef .tc main_v44_6)))
        (rowsAt (V (Proc.devRef .tc main_v44_2)) (V (Proc.devRef .tc main_v44_6))) := rfl

/-- The loop's inputs as reals: per sequence and head, and per token. -/
structure Seqs where
  w : Fin 1 → Fin 32 → ℕ → Fin 64 → ℝ
  k : Fin 1 → Fin 32 → ℕ → Fin 64 → ℝ
  v : Fin 1 → Fin 32 → ℕ → Fin 64 → ℝ
  a : Fin 1 → Fin 32 → ℕ → Fin 64 → ℝ
  b : Fin 1 → Fin 32 → ℕ → Fin 64 → ℝ
  s0 : Fin 1 → Fin 32 → Fin 64 → Fin 64 → ℝ

/-- The recurrence's state after `k` tokens. -/
def Seqs.st (Z : Seqs) (q : Fin 1) (h : Fin 32) : ℕ → Fin 64 → Fin 64 → ℝ :=
  Chunk.state (Z.s0 q h) (Z.w q h) (Z.a q h) (Z.b q h) (Z.k q h) (Z.v q h)

/-- An array over tokens, sequences and heads holds the reals `f`. -/
def HoldsTok (x : FVec Ideal S8192x1x32x64 .f32) (f : Fin 1 → Fin 32 → ℕ → Fin 64 → ℝ) : Prop :=
  ∀ (t : Fin 8192) q h n, x (ix4 t q h n) = ((f q h t n : ℝ) : EReal)

/-- The carried buffers before trip `k`. -/
structure Inv (V : Valuation τ sig (Elt Ideal)) (Z : Seqs) (i : ℕ) : Prop where
  w : HoldsTok (V (Proc.devRef .tc main_v44_1)) (fun q h t n => Real.exp (Z.w q h t n))
  k : HoldsTok (V (Proc.devRef .tc main_v44_2)) Z.k
  v : HoldsTok (V (Proc.devRef .tc main_v44_3)) Z.v
  a : HoldsTok (V (Proc.devRef .tc main_v44_4)) Z.a
  b : HoldsTok (V (Proc.devRef .tc main_v44_5)) Z.b
  c : V (Proc.devRef .tc main_v44_6) = ctr i
  s : ∀ q h x n, (V (Proc.devRef .tc main_v44_7) : FVec Ideal S1x32x64x64 .f32) (ix4 q h x n) = ((Z.st q h i x n : ℝ) : EReal)

theorem new_state {V : Valuation τ sig (Elt Ideal)} {Z : Seqs} {k : ℕ} (I : Inv V Z k) (hk : k < 8192) (q : Fin 1) (h : Fin 32)
    (x n : Fin 64) : (step_main_v44_7 V : FVec Ideal S1x32x64x64 .f32) (ix4 q h x n) = ((Z.st q h (k + 1) x n : ℝ) : EReal) := by
  rw [step_state, stepState_at, I.c]
  simp only [rowsAt_at _ k hk, I.s, I.w _ _ _ _, I.k _ _ _ _, I.v _ _ _ _, I.a _ _ _ _, I.b _ _ _ _]
  simp only [← EReal.coe_mul, ← coe_sum, ← EReal.coe_add]
  rfl

/-- One trip. -/
theorem step_inv {V : Valuation τ sig (Elt Ideal)} {Z : Seqs} {k : ℕ} (I : Inv V Z k) (hk : k < 8192) : Inv (STEP V) Z (k + 1) where
  w := by rw [STEP_main_v44_1]; exact I.w
  k := by rw [STEP_main_v44_2]; exact I.k
  v := by rw [STEP_main_v44_3]; exact I.v
  a := by rw [STEP_main_v44_4]; exact I.a
  b := by rw [STEP_main_v44_5]; exact I.b
  c := by
    rw [STEP_main_v44_6, step_main_v44_6, I.c]
    funext i
    show Scf.iv 0#32 1#32 k + 1#32 = Scf.iv 0#32 1#32 (k + 1)
    rw [Scf.iv_succ]
  s := fun q h x n => by rw [STEP_main_v44_7]; exact new_state I hk q h x n

theorem inv_iterate {V : Valuation τ sig (Elt Ideal)} {Z : Seqs} (I : Inv V Z 0) : ∀ k ≤ 8192, Inv (STEP^[k] V) Z k
  | 0, _ => I
  | k + 1, hk => by
    rw [Function.iterate_succ_apply']
    exact step_inv (inv_iterate I k (by omega)) (by omega)

end Cert.ScanPromptReferenceIdeal.Loop

end
-- ==== Proof.ScanPrompt.RefValue.lean ====
/-
  What the reference computes at real inputs: its states, entry by entry.
-/
module

public import proofs.«01_k».proof.Proof.ScanPrompt.RefLoop
public import proofs.«01_k».proof.Proof.ScanPrompt.Prompt
public import Idealize.ShloMosaic.Lib.Tactic.CleanTypes

@[expose] public section

set_option maxRecDepth 16384

noncomputable section

namespace Cert.ScanPromptReferenceIdeal.Loop

open Cert.ScanPromptReferenceIdeal Cert.ScanPromptReferenceIdeal.Gen Cert.ScanPromptReferenceIdeal.Value
open Idealize.ShloMosaic Idealize.ShloMosaic.TcCoe Idealize.ShloMosaic.StableHlo
open Cert.Proof Cert.Proof.Scalars
open Idealize.SL.Sem

variable (m : (ℓ : Loc nD τ sig) → Buf (Elt Ideal) ℓ) (c : Dev nD)

/-- The reference's arguments hold the real inputs `D`. -/
structure HoldsArgs (D : Prompt) : Prop where
  w : ∀ i j, (launchContents m c (Proc.devRef .tc main_arg1) : FVec Ideal S8192x2048 .f32) (ix2 i j) = ((D.w i j : ℝ) : EReal)
  k : ∀ i j, (launchContents m c (Proc.devRef .tc main_arg2) : FVec Ideal S8192x2048 .f32) (ix2 i j) = ((D.k i j : ℝ) : EReal)
  v : ∀ i j, (launchContents m c (Proc.devRef .tc main_arg3) : FVec Ideal S8192x2048 .f32) (ix2 i j) = ((D.v i j : ℝ) : EReal)
  a : ∀ i j, (launchContents m c (Proc.devRef .tc main_arg4) : FVec Ideal S8192x2048 .f32) (ix2 i j) = ((D.a i j : ℝ) : EReal)
  kk : ∀ j, (launchContents m c (Proc.devRef .tc main_arg6) : FVec Ideal S1x2048 .f32) (ix2 0 j) = ((D.kk j : ℝ) : EReal)
  ka : ∀ j, (launchContents m c (Proc.devRef .tc main_arg7) : FVec Ideal S1x2048 .f32) (ix2 0 j) = ((D.ka j : ℝ) : EReal)

/-- The loop's inputs from the real inputs. -/
def seqs (D : Prompt) : Seqs where
  w q h t n := D.w t (h * 64 + n)
  k q h t n := D.key h t n
  v q h t n := D.v t (h * 64 + n)
  a q h t n := -D.dir h t n
  b q h t n := D.dir h t n * D.a t (h * 64 + n)
  s0 q h := fun _ _ => 0

variable {m c} {D : Prompt} (A : HoldsArgs m c D)

/-- The removal key from its two arrays. -/
theorem dir_value {f : FVec Ideal S8192x2048 .f32} {g : FVec Ideal S1x2048 .f32} (hf : ∀ i j, f (ix2 i j) = ((D.k i j : ℝ) : EReal))
    (hg : ∀ j, g (ix2 0 j) = ((D.kk j : ℝ) : EReal)) (t : Fin 8192) (q : Fin 1) (h : Fin 32) (n : Fin 64) :
    Ideal.div (f (ix2 t ⟨h * 64 + n, by omega⟩) * g (ix2 0 ⟨h * 64 + n, by omega⟩))
      (max (Ideal.sqrt (∑ x : Fin 64, f (ix2 t ⟨h * 64 + x, by omega⟩) * g (ix2 0 ⟨h * 64 + x, by omega⟩)
        * (f (ix2 t ⟨h * 64 + x, by omega⟩) * g (ix2 0 ⟨h * 64 + x, by omega⟩)))) (Ideal.ofBits .f32 730643660#32))
      = ((D.dir h t n : ℝ) : EReal) := by
  simp only [hf, hg, ← EReal.coe_mul]
  rw [show Ideal.ofBits .f32 730643660#32 = _ from ofBits_eps]
  exact unit_at (fun x : Fin 64 => D.k t (h * 64 + x) * D.kk (h * 64 + x)) n

/-- The replacement key from its three arrays. -/
theorem key_value {f a : FVec Ideal S8192x2048 .f32} {g : FVec Ideal S1x2048 .f32} (hf : ∀ i j, f (ix2 i j) = ((D.k i j : ℝ) : EReal))
    (ha : ∀ i j, a (ix2 i j) = ((D.a i j : ℝ) : EReal))
    (hg : ∀ j, g (ix2 0 j) = ((D.ka j : ℝ) : EReal)) (t : Fin 8192) (q : Fin 1) (h : Fin 32) (n : Fin 64) :
    f (ix2 t ⟨h * 64 + n, by omega⟩)
      * (1 + (a (ix2 t ⟨h * 64 + n, by omega⟩) - 1) * g (ix2 0 ⟨h * 64 + n, by omega⟩))
      = ((D.key h t n : ℝ) : EReal) := by
  rw [hf, ha, hg]
  norm_cast

include A in
theorem entry_w : HoldsTok (entryContents preI m c (Proc.devRef .tc main_v44_1)) (fun q h t n => Real.exp ((seqs D).w q h t n)) := by
  intro t q h n
  simp only [entryContents, afterL_cons, afterL_nil]
  after_reads_simp
  clean_types
  simp only [id]
  pointwise
  exact (congrArg Ideal.exp (A.w _ _)).trans (Ideal.exp_coe _)

include A in
theorem entry_k : HoldsTok (entryContents preI m c (Proc.devRef .tc main_v44_2)) (seqs D).k := by
  intro t q h n
  simp only [entryContents, afterL_cons, afterL_nil]
  after_reads_simp
  clean_types
  simp only [id]
  pointwise
  exact key_value A.k A.a A.ka t q h n

include A in
theorem entry_v : HoldsTok (entryContents preI m c (Proc.devRef .tc main_v44_3)) (seqs D).v := by
  intro t q h n
  simp only [entryContents, afterL_cons, afterL_nil]
  after_reads_simp
  clean_types
  simp only [id]
  pointwise
  exact A.v _ _

include A in
theorem entry_a : HoldsTok (entryContents preI m c (Proc.devRef .tc main_v44_4)) (seqs D).a := by
  intro t q h n
  simp only [entryContents, afterL_cons, afterL_nil]
  after_reads_simp
  clean_types
  simp only [id]
  pointwise
  exact (congrArg Neg.neg (dir_value A.k A.kk t q h n)).trans (EReal.coe_neg _).symm

include A in
theorem entry_b : HoldsTok (entryContents preI m c (Proc.devRef .tc main_v44_5)) (seqs D).b := by
  intro t q h n
  simp only [entryContents, afterL_cons, afterL_nil]
  after_reads_simp
  clean_types
  simp only [id]
  pointwise
  exact (congrArg₂ (· * ·) (dir_value A.k A.kk t q h n) (A.a _ _)).trans (EReal.coe_mul _ _).symm

include A in
theorem entry_s (q : Fin 1) (h : Fin 32) (x n : Fin 64) :
    (entryContents preI m c (Proc.devRef .tc main_v44_7) : FVec Ideal S1x32x64x64 .f32) (ix4 q h x n)
      = ((0 : ℝ) : EReal) := by
  simp only [entryContents, afterL_cons, afterL_nil]
  after_reads_simp
  clean_types
  simp only [id]
  pointwise
  exact EReal.coe_zero.symm

theorem entry_c : entryContents preI m c (Proc.devRef .tc main_v44_6) = ctr 0 := by
  rw [ctr_entry]
  funext i
  exact (Scf.iv_zero _ _).symm

include A in
/-- The loop begins with the real inputs. -/
theorem entry : Inv (entryContents preI m c) (seqs D) 0 where
  w := entry_w A
  k := entry_k A
  v := entry_v A
  a := entry_a A
  b := entry_b A
  c := entry_c
  s := entry_s A

/-- The buffers the loop writes. -/
abbrev loopWrites : List (List (Ref sig .tc)) := [condOps_W, while0Ops0_W, while0Ops0_1_W, while0Ops0_2_W, while0Ops0_3_W,
  while0Ops0_4_W, while0Ops0_5_W, while0Ops0_6_W, while0Ops0_7_W, while0Ops0_8_W]

/-- A buffer the loop does not write holds at every trip what it held at the entry. -/
theorem loop_keeps (b : Ref sig .tc) (hb : ∀ W ∈ loopWrites, b ∉ W) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub _ _ while0Ops0_8_writes (hb _ (by simp)), after_of_writes_sub _ _ while0Ops0_7_writes (hb _ (by simp)),
      after_of_writes_sub _ _ while0Ops0_6_writes (hb _ (by simp)), after_of_writes_sub _ _ while0Ops0_5_writes (hb _ (by simp)),
      after_of_writes_sub _ _ while0Ops0_4_writes (hb _ (by simp)), after_of_writes_sub _ _ while0Ops0_3_writes (hb _ (by simp)),
      after_of_writes_sub _ _ while0Ops0_2_writes (hb _ (by simp)), after_of_writes_sub _ _ while0Ops0_1_writes (hb _ (by simp)),
      after_of_writes_sub _ _ while0Ops0_writes (hb _ (by simp)), after_of_writes_sub _ _ condOps_writes (hb _ (by simp))]
    exact loop_keeps b hb k

/-- Likewise after the loop. -/
theorem end_keeps (b : Ref sig .tc) (hb : ∀ W ∈ loopWrites, b ∉ W) :
    after condOps (atK m 8192 c) (Proc.devRef .tc b) = entryContents preI m c (Proc.devRef .tc b) := by
  rw [after_of_writes_sub _ _ condOps_writes (hb _ (by simp))]
  exact loop_keeps b hb 8192

/-- A buffer carried round the loop, after it. -/
theorem end_carried (b : Ref sig .tc) (hb : b ∈ carriedRefs) :
    after condOps (atK m 8192 c) (Proc.devRef .tc b) = STEP^[8192] (entryContents preI m c) (Proc.devRef .tc b) :=
  (cond_keeps _ b hb).trans (atK_agree m c 8192 b hb)

/-- The arguments are not written before the loop. -/
theorem entry_arg (b : Ref sig .tc) (hb : b ∉ hostOps0_W) :
    entryContents preI m c (Proc.devRef .tc b) = launchContents m c (Proc.devRef .tc b) :=
  after_of_writes_sub _ _ hostOps0_writes hb

/-- The reference's states after the operations that follow the loop. -/
theorem post_state (V : Valuation τ sig (Elt Ideal)) (q : Fin 1) (h : Fin 32) (x n : Fin 64) :
    (after hostOps0_1 V (Proc.devRef .tc main_v46) : FVec Ideal S32x64x64 .f32) (ix3 h x n)
      = (V (Proc.devRef .tc main_v44_7) : FVec Ideal S1x32x64x64 .f32) (ix4 q h x n) := by
  obtain rfl : q = 0 := Subsingleton.elim _ _
  after_reads_simp
  clean_types
  pointwise

theorem seqs_st (q : Fin 1) (h : Fin 32) : (seqs D).st q h = D.st h := rfl

include A in
/-- The states the reference ends with. -/
theorem final_state (h : Fin 32) (x n : Fin 64) :
    (finalContents condOps preI bodyI postI 8192 m c (Proc.devRef .tc main_v46) : FVec Ideal S32x64x64 .f32)
      (ix3 h x n) = ((D.st h 8192 x n : ℝ) : EReal) := by
  rw [finalContents, afterL_cons, afterL_nil, post_state _ 0, end_carried main_v44_7 (by decide),
    (inv_iterate (entry A) 8192 le_rfl).s, seqs_st]

/-- The argument arrays. -/
abbrev argRefs : List (Ref sig .tc) := [main_arg0, main_arg1, main_arg2, main_arg3, main_arg4, main_arg5, main_arg6, main_arg7, main_arg8,
  main_arg9, main_arg10]

/-- The buffers written after the loop, in order. -/
abbrev postWrites : List (Ref sig .tc) := [main_v45, main_v46]

theorem post_writes : (hostOps0_1 : List (HloOp τ sig (Elt Ideal))).Forall fun op =>
    op.writes ⊆ (postWrites.map (Proc.devRef (τ := τ) .tc)).toFinset :=
  StableHlo.forall_writes_sub_of_map rfl

/-- The arguments end as they were launched. -/
theorem final_arg (b : Ref sig .tc) (hb : b ∈ argRefs) :
    finalContents condOps preI bodyI postI 8192 m c (Proc.devRef .tc b) = launchContents m c (Proc.devRef .tc b) := by
  have h1 : b ∉ postWrites := by revert b; decide
  have h2 : ∀ W ∈ loopWrites, b ∉ W := by revert b; decide
  have h3 : b ∉ hostOps0_W := by revert b; decide
  rw [finalContents, afterL_cons, afterL_nil, after_of_writes_sub _ _ post_writes h1, end_keeps b h2, entry_arg b h3]

end Cert.ScanPromptReferenceIdeal.Loop
end
-- ==== Proof.ScanPrompt.Claims.lean ====
/-
  The chunked scan and its reference, token by token, leave the same states.
-/
module

public import proofs.«01_k».proof.Defs
public import proofs.«01_k».proof.Proof.ScanPrompt.Points
public import proofs.«01_k».proof.Proof.ScanPrompt.Finite
public import proofs.«01_k».proof.Proof.ScanPrompt.RefValue

@[expose] public section

set_option maxRecDepth 16384

noncomputable section

namespace Cert.ScanPromptIdeal.Points

open Cert.ScanPromptIdeal Cert.ScanPromptIdeal.Gen Cert.Proof
open Idealize.ShloMosaic Idealize.ShloMosaic.TcCoe Idealize.ShloMosaic.StableHlo Idealize.SL.Sem

/-- The run: the states, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v16) = tail m c main_v16
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  (θ_run defs _ _).mono (fun _ h c => ⟨(h c).2 main_v16 (Pipeline.mem_restRefs_of main_v16 (by decide) (by decide)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c)⟩)
    (run_main m ρ)

/-- The reference's frame: it runs, leaves its arguments as they were, and has no counter. -/
theorem reference_frame (m : (ℓ : Loc ScanPromptReferenceIdeal.nD ScanPromptReferenceIdeal.τ ScanPromptReferenceIdeal.sig) → Buf (Elt Ideal) ℓ)
    (ρ : Dev ScanPromptReferenceIdeal.nD → PrngReg) :
    θ_run (ScanPromptReferenceIdeal.defs (F := Ideal)) (onTc (τ := ScanPromptReferenceIdeal.τ) (ScanPromptReferenceIdeal.main (F := Ideal)))
      ⟨m, fun _ => 0, ρ⟩
      fun r => (∀ (c : Dev ScanPromptReferenceIdeal.nD), ∀ b ∈ ScanPromptReferenceIdeal.Loop.argRefs,
        r.2.mem ((c.tc : Thread ScanPromptReferenceIdeal.nD ScanPromptReferenceIdeal.τ).loc b)
          = m ((c.tc : Thread ScanPromptReferenceIdeal.nD ScanPromptReferenceIdeal.τ).loc b))
        ∧ r.2.sem = fun _ => 0 :=
  (θ_run _ _ _).mono (fun r h => ⟨fun c b hb => (h c b (by revert b; decide)).trans (ScanPromptReferenceIdeal.Loop.final_arg b hb),
    sem_eq_zero_of_no_sems (by decide) r.2⟩) (ScanPromptReferenceIdeal.Value.run_fold m ρ)

theorem reference_quiescent : @Cert.quiescent_ScanPromptReferenceIdeal ScanPromptReferenceIdeal.Gen.facts := fun m ρ _ =>
  (θ_run _ _ _).mono (fun r h => ⟨fun c => ⟨h.1 c _ (by decide), h.1 c _ (by decide), h.1 c _ (by decide), h.1 c _ (by decide), h.1 c _ (by decide), h.1 c _ (by decide),
    h.1 c _ (by decide), h.1 c _ (by decide), h.1 c _ (by decide), h.1 c _ (by decide), h.1 c _ (by decide)⟩, h.2⟩) (reference_frame m ρ)

/-- Two arrays of states that agree at every entry. -/
theorem ext_states {α : Type} (f g : S32x64x64.Idx → α) (h : ∀ (q : Fin 32) (x n : Fin 64), f (ix3 q x n) = g (ix3 q x n)) : f = g :=
  funext fun i => by
    have e : i = ix3 (i 0 : Fin 32) (i 1 : Fin 64) (i 2 : Fin 64) := funext fun k => by
      match k with
      | ⟨0, _⟩ => rfl
      | ⟨1, _⟩ => rfl
      | ⟨2, _⟩ => rfl
    rw [e]
    exact h _ _ _

/-- The two programs compute the same states. -/
theorem algebraic : @Cert.algebraic_ScanPromptIdeal_ScanPromptReferenceIdeal_pre_finite_prompt ScanPromptIdeal.Gen.facts
    ScanPromptReferenceIdeal.Gen.facts FinitePrompt.facts := by
  intro m ρ m' ρ' hpre hargs
  let D (c : Dev nD) : Prompt := FinitePrompt.promptOf (arg m c main_arg1) (arg m c main_arg2) (arg m c main_arg3)
    (arg m c main_arg4) (arg m c main_arg6) (arg m c main_arg7)
  have A : ∀ c, HeldArgs m c (D c) := fun c =>
    letI := FinitePrompt.facts
    FinitePrompt.held _ _ _ _ _ _ _ _ _ _ _ (hpre c)
  have B : ∀ c, ScanPromptReferenceIdeal.Loop.HoldsArgs m' c (D c) := fun c => by
    obtain ⟨-, h1, h2, h3, h4, -, h6, h7, -⟩ := hargs c
    exact ⟨fun i j => (congrFun h1 _).trans ((A c).w i j),
      fun i j => (congrFun h2 _).trans ((A c).k i j), fun i j => (congrFun h3 _).trans ((A c).v i j),
      fun i j => (congrFun h4 _).trans ((A c).a i j), fun j => (congrFun h6 _).trans ((A c).kk j),
      fun j => (congrFun h7 _).trans ((A c).ka j)⟩
  refine ⟨fun c => tail m c main_v16, run m ρ, ?_⟩
  refine (θ_run _ _ _).mono (fun r h c => ?_) (ScanPromptReferenceIdeal.Value.run_fold m' ρ')
  have hk : ∀ b ∈ ScanPromptReferenceIdeal.Loop.argRefs,
      r.2.mem ((c.tc : Thread ScanPromptReferenceIdeal.nD ScanPromptReferenceIdeal.τ).loc b)
        = m' ((c.tc : Thread ScanPromptReferenceIdeal.nD ScanPromptReferenceIdeal.τ).loc b) := fun b hb =>
    (h c b (by revert b; decide)).trans (ScanPromptReferenceIdeal.Loop.final_arg b hb)
  refine ⟨(h c _ (by decide)).trans ?_, hk _ (by decide), hk _ (by decide), hk _ (by decide), hk _ (by decide), hk _ (by decide), hk _ (by decide),
    hk _ (by decide), hk _ (by decide), hk _ (by decide), hk _ (by decide), hk _ (by decide)⟩
  exact ext_states _ _ fun q x n => (ScanPromptReferenceIdeal.Loop.final_state (B c) q x n).trans (state_at (A c) q x n).symm

end Cert.ScanPromptIdeal.Points

end
-- ==== Proof.InProj.Scratch.lean ====
/-
  The packed projection's body at each grid point: at the first row block of a column block the weights' block is put into the
  scratch buffer, the other row blocks leave it there, and every point multiplies its row block by what the scratch holds.
-/
module

public import proofs.«01_k».proof.Proof.Gen.InProjIdeal.Frame
public import Idealize.ShloMosaic.Lib.Pipeline.Value
public import Idealize.ShloMosaic.Lib.Tactic

@[expose] public section

set_option maxRecDepth 16384

noncomputable section

namespace Cert.InProjIdeal.Points

open Cert.InProjIdeal Cert.InProjIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The first row block stores the weights' block. -/
theorem scratch_first (c : Dev nD) (t : Fin cfg0.N) (h0 : t.val % 8 = 0) :
    (outsAt0 m c t.val t.isLt).2 = k0_pay1 (iblk m c 1 t) := by
  rw [outsAt0_A m c t h0]
  dsimp only
  unfold sout0_A_0
  rw [View.read_writes_eq_canon _ _ _ (scover0_A_0 c _ _ _ _ _ _ _ _ _ _ _ _)]
  unfold kernelRun0_A
  dsimp only
  sl_unfold_words
  rw [View.canon_unit_zero hz]
  simp only [View.readAt_eq_ld, (hs0_1 t).read_unread, View.ld_unit_zero (S := S2048x1024) hz]

/-- The other row blocks leave the scratch as it was. -/
theorem scratch_next (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- Every point's output is computed from the scratch as that point leaves it. -/
theorem out_point (c : Dev nD) (t : Fin cfg0.N) :
    (outsAt0 m c t.val t.isLt).1
      = k0_pay2 (iblk m c 0 t) (outsAt0 m c t.val t.isLt).2 := by
  by_cases h0 : t.val % 8 = 0
  · rw [scratch_first m c t h0, outsAt0_A m c t h0]
    dsimp only
    unfold out0_A_2
    rw [View.read_writes_eq_canon _ _ _ (cover0_A_2 c _ _ _ _ _ _ _ _ _ _ _ _)]
    unfold kernelRun0_A
    dsimp only
    sl_unfold_words
    rw [View.canon_unit_zero hz]
    simp only [View.readAt_eq_ld, (hs0_0 t).read_unread, (hs0_1 t).read_unread,
      View.ld_unit_zero (S := S1024x2048) hz, View.ld_unit_zero (S := S2048x1024) hz, View.ld_unit_zero (S := S1024x1024) hz,
      View.readCov_unit_zero (S := S2048x1024) _ hz]
  · rw [scratch_next m c t h0, outsAt0_B m c t h0]
    dsimp only
    unfold out0_B_2
    rw [View.read_writes_eq_canon _ _ _ (cover0_B_2 c _ _ _ _ _ _ _ _ _ _ _ _ _)]
    unfold kernelRun0_B
    dsimp only
    sl_unfold_words
    rw [View.canon_unit_zero hz]
    simp only [View.readAt_eq_ld, (hs0_0 t).read_unread,
      (Memref.isWhole_whole _).read_unread, View.ld_unit_zero (S := S1024x2048) hz, View.ld_unit_zero (S := S2048x1024) hz,
      View.ld_unit_zero (S := S1024x1024) hz]

end Cert.InProjIdeal.Points

end
-- ==== Proof.InProj.Packed.lean ====
/-
  The packed projection's columns: the projected columns in the order that the later calls read them, the narrow pieces
  widened with zeros.
-/
module

public import proofs.«01_k».proof.Proof.InProj.Scratch
public import Idealize.ShloMosaic.Lib.Pointwise
public import Idealize.ShloMosaic.Lib.Pipeline.Value
public import Idealize.ShloMosaic.Lib.Tactic.CleanTypes
public import Idealize.ShloMosaic.Lib.StableHlo.RunRead

@[expose] public section

set_option maxRecDepth 16384

noncomputable section

namespace Cert.InProjIdeal.Points

open Cert.InProjIdeal Cert.InProjIdeal.Gen Idealize.ShloMosaic Idealize.ShloMosaic.TcCoe StableHlo

/-! ## The order of the columns -/

/-- The projected column that packed column `j` holds: both gates, the three recurrence streams, the query, the indexer's
    queries, the keys, the values, the three low-rank pieces, the indexer's key twice, its head weights; none where the
    packing puts zeros. -/
def source (j : ℕ) : Option ℕ :=
  if j < 4096 then some (10768 + j)
  else if j < 10240 then some (j - 4096)
  else if j < 12288 then some (6592 + (j - 10240))
  else if j < 13312 then some (9664 + (j - 12288))
  else if j < 13824 then some (8640 + (j - 13312))
  else if j < 14336 then some (9152 + (j - 13824))
  else if j < 14432 then some (6144 + (j - 14336))
  else if j < 14464 then none
  else if j < 14560 then some (6240 + (j - 14464))
  else if j < 14592 then none
  else if j < 14848 then some (6336 + (j - 14592))
  else if j < 14912 then some (10688 + (j - 14848))
  else if j < 14976 then some (10688 + (j - 14912))
  else if j < 14992 then some (10752 + (j - 14976))
  else none

/-- Packed column `j` of a row whose column `c` is `g c`. -/
def packed (g : ℕ → EReal) (j : ℕ) : EReal := (source j).elim 0 g

/-! `source` on each of its ranges. -/

theorem source_gates {j : ℕ} (h : j < 4096) : source j = some (10768 + j) := by
  simp (disch := omega) only [source, if_pos, if_neg]

theorem source_streams {j : ℕ} (h : 4096 ≤ j ∧ j < 10240) : source j = some (j - 4096) := by
  simp (disch := omega) only [source, if_pos, if_neg]

theorem source_queries {j : ℕ} (h : 10240 ≤ j ∧ j < 12288) : source j = some (6592 + (j - 10240)) := by
  simp (disch := omega) only [source, if_pos, if_neg]

theorem source_index_queries {j : ℕ} (h : 12288 ≤ j ∧ j < 13312) : source j = some (9664 + (j - 12288)) := by
  simp (disch := omega) only [source, if_pos, if_neg]

theorem source_keys {j : ℕ} (h : 13312 ≤ j ∧ j < 13824) : source j = some (8640 + (j - 13312)) := by
  simp (disch := omega) only [source, if_pos, if_neg]

theorem source_values {j : ℕ} (h : 13824 ≤ j ∧ j < 14336) : source j = some (9152 + (j - 13824)) := by
  simp (disch := omega) only [source, if_pos, if_neg]

theorem source_decay {j : ℕ} (h : 14336 ≤ j ∧ j < 14432) : source j = some (6144 + (j - 14336)) := by
  simp (disch := omega) only [source, if_pos, if_neg]

theorem source_pad1 {j : ℕ} (h : 14432 ≤ j ∧ j < 14464) : source j = none := by
  simp (disch := omega) only [source, if_pos, if_neg]

theorem source_rate {j : ℕ} (h : 14464 ≤ j ∧ j < 14560) : source j = some (6240 + (j - 14464)) := by
  simp (disch := omega) only [source, if_pos, if_neg]

theorem source_pad2 {j : ℕ} (h : 14560 ≤ j ∧ j < 14592) : source j = none := by
  simp (disch := omega) only [source, if_pos, if_neg]

theorem source_gate_rank {j : ℕ} (h : 14592 ≤ j ∧ j < 14848) : source j = some (6336 + (j - 14592)) := by
  simp (disch := omega) only [source, if_pos, if_neg]

theorem source_index_keys {j : ℕ} (h : 14848 ≤ j ∧ j < 14912) : source j = some (10688 + (j - 14848)) := by
  simp (disch := omega) only [source, if_pos, if_neg]

theorem source_index_keys' {j : ℕ} (h : 14912 ≤ j ∧ j < 14976) : source j = some (10688 + (j - 14912)) := by
  simp (disch := omega) only [source, if_pos, if_neg]

theorem source_head_weights {j : ℕ} (h : 14976 ≤ j ∧ j < 14992) : source j = some (10752 + (j - 14976)) := by
  simp (disch := omega) only [source, if_pos, if_neg]

theorem source_pad3 {j : ℕ} (h : 14992 ≤ j ∧ j < 15360) : source j = none := by
  simp (disch := omega) only [source, if_pos, if_neg]

theorem packed_of_some (g : ℕ → EReal) {j c : ℕ} (h : source j = some c) : packed g j = g c := by rw [packed, h]; rfl
theorem packed_of_none (g : ℕ → EReal) {j : ℕ} (h : source j = none) : packed g j = 0 := by rw [packed, h]; rfl

/-- A packed row is linear in the row it packs: a sum of multiples packs entry by entry. -/
theorem packed_sum (x : Fin 2048 → EReal) (g : Fin 2048 → ℕ → EReal) (j : ℕ) :
    ∑ k, x k * packed (g k) j = packed (fun c => ∑ k, x k * g k c) j := by
  unfold packed
  cases source j with
  | none => simp only [Option.elim, mul_zero, Finset.sum_const_zero]
  | some c => rfl

/-! ## Slices and concatenations of columns -/

section Columns

variable {n N : ℕ}

/-- A row of a matrix, as a function of the column's number. -/
def row (y : (⟨2, ![n, N]⟩ : Shape).Idx → EReal) (r : Fin n) (c : ℕ) : EReal :=
  if h : c < N then y (ix2 r ⟨c, h⟩) else 0

theorem row_at (y : (⟨2, ![n, N]⟩ : Shape).Idx → EReal) (r : Fin n) (c : ℕ) (h : c < N) :
    row y r c = y (ix2 r ⟨c, h⟩) := dif_pos h

/-- A slice of the columns from `o` on. -/
theorem slice_at {w : ℕ} (y : (⟨2, ![n, N]⟩ : Shape).Idx → EReal) (o : ℕ)
    (h : Shape.Slices ⟨2, ![n, N]⟩ ![0, o] ⟨2, ![n, w]⟩) (ho : o + w ≤ N) (r : Fin n) (q : Fin w) :
    extractStridedSlice ⟨2, ![n, w]⟩ ![0, o] y h (ix2 r q) = row y r (o + q) := by
  refine (extractStridedSlice_apply _ _ _ _ (ix2 r ⟨o + q, by omega⟩) fun a => ?_).trans (row_at y r _ (by omega)).symm
  match a with
  | ⟨0, _⟩ => exact (Nat.zero_add _).symm
  | ⟨1, _⟩ => rfl

/-- A slice of a slice. -/
theorem slice_slice_at {w v : ℕ} (y : (⟨2, ![n, N]⟩ : Shape).Idx → EReal) (o p : ℕ)
    (h : Shape.Slices ⟨2, ![n, N]⟩ ![0, o] ⟨2, ![n, w]⟩) (h' : Shape.Slices ⟨2, ![n, w]⟩ ![0, p] ⟨2, ![n, v]⟩)
    (ho : o + w ≤ N) (hp : p + v ≤ w) (r : Fin n) (q : Fin v) :
    extractStridedSlice ⟨2, ![n, v]⟩ ![0, p] (extractStridedSlice ⟨2, ![n, w]⟩ ![0, o] y h) h' (ix2 r q)
      = row y r (o + p + q) := by
  refine (slice_at _ p h' hp r q).trans ((row_at _ r _ (by omega)).trans ((slice_at y o h ho r _).trans ?_))
  exact congrArg (row y r) (Nat.add_assoc o p q).symm

/-- A concatenation of columns, read within piece `k` (`ws` the widths, `pre` the sum of those before), whose row `r` holds `f`. -/
theorem piece_at {T w : ℕ} (xs : List ((s : Shape) × (s.Idx → EReal))) (h : Shape.Concatenates (xs.map (·.1)) ⟨2, ![n, T]⟩ 1)
    (r : Fin n) (j : Fin T) (k : ℕ) (hk : k < xs.length) (pre : ℕ) (x : (⟨2, ![n, w]⟩ : Shape).Idx → EReal)
    (f : ℕ → EReal) (hxk : xs[k] = ⟨⟨2, ![n, w]⟩, x⟩)
    (ws : List ℕ) (hws : xs.map (·.1) = ws.map fun w => ⟨2, ![n, w]⟩) (hpre : (ws.take k).sum = pre)
    (hx : ∀ q : Fin w, x (ix2 r q) = f q) (hj : pre ≤ j ∧ j < pre + w) :
    concatenate ⟨2, ![n, T]⟩ 1 xs h (ix2 r j) = f (j - pre) := by
  have hp : (((xs.take k).map (·.1)).map fun s : Shape =>
      if h : s.rank = (⟨2, ![n, T]⟩ : Shape).rank then s.size ((1 : Fin (⟨2, ![n, T]⟩ : Shape).rank).cast h.symm) else 0).sum
      = pre := by
    rw [List.map_take, hws, ← List.map_take, List.map_map, ← hpre]
    exact congrArg List.sum (List.map_id _)
  refine (concatenate_apply_piece 1 xs h (ix2 r j) k hk _ x hxk rfl pre hp (ix2 r ⟨j - pre, by omega⟩)
    (fun b hb => ?_) ?_).trans (hx _)
  · match b with
    | ⟨0, _⟩ => rfl
    | ⟨1, _⟩ => exact absurd rfl hb
  · exact Nat.add_sub_cancel' hj.1

/-- A concatenation of columns that is row `g` packed, within a piece of `g`'s columns from `o` on: `j` is packed column
    `J`. -/
theorem columns_at {T w : ℕ} (xs : List ((s : Shape) × (s.Idx → EReal))) (h : Shape.Concatenates (xs.map (·.1)) ⟨2, ![n, T]⟩ 1)
    (r : Fin n) (j : Fin T) (g : ℕ → EReal) (J k : ℕ) (hk : k < xs.length) (pre o : ℕ) (x : (⟨2, ![n, w]⟩ : Shape).Idx → EReal)
    (hxk : xs[k] = ⟨⟨2, ![n, w]⟩, x⟩)
    (ws : List ℕ) (hws : xs.map (·.1) = ws.map fun w => ⟨2, ![n, w]⟩) (hpre : (ws.take k).sum = pre)
    (hx : ∀ q : Fin w, x (ix2 r q) = g (o + q)) (hj : pre ≤ j ∧ j < pre + w) (hJ : source J = some (o + (j - pre))) :
    concatenate ⟨2, ![n, T]⟩ 1 xs h (ix2 r j) = packed g J :=
  (piece_at xs h r j k hk pre x (fun q => g (o + q)) hxk ws hws hpre hx hj).trans (packed_of_some g hJ).symm

/-- The same within a piece of zeros. -/
theorem padding_at {T w : ℕ} (xs : List ((s : Shape) × (s.Idx → EReal))) (h : Shape.Concatenates (xs.map (·.1)) ⟨2, ![n, T]⟩ 1)
    (r : Fin n) (j : Fin T) (g : ℕ → EReal) (J k : ℕ) (hk : k < xs.length) (pre : ℕ) (x : (⟨2, ![n, w]⟩ : Shape).Idx → EReal)
    (hxk : xs[k] = ⟨⟨2, ![n, w]⟩, x⟩)
    (ws : List ℕ) (hws : xs.map (·.1) = ws.map fun w => ⟨2, ![n, w]⟩) (hpre : (ws.take k).sum = pre)
    (hx : ∀ i, x i = 0) (hj : pre ≤ j ∧ j < pre + w) (hJ : source J = none) :
    concatenate ⟨2, ![n, T]⟩ 1 xs h (ix2 r j) = packed g J :=
  (piece_at xs h r j k hk pre x (fun _ => 0) hxk ws hws hpre (fun q => hx _) hj).trans (packed_of_none g hJ).symm

end Columns

/-! ## Rows put side by side from a row's own columns -/

/-- Fifteen pieces side by side, each of them columns of row `g` or zeros, are the packed row. -/
theorem pieces_at {n : ℕ} (r : Fin n) (g : ℕ → EReal)
    (x0 : (⟨2, ![n, 4096]⟩ : Shape).Idx → EReal)
    (x1 : (⟨2, ![n, 6144]⟩ : Shape).Idx → EReal)
    (x2 : (⟨2, ![n, 2048]⟩ : Shape).Idx → EReal)
    (x3 : (⟨2, ![n, 1024]⟩ : Shape).Idx → EReal)
    (x4 : (⟨2, ![n, 512]⟩ : Shape).Idx → EReal)
    (x5 : (⟨2, ![n, 512]⟩ : Shape).Idx → EReal)
    (x6 : (⟨2, ![n, 96]⟩ : Shape).Idx → EReal)
    (x7 : (⟨2, ![n, 32]⟩ : Shape).Idx → EReal)
    (x8 : (⟨2, ![n, 96]⟩ : Shape).Idx → EReal)
    (x9 : (⟨2, ![n, 32]⟩ : Shape).Idx → EReal)
    (x10 : (⟨2, ![n, 256]⟩ : Shape).Idx → EReal)
    (x11 : (⟨2, ![n, 64]⟩ : Shape).Idx → EReal)
    (x12 : (⟨2, ![n, 64]⟩ : Shape).Idx → EReal)
    (x13 : (⟨2, ![n, 16]⟩ : Shape).Idx → EReal)
    (x14 : (⟨2, ![n, 368]⟩ : Shape).Idx → EReal)
    (h0 : ∀ q, x0 (ix2 r q) = g (10768 + q))
    (h1 : ∀ q, x1 (ix2 r q) = g (0 + q))
    (h2 : ∀ q, x2 (ix2 r q) = g (6592 + q))
    (h3 : ∀ q, x3 (ix2 r q) = g (9664 + q))
    (h4 : ∀ q, x4 (ix2 r q) = g (8640 + q))
    (h5 : ∀ q, x5 (ix2 r q) = g (9152 + q))
    (h6 : ∀ q, x6 (ix2 r q) = g (6144 + q))
    (h7 : ∀ i, x7 i = 0)
    (h8 : ∀ q, x8 (ix2 r q) = g (6240 + q))
    (h9 : ∀ i, x9 i = 0)
    (h10 : ∀ q, x10 (ix2 r q) = g (6336 + q))
    (h11 : ∀ q, x11 (ix2 r q) = g (10688 + q))
    (h12 : ∀ q, x12 (ix2 r q) = g (10688 + q))
    (h13 : ∀ q, x13 (ix2 r q) = g (10752 + q))
    (h14 : ∀ i, x14 i = 0)
    (h : Shape.Concatenates (([4096, 6144, 2048, 1024, 512, 512, 96, 32, 96, 32, 256, 64, 64, 16, 368] : List ℕ).map fun w => (⟨2, ![n, w]⟩ : Shape)) ⟨2, ![n, 15360]⟩ 1) (j : Fin 15360) :
    concatenate ⟨2, ![n, 15360]⟩ 1
      [⟨⟨2, ![n, 4096]⟩, x0⟩, ⟨⟨2, ![n, 6144]⟩, x1⟩, ⟨⟨2, ![n, 2048]⟩, x2⟩, ⟨⟨2, ![n, 1024]⟩, x3⟩, ⟨⟨2, ![n, 512]⟩, x4⟩,
       ⟨⟨2, ![n, 512]⟩, x5⟩, ⟨⟨2, ![n, 96]⟩, x6⟩, ⟨⟨2, ![n, 32]⟩, x7⟩, ⟨⟨2, ![n, 96]⟩, x8⟩, ⟨⟨2, ![n, 32]⟩, x9⟩,
       ⟨⟨2, ![n, 256]⟩, x10⟩, ⟨⟨2, ![n, 64]⟩, x11⟩, ⟨⟨2, ![n, 64]⟩, x12⟩, ⟨⟨2, ![n, 16]⟩, x13⟩, ⟨⟨2, ![n, 368]⟩, x14⟩] h (ix2 r j)
      = packed g j := by
  have hj := j.isLt
  have cases :
      (0 ≤ j.val ∧ j.val < 0 + 4096) ∨ (4096 ≤ j.val ∧ j.val < 4096 + 6144) ∨ (10240 ≤ j.val ∧ j.val < 10240 + 2048)
      ∨ (12288 ≤ j.val ∧ j.val < 12288 + 1024) ∨ (13312 ≤ j.val ∧ j.val < 13312 + 512) ∨ (13824 ≤ j.val ∧ j.val < 13824 + 512)
      ∨ (14336 ≤ j.val ∧ j.val < 14336 + 96) ∨ (14432 ≤ j.val ∧ j.val < 14432 + 32) ∨ (14464 ≤ j.val ∧ j.val < 14464 + 96)
      ∨ (14560 ≤ j.val ∧ j.val < 14560 + 32) ∨ (14592 ≤ j.val ∧ j.val < 14592 + 256) ∨ (14848 ≤ j.val ∧ j.val < 14848 + 64)
      ∨ (14912 ≤ j.val ∧ j.val < 14912 + 64) ∨ (14976 ≤ j.val ∧ j.val < 14976 + 16) ∨ (14992 ≤ j.val ∧ j.val < 14992 + 368) := by omega
  rcases cases with d | d | d | d | d | d | d | d | d | d | d | d | d | d | d
  · exact columns_at _ _ r j g _ 0 (Nat.le_of_ble_eq_true rfl) 0 10768 x0 rfl [4096, 6144, 2048, 1024, 512, 512, 96, 32, 96, 32, 256, 64, 64, 16, 368] rfl (by decide)
      h0 d ((source_gates (by omega)).trans (congrArg some (by omega)))
  · exact columns_at _ _ r j g _ 1 (Nat.le_of_ble_eq_true rfl) 4096 0 x1 rfl [4096, 6144, 2048, 1024, 512, 512, 96, 32, 96, 32, 256, 64, 64, 16, 368] rfl (by decide)
      h1 d ((source_streams (by omega)).trans (congrArg some (by omega)))
  · exact columns_at _ _ r j g _ 2 (Nat.le_of_ble_eq_true rfl) 10240 6592 x2 rfl [4096, 6144, 2048, 1024, 512, 512, 96, 32, 96, 32, 256, 64, 64, 16, 368] rfl (by decide)
      h2 d ((source_queries (by omega)).trans (congrArg some (by omega)))
  · exact columns_at _ _ r j g _ 3 (Nat.le_of_ble_eq_true rfl) 12288 9664 x3 rfl [4096, 6144, 2048, 1024, 512, 512, 96, 32, 96, 32, 256, 64, 64, 16, 368] rfl (by decide)
      h3 d ((source_index_queries (by omega)).trans (congrArg some (by omega)))
  · exact columns_at _ _ r j g _ 4 (Nat.le_of_ble_eq_true rfl) 13312 8640 x4 rfl [4096, 6144, 2048, 1024, 512, 512, 96, 32, 96, 32, 256, 64, 64, 16, 368] rfl (by decide)
      h4 d ((source_keys (by omega)).trans (congrArg some (by omega)))
  · exact columns_at _ _ r j g _ 5 (Nat.le_of_ble_eq_true rfl) 13824 9152 x5 rfl [4096, 6144, 2048, 1024, 512, 512, 96, 32, 96, 32, 256, 64, 64, 16, 368] rfl (by decide)
      h5 d ((source_values (by omega)).trans (congrArg some (by omega)))
  · exact columns_at _ _ r j g _ 6 (Nat.le_of_ble_eq_true rfl) 14336 6144 x6 rfl [4096, 6144, 2048, 1024, 512, 512, 96, 32, 96, 32, 256, 64, 64, 16, 368] rfl (by decide)
      h6 d ((source_decay (by omega)).trans (congrArg some (by omega)))
  · exact padding_at _ _ r j g _ 7 (Nat.le_of_ble_eq_true rfl) 14432 x7 rfl [4096, 6144, 2048, 1024, 512, 512, 96, 32, 96, 32, 256, 64, 64, 16, 368] rfl (by decide)
      h7 d (source_pad1 (by omega))
  · exact columns_at _ _ r j g _ 8 (Nat.le_of_ble_eq_true rfl) 14464 6240 x8 rfl [4096, 6144, 2048, 1024, 512, 512, 96, 32, 96, 32, 256, 64, 64, 16, 368] rfl (by decide)
      h8 d ((source_rate (by omega)).trans (congrArg some (by omega)))
  · exact padding_at _ _ r j g _ 9 (Nat.le_of_ble_eq_true rfl) 14560 x9 rfl [4096, 6144, 2048, 1024, 512, 512, 96, 32, 96, 32, 256, 64, 64, 16, 368] rfl (by decide)
      h9 d (source_pad2 (by omega))
  · exact columns_at _ _ r j g _ 10 (Nat.le_of_ble_eq_true rfl) 14592 6336 x10 rfl [4096, 6144, 2048, 1024, 512, 512, 96, 32, 96, 32, 256, 64, 64, 16, 368] rfl (by decide)
      h10 d ((source_gate_rank (by omega)).trans (congrArg some (by omega)))
  · exact columns_at _ _ r j g _ 11 (Nat.le_of_ble_eq_true rfl) 14848 10688 x11 rfl [4096, 6144, 2048, 1024, 512, 512, 96, 32, 96, 32, 256, 64, 64, 16, 368] rfl (by decide)
      h11 d ((source_index_keys (by omega)).trans (congrArg some (by omega)))
  · exact columns_at _ _ r j g _ 12 (Nat.le_of_ble_eq_true rfl) 14912 10688 x12 rfl [4096, 6144, 2048, 1024, 512, 512, 96, 32, 96, 32, 256, 64, 64, 16, 368] rfl (by decide)
      h12 d ((source_index_keys' (by omega)).trans (congrArg some (by omega)))
  · exact columns_at _ _ r j g _ 13 (Nat.le_of_ble_eq_true rfl) 14976 10752 x13 rfl [4096, 6144, 2048, 1024, 512, 512, 96, 32, 96, 32, 256, 64, 64, 16, 368] rfl (by decide)
      h13 d ((source_head_weights (by omega)).trans (congrArg some (by omega)))
  · exact padding_at _ _ r j g _ 14 (Nat.le_of_ble_eq_true rfl) 14992 x14 rfl [4096, 6144, 2048, 1024, 512, 512, 96, 32, 96, 32, 256, 64, 64, 16, 368] rfl (by decide)
      h14 d (source_pad3 (by omega))

/-- The streams and low-rank pieces of a packed row, put side by side, are the first columns of the row it packs. -/
theorem streams_at {n : ℕ} (r : Fin n) (g : ℕ → EReal)
    (x0 : (⟨2, ![n, 6144]⟩ : Shape).Idx → EReal)
    (x1 : (⟨2, ![n, 96]⟩ : Shape).Idx → EReal)
    (x2 : (⟨2, ![n, 96]⟩ : Shape).Idx → EReal)
    (x3 : (⟨2, ![n, 256]⟩ : Shape).Idx → EReal)
    (h0 : ∀ q, x0 (ix2 r q) = packed g (4096 + q))
    (h1 : ∀ q, x1 (ix2 r q) = packed g (14336 + q))
    (h2 : ∀ q, x2 (ix2 r q) = packed g (14464 + q))
    (h3 : ∀ q, x3 (ix2 r q) = packed g (14592 + q))
    (h : Shape.Concatenates (([6144, 96, 96, 256] : List ℕ).map fun w => (⟨2, ![n, w]⟩ : Shape)) ⟨2, ![n, 6592]⟩ 1) (j : Fin 6592) :
    concatenate ⟨2, ![n, 6592]⟩ 1
      [⟨⟨2, ![n, 6144]⟩, x0⟩, ⟨⟨2, ![n, 96]⟩, x1⟩, ⟨⟨2, ![n, 96]⟩, x2⟩, ⟨⟨2, ![n, 256]⟩, x3⟩] h (ix2 r j)
      = g j := by
  have hj := j.isLt
  have cases : (0 ≤ j.val ∧ j.val < 0 + 6144) ∨ (6144 ≤ j.val ∧ j.val < 6144 + 96) ∨ (6240 ≤ j.val ∧ j.val < 6240 + 96)
      ∨ (6336 ≤ j.val ∧ j.val < 6336 + 256) := by omega
  rcases cases with d | d | d | d
  · refine (piece_at _ _ r j 0 (Nat.le_of_ble_eq_true rfl) 0 x0 (fun q => packed g (4096 + q)) rfl [6144, 96, 96, 256] rfl
      (by decide) h0 d).trans ?_
    exact packed_of_some _ ((source_streams (by omega)).trans (congrArg some (by omega)))
  · refine (piece_at _ _ r j 1 (Nat.le_of_ble_eq_true rfl) 6144 x1 (fun q => packed g (14336 + q)) rfl [6144, 96, 96, 256] rfl
      (by decide) h1 d).trans ?_
    exact packed_of_some _ ((source_decay (by omega)).trans (congrArg some (by omega)))
  · refine (piece_at _ _ r j 2 (Nat.le_of_ble_eq_true rfl) 6240 x2 (fun q => packed g (14464 + q)) rfl [6144, 96, 96, 256] rfl
      (by decide) h2 d).trans ?_
    exact packed_of_some _ ((source_rate (by omega)).trans (congrArg some (by omega)))
  · refine (piece_at _ _ r j 3 (Nat.le_of_ble_eq_true rfl) 6336 x3 (fun q => packed g (14592 + q)) rfl [6144, 96, 96, 256] rfl
      (by decide) h3 d).trans ?_
    exact packed_of_some _ ((source_gate_rank (by omega)).trans (congrArg some (by omega)))

/-! ## The packed weights -/

variable (y : FVec Ideal S2048x14864 .f32)

/-- Zeros. -/
theorem zeros_at {s : Shape} (h : S_.BroadcastsInDim s (![] : Fin 0 → Fin s.rank)) (i : s.Idx) :
    (broadcastInDim s ![] h (constant S_ .f32 0x00000000#32) : FVec Ideal s .f32) i = 0 := by
  pointwise

/-- The first sixteen pieces of the kernel's packed weights, in order. -/
def pieces : List ((s : Shape) × FVec Ideal s .f32) :=
  let z32 : FVec Ideal S2048x32 .f32 := broadcastInDim S2048x32 ![] bcast_S_S2048x32 (constant S_ .f32 0x00000000#32)
  let ki : FVec Ideal S2048x64 .f32 := extractStridedSlice S2048x64 ![0, 10688] y slices_S2048x14864_S2048x64_0_10688
  [⟨S2048x2048, extractStridedSlice S2048x2048 ![0, 10768] y slices_S2048x14864_S2048x2048_0_10768⟩,
   ⟨S2048x2048, extractStridedSlice S2048x2048 ![0, 12816] y slices_S2048x14864_S2048x2048_0_12816⟩,
   ⟨S2048x2048, extractStridedSlice S2048x2048 ![0, 0] y slices_S2048x14864_S2048x2048_0_0⟩,
   ⟨S2048x2048, extractStridedSlice S2048x2048 ![0, 2048] y slices_S2048x14864_S2048x2048_0_2048⟩,
   ⟨S2048x2048, extractStridedSlice S2048x2048 ![0, 4096] y slices_S2048x14864_S2048x2048_0_4096⟩,
   ⟨S2048x2048, extractStridedSlice S2048x2048 ![0, 6592] y slices_S2048x14864_S2048x2048_0_6592⟩,
   ⟨S2048x1024, extractStridedSlice S2048x1024 ![0, 9664] y slices_S2048x14864_S2048x1024_0_9664⟩,
   ⟨S2048x512, extractStridedSlice S2048x512 ![0, 8640] y slices_S2048x14864_S2048x512_0_8640⟩,
   ⟨S2048x512, extractStridedSlice S2048x512 ![0, 9152] y slices_S2048x14864_S2048x512_0_9152⟩,
   ⟨S2048x96, extractStridedSlice S2048x96 ![0, 6144] y slices_S2048x14864_S2048x96_0_6144⟩, ⟨S2048x32, z32⟩,
   ⟨S2048x96, extractStridedSlice S2048x96 ![0, 6240] y slices_S2048x14864_S2048x96_0_6240⟩, ⟨S2048x32, z32⟩,
   ⟨S2048x256, extractStridedSlice S2048x256 ![0, 6336] y slices_S2048x14864_S2048x256_0_6336⟩,
   ⟨S2048x64, ki⟩, ⟨S2048x64, ki⟩]

/-- Their shapes. -/
theorem widths_main : (pieces y).map (·.1)
    = [2048, 2048, 2048, 2048, 2048, 2048, 1024, 512, 512, 96, 32, 96, 32, 256, 64, 64].map fun w => ⟨2, ![2048, w]⟩ := rfl

/-- The sixteen pieces side by side. -/
def packedMain : FVec Ideal S2048x14976 .f32 :=
  concatenate S2048x14976 1 (pieces y)
    concatenates_S2048x2048_S2048x2048_S2048x2048_S2048x2048_S2048x2048_S2048x2048_S2048x1024_S2048x512_S2048x512_S2048x96_S2048x32_S2048x96_S2048x32_S2048x256_S2048x64_S2048x64_S2048x14976_d1

/-- The last three: the indexer's head weights and two widths of zeros. -/
def packedLast : FVec Ideal S2048x384 .f32 :=
  concatenate S2048x384 1
      [⟨S2048x16, extractStridedSlice S2048x16 ![0, 10752] y slices_S2048x14864_S2048x16_0_10752⟩,
       ⟨S2048x112, broadcastInDim S2048x112 ![] bcast_S_S2048x112 (constant S_ .f32 0x00000000#32)⟩,
       ⟨S2048x256, broadcastInDim S2048x256 ![] bcast_S_S2048x256 (constant S_ .f32 0x00000000#32)⟩]
      concatenates_S2048x16_S2048x112_S2048x256_S2048x384_d1

/-- The kernel's packed weights, from the layer's. -/
def packedWeights : FVec Ideal S2048x15360 .f32 :=
  concatenate S2048x15360 1 [⟨S2048x14976, packedMain y⟩, ⟨S2048x384, packedLast y⟩]
    concatenates_S2048x14976_S2048x384_S2048x15360_d1

/-- Each of the sixteen pieces is where the packing has it. -/
theorem packedMain_at (k : Fin 2048) (j : Fin 14976) : packedMain y (ix2 k j) = packed (row y k) j := by
  have hj := j.isLt
  have cases :
    (0 ≤ j.val ∧ j.val < 0 + 2048) ∨ (2048 ≤ j.val ∧ j.val < 2048 + 2048) ∨ (4096 ≤ j.val ∧ j.val < 4096 + 2048)
      ∨ (6144 ≤ j.val ∧ j.val < 6144 + 2048) ∨ (8192 ≤ j.val ∧ j.val < 8192 + 2048)
      ∨ (10240 ≤ j.val ∧ j.val < 10240 + 2048) ∨ (12288 ≤ j.val ∧ j.val < 12288 + 1024)
      ∨ (13312 ≤ j.val ∧ j.val < 13312 + 512) ∨ (13824 ≤ j.val ∧ j.val < 13824 + 512)
      ∨ (14336 ≤ j.val ∧ j.val < 14336 + 96) ∨ (14432 ≤ j.val ∧ j.val < 14432 + 32)
      ∨ (14464 ≤ j.val ∧ j.val < 14464 + 96) ∨ (14560 ≤ j.val ∧ j.val < 14560 + 32)
      ∨ (14592 ≤ j.val ∧ j.val < 14592 + 256) ∨ (14848 ≤ j.val ∧ j.val < 14848 + 64)
      ∨ (14912 ≤ j.val ∧ j.val < 14912 + 64) := by omega
  unfold packedMain
  have widths := widths_main y
  rcases cases with h | h | h | h | h | h | h | h | h | h | h | h | h | h | h | h
  · exact columns_at _ _ k j _ _ 0 (Nat.le_of_ble_eq_true rfl) 0 10768 _ rfl _ widths (by decide) (slice_at y 10768 _ (by decide) k) h
      ((source_gates (by omega)).trans (congrArg some (by omega)))
  · exact columns_at _ _ k j _ _ 1 (Nat.le_of_ble_eq_true rfl) 2048 12816 _ rfl _ widths (by decide) (slice_at y 12816 _ (by decide) k) h
      ((source_gates (by omega)).trans (congrArg some (by omega)))
  · exact columns_at _ _ k j _ _ 2 (Nat.le_of_ble_eq_true rfl) 4096 0 _ rfl _ widths (by decide) (slice_at y 0 _ (by decide) k) h
      ((source_streams (by omega)).trans (congrArg some (by omega)))
  · exact columns_at _ _ k j _ _ 3 (Nat.le_of_ble_eq_true rfl) 6144 2048 _ rfl _ widths (by decide) (slice_at y 2048 _ (by decide) k) h
      ((source_streams (by omega)).trans (congrArg some (by omega)))
  · exact columns_at _ _ k j _ _ 4 (Nat.le_of_ble_eq_true rfl) 8192 4096 _ rfl _ widths (by decide) (slice_at y 4096 _ (by decide) k) h
      ((source_streams (by omega)).trans (congrArg some (by omega)))
  · exact columns_at _ _ k j _ _ 5 (Nat.le_of_ble_eq_true rfl) 10240 6592 _ rfl _ widths (by decide) (slice_at y 6592 _ (by decide) k) h
      ((source_queries (by omega)).trans (congrArg some (by omega)))
  · exact columns_at _ _ k j _ _ 6 (Nat.le_of_ble_eq_true rfl) 12288 9664 _ rfl _ widths (by decide) (slice_at y 9664 _ (by decide) k) h
      ((source_index_queries (by omega)).trans (congrArg some (by omega)))
  · exact columns_at _ _ k j _ _ 7 (Nat.le_of_ble_eq_true rfl) 13312 8640 _ rfl _ widths (by decide) (slice_at y 8640 _ (by decide) k) h
      ((source_keys (by omega)).trans (congrArg some (by omega)))
  · exact columns_at _ _ k j _ _ 8 (Nat.le_of_ble_eq_true rfl) 13824 9152 _ rfl _ widths (by decide) (slice_at y 9152 _ (by decide) k) h
      ((source_values (by omega)).trans (congrArg some (by omega)))
  · exact columns_at _ _ k j _ _ 9 (Nat.le_of_ble_eq_true rfl) 14336 6144 _ rfl _ widths (by decide) (slice_at y 6144 _ (by decide) k) h
      ((source_decay (by omega)).trans (congrArg some (by omega)))
  · exact padding_at _ _ k j _ _ 10 (Nat.le_of_ble_eq_true rfl) 14432 _ rfl _ widths (by decide) (zeros_at _) h (source_pad1 (by omega))
  · exact columns_at _ _ k j _ _ 11 (Nat.le_of_ble_eq_true rfl) 14464 6240 _ rfl _ widths (by decide) (slice_at y 6240 _ (by decide) k) h
      ((source_rate (by omega)).trans (congrArg some (by omega)))
  · exact padding_at _ _ k j _ _ 12 (Nat.le_of_ble_eq_true rfl) 14560 _ rfl _ widths (by decide) (zeros_at _) h (source_pad2 (by omega))
  · exact columns_at _ _ k j _ _ 13 (Nat.le_of_ble_eq_true rfl) 14592 6336 _ rfl _ widths (by decide) (slice_at y 6336 _ (by decide) k) h
      ((source_gate_rank (by omega)).trans (congrArg some (by omega)))
  · exact columns_at _ _ k j _ _ 14 (Nat.le_of_ble_eq_true rfl) 14848 10688 _ rfl _ widths (by decide) (slice_at y 10688 _ (by decide) k) h
      ((source_index_keys (by omega)).trans (congrArg some (by omega)))
  · exact columns_at _ _ k j _ _ 15 (Nat.le_of_ble_eq_true rfl) 14912 10688 _ rfl _ widths (by decide) (slice_at y 10688 _ (by decide) k) h
      ((source_index_keys' (by omega)).trans (congrArg some (by omega)))

/-- So are the last three. -/
theorem packedLast_at (k : Fin 2048) (j : Fin 384) : packedLast y (ix2 k j) = packed (row y k) (14976 + j) := by
  have hj := j.isLt
  have cases : (0 ≤ j.val ∧ j.val < 0 + 16) ∨ (16 ≤ j.val ∧ j.val < 16 + 112) ∨ (128 ≤ j.val ∧ j.val < 128 + 256) := by omega
  unfold packedLast
  rcases cases with h | h | h
  · exact columns_at _ _ k j _ _ 0 (Nat.le_of_ble_eq_true rfl) 0 10752 _ rfl [16, 112, 256] rfl (by decide) (slice_at y 10752 _ (by decide) k) h
      ((source_head_weights (by omega)).trans (congrArg some (by omega)))
  · exact padding_at _ _ k j _ _ 1 (Nat.le_of_ble_eq_true rfl) 16 _ rfl [16, 112, 256] rfl (by decide) (zeros_at _) h (source_pad3 (by omega))
  · exact padding_at _ _ k j _ _ 2 (Nat.le_of_ble_eq_true rfl) 128 _ rfl [16, 112, 256] rfl (by decide) (zeros_at _) h (source_pad3 (by omega))

/-- The kernel's packed weights are the packed columns of the layer's weights. -/
theorem packedWeights_at (k : Fin 2048) (j : Fin 15360) : packedWeights y (ix2 k j) = packed (row y k) j := by
  have hj := j.isLt
  unfold packedWeights
  by_cases h : j.val < 14976
  · exact (piece_at _ _ k j 0 (Nat.le_of_ble_eq_true rfl) 0 _ (packed (row y k)) rfl [14976, 384] rfl (by decide) (packedMain_at y k) ⟨by omega, by omega⟩)
  · refine (piece_at _ _ k j 1 (Nat.le_of_ble_eq_true rfl) 14976 _ (fun q => packed (row y k) (14976 + q)) rfl [14976, 384] rfl (by decide) (packedLast_at y k)
      ⟨by omega, by omega⟩).trans (congrArg (packed (row y k)) ?_)
    omega

end Cert.InProjIdeal.Points

end
-- ==== Proof.InProj.Value.lean ====
/-
  The input projection's results: every entry of the packed projection is the packed entry of the product of the normed rows
  with the layer's weights; the values, the indexer's keys and the last row's streams are columns of that product.
-/
module

public import proofs.«01_k».proof.Proof.InProj.Packed
public import Idealize.ShloMosaic.Lib.Pointwise
public import Idealize.ShloMosaic.Lib.Tactic.CleanTypes
public import Idealize.ShloMosaic.Lib.StableHlo.RunRead

@[expose] public section

set_option maxRecDepth 16384

noncomputable section

namespace Cert.InProjIdeal.Points

open Cert.InProjIdeal Cert.InProjIdeal.Gen Idealize.ShloMosaic Idealize.ShloMosaic.TcCoe Idealize.SL.Sem StableHlo

variable (m : (ℓ : Loc nD τ sig) → Buf (Elt Ideal) ℓ) (ρ : Dev nD → PrngReg) (c : Dev nD)

/-- Argument array `b` of device `c`. -/
abbrev arg (b : Ref sig .tc) : Buf (Elt Ideal) ((c : Thread nD τ).loc b) := m ((c : Thread nD τ).loc b)

/-- The normed activations and the weights: the arguments' entries. -/
abbrev x (r : Fin 8192) (k : Fin 2048) : EReal := (arg m c main_arg0 : FVec Ideal S8192x2048 .f32) (ix2 r k)
abbrev weights : FVec Ideal S2048x14864 .f32 :=
  shapeCast S2048x14864 (arg m c main_arg1 : FVec Ideal S1x2048x14864 .f32) shapeCasts_S1x2048x14864_S2048x14864

/-- The packed weights' entries. -/
abbrev w (k : Fin 2048) (j : Fin 15360) : EReal := packed (row (weights m c) k) j

/-- Row `r` of the projection. -/
abbrev p (r : Fin 8192) (j : ℕ) : EReal := ∑ k, x m c r k * row (weights m c) k j

/-- The activations that the call reads are the argument's. -/
theorem host_x (r : Fin 8192) (k : Fin 2048) : (V m c main_v0 : FVec Ideal S8192x2048 .bf16) (ix2 r k)
    = x m c r k := by
  dsimp only [V]; after_reads_simp; clean_types; pointwise

/-- The weights that the call reads are the packed weights. -/
theorem host_weights : V m c main_v22 = packedWeights (weights m c) := by
  dsimp only [V]
  after_reads_simp
  rfl

theorem host_w (k : Fin 2048) (j : Fin 15360) : (V m c main_v22 : FVec Ideal S2048x15360 .f32) (ix2 k j) = w m c k j :=
  (congrFun (host_weights m c) (ix2 k j)).trans (packedWeights_at _ k j)

/-! ## The windows' blocks: point `t` is row block `t % 8` of column block `t / 8` -/

theorem index0 : ∀ t : Fin grid0.N, win0_0.index t 0 = t.val % 8 ∧ win0_0.index t 1 = 0 := by decide +kernel
theorem index1 : ∀ t : Fin grid0.N, win0_1.index t 0 = 0 ∧ win0_1.index t 1 = t.val / 8 := by decide +kernel
theorem index2 : ∀ t : Fin grid0.N, win0_2.index t 0 = t.val % 8 ∧ win0_2.index t 1 = t.val / 8 := by decide +kernel

theorem lt_N (t : Fin cfg0.N) : t.val < 120 := t.isLt

theorem block0 (t : Fin cfg0.N) (r : Fin 1024) (k : Fin 2048) :
    (iblk m c 0 t : FVec Ideal S1024x2048 .bf16) (ix2 r k)
      = x m c ⟨t.val % 8 * 1024 + r, by omega⟩ k := by
  refine Eq.trans ?_ (host_x m c _ _)
  unfold iblk
  rw [View.read_apply]
  refine congrArg (V m c main_v0 : FVec Ideal S8192x2048 .bf16) (funext fun a => Fin.ext ?_)
  refine (win0_0.rect_emb_val t _ a).trans ?_
  have e := index0 t
  match a with
  | ⟨0, _⟩ => exact congrArg (· * 1024 + r.val) e.1
  | ⟨1, _⟩ => show win0_0.index t 1 * 2048 + k.val = k.val; rw [e.2]; omega

theorem block1 (t : Fin cfg0.N) (k : Fin 2048) (j : Fin 1024) :
    (iblk m c 1 t : FVec Ideal S2048x1024 .f32) (ix2 k j)
      = w m c k ⟨t.val / 8 * 1024 + j, by have := lt_N t; omega⟩ := by
  refine Eq.trans ?_ (host_w m c _ _)
  unfold iblk
  rw [View.read_apply]
  refine congrArg (V m c main_v22 : FVec Ideal S2048x15360 .f32) (funext fun a => Fin.ext ?_)
  refine (win0_1.rect_emb_val t _ a).trans ?_
  have e := index1 t
  match a with
  | ⟨0, _⟩ => show win0_1.index t 0 * 2048 + k.val = k.val; rw [e.1]; omega
  | ⟨1, _⟩ => exact congrArg (· * 1024 + j.val) e.2

/-! ## What the points compute -/

/-- The stored block is the weights' block. -/
theorem pay1_at (x : FVec Ideal S2048x1024 .f32) (k : Fin 2048) (j : Fin 1024) :
    (k0_pay1 x : FVec Ideal S2048x1024 .bf16) (ix2 k j) = x (ix2 k j) := by
  pointwise [k0_pay1]

/-- The output block: the product. -/
theorem pay2_at (x : FVec Ideal S1024x2048 .bf16) (w : FVec Ideal S2048x1024 .bf16) (r j : Fin 1024) :
    (k0_pay2 x w : FVec Ideal S1024x1024 .f32) (ix2 r j) = ∑ k, x (ix2 r k) * w (ix2 k j) := by
  pointwise [k0_pay2]

/-- The scratch holds, after every point, the weights' columns of that point's column block. -/
theorem scratch_at (k : Fin 2048) (j : Fin 1024) : ∀ (n : ℕ) (h : n < cfg0.N),
    ((outsAt0 m c n h).2 : FVec Ideal S2048x1024 .bf16) (ix2 k j)
      = w m c k ⟨n / 8 * 1024 + j, by have := lt_N ⟨n, h⟩; dsimp only at this; omega⟩ := by
  intro n
  induction n with
  | zero =>
    intro h
    rw [scratch_first m c ⟨0, h⟩ rfl]
    exact (pay1_at _ k j).trans (block1 m c ⟨0, h⟩ k j)
  | succ n ih =>
    intro h
    by_cases h0 : (n + 1) % 8 = 0
    · rw [scratch_first m c ⟨n + 1, h⟩ h0]
      exact (pay1_at _ k j).trans (block1 m c ⟨n + 1, h⟩ k j)
    · rw [scratch_next m c ⟨n + 1, h⟩ h0]
      refine (ih (Nat.lt_of_succ_lt h)).trans ?_
      refine congrArg (w m c k) (Fin.ext ?_)
      show n / 8 * 1024 + j.val = (n + 1) / 8 * 1024 + j.val
      omega

/-- Point `t`'s output block. -/
theorem out_at (t : Fin cfg0.N) (r j : Fin 1024) :
    ((outsAt0 m c t.val t.isLt).1 : FVec Ideal S1024x1024 .f32) (ix2 r j)
      = ∑ k, x m c ⟨t.val % 8 * 1024 + r, by omega⟩ k
          * w m c k ⟨t.val / 8 * 1024 + j, by have := lt_N t; omega⟩ := by
  rw [out_point m c t]
  refine (pay2_at _ _ r j).trans ?_
  exact Finset.sum_congr rfl fun k _ => congrArg₂ (· * ·) (block0 m c t r k) (scratch_at m c k j t.val t.isLt)

/-! ## The result array -/

/-- Different points write different blocks. -/
theorem idx_inj : ∀ t t' : Fin cfg0.N, win0_2.index t = win0_2.index t' → t = t' := fun t t' h => by
  have e := index2 t
  have e' := index2 t'
  rw [← h, e.1, e.2] at e'
  exact Fin.ext (by omega)

theorem disjoint (t t' : Fin cfg0.N) (_ : (cfg0.win 2).flush t = true) (_ : (cfg0.win 2).flush t' = true) (hne : t ≠ t') :
    Disjoint ((cfg0.win 2).blk t).view.set ((cfg0.win 2).blk t').view.set :=
  (cfg0.win 2).disjoint_blk fun h => hne (idx_inj t t' h)

/-- What a point writes back is its output block. -/
theorem flushed (t : Fin cfg0.N) : (dats m 0 c).flushed 2 t = (outsAt0 m c t.val t.isLt).1 := by
  show (cfg0.win 2).cut (cfg0.grid.coords t) ((dats m 0 c).after 2 t) = _
  rw [after0_2]
  rfl

/-- The result array at an entry of point `t`'s block. -/
theorem final_block (t : Fin cfg0.N) (r j : Fin 1024) :
    ((dats m 0 c).arrAt 2 cfg0.N : FVec Ideal S8192x15360 .f32) (ix2 ⟨t.val % 8 * 1024 + r, by omega⟩
        ⟨t.val / 8 * 1024 + j, by have := lt_N t; omega⟩)
      = ((outsAt0 m c t.val t.isLt).1 : FVec Ideal S1024x1024 .f32) (ix2 r j) := by
  have hb := congrFun (((dats m 0 c).read_blk_arrAt_eq_flushed 2 disjoint cfg0.N t t.isLt (flush0_2 t)).trans
    (flushed m c t)) (ix2 r j)
  rw [View.read_apply] at hb
  refine Eq.trans ?_ hb
  refine congrArg ((dats m 0 c).arrAt 2 cfg0.N : FVec Ideal S8192x15360 .f32) (funext fun a => Fin.ext ?_)
  refine Eq.symm ((win0_2.rect_emb_val t _ a).trans ?_)
  have e := index2 t
  match a with
  | ⟨0, _⟩ => exact congrArg (· * 1024 + r.val) e.1
  | ⟨1, _⟩ => exact congrArg (· * 1024 + j.val) e.2

/-- The result array: the product of the activations with the weights. -/
theorem result_at (r : Fin 8192) (j : Fin 15360) :
    ((dats m 0 c).arrAt 2 cfg0.N : FVec Ideal S8192x15360 .f32) (ix2 r j) = ∑ k, x m c r k * w m c k j := by
  have hr := r.isLt
  have hj := j.isLt
  let t : Fin cfg0.N := ⟨j.val / 1024 * 8 + r.val / 1024, by show _ < 120; omega⟩
  have e := (final_block m c t ⟨r.val % 1024, by omega⟩ ⟨j.val % 1024, by omega⟩).trans (out_at m c t _ _)
  have er : (⟨t.val % 8 * 1024 + (⟨r.val % 1024, by omega⟩ : Fin 1024), by omega⟩ : Fin 8192) = r :=
    Fin.ext (by show (j.val / 1024 * 8 + r.val / 1024) % 8 * 1024 + r.val % 1024 = r.val; omega)
  have ej : (⟨t.val / 8 * 1024 + (⟨j.val % 1024, by omega⟩ : Fin 1024), by have := lt_N t; dsimp only; omega⟩ : Fin 15360) = j :=
    Fin.ext (by show (j.val / 1024 * 8 + r.val / 1024) / 8 * 1024 + j.val % 1024 = j.val; omega)
  rw [er, ej] at e
  exact e

/-- The same entry, as a packed entry of the projection. -/
theorem packed_at (r : Fin 8192) (j : Fin 15360) :
    ((dats m 0 c).arrAt 2 cfg0.N : FVec Ideal S8192x15360 .f32) (ix2 r j) = packed (p m c r) j :=
  (result_at m c r j).trans (packed_sum (x m c r) (fun k => row (weights m c) k) j)

/-- So row `r` of the result array is the packed row. -/
theorem packed_row (r : Fin 8192) (j : ℕ) (h : j < 15360) :
    row ((dats m 0 c).arrAt 2 cfg0.N : FVec Ideal S8192x15360 .f32) r j = packed (p m c r) j :=
  (row_at _ r j h).trans (packed_at m c r ⟨j, h⟩)

/-! ## The operations after the call -/

/-- What the operations after the call leave in buffer `b`. -/
abbrev tail (b : Ref sig .tc) : Buf (Elt Ideal) ((c : Thread nD τ).loc b) :=
  Pipeline.afterTail₀ cfgs (dats m) 0 (V0 m) [hostOps1] c b

theorem array_eq : Pipeline.withArrays spec0 c (V0 m c) (fun w => (dats m 0 c).arrAt w cfg0.N) (Proc.devRef .tc main_v23)
    = (dats m 0 c).arrAt 2 cfg0.N := Pipeline.withArrays_arr spec0 (by decide) c _ _ 2

/-- The values and the indexer's keys are columns of the result array. -/
theorem tail_values : tail m c main_v33 = extractStridedSlice S8192x512 ![0, 13824]
    ((dats m 0 c).arrAt 2 cfg0.N : FVec Ideal S8192x15360 .f32) slices_S8192x15360_S8192x512_0_13824 := by
  have hw := array_eq m c
  dsimp only [tail, Pipeline.afterTail₀]
  after_reads_simp
  rw [hw]

theorem tail_keys : tail m c main_v34 = extractStridedSlice S8192x64 ![0, 14848]
    ((dats m 0 c).arrAt 2 cfg0.N : FVec Ideal S8192x15360 .f32) slices_S8192x15360_S8192x64_0_14848 := by
  have hw := array_eq m c
  dsimp only [tail, Pipeline.afterTail₀]
  after_reads_simp
  rw [hw]

theorem values_at (r : Fin 8192) (q : Fin 512) :
    (tail m c main_v33 : FVec Ideal S8192x512 .f32) (ix2 r q) = p m c r (9152 + q) := by
  rw [tail_values]
  refine (slice_at _ 13824 _ (by decide) r q).trans ((packed_row m c r _ (by omega)).trans ?_)
  exact packed_of_some _ ((source_values (by omega)).trans (congrArg some (by omega)))

theorem keys_at (r : Fin 8192) (q : Fin 64) :
    (tail m c main_v34 : FVec Ideal S8192x64 .f32) (ix2 r q) = p m c r (10688 + q) := by
  rw [tail_keys]
  refine (slice_at _ 14848 _ (by decide) r q).trans ((packed_row m c r _ (by omega)).trans ?_)
  exact packed_of_some _ ((source_index_keys (by omega)).trans (congrArg some (by omega)))

/-- The last row of the result array. -/
def last (z : FVec Ideal S8192x15360 .f32) : FVec Ideal S1x15360 .f32 :=
  shapeCast S1x15360 (extractStridedSlice S1x1x15360 ![0, 8191, 0]
    (shapeCast S1x8192x15360 z shapeCasts_S8192x15360_S1x8192x15360) slices_S1x8192x15360_S1x1x15360_0_8191_0)
    shapeCasts_S1x1x15360_S1x15360

theorem last_at (z : FVec Ideal S8192x15360 .f32) (j : Fin 15360) : last z (ix2 0 j) = z (ix2 8191 j) := by
  unfold last
  refine (shapeCast_dropUnit_apply (n := 2) ![1, 15360] _ _ _).trans ?_
  refine (extractStridedSlice_apply _ _ _ _ (ix3 0 8191 j : S1x8192x15360.Idx) fun a => ?_).trans ?_
  · match a with
    | ⟨0, _⟩ => rfl
    | ⟨1, _⟩ => rfl
    | ⟨2, _⟩ => exact (Nat.zero_add _).symm
  refine (shapeCast_addUnit_apply (n := 2) ![8192, 15360] _ _ _).trans (congrArg z (funext fun a => ?_))
  match a with
  | ⟨0, _⟩ => rfl
  | ⟨1, _⟩ => rfl

/-- The streams and low-rank pieces of the last row, side by side. -/
def streams (z : FVec Ideal S1x15360 .f32) : List ((s : Shape) × FVec Ideal s .f32) :=
  let rank : FVec Ideal S1x512 .f32 := extractStridedSlice S1x512 ![0, 14336] z slices_S1x15360_S1x512_0_14336
  [⟨S1x6144, extractStridedSlice S1x6144 ![0, 4096] z slices_S1x15360_S1x6144_0_4096⟩,
   ⟨S1x96, extractStridedSlice S1x96 ![0, 0] rank slices_S1x512_S1x96_0_0⟩,
   ⟨S1x96, extractStridedSlice S1x96 ![0, 128] rank slices_S1x512_S1x96_0_128⟩,
   ⟨S1x256, extractStridedSlice S1x256 ![0, 256] rank slices_S1x512_S1x256_0_256⟩]

theorem tail_shift : tail m c main_v32 = concatenate S1x6592 1
    (streams (last ((dats m 0 c).arrAt 2 cfg0.N : FVec Ideal S8192x15360 .f32)))
    concatenates_S1x6144_S1x96_S1x96_S1x256_S1x6592_d1 := by
  rw [← array_eq m c]
  dsimp only [tail, Pipeline.afterTail₀]
  after_reads_simp
  rfl

/-- The shifted row: the projection's last row. -/
theorem shift_at (j : Fin 6592) : (tail m c main_v32 : FVec Ideal S1x6592 .f32) (ix2 0 j) = p m c 8191 j := by
  rw [tail_shift]
  generalize hz : last ((dats m 0 c).arrAt 2 cfg0.N : FVec Ideal S8192x15360 .f32) = z
  have hlast : ∀ i, i < 15360 → row z 0 i = packed (p m c 8191) i := fun i hi => by
    rw [row_at z 0 i hi, ← hz]
    exact (last_at _ _).trans (packed_at m c 8191 ⟨i, hi⟩)
  exact streams_at 0 (p m c 8191) _ _ _ _
    (fun q => (slice_at z 4096 _ (by decide) 0 q).trans (hlast _ (by omega)))
    (fun q => (slice_slice_at z 14336 0 _ _ (by decide) (by decide) 0 q).trans (hlast _ (by omega)))
    (fun q => (slice_slice_at z 14336 128 _ _ (by decide) (by decide) 0 q).trans (hlast _ (by omega)))
    (fun q => (slice_slice_at z 14336 256 _ _ (by decide) (by decide) 0 q).trans (hlast _ (by omega))) _ j

/-- The run: the four results, and the arguments unchanged. -/
theorem run : θ_run defs (onTc (τ := τ) (main (F := Ideal))) ⟨m, fun _ => 0, ρ⟩ fun r => ∀ c : Dev nD,
    r.2.mem ((c.tc : Thread nD τ).loc main_v23) = (dats m 0 c).arrAt 2 cfg0.N
    ∧ r.2.mem ((c.tc : Thread nD τ).loc main_v33) = tail m c main_v33
    ∧ r.2.mem ((c.tc : Thread nD τ).loc main_v34) = tail m c main_v34
    ∧ r.2.mem ((c.tc : Thread nD τ).loc main_v32) = tail m c main_v32
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1 2, (h c).2 main_v33 (Pipeline.mem_restRefs_of main_v33 (by decide) (by decide)),
    (h c).2 main_v34 (Pipeline.mem_restRefs_of main_v34 (by decide) (by decide)),
    (h c).2 main_v32 (Pipeline.mem_restRefs_of main_v32 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩)
    (run_main m ρ)

end Cert.InProjIdeal.Points

end
-- ==== Proof.InProj.Claims.lean ====
/- The input projection against the reference's: the same results at every entry. -/
module

public import proofs.«01_k».proof.Defs
public import proofs.«01_k».proof.Proof.InProj.Value
public import proofs.«01_k».proof.Proof.Gen.InProjReferenceIdeal.Run
public import Idealize.ShloMosaic.Lib.Quiescent

@[expose] public section

set_option maxRecDepth 16384

noncomputable section

open Idealize.ShloMosaic Idealize.ShloMosaic.TcCoe Idealize.SL.Sem StableHlo

namespace Cert.InProjReferenceIdeal.Term

open Cert.InProjReferenceIdeal Cert.InProjReferenceIdeal.Gen
open Cert.InProjIdeal.Points (packed row row_at slice_at slice_slice_at pieces_at)

/-- The reference's product. -/
abbrev product (x : FVec Ideal S8192x2048 .f32) (w : FVec Ideal S2048x14864 .f32) : FVec Ideal S8192x14864 .f32 :=
  Host.dotGeneral dot_S8192x2048_S2048x14864_S8192x14864_1_0_0_1_n_n none x w

/-- The product at an entry. -/
theorem product_at (x : FVec Ideal S8192x2048 .f32) (w : FVec Ideal S2048x14864 .f32) (r : Fin 8192) (j : Fin 14864) :
    product x w (ix2 r j) = ∑ k, x (ix2 r k) * w (ix2 k j) := by
  pointwise

/-- A row of the product. -/
theorem product_row (x : FVec Ideal S8192x2048 .f32) (w : FVec Ideal S2048x14864 .f32) (r : Fin 8192) (c : ℕ) :
    row (product x w) r c = ∑ k, x (ix2 r k) * row w k c := by
  by_cases h : c < 14864
  · refine (row_at _ r c h).trans ((product_at x w r ⟨c, h⟩).trans ?_)
    exact Finset.sum_congr rfl fun k _ => congrArg (x (ix2 r k) * ·) (row_at w k c h).symm
  · simp only [row, dif_neg h, mul_zero, Finset.sum_const_zero]

theorem zeros_at {s : Shape} (h : S_.BroadcastsInDim s (![] : Fin 0 → Fin s.rank)) (i : s.Idx) :
    (broadcastInDim s ![] h (constant S_ .f32 0x00000000#32) : FVec Ideal s .f32) i = 0 := by
  pointwise

variable (y : FVec Ideal S8192x14864 .f32)

/-- The columns of the recurrence, and those of the attention. -/
abbrev mix : FVec Ideal S8192x6592 .f32 := extractStridedSlice S8192x6592 ![0, 0] y slices_S8192x14864_S8192x6592_0_0
abbrev attn : FVec Ideal S8192x4176 .f32 := extractStridedSlice S8192x4176 ![0, 6592] y slices_S8192x14864_S8192x4176_0_6592

/-- The fifteen pieces that the reference's packed result puts side by side. -/
def pieces : List ((s : Shape) × FVec Ideal s .f32) :=
  [⟨S8192x4096, extractStridedSlice S8192x4096 ![0, 10768] y slices_S8192x14864_S8192x4096_0_10768⟩,
   ⟨S8192x6144, extractStridedSlice S8192x6144 ![0, 0] (mix y) slices_S8192x6592_S8192x6144_0_0⟩,
   ⟨S8192x2048, extractStridedSlice S8192x2048 ![0, 0] (attn y) slices_S8192x4176_S8192x2048_0_0⟩,
   ⟨S8192x1024, extractStridedSlice S8192x1024 ![0, 3072] (attn y) slices_S8192x4176_S8192x1024_0_3072⟩,
   ⟨S8192x512, extractStridedSlice S8192x512 ![0, 2048] (attn y) slices_S8192x4176_S8192x512_0_2048⟩,
   ⟨S8192x512, extractStridedSlice S8192x512 ![0, 2560] (attn y) slices_S8192x4176_S8192x512_0_2560⟩,
   ⟨S8192x96, extractStridedSlice S8192x96 ![0, 6144] (mix y) slices_S8192x6592_S8192x96_0_6144⟩,
   ⟨S8192x32, broadcastInDim S8192x32 ![] bcast_S_S8192x32 (constant S_ .f32 0x00000000#32)⟩,
   ⟨S8192x96, extractStridedSlice S8192x96 ![0, 6240] (mix y) slices_S8192x6592_S8192x96_0_6240⟩,
   ⟨S8192x32, broadcastInDim S8192x32 ![] bcast_S_S8192x32 (constant S_ .f32 0x00000000#32)⟩,
   ⟨S8192x256, extractStridedSlice S8192x256 ![0, 6336] (mix y) slices_S8192x6592_S8192x256_0_6336⟩,
   ⟨S8192x64, extractStridedSlice S8192x64 ![0, 4096] (attn y) slices_S8192x4176_S8192x64_0_4096⟩,
   ⟨S8192x64, extractStridedSlice S8192x64 ![0, 4096] (attn y) slices_S8192x4176_S8192x64_0_4096⟩,
   ⟨S8192x16, extractStridedSlice S8192x16 ![0, 4160] (attn y) slices_S8192x4176_S8192x16_0_4160⟩,
   ⟨S8192x368, broadcastInDim S8192x368 ![] bcast_S_S8192x368 (constant S_ .f32 0x00000000#32)⟩]

/-- The packed result. -/
def packedResult : FVec Ideal S8192x15360 .f32 :=
  concatenate S8192x15360 1 (pieces y)
    concatenates_S8192x4096_S8192x6144_S8192x2048_S8192x1024_S8192x512_S8192x512_S8192x96_S8192x32_S8192x96_S8192x32_S8192x256_S8192x64_S8192x64_S8192x16_S8192x368_S8192x15360_d1

/-- Each piece is where the packing has it. -/
theorem packedResult_at (r : Fin 8192) (j : Fin 15360) : packedResult y (ix2 r j) = packed (row y r) j := by
  exact pieces_at r (row y r) _ _ _ _ _ _ _ _ _ _ _ _ _ _ _
    (slice_at y 10768 _ (by decide) r)
    (slice_slice_at y 0 0 _ _ (by decide) (by decide) r)
    (slice_slice_at y 6592 0 _ _ (by decide) (by decide) r)
    (slice_slice_at y 6592 3072 _ _ (by decide) (by decide) r)
    (slice_slice_at y 6592 2048 _ _ (by decide) (by decide) r)
    (slice_slice_at y 6592 2560 _ _ (by decide) (by decide) r)
    (slice_slice_at y 0 6144 _ _ (by decide) (by decide) r)
    (zeros_at _)
    (slice_slice_at y 0 6240 _ _ (by decide) (by decide) r)
    (zeros_at _)
    (slice_slice_at y 0 6336 _ _ (by decide) (by decide) r)
    (slice_slice_at y 6592 4096 _ _ (by decide) (by decide) r)
    (slice_slice_at y 6592 4096 _ _ (by decide) (by decide) r)
    (slice_slice_at y 6592 4160 _ _ (by decide) (by decide) r)
    (zeros_at _) _ j

/-- The last row of the recurrence's columns. -/
theorem shift_at (j : Fin 6592) :
    (shapeCast S1x6592 (extractStridedSlice S1x1x6592 ![0, 8191, 0]
      (shapeCast S1x8192x6592 (mix y) shapeCasts_S8192x6592_S1x8192x6592) slices_S1x8192x6592_S1x1x6592_0_8191_0)
      shapeCasts_S1x1x6592_S1x6592 : FVec Ideal S1x6592 .f32) (ix2 0 j) = row y 8191 j := by
  refine (shapeCast_dropUnit_apply (n := 2) ![1, 6592] _ _ _).trans ?_
  refine (extractStridedSlice_apply _ _ _ _ (ix3 0 8191 j : S1x8192x6592.Idx) fun a => ?_).trans ?_
  · match a with
    | ⟨0, _⟩ => rfl
    | ⟨1, _⟩ => rfl
    | ⟨2, _⟩ => exact (Nat.zero_add _).symm
  refine (shapeCast_addUnit_apply (n := 2) ![8192, 6592] _ _ _).trans ?_
  refine (congrArg (mix y) (funext fun a => ?_ : _ = (ix2 8191 j : S8192x6592.Idx))).trans
    ((slice_at y 0 _ (by decide) 8191 j).trans (congrArg (row y 8191) (Nat.zero_add _)))
  match a with
  | ⟨0, _⟩ => rfl
  | ⟨1, _⟩ => rfl

end Cert.InProjReferenceIdeal.Term

namespace Cert.InProjIdeal.Points

/-- The reference's frame, with no counter left. -/
theorem reference_quiescent : @Cert.quiescent_InProjReferenceIdeal InProjReferenceIdeal.Gen.facts := fun m ρ _ =>
  (θ_run _ _ _).mono (fun r h => ⟨fun c => (h c).2.2.2.2, sem_eq_zero_of_no_sems (by decide) r.2⟩)
    (InProjReferenceIdeal.Value.run m ρ)

open InProjReferenceIdeal.Term in
/-- The two programs compute the same results. -/
theorem algebraic : @Cert.algebraic_InProjIdeal_InProjReferenceIdeal InProjIdeal.Gen.facts InProjReferenceIdeal.Gen.facts := by
  intro m ρ m' ρ' _ hargs
  refine ⟨fun c => (InProjIdeal.Gen.dats m 0 c).arrAt 2 InProjIdeal.cfg0.N, fun c => tail m c InProjIdeal.main_v33,
    fun c => tail m c InProjIdeal.main_v34, fun c => tail m c InProjIdeal.main_v32, run m ρ, ?_⟩
  have prow : ∀ (c : Dev InProjIdeal.nD) (r : Fin 8192) (j : ℕ),
      row (product (arg m c InProjIdeal.main_arg0) (weights m c)) r j = p m c r j := fun c r j =>
    product_row (arg m c InProjIdeal.main_arg0) (weights m c) r j
  refine (θ_run _ _ _).mono (fun r h c => ⟨(h c).1.trans ?_, (h c).2.1.trans ?_, (h c).2.2.1.trans ?_, (h c).2.2.2.1.trans ?_,
    (h c).2.2.2.2⟩) (InProjReferenceIdeal.Value.run m' ρ')
  · obtain ⟨h0, h1⟩ := hargs c
    unfold InProjReferenceIdeal.Value.res_main_v21
    rw [h0, h1]
    funext i
    rw [show i = ix2 (i 0) (i 1) from funext fun k => by fin_cases k <;> rfl]
    refine (packedResult_at (product (arg m c InProjIdeal.main_arg0) (weights m c)) (i 0) (i 1)).trans ?_
    exact (congrArg (fun g => packed g (i 1).val) (funext fun j => prow c (i 0) j)).trans (packed_at m c (i 0) (i 1)).symm
  · obtain ⟨h0, h1⟩ := hargs c
    rw [h0, h1]
    funext i
    rw [show i = ix2 (i 0) (i 1) from funext fun k => by fin_cases k <;> rfl]
    refine (slice_slice_at (product (arg m c InProjIdeal.main_arg0) (weights m c)) 6592 2560 _ _ (by decide) (by decide)
      (i 0) (i 1)).trans ?_
    exact (prow c (i 0) _).trans (values_at m c (i 0) (i 1)).symm
  · obtain ⟨h0, h1⟩ := hargs c
    rw [h0, h1]
    funext i
    rw [show i = ix2 (i 0) (i 1) from funext fun k => by fin_cases k <;> rfl]
    refine (slice_slice_at (product (arg m c InProjIdeal.main_arg0) (weights m c)) 6592 4096 _ _ (by decide) (by decide)
      (i 0) (i 1)).trans ?_
    exact (prow c (i 0) _).trans (keys_at m c (i 0) (i 1)).symm
  · obtain ⟨h0, h1⟩ := hargs c
    rw [h0, h1]
    funext i
    have hi : (i 0).val = 0 := by have : (i 0).val < 1 := (i 0).isLt; omega
    rw [show i = ix2 0 (i 1) from funext fun k => by fin_cases k <;> first | exact Fin.ext hi | rfl]
    refine (InProjReferenceIdeal.Term.shift_at (product (arg m c InProjIdeal.main_arg0) (weights m c)) (i 1)).trans ?_
    exact (prow c 8191 _).trans (shift_at m c (i 1)).symm

end Cert.InProjIdeal.Points

end
-- ==== Proof.FfnUp.Scratch.lean ====
/-
  The up projection's body at each grid point: at the first row block of a column block the weights' block is put into the
  scratch buffer, the other row blocks leave it there, and every point multiplies its row block by what the scratch holds.
-/
module

public import proofs.«01_k».proof.Proof.Gen.FfnUpIdeal.Frame
public import Idealize.ShloMosaic.Lib.Pipeline.Value
public import Idealize.ShloMosaic.Lib.Tactic

@[expose] public section

set_option maxRecDepth 16384

noncomputable section

namespace Cert.FfnUpIdeal.Points

open Cert.FfnUpIdeal Cert.FfnUpIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The first row block stores the weights' block. -/
theorem scratch_first (c : Dev nD) (t : Fin cfg0.N) (h0 : t.val % 8 = 0) :
    (outsAt0 m c t.val t.isLt).2 = k0_pay1 (iblk m c 1 t) := by
  rw [outsAt0_A m c t h0]
  dsimp only
  unfold sout0_A_0
  rw [View.read_writes_eq_canon _ _ _ (scover0_A_0 c _ _ _ _ _ _ _ _ _ _ _ _)]
  unfold kernelRun0_A
  dsimp only
  sl_unfold_words
  rw [View.canon_unit_zero hz]
  simp only [View.readAt_eq_ld, (hs0_1 t).read_unread, View.ld_unit_zero (S := S2048x1024) hz]

/-- The other row blocks leave the scratch as it was. -/
theorem scratch_next (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- Every point's output is computed from the scratch as that point leaves it. -/
theorem out_point (c : Dev nD) (t : Fin cfg0.N) :
    (outsAt0 m c t.val t.isLt).1
      = k0_pay2 (iblk m c 0 t) (outsAt0 m c t.val t.isLt).2 := by
  by_cases h0 : t.val % 8 = 0
  · rw [scratch_first m c t h0, outsAt0_A m c t h0]
    dsimp only
    unfold out0_A_2
    rw [View.read_writes_eq_canon _ _ _ (cover0_A_2 c _ _ _ _ _ _ _ _ _ _ _ _)]
    unfold kernelRun0_A
    dsimp only
    sl_unfold_words
    rw [View.canon_unit_zero hz]
    simp only [View.readAt_eq_ld, (hs0_0 t).read_unread, (hs0_1 t).read_unread,
      View.ld_unit_zero (S := S1024x2048) hz, View.ld_unit_zero (S := S2048x1024) hz, View.ld_unit_zero (S := S1024x1024) hz,
      View.readCov_unit_zero (S := S2048x1024) _ hz]
  · rw [scratch_next m c t h0, outsAt0_B m c t h0]
    dsimp only
    unfold out0_B_2
    rw [View.read_writes_eq_canon _ _ _ (cover0_B_2 c _ _ _ _ _ _ _ _ _ _ _ _ _)]
    unfold kernelRun0_B
    dsimp only
    sl_unfold_words
    rw [View.canon_unit_zero hz]
    simp only [View.readAt_eq_ld, (hs0_0 t).read_unread,
      (Memref.isWhole_whole _).read_unread, View.ld_unit_zero (S := S1024x2048) hz, View.ld_unit_zero (S := S2048x1024) hz,
      View.ld_unit_zero (S := S1024x1024) hz]

end Cert.FfnUpIdeal.Points

end
-- ==== Proof.FfnUp.Value.lean ====
/-
  The up projection's results: every entry of the projection is the product's entry, the arguments' arrays read at that row
  and column; the convolution's tail is the first half's last two rows.
-/
module

public import proofs.«01_k».proof.Proof.FfnUp.Scratch
public import Idealize.ShloMosaic.Lib.Pointwise
public import Idealize.ShloMosaic.Lib.Tactic.CleanTypes
public import Idealize.ShloMosaic.Lib.StableHlo.RunRead

@[expose] public section

set_option maxRecDepth 16384

noncomputable section

namespace Cert.FfnUpIdeal.Points

open Cert.FfnUpIdeal Cert.FfnUpIdeal.Gen Idealize.ShloMosaic Idealize.ShloMosaic.TcCoe Idealize.SL.Sem StableHlo

variable (m : (ℓ : Loc nD τ sig) → Buf (Elt Ideal) ℓ) (ρ : Dev nD → PrngReg) (c : Dev nD)

/-- Argument array `b` of device `c`. -/
abbrev arg (b : Ref sig .tc) : Buf (Elt Ideal) ((c : Thread nD τ).loc b) := m ((c : Thread nD τ).loc b)

/-- The normed activations and the weights: the arguments' entries. -/
abbrev x (r : Fin 8192) (k : Fin 2048) : EReal := (arg m c main_arg0 : FVec Ideal S8192x2048 .f32) (ix2 r k)
abbrev w (k : Fin 2048) (j : Fin 11264) : EReal := (arg m c main_arg1 : FVec Ideal S1x2048x11264 .f32) (ix3 0 k j)

/-- The activations that the call reads are the argument's. -/
theorem host_x (r : Fin 8192) (k : Fin 2048) : (V m c main_v0 : FVec Ideal S8192x2048 .bf16) (ix2 r k)
    = x m c r k := by
  dsimp only [V]; after_reads_simp; clean_types; pointwise

/-- The weights that the call reads are the layer's. -/
theorem host_w (k : Fin 2048) (j : Fin 11264) : (V m c main_v1 : FVec Ideal S2048x11264 .f32) (ix2 k j)
    = w m c k j := by
  dsimp only [V]; after_reads_simp; clean_types; pointwise

/-! ## The windows' blocks: point `t` is row block `t % 8` of column block `t / 8` -/

theorem index0 : ∀ t : Fin grid0.N, win0_0.index t 0 = t.val % 8 ∧ win0_0.index t 1 = 0 := by decide +kernel
theorem index1 : ∀ t : Fin grid0.N, win0_1.index t 0 = 0 ∧ win0_1.index t 1 = t.val / 8 := by decide +kernel
theorem index2 : ∀ t : Fin grid0.N, win0_2.index t 0 = t.val % 8 ∧ win0_2.index t 1 = t.val / 8 := by decide +kernel

theorem lt_N (t : Fin cfg0.N) : t.val < 88 := t.isLt

theorem block0 (t : Fin cfg0.N) (r : Fin 1024) (k : Fin 2048) :
    (iblk m c 0 t : FVec Ideal S1024x2048 .bf16) (ix2 r k)
      = x m c ⟨t.val % 8 * 1024 + r, by omega⟩ k := by
  refine Eq.trans ?_ (host_x m c _ _)
  unfold iblk
  rw [View.read_apply]
  refine congrArg (V m c main_v0 : FVec Ideal S8192x2048 .bf16) (funext fun a => Fin.ext ?_)
  refine (win0_0.rect_emb_val t _ a).trans ?_
  have e := index0 t
  match a with
  | ⟨0, _⟩ => exact congrArg (· * 1024 + r.val) e.1
  | ⟨1, _⟩ => show win0_0.index t 1 * 2048 + k.val = k.val; rw [e.2]; omega

theorem block1 (t : Fin cfg0.N) (k : Fin 2048) (j : Fin 1024) :
    (iblk m c 1 t : FVec Ideal S2048x1024 .f32) (ix2 k j)
      = w m c k ⟨t.val / 8 * 1024 + j, by have := lt_N t; omega⟩ := by
  refine Eq.trans ?_ (host_w m c _ _)
  unfold iblk
  rw [View.read_apply]
  refine congrArg (V m c main_v1 : FVec Ideal S2048x11264 .f32) (funext fun a => Fin.ext ?_)
  refine (win0_1.rect_emb_val t _ a).trans ?_
  have e := index1 t
  match a with
  | ⟨0, _⟩ => show win0_1.index t 0 * 2048 + k.val = k.val; rw [e.1]; omega
  | ⟨1, _⟩ => exact congrArg (· * 1024 + j.val) e.2

/-! ## What the points compute -/

/-- The stored block is the weights' block. -/
theorem pay1_at (x : FVec Ideal S2048x1024 .f32) (k : Fin 2048) (j : Fin 1024) :
    (k0_pay1 x : FVec Ideal S2048x1024 .bf16) (ix2 k j) = x (ix2 k j) := by
  pointwise [k0_pay1]

/-- The output block: the product. -/
theorem pay2_at (x : FVec Ideal S1024x2048 .bf16) (w : FVec Ideal S2048x1024 .bf16) (r j : Fin 1024) :
    (k0_pay2 x w : FVec Ideal S1024x1024 .f32) (ix2 r j) = ∑ k, x (ix2 r k) * w (ix2 k j) := by
  pointwise [k0_pay2]

/-- The scratch holds, after every point, the weights' columns of that point's column block. -/
theorem scratch_at (k : Fin 2048) (j : Fin 1024) : ∀ (n : ℕ) (h : n < cfg0.N),
    ((outsAt0 m c n h).2 : FVec Ideal S2048x1024 .bf16) (ix2 k j)
      = w m c k ⟨n / 8 * 1024 + j, by have := lt_N ⟨n, h⟩; dsimp only at this; omega⟩ := by
  intro n
  induction n with
  | zero =>
    intro h
    rw [scratch_first m c ⟨0, h⟩ rfl]
    exact (pay1_at _ k j).trans (block1 m c ⟨0, h⟩ k j)
  | succ n ih =>
    intro h
    by_cases h0 : (n + 1) % 8 = 0
    · rw [scratch_first m c ⟨n + 1, h⟩ h0]
      exact (pay1_at _ k j).trans (block1 m c ⟨n + 1, h⟩ k j)
    · rw [scratch_next m c ⟨n + 1, h⟩ h0]
      refine (ih (Nat.lt_of_succ_lt h)).trans ?_
      refine congrArg (w m c k) (Fin.ext ?_)
      show n / 8 * 1024 + j.val = (n + 1) / 8 * 1024 + j.val
      omega

/-- Point `t`'s output block. -/
theorem out_at (t : Fin cfg0.N) (r j : Fin 1024) :
    ((outsAt0 m c t.val t.isLt).1 : FVec Ideal S1024x1024 .f32) (ix2 r j)
      = ∑ k, x m c ⟨t.val % 8 * 1024 + r, by omega⟩ k
          * w m c k ⟨t.val / 8 * 1024 + j, by have := lt_N t; omega⟩ := by
  rw [out_point m c t]
  refine (pay2_at _ _ r j).trans ?_
  exact Finset.sum_congr rfl fun k _ => congrArg₂ (· * ·) (block0 m c t r k) (scratch_at m c k j t.val t.isLt)

/-! ## The result array -/

/-- Different points write different blocks. -/
theorem idx_inj : ∀ t t' : Fin cfg0.N, win0_2.index t = win0_2.index t' → t = t' := fun t t' h => by
  have e := index2 t
  have e' := index2 t'
  rw [← h, e.1, e.2] at e'
  exact Fin.ext (by omega)

theorem disjoint (t t' : Fin cfg0.N) (_ : (cfg0.win 2).flush t = true) (_ : (cfg0.win 2).flush t' = true) (hne : t ≠ t') :
    Disjoint ((cfg0.win 2).blk t).view.set ((cfg0.win 2).blk t').view.set :=
  (cfg0.win 2).disjoint_blk fun h => hne (idx_inj t t' h)

/-- What a point writes back is its output block. -/
theorem flushed (t : Fin cfg0.N) : (dats m 0 c).flushed 2 t = (outsAt0 m c t.val t.isLt).1 := by
  show (cfg0.win 2).cut (cfg0.grid.coords t) ((dats m 0 c).after 2 t) = _
  rw [after0_2]
  rfl

/-- The result array at an entry of point `t`'s block. -/
theorem final_block (t : Fin cfg0.N) (r j : Fin 1024) :
    ((dats m 0 c).arrAt 2 cfg0.N : FVec Ideal S8192x11264 .f32) (ix2 ⟨t.val % 8 * 1024 + r, by omega⟩
        ⟨t.val / 8 * 1024 + j, by have := lt_N t; omega⟩)
      = ((outsAt0 m c t.val t.isLt).1 : FVec Ideal S1024x1024 .f32) (ix2 r j) := by
  have hb := congrFun (((dats m 0 c).read_blk_arrAt_eq_flushed 2 disjoint cfg0.N t t.isLt (flush0_2 t)).trans
    (flushed m c t)) (ix2 r j)
  rw [View.read_apply] at hb
  refine Eq.trans ?_ hb
  refine congrArg ((dats m 0 c).arrAt 2 cfg0.N : FVec Ideal S8192x11264 .f32) (funext fun a => Fin.ext ?_)
  refine Eq.symm ((win0_2.rect_emb_val t _ a).trans ?_)
  have e := index2 t
  match a with
  | ⟨0, _⟩ => exact congrArg (· * 1024 + r.val) e.1
  | ⟨1, _⟩ => exact congrArg (· * 1024 + j.val) e.2

/-- The result array: the product of the activations with the weights. -/
theorem result_at (r : Fin 8192) (j : Fin 11264) :
    ((dats m 0 c).arrAt 2 cfg0.N : FVec Ideal S8192x11264 .f32) (ix2 r j) = ∑ k, x m c r k * w m c k j := by
  have hr := r.isLt
  have hj := j.isLt
  let t : Fin cfg0.N := ⟨j.val / 1024 * 8 + r.val / 1024, by show _ < 88; omega⟩
  have e := (final_block m c t ⟨r.val % 1024, by omega⟩ ⟨j.val % 1024, by omega⟩).trans (out_at m c t _ _)
  have er : (⟨t.val % 8 * 1024 + (⟨r.val % 1024, by omega⟩ : Fin 1024), by omega⟩ : Fin 8192) = r :=
    Fin.ext (by show (j.val / 1024 * 8 + r.val / 1024) % 8 * 1024 + r.val % 1024 = r.val; omega)
  have ej : (⟨t.val / 8 * 1024 + (⟨j.val % 1024, by omega⟩ : Fin 1024), by have := lt_N t; dsimp only; omega⟩ : Fin 11264) = j :=
    Fin.ext (by show (j.val / 1024 * 8 + r.val / 1024) / 8 * 1024 + j.val % 1024 = j.val; omega)
  rw [er, ej] at e
  exact e

/-! ## The operations after the call -/

/-- What the operations after the call leave in buffer `b`. -/
abbrev tail (b : Ref sig .tc) : Buf (Elt Ideal) ((c : Thread nD τ).loc b) :=
  Pipeline.afterTail₀ cfgs (dats m) 0 (V0 m) [hostOps1] c b

/-- The convolution's tail is cut out of the result array. -/
theorem tail_conv : tail m c main_v4 = extractStridedSlice S1x2x5632 ![0, 8190, 0]
    (shapeCast S1x8192x11264 ((dats m 0 c).arrAt 2 cfg0.N : FVec Ideal S8192x11264 .f32) shapeCasts_S8192x11264_S1x8192x11264)
    slices_S1x8192x11264_S1x2x5632_0_8190_0 := by
  have hw : Pipeline.withArrays spec0 c (V0 m c) (fun w => (dats m 0 c).arrAt w cfg0.N) (Proc.devRef .tc main_v2)
      = (dats m 0 c).arrAt 2 cfg0.N := Pipeline.withArrays_arr spec0 (by decide) c _ _ 2
  dsimp only [tail, Pipeline.afterTail₀]
  after_reads_simp
  rw [hw]
  rfl

/-- Its entries: the last two rows of the first half of the columns. -/
theorem conv_at (i : Fin 2) (j : Fin 5632) :
    (tail m c main_v4 : FVec Ideal S1x2x5632 .f32) (ix3 0 i j)
      = ∑ k, x m c ⟨8190 + i, by omega⟩ k * w m c k ⟨j, by omega⟩ := by
  refine Eq.trans ?_ (result_at m c _ _)
  rw [tail_conv]
  refine (extractStridedSlice_apply _ _ _ _ (ix3 0 ⟨8190 + i, by omega⟩ ⟨j, by omega⟩) fun a => ?_).trans
    ((shapeCast_addUnit_apply (n := 2) ![8192, 11264] _ _ _).trans (congrArg _ (funext fun a => ?_)))
  · match a with
    | ⟨0, _⟩ => rfl
    | ⟨1, _⟩ => rfl
    | ⟨2, _⟩ => exact (Nat.zero_add _).symm
  · match a with
    | ⟨0, _⟩ => rfl
    | ⟨1, _⟩ => rfl

/-- The run: both results, and the arguments unchanged. -/
theorem run : θ_run defs (onTc (τ := τ) (main (F := Ideal))) ⟨m, fun _ => 0, ρ⟩ fun r => ∀ c : Dev nD,
    r.2.mem ((c.tc : Thread nD τ).loc main_v2) = (dats m 0 c).arrAt 2 cfg0.N
    ∧ r.2.mem ((c.tc : Thread nD τ).loc main_v4) = tail m c main_v4
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1 2, (h c).2 main_v4 (Pipeline.mem_restRefs_of main_v4 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩)
    (run_main m ρ)

end Cert.FfnUpIdeal.Points

end
-- ==== Proof.FfnUp.Claims.lean ====
/- The up projection against the reference's: the same results at every entry. -/
module

public import proofs.«01_k».proof.Defs
public import proofs.«01_k».proof.Proof.FfnUp.Value
public import proofs.«01_k».proof.Proof.Gen.FfnUpReferenceIdeal.Run
public import Idealize.ShloMosaic.Lib.Quiescent

@[expose] public section

set_option maxRecDepth 16384

noncomputable section

open Idealize.ShloMosaic Idealize.ShloMosaic.TcCoe Idealize.SL.Sem

namespace Cert.FfnUpReferenceIdeal.Term

open Cert.FfnUpReferenceIdeal Cert.FfnUpReferenceIdeal.Gen

variable (x : FVec Ideal S8192x2048 .f32) (w : FVec Ideal S1x2048x11264 .f32)

/-- The reference's product. -/
abbrev product : FVec Ideal S8192x11264 .f32 :=
  Host.dotGeneral dot_S8192x2048_S2048x11264_S8192x11264_1_0_0_1_n_n none x
    (shapeCast S2048x11264 w shapeCasts_S1x2048x11264_S2048x11264)

/-- The product at an entry. -/
theorem product_at (r : Fin 8192) (j : Fin 11264) : product x w (ix2 r j) = ∑ k, x (ix2 r k) * w (ix3 0 k j) := by
  pointwise

/-- The last two rows of a half with two rows of zeros before it are the half's own last rows. -/
theorem last_rows (z : FVec Ideal S1x2x5632 .f32) (y : FVec Ideal S8192x11264 .f32) (i : Fin 2) (j : Fin 5632) :
    (extractStridedSlice S1x2x5632 ![0, 8192, 0] (concatenate S1x8194x5632 1 [⟨S1x2x5632, z⟩,
        ⟨S1x8192x5632, extractStridedSlice S1x8192x5632 ![0, 0, 0] (shapeCast S1x8192x11264 y shapeCasts_S8192x11264_S1x8192x11264)
          slices_S1x8192x11264_S1x8192x5632_0_0_0⟩] concatenates_S1x2x5632_S1x8192x5632_S1x8194x5632_d1)
      slices_S1x8194x5632_S1x2x5632_0_8192_0 : FVec Ideal S1x2x5632 .f32) (ix3 0 i j)
      = y (ix2 ⟨8190 + i, by omega⟩ ⟨j, by omega⟩) := by
  refine (extractStridedSlice_apply _ _ _ _ (ix3 0 ⟨8192 + i, by omega⟩ j : S1x8194x5632.Idx) fun a => ?_).trans ?_
  · match a with
    | ⟨0, _⟩ => rfl
    | ⟨1, _⟩ => rfl
    | ⟨2, _⟩ => exact (Nat.zero_add _).symm
  refine (concatenate_pair_apply_right (t := S1x8194x5632) (s₁ := S1x2x5632) (s₂ := S1x8192x5632) 1 _ _ _ _ rfl rfl
    (ix3 0 ⟨8190 + i, by omega⟩ j : S1x8192x5632.Idx) (fun b hb => ?_) ?_).trans ?_
  · match b with
    | ⟨0, _⟩ => rfl
    | ⟨1, _⟩ => exact absurd rfl hb
    | ⟨2, _⟩ => rfl
  · show 8190 + i.val + 2 = 8192 + i.val
    omega
  refine (extractStridedSlice_apply _ _ _ _ (ix3 0 ⟨8190 + i, by omega⟩ ⟨j, by omega⟩ : S1x8192x11264.Idx) fun a => ?_).trans ?_
  · match a with
    | ⟨0, _⟩ => rfl
    | ⟨1, _⟩ => exact (Nat.zero_add _).symm
    | ⟨2, _⟩ => exact (Nat.zero_add _).symm
  refine (shapeCast_addUnit_apply (n := 2) ![8192, 11264] _ _ _).trans (congrArg y (funext fun a => ?_))
  match a with
  | ⟨0, _⟩ => rfl
  | ⟨1, _⟩ => rfl

end Cert.FfnUpReferenceIdeal.Term

namespace Cert.FfnUpIdeal.Points

/-- The reference's frame, with no counter left. -/
theorem reference_quiescent : @Cert.quiescent_FfnUpReferenceIdeal FfnUpReferenceIdeal.Gen.facts := fun m ρ _ =>
  (θ_run _ _ _).mono (fun r h => ⟨fun c => (h c).2.2, sem_eq_zero_of_no_sems (by decide) r.2⟩) (FfnUpReferenceIdeal.Value.run m ρ)

/-- The two programs compute the same results. -/
theorem algebraic : @Cert.algebraic_FfnUpIdeal_FfnUpReferenceIdeal FfnUpIdeal.Gen.facts FfnUpReferenceIdeal.Gen.facts := by
  intro m ρ m' ρ' _ hargs
  refine ⟨fun c => (FfnUpIdeal.Gen.dats m 0 c).arrAt 2 FfnUpIdeal.cfg0.N, fun c => tail m c FfnUpIdeal.main_v4, run m ρ, ?_⟩
  refine (θ_run _ _ _).mono (fun r h c => ⟨(h c).1.trans ?_, (h c).2.1.trans ?_, (h c).2.2⟩) (FfnUpReferenceIdeal.Value.run m' ρ')
  · obtain ⟨h0, h1⟩ := hargs c
    rw [h0, h1, shapeCast_shapeCast]
    funext i
    rw [show i = ix2 (i 0) (i 1) from funext fun k => by fin_cases k <;> rfl]
    exact (FfnUpReferenceIdeal.Term.product_at _ _ _ _).trans (result_at m c _ _).symm
  · obtain ⟨h0, h1⟩ := hargs c
    rw [h0, h1]
    funext i
    have hi : (i 0).val = 0 := by have : (i 0).val < 1 := (i 0).isLt; omega
    rw [show i = ix3 0 (i 1) (i 2) from funext fun k => by fin_cases k <;> first | exact Fin.ext hi | rfl]
    exact (FfnUpReferenceIdeal.Term.last_rows _ _ _ _).trans
      ((FfnUpReferenceIdeal.Term.product_at _ _ _ _).trans (conv_at m c _ _).symm)

end Cert.FfnUpIdeal.Points

end
-- ==== Proof.FfnDown.Scratch.lean ====
/-
  The down projection's body at each grid point: at the first row block of a column block the weights' block is put into the
  scratch buffer, the other row blocks leave it there, and every point multiplies its row block by what the scratch holds.
-/
module

public import proofs.«01_k».proof.Proof.Gen.FfnDownIdeal.Value
public import Idealize.ShloMosaic.Lib.Tactic

@[expose] public section

set_option maxRecDepth 16384

noncomputable section

namespace Cert.FfnDownIdeal.Points

open Cert.FfnDownIdeal Cert.FfnDownIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The first row block stores the weights' block. -/
theorem scratch_first (c : Dev nD) (t : Fin cfg0.N) (h0 : t.val % 16 = 0) :
    (outsAt0 m c t.val t.isLt).2 = k0_pay1 (iblk m c 1 t) := by
  rw [outsAt0_A m c t h0]
  dsimp only
  unfold sout0_A_0
  rw [View.read_writes_eq_canon _ _ _ (scover0_A_0 c _ _ _ _ _ _ _ _ _ _ _ _ _ _ _ _ _ _)]
  unfold kernelRun0_A
  dsimp only
  sl_unfold_words
  rw [View.canon_unit_zero hz]
  simp only [View.readAt_eq_ld, (hs0_1 t).read_unread, View.ld_unit_zero (S := S5632x512) hz]

/-- The other row blocks leave the scratch as it was. -/
theorem scratch_next (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- Every point's output is computed from the scratch as that point leaves it. -/
theorem out_point (c : Dev nD) (t : Fin cfg0.N) :
    (outsAt0 m c t.val t.isLt).1
      = k0_pay2 (iblk m c 0 t) (outsAt0 m c t.val t.isLt).2 (iblk m c 2 t) (iblk m c 3 t) := by
  by_cases h0 : t.val % 16 = 0
  · rw [scratch_first m c t h0, outsAt0_A m c t h0]
    dsimp only
    unfold out0_A_4
    rw [View.read_writes_eq_canon _ _ _ (cover0_A_4 c _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x5632) hz, View.ld_unit_zero (S := S5632x512) hz, View.ld_unit_zero (S := S512x512) hz,
      View.ld_unit_zero (S := S1x512) hz, View.readCov_unit_zero (S := S5632x512) _ hz]
  · rw [scratch_next m c t h0, outsAt0_B m c t h0]
    dsimp only
    unfold out0_B_4
    rw [View.read_writes_eq_canon _ _ _ (cover0_B_4 c _ _ _ _ _ _ _ _ _ _ _ _ _ _ _ _ _ _ _)]
    unfold kernelRun0_B
    dsimp only
    sl_unfold_words
    rw [View.canon_unit_zero hz]
    simp only [View.readAt_eq_ld, (hs0_0 t).read_unread, (hs0_2 t).read_unread, (hs0_3 t).read_unread,
      (Memref.isWhole_whole _).read_unread, View.ld_unit_zero (S := S512x5632) hz, View.ld_unit_zero (S := S5632x512) hz,
      View.ld_unit_zero (S := S512x512) hz, View.ld_unit_zero (S := S1x512) hz]

end Cert.FfnDownIdeal.Points

end
-- ==== Proof.FfnDown.Value.lean ====
/-
  The down projection's result: every entry is the residual plus the gate times the product's entry, the arguments' arrays
  read at that row and column.
-/
module

public import proofs.«01_k».proof.Proof.FfnDown.Scratch
public import Idealize.ShloMosaic.Lib.Pointwise
public import Idealize.ShloMosaic.Lib.Tactic.CleanTypes
public import Idealize.ShloMosaic.Lib.StableHlo.RunRead

@[expose] public section

set_option maxRecDepth 16384

noncomputable section

namespace Cert.FfnDownIdeal.Points

open Cert.FfnDownIdeal Cert.FfnDownIdeal.Gen Idealize.ShloMosaic Idealize.ShloMosaic.TcCoe StableHlo

variable (m : (ℓ : Loc nD τ sig) → Buf (Elt Ideal) ℓ) (c : Dev nD)

/-- Argument array `b` of device `c`. -/
abbrev arg (b : Ref sig .tc) : Buf (Elt Ideal) ((c : Thread nD τ).loc b) := m ((c : Thread nD τ).loc b)

/-- The activations, the weights, the residual and the gate: the arguments' entries. -/
abbrev x (r : Fin 8192) (k : Fin 5632) : EReal := (arg m c main_arg0 : FVec Ideal S8192x5632 .f32) (ix2 r k)
abbrev w (k : Fin 5632) (j : Fin 2048) : EReal := (arg m c main_arg1 : FVec Ideal S1x5632x2048 .f32) (ix3 0 k j)
abbrev res (r : Fin 8192) (j : Fin 2048) : EReal := (arg m c main_arg2 : FVec Ideal S8192x2048 .f32) (ix2 r j)
abbrev gate (j : Fin 2048) : EReal := (arg m c main_arg3 : FVec Ideal S1x12288 .f32) (ix2 0 ⟨10240 + j, by omega⟩)

/-- The activations that the call reads are the argument's. -/
theorem host_x (r : Fin 8192) (k : Fin 5632) : (V m c main_v0 : FVec Ideal S8192x5632 .bf16) (ix2 r k)
    = x m c r k := by
  dsimp only [V]; after_reads_simp; clean_types; pointwise

/-- The weights that the call reads are the layer's. -/
theorem host_w (k : Fin 5632) (j : Fin 2048) : (V m c main_v1 : FVec Ideal S5632x2048 .f32) (ix2 k j)
    = w m c k j := by
  dsimp only [V]; after_reads_simp; clean_types; pointwise

theorem host_res : V m c main_arg2 = arg m c main_arg2 := V_main_arg2 m c

theorem host_gate : V m c main_arg3 = arg m c main_arg3 := V_main_arg3 m c

/-! ## The windows' blocks: point `t` is row block `t % 16` of column block `t / 16` -/

theorem index0 : ∀ t : Fin grid0.N, win0_0.index t 0 = t.val % 16 ∧ win0_0.index t 1 = 0 := by decide +kernel
theorem index1 : ∀ t : Fin grid0.N, win0_1.index t 0 = 0 ∧ win0_1.index t 1 = t.val / 16 := by decide +kernel
theorem index2 : ∀ t : Fin grid0.N, win0_2.index t 0 = t.val % 16 ∧ win0_2.index t 1 = t.val / 16 := by decide +kernel
theorem index3 : ∀ t : Fin grid0.N, win0_3.index t 0 = 0 ∧ win0_3.index t 1 = 20 + t.val / 16 := by decide +kernel
theorem index4 : ∀ t : Fin grid0.N, win0_4.index t 0 = t.val % 16 ∧ win0_4.index t 1 = t.val / 16 := by decide +kernel

theorem lt_N (t : Fin cfg0.N) : t.val < 64 := t.isLt

theorem block0 (t : Fin cfg0.N) (r : Fin 512) (k : Fin 5632) :
    (iblk m c 0 t : FVec Ideal S512x5632 .bf16) (ix2 r k)
      = x m c ⟨t.val % 16 * 512 + r, by omega⟩ k := by
  refine Eq.trans ?_ (host_x m c _ _)
  unfold iblk
  rw [View.read_apply]
  refine congrArg (V m c main_v0 : FVec Ideal S8192x5632 .bf16) (funext fun a => Fin.ext ?_)
  refine (win0_0.rect_emb_val t _ a).trans ?_
  have e := index0 t
  match a with
  | ⟨0, _⟩ => exact congrArg (· * 512 + r.val) e.1
  | ⟨1, _⟩ => show win0_0.index t 1 * 5632 + k.val = k.val; rw [e.2]; omega

theorem block1 (t : Fin cfg0.N) (k : Fin 5632) (j : Fin 512) :
    (iblk m c 1 t : FVec Ideal S5632x512 .f32) (ix2 k j)
      = w m c k ⟨t.val / 16 * 512 + j, by have := lt_N t; omega⟩ := by
  refine Eq.trans ?_ (host_w m c _ _)
  unfold iblk
  rw [View.read_apply]
  refine congrArg (V m c main_v1 : FVec Ideal S5632x2048 .f32) (funext fun a => Fin.ext ?_)
  refine (win0_1.rect_emb_val t _ a).trans ?_
  have e := index1 t
  match a with
  | ⟨0, _⟩ => show win0_1.index t 0 * 5632 + k.val = k.val; rw [e.1]; omega
  | ⟨1, _⟩ => exact congrArg (· * 512 + j.val) e.2

theorem block2 (t : Fin cfg0.N) (r j : Fin 512) :
    (iblk m c 2 t : FVec Ideal S512x512 .f32) (ix2 r j)
      = res m c ⟨t.val % 16 * 512 + r, by omega⟩
          ⟨t.val / 16 * 512 + j, by have := lt_N t; omega⟩ := by
  refine Eq.trans ?_ (congrFun (host_res m c) _)
  unfold iblk
  rw [View.read_apply]
  refine congrArg (V m c main_arg2 : FVec Ideal S8192x2048 .f32) (funext fun a => Fin.ext ?_)
  refine (win0_2.rect_emb_val t _ a).trans ?_
  have e := index2 t
  match a with
  | ⟨0, _⟩ => exact congrArg (· * 512 + r.val) e.1
  | ⟨1, _⟩ => exact congrArg (· * 512 + j.val) e.2

theorem block3 (t : Fin cfg0.N) (j : Fin 512) :
    (iblk m c 3 t : FVec Ideal S1x512 .f32) (ix2 0 j)
      = gate m c ⟨t.val / 16 * 512 + j, by have := lt_N t; omega⟩ := by
  refine Eq.trans ?_ (congrFun (host_gate m c) _)
  unfold iblk
  rw [View.read_apply]
  refine congrArg (V m c main_arg3 : FVec Ideal S1x12288 .f32) (funext fun a => Fin.ext ?_)
  refine (win0_3.rect_emb_val t _ a).trans ?_
  have e := index3 t
  match a with
  | ⟨0, _⟩ => show win0_3.index t 0 * 1 + 0 = 0; rw [e.1]
  | ⟨1, _⟩ => show win0_3.index t 1 * 512 + j.val = 10240 + (t.val / 16 * 512 + j.val); rw [e.2]; omega

/-! ## What the points compute -/

/-- The stored block is the weights' block. -/
theorem pay1_at (x : FVec Ideal S5632x512 .f32) (k : Fin 5632) (j : Fin 512) :
    (k0_pay1 x : FVec Ideal S5632x512 .bf16) (ix2 k j) = x (ix2 k j) := by
  pointwise [k0_pay1]

/-- The output block: the residual plus the gate times the product. -/
theorem pay2_at (x : FVec Ideal S512x5632 .bf16) (w : FVec Ideal S5632x512 .bf16) (y : FVec Ideal S512x512 .f32)
    (g : FVec Ideal S1x512 .f32) (r j : Fin 512) :
    (k0_pay2 x w y g : FVec Ideal S512x512 .f32) (ix2 r j)
      = y (ix2 r j) + g (ix2 0 j) * ∑ k, x (ix2 r k) * w (ix2 k j) := by
  pointwise [k0_pay2]

/-- The scratch holds, after every point, the weights' columns of that point's column block. -/
theorem scratch_at (k : Fin 5632) (j : Fin 512) : ∀ (n : ℕ) (h : n < cfg0.N),
    ((outsAt0 m c n h).2 : FVec Ideal S5632x512 .bf16) (ix2 k j)
      = w m c k ⟨n / 16 * 512 + j, by have := lt_N ⟨n, h⟩; dsimp only at this; omega⟩ := by
  intro n
  induction n with
  | zero =>
    intro h
    rw [scratch_first m c ⟨0, h⟩ rfl]
    exact (pay1_at _ k j).trans (block1 m c ⟨0, h⟩ k j)
  | succ n ih =>
    intro h
    by_cases h0 : (n + 1) % 16 = 0
    · rw [scratch_first m c ⟨n + 1, h⟩ h0]
      exact (pay1_at _ k j).trans (block1 m c ⟨n + 1, h⟩ k j)
    · rw [scratch_next m c ⟨n + 1, h⟩ h0]
      refine (ih (Nat.lt_of_succ_lt h)).trans ?_
      refine congrArg (w m c k) (Fin.ext ?_)
      show n / 16 * 512 + j.val = (n + 1) / 16 * 512 + j.val
      omega

/-- Point `t`'s output block. -/
theorem out_at (t : Fin cfg0.N) (r j : Fin 512) :
    ((outsAt0 m c t.val t.isLt).1 : FVec Ideal S512x512 .f32) (ix2 r j)
      = res m c ⟨t.val % 16 * 512 + r, by omega⟩
          ⟨t.val / 16 * 512 + j, by have := lt_N t; omega⟩
        + gate m c ⟨t.val / 16 * 512 + j, by have := lt_N t; omega⟩
        * ∑ k, x m c ⟨t.val % 16 * 512 + r, by omega⟩ k
          * w m c k ⟨t.val / 16 * 512 + j, by have := lt_N t; omega⟩ := by
  rw [out_point m c t]
  refine (pay2_at _ _ _ _ r j).trans ?_
  rw [block2 m c t r j, block3 m c t j]
  congr 2
  exact Finset.sum_congr rfl fun k _ => congrArg₂ (· * ·) (block0 m c t r k) (scratch_at m c k j t.val t.isLt)

/-- The result array at an entry of point `t`'s block. -/
theorem final_block (t : Fin cfg0.N) (r j : Fin 512) :
    ((dats m 0 c).arrAt 4 cfg0.N : FVec Ideal S8192x2048 .f32) (ix2 ⟨t.val % 16 * 512 + r, by omega⟩
        ⟨t.val / 16 * 512 + j, by have := lt_N t; omega⟩)
      = ((outsAt0 m c t.val t.isLt).1 : FVec Ideal S512x512 .f32) (ix2 r j) := by
  have hb := congrFun ((Value.blocks4 m c t (flush0_4 t)).trans (Value.flushed4 m c t)) (ix2 r j)
  rw [View.read_apply] at hb
  refine Eq.trans ?_ hb
  refine congrArg ((dats m 0 c).arrAt 4 cfg0.N : FVec Ideal S8192x2048 .f32) (funext fun a => Fin.ext ?_)
  refine Eq.symm ((win0_4.rect_emb_val t _ a).trans ?_)
  have e := index4 t
  match a with
  | ⟨0, _⟩ => exact congrArg (· * 512 + r.val) e.1
  | ⟨1, _⟩ => exact congrArg (· * 512 + j.val) e.2

/-- The result array: the residual plus the gate times the product of the activations with the weights. -/
theorem result_at (r : Fin 8192) (j : Fin 2048) :
    ((dats m 0 c).arrAt 4 cfg0.N : FVec Ideal S8192x2048 .f32) (ix2 r j)
      = res m c r j
        + gate m c j
        * ∑ k, x m c r k
          * w m c k j := by
  have hr := r.isLt
  have hj := j.isLt
  let t : Fin cfg0.N := ⟨j.val / 512 * 16 + r.val / 512, by show _ < 64; omega⟩
  have e := (final_block m c t ⟨r.val % 512, by omega⟩ ⟨j.val % 512, by omega⟩).trans (out_at m c t _ _)
  have er : (⟨t.val % 16 * 512 + (⟨r.val % 512, by omega⟩ : Fin 512), by omega⟩ : Fin 8192) = r :=
    Fin.ext (by show (j.val / 512 * 16 + r.val / 512) % 16 * 512 + r.val % 512 = r.val; omega)
  have ej : (⟨t.val / 16 * 512 + (⟨j.val % 512, by omega⟩ : Fin 512), by have := lt_N t; dsimp only; omega⟩ : Fin 2048) = j :=
    Fin.ext (by show (j.val / 512 * 16 + r.val / 512) / 16 * 512 + j.val % 512 = j.val; omega)
  rw [er, ej] at e
  exact e

end Cert.FfnDownIdeal.Points

end
-- ==== Proof.FfnDown.Claims.lean ====
/- The down projection against the reference's: the same result at every entry. -/
module

public import proofs.«01_k».proof.Defs
public import proofs.«01_k».proof.Proof.FfnDown.Value
public import proofs.«01_k».proof.Proof.Gen.FfnDownReferenceIdeal.Run
public import Idealize.ShloMosaic.Lib.Quiescent

@[expose] public section

set_option maxRecDepth 16384

noncomputable section

open Idealize.ShloMosaic Idealize.ShloMosaic.TcCoe Idealize.SL.Sem

namespace Cert.FfnDownReferenceIdeal.Term

open Cert.FfnDownReferenceIdeal Cert.FfnDownReferenceIdeal.Gen

/-- The reference's term at an entry. -/
theorem at_entry (x : FVec Ideal S8192x5632 .f32) (w : FVec Ideal S1x5632x2048 .f32) (y : FVec Ideal S8192x2048 .f32)
    (g : FVec Ideal S1x12288 .f32) (r : Fin 8192) (j : Fin 2048) :
    addf y (mulf (broadcastInDim S8192x2048 ![0, 1] bcast_S1x2048_S8192x2048_0_1
        (extractStridedSlice S1x2048 ![0, 10240] g slices_S1x12288_S1x2048_0_10240))
      (Host.dotGeneral dot_S8192x5632_S5632x2048_S8192x2048_1_0_0_1_n_n none x
        (shapeCast S5632x2048 w shapeCasts_S1x5632x2048_S5632x2048))) (ix2 r j)
      = y (ix2 r j) + g (ix2 0 ⟨10240 + j, by omega⟩) * ∑ k, x (ix2 r k) * w (ix3 0 k j) := by
  pointwise

end Cert.FfnDownReferenceIdeal.Term

namespace Cert.FfnDownIdeal.Points

/-- The reference's frame, with no counter left. -/
theorem reference_quiescent : @Cert.quiescent_FfnDownReferenceIdeal FfnDownReferenceIdeal.Gen.facts := fun m ρ _ =>
  (θ_run _ _ _).mono (fun r h => ⟨fun c => (h c).2, sem_eq_zero_of_no_sems (by decide) r.2⟩) (FfnDownReferenceIdeal.Value.run m ρ)

/-- The two programs compute the same result. -/
theorem algebraic : @Cert.algebraic_FfnDownIdeal_FfnDownReferenceIdeal FfnDownIdeal.Gen.facts FfnDownReferenceIdeal.Gen.facts := by
  intro m ρ m' ρ' _ hargs
  refine ⟨fun c => (FfnDownIdeal.Gen.dats m 0 c).arrAt 4 FfnDownIdeal.cfg0.N, FfnDownIdeal.Value.run_blocks m ρ, ?_⟩
  refine (θ_run _ _ _).mono (fun r h c => ⟨(h c).1.trans ?_, (h c).2⟩) (FfnDownReferenceIdeal.Value.run m' ρ')
  obtain ⟨h0, h1, h2, h3⟩ := hargs c
  rw [h0, h1, h2, h3]
  funext i
  rw [show i = ix2 (i 0) (i 1) from funext fun k => by fin_cases k <;> rfl]
  exact (FfnDownReferenceIdeal.Term.at_entry _ _ _ _ _ _).trans (result_at m c _ _).symm

end Cert.FfnDownIdeal.Points

end
-- ==== Proof.Mix.Value.lean ====
/-
  The mixed branches: every entry is the gated sum of the two products' entries, the arguments' arrays read at that row and
  column.
-/
module

public import proofs.«01_k».proof.Proof.Gen.MixIdeal.Value
public import Idealize.ShloMosaic.Lib.Pointwise
public import Idealize.ShloMosaic.Lib.Tactic
public import Idealize.ShloMosaic.Lib.Tactic.CleanTypes
public import Idealize.ShloMosaic.Lib.StableHlo.RunRead

@[expose] public section

set_option maxRecDepth 16384

noncomputable section

namespace Cert.MixIdeal.Points

open Cert.MixIdeal Cert.MixIdeal.Gen Idealize.ShloMosaic Idealize.ShloMosaic.TcCoe StableHlo

variable (m : (ℓ : Loc nD τ sig) → Buf (Elt Ideal) ℓ) (c : Dev nD)

/-- Argument array `b` of device `c`. -/
abbrev arg (b : Ref sig .tc) : Buf (Elt Ideal) ((c : Thread nD τ).loc b) := m ((c : Thread nD τ).loc b)

/-- The branches' outputs, their projections' weights and the packed rows that begin with the gates: the arguments' entries. -/
abbrev xa (r : Fin 8192) (k : Fin 2048) : EReal := (arg m c main_arg0 : FVec Ideal S8192x2048 .f32) (ix2 r k)
abbrev xb (r : Fin 8192) (k : Fin 2048) : EReal := (arg m c main_arg1 : FVec Ideal S8192x2048 .f32) (ix2 r k)
abbrev wa (k : Fin 2048) (j : Fin 2048) : EReal := (arg m c main_arg2 : FVec Ideal S1x2048x2048 .f32) (ix3 0 k j)
abbrev wb (k : Fin 2048) (j : Fin 2048) : EReal := (arg m c main_arg3 : FVec Ideal S1x2048x2048 .f32) (ix3 0 k j)
abbrev z (r : Fin 8192) (j : Fin 15360) : EReal := (arg m c main_arg4 : FVec Ideal S8192x15360 .f32) (ix2 r j)

/-- The logistic function. -/
abbrev sigmoid (x : EReal) : EReal := Ideal.div 1 (1 + Ideal.exp (-x))

theorem host_xa (r : Fin 8192) (k : Fin 2048) : (V m c main_v0 : FVec Ideal S8192x2048 .bf16) (ix2 r k) = xa m c r k := by
  dsimp only [V]; after_reads_simp; clean_types; pointwise

theorem host_xb (r : Fin 8192) (k : Fin 2048) : (V m c main_v1 : FVec Ideal S8192x2048 .bf16) (ix2 r k) = xb m c r k := by
  dsimp only [V]; after_reads_simp; clean_types; pointwise

theorem host_wa (k : Fin 2048) (j : Fin 2048) : (V m c main_v3 : FVec Ideal S2048x2048 .bf16) (ix2 k j) = wa m c k j := by
  dsimp only [V]; after_reads_simp; clean_types; pointwise

theorem host_wb (k : Fin 2048) (j : Fin 2048) : (V m c main_v5 : FVec Ideal S2048x2048 .bf16) (ix2 k j) = wb m c k j := by
  dsimp only [V]; after_reads_simp; clean_types; pointwise

theorem host_z : V m c main_arg4 = arg m c main_arg4 := V_main_arg4 m c

/-! ## The windows' blocks: point `t` is column block `t % 4` of row block `t / 4` -/

theorem index0 : ∀ t : Fin grid0.N, win0_0.index t 0 = t.val / 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = 0 ∧ win0_2.index t 1 = t.val % 4 := by decide +kernel
theorem index3 : ∀ t : Fin grid0.N, win0_3.index t 0 = 0 ∧ win0_3.index t 1 = t.val % 4 := by decide +kernel
theorem index4 : ∀ t : Fin grid0.N, win0_4.index t 0 = t.val / 4 ∧ win0_4.index t 1 = t.val % 4 := by decide +kernel
theorem index5 : ∀ t : Fin grid0.N, win0_5.index t 0 = t.val / 4 ∧ win0_5.index t 1 = 4 + t.val % 4 := by decide +kernel
theorem index6 : ∀ t : Fin grid0.N, win0_6.index t 0 = t.val / 4 ∧ win0_6.index t 1 = t.val % 4 := by decide +kernel

theorem lt_N (t : Fin cfg0.N) : t.val < 64 := t.isLt

theorem block0 (t : Fin cfg0.N) (r : Fin 512) (k : Fin 2048) :
    (iblk m c 0 t : FVec Ideal S512x2048 .bf16) (ix2 r k) = xa m c ⟨t.val / 4 * 512 + r, by have := lt_N t; omega⟩ k := by
  refine Eq.trans ?_ (host_xa m c _ _)
  unfold iblk
  rw [View.read_apply]
  refine congrArg (V m c main_v0 : FVec Ideal S8192x2048 .bf16) (funext fun a => Fin.ext ?_)
  refine (win0_0.rect_emb_val t _ a).trans ?_
  have e := index0 t
  match a with
  | ⟨0, _⟩ => exact congrArg (· * 512 + r.val) e.1
  | ⟨1, _⟩ => show win0_0.index t 1 * 2048 + k.val = k.val; rw [e.2]; omega

theorem block1 (t : Fin cfg0.N) (r : Fin 512) (k : Fin 2048) :
    (iblk m c 1 t : FVec Ideal S512x2048 .bf16) (ix2 r k) = xb m c ⟨t.val / 4 * 512 + r, by have := lt_N t; omega⟩ k := by
  refine Eq.trans ?_ (host_xb m c _ _)
  unfold iblk
  rw [View.read_apply]
  refine congrArg (V m c main_v1 : FVec Ideal S8192x2048 .bf16) (funext fun a => Fin.ext ?_)
  refine (win0_1.rect_emb_val t _ a).trans ?_
  have e := index1 t
  match a with
  | ⟨0, _⟩ => exact congrArg (· * 512 + r.val) e.1
  | ⟨1, _⟩ => show win0_1.index t 1 * 2048 + k.val = k.val; rw [e.2]; omega

theorem block2 (t : Fin cfg0.N) (k : Fin 2048) (j : Fin 512) :
    (iblk m c 2 t : FVec Ideal S2048x512 .bf16) (ix2 k j) = wa m c k ⟨t.val % 4 * 512 + j, by omega⟩ := by
  refine Eq.trans ?_ (host_wa m c _ _)
  unfold iblk
  rw [View.read_apply]
  refine congrArg (V m c main_v3 : FVec Ideal S2048x2048 .bf16) (funext fun a => Fin.ext ?_)
  refine (win0_2.rect_emb_val t _ a).trans ?_
  have e := index2 t
  match a with
  | ⟨0, _⟩ => show win0_2.index t 0 * 2048 + k.val = k.val; rw [e.1]; omega
  | ⟨1, _⟩ => exact congrArg (· * 512 + j.val) e.2

theorem block3 (t : Fin cfg0.N) (k : Fin 2048) (j : Fin 512) :
    (iblk m c 3 t : FVec Ideal S2048x512 .bf16) (ix2 k j) = wb m c k ⟨t.val % 4 * 512 + j, by omega⟩ := by
  refine Eq.trans ?_ (host_wb m c _ _)
  unfold iblk
  rw [View.read_apply]
  refine congrArg (V m c main_v5 : FVec Ideal S2048x2048 .bf16) (funext fun a => Fin.ext ?_)
  refine (win0_3.rect_emb_val t _ a).trans ?_
  have e := index3 t
  match a with
  | ⟨0, _⟩ => show win0_3.index t 0 * 2048 + k.val = k.val; rw [e.1]; omega
  | ⟨1, _⟩ => exact congrArg (· * 512 + j.val) e.2

theorem block4 (t : Fin cfg0.N) (r j : Fin 512) :
    (iblk m c 4 t : FVec Ideal S512x512 .f32) (ix2 r j)
      = z m c ⟨t.val / 4 * 512 + r, by have := lt_N t; omega⟩ ⟨t.val % 4 * 512 + j, by omega⟩ := by
  refine Eq.trans ?_ (congrFun (host_z m c) _)
  unfold iblk
  rw [View.read_apply]
  refine congrArg (V m c main_arg4 : FVec Ideal S8192x15360 .f32) (funext fun a => Fin.ext ?_)
  refine (win0_4.rect_emb_val t _ a).trans ?_
  have e := index4 t
  match a with
  | ⟨0, _⟩ => exact congrArg (· * 512 + r.val) e.1
  | ⟨1, _⟩ => exact congrArg (· * 512 + j.val) e.2

theorem block5 (t : Fin cfg0.N) (r j : Fin 512) :
    (iblk m c 5 t : FVec Ideal S512x512 .f32) (ix2 r j)
      = z m c ⟨t.val / 4 * 512 + r, by have := lt_N t; omega⟩ ⟨2048 + (t.val % 4 * 512 + j), by omega⟩ := by
  refine Eq.trans ?_ (congrFun (host_z m c) _)
  unfold iblk
  rw [View.read_apply]
  refine congrArg (V m c main_arg4 : FVec Ideal S8192x15360 .f32) (funext fun a => Fin.ext ?_)
  refine (win0_5.rect_emb_val t _ a).trans ?_
  have e := index5 t
  match a with
  | ⟨0, _⟩ => exact congrArg (· * 512 + r.val) e.1
  | ⟨1, _⟩ => show win0_5.index t 1 * 512 + j.val = 2048 + (t.val % 4 * 512 + j.val); rw [e.2]; omega

/-! ## What the points compute -/

/-- The output block: the two products, each under its gate. -/
theorem pay1_at (a : FVec Ideal S512x2048 .bf16) (u : FVec Ideal S2048x512 .bf16) (b : FVec Ideal S512x2048 .bf16)
    (v : FVec Ideal S2048x512 .bf16) (ga gb : FVec Ideal S512x512 .f32) (r j : Fin 512) :
    (k0_pay1 a u b v ga gb : FVec Ideal S512x512 .bf16) (ix2 r j)
      = sigmoid (ga (ix2 r j)) * (∑ k, a (ix2 r k) * u (ix2 k j)) + sigmoid (gb (ix2 r j)) * ∑ k, b (ix2 r k) * v (ix2 k j) := by
  pointwise [k0_pay1]
  rw [zero_sub, zero_sub]

theorem hz : (![0, 0] : Fin 2 → Nat) = fun _ => 0 := funext fun a => by fin_cases a <;> rfl

/-- Every point's output is the payload of its blocks. -/
theorem out_point (t : Fin cfg0.N) :
    out0_6 (iblk m c 0 t) (iblk m c 1 t) (iblk m c 2 t) (iblk m c 3 t) (iblk m c 4 t) (iblk m c 5 t)
      = k0_pay1 (iblk m c 0 t) (iblk m c 2 t) (iblk m c 1 t) (iblk m c 3 t) (iblk m c 4 t) (iblk m c 5 t) := by
  unfold out0_6
  rw [View.canon_unit_zero hz]
  simp only [View.ld_unit_zero (S := S512x2048) hz, View.ld_unit_zero (S := S2048x512) hz, View.ld_unit_zero (S := S512x512) hz]

/-- An entry of the gated sum. -/
abbrev mixed (r : Fin 8192) (j : Fin 2048) : EReal :=
  sigmoid (z m c r ⟨j, by omega⟩) * (∑ k, xa m c r k * wa m c k j)
    + sigmoid (z m c r ⟨2048 + j, by omega⟩) * ∑ k, xb m c r k * wb m c k j

/-- Point `t`'s output block. -/
theorem out_at (t : Fin cfg0.N) (r j : Fin 512) :
    (out0_6 (iblk m c 0 t) (iblk m c 1 t) (iblk m c 2 t) (iblk m c 3 t) (iblk m c 4 t) (iblk m c 5 t)
        : FVec Ideal S512x512 .bf16) (ix2 r j)
      = mixed m c ⟨t.val / 4 * 512 + r, by have := lt_N t; omega⟩ ⟨t.val % 4 * 512 + j, by omega⟩ := by
  rw [out_point m c t]
  refine (pay1_at _ _ _ _ _ _ r j).trans ?_
  rw [block4 m c t r j, block5 m c t r j]
  refine congrArg₂ (· + ·) (congrArg (sigmoid _ * ·) ?_) (congrArg (sigmoid _ * ·) ?_)
  · exact Finset.sum_congr rfl fun k _ => congrArg₂ (· * ·) (block0 m c t r k) (block2 m c t k j)
  · exact Finset.sum_congr rfl fun k _ => congrArg₂ (· * ·) (block1 m c t r k) (block3 m c t k j)

/-- The result array at an entry of point `t`'s block. -/
theorem final_block (t : Fin cfg0.N) (r j : Fin 512) :
    ((dats m 0 c).arrAt 6 cfg0.N : FVec Ideal S8192x2048 .bf16) (ix2 ⟨t.val / 4 * 512 + r, by have := lt_N t; omega⟩
        ⟨t.val % 4 * 512 + j, by omega⟩)
      = (out0_6 (iblk m c 0 t) (iblk m c 1 t) (iblk m c 2 t) (iblk m c 3 t) (iblk m c 4 t) (iblk m c 5 t)
        : FVec Ideal S512x512 .bf16) (ix2 r j) := by
  have hb := congrFun ((Value.blocks6 m c t (flush0_6 t)).trans (Value.flushed6 m c t)) (ix2 r j)
  rw [View.read_apply] at hb
  refine Eq.trans ?_ hb
  refine congrArg ((dats m 0 c).arrAt 6 cfg0.N : FVec Ideal S8192x2048 .bf16) (funext fun a => Fin.ext ?_)
  refine Eq.symm ((win0_6.rect_emb_val t _ a).trans ?_)
  have e := index6 t
  match a with
  | ⟨0, _⟩ => exact congrArg (· * 512 + r.val) e.1
  | ⟨1, _⟩ => exact congrArg (· * 512 + j.val) e.2

/-- The result array: the gated sum of the two projected branches. -/
theorem result_at (r : Fin 8192) (j : Fin 2048) :
    ((dats m 0 c).arrAt 6 cfg0.N : FVec Ideal S8192x2048 .bf16) (ix2 r j) = mixed m c r j := by
  have hr := r.isLt
  have hj := j.isLt
  let t : Fin cfg0.N := ⟨r.val / 512 * 4 + j.val / 512, by show _ < 64; omega⟩
  have e := (final_block m c t ⟨r.val % 512, by omega⟩ ⟨j.val % 512, by omega⟩).trans (out_at m c t _ _)
  have er : (⟨t.val / 4 * 512 + (⟨r.val % 512, by omega⟩ : Fin 512), by have := lt_N t; dsimp only; omega⟩ : Fin 8192) = r :=
    Fin.ext (by show (r.val / 512 * 4 + j.val / 512) / 4 * 512 + r.val % 512 = r.val; omega)
  have ej : (⟨t.val % 4 * 512 + (⟨j.val % 512, by omega⟩ : Fin 512), by omega⟩ : Fin 2048) = j :=
    Fin.ext (by show (r.val / 512 * 4 + j.val / 512) % 4 * 512 + j.val % 512 = j.val; omega)
  rw [er, ej] at e
  exact e

end Cert.MixIdeal.Points

end
-- ==== Proof.Mix.Claims.lean ====
/- The mixed branches against the reference's: the same result at every entry. -/
module

public import proofs.«01_k».proof.Defs
public import proofs.«01_k».proof.Proof.Mix.Value
public import proofs.«01_k».proof.Proof.Gen.MixReferenceIdeal.Run
public import Idealize.ShloMosaic.Lib.Quiescent

@[expose] public section

set_option maxRecDepth 16384

noncomputable section

open Idealize.ShloMosaic Idealize.ShloMosaic.TcCoe Idealize.SL.Sem

namespace Cert.MixReferenceIdeal.Term

open Cert.MixReferenceIdeal Cert.MixReferenceIdeal.Gen
open Cert.MixIdeal.Points (sigmoid)

variable (z : FVec Ideal S8192x15360 .f32)

/-- The logistic function of the packed rows' first columns: the two gates. -/
abbrev gates : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32))
      (Host.exp (Host.negf (extractStridedSlice S8192x4096 ![0, 0] z slices_S8192x15360_S8192x4096_0_0))))

/-- A gate at an entry. -/
theorem gates_at (r : Fin 8192) (j : Fin 4096) : gates z (ix2 r j) = sigmoid (z (ix2 r ⟨j, by omega⟩)) := by
  pointwise

/-- The reference's term at an entry. -/
theorem at_entry (a b : FVec Ideal S8192x2048 .f32) (u v : FVec Ideal S1x2048x2048 .f32) (r : Fin 8192) (j : Fin 2048) :
    (truncf .bf16 (addf
        (mulf (extractStridedSlice S8192x2048 ![0, 0] (gates z) slices_S8192x4096_S8192x2048_0_0)
          (Host.dotGeneral dot_S8192x2048_S2048x2048_S8192x2048_1_0_0_1_n_n none a
            (shapeCast S2048x2048 u shapeCasts_S1x2048x2048_S2048x2048)))
        (mulf (extractStridedSlice S8192x2048 ![0, 2048] (gates z) slices_S8192x4096_S8192x2048_0_2048)
          (Host.dotGeneral dot_S8192x2048_S2048x2048_S8192x2048_1_0_0_1_n_n none b
            (shapeCast S2048x2048 v shapeCasts_S1x2048x2048_S2048x2048)))) bitsLt_bf16_f32 : FVec Ideal S8192x2048 .bf16) (ix2 r j)
      = sigmoid (z (ix2 r ⟨j, by omega⟩)) * (∑ k, a (ix2 r k) * u (ix3 0 k j))
        + sigmoid (z (ix2 r ⟨2048 + j, by omega⟩)) * ∑ k, b (ix2 r k) * v (ix3 0 k j) := by
  pointwise

end Cert.MixReferenceIdeal.Term

namespace Cert.MixIdeal.Points

/-- The reference's frame, with no counter left. -/
theorem reference_quiescent : @Cert.quiescent_MixReferenceIdeal MixReferenceIdeal.Gen.facts := fun m ρ _ =>
  (θ_run _ _ _).mono (fun r h => ⟨fun c => (h c).2, sem_eq_zero_of_no_sems (by decide) r.2⟩) (MixReferenceIdeal.Value.run m ρ)

/-- The two programs compute the same result. -/
theorem algebraic : @Cert.algebraic_MixIdeal_MixReferenceIdeal MixIdeal.Gen.facts MixReferenceIdeal.Gen.facts := by
  intro m ρ m' ρ' _ hargs
  refine ⟨fun c => (MixIdeal.Gen.dats m 0 c).arrAt 6 MixIdeal.cfg0.N, MixIdeal.Value.run_blocks m ρ, ?_⟩
  refine (θ_run _ _ _).mono (fun r h c => ⟨(h c).1.trans ?_, (h c).2⟩) (MixReferenceIdeal.Value.run m' ρ')
  obtain ⟨h0, h1, h2, h3, h4⟩ := hargs c
  rw [h0, h1, h2, h3, h4]
  funext i
  rw [show i = ix2 (i 0) (i 1) from funext fun k => by fin_cases k <;> rfl]
  exact (MixReferenceIdeal.Term.at_entry _ _ _ _ _ _ _).trans (result_at m c _ _).symm

end Cert.MixIdeal.Points

end
-- ==== Proof.OutProj.Scratch.lean ====
/-
  The output projection's body at each grid point: at the first row block of a column block the weights' block is put into the
  scratch buffer, the other row blocks leave it there, and every point multiplies its row block by what the scratch holds.
-/
module

public import proofs.«01_k».proof.Proof.Gen.OutProjIdeal.Value
public import Idealize.ShloMosaic.Lib.Tactic

@[expose] public section

set_option maxRecDepth 16384

noncomputable section

namespace Cert.OutProjIdeal.Points

open Cert.OutProjIdeal Cert.OutProjIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The first row block stores the weights' block. -/
theorem scratch_first (c : Dev nD) (t : Fin cfg0.N) (h0 : t.val % 16 = 0) :
    (outsAt0 m c t.val t.isLt).2 = k0_pay1 (iblk m c 1 t) := by
  rw [outsAt0_A m c t h0]
  dsimp only
  unfold sout0_A_0
  rw [View.read_writes_eq_canon _ _ _ (scover0_A_0 c _ _ _ _ _ _ _ _ _ _ _ _ _ _ _ _ _ _)]
  unfold kernelRun0_A
  dsimp only
  sl_unfold_words
  rw [View.canon_unit_zero hz]
  simp only [View.readAt_eq_ld, (hs0_1 t).read_unread, View.ld_unit_zero (S := S2048x512) hz]

/-- The other row blocks leave the scratch as it was. -/
theorem scratch_next (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- Every point's output is computed from the scratch as that point leaves it. -/
theorem out_point (c : Dev nD) (t : Fin cfg0.N) :
    (outsAt0 m c t.val t.isLt).1
      = k0_pay2 (iblk m c 0 t) (outsAt0 m c t.val t.isLt).2 (iblk m c 2 t) (iblk m c 3 t) := by
  by_cases h0 : t.val % 16 = 0
  · rw [scratch_first m c t h0, outsAt0_A m c t h0]
    dsimp only
    unfold out0_A_4
    rw [View.read_writes_eq_canon _ _ _ (cover0_A_4 c _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x2048) hz, View.ld_unit_zero (S := S2048x512) hz, View.ld_unit_zero (S := S512x512) hz,
      View.ld_unit_zero (S := S1x512) hz, View.readCov_unit_zero (S := S2048x512) _ hz]
  · rw [scratch_next m c t h0, outsAt0_B m c t h0]
    dsimp only
    unfold out0_B_4
    rw [View.read_writes_eq_canon _ _ _ (cover0_B_4 c _ _ _ _ _ _ _ _ _ _ _ _ _ _ _ _ _ _ _)]
    unfold kernelRun0_B
    dsimp only
    sl_unfold_words
    rw [View.canon_unit_zero hz]
    simp only [View.readAt_eq_ld, (hs0_0 t).read_unread, (hs0_2 t).read_unread, (hs0_3 t).read_unread,
      (Memref.isWhole_whole _).read_unread, View.ld_unit_zero (S := S512x2048) hz, View.ld_unit_zero (S := S2048x512) hz,
      View.ld_unit_zero (S := S512x512) hz, View.ld_unit_zero (S := S1x512) hz]

end Cert.OutProjIdeal.Points

end
-- ==== Proof.OutProj.Value.lean ====
/-
  The output projection's result: every entry is the residual plus the gate times the product's entry, the arguments' arrays
  read at that row and column.
-/
module

public import proofs.«01_k».proof.Proof.OutProj.Scratch
public import Idealize.ShloMosaic.Lib.Pointwise
public import Idealize.ShloMosaic.Lib.Tactic.CleanTypes
public import Idealize.ShloMosaic.Lib.StableHlo.RunRead

@[expose] public section

set_option maxRecDepth 16384

noncomputable section

namespace Cert.OutProjIdeal.Points

open Cert.OutProjIdeal Cert.OutProjIdeal.Gen Idealize.ShloMosaic Idealize.ShloMosaic.TcCoe StableHlo

variable (m : (ℓ : Loc nD τ sig) → Buf (Elt Ideal) ℓ) (c : Dev nD)

/-- Argument array `b` of device `c`. -/
abbrev arg (b : Ref sig .tc) : Buf (Elt Ideal) ((c : Thread nD τ).loc b) := m ((c : Thread nD τ).loc b)

/-- The mixed branches, the weights, the residual and the gate: the arguments' entries. -/
abbrev x (r : Fin 8192) (k : Fin 2048) : EReal := (arg m c main_arg0 : FVec Ideal S8192x2048 .f32) (ix2 r k)
abbrev w (k : Fin 2048) (j : Fin 2048) : EReal := (arg m c main_arg1 : FVec Ideal S1x2048x2048 .f32) (ix3 0 k j)
abbrev res (r : Fin 8192) (j : Fin 2048) : EReal := (arg m c main_arg2 : FVec Ideal S8192x2048 .f32) (ix2 r j)
abbrev gate (j : Fin 2048) : EReal := (arg m c main_arg3 : FVec Ideal S1x12288 .f32) (ix2 0 ⟨4096 + j, by omega⟩)

/-- The activations that the call reads are the argument's. -/
theorem host_x (r : Fin 8192) (k : Fin 2048) : (V m c main_v0 : FVec Ideal S8192x2048 .bf16) (ix2 r k)
    = x m c r k := by
  dsimp only [V]; after_reads_simp; clean_types; pointwise

/-- The weights that the call reads are the layer's. -/
theorem host_w (k : Fin 2048) (j : Fin 2048) : (V m c main_v1 : FVec Ideal S2048x2048 .f32) (ix2 k j)
    = w m c k j := by
  dsimp only [V]; after_reads_simp; clean_types; pointwise

theorem host_res : V m c main_arg2 = arg m c main_arg2 := V_main_arg2 m c

theorem host_gate : V m c main_arg3 = arg m c main_arg3 := V_main_arg3 m c

/-! ## The windows' blocks: point `t` is row block `t % 16` of column block `t / 16` -/

theorem index0 : ∀ t : Fin grid0.N, win0_0.index t 0 = t.val % 16 ∧ win0_0.index t 1 = 0 := by decide +kernel
theorem index1 : ∀ t : Fin grid0.N, win0_1.index t 0 = 0 ∧ win0_1.index t 1 = t.val / 16 := by decide +kernel
theorem index2 : ∀ t : Fin grid0.N, win0_2.index t 0 = t.val % 16 ∧ win0_2.index t 1 = t.val / 16 := by decide +kernel
theorem index3 : ∀ t : Fin grid0.N, win0_3.index t 0 = 0 ∧ win0_3.index t 1 = 8 + t.val / 16 := by decide +kernel
theorem index4 : ∀ t : Fin grid0.N, win0_4.index t 0 = t.val % 16 ∧ win0_4.index t 1 = t.val / 16 := by decide +kernel

theorem lt_N (t : Fin cfg0.N) : t.val < 64 := t.isLt

theorem block0 (t : Fin cfg0.N) (r : Fin 512) (k : Fin 2048) :
    (iblk m c 0 t : FVec Ideal S512x2048 .bf16) (ix2 r k)
      = x m c ⟨t.val % 16 * 512 + r, by omega⟩ k := by
  refine Eq.trans ?_ (host_x m c _ _)
  unfold iblk
  rw [View.read_apply]
  refine congrArg (V m c main_v0 : FVec Ideal S8192x2048 .bf16) (funext fun a => Fin.ext ?_)
  refine (win0_0.rect_emb_val t _ a).trans ?_
  have e := index0 t
  match a with
  | ⟨0, _⟩ => exact congrArg (· * 512 + r.val) e.1
  | ⟨1, _⟩ => show win0_0.index t 1 * 2048 + k.val = k.val; rw [e.2]; omega

theorem block1 (t : Fin cfg0.N) (k : Fin 2048) (j : Fin 512) :
    (iblk m c 1 t : FVec Ideal S2048x512 .f32) (ix2 k j)
      = w m c k ⟨t.val / 16 * 512 + j, by have := lt_N t; omega⟩ := by
  refine Eq.trans ?_ (host_w m c _ _)
  unfold iblk
  rw [View.read_apply]
  refine congrArg (V m c main_v1 : FVec Ideal S2048x2048 .f32) (funext fun a => Fin.ext ?_)
  refine (win0_1.rect_emb_val t _ a).trans ?_
  have e := index1 t
  match a with
  | ⟨0, _⟩ => show win0_1.index t 0 * 2048 + k.val = k.val; rw [e.1]; omega
  | ⟨1, _⟩ => exact congrArg (· * 512 + j.val) e.2

theorem block2 (t : Fin cfg0.N) (r j : Fin 512) :
    (iblk m c 2 t : FVec Ideal S512x512 .f32) (ix2 r j)
      = res m c ⟨t.val % 16 * 512 + r, by omega⟩
          ⟨t.val / 16 * 512 + j, by have := lt_N t; omega⟩ := by
  refine Eq.trans ?_ (congrFun (host_res m c) _)
  unfold iblk
  rw [View.read_apply]
  refine congrArg (V m c main_arg2 : FVec Ideal S8192x2048 .f32) (funext fun a => Fin.ext ?_)
  refine (win0_2.rect_emb_val t _ a).trans ?_
  have e := index2 t
  match a with
  | ⟨0, _⟩ => exact congrArg (· * 512 + r.val) e.1
  | ⟨1, _⟩ => exact congrArg (· * 512 + j.val) e.2

theorem block3 (t : Fin cfg0.N) (j : Fin 512) :
    (iblk m c 3 t : FVec Ideal S1x512 .f32) (ix2 0 j)
      = gate m c ⟨t.val / 16 * 512 + j, by have := lt_N t; omega⟩ := by
  refine Eq.trans ?_ (congrFun (host_gate m c) _)
  unfold iblk
  rw [View.read_apply]
  refine congrArg (V m c main_arg3 : FVec Ideal S1x12288 .f32) (funext fun a => Fin.ext ?_)
  refine (win0_3.rect_emb_val t _ a).trans ?_
  have e := index3 t
  match a with
  | ⟨0, _⟩ => show win0_3.index t 0 * 1 + 0 = 0; rw [e.1]
  | ⟨1, _⟩ => show win0_3.index t 1 * 512 + j.val = 4096 + (t.val / 16 * 512 + j.val); rw [e.2]; omega

/-! ## What the points compute -/

/-- The stored block is the weights' block. -/
theorem pay1_at (x : FVec Ideal S2048x512 .f32) (k : Fin 2048) (j : Fin 512) :
    (k0_pay1 x : FVec Ideal S2048x512 .bf16) (ix2 k j) = x (ix2 k j) := by
  pointwise [k0_pay1]

/-- The output block: the residual plus the gate times the product. -/
theorem pay2_at (x : FVec Ideal S512x2048 .bf16) (w : FVec Ideal S2048x512 .bf16) (y : FVec Ideal S512x512 .f32)
    (g : FVec Ideal S1x512 .f32) (r j : Fin 512) :
    (k0_pay2 x w y g : FVec Ideal S512x512 .f32) (ix2 r j)
      = y (ix2 r j) + g (ix2 0 j) * ∑ k, x (ix2 r k) * w (ix2 k j) := by
  pointwise [k0_pay2]

/-- The scratch holds, after every point, the weights' columns of that point's column block. -/
theorem scratch_at (k : Fin 2048) (j : Fin 512) : ∀ (n : ℕ) (h : n < cfg0.N),
    ((outsAt0 m c n h).2 : FVec Ideal S2048x512 .bf16) (ix2 k j)
      = w m c k ⟨n / 16 * 512 + j, by have := lt_N ⟨n, h⟩; dsimp only at this; omega⟩ := by
  intro n
  induction n with
  | zero =>
    intro h
    rw [scratch_first m c ⟨0, h⟩ rfl]
    exact (pay1_at _ k j).trans (block1 m c ⟨0, h⟩ k j)
  | succ n ih =>
    intro h
    by_cases h0 : (n + 1) % 16 = 0
    · rw [scratch_first m c ⟨n + 1, h⟩ h0]
      exact (pay1_at _ k j).trans (block1 m c ⟨n + 1, h⟩ k j)
    · rw [scratch_next m c ⟨n + 1, h⟩ h0]
      refine (ih (Nat.lt_of_succ_lt h)).trans ?_
      refine congrArg (w m c k) (Fin.ext ?_)
      show n / 16 * 512 + j.val = (n + 1) / 16 * 512 + j.val
      omega

/-- Point `t`'s output block. -/
theorem out_at (t : Fin cfg0.N) (r j : Fin 512) :
    ((outsAt0 m c t.val t.isLt).1 : FVec Ideal S512x512 .f32) (ix2 r j)
      = res m c ⟨t.val % 16 * 512 + r, by omega⟩
          ⟨t.val / 16 * 512 + j, by have := lt_N t; omega⟩
        + gate m c ⟨t.val / 16 * 512 + j, by have := lt_N t; omega⟩
        * ∑ k, x m c ⟨t.val % 16 * 512 + r, by omega⟩ k
          * w m c k ⟨t.val / 16 * 512 + j, by have := lt_N t; omega⟩ := by
  rw [out_point m c t]
  refine (pay2_at _ _ _ _ r j).trans ?_
  rw [block2 m c t r j, block3 m c t j]
  congr 2
  exact Finset.sum_congr rfl fun k _ => congrArg₂ (· * ·) (block0 m c t r k) (scratch_at m c k j t.val t.isLt)

/-- The result array at an entry of point `t`'s block. -/
theorem final_block (t : Fin cfg0.N) (r j : Fin 512) :
    ((dats m 0 c).arrAt 4 cfg0.N : FVec Ideal S8192x2048 .f32) (ix2 ⟨t.val % 16 * 512 + r, by omega⟩
        ⟨t.val / 16 * 512 + j, by have := lt_N t; omega⟩)
      = ((outsAt0 m c t.val t.isLt).1 : FVec Ideal S512x512 .f32) (ix2 r j) := by
  have hb := congrFun ((Value.blocks4 m c t (flush0_4 t)).trans (Value.flushed4 m c t)) (ix2 r j)
  rw [View.read_apply] at hb
  refine Eq.trans ?_ hb
  refine congrArg ((dats m 0 c).arrAt 4 cfg0.N : FVec Ideal S8192x2048 .f32) (funext fun a => Fin.ext ?_)
  refine Eq.symm ((win0_4.rect_emb_val t _ a).trans ?_)
  have e := index4 t
  match a with
  | ⟨0, _⟩ => exact congrArg (· * 512 + r.val) e.1
  | ⟨1, _⟩ => exact congrArg (· * 512 + j.val) e.2

/-- The result array: the residual plus the gate times the product of the mixed branches with the weights. -/
theorem result_at (r : Fin 8192) (j : Fin 2048) :
    ((dats m 0 c).arrAt 4 cfg0.N : FVec Ideal S8192x2048 .f32) (ix2 r j)
      = res m c r j
        + gate m c j
        * ∑ k, x m c r k
          * w m c k j := by
  have hr := r.isLt
  have hj := j.isLt
  let t : Fin cfg0.N := ⟨j.val / 512 * 16 + r.val / 512, by show _ < 64; omega⟩
  have e := (final_block m c t ⟨r.val % 512, by omega⟩ ⟨j.val % 512, by omega⟩).trans (out_at m c t _ _)
  have er : (⟨t.val % 16 * 512 + (⟨r.val % 512, by omega⟩ : Fin 512), by omega⟩ : Fin 8192) = r :=
    Fin.ext (by show (j.val / 512 * 16 + r.val / 512) % 16 * 512 + r.val % 512 = r.val; omega)
  have ej : (⟨t.val / 16 * 512 + (⟨j.val % 512, by omega⟩ : Fin 512), by have := lt_N t; dsimp only; omega⟩ : Fin 2048) = j :=
    Fin.ext (by show (j.val / 512 * 16 + r.val / 512) / 16 * 512 + j.val % 512 = j.val; omega)
  rw [er, ej] at e
  exact e

end Cert.OutProjIdeal.Points

end
-- ==== Proof.OutProj.Claims.lean ====
/- The output projection against the reference's: the same result at every entry. -/
module

public import proofs.«01_k».proof.Defs
public import proofs.«01_k».proof.Proof.OutProj.Value
public import proofs.«01_k».proof.Proof.Gen.OutProjReferenceIdeal.Run
public import Idealize.ShloMosaic.Lib.Quiescent

@[expose] public section

set_option maxRecDepth 16384

noncomputable section

open Idealize.ShloMosaic Idealize.ShloMosaic.TcCoe Idealize.SL.Sem

namespace Cert.OutProjReferenceIdeal.Term

open Cert.OutProjReferenceIdeal Cert.OutProjReferenceIdeal.Gen

/-- The reference's term at an entry. -/
theorem at_entry (x : FVec Ideal S8192x2048 .f32) (w : FVec Ideal S1x2048x2048 .f32) (y : FVec Ideal S8192x2048 .f32)
    (g : FVec Ideal S1x12288 .f32) (r : Fin 8192) (j : Fin 2048) :
    addf y (mulf (broadcastInDim S8192x2048 ![0, 1] bcast_S1x2048_S8192x2048_0_1
        (extractStridedSlice S1x2048 ![0, 4096] g slices_S1x12288_S1x2048_0_4096))
      (Host.dotGeneral dot_S8192x2048_S2048x2048_S8192x2048_1_0_0_1_n_n none x
        (shapeCast S2048x2048 w shapeCasts_S1x2048x2048_S2048x2048))) (ix2 r j)
      = y (ix2 r j) + g (ix2 0 ⟨4096 + j, by omega⟩) * ∑ k, x (ix2 r k) * w (ix3 0 k j) := by
  pointwise

end Cert.OutProjReferenceIdeal.Term

namespace Cert.OutProjIdeal.Points

/-- The reference's frame, with no counter left. -/
theorem reference_quiescent : @Cert.quiescent_OutProjReferenceIdeal OutProjReferenceIdeal.Gen.facts := fun m ρ _ =>
  (θ_run _ _ _).mono (fun r h => ⟨fun c => (h c).2, sem_eq_zero_of_no_sems (by decide) r.2⟩) (OutProjReferenceIdeal.Value.run m ρ)

/-- The two programs compute the same result. -/
theorem algebraic : @Cert.algebraic_OutProjIdeal_OutProjReferenceIdeal OutProjIdeal.Gen.facts OutProjReferenceIdeal.Gen.facts := by
  intro m ρ m' ρ' _ hargs
  refine ⟨fun c => (OutProjIdeal.Gen.dats m 0 c).arrAt 4 OutProjIdeal.cfg0.N, OutProjIdeal.Value.run_blocks m ρ, ?_⟩
  refine (θ_run _ _ _).mono (fun r h c => ⟨(h c).1.trans ?_, (h c).2⟩) (OutProjReferenceIdeal.Value.run m' ρ')
  obtain ⟨h0, h1, h2, h3⟩ := hargs c
  rw [h0, h1, h2, h3]
  funext i
  rw [show i = ix2 (i 0) (i 1) from funext fun k => by fin_cases k <;> rfl]
  exact (OutProjReferenceIdeal.Term.at_entry _ _ _ _ _ _).trans (result_at m c _ _).symm

end Cert.OutProjIdeal.Points

end
-- ==== Proof.HeadNorm.Heads.lean ====
/-
  One head's norm, and heads side by side: every head's entries are its own columns over the root of their mean square, times
  the gain.
-/
module

public import proofs.«01_k».proof.Proof.Gen.HeadNormIdeal.Value
public import proofs.«01_k».proof.Proof.InProj.Packed
public import Idealize.ShloMosaic.Lib.Pipeline.Value
public import Idealize.ShloMosaic.Lib.Pointwise
public import Idealize.ShloMosaic.Lib.Tactic

@[expose] public section

set_option maxRecDepth 16384

noncomputable section

namespace Cert.HeadNormIdeal.Points

open Cert.HeadNormIdeal Cert.HeadNormIdeal.Gen Idealize.ShloMosaic Idealize.ShloMosaic.TcCoe
open Cert.InProjIdeal.Points (row row_at slice_at piece_at)

/-- Entry `l` of the norm of a head `f` with gain `g`. -/
def unit (f : Fin 128 → EReal) (g : Fin 128 → EReal) (l : Fin 128) : EReal :=
  f l * Ideal.rsqrt (Ideal.div (∑ k, f k * f k) (Ideal.ofBits .f32 0x43000000#32) + Ideal.ofBits .f32 0x358637BD#32) * g l

/-- A block of one head's columns, normed. -/
def normed (x : FVec Ideal S256x128 .f32) (g : FVec Ideal S1x128 .f32) : FVec Ideal S256x128 .f32 :=
  mulf (mulf x (broadcastTo S256x128 (rsqrt (addf (divf
      (shapeCast S256x1 (multiReduction .add [1] S256 (mulf x x) 0x00000000#32 reduces_S256x128_S256 (.inl rfl) rfl)
        shapeCasts_S256_S256x1)
      (broadcast S256x1 (Scalar.ofBits .f32 0x43000000#32))) (broadcast S256x1 (Scalar.ofBits .f32 0x358637BD#32))))
      broadcasts_S256x1_S256x128)) (broadcastTo S256x128 g broadcasts_S1x128_S256x128)

theorem normed_at (x : FVec Ideal S256x128 .f32) (g : FVec Ideal S1x128 .f32) (r : Fin 256) (l : Fin 128) :
    normed x g (ix2 r l) = unit (fun k => x (ix2 r k)) (fun k => g (ix2 0 k)) l := by
  unfold unit
  pointwise [normed]

/-! ## Heads side by side -/

section Beside

variable {H N : ℕ}

theorem head_slices (hN : N = 128 * H) (h : Fin H) : Shape.Slices ⟨2, ![256, N]⟩ ![0, 128 * h.val] S256x128 :=
  ⟨rfl, fun a => by
    match a with
    | ⟨0, _⟩ => exact Nat.le_refl 256
    | ⟨1, _⟩ => show 128 * h.val + 128 ≤ N; omega⟩

/-- Head `h` of a block, normed. -/
def head (hN : N = 128 * H) (y : FVec Ideal ⟨2, ![256, N]⟩ .f32) (g : FVec Ideal S1x128 .f32) (h : Fin H) : FVec Ideal S256x128 .f32 :=
  normed (extractStridedSlice S256x128 ![0, 128 * h.val] y (head_slices hN h)) g

theorem head_at (hN : N = 128 * H) (y : FVec Ideal ⟨2, ![256, N]⟩ .f32) (g : FVec Ideal S1x128 .f32) (h : Fin H) (r : Fin 256)
    (l : Fin 128) : head hN y g h (ix2 r l) = unit (fun k => row y r (128 * h + k)) (fun k => g (ix2 0 k)) l :=
  (normed_at _ g r l).trans (congrArg (fun f => unit f (fun k => g (ix2 0 k)) l)
    (funext fun k => slice_at y (128 * h.val) (head_slices hN h) (by omega) r k))

/-- The heads `hs` of a block, normed. -/
def heads (hN : N = 128 * H) (hs : List (Fin H)) (y : FVec Ideal ⟨2, ![256, N]⟩ .f32) (g : FVec Ideal S1x128 .f32) :
    List ((s : Shape) × FVec Ideal s .f32) := hs.map fun h => ⟨S256x128, head hN y g h⟩

/-- All heads in order, side by side: column `j` is lane `j % 128` of head `j / 128`. -/
theorem heads_at (hN : N = 128 * H) (hs : List (Fin H)) (hlen : hs.length = H) (hget : ∀ k (h : k < hs.length), hs[k].val = k)
    (y : FVec Ideal ⟨2, ![256, N]⟩ .f32) (g : FVec Ideal S1x128 .f32)
    (hc : Shape.Concatenates ((heads hN hs y g).map (·.1)) ⟨2, ![256, N]⟩ 1) (r : Fin 256) (j : Fin N) :
    concatenate ⟨2, ![256, N]⟩ 1 (heads hN hs y g) hc (ix2 r j)
      = unit (fun k => row y r (128 * (j / 128) + k)) (fun k => g (ix2 0 k)) ⟨j % 128, Nat.mod_lt _ (by decide)⟩ := by
  have hj := j.isLt
  have hk : j.val / 128 < hs.length := by omega
  have hx : (heads hN hs y g)[j.val / 128]'(by rw [heads, List.length_map]; exact hk)
      = ⟨S256x128, head hN y g ⟨j.val / 128, by omega⟩⟩ := by
    simp only [heads, List.getElem_map]
    rw [show hs[j.val / 128] = ⟨j.val / 128, by omega⟩ from Fin.ext (hget _ hk)]
  refine (piece_at (w := 128) _ hc r j (j.val / 128) (by rw [heads, List.length_map]; exact hk) (128 * (j.val / 128)) _
    (row (head hN y g ⟨j.val / 128, by omega⟩) r) hx (hs.map fun _ => 128) ?_ ?_ (fun q => (row_at _ r _ q.isLt).symm) ?_).trans ?_
  · simp only [heads, List.map_map]
    rfl
  · rw [← List.map_take, List.map_const', List.sum_replicate, List.length_take, Nat.min_eq_left (Nat.le_of_lt hk)]
    exact Nat.mul_comm _ _
  · omega
  · have e : j.val - 128 * (j.val / 128) = j.val % 128 := by omega
    rw [e]
    exact (row_at _ r _ (Nat.mod_lt _ (by decide))).trans (head_at hN y g _ r _)

end Beside

/-- The heads' numbers. -/
def heads16 : List (Fin 16) := [0, 1, 2, 3, 4, 5, 6, 7, 8, 9, 10, 11, 12, 13, 14, 15]
def heads4 : List (Fin 4) := [0, 1, 2, 3]

/-- The queries' block and the keys', normed head by head. -/
def queries (y : FVec Ideal S256x2048 .f32) (g : FVec Ideal S1x128 .f32) : FVec Ideal S256x2048 .f32 :=
  concatenate S256x2048 1 (heads (N := 2048) rfl heads16 y g)
    concatenates_S256x128_S256x128_S256x128_S256x128_S256x128_S256x128_S256x128_S256x128_S256x128_S256x128_S256x128_S256x128_S256x128_S256x128_S256x128_S256x128_S256x2048_d1
def keys (y : FVec Ideal S256x512 .f32) (g : FVec Ideal S1x128 .f32) : FVec Ideal S256x512 .f32 :=
  concatenate S256x512 1 (heads (N := 512) rfl heads4 y g) concatenates_S256x128_S256x128_S256x128_S256x128_S256x512_d1

theorem queries_at (y : FVec Ideal S256x2048 .f32) (g : FVec Ideal S1x128 .f32) (r : Fin 256) (j : Fin 2048) :
    queries y g (ix2 r j)
      = unit (fun k => row y r (128 * (j / 128) + k)) (fun k => g (ix2 0 k)) ⟨j % 128, Nat.mod_lt _ (by decide)⟩ :=
  heads_at (N := 2048) rfl heads16 rfl (by decide) y g _ r j

theorem keys_at (y : FVec Ideal S256x512 .f32) (g : FVec Ideal S1x128 .f32) (r : Fin 256) (j : Fin 512) :
    keys y g (ix2 r j)
      = unit (fun k => row y r (128 * (j / 128) + k)) (fun k => g (ix2 0 k)) ⟨j % 128, Nat.mod_lt _ (by decide)⟩ :=
  heads_at (N := 512) rfl heads4 rfl (by decide) y g _ r j

/-! ## What a point stores -/

/-- The stored queries: the normed heads times the softmax's scale. -/
theorem stored_queries (y : FVec Ideal S256x2048 .f32) (g : FVec Ideal S1x128 .f32) :
    k0_pay24 y (k0_pay3 g) (k0_pay4 y g) (k0_pay5 y g) (k0_pay6 y g) (k0_pay9 (k0_pay3 g) (k0_pay7 y) (k0_pay8 y))
        (k0_pay10 y (k0_pay3 g)) (k0_pay11 y (k0_pay3 g)) (k0_pay12 y (k0_pay3 g)) (k0_pay13 y (k0_pay3 g)) (k0_pay14 y (k0_pay3 g))
        (k0_pay15 y (k0_pay3 g)) (k0_pay18 (k0_pay3 g) (k0_pay16 y) (k0_pay17 y)) (k0_pay19 y (k0_pay3 g)) (k0_pay20 y (k0_pay3 g))
        (k0_pay21 y (k0_pay3 g)) (k0_pay22 y) (k0_pay23 y)
      = truncf .bf16 (mulf (queries y (k0_pay3 g)) (broadcast S256x2048 (Scalar.ofBits .f32 0x3E0293EE#32))) bitsLt_bf16_f32 := rfl

/-- The stored keys: the normed heads. -/
theorem stored_keys (y : FVec Ideal S256x512 .f32) (g : FVec Ideal S1x128 .f32) :
    k0_pay1 y (k0_pay25 g) (k0_pay26 y g) (k0_pay27 y) (k0_pay28 y) = keys y (k0_pay25 g) := rfl

end Cert.HeadNormIdeal.Points

end
-- ==== Proof.HeadNorm.Value.lean ====
/-
  The heads' norm: every entry of the queries and of the keys is the packed rows' entry divided by the root of its head's mean
  square, times the gain, the arguments' arrays read at that row and column.
-/
module

public import proofs.«01_k».proof.Proof.HeadNorm.Heads
public import proofs.«01_k».proof.Proof.Gen.HeadNormIdeal.Value
public import Idealize.ShloMosaic.Lib.Pointwise
public import Idealize.ShloMosaic.Lib.Tactic
public import Idealize.ShloMosaic.Lib.Tactic.CleanTypes
public import Idealize.ShloMosaic.Lib.StableHlo.RunRead

@[expose] public section

set_option maxRecDepth 16384

noncomputable section

namespace Cert.HeadNormIdeal.Points

open Cert.HeadNormIdeal Cert.HeadNormIdeal.Gen Idealize.ShloMosaic Idealize.ShloMosaic.TcCoe StableHlo
open Cert.InProjIdeal.Points (row row_at)

variable (m : (ℓ : Loc nD τ sig) → Buf (Elt Ideal) ℓ) (c : Dev nD)

/-- Argument array `b` of device `c`. -/
abbrev arg (b : Ref sig .tc) : Buf (Elt Ideal) ((c : Thread nD τ).loc b) := m ((c : Thread nD τ).loc b)

/-- The packed rows and the two gains: the arguments' entries. -/
abbrev z (r : Fin 8192) (j : Fin 15360) : EReal := (arg m c main_arg0 : FVec Ideal S8192x15360 .f32) (ix2 r j)
abbrev gq (l : Fin 128) : EReal := (arg m c main_arg1 : FVec Ideal S1x128 .f32) (ix2 0 l)
abbrev gk (l : Fin 128) : EReal := (arg m c main_arg2 : FVec Ideal S1x128 .f32) (ix2 0 l)

theorem host_z : V m c main_arg0 = arg m c main_arg0 := V_main_arg0 m c

/-- The gains that the call reads are the arguments'. -/
theorem host_gq (l : Fin 128) : (V m c main_v1 : FVec Ideal S1x128 .f32) (ix2 0 l) = gq m c l := by
  dsimp only [V]; after_reads_simp; clean_types; pointwise

theorem host_gk (l : Fin 128) : (V m c main_v3 : FVec Ideal S1x128 .f32) (ix2 0 l) = gk m c l := by
  dsimp only [V]; after_reads_simp; clean_types; pointwise

/-! ## The windows' blocks: point `t` is row block `t` -/

theorem index0 : ∀ t : Fin grid0.N, win0_0.index t 0 = t.val ∧ win0_0.index t 1 = 5 := by decide +kernel
theorem index1 : ∀ t : Fin grid0.N, win0_1.index t 0 = t.val ∧ win0_1.index t 1 = 26 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel

theorem lt_N (t : Fin cfg0.N) : t.val < 32 := t.isLt

theorem block0 (t : Fin cfg0.N) (r : Fin 256) (j : Fin 2048) :
    (X0_0 m c t : FVec Ideal S256x2048 .f32) (ix2 r j)
      = z m c ⟨t.val * 256 + r, by have := lt_N t; omega⟩ ⟨10240 + j, by omega⟩ := by
  refine Eq.trans ?_ (congrFun (host_z m c) _)
  unfold X0_0 Pipeline.Window.fill
  rw [dif_pos (moved0_0 t _)]
  unfold iblk
  rw [View.read_apply]
  refine congrArg (V m c main_arg0 : FVec Ideal S8192x15360 .f32) (funext fun a => Fin.ext ?_)
  refine (win0_0.rect_emb_val t _ a).trans ?_
  have e := index0 t
  match a with
  | ⟨0, _⟩ => exact congrArg (· * 256 + r.val) e.1
  | ⟨1, _⟩ => show win0_0.index t 1 * 2048 + j.val = 10240 + j.val; rw [e.2]

theorem block1 (t : Fin cfg0.N) (r : Fin 256) (j : Fin 512) :
    (iblk m c 1 t : FVec Ideal S256x512 .f32) (ix2 r j)
      = z m c ⟨t.val * 256 + r, by have := lt_N t; omega⟩ ⟨13312 + j, by omega⟩ := by
  refine Eq.trans ?_ (congrFun (host_z m c) _)
  unfold iblk
  rw [View.read_apply]
  refine congrArg (V m c main_arg0 : FVec Ideal S8192x15360 .f32) (funext fun a => Fin.ext ?_)
  refine (win0_1.rect_emb_val t _ a).trans ?_
  have e := index1 t
  match a with
  | ⟨0, _⟩ => exact congrArg (· * 256 + r.val) e.1
  | ⟨1, _⟩ => show win0_1.index t 1 * 512 + j.val = 13312 + j.val; rw [e.2]

theorem block2 (t : Fin cfg0.N) (l : Fin 128) : (iblk m c 2 t : FVec Ideal S1x128 .f32) (ix2 0 l) = gq m c l := by
  refine Eq.trans ?_ (host_gq m c l)
  unfold iblk
  rw [View.read_apply]
  refine congrArg (V m c main_v1 : FVec Ideal S1x128 .f32) (funext fun a => Fin.ext ?_)
  refine (win0_2.rect_emb_val t _ a).trans ?_
  have e := index2 t
  match a with
  | ⟨0, _⟩ => show win0_2.index t 0 * 1 + 0 = 0; rw [e.1]
  | ⟨1, _⟩ => show win0_2.index t 1 * 128 + l.val = l.val; rw [e.2]; omega

theorem block3 (t : Fin cfg0.N) (l : Fin 128) : (iblk m c 3 t : FVec Ideal S1x128 .f32) (ix2 0 l) = gk m c l := by
  refine Eq.trans ?_ (host_gk m c l)
  unfold iblk
  rw [View.read_apply]
  refine congrArg (V m c main_v3 : FVec Ideal S1x128 .f32) (funext fun a => Fin.ext ?_)
  refine (win0_3.rect_emb_val t _ a).trans ?_
  have e := index3 t
  match a with
  | ⟨0, _⟩ => show win0_3.index t 0 * 1 + 0 = 0; rw [e.1]
  | ⟨1, _⟩ => show win0_3.index t 1 * 128 + l.val = l.val; rw [e.2]; omega

/-! ## What the points compute -/

theorem hz : (![0, 0] : Fin 2 → Nat) = fun _ => 0 := funext fun a => by fin_cases a <;> rfl

/-- The queries' block that a point stores. -/
abbrev storedQ (y : FVec Ideal S256x2048 .f32) (g : FVec Ideal S1x128 .f32) : FVec Ideal S256x2048 .bf16 :=
  truncf .bf16 (mulf (queries y (k0_pay3 g)) (broadcast S256x2048 (Scalar.ofBits .f32 0x3E0293EE#32))) bitsLt_bf16_f32

theorem out_queries (t : Fin cfg0.N) : (outsAt0 m c t).1 = storedQ (X0_0 m c t) (iblk m c 2 t) := by
  unfold outsAt0
  dsimp only
  unfold out0_A_4
  rw [View.read_writes_eq_canon _ _ _ (cover0_A_4 c _ _ _ _ _ _ _ _ _ _ _ _ _ _ _ _ _ _ _)]
  unfold kernelRun0_A
  dsimp only
  sl_unfold_words
  rw [View.canon_unit_zero hz]
  simp only [View.readAt_eq_ld, (hs0_0 t).read_unread, (hs0_2 t).read_unread,
    View.ld_unit_zero (S := S256x2048) hz, View.ld_unit_zero (S := S1x128) hz]
  exact stored_queries _ _

theorem out_keys (t : Fin cfg0.N) : (outsAt0 m c t).2.1 = keys (iblk m c 1 t) (k0_pay25 (iblk m c 3 t)) := by
  unfold outsAt0
  dsimp only
  unfold out0_A_5
  rw [View.read_writes_eq_canon _ _ _ (cover0_A_5 c _ _ _ _ _ _ _ _ _ _ _ _ _ _ _ _ _ _ _)]
  unfold kernelRun0_A
  dsimp only
  sl_unfold_words
  rw [View.canon_unit_zero hz]
  simp only [View.readAt_eq_ld, (hs0_1 t).read_unread, (hs0_3 t).read_unread,
    View.ld_unit_zero (S := S256x512) hz, View.ld_unit_zero (S := S1x128) hz]
  exact stored_keys _ _

theorem out_short (t : Fin cfg0.N) :
    (outsAt0 m c t).2.2 = truncf .bf16 (keys (iblk m c 1 t) (k0_pay25 (iblk m c 3 t))) bitsLt_bf16_f32 := by
  unfold outsAt0
  dsimp only
  unfold out0_A_6
  rw [View.read_writes_eq_canon _ _ _ (cover0_A_6 c _ _ _ _ _ _ _ _ _ _ _ _ _ _ _ _ _ _ _)]
  unfold kernelRun0_A
  dsimp only
  sl_unfold_words
  rw [View.canon_unit_zero hz]
  simp only [View.readAt_eq_ld, (hs0_1 t).read_unread, (hs0_3 t).read_unread,
    View.ld_unit_zero (S := S256x512) hz, View.ld_unit_zero (S := S1x128) hz]
  exact congrArg (fun x => truncf .bf16 x bitsLt_bf16_f32) (stored_keys _ _)

/-- The stored queries at an entry. -/
theorem storedQ_at (y : FVec Ideal S256x2048 .f32) (g : FVec Ideal S1x128 .f32) (r : Fin 256) (j : Fin 2048) :
    storedQ y g (ix2 r j) = unit (fun k => row y r (128 * (j / 128) + k)) (fun k => g (ix2 0 k)) ⟨j % 128, Nat.mod_lt _ (by decide)⟩
      * Ideal.ofBits .f32 0x3E0293EE#32 := by
  refine congrArg (fun a : EReal => a * Ideal.ofBits .f32 0x3E0293EE#32) ((queries_at y (k0_pay3 g) r j).trans ?_)
  rw [show k0_pay3 g = g from shapeCast_self _ _]

theorem keysG_at (y : FVec Ideal S256x512 .f32) (g : FVec Ideal S1x128 .f32) (r : Fin 256) (j : Fin 512) :
    keys y (k0_pay25 g) (ix2 r j)
      = unit (fun k => row y r (128 * (j / 128) + k)) (fun k => g (ix2 0 k)) ⟨j % 128, Nat.mod_lt _ (by decide)⟩ := by
  rw [show k0_pay25 g = g from shapeCast_self _ _]
  exact keys_at y g r j

/-- An entry of the normed queries, scaled, and of the normed keys. -/
abbrev query (r : Fin 8192) (j : Fin 2048) : EReal :=
  unit (fun k => z m c r ⟨10240 + (128 * (j / 128) + k), by omega⟩) (gq m c) ⟨j % 128, Nat.mod_lt _ (by decide)⟩
    * Ideal.ofBits .f32 0x3E0293EE#32
abbrev key (r : Fin 8192) (j : Fin 512) : EReal :=
  unit (fun k => z m c r ⟨13312 + (128 * (j / 128) + k), by omega⟩) (gk m c) ⟨j % 128, Nat.mod_lt _ (by decide)⟩

theorem queries_point (t : Fin cfg0.N) (r : Fin 256) (j : Fin 2048) :
    ((outsAt0 m c t).1 : FVec Ideal S256x2048 .bf16) (ix2 r j) = query m c ⟨t.val * 256 + r, by have := lt_N t; omega⟩ j := by
  rw [out_queries m c t]
  refine (storedQ_at _ _ r j).trans (congrArg₂ (fun f g => unit f g _ * Ideal.ofBits .f32 0x3E0293EE#32)
    (funext fun k => ?_) (funext fun k => block2 m c t k))
  exact (row_at (N := 2048) _ r (128 * (j / 128) + k) (by omega)).trans (block0 m c t r _)

theorem keys_point (t : Fin cfg0.N) (r : Fin 256) (j : Fin 512) :
    keys (iblk m c 1 t) (k0_pay25 (iblk m c 3 t)) (ix2 r j) = key m c ⟨t.val * 256 + r, by have := lt_N t; omega⟩ j := by
  refine (keysG_at _ _ r j).trans (congrArg₂ (fun f g => unit f g _) (funext fun k => ?_) (funext fun k => block3 m c t k))
  exact (row_at (N := 512) _ r (128 * (j / 128) + k) (by omega)).trans (block1 m c t r _)

/-! ## The result arrays -/

theorem queries_block (t : Fin cfg0.N) (r : Fin 256) (j : Fin 2048) :
    ((dats m 0 c).arrAt 4 cfg0.N : FVec Ideal S8192x2048 .bf16) (ix2 ⟨t.val * 256 + r, by have := lt_N t; omega⟩ j)
      = ((outsAt0 m c t).1 : FVec Ideal S256x2048 .bf16) (ix2 r j) := by
  have hb := congrFun ((Value.blocks4 m c t (flush0_4 t)).trans (Value.flushed4 m c t)) (ix2 r j)
  rw [View.read_apply] at hb
  refine Eq.trans ?_ hb
  refine congrArg ((dats m 0 c).arrAt 4 cfg0.N : FVec Ideal S8192x2048 .bf16) (funext fun a => Fin.ext ?_)
  refine Eq.symm ((win0_4.rect_emb_val t _ a).trans ?_)
  have e := index4 t
  match a with
  | ⟨0, _⟩ => exact congrArg (· * 256 + r.val) e.1
  | ⟨1, _⟩ => show win0_4.index t 1 * 2048 + j.val = j.val; rw [e.2]; omega

theorem keys_block (t : Fin cfg0.N) (r : Fin 256) (j : Fin 512) :
    ((dats m 0 c).arrAt 5 cfg0.N : FVec Ideal S8192x512 .f32) (ix2 ⟨t.val * 256 + r, by have := lt_N t; omega⟩ j)
      = ((outsAt0 m c t).2.1 : FVec Ideal S256x512 .f32) (ix2 r j) := by
  have hb := congrFun ((Value.blocks5 m c t (flush0_5 t)).trans (Value.flushed5 m c t)) (ix2 r j)
  rw [View.read_apply] at hb
  refine Eq.trans ?_ hb
  refine congrArg ((dats m 0 c).arrAt 5 cfg0.N : FVec Ideal S8192x512 .f32) (funext fun a => Fin.ext ?_)
  refine Eq.symm ((win0_5.rect_emb_val t _ a).trans ?_)
  have e := index5 t
  match a with
  | ⟨0, _⟩ => exact congrArg (· * 256 + r.val) e.1
  | ⟨1, _⟩ => show win0_5.index t 1 * 512 + j.val = j.val; rw [e.2]; omega

theorem short_block (t : Fin cfg0.N) (r : Fin 256) (j : Fin 512) :
    ((dats m 0 c).arrAt 6 cfg0.N : FVec Ideal S8192x512 .bf16) (ix2 ⟨t.val * 256 + r, by have := lt_N t; omega⟩ j)
      = ((outsAt0 m c t).2.2 : FVec Ideal S256x512 .bf16) (ix2 r j) := by
  have hb := congrFun ((Value.blocks6 m c t (flush0_6 t)).trans (Value.flushed6 m c t)) (ix2 r j)
  rw [View.read_apply] at hb
  refine Eq.trans ?_ hb
  refine congrArg ((dats m 0 c).arrAt 6 cfg0.N : FVec Ideal S8192x512 .bf16) (funext fun a => Fin.ext ?_)
  refine Eq.symm ((win0_6.rect_emb_val t _ a).trans ?_)
  have e := index6 t
  match a with
  | ⟨0, _⟩ => exact congrArg (· * 256 + r.val) e.1
  | ⟨1, _⟩ => show win0_6.index t 1 * 512 + j.val = j.val; rw [e.2]; omega

/-- Row `r` is row `r % 256` of point `r / 256`. -/
abbrev point (r : Fin 8192) : Fin cfg0.N := ⟨r.val / 256, by show _ < 32; omega⟩
theorem row_eq (r : Fin 8192) :
    (⟨(point r).val * 256 + (⟨r.val % 256, by omega⟩ : Fin 256), by have := lt_N (point r); omega⟩ : Fin 8192) = r :=
  Fin.ext (by show r.val / 256 * 256 + r.val % 256 = r.val; omega)

theorem queries_result (r : Fin 8192) (j : Fin 2048) :
    ((dats m 0 c).arrAt 4 cfg0.N : FVec Ideal S8192x2048 .bf16) (ix2 r j) = query m c r j := by
  have e := (queries_block m c (point r) ⟨r.val % 256, by omega⟩ j).trans (queries_point m c (point r) _ j)
  rwa [row_eq r] at e

theorem keys_result (r : Fin 8192) (j : Fin 512) :
    ((dats m 0 c).arrAt 5 cfg0.N : FVec Ideal S8192x512 .f32) (ix2 r j) = key m c r j := by
  have e := (keys_block m c (point r) ⟨r.val % 256, by omega⟩ j).trans
    ((congrFun (out_keys m c (point r)) _).trans (keys_point m c (point r) _ j))
  rwa [row_eq r] at e

theorem short_result (r : Fin 8192) (j : Fin 512) :
    ((dats m 0 c).arrAt 6 cfg0.N : FVec Ideal S8192x512 .bf16) (ix2 r j) = key m c r j := by
  have e := (short_block m c (point r) ⟨r.val % 256, by omega⟩ j).trans
    ((congrFun (out_short m c (point r)) _).trans (keys_point m c (point r) _ j))
  rwa [row_eq r] at e

end Cert.HeadNormIdeal.Points

end
-- ==== Proof.HeadNorm.Claims.lean ====
/- The heads' norm against the reference's: the same results at every entry. -/
module

public import proofs.«01_k».proof.Defs
public import proofs.«01_k».proof.Proof.HeadNorm.Value
public import proofs.«01_k».proof.Proof.Gen.HeadNormReferenceIdeal.Run
public import Idealize.ShloMosaic.Lib.Quiescent

@[expose] public section

set_option maxRecDepth 16384

noncomputable section

open Idealize.ShloMosaic Idealize.ShloMosaic.TcCoe Idealize.SL.Sem

namespace Cert.HeadNormReferenceIdeal.Term

open Cert.HeadNormReferenceIdeal Cert.HeadNormReferenceIdeal.Gen
open Cert.HeadNormIdeal.Points (unit)

/-- A reshape between rows of `H` heads and rows of `N` columns, read at an index: lane `l` of head `h` is column `h * 128 + l`. -/
theorem by_head_at {n H N : ℕ} (x : FVec Ideal ⟨2, ![n, N]⟩ .f32) (hN : N = H * 128)
    (hc : Shape.ShapeCasts ⟨2, ![n, N]⟩ ⟨3, ![n, H, 128]⟩) (r : Fin n) (h : Fin H) (l : Fin 128) (j : Fin N)
    (hj : j.val = 128 * h.val + l.val) : shapeCast ⟨3, ![n, H, 128]⟩ x hc (ix3 r h l) = x (ix2 r j) :=
  shapeCast_apply x hc _ _ (by
    rw [Shape.rowMajor_val_two, Shape.rowMajor_val_three]
    show r.val * N + j.val = (r.val * H + h.val) * 128 + l.val
    rw [hj, hN, Nat.add_mul, Nat.mul_assoc, Nat.mul_comm 128]
    omega)

theorem by_column_at {n H N : ℕ} (x : FVec Ideal ⟨3, ![n, H, 128]⟩ .f32) (hN : N = H * 128)
    (hc : Shape.ShapeCasts ⟨3, ![n, H, 128]⟩ ⟨2, ![n, N]⟩) (r : Fin n) (h : Fin H) (l : Fin 128) (j : Fin N)
    (hj : j.val = 128 * h.val + l.val) : shapeCast ⟨2, ![n, N]⟩ x hc (ix2 r j) = x (ix3 r h l) :=
  shapeCast_apply x hc _ _ (by
    rw [Shape.rowMajor_val_two, Shape.rowMajor_val_three]
    show (r.val * H + h.val) * 128 + l.val = r.val * N + j.val
    rw [hj, hN, Nat.add_mul, Nat.mul_assoc, Nat.mul_comm 128]
    omega)

variable (z : FVec Ideal S8192x15360 .f32) (g : FVec Ideal S1x128 .f32)

/-- The queries and the keys by head. -/
abbrev queries : FVec Ideal S8192x16x128 .f32 :=
  shapeCast _ (extractStridedSlice S8192x2048 ![0, 10240] z slices_S8192x15360_S8192x2048_0_10240) shapeCasts_S8192x2048_S8192x16x128
abbrev keys : FVec Ideal S8192x4x128 .f32 :=
  shapeCast _ (extractStridedSlice S8192x512 ![0, 13312] z slices_S8192x15360_S8192x512_0_13312) shapeCasts_S8192x512_S8192x4x128

/-- The reference's norm of each head. -/
abbrev normed16 (x : FVec Ideal S8192x16x128 .f32) : FVec Ideal S8192x16x128 .f32 :=
  mulf (mulf x (broadcastInDim S8192x16x128 ![0, 1, 2] bcast_S8192x16x1_S8192x16x128_0_1_2
      (Host.rsqrt (addf (Host.divf (broadcastInDim S8192x16x1 ![0, 1] bcast_S8192x16_S8192x16x1_0_1
        (Host.reduceAdd (mulf x x) (constant S_ .f32 0x00000000#32) reducesTo_S8192x16x128_S8192x16_d2 h_S_))
        (broadcastInDim S8192x16x1 ![] bcast_S_S8192x16x1 (constant S_ .f32 0x43000000#32)))
        (broadcastInDim S8192x16x1 ![] bcast_S_S8192x16x1 (constant S_ .f32 0x358637BD#32))))))
    (broadcastInDim S8192x16x128 ![0, 1, 2] bcast_S1x1x128_S8192x16x128_0_1_2
      (broadcastInDim S1x1x128 ![2] bcast_S128_S1x1x128_2 (shapeCast _ g shapeCasts_S1x128_S128)))
abbrev normed4 (x : FVec Ideal S8192x4x128 .f32) : FVec Ideal S8192x4x128 .f32 :=
  mulf (mulf x (broadcastInDim S8192x4x128 ![0, 1, 2] bcast_S8192x4x1_S8192x4x128_0_1_2
      (Host.rsqrt (addf (Host.divf (broadcastInDim S8192x4x1 ![0, 1] bcast_S8192x4_S8192x4x1_0_1
        (Host.reduceAdd (mulf x x) (constant S_ .f32 0x00000000#32) reducesTo_S8192x4x128_S8192x4_d2 h_S_))
        (broadcastInDim S8192x4x1 ![] bcast_S_S8192x4x1 (constant S_ .f32 0x43000000#32)))
        (broadcastInDim S8192x4x1 ![] bcast_S_S8192x4x1 (constant S_ .f32 0x358637BD#32))))))
    (broadcastInDim S8192x4x128 ![0, 1, 2] bcast_S1x1x128_S8192x4x128_0_1_2
      (broadcastInDim S1x1x128 ![2] bcast_S128_S1x1x128_2 (shapeCast _ g shapeCasts_S1x128_S128)))

theorem normed16_at (x : FVec Ideal S8192x16x128 .f32) (r : Fin 8192) (h : Fin 16) (l : Fin 128) :
    normed16 g x (ix3 r h l) = unit (fun k => x (ix3 r h k)) (fun k => g (ix2 0 k)) l := by
  unfold unit
  pointwise

theorem normed4_at (x : FVec Ideal S8192x4x128 .f32) (r : Fin 8192) (h : Fin 4) (l : Fin 128) :
    normed4 g x (ix3 r h l) = unit (fun k => x (ix3 r h k)) (fun k => g (ix2 0 k)) l := by
  unfold unit
  pointwise

/-- Column `10240 + j` and column `13312 + j` of the packed rows. -/
theorem slice_q (r : Fin 8192) (j : Fin 2048) :
    (extractStridedSlice S8192x2048 ![0, 10240] z slices_S8192x15360_S8192x2048_0_10240 : FVec Ideal S8192x2048 .f32) (ix2 r j)
      = z (ix2 r ⟨10240 + j, by omega⟩) := by
  pointwise
theorem slice_k (r : Fin 8192) (j : Fin 512) :
    (extractStridedSlice S8192x512 ![0, 13312] z slices_S8192x15360_S8192x512_0_13312 : FVec Ideal S8192x512 .f32) (ix2 r j)
      = z (ix2 r ⟨13312 + j, by omega⟩) := by
  pointwise

theorem split (j : ℕ) : j = 128 * (j / 128) + j % 128 := by omega

/-- The reference's queries at an entry, and its keys. -/
theorem queries_at (r : Fin 8192) (j : Fin 2048) :
    (truncf .bf16 (mulf (shapeCast _ (normed16 g (queries z)) shapeCasts_S8192x16x128_S8192x2048)
        (broadcastInDim S8192x2048 ![] bcast_S_S8192x2048 (constant S_ .f32 0x3E0293EE#32))) bitsLt_bf16_f32
        : FVec Ideal S8192x2048 .bf16) (ix2 r j)
      = unit (fun k => z (ix2 r ⟨10240 + (128 * (j / 128) + k), by omega⟩)) (fun k => g (ix2 0 k)) ⟨j % 128, Nat.mod_lt _ (by decide)⟩
        * Ideal.ofBits .f32 0x3E0293EE#32 := by
  refine congrArg (fun a : EReal => a * Ideal.ofBits .f32 0x3E0293EE#32) ?_
  refine (by_column_at (H := 16) (N := 2048) _ rfl _ r ⟨j / 128, by omega⟩ ⟨j % 128, by omega⟩ j (split j)).trans ?_
  refine (normed16_at g _ r _ _).trans (congrArg (fun f => unit f _ _) (funext fun k => ?_))
  exact (by_head_at (H := 16) (N := 2048) _ rfl _ r ⟨j / 128, by omega⟩ k ⟨128 * (j / 128) + k, by omega⟩ rfl).trans (slice_q z r _)

theorem keys_at (r : Fin 8192) (j : Fin 512) :
    (shapeCast S8192x512 (normed4 g (keys z)) shapeCasts_S8192x4x128_S8192x512 : FVec Ideal S8192x512 .f32) (ix2 r j)
      = unit (fun k => z (ix2 r ⟨13312 + (128 * (j / 128) + k), by omega⟩)) (fun k => g (ix2 0 k))
          ⟨j % 128, Nat.mod_lt _ (by decide)⟩ := by
  refine (by_column_at (H := 4) (N := 512) _ rfl _ r ⟨j / 128, by omega⟩ ⟨j % 128, by omega⟩ j (split j)).trans ?_
  refine (normed4_at g _ r _ _).trans (congrArg (fun f => unit f _ _) (funext fun k => ?_))
  exact (by_head_at (H := 4) (N := 512) _ rfl _ r ⟨j / 128, by omega⟩ k ⟨128 * (j / 128) + k, by omega⟩ rfl).trans (slice_k z r _)

end Cert.HeadNormReferenceIdeal.Term

namespace Cert.HeadNormIdeal.Points

/-- The reference's frame, with no counter left. -/
theorem reference_quiescent : @Cert.quiescent_HeadNormReferenceIdeal HeadNormReferenceIdeal.Gen.facts := fun m ρ _ =>
  (θ_run _ _ _).mono (fun r h => ⟨fun c => (h c).2.2.2, sem_eq_zero_of_no_sems (by decide) r.2⟩) (HeadNormReferenceIdeal.Value.run m ρ)

/-- The two programs compute the same results. -/
theorem algebraic : @Cert.algebraic_HeadNormIdeal_HeadNormReferenceIdeal HeadNormIdeal.Gen.facts HeadNormReferenceIdeal.Gen.facts := by
  intro m ρ m' ρ' _ hargs
  refine ⟨fun c => (HeadNormIdeal.Gen.dats m 0 c).arrAt 4 HeadNormIdeal.cfg0.N,
    fun c => (HeadNormIdeal.Gen.dats m 0 c).arrAt 5 HeadNormIdeal.cfg0.N,
    fun c => (HeadNormIdeal.Gen.dats m 0 c).arrAt 6 HeadNormIdeal.cfg0.N, HeadNormIdeal.Value.run_blocks m ρ, ?_⟩
  refine (θ_run _ _ _).mono (fun r h c => ⟨(h c).1.trans ?_, (h c).2.1.trans ?_, (h c).2.2.1.trans ?_, (h c).2.2.2⟩)
    (HeadNormReferenceIdeal.Value.run m' ρ')
  all_goals
    obtain ⟨h0, h1, h2⟩ := hargs c
    rw [h0]
    funext i
    rw [show i = ix2 (i 0) (i 1) from funext fun k => by fin_cases k <;> rfl]
  · rw [h1]
    exact (HeadNormReferenceIdeal.Term.queries_at _ _ _ _).trans (queries_result m c _ _).symm
  · rw [h2]
    exact (HeadNormReferenceIdeal.Term.keys_at _ _ _ _).trans (keys_result m c _ _).symm
  · rw [h2]
    exact (HeadNormReferenceIdeal.Term.keys_at _ _ _ _).trans (short_result m c _ _).symm

end Cert.HeadNormIdeal.Points

end
-- ==== Proof.HeadNormSample.Value.lean ====
/-
  The sample group's heads' norm: every entry of the queries and of the keys is the packed rows' entry divided by the root of
  its head's mean square, times the gain, the arguments' arrays read at that row and column.
-/
module

public import proofs.«01_k».proof.Proof.HeadNorm.Heads
public import proofs.«01_k».proof.Proof.Gen.HeadNormSampleIdeal.Value
public import Idealize.ShloMosaic.Lib.Pointwise
public import Idealize.ShloMosaic.Lib.Tactic
public import Idealize.ShloMosaic.Lib.Tactic.CleanTypes
public import Idealize.ShloMosaic.Lib.StableHlo.RunRead

@[expose] public section

set_option maxRecDepth 16384

noncomputable section

namespace Cert.HeadNormSampleIdeal.Points

open Cert.HeadNormSampleIdeal Cert.HeadNormSampleIdeal.Gen Idealize.ShloMosaic Idealize.ShloMosaic.TcCoe StableHlo
open Cert.InProjIdeal.Points (row row_at)
open Cert.HeadNormIdeal.Points (unit queries keys queries_at keys_at stored_queries stored_keys)

variable (m : (ℓ : Loc nD τ sig) → Buf (Elt Ideal) ℓ) (c : Dev nD)

/-- Argument array `b` of device `c`. -/
abbrev arg (b : Ref sig .tc) : Buf (Elt Ideal) ((c : Thread nD τ).loc b) := m ((c : Thread nD τ).loc b)

/-- The packed rows and the two gains: the arguments' entries. -/
abbrev z (r : Fin 1024) (j : Fin 15360) : EReal := (arg m c main_arg0 : FVec Ideal S1024x15360 .f32) (ix2 r j)
abbrev gq (l : Fin 128) : EReal := (arg m c main_arg1 : FVec Ideal S1x128 .f32) (ix2 0 l)
abbrev gk (l : Fin 128) : EReal := (arg m c main_arg2 : FVec Ideal S1x128 .f32) (ix2 0 l)

theorem host_z : V m c main_arg0 = arg m c main_arg0 := V_main_arg0 m c

/-- The gains that the call reads are the arguments'. -/
theorem host_gq (l : Fin 128) : (V m c main_v1 : FVec Ideal S1x128 .f32) (ix2 0 l) = gq m c l := by
  dsimp only [V]; after_reads_simp; clean_types; pointwise

theorem host_gk (l : Fin 128) : (V m c main_v3 : FVec Ideal S1x128 .f32) (ix2 0 l) = gk m c l := by
  dsimp only [V]; after_reads_simp; clean_types; pointwise

/-! ## The windows' blocks: point `t` is row block `t` -/

theorem index0 : ∀ t : Fin grid0.N, win0_0.index t 0 = t.val ∧ win0_0.index t 1 = 5 := by decide +kernel
theorem index1 : ∀ t : Fin grid0.N, win0_1.index t 0 = t.val ∧ win0_1.index t 1 = 26 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel

theorem lt_N (t : Fin cfg0.N) : t.val < 4 := t.isLt

theorem block0 (t : Fin cfg0.N) (r : Fin 256) (j : Fin 2048) :
    (X0_0 m c t : FVec Ideal S256x2048 .f32) (ix2 r j)
      = z m c ⟨t.val * 256 + r, by have := lt_N t; omega⟩ ⟨10240 + j, by omega⟩ := by
  refine Eq.trans ?_ (congrFun (host_z m c) _)
  unfold X0_0 Pipeline.Window.fill
  rw [dif_pos (moved0_0 t _)]
  unfold iblk
  rw [View.read_apply]
  refine congrArg (V m c main_arg0 : FVec Ideal S1024x15360 .f32) (funext fun a => Fin.ext ?_)
  refine (win0_0.rect_emb_val t _ a).trans ?_
  have e := index0 t
  match a with
  | ⟨0, _⟩ => exact congrArg (· * 256 + r.val) e.1
  | ⟨1, _⟩ => show win0_0.index t 1 * 2048 + j.val = 10240 + j.val; rw [e.2]

theorem block1 (t : Fin cfg0.N) (r : Fin 256) (j : Fin 512) :
    (iblk m c 1 t : FVec Ideal S256x512 .f32) (ix2 r j)
      = z m c ⟨t.val * 256 + r, by have := lt_N t; omega⟩ ⟨13312 + j, by omega⟩ := by
  refine Eq.trans ?_ (congrFun (host_z m c) _)
  unfold iblk
  rw [View.read_apply]
  refine congrArg (V m c main_arg0 : FVec Ideal S1024x15360 .f32) (funext fun a => Fin.ext ?_)
  refine (win0_1.rect_emb_val t _ a).trans ?_
  have e := index1 t
  match a with
  | ⟨0, _⟩ => exact congrArg (· * 256 + r.val) e.1
  | ⟨1, _⟩ => show win0_1.index t 1 * 512 + j.val = 13312 + j.val; rw [e.2]

theorem block2 (t : Fin cfg0.N) (l : Fin 128) : (iblk m c 2 t : FVec Ideal S1x128 .f32) (ix2 0 l) = gq m c l := by
  refine Eq.trans ?_ (host_gq m c l)
  unfold iblk
  rw [View.read_apply]
  refine congrArg (V m c main_v1 : FVec Ideal S1x128 .f32) (funext fun a => Fin.ext ?_)
  refine (win0_2.rect_emb_val t _ a).trans ?_
  have e := index2 t
  match a with
  | ⟨0, _⟩ => show win0_2.index t 0 * 1 + 0 = 0; rw [e.1]
  | ⟨1, _⟩ => show win0_2.index t 1 * 128 + l.val = l.val; rw [e.2]; omega

theorem block3 (t : Fin cfg0.N) (l : Fin 128) : (iblk m c 3 t : FVec Ideal S1x128 .f32) (ix2 0 l) = gk m c l := by
  refine Eq.trans ?_ (host_gk m c l)
  unfold iblk
  rw [View.read_apply]
  refine congrArg (V m c main_v3 : FVec Ideal S1x128 .f32) (funext fun a => Fin.ext ?_)
  refine (win0_3.rect_emb_val t _ a).trans ?_
  have e := index3 t
  match a with
  | ⟨0, _⟩ => show win0_3.index t 0 * 1 + 0 = 0; rw [e.1]
  | ⟨1, _⟩ => show win0_3.index t 1 * 128 + l.val = l.val; rw [e.2]; omega

/-! ## What the points compute -/

theorem hz : (![0, 0] : Fin 2 → Nat) = fun _ => 0 := funext fun a => by fin_cases a <;> rfl

/-- The queries' block that a point stores. -/
abbrev storedQ (y : FVec Ideal S256x2048 .f32) (g : FVec Ideal S1x128 .f32) : FVec Ideal S256x2048 .bf16 :=
  truncf .bf16 (mulf (queries y (k0_pay3 g)) (broadcast S256x2048 (Scalar.ofBits .f32 0x3E0293EE#32))) bitsLt_bf16_f32

theorem out_queries (t : Fin cfg0.N) : (outsAt0 m c t).1 = storedQ (X0_0 m c t) (iblk m c 2 t) := by
  unfold outsAt0
  dsimp only
  unfold out0_A_4
  rw [View.read_writes_eq_canon _ _ _ (cover0_A_4 c _ _ _ _ _ _ _ _ _ _ _ _ _ _ _ _ _ _ _)]
  unfold kernelRun0_A
  dsimp only
  sl_unfold_words
  rw [View.canon_unit_zero hz]
  simp only [View.readAt_eq_ld, (hs0_0 t).read_unread, (hs0_2 t).read_unread,
    View.ld_unit_zero (S := S256x2048) hz, View.ld_unit_zero (S := S1x128) hz]
  exact stored_queries _ _

theorem out_keys (t : Fin cfg0.N) : (outsAt0 m c t).2.1 = keys (iblk m c 1 t) (k0_pay25 (iblk m c 3 t)) := by
  unfold outsAt0
  dsimp only
  unfold out0_A_5
  rw [View.read_writes_eq_canon _ _ _ (cover0_A_5 c _ _ _ _ _ _ _ _ _ _ _ _ _ _ _ _ _ _ _)]
  unfold kernelRun0_A
  dsimp only
  sl_unfold_words
  rw [View.canon_unit_zero hz]
  simp only [View.readAt_eq_ld, (hs0_1 t).read_unread, (hs0_3 t).read_unread,
    View.ld_unit_zero (S := S256x512) hz, View.ld_unit_zero (S := S1x128) hz]
  exact stored_keys _ _

theorem out_short (t : Fin cfg0.N) :
    (outsAt0 m c t).2.2 = truncf .bf16 (keys (iblk m c 1 t) (k0_pay25 (iblk m c 3 t))) bitsLt_bf16_f32 := by
  unfold outsAt0
  dsimp only
  unfold out0_A_6
  rw [View.read_writes_eq_canon _ _ _ (cover0_A_6 c _ _ _ _ _ _ _ _ _ _ _ _ _ _ _ _ _ _ _)]
  unfold kernelRun0_A
  dsimp only
  sl_unfold_words
  rw [View.canon_unit_zero hz]
  simp only [View.readAt_eq_ld, (hs0_1 t).read_unread, (hs0_3 t).read_unread,
    View.ld_unit_zero (S := S256x512) hz, View.ld_unit_zero (S := S1x128) hz]
  exact congrArg (fun x => truncf .bf16 x bitsLt_bf16_f32) (stored_keys _ _)

/-- The stored queries at an entry. -/
theorem storedQ_at (y : FVec Ideal S256x2048 .f32) (g : FVec Ideal S1x128 .f32) (r : Fin 256) (j : Fin 2048) :
    storedQ y g (ix2 r j) = unit (fun k => row y r (128 * (j / 128) + k)) (fun k => g (ix2 0 k)) ⟨j % 128, Nat.mod_lt _ (by decide)⟩
      * Ideal.ofBits .f32 0x3E0293EE#32 := by
  refine congrArg (fun a : EReal => a * Ideal.ofBits .f32 0x3E0293EE#32) ((queries_at y (k0_pay3 g) r j).trans ?_)
  rw [show k0_pay3 g = g from shapeCast_self _ _]

theorem keysG_at (y : FVec Ideal S256x512 .f32) (g : FVec Ideal S1x128 .f32) (r : Fin 256) (j : Fin 512) :
    keys y (k0_pay25 g) (ix2 r j)
      = unit (fun k => row y r (128 * (j / 128) + k)) (fun k => g (ix2 0 k)) ⟨j % 128, Nat.mod_lt _ (by decide)⟩ := by
  rw [show k0_pay25 g = g from shapeCast_self _ _]
  exact keys_at y g r j

/-- An entry of the normed queries, scaled, and of the normed keys. -/
abbrev query (r : Fin 1024) (j : Fin 2048) : EReal :=
  unit (fun k => z m c r ⟨10240 + (128 * (j / 128) + k), by omega⟩) (gq m c) ⟨j % 128, Nat.mod_lt _ (by decide)⟩
    * Ideal.ofBits .f32 0x3E0293EE#32
abbrev key (r : Fin 1024) (j : Fin 512) : EReal :=
  unit (fun k => z m c r ⟨13312 + (128 * (j / 128) + k), by omega⟩) (gk m c) ⟨j % 128, Nat.mod_lt _ (by decide)⟩

theorem queries_point (t : Fin cfg0.N) (r : Fin 256) (j : Fin 2048) :
    ((outsAt0 m c t).1 : FVec Ideal S256x2048 .bf16) (ix2 r j) = query m c ⟨t.val * 256 + r, by have := lt_N t; omega⟩ j := by
  rw [out_queries m c t]
  refine (storedQ_at _ _ r j).trans (congrArg₂ (fun f g => unit f g _ * Ideal.ofBits .f32 0x3E0293EE#32)
    (funext fun k => ?_) (funext fun k => block2 m c t k))
  exact (row_at (N := 2048) _ r (128 * (j / 128) + k) (by omega)).trans (block0 m c t r _)

theorem keys_point (t : Fin cfg0.N) (r : Fin 256) (j : Fin 512) :
    keys (iblk m c 1 t) (k0_pay25 (iblk m c 3 t)) (ix2 r j) = key m c ⟨t.val * 256 + r, by have := lt_N t; omega⟩ j := by
  refine (keysG_at _ _ r j).trans (congrArg₂ (fun f g => unit f g _) (funext fun k => ?_) (funext fun k => block3 m c t k))
  exact (row_at (N := 512) _ r (128 * (j / 128) + k) (by omega)).trans (block1 m c t r _)

/-! ## The result arrays -/

theorem queries_block (t : Fin cfg0.N) (r : Fin 256) (j : Fin 2048) :
    ((dats m 0 c).arrAt 4 cfg0.N : FVec Ideal S1024x2048 .bf16) (ix2 ⟨t.val * 256 + r, by have := lt_N t; omega⟩ j)
      = ((outsAt0 m c t).1 : FVec Ideal S256x2048 .bf16) (ix2 r j) := by
  have hb := congrFun ((Value.blocks4 m c t (flush0_4 t)).trans (Value.flushed4 m c t)) (ix2 r j)
  rw [View.read_apply] at hb
  refine Eq.trans ?_ hb
  refine congrArg ((dats m 0 c).arrAt 4 cfg0.N : FVec Ideal S1024x2048 .bf16) (funext fun a => Fin.ext ?_)
  refine Eq.symm ((win0_4.rect_emb_val t _ a).trans ?_)
  have e := index4 t
  match a with
  | ⟨0, _⟩ => exact congrArg (· * 256 + r.val) e.1
  | ⟨1, _⟩ => show win0_4.index t 1 * 2048 + j.val = j.val; rw [e.2]; omega

theorem keys_block (t : Fin cfg0.N) (r : Fin 256) (j : Fin 512) :
    ((dats m 0 c).arrAt 5 cfg0.N : FVec Ideal S1024x512 .f32) (ix2 ⟨t.val * 256 + r, by have := lt_N t; omega⟩ j)
      = ((outsAt0 m c t).2.1 : FVec Ideal S256x512 .f32) (ix2 r j) := by
  have hb := congrFun ((Value.blocks5 m c t (flush0_5 t)).trans (Value.flushed5 m c t)) (ix2 r j)
  rw [View.read_apply] at hb
  refine Eq.trans ?_ hb
  refine congrArg ((dats m 0 c).arrAt 5 cfg0.N : FVec Ideal S1024x512 .f32) (funext fun a => Fin.ext ?_)
  refine Eq.symm ((win0_5.rect_emb_val t _ a).trans ?_)
  have e := index5 t
  match a with
  | ⟨0, _⟩ => exact congrArg (· * 256 + r.val) e.1
  | ⟨1, _⟩ => show win0_5.index t 1 * 512 + j.val = j.val; rw [e.2]; omega

theorem short_block (t : Fin cfg0.N) (r : Fin 256) (j : Fin 512) :
    ((dats m 0 c).arrAt 6 cfg0.N : FVec Ideal S1024x512 .bf16) (ix2 ⟨t.val * 256 + r, by have := lt_N t; omega⟩ j)
      = ((outsAt0 m c t).2.2 : FVec Ideal S256x512 .bf16) (ix2 r j) := by
  have hb := congrFun ((Value.blocks6 m c t (flush0_6 t)).trans (Value.flushed6 m c t)) (ix2 r j)
  rw [View.read_apply] at hb
  refine Eq.trans ?_ hb
  refine congrArg ((dats m 0 c).arrAt 6 cfg0.N : FVec Ideal S1024x512 .bf16) (funext fun a => Fin.ext ?_)
  refine Eq.symm ((win0_6.rect_emb_val t _ a).trans ?_)
  have e := index6 t
  match a with
  | ⟨0, _⟩ => exact congrArg (· * 256 + r.val) e.1
  | ⟨1, _⟩ => show win0_6.index t 1 * 512 + j.val = j.val; rw [e.2]; omega

/-- Row `r` is row `r % 256` of point `r / 256`. -/
abbrev point (r : Fin 1024) : Fin cfg0.N := ⟨r.val / 256, by show _ < 4; omega⟩
theorem row_eq (r : Fin 1024) :
    (⟨(point r).val * 256 + (⟨r.val % 256, by omega⟩ : Fin 256), by have := lt_N (point r); omega⟩ : Fin 1024) = r :=
  Fin.ext (by show r.val / 256 * 256 + r.val % 256 = r.val; omega)

theorem queries_result (r : Fin 1024) (j : Fin 2048) :
    ((dats m 0 c).arrAt 4 cfg0.N : FVec Ideal S1024x2048 .bf16) (ix2 r j) = query m c r j := by
  have e := (queries_block m c (point r) ⟨r.val % 256, by omega⟩ j).trans (queries_point m c (point r) _ j)
  rwa [row_eq r] at e

theorem keys_result (r : Fin 1024) (j : Fin 512) :
    ((dats m 0 c).arrAt 5 cfg0.N : FVec Ideal S1024x512 .f32) (ix2 r j) = key m c r j := by
  have e := (keys_block m c (point r) ⟨r.val % 256, by omega⟩ j).trans
    ((congrFun (out_keys m c (point r)) _).trans (keys_point m c (point r) _ j))
  rwa [row_eq r] at e

theorem short_result (r : Fin 1024) (j : Fin 512) :
    ((dats m 0 c).arrAt 6 cfg0.N : FVec Ideal S1024x512 .bf16) (ix2 r j) = key m c r j := by
  have e := (short_block m c (point r) ⟨r.val % 256, by omega⟩ j).trans
    ((congrFun (out_short m c (point r)) _).trans (keys_point m c (point r) _ j))
  rwa [row_eq r] at e

end Cert.HeadNormSampleIdeal.Points

end
-- ==== Proof.HeadNormSample.Claims.lean ====
/- The sample group's heads' norm against the reference's: the same results at every entry. -/
module

public import proofs.«01_k».proof.Defs
public import proofs.«01_k».proof.Proof.HeadNorm.Claims
public import proofs.«01_k».proof.Proof.HeadNormSample.Value
public import proofs.«01_k».proof.Proof.Gen.HeadNormSampleReferenceIdeal.Run
public import Idealize.ShloMosaic.Lib.Quiescent

@[expose] public section

set_option maxRecDepth 16384

noncomputable section

open Idealize.ShloMosaic Idealize.ShloMosaic.TcCoe Idealize.SL.Sem

namespace Cert.HeadNormSampleReferenceIdeal.Term

open Cert.HeadNormSampleReferenceIdeal Cert.HeadNormSampleReferenceIdeal.Gen
open Cert.HeadNormIdeal.Points (unit)
open Cert.HeadNormReferenceIdeal.Term (by_head_at by_column_at split)

variable (z : FVec Ideal S1024x15360 .f32) (g : FVec Ideal S1x128 .f32)

/-- The queries and the keys by head. -/
abbrev queries : FVec Ideal S1024x16x128 .f32 :=
  shapeCast _ (extractStridedSlice S1024x2048 ![0, 10240] z slices_S1024x15360_S1024x2048_0_10240) shapeCasts_S1024x2048_S1024x16x128
abbrev keys : FVec Ideal S1024x4x128 .f32 :=
  shapeCast _ (extractStridedSlice S1024x512 ![0, 13312] z slices_S1024x15360_S1024x512_0_13312) shapeCasts_S1024x512_S1024x4x128

/-- The reference's norm of each head. -/
abbrev normed16 (x : FVec Ideal S1024x16x128 .f32) : FVec Ideal S1024x16x128 .f32 :=
  mulf (mulf x (broadcastInDim S1024x16x128 ![0, 1, 2] bcast_S1024x16x1_S1024x16x128_0_1_2
      (Host.rsqrt (addf (Host.divf (broadcastInDim S1024x16x1 ![0, 1] bcast_S1024x16_S1024x16x1_0_1
        (Host.reduceAdd (mulf x x) (constant S_ .f32 0x00000000#32) reducesTo_S1024x16x128_S1024x16_d2 h_S_))
        (broadcastInDim S1024x16x1 ![] bcast_S_S1024x16x1 (constant S_ .f32 0x43000000#32)))
        (broadcastInDim S1024x16x1 ![] bcast_S_S1024x16x1 (constant S_ .f32 0x358637BD#32))))))
    (broadcastInDim S1024x16x128 ![0, 1, 2] bcast_S1x1x128_S1024x16x128_0_1_2
      (broadcastInDim S1x1x128 ![2] bcast_S128_S1x1x128_2 (shapeCast _ g shapeCasts_S1x128_S128)))
abbrev normed4 (x : FVec Ideal S1024x4x128 .f32) : FVec Ideal S1024x4x128 .f32 :=
  mulf (mulf x (broadcastInDim S1024x4x128 ![0, 1, 2] bcast_S1024x4x1_S1024x4x128_0_1_2
      (Host.rsqrt (addf (Host.divf (broadcastInDim S1024x4x1 ![0, 1] bcast_S1024x4_S1024x4x1_0_1
        (Host.reduceAdd (mulf x x) (constant S_ .f32 0x00000000#32) reducesTo_S1024x4x128_S1024x4_d2 h_S_))
        (broadcastInDim S1024x4x1 ![] bcast_S_S1024x4x1 (constant S_ .f32 0x43000000#32)))
        (broadcastInDim S1024x4x1 ![] bcast_S_S1024x4x1 (constant S_ .f32 0x358637BD#32))))))
    (broadcastInDim S1024x4x128 ![0, 1, 2] bcast_S1x1x128_S1024x4x128_0_1_2
      (broadcastInDim S1x1x128 ![2] bcast_S128_S1x1x128_2 (shapeCast _ g shapeCasts_S1x128_S128)))

theorem normed16_at (x : FVec Ideal S1024x16x128 .f32) (r : Fin 1024) (h : Fin 16) (l : Fin 128) :
    normed16 g x (ix3 r h l) = unit (fun k => x (ix3 r h k)) (fun k => g (ix2 0 k)) l := by
  unfold unit
  pointwise

theorem normed4_at (x : FVec Ideal S1024x4x128 .f32) (r : Fin 1024) (h : Fin 4) (l : Fin 128) :
    normed4 g x (ix3 r h l) = unit (fun k => x (ix3 r h k)) (fun k => g (ix2 0 k)) l := by
  unfold unit
  pointwise

/-- Column `10240 + j` and column `13312 + j` of the packed rows. -/
theorem slice_q (r : Fin 1024) (j : Fin 2048) :
    (extractStridedSlice S1024x2048 ![0, 10240] z slices_S1024x15360_S1024x2048_0_10240 : FVec Ideal S1024x2048 .f32) (ix2 r j)
      = z (ix2 r ⟨10240 + j, by omega⟩) := by
  pointwise
theorem slice_k (r : Fin 1024) (j : Fin 512) :
    (extractStridedSlice S1024x512 ![0, 13312] z slices_S1024x15360_S1024x512_0_13312 : FVec Ideal S1024x512 .f32) (ix2 r j)
      = z (ix2 r ⟨13312 + j, by omega⟩) := by
  pointwise

/-- The reference's queries at an entry, and its keys. -/
theorem queries_at (r : Fin 1024) (j : Fin 2048) :
    (truncf .bf16 (mulf (shapeCast _ (normed16 g (queries z)) shapeCasts_S1024x16x128_S1024x2048)
        (broadcastInDim S1024x2048 ![] bcast_S_S1024x2048 (constant S_ .f32 0x3E0293EE#32))) bitsLt_bf16_f32
        : FVec Ideal S1024x2048 .bf16) (ix2 r j)
      = unit (fun k => z (ix2 r ⟨10240 + (128 * (j / 128) + k), by omega⟩)) (fun k => g (ix2 0 k)) ⟨j % 128, Nat.mod_lt _ (by decide)⟩
        * Ideal.ofBits .f32 0x3E0293EE#32 := by
  refine congrArg (fun a : EReal => a * Ideal.ofBits .f32 0x3E0293EE#32) ?_
  refine (by_column_at (H := 16) (N := 2048) _ rfl _ r ⟨j / 128, by omega⟩ ⟨j % 128, by omega⟩ j (split j)).trans ?_
  refine (normed16_at g _ r _ _).trans (congrArg (fun f => unit f _ _) (funext fun k => ?_))
  exact (by_head_at (H := 16) (N := 2048) _ rfl _ r ⟨j / 128, by omega⟩ k ⟨128 * (j / 128) + k, by omega⟩ rfl).trans (slice_q z r _)

theorem keys_at (r : Fin 1024) (j : Fin 512) :
    (shapeCast S1024x512 (normed4 g (keys z)) shapeCasts_S1024x4x128_S1024x512 : FVec Ideal S1024x512 .f32) (ix2 r j)
      = unit (fun k => z (ix2 r ⟨13312 + (128 * (j / 128) + k), by omega⟩)) (fun k => g (ix2 0 k))
          ⟨j % 128, Nat.mod_lt _ (by decide)⟩ := by
  refine (by_column_at (H := 4) (N := 512) _ rfl _ r ⟨j / 128, by omega⟩ ⟨j % 128, by omega⟩ j (split j)).trans ?_
  refine (normed4_at g _ r _ _).trans (congrArg (fun f => unit f _ _) (funext fun k => ?_))
  exact (by_head_at (H := 4) (N := 512) _ rfl _ r ⟨j / 128, by omega⟩ k ⟨128 * (j / 128) + k, by omega⟩ rfl).trans (slice_k z r _)

end Cert.HeadNormSampleReferenceIdeal.Term

namespace Cert.HeadNormSampleIdeal.Points

/-- The reference's frame, with no counter left. -/
theorem reference_quiescent : @Cert.quiescent_HeadNormSampleReferenceIdeal HeadNormSampleReferenceIdeal.Gen.facts := fun m ρ _ =>
  (θ_run _ _ _).mono (fun r h => ⟨fun c => (h c).2.2.2, sem_eq_zero_of_no_sems (by decide) r.2⟩) (HeadNormSampleReferenceIdeal.Value.run m ρ)

/-- The two programs compute the same results. -/
theorem algebraic : @Cert.algebraic_HeadNormSampleIdeal_HeadNormSampleReferenceIdeal HeadNormSampleIdeal.Gen.facts HeadNormSampleReferenceIdeal.Gen.facts := by
  intro m ρ m' ρ' _ hargs
  refine ⟨fun c => (HeadNormSampleIdeal.Gen.dats m 0 c).arrAt 4 HeadNormSampleIdeal.cfg0.N,
    fun c => (HeadNormSampleIdeal.Gen.dats m 0 c).arrAt 5 HeadNormSampleIdeal.cfg0.N,
    fun c => (HeadNormSampleIdeal.Gen.dats m 0 c).arrAt 6 HeadNormSampleIdeal.cfg0.N, HeadNormSampleIdeal.Value.run_blocks m ρ, ?_⟩
  refine (θ_run _ _ _).mono (fun r h c => ⟨(h c).1.trans ?_, (h c).2.1.trans ?_, (h c).2.2.1.trans ?_, (h c).2.2.2⟩)
    (HeadNormSampleReferenceIdeal.Value.run m' ρ')
  all_goals
    obtain ⟨h0, h1, h2⟩ := hargs c
    rw [h0]
    funext i
    rw [show i = ix2 (i 0) (i 1) from funext fun k => by fin_cases k <;> rfl]
  · rw [h1]
    exact (HeadNormSampleReferenceIdeal.Term.queries_at _ _ _ _).trans (queries_result m c _ _).symm
  · rw [h2]
    exact (HeadNormSampleReferenceIdeal.Term.keys_at _ _ _ _).trans (keys_result m c _ _).symm
  · rw [h2]
    exact (HeadNormSampleReferenceIdeal.Term.keys_at _ _ _ _).trans (short_result m c _ _).symm

end Cert.HeadNormSampleIdeal.Points

end
-- ==== Proof.InProjSample.Scratch.lean ====
/-
  The sample group's packed projection, its body at each grid point: there is one row block, so every point puts its weights' block
  into the scratch buffer and multiplies the rows by what the scratch holds.
-/
module

public import proofs.«01_k».proof.Proof.Gen.InProjSampleIdeal.Frame
public import Idealize.ShloMosaic.Lib.Pipeline.Value
public import Idealize.ShloMosaic.Lib.Tactic

@[expose] public section

set_option maxRecDepth 16384

noncomputable section

namespace Cert.InProjSampleIdeal.Points

open Cert.InProjSampleIdeal Cert.InProjSampleIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- Every point's output is computed from the rows and from the weights that the point has put into the scratch. -/
theorem out_point (c : Dev nD) (t : Fin cfg0.N) :
    outsAt0 m c t = k0_pay2 (iblk m c 0 t) (k0_pay1 (iblk m c 1 t)) := by
  unfold outsAt0
  unfold out0_A_2
  rw [View.read_writes_eq_canon _ _ _ (cover0_A_2 c _ _ _ _ _ _ _ _ _ _ _ _)]
  unfold kernelRun0_A
  dsimp only
  sl_unfold_words
  rw [View.canon_unit_zero hz]
  simp only [View.readAt_eq_ld, (hs0_0 t).read_unread, (hs0_1 t).read_unread,
    View.ld_unit_zero (S := S1024x2048) hz, View.ld_unit_zero (S := S2048x1024) hz, View.ld_unit_zero (S := S1024x1024) hz,
    View.readCov_unit_zero (S := S2048x1024) _ hz]

end Cert.InProjSampleIdeal.Points

end
-- ==== Proof.Rows.lean ====
/- Arrays of rows grouped by sequence: a reshape between `[n, N]` and `[a, b, N]`, `n = a * b`, read at an index. -/
module

public import Idealize.ShloMosaic.Lib.Pipeline.Value
public import Idealize.ShloMosaic.Lib.Pointwise

@[expose] public section

namespace Cert.Rows

open Idealize.ShloMosaic

variable {α : Type} {n a b N : ℕ}

/-- Rows grouped by sequence: token `s` of sequence `q` is row `q * b + s`. -/
theorem split_at (x : (⟨2, ![n, N]⟩ : Shape).Idx → α) (h : Shape.ShapeCasts ⟨2, ![n, N]⟩ ⟨3, ![a, b, N]⟩) (q : Fin a) (s : Fin b)
    (j : Fin N) (r : Fin n) (hr : r.val = q.val * b + s.val) : shapeCast ⟨3, ![a, b, N]⟩ x h (ix3 q s j) = x (ix2 r j) :=
  shapeCast_apply x h _ _ (by
    rw [Shape.rowMajor_val_two, Shape.rowMajor_val_three]
    show r.val * N + j.val = (q.val * b + s.val) * N + j.val
    rw [hr])

/-- The sequences' rows one after another. -/
theorem join_at (x : (⟨3, ![a, b, N]⟩ : Shape).Idx → α) (h : Shape.ShapeCasts ⟨3, ![a, b, N]⟩ ⟨2, ![n, N]⟩) (q : Fin a) (s : Fin b)
    (j : Fin N) (r : Fin n) (hr : r.val = q.val * b + s.val) : shapeCast ⟨2, ![n, N]⟩ x h (ix2 r j) = x (ix3 q s j) :=
  shapeCast_apply x h _ _ (by
    rw [Shape.rowMajor_val_two, Shape.rowMajor_val_three]
    show (q.val * b + s.val) * N + j.val = r.val * N + j.val
    rw [hr])

end Cert.Rows
-- ==== Proof.InProjSample.Value.lean ====
/-
  The sample group's input projection: every entry of the packed projection is the packed entry of the product of the normed rows
  with the layer's weights; the values, the indexer's keys and every sequence's last streams are columns of that product.
-/
module

public import proofs.«01_k».proof.Proof.InProjSample.Scratch
public import proofs.«01_k».proof.Proof.InProj.Packed
public import proofs.«01_k».proof.Proof.Rows
public import Idealize.ShloMosaic.Lib.Pointwise
public import Idealize.ShloMosaic.Lib.Tactic.CleanTypes
public import Idealize.ShloMosaic.Lib.StableHlo.RunRead

@[expose] public section

set_option maxRecDepth 16384

noncomputable section

namespace Cert.InProjSampleIdeal.Points

open Cert.InProjSampleIdeal Cert.InProjSampleIdeal.Gen Idealize.ShloMosaic Idealize.ShloMosaic.TcCoe Idealize.SL.Sem StableHlo
open Cert.InProjIdeal.Points (packed row row_at slice_at slice_slice_at packed_of_some packed_sum packedWeights packedWeights_at
  streams_at source_values source_index_keys)

variable (m : (ℓ : Loc nD τ sig) → Buf (Elt Ideal) ℓ) (ρ : Dev nD → PrngReg) (c : Dev nD)

/-- Argument array `b` of device `c`. -/
abbrev arg (b : Ref sig .tc) : Buf (Elt Ideal) ((c : Thread nD τ).loc b) := m ((c : Thread nD τ).loc b)

/-- The normed activations and the weights: the arguments' entries. -/
abbrev x (r : Fin 1024) (k : Fin 2048) : EReal := (arg m c main_arg0 : FVec Ideal S1024x2048 .f32) (ix2 r k)
abbrev weights : FVec Ideal S2048x14864 .f32 :=
  shapeCast S2048x14864 (arg m c main_arg1 : FVec Ideal S1x2048x14864 .f32) shapeCasts_S1x2048x14864_S2048x14864

/-- The packed weights' entries. -/
abbrev w (k : Fin 2048) (j : Fin 15360) : EReal := packed (row (weights m c) k) j

/-- Row `r` of the projection. -/
abbrev p (r : Fin 1024) (j : ℕ) : EReal := ∑ k, x m c r k * row (weights m c) k j

/-- The activations that the call reads are the argument's. -/
theorem host_x (r : Fin 1024) (k : Fin 2048) : (V m c main_v0 : FVec Ideal S1024x2048 .bf16) (ix2 r k)
    = x m c r k := by
  dsimp only [V]; after_reads_simp; clean_types; pointwise

/-- The weights that the call reads are the packed weights. -/
theorem host_weights : V m c main_v22 = packedWeights (weights m c) := by
  dsimp only [V]
  after_reads_simp
  rfl

theorem host_w (k : Fin 2048) (j : Fin 15360) : (V m c main_v22 : FVec Ideal S2048x15360 .f32) (ix2 k j) = w m c k j :=
  (congrFun (host_weights m c) (ix2 k j)).trans (packedWeights_at _ k j)

/-! ## The windows' blocks: point `t` is column block `t` -/

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel

theorem lt_N (t : Fin cfg0.N) : t.val < 15 := t.isLt

theorem block0 (t : Fin cfg0.N) (r : Fin 1024) (k : Fin 2048) :
    (iblk m c 0 t : FVec Ideal S1024x2048 .bf16) (ix2 r k)
      = x m c r k := by
  refine Eq.trans ?_ (host_x m c _ _)
  unfold iblk
  rw [View.read_apply]
  refine congrArg (V m c main_v0 : FVec Ideal S1024x2048 .bf16) (funext fun a => Fin.ext ?_)
  refine (win0_0.rect_emb_val t _ a).trans ?_
  have e := index0 t
  match a with
  | ⟨0, _⟩ => show win0_0.index t 0 * 1024 + r.val = r.val; rw [e.1]; omega
  | ⟨1, _⟩ => show win0_0.index t 1 * 2048 + k.val = k.val; rw [e.2]; omega

theorem block1 (t : Fin cfg0.N) (k : Fin 2048) (j : Fin 1024) :
    (iblk m c 1 t : FVec Ideal S2048x1024 .f32) (ix2 k j)
      = w m c k ⟨t.val * 1024 + j, by have := lt_N t; omega⟩ := by
  refine Eq.trans ?_ (host_w m c _ _)
  unfold iblk
  rw [View.read_apply]
  refine congrArg (V m c main_v22 : FVec Ideal S2048x15360 .f32) (funext fun a => Fin.ext ?_)
  refine (win0_1.rect_emb_val t _ a).trans ?_
  have e := index1 t
  match a with
  | ⟨0, _⟩ => show win0_1.index t 0 * 2048 + k.val = k.val; rw [e.1]; omega
  | ⟨1, _⟩ => exact congrArg (· * 1024 + j.val) e.2

/-! ## What the points compute -/

/-- The stored block is the weights' block. -/
theorem pay1_at (x : FVec Ideal S2048x1024 .f32) (k : Fin 2048) (j : Fin 1024) :
    (k0_pay1 x : FVec Ideal S2048x1024 .bf16) (ix2 k j) = x (ix2 k j) := by
  pointwise [k0_pay1]

/-- The output block: the product. -/
theorem pay2_at (x : FVec Ideal S1024x2048 .bf16) (w : FVec Ideal S2048x1024 .bf16) (r j : Fin 1024) :
    (k0_pay2 x w : FVec Ideal S1024x1024 .f32) (ix2 r j) = ∑ k, x (ix2 r k) * w (ix2 k j) := by
  pointwise [k0_pay2]

/-- Point `t`'s output block. -/
theorem out_at (t : Fin cfg0.N) (r j : Fin 1024) :
    (outsAt0 m c t : FVec Ideal S1024x1024 .f32) (ix2 r j)
      = ∑ k, x m c r k
          * w m c k ⟨t.val * 1024 + j, by have := lt_N t; omega⟩ := by
  rw [out_point m c t]
  refine (pay2_at _ _ r j).trans ?_
  exact Finset.sum_congr rfl fun k _ => congrArg₂ (· * ·) (block0 m c t r k) ((pay1_at _ k j).trans (block1 m c t k j))

/-! ## The result array -/

/-- Different points write different blocks. -/
theorem idx_inj : ∀ t t' : Fin cfg0.N, win0_2.index t = win0_2.index t' → t = t' := fun t t' h => by
  have e := index2 t
  have e' := index2 t'
  rw [← h, e.1, e.2] at e'
  exact Fin.ext e'.2

theorem disjoint (t t' : Fin cfg0.N) (_ : (cfg0.win 2).flush t = true) (_ : (cfg0.win 2).flush t' = true) (hne : t ≠ t') :
    Disjoint ((cfg0.win 2).blk t).view.set ((cfg0.win 2).blk t').view.set :=
  (cfg0.win 2).disjoint_blk fun h => hne (idx_inj t t' h)

/-- What a point writes back is its output block. -/
theorem flushed (t : Fin cfg0.N) : (dats m 0 c).flushed 2 t = outsAt0 m c t := by
  show (cfg0.win 2).cut (cfg0.grid.coords t) ((dats m 0 c).after 2 t) = _
  rw [after0_2]
  rfl

/-- The result array at an entry of point `t`'s block. -/
theorem final_block (t : Fin cfg0.N) (r j : Fin 1024) :
    ((dats m 0 c).arrAt 2 cfg0.N : FVec Ideal S1024x15360 .f32) (ix2 r
        ⟨t.val * 1024 + j, by have := lt_N t; omega⟩)
      = (outsAt0 m c t : FVec Ideal S1024x1024 .f32) (ix2 r j) := by
  have hb := congrFun (((dats m 0 c).read_blk_arrAt_eq_flushed 2 disjoint cfg0.N t t.isLt (flush0_2 t)).trans
    (flushed m c t)) (ix2 r j)
  rw [View.read_apply] at hb
  refine Eq.trans ?_ hb
  refine congrArg ((dats m 0 c).arrAt 2 cfg0.N : FVec Ideal S1024x15360 .f32) (funext fun a => Fin.ext ?_)
  refine Eq.symm ((win0_2.rect_emb_val t _ a).trans ?_)
  have e := index2 t
  match a with
  | ⟨0, _⟩ => show win0_2.index t 0 * 1024 + r.val = r.val; rw [e.1]; omega
  | ⟨1, _⟩ => exact congrArg (· * 1024 + j.val) e.2

/-- The result array: the product of the activations with the weights. -/
theorem result_at (r : Fin 1024) (j : Fin 15360) :
    ((dats m 0 c).arrAt 2 cfg0.N : FVec Ideal S1024x15360 .f32) (ix2 r j) = ∑ k, x m c r k * w m c k j := by
  have hj := j.isLt
  let t : Fin cfg0.N := ⟨j.val / 1024, by show _ < 15; omega⟩
  have e := (final_block m c t r ⟨j.val % 1024, by omega⟩).trans (out_at m c t _ _)
  have ej : (⟨t.val * 1024 + (⟨j.val % 1024, by omega⟩ : Fin 1024), by have := lt_N t; dsimp only; omega⟩ : Fin 15360) = j :=
    Fin.ext (by show j.val / 1024 * 1024 + j.val % 1024 = j.val; omega)
  rw [ej] at e
  exact e

/-- The same entry, as a packed entry of the projection. -/
theorem packed_at (r : Fin 1024) (j : Fin 15360) :
    ((dats m 0 c).arrAt 2 cfg0.N : FVec Ideal S1024x15360 .f32) (ix2 r j) = packed (p m c r) j :=
  (result_at m c r j).trans (packed_sum (x m c r) (fun k => row (weights m c) k) j)

/-- So row `r` of the result array is the packed row. -/
theorem packed_row (r : Fin 1024) (j : ℕ) (h : j < 15360) :
    row ((dats m 0 c).arrAt 2 cfg0.N : FVec Ideal S1024x15360 .f32) r j = packed (p m c r) j :=
  (row_at _ r j h).trans (packed_at m c r ⟨j, h⟩)

/-! ## The operations after the call -/

/-- What the operations after the call leave in buffer `b`. -/
abbrev tail (b : Ref sig .tc) : Buf (Elt Ideal) ((c : Thread nD τ).loc b) :=
  Pipeline.afterTail₀ cfgs (dats m) 0 (V0 m) [hostOps1] c b

theorem array_eq : Pipeline.withArrays spec0 c (V0 m c) (fun w => (dats m 0 c).arrAt w cfg0.N) (Proc.devRef .tc main_v23)
    = (dats m 0 c).arrAt 2 cfg0.N := Pipeline.withArrays_arr spec0 (by decide) c _ _ 2

/-- The values and the indexer's keys are columns of the result array. -/
theorem tail_values : tail m c main_v33 = extractStridedSlice S1024x512 ![0, 13824]
    ((dats m 0 c).arrAt 2 cfg0.N : FVec Ideal S1024x15360 .f32) slices_S1024x15360_S1024x512_0_13824 := by
  have hw := array_eq m c
  dsimp only [tail, Pipeline.afterTail₀]
  after_reads_simp
  rw [hw]

theorem tail_keys : tail m c main_v34 = extractStridedSlice S1024x64 ![0, 14848]
    ((dats m 0 c).arrAt 2 cfg0.N : FVec Ideal S1024x15360 .f32) slices_S1024x15360_S1024x64_0_14848 := by
  have hw := array_eq m c
  dsimp only [tail, Pipeline.afterTail₀]
  after_reads_simp
  rw [hw]

theorem values_at (r : Fin 1024) (q : Fin 512) :
    (tail m c main_v33 : FVec Ideal S1024x512 .f32) (ix2 r q) = p m c r (9152 + q) := by
  rw [tail_values]
  refine (slice_at _ 13824 _ (by decide) r q).trans ((packed_row m c r _ (by omega)).trans ?_)
  exact packed_of_some _ ((source_values (by omega)).trans (congrArg some (by omega)))

theorem keys_at (r : Fin 1024) (q : Fin 64) :
    (tail m c main_v34 : FVec Ideal S1024x64 .f32) (ix2 r q) = p m c r (10688 + q) := by
  rw [tail_keys]
  refine (slice_at _ 14848 _ (by decide) r q).trans ((packed_row m c r _ (by omega)).trans ?_)
  exact packed_of_some _ ((source_index_keys (by omega)).trans (congrArg some (by omega)))

/-- The last row of every sequence of the result array. -/
def last (z : FVec Ideal S1024x15360 .f32) : FVec Ideal S128x15360 .f32 :=
  shapeCast S128x15360 (extractStridedSlice S128x1x15360 ![0, 7, 0]
    (shapeCast S128x8x15360 z shapeCasts_S1024x15360_S128x8x15360) slices_S128x8x15360_S128x1x15360_0_7_0)
    shapeCasts_S128x1x15360_S128x15360

theorem last_at (z : FVec Ideal S1024x15360 .f32) (q : Fin 128) (j : Fin 15360) :
    last z (ix2 q j) = z (ix2 ⟨q * 8 + 7, by omega⟩ j) := by
  unfold last
  refine (Rows.join_at _ _ q (0 : Fin 1) j q (Nat.mul_one _).symm).trans ?_
  refine (extractStridedSlice_apply _ _ _ _ (ix3 q 7 j : S128x8x15360.Idx) fun a => ?_).trans
    (Rows.split_at z _ q (7 : Fin 8) j _ rfl)
  match a with
  | ⟨0, _⟩ => exact (Nat.zero_add _).symm
  | ⟨1, _⟩ => rfl
  | ⟨2, _⟩ => exact (Nat.zero_add _).symm

/-- The streams and low-rank pieces of those rows, side by side. -/
def streams (z : FVec Ideal S128x15360 .f32) : List ((s : Shape) × FVec Ideal s .f32) :=
  let rank : FVec Ideal S128x512 .f32 := extractStridedSlice S128x512 ![0, 14336] z slices_S128x15360_S128x512_0_14336
  [⟨S128x6144, extractStridedSlice S128x6144 ![0, 4096] z slices_S128x15360_S128x6144_0_4096⟩,
   ⟨S128x96, extractStridedSlice S128x96 ![0, 0] rank slices_S128x512_S128x96_0_0⟩,
   ⟨S128x96, extractStridedSlice S128x96 ![0, 128] rank slices_S128x512_S128x96_0_128⟩,
   ⟨S128x256, extractStridedSlice S128x256 ![0, 256] rank slices_S128x512_S128x256_0_256⟩]

theorem tail_shift : tail m c main_v32 = concatenate S128x6592 1
    (streams (last ((dats m 0 c).arrAt 2 cfg0.N : FVec Ideal S1024x15360 .f32)))
    concatenates_S128x6144_S128x96_S128x96_S128x256_S128x6592_d1 := by
  rw [← array_eq m c]
  dsimp only [tail, Pipeline.afterTail₀]
  after_reads_simp
  rfl

/-- The shifted rows: every sequence's last row of the projection. -/
theorem shift_at (q : Fin 128) (j : Fin 6592) :
    (tail m c main_v32 : FVec Ideal S128x6592 .f32) (ix2 q j) = p m c ⟨q * 8 + 7, by omega⟩ j := by
  rw [tail_shift]
  generalize hz : last ((dats m 0 c).arrAt 2 cfg0.N : FVec Ideal S1024x15360 .f32) = z
  have hlast : ∀ i, i < 15360 → row z q i = packed (p m c ⟨q * 8 + 7, by omega⟩) i := fun i hi => by
    rw [row_at z q i hi, ← hz]
    exact (last_at _ _ _).trans (packed_at m c _ ⟨i, hi⟩)
  exact streams_at q (p m c ⟨q * 8 + 7, by omega⟩) _ _ _ _
    (fun i => (slice_at z 4096 _ (by decide) q i).trans (hlast _ (by omega)))
    (fun i => (slice_slice_at z 14336 0 _ _ (by decide) (by decide) q i).trans (hlast _ (by omega)))
    (fun i => (slice_slice_at z 14336 128 _ _ (by decide) (by decide) q i).trans (hlast _ (by omega)))
    (fun i => (slice_slice_at z 14336 256 _ _ (by decide) (by decide) q i).trans (hlast _ (by omega))) _ j

/-- The run: the four results, and the arguments unchanged. -/
theorem run : θ_run defs (onTc (τ := τ) (main (F := Ideal))) ⟨m, fun _ => 0, ρ⟩ fun r => ∀ c : Dev nD,
    r.2.mem ((c.tc : Thread nD τ).loc main_v23) = (dats m 0 c).arrAt 2 cfg0.N
    ∧ r.2.mem ((c.tc : Thread nD τ).loc main_v33) = tail m c main_v33
    ∧ r.2.mem ((c.tc : Thread nD τ).loc main_v34) = tail m c main_v34
    ∧ r.2.mem ((c.tc : Thread nD τ).loc main_v32) = tail m c main_v32
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1 2, (h c).2 main_v33 (Pipeline.mem_restRefs_of main_v33 (by decide) (by decide)),
    (h c).2 main_v34 (Pipeline.mem_restRefs_of main_v34 (by decide) (by decide)),
    (h c).2 main_v32 (Pipeline.mem_restRefs_of main_v32 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩)
    (run_main m ρ)

end Cert.InProjSampleIdeal.Points

end
-- ==== Proof.InProjSample.Claims.lean ====
/- The sample group's input projection against the reference's: the same results at every entry. -/
module

public import proofs.«01_k».proof.Defs
public import proofs.«01_k».proof.Proof.InProjSample.Value
public import proofs.«01_k».proof.Proof.Gen.InProjSampleReferenceIdeal.Run
public import Idealize.ShloMosaic.Lib.Quiescent

@[expose] public section

set_option maxRecDepth 16384

noncomputable section

open Idealize.ShloMosaic Idealize.ShloMosaic.TcCoe Idealize.SL.Sem StableHlo

namespace Cert.InProjSampleReferenceIdeal.Term

open Cert.InProjSampleReferenceIdeal Cert.InProjSampleReferenceIdeal.Gen
open Cert.InProjIdeal.Points (packed row row_at slice_at slice_slice_at pieces_at)

/-- The reference's product. -/
abbrev product (x : FVec Ideal S1024x2048 .f32) (w : FVec Ideal S2048x14864 .f32) : FVec Ideal S1024x14864 .f32 :=
  Host.dotGeneral dot_S1024x2048_S2048x14864_S1024x14864_1_0_0_1_n_n none x w

/-- The product at an entry. -/
theorem product_at (x : FVec Ideal S1024x2048 .f32) (w : FVec Ideal S2048x14864 .f32) (r : Fin 1024) (j : Fin 14864) :
    product x w (ix2 r j) = ∑ k, x (ix2 r k) * w (ix2 k j) := by
  pointwise

/-- A row of the product. -/
theorem product_row (x : FVec Ideal S1024x2048 .f32) (w : FVec Ideal S2048x14864 .f32) (r : Fin 1024) (c : ℕ) :
    row (product x w) r c = ∑ k, x (ix2 r k) * row w k c := by
  by_cases h : c < 14864
  · refine (row_at _ r c h).trans ((product_at x w r ⟨c, h⟩).trans ?_)
    exact Finset.sum_congr rfl fun k _ => congrArg (x (ix2 r k) * ·) (row_at w k c h).symm
  · simp only [row, dif_neg h, mul_zero, Finset.sum_const_zero]

theorem zeros_at {s : Shape} (h : S_.BroadcastsInDim s (![] : Fin 0 → Fin s.rank)) (i : s.Idx) :
    (broadcastInDim s ![] h (constant S_ .f32 0x00000000#32) : FVec Ideal s .f32) i = 0 := by
  pointwise

variable (y : FVec Ideal S1024x14864 .f32)

/-- The columns of the recurrence, and those of the attention. -/
abbrev mix : FVec Ideal S1024x6592 .f32 := extractStridedSlice S1024x6592 ![0, 0] y slices_S1024x14864_S1024x6592_0_0
abbrev attn : FVec Ideal S1024x4176 .f32 := extractStridedSlice S1024x4176 ![0, 6592] y slices_S1024x14864_S1024x4176_0_6592

/-- The fifteen pieces that the reference's packed result puts side by side. -/
def pieces : List ((s : Shape) × FVec Ideal s .f32) :=
  [⟨S1024x4096, extractStridedSlice S1024x4096 ![0, 10768] y slices_S1024x14864_S1024x4096_0_10768⟩,
   ⟨S1024x6144, extractStridedSlice S1024x6144 ![0, 0] (mix y) slices_S1024x6592_S1024x6144_0_0⟩,
   ⟨S1024x2048, extractStridedSlice S1024x2048 ![0, 0] (attn y) slices_S1024x4176_S1024x2048_0_0⟩,
   ⟨S1024x1024, extractStridedSlice S1024x1024 ![0, 3072] (attn y) slices_S1024x4176_S1024x1024_0_3072⟩,
   ⟨S1024x512, extractStridedSlice S1024x512 ![0, 2048] (attn y) slices_S1024x4176_S1024x512_0_2048⟩,
   ⟨S1024x512, extractStridedSlice S1024x512 ![0, 2560] (attn y) slices_S1024x4176_S1024x512_0_2560⟩,
   ⟨S1024x96, extractStridedSlice S1024x96 ![0, 6144] (mix y) slices_S1024x6592_S1024x96_0_6144⟩,
   ⟨S1024x32, broadcastInDim S1024x32 ![] bcast_S_S1024x32 (constant S_ .f32 0x00000000#32)⟩,
   ⟨S1024x96, extractStridedSlice S1024x96 ![0, 6240] (mix y) slices_S1024x6592_S1024x96_0_6240⟩,
   ⟨S1024x32, broadcastInDim S1024x32 ![] bcast_S_S1024x32 (constant S_ .f32 0x00000000#32)⟩,
   ⟨S1024x256, extractStridedSlice S1024x256 ![0, 6336] (mix y) slices_S1024x6592_S1024x256_0_6336⟩,
   ⟨S1024x64, extractStridedSlice S1024x64 ![0, 4096] (attn y) slices_S1024x4176_S1024x64_0_4096⟩,
   ⟨S1024x64, extractStridedSlice S1024x64 ![0, 4096] (attn y) slices_S1024x4176_S1024x64_0_4096⟩,
   ⟨S1024x16, extractStridedSlice S1024x16 ![0, 4160] (attn y) slices_S1024x4176_S1024x16_0_4160⟩,
   ⟨S1024x368, broadcastInDim S1024x368 ![] bcast_S_S1024x368 (constant S_ .f32 0x00000000#32)⟩]

/-- The packed result. -/
def packedResult : FVec Ideal S1024x15360 .f32 :=
  concatenate S1024x15360 1 (pieces y)
    concatenates_S1024x4096_S1024x6144_S1024x2048_S1024x1024_S1024x512_S1024x512_S1024x96_S1024x32_S1024x96_S1024x32_S1024x256_S1024x64_S1024x64_S1024x16_S1024x368_S1024x15360_d1

/-- Each piece is where the packing has it. -/
theorem packedResult_at (r : Fin 1024) (j : Fin 15360) : packedResult y (ix2 r j) = packed (row y r) j := by
  exact pieces_at r (row y r) _ _ _ _ _ _ _ _ _ _ _ _ _ _ _
    (slice_at y 10768 _ (by decide) r)
    (slice_slice_at y 0 0 _ _ (by decide) (by decide) r)
    (slice_slice_at y 6592 0 _ _ (by decide) (by decide) r)
    (slice_slice_at y 6592 3072 _ _ (by decide) (by decide) r)
    (slice_slice_at y 6592 2048 _ _ (by decide) (by decide) r)
    (slice_slice_at y 6592 2560 _ _ (by decide) (by decide) r)
    (slice_slice_at y 0 6144 _ _ (by decide) (by decide) r)
    (zeros_at _)
    (slice_slice_at y 0 6240 _ _ (by decide) (by decide) r)
    (zeros_at _)
    (slice_slice_at y 0 6336 _ _ (by decide) (by decide) r)
    (slice_slice_at y 6592 4096 _ _ (by decide) (by decide) r)
    (slice_slice_at y 6592 4096 _ _ (by decide) (by decide) r)
    (slice_slice_at y 6592 4160 _ _ (by decide) (by decide) r)
    (zeros_at _) _ j

/-- The last row of every sequence, of the recurrence's columns. -/
theorem shift_at (q : Fin 128) (j : Fin 6592) :
    (shapeCast S128x6592 (extractStridedSlice S128x1x6592 ![0, 7, 0]
      (shapeCast S128x8x6592 (mix y) shapeCasts_S1024x6592_S128x8x6592) slices_S128x8x6592_S128x1x6592_0_7_0)
      shapeCasts_S128x1x6592_S128x6592 : FVec Ideal S128x6592 .f32) (ix2 q j) = row y ⟨q * 8 + 7, by omega⟩ j := by
  refine (Rows.join_at _ _ q (0 : Fin 1) j q (Nat.mul_one _).symm).trans ?_
  refine (extractStridedSlice_apply _ _ _ _ (ix3 q 7 j : S128x8x6592.Idx) fun a => ?_).trans
    ((Rows.split_at (mix y) _ q (7 : Fin 8) j ⟨q * 8 + 7, by omega⟩ rfl).trans
      ((slice_at y 0 _ (by decide) _ j).trans (congrArg (row y _) (Nat.zero_add _))))
  match a with
  | ⟨0, _⟩ => exact (Nat.zero_add _).symm
  | ⟨1, _⟩ => rfl
  | ⟨2, _⟩ => exact (Nat.zero_add _).symm

end Cert.InProjSampleReferenceIdeal.Term

namespace Cert.InProjSampleIdeal.Points

/-- The reference's frame, with no counter left. -/
theorem reference_quiescent : @Cert.quiescent_InProjSampleReferenceIdeal InProjSampleReferenceIdeal.Gen.facts := fun m ρ _ =>
  (θ_run _ _ _).mono (fun r h => ⟨fun c => (h c).2.2.2.2, sem_eq_zero_of_no_sems (by decide) r.2⟩)
    (InProjSampleReferenceIdeal.Value.run m ρ)

open InProjSampleReferenceIdeal.Term Cert.InProjIdeal.Points in
/-- The two programs compute the same results. -/
theorem algebraic : @Cert.algebraic_InProjSampleIdeal_InProjSampleReferenceIdeal InProjSampleIdeal.Gen.facts InProjSampleReferenceIdeal.Gen.facts := by
  intro m ρ m' ρ' _ hargs
  refine ⟨fun c => (InProjSampleIdeal.Gen.dats m 0 c).arrAt 2 InProjSampleIdeal.cfg0.N, fun c => tail m c InProjSampleIdeal.main_v33,
    fun c => tail m c InProjSampleIdeal.main_v34, fun c => tail m c InProjSampleIdeal.main_v32, run m ρ, ?_⟩
  have prow : ∀ (c : Dev InProjSampleIdeal.nD) (r : Fin 1024) (j : ℕ),
      row (product (arg m c InProjSampleIdeal.main_arg0) (weights m c)) r j = p m c r j := fun c r j =>
    product_row (arg m c InProjSampleIdeal.main_arg0) (weights m c) r j
  refine (θ_run _ _ _).mono (fun r h c => ⟨(h c).1.trans ?_, (h c).2.1.trans ?_, (h c).2.2.1.trans ?_, (h c).2.2.2.1.trans ?_,
    (h c).2.2.2.2⟩) (InProjSampleReferenceIdeal.Value.run m' ρ')
  · obtain ⟨h0, h1⟩ := hargs c
    unfold InProjSampleReferenceIdeal.Value.res_main_v21
    rw [h0, h1]
    funext i
    rw [show i = ix2 (i 0) (i 1) from funext fun k => by fin_cases k <;> rfl]
    refine (packedResult_at (product (arg m c InProjSampleIdeal.main_arg0) (weights m c)) (i 0) (i 1)).trans ?_
    exact (congrArg (fun g => packed g (i 1).val) (funext fun j => prow c (i 0) j)).trans (packed_at m c (i 0) (i 1)).symm
  · obtain ⟨h0, h1⟩ := hargs c
    rw [h0, h1]
    funext i
    rw [show i = ix2 (i 0) (i 1) from funext fun k => by fin_cases k <;> rfl]
    refine (slice_slice_at (product (arg m c InProjSampleIdeal.main_arg0) (weights m c)) 6592 2560 _ _ (by decide) (by decide)
      (i 0) (i 1)).trans ?_
    exact (prow c (i 0) _).trans (values_at m c (i 0) (i 1)).symm
  · obtain ⟨h0, h1⟩ := hargs c
    rw [h0, h1]
    funext i
    rw [show i = ix2 (i 0) (i 1) from funext fun k => by fin_cases k <;> rfl]
    refine (slice_slice_at (product (arg m c InProjSampleIdeal.main_arg0) (weights m c)) 6592 4096 _ _ (by decide) (by decide)
      (i 0) (i 1)).trans ?_
    exact (prow c (i 0) _).trans (keys_at m c (i 0) (i 1)).symm
  · obtain ⟨h0, h1⟩ := hargs c
    rw [h0, h1]
    funext i
    rw [show i = ix2 (i 0) (i 1) from funext fun k => by fin_cases k <;> rfl]
    refine (InProjSampleReferenceIdeal.Term.shift_at (product (arg m c InProjSampleIdeal.main_arg0) (weights m c)) (i 0) (i 1)).trans ?_
    exact (prow c _ _).trans (shift_at m c (i 0) (i 1)).symm

end Cert.InProjSampleIdeal.Points

end
-- ==== Proof.FfnUpSample.Scratch.lean ====
/-
  The sample group's up projection, its body at each grid point: there is one row block, so every point puts its weights' block
  into the scratch buffer and multiplies the rows by what the scratch holds.
-/
module

public import proofs.«01_k».proof.Proof.Gen.FfnUpSampleIdeal.Frame
public import Idealize.ShloMosaic.Lib.Pipeline.Value
public import Idealize.ShloMosaic.Lib.Tactic

@[expose] public section

set_option maxRecDepth 16384

noncomputable section

namespace Cert.FfnUpSampleIdeal.Points

open Cert.FfnUpSampleIdeal Cert.FfnUpSampleIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- Every point's output is computed from the rows and from the weights that the point has put into the scratch. -/
theorem out_point (c : Dev nD) (t : Fin cfg0.N) :
    outsAt0 m c t = k0_pay2 (iblk m c 0 t) (k0_pay1 (iblk m c 1 t)) := by
  unfold outsAt0
  unfold out0_A_2
  rw [View.read_writes_eq_canon _ _ _ (cover0_A_2 c _ _ _ _ _ _ _ _ _ _ _ _)]
  unfold kernelRun0_A
  dsimp only
  sl_unfold_words
  rw [View.canon_unit_zero hz]
  simp only [View.readAt_eq_ld, (hs0_0 t).read_unread, (hs0_1 t).read_unread,
    View.ld_unit_zero (S := S1024x2048) hz, View.ld_unit_zero (S := S2048x1024) hz, View.ld_unit_zero (S := S1024x1024) hz,
    View.readCov_unit_zero (S := S2048x1024) _ hz]

end Cert.FfnUpSampleIdeal.Points

end
-- ==== Proof.FfnUpSample.Value.lean ====
/-
  The sample group's up projection: every entry of the projection is the product's entry, the arguments' arrays read at that
  row and column; the convolution's tail is the last two rows of every sequence, in the first half of the columns.
-/
module

public import proofs.«01_k».proof.Proof.FfnUpSample.Scratch
public import proofs.«01_k».proof.Proof.Rows
public import Idealize.ShloMosaic.Lib.Pointwise
public import Idealize.ShloMosaic.Lib.Tactic.CleanTypes
public import Idealize.ShloMosaic.Lib.StableHlo.RunRead

@[expose] public section

set_option maxRecDepth 16384

noncomputable section

namespace Cert.FfnUpSampleIdeal.Points

open Cert.FfnUpSampleIdeal Cert.FfnUpSampleIdeal.Gen Idealize.ShloMosaic Idealize.ShloMosaic.TcCoe Idealize.SL.Sem StableHlo

variable (m : (ℓ : Loc nD τ sig) → Buf (Elt Ideal) ℓ) (ρ : Dev nD → PrngReg) (c : Dev nD)

/-- Argument array `b` of device `c`. -/
abbrev arg (b : Ref sig .tc) : Buf (Elt Ideal) ((c : Thread nD τ).loc b) := m ((c : Thread nD τ).loc b)

/-- The normed activations and the weights: the arguments' entries. -/
abbrev x (r : Fin 1024) (k : Fin 2048) : EReal := (arg m c main_arg0 : FVec Ideal S1024x2048 .f32) (ix2 r k)
abbrev w (k : Fin 2048) (j : Fin 11264) : EReal := (arg m c main_arg1 : FVec Ideal S1x2048x11264 .f32) (ix3 0 k j)

/-- The activations that the call reads are the argument's. -/
theorem host_x (r : Fin 1024) (k : Fin 2048) : (V m c main_v0 : FVec Ideal S1024x2048 .bf16) (ix2 r k)
    = x m c r k := by
  dsimp only [V]; after_reads_simp; clean_types; pointwise

/-- The weights that the call reads are the layer's. -/
theorem host_w (k : Fin 2048) (j : Fin 11264) : (V m c main_v1 : FVec Ideal S2048x11264 .f32) (ix2 k j)
    = w m c k j := by
  dsimp only [V]; after_reads_simp; clean_types; pointwise

/-! ## The windows' blocks: point `t` is column block `t` -/

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel

theorem lt_N (t : Fin cfg0.N) : t.val < 11 := t.isLt

theorem block0 (t : Fin cfg0.N) (r : Fin 1024) (k : Fin 2048) :
    (iblk m c 0 t : FVec Ideal S1024x2048 .bf16) (ix2 r k)
      = x m c r k := by
  refine Eq.trans ?_ (host_x m c _ _)
  unfold iblk
  rw [View.read_apply]
  refine congrArg (V m c main_v0 : FVec Ideal S1024x2048 .bf16) (funext fun a => Fin.ext ?_)
  refine (win0_0.rect_emb_val t _ a).trans ?_
  have e := index0 t
  match a with
  | ⟨0, _⟩ => show win0_0.index t 0 * 1024 + r.val = r.val; rw [e.1]; omega
  | ⟨1, _⟩ => show win0_0.index t 1 * 2048 + k.val = k.val; rw [e.2]; omega

theorem block1 (t : Fin cfg0.N) (k : Fin 2048) (j : Fin 1024) :
    (iblk m c 1 t : FVec Ideal S2048x1024 .f32) (ix2 k j)
      = w m c k ⟨t.val * 1024 + j, by have := lt_N t; omega⟩ := by
  refine Eq.trans ?_ (host_w m c _ _)
  unfold iblk
  rw [View.read_apply]
  refine congrArg (V m c main_v1 : FVec Ideal S2048x11264 .f32) (funext fun a => Fin.ext ?_)
  refine (win0_1.rect_emb_val t _ a).trans ?_
  have e := index1 t
  match a with
  | ⟨0, _⟩ => show win0_1.index t 0 * 2048 + k.val = k.val; rw [e.1]; omega
  | ⟨1, _⟩ => exact congrArg (· * 1024 + j.val) e.2

/-! ## What the points compute -/

/-- The stored block is the weights' block. -/
theorem pay1_at (x : FVec Ideal S2048x1024 .f32) (k : Fin 2048) (j : Fin 1024) :
    (k0_pay1 x : FVec Ideal S2048x1024 .bf16) (ix2 k j) = x (ix2 k j) := by
  pointwise [k0_pay1]

/-- The output block: the product. -/
theorem pay2_at (x : FVec Ideal S1024x2048 .bf16) (w : FVec Ideal S2048x1024 .bf16) (r j : Fin 1024) :
    (k0_pay2 x w : FVec Ideal S1024x1024 .f32) (ix2 r j) = ∑ k, x (ix2 r k) * w (ix2 k j) := by
  pointwise [k0_pay2]

/-- Point `t`'s output block. -/
theorem out_at (t : Fin cfg0.N) (r j : Fin 1024) :
    (outsAt0 m c t : FVec Ideal S1024x1024 .f32) (ix2 r j)
      = ∑ k, x m c r k
          * w m c k ⟨t.val * 1024 + j, by have := lt_N t; omega⟩ := by
  rw [out_point m c t]
  refine (pay2_at _ _ r j).trans ?_
  exact Finset.sum_congr rfl fun k _ => congrArg₂ (· * ·) (block0 m c t r k) ((pay1_at _ k j).trans (block1 m c t k j))

/-! ## The result array -/

/-- Different points write different blocks. -/
theorem idx_inj : ∀ t t' : Fin cfg0.N, win0_2.index t = win0_2.index t' → t = t' := fun t t' h => by
  have e := index2 t
  have e' := index2 t'
  rw [← h, e.1, e.2] at e'
  exact Fin.ext e'.2

theorem disjoint (t t' : Fin cfg0.N) (_ : (cfg0.win 2).flush t = true) (_ : (cfg0.win 2).flush t' = true) (hne : t ≠ t') :
    Disjoint ((cfg0.win 2).blk t).view.set ((cfg0.win 2).blk t').view.set :=
  (cfg0.win 2).disjoint_blk fun h => hne (idx_inj t t' h)

/-- What a point writes back is its output block. -/
theorem flushed (t : Fin cfg0.N) : (dats m 0 c).flushed 2 t = outsAt0 m c t := by
  show (cfg0.win 2).cut (cfg0.grid.coords t) ((dats m 0 c).after 2 t) = _
  rw [after0_2]
  rfl

/-- The result array at an entry of point `t`'s block. -/
theorem final_block (t : Fin cfg0.N) (r j : Fin 1024) :
    ((dats m 0 c).arrAt 2 cfg0.N : FVec Ideal S1024x11264 .f32) (ix2 r
        ⟨t.val * 1024 + j, by have := lt_N t; omega⟩)
      = (outsAt0 m c t : FVec Ideal S1024x1024 .f32) (ix2 r j) := by
  have hb := congrFun (((dats m 0 c).read_blk_arrAt_eq_flushed 2 disjoint cfg0.N t t.isLt (flush0_2 t)).trans
    (flushed m c t)) (ix2 r j)
  rw [View.read_apply] at hb
  refine Eq.trans ?_ hb
  refine congrArg ((dats m 0 c).arrAt 2 cfg0.N : FVec Ideal S1024x11264 .f32) (funext fun a => Fin.ext ?_)
  refine Eq.symm ((win0_2.rect_emb_val t _ a).trans ?_)
  have e := index2 t
  match a with
  | ⟨0, _⟩ => show win0_2.index t 0 * 1024 + r.val = r.val; rw [e.1]; omega
  | ⟨1, _⟩ => exact congrArg (· * 1024 + j.val) e.2

/-- The result array: the product of the activations with the weights. -/
theorem result_at (r : Fin 1024) (j : Fin 11264) :
    ((dats m 0 c).arrAt 2 cfg0.N : FVec Ideal S1024x11264 .f32) (ix2 r j) = ∑ k, x m c r k * w m c k j := by
  have hj := j.isLt
  let t : Fin cfg0.N := ⟨j.val / 1024, by show _ < 11; omega⟩
  have e := (final_block m c t r ⟨j.val % 1024, by omega⟩).trans (out_at m c t _ _)
  have ej : (⟨t.val * 1024 + (⟨j.val % 1024, by omega⟩ : Fin 1024), by have := lt_N t; dsimp only; omega⟩ : Fin 11264) = j :=
    Fin.ext (by show j.val / 1024 * 1024 + j.val % 1024 = j.val; omega)
  rw [ej] at e
  exact e

/-! ## The operations after the call -/

/-- What the operations after the call leave in buffer `b`. -/
abbrev tail (b : Ref sig .tc) : Buf (Elt Ideal) ((c : Thread nD τ).loc b) :=
  Pipeline.afterTail₀ cfgs (dats m) 0 (V0 m) [hostOps1] c b

/-- The convolution's tail is cut out of the result array. -/
theorem tail_conv : tail m c main_v4 = extractStridedSlice S128x2x5632 ![0, 6, 0]
    (shapeCast S128x8x11264 ((dats m 0 c).arrAt 2 cfg0.N : FVec Ideal S1024x11264 .f32) shapeCasts_S1024x11264_S128x8x11264)
    slices_S128x8x11264_S128x2x5632_0_6_0 := by
  have hw : Pipeline.withArrays spec0 c (V0 m c) (fun w => (dats m 0 c).arrAt w cfg0.N) (Proc.devRef .tc main_v2)
      = (dats m 0 c).arrAt 2 cfg0.N := Pipeline.withArrays_arr spec0 (by decide) c _ _ 2
  dsimp only [tail, Pipeline.afterTail₀]
  after_reads_simp
  rw [hw]
  rfl

/-- Its entries: every sequence's last two rows, in the first half of the columns. -/
theorem conv_at (q : Fin 128) (i : Fin 2) (j : Fin 5632) :
    (tail m c main_v4 : FVec Ideal S128x2x5632 .f32) (ix3 q i j)
      = ∑ k, x m c ⟨q * 8 + (6 + i), by omega⟩ k * w m c k ⟨j, by omega⟩ := by
  refine Eq.trans ?_ (result_at m c _ _)
  rw [tail_conv]
  refine (extractStridedSlice_apply _ _ _ _ (ix3 q ⟨6 + i, by omega⟩ ⟨j, by omega⟩) fun a => ?_).trans
    (Rows.split_at _ _ q (⟨6 + i, by omega⟩ : Fin 8) ⟨j, by omega⟩ _ rfl)
  match a with
  | ⟨0, _⟩ => exact (Nat.zero_add _).symm
  | ⟨1, _⟩ => rfl
  | ⟨2, _⟩ => exact (Nat.zero_add _).symm

/-- The run: both results, and the arguments unchanged. -/
theorem run : θ_run defs (onTc (τ := τ) (main (F := Ideal))) ⟨m, fun _ => 0, ρ⟩ fun r => ∀ c : Dev nD,
    r.2.mem ((c.tc : Thread nD τ).loc main_v2) = (dats m 0 c).arrAt 2 cfg0.N
    ∧ r.2.mem ((c.tc : Thread nD τ).loc main_v4) = tail m c main_v4
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1 2, (h c).2 main_v4 (Pipeline.mem_restRefs_of main_v4 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩)
    (run_main m ρ)

end Cert.FfnUpSampleIdeal.Points

end
-- ==== Proof.FfnUpSample.Claims.lean ====
/- The sample group's up projection against the reference's: the same results at every entry. -/
module

public import proofs.«01_k».proof.Defs
public import proofs.«01_k».proof.Proof.FfnUpSample.Value
public import proofs.«01_k».proof.Proof.Gen.FfnUpSampleReferenceIdeal.Run
public import Idealize.ShloMosaic.Lib.Quiescent

@[expose] public section

set_option maxRecDepth 16384

noncomputable section

open Idealize.ShloMosaic Idealize.ShloMosaic.TcCoe Idealize.SL.Sem

namespace Cert.FfnUpSampleReferenceIdeal.Term

open Cert.FfnUpSampleReferenceIdeal Cert.FfnUpSampleReferenceIdeal.Gen

variable (x : FVec Ideal S1024x2048 .f32) (w : FVec Ideal S1x2048x11264 .f32)

/-- The reference's product. -/
abbrev product : FVec Ideal S1024x11264 .f32 :=
  Host.dotGeneral dot_S1024x2048_S2048x11264_S1024x11264_1_0_0_1_n_n none x
    (shapeCast S2048x11264 w shapeCasts_S1x2048x11264_S2048x11264)

/-- The product at an entry. -/
theorem product_at (r : Fin 1024) (j : Fin 11264) : product x w (ix2 r j) = ∑ k, x (ix2 r k) * w (ix3 0 k j) := by
  pointwise

/-- The last two rows of a sequence's half with its state's two rows before it are the half's own last rows. -/
theorem last_rows (z : FVec Ideal S128x2x5632 .f32) (y : FVec Ideal S1024x11264 .f32) (q : Fin 128) (i : Fin 2) (j : Fin 5632) :
    (extractStridedSlice S128x2x5632 ![0, 8, 0] (concatenate S128x10x5632 1 [⟨S128x2x5632, z⟩,
        ⟨S128x8x5632, extractStridedSlice S128x8x5632 ![0, 0, 0] (shapeCast S128x8x11264 y shapeCasts_S1024x11264_S128x8x11264)
          slices_S128x8x11264_S128x8x5632_0_0_0⟩] concatenates_S128x2x5632_S128x8x5632_S128x10x5632_d1)
      slices_S128x10x5632_S128x2x5632_0_8_0 : FVec Ideal S128x2x5632 .f32) (ix3 q i j)
      = y (ix2 ⟨q * 8 + (6 + i), by omega⟩ ⟨j, by omega⟩) := by
  refine (extractStridedSlice_apply _ _ _ _ (ix3 q ⟨8 + i, by omega⟩ j : S128x10x5632.Idx) fun a => ?_).trans ?_
  · match a with
    | ⟨0, _⟩ => exact (Nat.zero_add _).symm
    | ⟨1, _⟩ => rfl
    | ⟨2, _⟩ => exact (Nat.zero_add _).symm
  refine (concatenate_pair_apply_right (t := S128x10x5632) (s₁ := S128x2x5632) (s₂ := S128x8x5632) 1 _ _ _ _ rfl rfl
    (ix3 q ⟨6 + i, by omega⟩ j : S128x8x5632.Idx) (fun b hb => ?_) ?_).trans ?_
  · match b with
    | ⟨0, _⟩ => rfl
    | ⟨1, _⟩ => exact absurd rfl hb
    | ⟨2, _⟩ => rfl
  · show 6 + i.val + 2 = 8 + i.val
    omega
  refine (extractStridedSlice_apply _ _ _ _ (ix3 q ⟨6 + i, by omega⟩ ⟨j, by omega⟩ : S128x8x11264.Idx) fun a => ?_).trans
    (Rows.split_at y _ q (⟨6 + i, by omega⟩ : Fin 8) ⟨j, by omega⟩ _ rfl)
  match a with
  | ⟨0, _⟩ => exact (Nat.zero_add _).symm
  | ⟨1, _⟩ => exact (Nat.zero_add _).symm
  | ⟨2, _⟩ => exact (Nat.zero_add _).symm

end Cert.FfnUpSampleReferenceIdeal.Term

namespace Cert.FfnUpSampleIdeal.Points

/-- The reference's frame, with no counter left. -/
theorem reference_quiescent : @Cert.quiescent_FfnUpSampleReferenceIdeal FfnUpSampleReferenceIdeal.Gen.facts := fun m ρ _ =>
  (θ_run _ _ _).mono (fun r h => ⟨fun c => (h c).2.2, sem_eq_zero_of_no_sems (by decide) r.2⟩) (FfnUpSampleReferenceIdeal.Value.run m ρ)

/-- The two programs compute the same results. -/
theorem algebraic : @Cert.algebraic_FfnUpSampleIdeal_FfnUpSampleReferenceIdeal FfnUpSampleIdeal.Gen.facts FfnUpSampleReferenceIdeal.Gen.facts := by
  intro m ρ m' ρ' _ hargs
  refine ⟨fun c => (FfnUpSampleIdeal.Gen.dats m 0 c).arrAt 2 FfnUpSampleIdeal.cfg0.N, fun c => tail m c FfnUpSampleIdeal.main_v4, run m ρ, ?_⟩
  refine (θ_run _ _ _).mono (fun r h c => ⟨(h c).1.trans ?_, (h c).2.1.trans ?_, (h c).2.2⟩) (FfnUpSampleReferenceIdeal.Value.run m' ρ')
  · obtain ⟨h0, h1, -⟩ := hargs c
    rw [h0, h1, shapeCast_shapeCast]
    funext i
    rw [show i = ix2 (i 0) (i 1) from funext fun k => by fin_cases k <;> rfl]
    exact (FfnUpSampleReferenceIdeal.Term.product_at _ _ _ _).trans (result_at m c _ _).symm
  · obtain ⟨h0, h1, -⟩ := hargs c
    rw [h0, h1]
    funext i
    rw [show i = ix3 (i 0) (i 1) (i 2) from funext fun k => by fin_cases k <;> rfl]
    exact (FfnUpSampleReferenceIdeal.Term.last_rows _ _ _ _ _).trans
      ((FfnUpSampleReferenceIdeal.Term.product_at _ _ _ _).trans (conv_at m c _ _ _).symm)

end Cert.FfnUpSampleIdeal.Points

end
-- ==== Proof.FfnDownSample.Scratch.lean ====
/-
  The sample group's down projection, its body at each grid point: at the first row block of a column block the weights' block is put into the
  scratch buffer, the other row blocks leave it there, and every point multiplies its row block by what the scratch holds.
-/
module

public import proofs.«01_k».proof.Proof.Gen.FfnDownSampleIdeal.Value
public import Idealize.ShloMosaic.Lib.Tactic

@[expose] public section

set_option maxRecDepth 16384

noncomputable section

namespace Cert.FfnDownSampleIdeal.Points

open Cert.FfnDownSampleIdeal Cert.FfnDownSampleIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The first row block stores the weights' block. -/
theorem scratch_first (c : Dev nD) (t : Fin cfg0.N) (h0 : t.val % 2 = 0) :
    (outsAt0 m c t.val t.isLt).2 = k0_pay1 (iblk m c 1 t) := by
  rw [outsAt0_A m c t h0]
  dsimp only
  unfold sout0_A_0
  rw [View.read_writes_eq_canon _ _ _ (scover0_A_0 c _ _ _ _ _ _ _ _ _ _ _ _ _ _ _ _ _ _)]
  unfold kernelRun0_A
  dsimp only
  sl_unfold_words
  rw [View.canon_unit_zero hz]
  simp only [View.readAt_eq_ld, (hs0_1 t).read_unread, View.ld_unit_zero (S := S5632x512) hz]

/-- The other row blocks leave the scratch as it was. -/
theorem scratch_next (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- Every point's output is computed from the scratch as that point leaves it. -/
theorem out_point (c : Dev nD) (t : Fin cfg0.N) :
    (outsAt0 m c t.val t.isLt).1
      = k0_pay2 (iblk m c 0 t) (outsAt0 m c t.val t.isLt).2 (iblk m c 2 t) (iblk m c 3 t) := by
  by_cases h0 : t.val % 2 = 0
  · rw [scratch_first m c t h0, outsAt0_A m c t h0]
    dsimp only
    unfold out0_A_4
    rw [View.read_writes_eq_canon _ _ _ (cover0_A_4 c _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x5632) hz, View.ld_unit_zero (S := S5632x512) hz, View.ld_unit_zero (S := S512x512) hz,
      View.ld_unit_zero (S := S64x512) hz, View.readCov_unit_zero (S := S5632x512) _ hz]
  · rw [scratch_next m c t h0, outsAt0_B m c t h0]
    dsimp only
    unfold out0_B_4
    rw [View.read_writes_eq_canon _ _ _ (cover0_B_4 c _ _ _ _ _ _ _ _ _ _ _ _ _ _ _ _ _ _ _)]
    unfold kernelRun0_B
    dsimp only
    sl_unfold_words
    rw [View.canon_unit_zero hz]
    simp only [View.readAt_eq_ld, (hs0_0 t).read_unread, (hs0_2 t).read_unread, (hs0_3 t).read_unread,
      (Memref.isWhole_whole _).read_unread, View.ld_unit_zero (S := S512x5632) hz, View.ld_unit_zero (S := S5632x512) hz,
      View.ld_unit_zero (S := S512x512) hz, View.ld_unit_zero (S := S64x512) hz]

end Cert.FfnDownSampleIdeal.Points

end
-- ==== Proof.FfnDownSample.Value.lean ====
/-
  The sample group's down projection: every entry is the residual plus the sequence's gate times the product's entry, the
  arguments' arrays read at that row and column.
-/
module

public import proofs.«01_k».proof.Proof.FfnDownSample.Scratch
public import proofs.«01_k».proof.Proof.Rows
public import Idealize.ShloMosaic.Lib.Pointwise
public import Idealize.ShloMosaic.Lib.Tactic.CleanTypes
public import Idealize.ShloMosaic.Lib.StableHlo.RunRead

@[expose] public section

set_option maxRecDepth 16384

noncomputable section

namespace Cert.FfnDownSampleIdeal.Points

open Cert.FfnDownSampleIdeal Cert.FfnDownSampleIdeal.Gen Idealize.ShloMosaic Idealize.ShloMosaic.TcCoe StableHlo

variable (m : (ℓ : Loc nD τ sig) → Buf (Elt Ideal) ℓ) (c : Dev nD)

/-- Argument array `b` of device `c`. -/
abbrev arg (b : Ref sig .tc) : Buf (Elt Ideal) ((c : Thread nD τ).loc b) := m ((c : Thread nD τ).loc b)

/-- The activations, the weights, the residual and the gate: the arguments' entries. -/
abbrev x (r : Fin 1024) (k : Fin 5632) : EReal := (arg m c main_arg0 : FVec Ideal S1024x5632 .f32) (ix2 r k)
abbrev w (k : Fin 5632) (j : Fin 2048) : EReal := (arg m c main_arg1 : FVec Ideal S1x5632x2048 .f32) (ix3 0 k j)
abbrev res (r : Fin 1024) (j : Fin 2048) : EReal := (arg m c main_arg2 : FVec Ideal S1024x2048 .f32) (ix2 r j)
abbrev gate (q : Fin 128) (j : Fin 2048) : EReal := (arg m c main_arg3 : FVec Ideal S128x12288 .f32) (ix2 q ⟨10240 + j, by omega⟩)

/-- The activations that the call reads are the argument's. -/
theorem host_x (r : Fin 1024) (k : Fin 5632) : (V m c main_v0 : FVec Ideal S1024x5632 .bf16) (ix2 r k)
    = x m c r k := by
  dsimp only [V]; after_reads_simp; clean_types; pointwise

/-- The weights that the call reads are the layer's. -/
theorem host_w (k : Fin 5632) (j : Fin 2048) : (V m c main_v1 : FVec Ideal S5632x2048 .f32) (ix2 k j)
    = w m c k j := by
  dsimp only [V]; after_reads_simp; clean_types; pointwise

theorem host_res : V m c main_arg2 = arg m c main_arg2 := V_main_arg2 m c

theorem host_gate : V m c main_arg3 = arg m c main_arg3 := V_main_arg3 m c

/-! ## The windows' blocks: point `t` is row block `t % 2` of column block `t / 2` -/

theorem index0 : ∀ t : Fin grid0.N, win0_0.index t 0 = t.val % 2 ∧ win0_0.index t 1 = 0 := by decide +kernel
theorem index1 : ∀ t : Fin grid0.N, win0_1.index t 0 = 0 ∧ win0_1.index t 1 = t.val / 2 := by decide +kernel
theorem index2 : ∀ t : Fin grid0.N, win0_2.index t 0 = t.val % 2 ∧ win0_2.index t 1 = t.val / 2 := by decide +kernel
theorem index3 : ∀ t : Fin grid0.N, win0_3.index t 0 = t.val % 2 ∧ win0_3.index t 1 = 20 + t.val / 2 := by decide +kernel
theorem index4 : ∀ t : Fin grid0.N, win0_4.index t 0 = t.val % 2 ∧ win0_4.index t 1 = t.val / 2 := by decide +kernel

theorem lt_N (t : Fin cfg0.N) : t.val < 8 := t.isLt

theorem block0 (t : Fin cfg0.N) (r : Fin 512) (k : Fin 5632) :
    (iblk m c 0 t : FVec Ideal S512x5632 .bf16) (ix2 r k)
      = x m c ⟨t.val % 2 * 512 + r, by omega⟩ k := by
  refine Eq.trans ?_ (host_x m c _ _)
  unfold iblk
  rw [View.read_apply]
  refine congrArg (V m c main_v0 : FVec Ideal S1024x5632 .bf16) (funext fun a => Fin.ext ?_)
  refine (win0_0.rect_emb_val t _ a).trans ?_
  have e := index0 t
  match a with
  | ⟨0, _⟩ => exact congrArg (· * 512 + r.val) e.1
  | ⟨1, _⟩ => show win0_0.index t 1 * 5632 + k.val = k.val; rw [e.2]; omega

theorem block1 (t : Fin cfg0.N) (k : Fin 5632) (j : Fin 512) :
    (iblk m c 1 t : FVec Ideal S5632x512 .f32) (ix2 k j)
      = w m c k ⟨t.val / 2 * 512 + j, by have := lt_N t; omega⟩ := by
  refine Eq.trans ?_ (host_w m c _ _)
  unfold iblk
  rw [View.read_apply]
  refine congrArg (V m c main_v1 : FVec Ideal S5632x2048 .f32) (funext fun a => Fin.ext ?_)
  refine (win0_1.rect_emb_val t _ a).trans ?_
  have e := index1 t
  match a with
  | ⟨0, _⟩ => show win0_1.index t 0 * 5632 + k.val = k.val; rw [e.1]; omega
  | ⟨1, _⟩ => exact congrArg (· * 512 + j.val) e.2

theorem block2 (t : Fin cfg0.N) (r j : Fin 512) :
    (iblk m c 2 t : FVec Ideal S512x512 .f32) (ix2 r j)
      = res m c ⟨t.val % 2 * 512 + r, by omega⟩
          ⟨t.val / 2 * 512 + j, by have := lt_N t; omega⟩ := by
  refine Eq.trans ?_ (congrFun (host_res m c) _)
  unfold iblk
  rw [View.read_apply]
  refine congrArg (V m c main_arg2 : FVec Ideal S1024x2048 .f32) (funext fun a => Fin.ext ?_)
  refine (win0_2.rect_emb_val t _ a).trans ?_
  have e := index2 t
  match a with
  | ⟨0, _⟩ => exact congrArg (· * 512 + r.val) e.1
  | ⟨1, _⟩ => exact congrArg (· * 512 + j.val) e.2

theorem block3 (t : Fin cfg0.N) (q : Fin 64) (j : Fin 512) :
    (iblk m c 3 t : FVec Ideal S64x512 .f32) (ix2 q j)
      = gate m c ⟨t.val % 2 * 64 + q, by omega⟩ ⟨t.val / 2 * 512 + j, by have := lt_N t; omega⟩ := by
  refine Eq.trans ?_ (congrFun (host_gate m c) _)
  unfold iblk
  rw [View.read_apply]
  refine congrArg (V m c main_arg3 : FVec Ideal S128x12288 .f32) (funext fun a => Fin.ext ?_)
  refine (win0_3.rect_emb_val t _ a).trans ?_
  have e := index3 t
  match a with
  | ⟨0, _⟩ => exact congrArg (· * 64 + q.val) e.1
  | ⟨1, _⟩ => show win0_3.index t 1 * 512 + j.val = 10240 + (t.val / 2 * 512 + j.val); rw [e.2]; omega

/-! ## What the points compute -/

/-- The stored block is the weights' block. -/
theorem pay1_at (x : FVec Ideal S5632x512 .f32) (k : Fin 5632) (j : Fin 512) :
    (k0_pay1 x : FVec Ideal S5632x512 .bf16) (ix2 k j) = x (ix2 k j) := by
  pointwise [k0_pay1]

/-- The gate's rows, each repeated for its sequence's eight tokens. -/
theorem expand_at (g : FVec Ideal S64x512 .f32) (r j : Fin 512) :
    (shapeCast S512x512 (broadcastTo S64x8x512 (shapeCast S64x1x512 (shapeCast S64x1x512 g shapeCasts_S64x512_S64x1x512)
      shapeCasts_S64x1x512_S64x1x512) broadcasts_S64x1x512_S64x8x512) shapeCasts_S64x8x512_S512x512 : FVec Ideal S512x512 .f32) (ix2 r j)
      = g (ix2 ⟨r / 8, by omega⟩ j) := by
  rw [shapeCast_self]
  refine (Rows.join_at _ _ (⟨r / 8, by omega⟩ : Fin 64) (⟨r % 8, by omega⟩ : Fin 8) j r (by dsimp only; omega)).trans ?_
  refine Eq.trans ?_ (Rows.split_at g shapeCasts_S64x512_S64x1x512 ⟨r / 8, by omega⟩ 0 j ⟨r / 8, by omega⟩ (Nat.mul_one _).symm)
  pointwise

/-- The block's product. -/
theorem product_at (x : FVec Ideal S512x5632 .bf16) (w : FVec Ideal S5632x512 .bf16) (r j : Fin 512) :
    (matmul dot_S512x5632_S5632x512_S512x512_1_0_0_1_n_n none (shapeCast S512x5632 x shapeCasts_S512x5632_S512x5632) w
      (constant S512x512 .f32 0x00000000#32) : FVec Ideal S512x512 .f32) (ix2 r j) = ∑ k, x (ix2 r k) * w (ix2 k j) := by
  pointwise

/-- The output block: the residual plus the sequence's gate times the product. -/
theorem pay2_at (x : FVec Ideal S512x5632 .bf16) (w : FVec Ideal S5632x512 .bf16) (y : FVec Ideal S512x512 .f32)
    (g : FVec Ideal S64x512 .f32) (r j : Fin 512) :
    (k0_pay2 x w y g : FVec Ideal S512x512 .f32) (ix2 r j)
      = y (ix2 r j) + g (ix2 ⟨r / 8, by omega⟩ j) * ∑ k, x (ix2 r k) * w (ix2 k j) :=
  congrArg₂ (fun a b : EReal => y (ix2 r j) + a * b) (expand_at g r j) (product_at x w r j)

/-- The scratch holds, after every point, the weights' columns of that point's column block. -/
theorem scratch_at (k : Fin 5632) (j : Fin 512) : ∀ (n : ℕ) (h : n < cfg0.N),
    ((outsAt0 m c n h).2 : FVec Ideal S5632x512 .bf16) (ix2 k j)
      = w m c k ⟨n / 2 * 512 + j, by have := lt_N ⟨n, h⟩; dsimp only at this; omega⟩ := by
  intro n
  induction n with
  | zero =>
    intro h
    rw [scratch_first m c ⟨0, h⟩ rfl]
    exact (pay1_at _ k j).trans (block1 m c ⟨0, h⟩ k j)
  | succ n ih =>
    intro h
    by_cases h0 : (n + 1) % 2 = 0
    · rw [scratch_first m c ⟨n + 1, h⟩ h0]
      exact (pay1_at _ k j).trans (block1 m c ⟨n + 1, h⟩ k j)
    · rw [scratch_next m c ⟨n + 1, h⟩ h0]
      refine (ih (Nat.lt_of_succ_lt h)).trans ?_
      refine congrArg (w m c k) (Fin.ext ?_)
      show n / 2 * 512 + j.val = (n + 1) / 2 * 512 + j.val
      omega

/-- Point `t`'s output block. -/
theorem out_at (t : Fin cfg0.N) (r j : Fin 512) :
    ((outsAt0 m c t.val t.isLt).1 : FVec Ideal S512x512 .f32) (ix2 r j)
      = res m c ⟨t.val % 2 * 512 + r, by omega⟩
          ⟨t.val / 2 * 512 + j, by have := lt_N t; omega⟩
        + gate m c ⟨t.val % 2 * 64 + r / 8, by omega⟩ ⟨t.val / 2 * 512 + j, by have := lt_N t; omega⟩
        * ∑ k, x m c ⟨t.val % 2 * 512 + r, by omega⟩ k
          * w m c k ⟨t.val / 2 * 512 + j, by have := lt_N t; omega⟩ := by
  rw [out_point m c t]
  refine (pay2_at _ _ _ _ r j).trans ?_
  rw [block2 m c t r j, block3 m c t _ j]
  congr 2
  exact Finset.sum_congr rfl fun k _ => congrArg₂ (· * ·) (block0 m c t r k) (scratch_at m c k j t.val t.isLt)

/-- The result array at an entry of point `t`'s block. -/
theorem final_block (t : Fin cfg0.N) (r j : Fin 512) :
    ((dats m 0 c).arrAt 4 cfg0.N : FVec Ideal S1024x2048 .f32) (ix2 ⟨t.val % 2 * 512 + r, by omega⟩
        ⟨t.val / 2 * 512 + j, by have := lt_N t; omega⟩)
      = ((outsAt0 m c t.val t.isLt).1 : FVec Ideal S512x512 .f32) (ix2 r j) := by
  have hb := congrFun ((Value.blocks4 m c t (flush0_4 t)).trans (Value.flushed4 m c t)) (ix2 r j)
  rw [View.read_apply] at hb
  refine Eq.trans ?_ hb
  refine congrArg ((dats m 0 c).arrAt 4 cfg0.N : FVec Ideal S1024x2048 .f32) (funext fun a => Fin.ext ?_)
  refine Eq.symm ((win0_4.rect_emb_val t _ a).trans ?_)
  have e := index4 t
  match a with
  | ⟨0, _⟩ => exact congrArg (· * 512 + r.val) e.1
  | ⟨1, _⟩ => exact congrArg (· * 512 + j.val) e.2

/-- The result array: the residual plus the gate times the product of the activations with the weights. -/
theorem result_at (r : Fin 1024) (j : Fin 2048) :
    ((dats m 0 c).arrAt 4 cfg0.N : FVec Ideal S1024x2048 .f32) (ix2 r j)
      = res m c r j
        + gate m c ⟨r / 8, by omega⟩ j
        * ∑ k, x m c r k
          * w m c k j := by
  have hr := r.isLt
  have hj := j.isLt
  let t : Fin cfg0.N := ⟨j.val / 512 * 2 + r.val / 512, by show _ < 8; omega⟩
  have e := (final_block m c t ⟨r.val % 512, by omega⟩ ⟨j.val % 512, by omega⟩).trans (out_at m c t _ _)
  have er : (⟨t.val % 2 * 512 + (⟨r.val % 512, by omega⟩ : Fin 512), by omega⟩ : Fin 1024) = r :=
    Fin.ext (by show (j.val / 512 * 2 + r.val / 512) % 2 * 512 + r.val % 512 = r.val; omega)
  have ej : (⟨t.val / 2 * 512 + (⟨j.val % 512, by omega⟩ : Fin 512), by have := lt_N t; dsimp only; omega⟩ : Fin 2048) = j :=
    Fin.ext (by show (j.val / 512 * 2 + r.val / 512) / 2 * 512 + j.val % 512 = j.val; omega)
  have eq : (⟨t.val % 2 * 64 + (⟨r.val % 512, by omega⟩ : Fin 512) / 8, by dsimp only; omega⟩ : Fin 128) = ⟨r.val / 8, by omega⟩ :=
    Fin.ext (by show (j.val / 512 * 2 + r.val / 512) % 2 * 64 + r.val % 512 / 8 = r.val / 8; omega)
  rw [er, ej, eq] at e
  exact e

end Cert.FfnDownSampleIdeal.Points

end
-- ==== Proof.FfnDownSample.Claims.lean ====
/- The sample group's down projection against the reference's: the same result at every entry. -/
module

public import proofs.«01_k».proof.Defs
public import proofs.«01_k».proof.Proof.FfnDownSample.Value
public import proofs.«01_k».proof.Proof.Gen.FfnDownSampleReferenceIdeal.Run
public import Idealize.ShloMosaic.Lib.Quiescent

@[expose] public section

set_option maxRecDepth 16384

noncomputable section

open Idealize.ShloMosaic Idealize.ShloMosaic.TcCoe Idealize.SL.Sem

namespace Cert.FfnDownSampleReferenceIdeal.Term

open Cert.FfnDownSampleReferenceIdeal Cert.FfnDownSampleReferenceIdeal.Gen

variable (x : FVec Ideal S1024x5632 .f32) (w : FVec Ideal S1x5632x2048 .f32) (y : FVec Ideal S1024x2048 .f32)
  (g : FVec Ideal S128x12288 .f32)

/-- The product at an entry. -/
theorem product_at (r : Fin 1024) (j : Fin 2048) :
    (Host.dotGeneral dot_S1024x5632_S5632x2048_S1024x2048_1_0_0_1_n_n none x
      (shapeCast S5632x2048 w shapeCasts_S1x5632x2048_S5632x2048) : FVec Ideal S1024x2048 .f32) (ix2 r j)
      = ∑ k, x (ix2 r k) * w (ix3 0 k j) := by
  pointwise

/-- A sequence's gate, at each of its tokens. -/
theorem gate_at (q : Fin 128) (s : Fin 8) (j : Fin 2048) :
    (broadcastInDim S128x8x2048 ![0, 1, 2] bcast_S128x1x2048_S128x8x2048_0_1_2
      (broadcastInDim S128x1x2048 ![0, 2] bcast_S128x2048_S128x1x2048_0_2
        (extractStridedSlice S128x2048 ![0, 10240] g slices_S128x12288_S128x2048_0_10240)) : FVec Ideal S128x8x2048 .f32) (ix3 q s j)
      = g (ix2 q ⟨10240 + j, by omega⟩) := by
  pointwise

/-- The reference's term at an entry. -/
theorem at_entry (r : Fin 1024) (j : Fin 2048) :
    (shapeCast S1024x2048 (addf (shapeCast S128x8x2048 y shapeCasts_S1024x2048_S128x8x2048)
      (mulf (broadcastInDim S128x8x2048 ![0, 1, 2] bcast_S128x1x2048_S128x8x2048_0_1_2
          (broadcastInDim S128x1x2048 ![0, 2] bcast_S128x2048_S128x1x2048_0_2
            (extractStridedSlice S128x2048 ![0, 10240] g slices_S128x12288_S128x2048_0_10240)))
        (shapeCast S128x8x2048 (Host.dotGeneral dot_S1024x5632_S5632x2048_S1024x2048_1_0_0_1_n_n none x
          (shapeCast S5632x2048 w shapeCasts_S1x5632x2048_S5632x2048)) shapeCasts_S1024x2048_S128x8x2048)))
      shapeCasts_S128x8x2048_S1024x2048 : FVec Ideal S1024x2048 .f32) (ix2 r j)
      = y (ix2 r j) + g (ix2 ⟨r / 8, by omega⟩ ⟨10240 + j, by omega⟩) * ∑ k, x (ix2 r k) * w (ix3 0 k j) := by
  have hr : r.val = (⟨r / 8, by omega⟩ : Fin 128).val * 8 + (⟨r % 8, by omega⟩ : Fin 8).val := by dsimp only; omega
  refine (Rows.join_at _ _ (⟨r / 8, by omega⟩ : Fin 128) (⟨r % 8, by omega⟩ : Fin 8) j r hr).trans ?_
  exact congrArg₂ (fun a b : EReal => a + b) (Rows.split_at y _ _ _ j r hr)
    (congrArg₂ (fun a b : EReal => a * b) (gate_at g _ _ j) ((Rows.split_at _ _ _ _ j r hr).trans (product_at x w r j)))

end Cert.FfnDownSampleReferenceIdeal.Term

namespace Cert.FfnDownSampleIdeal.Points

/-- The reference's frame, with no counter left. -/
theorem reference_quiescent : @Cert.quiescent_FfnDownSampleReferenceIdeal FfnDownSampleReferenceIdeal.Gen.facts := fun m ρ _ =>
  (θ_run _ _ _).mono (fun r h => ⟨fun c => (h c).2, sem_eq_zero_of_no_sems (by decide) r.2⟩) (FfnDownSampleReferenceIdeal.Value.run m ρ)

/-- The two programs compute the same result. -/
theorem algebraic : @Cert.algebraic_FfnDownSampleIdeal_FfnDownSampleReferenceIdeal FfnDownSampleIdeal.Gen.facts FfnDownSampleReferenceIdeal.Gen.facts := by
  intro m ρ m' ρ' _ hargs
  refine ⟨fun c => (FfnDownSampleIdeal.Gen.dats m 0 c).arrAt 4 FfnDownSampleIdeal.cfg0.N, FfnDownSampleIdeal.Value.run_blocks m ρ, ?_⟩
  refine (θ_run _ _ _).mono (fun r h c => ⟨(h c).1.trans ?_, (h c).2⟩) (FfnDownSampleReferenceIdeal.Value.run m' ρ')
  obtain ⟨h0, h1, h2, h3⟩ := hargs c
  rw [h0, h1, h2, h3]
  funext i
  rw [show i = ix2 (i 0) (i 1) from funext fun k => by fin_cases k <;> rfl]
  exact (FfnDownSampleReferenceIdeal.Term.at_entry _ _ _ _ _ _).trans (result_at m c _ _).symm

end Cert.FfnDownSampleIdeal.Points

end
-- ==== Proof.lean ====
/- The certificate: the frames of every call's three programs, and the equality of its kernel's results with its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpReferenceIdeal
public import proofs.«01_k».proof.Proof.Gen.FfnUpReferenceIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.HeadNorm
public import proofs.«01_k».proof.Proof.Gen.HeadNorm.Skeleton
public import proofs.«01_k».proof.Proof.Gen.HeadNorm.Launch
public import proofs.«01_k».proof.Proof.Gen.HeadNorm.Points
public import proofs.«01_k».proof.Proof.Gen.HeadNorm.Frame
public import proofs.«01_k».proof.Proof.Gen.HeadNormIdeal
public import proofs.«01_k».proof.Proof.Gen.HeadNormIdeal.Skeleton
public import proofs.«01_k».proof.Proof.Gen.HeadNormIdeal.Launch
public import proofs.«01_k».proof.Proof.Gen.HeadNormIdeal.Points
public import proofs.«01_k».proof.Proof.Gen.HeadNormIdeal.Frame
public import proofs.«01_k».proof.Proof.Gen.HeadNormIdeal.Value
public import proofs.«01_k».proof.Proof.Gen.HeadNormReferenceIdeal
public import proofs.«01_k».proof.Proof.Gen.HeadNormReferenceIdeal.Run
public import proofs.«01_k».proof.Proof.Gen.HeadNormSample
public import proofs.«01_k».proof.Proof.Gen.HeadNormSample.Skeleton
public import proofs.«01_k».proof.Proof.Gen.HeadNormSample.Launch
public import proofs.«01_k».proof.Proof.Gen.HeadNormSample.Points
public import proofs.«01_k».proof.Proof.Gen.HeadNormSample.Frame
public import proofs.«01_k».proof.Proof.Gen.HeadNormSampleIdeal
public import proofs.«01_k».proof.Proof.Gen.HeadNormSampleIdeal.Skeleton
public import proofs.«01_k».proof.Proof.Gen.HeadNormSampleIdeal.Launch
public import proofs.«01_k».proof.Proof.Gen.HeadNormSampleIdeal.Points
public import proofs.«01_k».proof.Proof.Gen.HeadNormSampleIdeal.Frame
public import proofs.«01_k».proof.Proof.Gen.HeadNormSampleIdeal.Value
public import proofs.«01_k».proof.Proof.Gen.HeadNormSampleReferenceIdeal
public import proofs.«01_k».proof.Proof.Gen.HeadNormSampleReferenceIdeal.Run
public import proofs.«01_k».proof.Proof.Gen.InProjSample
public import proofs.«01_k».proof.Proof.Gen.InProjSample.Skeleton
public import proofs.«01_k».proof.Proof.Gen.InProjSample.Launch
public import proofs.«01_k».proof.Proof.Gen.InProjSample.Points
public import proofs.«01_k».proof.Proof.Gen.InProjSample.Frame
public import proofs.«01_k».proof.Proof.Gen.InProjSampleIdeal
public import proofs.«01_k».proof.Proof.Gen.InProjSampleIdeal.Skeleton
public import proofs.«01_k».proof.Proof.Gen.InProjSampleIdeal.Launch
public import proofs.«01_k».proof.Proof.Gen.InProjSampleIdeal.Points
public import proofs.«01_k».proof.Proof.Gen.InProjSampleIdeal.Frame
public import proofs.«01_k».proof.Proof.Gen.InProjSampleReferenceIdeal
public import proofs.«01_k».proof.Proof.Gen.InProjSampleReferenceIdeal.Run
public import proofs.«01_k».proof.Proof.Gen.FfnUpSample
public import proofs.«01_k».proof.Proof.Gen.FfnUpSample.Skeleton
public import proofs.«01_k».proof.Proof.Gen.FfnUpSample.Launch
public import proofs.«01_k».proof.Proof.Gen.FfnUpSample.Points
public import proofs.«01_k».proof.Proof.Gen.FfnUpSample.Frame
public import proofs.«01_k».proof.Proof.Gen.FfnUpSampleIdeal
public import proofs.«01_k».proof.Proof.Gen.FfnUpSampleIdeal.Skeleton
public import proofs.«01_k».proof.Proof.Gen.FfnUpSampleIdeal.Launch
public import proofs.«01_k».proof.Proof.Gen.FfnUpSampleIdeal.Points
public import proofs.«01_k».proof.Proof.Gen.FfnUpSampleIdeal.Frame
public import proofs.«01_k».proof.Proof.Gen.FfnUpSampleReferenceIdeal
public import proofs.«01_k».proof.Proof.Gen.FfnUpSampleReferenceIdeal.Run
public import proofs.«01_k».proof.Proof.Gen.FfnDownSample
public import proofs.«01_k».proof.Proof.Gen.FfnDownSample.Skeleton
public import proofs.«01_k».proof.Proof.Gen.FfnDownSample.Launch
public import proofs.«01_k».proof.Proof.Gen.FfnDownSample.Points
public import proofs.«01_k».proof.Proof.Gen.FfnDownSample.Frame
public import proofs.«01_k».proof.Proof.Gen.FfnDownSampleIdeal
public import proofs.«01_k».proof.Proof.Gen.FfnDownSampleIdeal.Skeleton
public import proofs.«01_k».proof.Proof.Gen.FfnDownSampleIdeal.Launch
public import proofs.«01_k».proof.Proof.Gen.FfnDownSampleIdeal.Points
public import proofs.«01_k».proof.Proof.Gen.FfnDownSampleIdeal.Frame
public import proofs.«01_k».proof.Proof.Gen.FfnDownSampleIdeal.Value
public import proofs.«01_k».proof.Proof.Gen.FfnDownSampleReferenceIdeal
public import proofs.«01_k».proof.Proof.Gen.FfnDownSampleReferenceIdeal.Run
public import proofs.«01_k».proof.Proof.Gen.ScanPrompt
public import proofs.«01_k».proof.Proof.Gen.ScanPrompt.Skeleton
public import proofs.«01_k».proof.Proof.Gen.ScanPrompt.Launch
public import proofs.«01_k».proof.Proof.Gen.ScanPrompt.Points
public import proofs.«01_k».proof.Proof.Gen.ScanPrompt.Frame
public import proofs.«01_k».proof.Proof.Gen.ScanPromptIdeal
public import proofs.«01_k».proof.Proof.Gen.ScanPromptIdeal.Skeleton
public import proofs.«01_k».proof.Proof.Gen.ScanPromptIdeal.Launch
public import proofs.«01_k».proof.Proof.Gen.ScanPromptIdeal.Points
public import proofs.«01_k».proof.Proof.Gen.ScanPromptIdeal.Frame
public import proofs.«01_k».proof.Proof.Gen.ScanPromptReferenceIdeal
public import proofs.«01_k».proof.Proof.Gen.ScanPromptReferenceIdeal.Run
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Finite
public import proofs.«01_k».proof.Proof.KernelValue
public import proofs.«01_k».proof.Proof.RefValue
public import proofs.«01_k».proof.Proof.ScanPrompt.Claims
public import proofs.«01_k».proof.Proof.InProj.Claims
public import proofs.«01_k».proof.Proof.FfnUp.Claims
public import proofs.«01_k».proof.Proof.FfnDown.Claims
public import proofs.«01_k».proof.Proof.Mix.Claims
public import proofs.«01_k».proof.Proof.OutProj.Claims
public import proofs.«01_k».proof.Proof.HeadNorm.Claims
public import proofs.«01_k».proof.Proof.HeadNormSample.Claims
public import proofs.«01_k».proof.Proof.InProjSample.Claims
public import proofs.«01_k».proof.Proof.FfnUpSample.Claims
public import proofs.«01_k».proof.Proof.FfnDownSample.Claims

@[expose] public section

set_option maxRecDepth 16384

noncomputable section

namespace Cert.Proof

open Idealize.ShloMosaic Idealize.ShloMosaic.TcCoe Idealize.SL.Sem

/-- Two arrays of 4096 heads that agree at every sequence and head are equal. -/
theorem ext_heads {α : Type} {a b : ℕ} (f g : (⟨3, ![4096, a, b]⟩ : Shape).Idx → α)
    (h : ∀ (q : Fin 128) (x : Fin 32) (s : Fin a) (n : Fin b),
      f (ix3 ⟨q * 32 + x, by omega⟩ s n) = g (ix3 ⟨q * 32 + x, by omega⟩ s n)) : f = g := by
  funext i
  have hi : (i 0).val < 4096 := (i 0).isLt
  have e : i = ix3 ⟨(⟨(i 0).val / 32, by omega⟩ : Fin 128) * 32 + (⟨(i 0).val % 32, by omega⟩ : Fin 32), by
      show (i 0).val / 32 * 32 + (i 0).val % 32 < 4096; omega⟩ (i 1) (i 2) := by
    funext k
    match k with
    | ⟨0, _⟩ => exact Fin.ext (by show (i 0).val = (i 0).val / 32 * 32 + (i 0).val % 32; omega)
    | ⟨1, _⟩ => rfl
    | ⟨2, _⟩ => rfl
  rw [e]
  exact h _ _ _ _

/-- The reference's frame: it runs, leaves its arguments as they were, and has no counter. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      fun r => (∀ (c : Dev ReferenceIdeal.nD), ∀ b ∈ ReferenceIdeal.Loop.argRefs,
        r.2.mem ((c.tc : Thread ReferenceIdeal.nD ReferenceIdeal.τ).loc b) = m ((c.tc : Thread ReferenceIdeal.nD ReferenceIdeal.τ).loc b))
        ∧ r.2.sem = fun _ => 0 :=
  (θ_run _ _ _).mono (fun r h => ⟨fun c b hb => (h c b (by revert b; decide)).trans (ReferenceIdeal.Loop.final_arg b hb),
    sem_eq_zero_of_no_sems (by decide) r.2⟩) (ReferenceIdeal.Value.run_fold m ρ)

theorem reference_quiescent : @Cert.quiescent_ReferenceIdeal ReferenceIdeal.Gen.facts := fun m ρ _ =>
  (θ_run _ _ _).mono (fun r h => ⟨fun c => ⟨h.1 c _ (by decide), h.1 c _ (by decide), h.1 c _ (by decide), h.1 c _ (by decide),
    h.1 c _ (by decide), h.1 c _ (by decide), h.1 c _ (by decide), h.1 c _ (by decide), h.1 c _ (by decide), h.1 c _ (by decide),
    h.1 c _ (by decide), h.1 c _ (by decide)⟩, h.2⟩) (reference_frame m ρ)

/-- The two programs compute the same outputs and the same states. -/
theorem algebraic : @Cert.algebraic_KernelIdeal_ReferenceIdeal_pre_finite_inputs KernelIdeal.Gen.facts ReferenceIdeal.Gen.facts Finite.facts := by
  intro m ρ m' ρ' hpre hargs
  let D (c : Dev KernelIdeal.nD) : Data := Finite.dataOf (KernelIdeal.Layout.arg m c KernelIdeal.main_arg0)
    (KernelIdeal.Layout.arg m c KernelIdeal.main_arg1) (KernelIdeal.Layout.arg m c KernelIdeal.main_arg2)
    (KernelIdeal.Layout.arg m c KernelIdeal.main_arg3) (KernelIdeal.Layout.arg m c KernelIdeal.main_arg4)
    (KernelIdeal.Layout.arg m c KernelIdeal.main_arg6) (KernelIdeal.Layout.arg m c KernelIdeal.main_arg7)
    (KernelIdeal.Layout.arg m c KernelIdeal.main_arg8)
  have A : ∀ c, KernelIdeal.Layout.HeldArgs m c (D c) := fun c =>
    letI := Finite.facts
    Finite.held _ _ _ _ _ _ _ _ _ _ _ _ (hpre c)
  have B : ∀ c, ReferenceIdeal.Loop.HoldsArgs m' c (D c) := fun c => by
    obtain ⟨h0, h1, h2, h3, h4, -, h6, h7, h8, -⟩ := hargs c
    exact ⟨fun i j => (congrFun h0 _).trans ((A c).r i j), fun i j => (congrFun h1 _).trans ((A c).w i j),
      fun i j => (congrFun h2 _).trans ((A c).k i j), fun i j => (congrFun h3 _).trans ((A c).v i j),
      fun i j => (congrFun h4 _).trans ((A c).a i j), fun q h x n => (congrFun h6 _).trans ((A c).s0 q h x n),
      fun j => (congrFun h7 _).trans ((A c).kk j), fun j => (congrFun h8 _).trans ((A c).ka j)⟩
  refine ⟨fun c => (KernelIdeal.Gen.dats m 0 c).arrAt 12 KernelIdeal.cfg0.N, fun c => (KernelIdeal.Gen.dats m 0 c).arrAt 13 KernelIdeal.cfg0.N,
    KernelIdeal.Value.run_blocks m ρ, ?_⟩
  refine (θ_run _ _ _).mono (fun r h c => ?_) (ReferenceIdeal.Value.run_fold m' ρ')
  have hk : ∀ b ∈ ReferenceIdeal.Loop.argRefs, r.2.mem ((c.tc : Thread ReferenceIdeal.nD ReferenceIdeal.τ).loc b)
      = m' ((c.tc : Thread ReferenceIdeal.nD ReferenceIdeal.τ).loc b) := fun b hb =>
    (h c b (by revert b; decide)).trans (ReferenceIdeal.Loop.final_arg b hb)
  refine ⟨(h c _ (by decide)).trans ?_, (h c _ (by decide)).trans ?_, hk _ (by decide), hk _ (by decide), hk _ (by decide), hk _ (by decide),
    hk _ (by decide), hk _ (by decide), hk _ (by decide), hk _ (by decide), hk _ (by decide), hk _ (by decide), hk _ (by decide), hk _ (by decide)⟩
  · obtain ⟨-, -, -, -, -, h5, -, -, -, h9, h10, h11⟩ := hargs c
    refine ext_heads _ _ fun q g s n => (ReferenceIdeal.Loop.final_token (B c) q g s n).trans
      (Eq.trans ?_ (KernelIdeal.Layout.kernel_token (A c) q g s n).symm)
    exact finish_congr _ _ _ _ (fun x => congrFun h9 _) (congrFun h10 _) (congrFun h11 _) (congrFun h5 _) n
  · exact ext_heads _ _ fun q g x n => (ReferenceIdeal.Loop.final_state (B c) q g x n).trans
      (KernelIdeal.Layout.kernel_state (A c) q g x n).symm

/-- All the claims. -/
theorem claim : Cert.Claim :=
  ⟨Kernel.Gen.facts, KernelIdeal.Gen.facts, ReferenceIdeal.Gen.facts,
    InProj.Gen.facts, InProjIdeal.Gen.facts, InProjReferenceIdeal.Gen.facts,
    FfnUp.Gen.facts, FfnUpIdeal.Gen.facts, FfnUpReferenceIdeal.Gen.facts,
    FfnDown.Gen.facts, FfnDownIdeal.Gen.facts, FfnDownReferenceIdeal.Gen.facts,
    Mix.Gen.facts, MixIdeal.Gen.facts, MixReferenceIdeal.Gen.facts,
    OutProj.Gen.facts, OutProjIdeal.Gen.facts, OutProjReferenceIdeal.Gen.facts,
    HeadNorm.Gen.facts, HeadNormIdeal.Gen.facts, HeadNormReferenceIdeal.Gen.facts,
    HeadNormSample.Gen.facts, HeadNormSampleIdeal.Gen.facts, HeadNormSampleReferenceIdeal.Gen.facts,
    InProjSample.Gen.facts, InProjSampleIdeal.Gen.facts, InProjSampleReferenceIdeal.Gen.facts,
    FfnUpSample.Gen.facts, FfnUpSampleIdeal.Gen.facts, FfnUpSampleReferenceIdeal.Gen.facts,
    FfnDownSample.Gen.facts, FfnDownSampleIdeal.Gen.facts, FfnDownSampleReferenceIdeal.Gen.facts,
    ScanPrompt.Gen.facts, ScanPromptIdeal.Gen.facts, ScanPromptReferenceIdeal.Gen.facts,
    Finite.facts, FinitePrompt.facts,
    fun m ρ _ => Kernel.Gen.frame m ρ, fun m ρ _ => KernelIdeal.Gen.frame m ρ, fun m ρ _ => KernelIdeal.Gen.frame m ρ,
    reference_quiescent, fun m ρ _ => reference_quiescent m ρ trivial,
    fun m ρ _ => InProj.Gen.frame m ρ, fun m ρ _ => InProjIdeal.Gen.frame m ρ, InProjIdeal.Points.reference_quiescent,
    fun m ρ _ => FfnUp.Gen.frame m ρ, fun m ρ _ => FfnUpIdeal.Gen.frame m ρ, FfnUpIdeal.Points.reference_quiescent,
    fun m ρ _ => FfnDown.Gen.frame m ρ, fun m ρ _ => FfnDownIdeal.Gen.frame m ρ, FfnDownIdeal.Points.reference_quiescent,
    fun m ρ _ => Mix.Gen.frame m ρ, fun m ρ _ => MixIdeal.Gen.frame m ρ, MixIdeal.Points.reference_quiescent,
    fun m ρ _ => OutProj.Gen.frame m ρ, fun m ρ _ => OutProjIdeal.Gen.frame m ρ, OutProjIdeal.Points.reference_quiescent,
    fun m ρ _ => HeadNorm.Gen.frame m ρ, fun m ρ _ => HeadNormIdeal.Gen.frame m ρ, HeadNormIdeal.Points.reference_quiescent,
    fun m ρ _ => HeadNormSample.Gen.frame m ρ, fun m ρ _ => HeadNormSampleIdeal.Gen.frame m ρ, HeadNormSampleIdeal.Points.reference_quiescent,
    fun m ρ _ => InProjSample.Gen.frame m ρ, fun m ρ _ => InProjSampleIdeal.Gen.frame m ρ, InProjSampleIdeal.Points.reference_quiescent,
    fun m ρ _ => FfnUpSample.Gen.frame m ρ, fun m ρ _ => FfnUpSampleIdeal.Gen.frame m ρ, FfnUpSampleIdeal.Points.reference_quiescent,
    fun m ρ _ => FfnDownSample.Gen.frame m ρ, fun m ρ _ => FfnDownSampleIdeal.Gen.frame m ρ, FfnDownSampleIdeal.Points.reference_quiescent,
    fun m ρ _ => ScanPrompt.Gen.frame m ρ, fun m ρ _ => ScanPromptIdeal.Gen.frame m ρ, fun m ρ _ => ScanPromptIdeal.Gen.frame m ρ,
    ScanPromptIdeal.Points.reference_quiescent, fun m ρ _ => ScanPromptIdeal.Points.reference_quiescent m ρ trivial,
    trivial, algebraic,
    trivial, InProjIdeal.Points.algebraic,
    trivial, FfnUpIdeal.Points.algebraic,
    trivial, FfnDownIdeal.Points.algebraic,
    trivial, MixIdeal.Points.algebraic,
    trivial, OutProjIdeal.Points.algebraic,
    trivial, HeadNormIdeal.Points.algebraic,
    trivial, HeadNormSampleIdeal.Points.algebraic,
    trivial, InProjSampleIdeal.Points.algebraic,
    trivial, FfnUpSampleIdeal.Points.algebraic,
    trivial, FfnDownSampleIdeal.Points.algebraic,
    trivial, ScanPromptIdeal.Points.algebraic⟩

end Cert.Proof

end
